-- ==== Defs.lean ====
def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_InBwdFirst (m : (ℓ : Loc Cert.InBwdFirst.nD Cert.InBwdFirst.τ Cert.InBwdFirst.sig) → Buf (Elt Bits) ℓ) : Prop :=
  True

def Pre_InBwdFirstIdeal (m : (ℓ : Loc Cert.InBwdFirstIdeal.nD Cert.InBwdFirstIdeal.τ Cert.InBwdFirstIdeal.sig) → Buf (Elt Ideal) ℓ) : Prop :=
  True

def Pre_InBwdFirstRefIdeal (m : (ℓ : Loc Cert.InBwdFirstRefIdeal.nD Cert.InBwdFirstRefIdeal.τ Cert.InBwdFirstRefIdeal.sig) → Buf (Elt Ideal) ℓ) : Prop :=
  True

def Pre_InBwdSecond (m : (ℓ : Loc Cert.InBwdSecond.nD Cert.InBwdSecond.τ Cert.InBwdSecond.sig) → Buf (Elt Bits) ℓ) : Prop :=
  True

def Pre_InBwdSecondIdeal (m : (ℓ : Loc Cert.InBwdSecondIdeal.nD Cert.InBwdSecondIdeal.τ Cert.InBwdSecondIdeal.sig) → Buf (Elt Ideal) ℓ) : Prop :=
  True

def Pre_InBwdSecondRefIdeal (m : (ℓ : Loc Cert.InBwdSecondRefIdeal.nD Cert.InBwdSecondRefIdeal.τ Cert.InBwdSecondRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdRefIdeal (m : (ℓ : Loc Cert.SguBwdRefIdeal.nD Cert.SguBwdRefIdeal.τ Cert.SguBwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1)
      ∧ r.2.mem ((c.tc : Thread Cert.GradWIn.nD Cert.GradWIn.τ).loc Cert.GradWIn.main_arg2) = m ((c.tc : Thread Cert.GradWIn.nD Cert.GradWIn.τ).loc Cert.GradWIn.main_arg2))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
      ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1)
      ∧ r.2.mem ((c.tc : Thread Cert.GradWInRefIdeal.nD Cert.GradWInRefIdeal.τ).loc Cert.GradWInRefIdeal.main_arg2) = m ((c.tc : Thread Cert.GradWInRefIdeal.nD Cert.GradWInRefIdeal.τ).loc Cert.GradWInRefIdeal.main_arg2))
      ∧ r.2.sem = fun _ => 0)

def quiescent_InBwdFirst [hInBwdFirst : Cert.InBwdFirst.Facts] : Prop :=
  ∀ (m : (ℓ : Loc Cert.InBwdFirst.nD Cert.InBwdFirst.τ Cert.InBwdFirst.sig) → Buf (Elt Bits) ℓ) (g : Dev Cert.InBwdFirst.nD → PrngReg), Pre_InBwdFirst m →
    θ_run (Cert.InBwdFirst.defs (F := Bits)) (onTc (τ := Cert.InBwdFirst.τ) (Cert.InBwdFirst.main (F := Bits))) ⟨m, fun _ => 0, g⟩ (fun r => (∀ c : Dev Cert.InBwdFirst.nD,
      r.2.mem ((c.tc : Thread Cert.InBwdFirst.nD Cert.InBwdFirst.τ).loc Cert.InBwdFirst.main_arg0) = m ((c.tc : Thread Cert.InBwdFirst.nD Cert.InBwdFirst.τ).loc Cert.InBwdFirst.main_arg0)
      ∧ r.2.mem ((c.tc : Thread Cert.InBwdFirst.nD Cert.InBwdFirst.τ).loc Cert.InBwdFirst.main_arg1) = m ((c.tc : Thread Cert.InBwdFirst.nD Cert.InBwdFirst.τ).loc Cert.InBwdFirst.main_arg1)
      ∧ r.2.mem ((c.tc : Thread Cert.InBwdFirst.nD Cert.InBwdFirst.τ).loc Cert.InBwdFirst.main_arg2) = m ((c.tc : Thread Cert.InBwdFirst.nD Cert.InBwdFirst.τ).loc Cert.InBwdFirst.main_arg2)
      ∧ r.2.mem ((c.tc : Thread Cert.InBwdFirst.nD Cert.InBwdFirst.τ).loc Cert.InBwdFirst.main_arg3) = m ((c.tc : Thread Cert.InBwdFirst.nD Cert.InBwdFirst.τ).loc Cert.InBwdFirst.main_arg3)
      ∧ r.2.mem ((c.tc : Thread Cert.InBwdFirst.nD Cert.InBwdFirst.τ).loc Cert.InBwdFirst.main_arg4) = m ((c.tc : Thread Cert.InBwdFirst.nD Cert.InBwdFirst.τ).loc Cert.InBwdFirst.main_arg4)
      ∧ r.2.mem ((c.tc : Thread Cert.InBwdFirst.nD Cert.InBwdFirst.τ).loc Cert.InBwdFirst.main_arg5) = m ((c.tc : Thread Cert.InBwdFirst.nD Cert.InBwdFirst.τ).loc Cert.InBwdFirst.main_arg5))
      ∧ r.2.sem = fun _ => 0)

def quiescent_InBwdFirstIdeal [hInBwdFirstIdeal : Cert.InBwdFirstIdeal.Facts] : Prop :=
  ∀ (m : (ℓ : Loc Cert.InBwdFirstIdeal.nD Cert.InBwdFirstIdeal.τ Cert.InBwdFirstIdeal.sig) → Buf (Elt Ideal) ℓ) (g : Dev Cert.InBwdFirstIdeal.nD → PrngReg), Pre_InBwdFirstIdeal m →
    θ_run (Cert.InBwdFirstIdeal.defs (F := Ideal)) (onTc (τ := Cert.InBwdFirstIdeal.τ) (Cert.InBwdFirstIdeal.main (F := Ideal))) ⟨m, fun _ => 0, g⟩ (fun r => (∀ c : Dev Cert.InBwdFirstIdeal.nD,
      r.2.mem ((c.tc : Thread Cert.InBwdFirstIdeal.nD Cert.InBwdFirstIdeal.τ).loc Cert.InBwdFirstIdeal.main_arg0) = m ((c.tc : Thread Cert.InBwdFirstIdeal.nD Cert.InBwdFirstIdeal.τ).loc Cert.InBwdFirstIdeal.main_arg0)
      ∧ r.2.mem ((c.tc : Thread Cert.InBwdFirstIdeal.nD Cert.InBwdFirstIdeal.τ).loc Cert.InBwdFirstIdeal.main_arg1) = m ((c.tc : Thread Cert.InBwdFirstIdeal.nD Cert.InBwdFirstIdeal.τ).loc Cert.InBwdFirstIdeal.main_arg1)
      ∧ r.2.mem ((c.tc : Thread Cert.InBwdFirstIdeal.nD Cert.InBwdFirstIdeal.τ).loc Cert.InBwdFirstIdeal.main_arg2) = m ((c.tc : Thread Cert.InBwdFirstIdeal.nD Cert.InBwdFirstIdeal.τ).loc Cert.InBwdFirstIdeal.main_arg2)
      ∧ r.2.mem ((c.tc : Thread Cert.InBwdFirstIdeal.nD Cert.InBwdFirstIdeal.τ).loc Cert.InBwdFirstIdeal.main_arg3) = m ((c.tc : Thread Cert.InBwdFirstIdeal.nD Cert.InBwdFirstIdeal.τ).loc Cert.InBwdFirstIdeal.main_arg3)
      ∧ r.2.mem ((c.tc : Thread Cert.InBwdFirstIdeal.nD Cert.InBwdFirstIdeal.τ).loc Cert.InBwdFirstIdeal.main_arg4) = m ((c.tc : Thread Cert.InBwdFirstIdeal.nD Cert.InBwdFirstIdeal.τ).loc Cert.InBwdFirstIdeal.main_arg4)
      ∧ r.2.mem ((c.tc : Thread Cert.InBwdFirstIdeal.nD Cert.InBwdFirstIdeal.τ).loc Cert.InBwdFirstIdeal.main_arg5) = m ((c.tc : Thread Cert.InBwdFirstIdeal.nD Cert.InBwdFirstIdeal.τ).loc Cert.InBwdFirstIdeal.main_arg5))
      ∧ r.2.sem = fun _ => 0)

def quiescent_InBwdFirstRefIdeal [hInBwdFirstRefIdeal : Cert.InBwdFirstRefIdeal.Facts] : Prop :=
  ∀ (m : (ℓ : Loc Cert.InBwdFirstRefIdeal.nD Cert.InBwdFirstRefIdeal.τ Cert.InBwdFirstRefIdeal.sig) → Buf (Elt Ideal) ℓ) (g : Dev Cert.InBwdFirstRefIdeal.nD → PrngReg), Pre_InBwdFirstRefIdeal m →
    θ_run (Cert.InBwdFirstRefIdeal.defs (F := Ideal)) (onTc (τ := Cert.InBwdFirstRefIdeal.τ) (Cert.InBwdFirstRefIdeal.main (F := Ideal))) ⟨m, fun _ => 0, g⟩ (fun r => (∀ c : Dev Cert.InBwdFirstRefIdeal.nD,
      r.2.mem ((c.tc : Thread Cert.InBwdFirstRefIdeal.nD Cert.InBwdFirstRefIdeal.τ).loc Cert.InBwdFirstRefIdeal.main_arg0) = m ((c.tc : Thread Cert.InBwdFirstRefIdeal.nD Cert.InBwdFirstRefIdeal.τ).loc Cert.InBwdFirstRefIdeal.main_arg0)
      ∧ r.2.mem ((c.tc : Thread Cert.InBwdFirstRefIdeal.nD Cert.InBwdFirstRefIdeal.τ).loc Cert.InBwdFirstRefIdeal.main_arg1) = m ((c.tc : Thread Cert.InBwdFirstRefIdeal.nD Cert.InBwdFirstRefIdeal.τ).loc Cert.InBwdFirstRefIdeal.main_arg1)
      ∧ r.2.mem ((c.tc : Thread Cert.InBwdFirstRefIdeal.nD Cert.InBwdFirstRefIdeal.τ).loc Cert.InBwdFirstRefIdeal.main_arg2) = m ((c.tc : Thread Cert.InBwdFirstRefIdeal.nD Cert.InBwdFirstRefIdeal.τ).loc Cert.InBwdFirstRefIdeal.main_arg2)
      ∧ r.2.mem ((c.tc : Thread Cert.InBwdFirstRefIdeal.nD Cert.InBwdFirstRefIdeal.τ).loc Cert.InBwdFirstRefIdeal.main_arg3) = m ((c.tc : Thread Cert.InBwdFirstRefIdeal.nD Cert.InBwdFirstRefIdeal.τ).loc Cert.InBwdFirstRefIdeal.main_arg3)
      ∧ r.2.mem ((c.tc : Thread Cert.InBwdFirstRefIdeal.nD Cert.InBwdFirstRefIdeal.τ).loc Cert.InBwdFirstRefIdeal.main_arg4) = m ((c.tc : Thread Cert.InBwdFirstRefIdeal.nD Cert.InBwdFirstRefIdeal.τ).loc Cert.InBwdFirstRefIdeal.main_arg4)
      ∧ r.2.mem ((c.tc : Thread Cert.InBwdFirstRefIdeal.nD Cert.InBwdFirstRefIdeal.τ).loc Cert.InBwdFirstRefIdeal.main_arg5) = m ((c.tc : Thread Cert.InBwdFirstRefIdeal.nD Cert.InBwdFirstRefIdeal.τ).loc Cert.InBwdFirstRefIdeal.main_arg5))
      ∧ r.2.sem = fun _ => 0)

def quiescent_InBwdSecond [hInBwdSecond : Cert.InBwdSecond.Facts] : Prop :=
  ∀ (m : (ℓ : Loc Cert.InBwdSecond.nD Cert.InBwdSecond.τ Cert.InBwdSecond.sig) → Buf (Elt Bits) ℓ) (g : Dev Cert.InBwdSecond.nD → PrngReg), Pre_InBwdSecond m →
    θ_run (Cert.InBwdSecond.defs (F := Bits)) (onTc (τ := Cert.InBwdSecond.τ) (Cert.InBwdSecond.main (F := Bits))) ⟨m, fun _ => 0, g⟩ (fun r => (∀ c : Dev Cert.InBwdSecond.nD,
      r.2.mem ((c.tc : Thread Cert.InBwdSecond.nD Cert.InBwdSecond.τ).loc Cert.InBwdSecond.main_arg0) = m ((c.tc : Thread Cert.InBwdSecond.nD Cert.InBwdSecond.τ).loc Cert.InBwdSecond.main_arg0)
      ∧ r.2.mem ((c.tc : Thread Cert.InBwdSecond.nD Cert.InBwdSecond.τ).loc Cert.InBwdSecond.main_arg1) = m ((c.tc : Thread Cert.InBwdSecond.nD Cert.InBwdSecond.τ).loc Cert.InBwdSecond.main_arg1)
      ∧ r.2.mem ((c.tc : Thread Cert.InBwdSecond.nD Cert.InBwdSecond.τ).loc Cert.InBwdSecond.main_arg2) = m ((c.tc : Thread Cert.InBwdSecond.nD Cert.InBwdSecond.τ).loc Cert.InBwdSecond.main_arg2)
      ∧ r.2.mem ((c.tc : Thread Cert.InBwdSecond.nD Cert.InBwdSecond.τ).loc Cert.InBwdSecond.main_arg3) = m ((c.tc : Thread Cert.InBwdSecond.nD Cert.InBwdSecond.τ).loc Cert.InBwdSecond.main_arg3)
      ∧ r.2.mem ((c.tc : Thread Cert.InBwdSecond.nD Cert.InBwdSecond.τ).loc Cert.InBwdSecond.main_arg4) = m ((c.tc : Thread Cert.InBwdSecond.nD Cert.InBwdSecond.τ).loc Cert.InBwdSecond.main_arg4)
      ∧ r.2.mem ((c.tc : Thread Cert.InBwdSecond.nD Cert.InBwdSecond.τ).loc Cert.InBwdSecond.main_arg5) = m ((c.tc : Thread Cert.InBwdSecond.nD Cert.InBwdSecond.τ).loc Cert.InBwdSecond.main_arg5)
      ∧ r.2.mem ((c.tc : Thread Cert.InBwdSecond.nD Cert.InBwdSecond.τ).loc Cert.InBwdSecond.main_arg6) = m ((c.tc : Thread Cert.InBwdSecond.nD Cert.InBwdSecond.τ).loc Cert.InBwdSecond.main_arg6)
      ∧ r.2.mem ((c.tc : Thread Cert.InBwdSecond.nD Cert.InBwdSecond.τ).loc Cert.InBwdSecond.main_arg7) = m ((c.tc : Thread Cert.InBwdSecond.nD Cert.InBwdSecond.τ).loc Cert.InBwdSecond.main_arg7))
      ∧ r.2.sem = fun _ => 0)

def quiescent_InBwdSecondIdeal [hInBwdSecondIdeal : Cert.InBwdSecondIdeal.Facts] : Prop :=
  ∀ (m : (ℓ : Loc Cert.InBwdSecondIdeal.nD Cert.InBwdSecondIdeal.τ Cert.InBwdSecondIdeal.sig) → Buf (Elt Ideal) ℓ) (g : Dev Cert.InBwdSecondIdeal.nD → PrngReg), Pre_InBwdSecondIdeal m →
    θ_run (Cert.InBwdSecondIdeal.defs (F := Ideal)) (onTc (τ := Cert.InBwdSecondIdeal.τ) (Cert.InBwdSecondIdeal.main (F := Ideal))) ⟨m, fun _ => 0, g⟩ (fun r => (∀ c : Dev Cert.InBwdSecondIdeal.nD,
      r.2.mem ((c.tc : Thread Cert.InBwdSecondIdeal.nD Cert.InBwdSecondIdeal.τ).loc Cert.InBwdSecondIdeal.main_arg0) = m ((c.tc : Thread Cert.InBwdSecondIdeal.nD Cert.InBwdSecondIdeal.τ).loc Cert.InBwdSecondIdeal.main_arg0)
      ∧ r.2.mem ((c.tc : Thread Cert.InBwdSecondIdeal.nD Cert.InBwdSecondIdeal.τ).loc Cert.InBwdSecondIdeal.main_arg1) = m ((c.tc : Thread Cert.InBwdSecondIdeal.nD Cert.InBwdSecondIdeal.τ).loc Cert.InBwdSecondIdeal.main_arg1)
      ∧ r.2.mem ((c.tc : Thread Cert.InBwdSecondIdeal.nD Cert.InBwdSecondIdeal.τ).loc Cert.InBwdSecondIdeal.main_arg2) = m ((c.tc : Thread Cert.InBwdSecondIdeal.nD Cert.InBwdSecondIdeal.τ).loc Cert.InBwdSecondIdeal.main_arg2)
      ∧ r.2.mem ((c.tc : Thread Cert.InBwdSecondIdeal.nD Cert.InBwdSecondIdeal.τ).loc Cert.InBwdSecondIdeal.main_arg3) = m ((c.tc : Thread Cert.InBwdSecondIdeal.nD Cert.InBwdSecondIdeal.τ).loc Cert.InBwdSecondIdeal.main_arg3)
      ∧ r.2.mem ((c.tc : Thread Cert.InBwdSecondIdeal.nD Cert.InBwdSecondIdeal.τ).loc Cert.InBwdSecondIdeal.main_arg4) = m ((c.tc : Thread Cert.InBwdSecondIdeal.nD Cert.InBwdSecondIdeal.τ).loc Cert.InBwdSecondIdeal.main_arg4)
      ∧ r.2.mem ((c.tc : Thread Cert.InBwdSecondIdeal.nD Cert.InBwdSecondIdeal.τ).loc Cert.InBwdSecondIdeal.main_arg5) = m ((c.tc : Thread Cert.InBwdSecondIdeal.nD Cert.InBwdSecondIdeal.τ).loc Cert.InBwdSecondIdeal.main_arg5)
      ∧ r.2.mem ((c.tc : Thread Cert.InBwdSecondIdeal.nD Cert.InBwdSecondIdeal.τ).loc Cert.InBwdSecondIdeal.main_arg6) = m ((c.tc : Thread Cert.InBwdSecondIdeal.nD Cert.InBwdSecondIdeal.τ).loc Cert.InBwdSecondIdeal.main_arg6)
      ∧ r.2.mem ((c.tc : Thread Cert.InBwdSecondIdeal.nD Cert.InBwdSecondIdeal.τ).loc Cert.InBwdSecondIdeal.main_arg7) = m ((c.tc : Thread Cert.InBwdSecondIdeal.nD Cert.InBwdSecondIdeal.τ).loc Cert.InBwdSecondIdeal.main_arg7))
      ∧ r.2.sem = fun _ => 0)

def quiescent_InBwdSecondRefIdeal [hInBwdSecondRefIdeal : Cert.InBwdSecondRefIdeal.Facts] : Prop :=
  ∀ (m : (ℓ : Loc Cert.InBwdSecondRefIdeal.nD Cert.InBwdSecondRefIdeal.τ Cert.InBwdSecondRefIdeal.sig) → Buf (Elt Ideal) ℓ) (g : Dev Cert.InBwdSecondRefIdeal.nD → PrngReg), Pre_InBwdSecondRefIdeal m →
    θ_run (Cert.InBwdSecondRefIdeal.defs (F := Ideal)) (onTc (τ := Cert.InBwdSecondRefIdeal.τ) (Cert.InBwdSecondRefIdeal.main (F := Ideal))) ⟨m, fun _ => 0, g⟩ (fun r => (∀ c : Dev Cert.InBwdSecondRefIdeal.nD,
      r.2.mem ((c.tc : Thread Cert.InBwdSecondRefIdeal.nD Cert.InBwdSecondRefIdeal.τ).loc Cert.InBwdSecondRefIdeal.main_arg0) = m ((c.tc : Thread Cert.InBwdSecondRefIdeal.nD Cert.InBwdSecondRefIdeal.τ).loc Cert.InBwdSecondRefIdeal.main_arg0)
      ∧ r.2.mem ((c.tc : Thread Cert.InBwdSecondRefIdeal.nD Cert.InBwdSecondRefIdeal.τ).loc Cert.InBwdSecondRefIdeal.main_arg1) = m ((c.tc : Thread Cert.InBwdSecondRefIdeal.nD Cert.InBwdSecondRefIdeal.τ).loc Cert.InBwdSecondRefIdeal.main_arg1)
      ∧ r.2.mem ((c.tc : Thread Cert.InBwdSecondRefIdeal.nD Cert.InBwdSecondRefIdeal.τ).loc Cert.InBwdSecondRefIdeal.main_arg2) = m ((c.tc : Thread Cert.InBwdSecondRefIdeal.nD Cert.InBwdSecondRefIdeal.τ).loc Cert.InBwdSecondRefIdeal.main_arg2)
      ∧ r.2.mem ((c.tc : Thread Cert.InBwdSecondRefIdeal.nD Cert.InBwdSecondRefIdeal.τ).loc Cert.InBwdSecondRefIdeal.main_arg3) = m ((c.tc : Thread Cert.InBwdSecondRefIdeal.nD Cert.InBwdSecondRefIdeal.τ).loc Cert.InBwdSecondRefIdeal.main_arg3)
      ∧ r.2.mem ((c.tc : Thread Cert.InBwdSecondRefIdeal.nD Cert.InBwdSecondRefIdeal.τ).loc Cert.InBwdSecondRefIdeal.main_arg4) = m ((c.tc : Thread Cert.InBwdSecondRefIdeal.nD Cert.InBwdSecondRefIdeal.τ).loc Cert.InBwdSecondRefIdeal.main_arg4)
      ∧ r.2.mem ((c.tc : Thread Cert.InBwdSecondRefIdeal.nD Cert.InBwdSecondRefIdeal.τ).loc Cert.InBwdSecondRefIdeal.main_arg5) = m ((c.tc : Thread Cert.InBwdSecondRefIdeal.nD Cert.InBwdSecondRefIdeal.τ).loc Cert.InBwdSecondRefIdeal.main_arg5)
      ∧ r.2.mem ((c.tc : Thread Cert.InBwdSecondRefIdeal.nD Cert.InBwdSecondRefIdeal.τ).loc Cert.InBwdSecondRefIdeal.main_arg6) = m ((c.tc : Thread Cert.InBwdSecondRefIdeal.nD Cert.InBwdSecondRefIdeal.τ).loc Cert.InBwdSecondRefIdeal.main_arg6)
      ∧ r.2.mem ((c.tc : Thread Cert.InBwdSecondRefIdeal.nD Cert.InBwdSecondRefIdeal.τ).loc Cert.InBwdSecondRefIdeal.main_arg7) = m ((c.tc : Thread Cert.InBwdSecondRefIdeal.nD Cert.InBwdSecondRefIdeal.τ).loc Cert.InBwdSecondRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5)
      ∧ r.2.mem ((c.tc : Thread Cert.SguBwd.nD Cert.SguBwd.τ).loc Cert.SguBwd.main_arg6) = m ((c.tc : Thread Cert.SguBwd.nD Cert.SguBwd.τ).loc Cert.SguBwd.main_arg6)
      ∧ r.2.mem ((c.tc : Thread Cert.SguBwd.nD Cert.SguBwd.τ).loc Cert.SguBwd.main_arg7) = m ((c.tc : Thread Cert.SguBwd.nD Cert.SguBwd.τ).loc Cert.SguBwd.main_arg7)
      ∧ r.2.mem ((c.tc : Thread Cert.SguBwd.nD Cert.SguBwd.τ).loc Cert.SguBwd.main_arg8) = m ((c.tc : Thread Cert.SguBwd.nD Cert.SguBwd.τ).loc Cert.SguBwd.main_arg8)
      ∧ r.2.mem ((c.tc : Thread Cert.SguBwd.nD Cert.SguBwd.τ).loc Cert.SguBwd.main_arg9) = m ((c.tc : Thread Cert.SguBwd.nD Cert.SguBwd.τ).loc Cert.SguBwd.main_arg9)
      ∧ r.2.mem ((c.tc : Thread Cert.SguBwd.nD Cert.SguBwd.τ).loc Cert.SguBwd.main_arg10) = m ((c.tc : Thread Cert.SguBwd.nD Cert.SguBwd.τ).loc Cert.SguBwd.main_arg10)
      ∧ r.2.mem ((c.tc : Thread Cert.SguBwd.nD Cert.SguBwd.τ).loc Cert.SguBwd.main_arg11) = m ((c.tc : Thread Cert.SguBwd.nD Cert.SguBwd.τ).loc Cert.SguBwd.main_arg11)
      ∧ r.2.mem ((c.tc : Thread Cert.SguBwd.nD Cert.SguBwd.τ).loc Cert.SguBwd.main_arg12) = m ((c.tc : Thread Cert.SguBwd.nD Cert.SguBwd.τ).loc Cert.SguBwd.main_arg12))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6)
      ∧ r.2.mem ((c.tc : Thread Cert.SguBwdIdeal.nD Cert.SguBwdIdeal.τ).loc Cert.SguBwdIdeal.main_arg7) = m ((c.tc : Thread Cert.SguBwdIdeal.nD Cert.SguBwdIdeal.τ).loc Cert.SguBwdIdeal.main_arg7)
      ∧ r.2.mem ((c.tc : Thread Cert.SguBwdIdeal.nD Cert.SguBwdIdeal.τ).loc Cert.SguBwdIdeal.main_arg8) = m ((c.tc : Thread Cert.SguBwdIdeal.nD Cert.SguBwdIdeal.τ).loc Cert.SguBwdIdeal.main_arg8)
      ∧ r.2.mem ((c.tc : Thread Cert.SguBwdIdeal.nD Cert.SguBwdIdeal.τ).loc Cert.SguBwdIdeal.main_arg9) = m ((c.tc : Thread Cert.SguBwdIdeal.nD Cert.SguBwdIdeal.τ).loc Cert.SguBwdIdeal.main_arg9)
      ∧ r.2.mem ((c.tc : Thread Cert.SguBwdIdeal.nD Cert.SguBwdIdeal.τ).loc Cert.SguBwdIdeal.main_arg10) = m ((c.tc : Thread Cert.SguBwdIdeal.nD Cert.SguBwdIdeal.τ).loc Cert.SguBwdIdeal.main_arg10)
      ∧ r.2.mem ((c.tc : Thread Cert.SguBwdIdeal.nD Cert.SguBwdIdeal.τ).loc Cert.SguBwdIdeal.main_arg11) = m ((c.tc : Thread Cert.SguBwdIdeal.nD Cert.SguBwdIdeal.τ).loc Cert.SguBwdIdeal.main_arg11)
      ∧ r.2.mem ((c.tc : Thread Cert.SguBwdIdeal.nD Cert.SguBwdIdeal.τ).loc Cert.SguBwdIdeal.main_arg12) = m ((c.tc : Thread Cert.SguBwdIdeal.nD Cert.SguBwdIdeal.τ).loc Cert.SguBwdIdeal.main_arg12))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5)
      ∧ r.2.mem ((c.tc : Thread Cert.SguBwdRefIdeal.nD Cert.SguBwdRefIdeal.τ).loc Cert.SguBwdRefIdeal.main_arg6) = m ((c.tc : Thread Cert.SguBwdRefIdeal.nD Cert.SguBwdRefIdeal.τ).loc Cert.SguBwdRefIdeal.main_arg6)
      ∧ r.2.mem ((c.tc : Thread Cert.SguBwdRefIdeal.nD Cert.SguBwdRefIdeal.τ).loc Cert.SguBwdRefIdeal.main_arg7) = m ((c.tc : Thread Cert.SguBwdRefIdeal.nD Cert.SguBwdRefIdeal.τ).loc Cert.SguBwdRefIdeal.main_arg7)
      ∧ r.2.mem ((c.tc : Thread Cert.SguBwdRefIdeal.nD Cert.SguBwdRefIdeal.τ).loc Cert.SguBwdRefIdeal.main_arg8) = m ((c.tc : Thread Cert.SguBwdRefIdeal.nD Cert.SguBwdRefIdeal.τ).loc Cert.SguBwdRefIdeal.main_arg8)
      ∧ r.2.mem ((c.tc : Thread Cert.SguBwdRefIdeal.nD Cert.SguBwdRefIdeal.τ).loc Cert.SguBwdRefIdeal.main_arg9) = m ((c.tc : Thread Cert.SguBwdRefIdeal.nD Cert.SguBwdRefIdeal.τ).loc Cert.SguBwdRefIdeal.main_arg9)
      ∧ r.2.mem ((c.tc : Thread Cert.SguBwdRefIdeal.nD Cert.SguBwdRefIdeal.τ).loc Cert.SguBwdRefIdeal.main_arg10) = m ((c.tc : Thread Cert.SguBwdRefIdeal.nD Cert.SguBwdRefIdeal.τ).loc Cert.SguBwdRefIdeal.main_arg10)
      ∧ r.2.mem ((c.tc : Thread Cert.SguBwdRefIdeal.nD Cert.SguBwdRefIdeal.τ).loc Cert.SguBwdRefIdeal.main_arg11) = m ((c.tc : Thread Cert.SguBwdRefIdeal.nD Cert.SguBwdRefIdeal.τ).loc Cert.SguBwdRefIdeal.main_arg11)
      ∧ r.2.mem ((c.tc : Thread Cert.SguBwdRefIdeal.nD Cert.SguBwdRefIdeal.τ).loc Cert.SguBwdRefIdeal.main_arg12) = m ((c.tc : Thread Cert.SguBwdRefIdeal.nD Cert.SguBwdRefIdeal.τ).loc Cert.SguBwdRefIdeal.main_arg12))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3)
      ∧ r.2.mem ((c.tc : Thread Cert.AdamNorm.nD Cert.AdamNorm.τ).loc Cert.AdamNorm.main_arg4) = m ((c.tc : Thread Cert.AdamNorm.nD Cert.AdamNorm.τ).loc Cert.AdamNorm.main_arg4)
      ∧ r.2.mem ((c.tc : Thread Cert.AdamNorm.nD Cert.AdamNorm.τ).loc Cert.AdamNorm.main_arg5) = m ((c.tc : Thread Cert.AdamNorm.nD Cert.AdamNorm.τ).loc Cert.AdamNorm.main_arg5))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3)
      ∧ r.2.mem ((c.tc : Thread Cert.AdamNormIdeal.nD Cert.AdamNormIdeal.τ).loc Cert.AdamNormIdeal.main_arg4) = m ((c.tc : Thread Cert.AdamNormIdeal.nD Cert.AdamNormIdeal.τ).loc Cert.AdamNormIdeal.main_arg4)
      ∧ r.2.mem ((c.tc : Thread Cert.AdamNormIdeal.nD Cert.AdamNormIdeal.τ).loc Cert.AdamNormIdeal.main_arg5) = m ((c.tc : Thread Cert.AdamNormIdeal.nD Cert.AdamNormIdeal.τ).loc Cert.AdamNormIdeal.main_arg5))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3)
      ∧ r.2.mem ((c.tc : Thread Cert.AdamNormRefIdeal.nD Cert.AdamNormRefIdeal.τ).loc Cert.AdamNormRefIdeal.main_arg4) = m ((c.tc : Thread Cert.AdamNormRefIdeal.nD Cert.AdamNormRefIdeal.τ).loc Cert.AdamNormRefIdeal.main_arg4)
      ∧ r.2.mem ((c.tc : Thread Cert.AdamNormRefIdeal.nD Cert.AdamNormRefIdeal.τ).loc Cert.AdamNormRefIdeal.main_arg5) = m ((c.tc : Thread Cert.AdamNormRefIdeal.nD Cert.AdamNormRefIdeal.τ).loc Cert.AdamNormRefIdeal.main_arg5))
      ∧ r.2.sem = fun _ => 0)

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)
      ∧ m' ((c.tc : Thread Cert.GradWInRefIdeal.nD Cert.GradWInRefIdeal.τ).loc Cert.GradWInRefIdeal.main_arg2) = m ((c.tc : Thread Cert.GradWInIdeal.nD Cert.GradWInIdeal.τ).loc Cert.GradWInIdeal.main_arg2)) →
    ∃ (v0 : (c : Dev Cert.GradWInIdeal.nD) → Buf (Elt Ideal) ((c.tc : Thread Cert.GradWInIdeal.nD Cert.GradWInIdeal.τ).loc Cert.GradWInIdeal.main_v0_0)) (v1 : (c : Dev Cert.GradWInIdeal.nD) → Buf (Elt Ideal) ((c.tc : Thread Cert.GradWInIdeal.nD Cert.GradWInIdeal.τ).loc Cert.GradWInIdeal.main_v0_1)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0_0) = v0 c
          ∧ r.2.mem ((c.tc : Thread Cert.GradWInIdeal.nD Cert.GradWInIdeal.τ).loc Cert.GradWInIdeal.main_v0_1) = v1 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
          ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v7) = v0 c
          ∧ r.2.mem ((c.tc : Thread Cert.GradWInRefIdeal.nD Cert.GradWInRefIdeal.τ).loc Cert.GradWInRefIdeal.main_v8) = v1 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1)
          ∧ r.2.mem ((c.tc : Thread Cert.GradWInRefIdeal.nD Cert.GradWInRefIdeal.τ).loc Cert.GradWInRefIdeal.main_arg2) = m' ((c.tc : Thread Cert.GradWInRefIdeal.nD Cert.GradWInRefIdeal.τ).loc Cert.GradWInRefIdeal.main_arg2))

def preserves_InBwdFirst_InBwdFirstIdeal : Prop :=
  True

def algebraic_InBwdFirstIdeal_InBwdFirstRefIdeal_on_first_half [hInBwdFirstIdeal : Cert.InBwdFirstIdeal.Facts] [hInBwdFirstRefIdeal : Cert.InBwdFirstRefIdeal.Facts] [hOn_first_half : Cert.On_first_half.Facts] : Prop :=
  ∀ (m : (ℓ : Loc Cert.InBwdFirstIdeal.nD Cert.InBwdFirstIdeal.τ Cert.InBwdFirstIdeal.sig) → Buf (Elt Ideal) ℓ) (g : Dev Cert.InBwdFirstIdeal.nD → PrngReg)
    (m' : (ℓ : Loc Cert.InBwdFirstRefIdeal.nD Cert.InBwdFirstRefIdeal.τ Cert.InBwdFirstRefIdeal.sig) → Buf (Elt Ideal) ℓ) (g' : Dev Cert.InBwdFirstRefIdeal.nD → PrngReg), Pre_InBwdFirstIdeal m →
    (∀ c : Dev Cert.InBwdFirstIdeal.nD,
      m' ((c.tc : Thread Cert.InBwdFirstRefIdeal.nD Cert.InBwdFirstRefIdeal.τ).loc Cert.InBwdFirstRefIdeal.main_arg0) = m ((c.tc : Thread Cert.InBwdFirstIdeal.nD Cert.InBwdFirstIdeal.τ).loc Cert.InBwdFirstIdeal.main_arg0)
      ∧ m' ((c.tc : Thread Cert.InBwdFirstRefIdeal.nD Cert.InBwdFirstRefIdeal.τ).loc Cert.InBwdFirstRefIdeal.main_arg1) = m ((c.tc : Thread Cert.InBwdFirstIdeal.nD Cert.InBwdFirstIdeal.τ).loc Cert.InBwdFirstIdeal.main_arg1)
      ∧ m' ((c.tc : Thread Cert.InBwdFirstRefIdeal.nD Cert.InBwdFirstRefIdeal.τ).loc Cert.InBwdFirstRefIdeal.main_arg2) = m ((c.tc : Thread Cert.InBwdFirstIdeal.nD Cert.InBwdFirstIdeal.τ).loc Cert.InBwdFirstIdeal.main_arg2)
      ∧ m' ((c.tc : Thread Cert.InBwdFirstRefIdeal.nD Cert.InBwdFirstRefIdeal.τ).loc Cert.InBwdFirstRefIdeal.main_arg3) = m ((c.tc : Thread Cert.InBwdFirstIdeal.nD Cert.InBwdFirstIdeal.τ).loc Cert.InBwdFirstIdeal.main_arg3)
      ∧ m' ((c.tc : Thread Cert.InBwdFirstRefIdeal.nD Cert.InBwdFirstRefIdeal.τ).loc Cert.InBwdFirstRefIdeal.main_arg4) = m ((c.tc : Thread Cert.InBwdFirstIdeal.nD Cert.InBwdFirstIdeal.τ).loc Cert.InBwdFirstIdeal.main_arg4)
      ∧ m' ((c.tc : Thread Cert.InBwdFirstRefIdeal.nD Cert.InBwdFirstRefIdeal.τ).loc Cert.InBwdFirstRefIdeal.main_arg5) = m ((c.tc : Thread Cert.InBwdFirstIdeal.nD Cert.InBwdFirstIdeal.τ).loc Cert.InBwdFirstIdeal.main_arg5)) →
    ∃ (v0 : (c : Dev Cert.InBwdFirstIdeal.nD) → Buf (Elt Ideal) ((c.tc : Thread Cert.InBwdFirstIdeal.nD Cert.InBwdFirstIdeal.τ).loc Cert.InBwdFirstIdeal.main_v2_0)) (v1 : (c : Dev Cert.InBwdFirstIdeal.nD) → Buf (Elt Ideal) ((c.tc : Thread Cert.InBwdFirstIdeal.nD Cert.InBwdFirstIdeal.τ).loc Cert.InBwdFirstIdeal.main_v2_1)),
      θ_run (Cert.InBwdFirstIdeal.defs (F := Ideal)) (onTc (τ := Cert.InBwdFirstIdeal.τ) (Cert.InBwdFirstIdeal.main (F := Ideal))) ⟨m, fun _ => 0, g⟩ (fun r => ∀ c : Dev Cert.InBwdFirstIdeal.nD,
          (∀ i : (⟨2, ![8192, 1024]⟩ : Shape).Idx, (Cert.On_first_half.fn (F := Ideal) (m ((c.tc : Thread Cert.InBwdFirstIdeal.nD Cert.InBwdFirstIdeal.τ).loc Cert.InBwdFirstIdeal.main_arg0)) (m ((c.tc : Thread Cert.InBwdFirstIdeal.nD Cert.InBwdFirstIdeal.τ).loc Cert.InBwdFirstIdeal.main_arg1)) (m ((c.tc : Thread Cert.InBwdFirstIdeal.nD Cert.InBwdFirstIdeal.τ).loc Cert.InBwdFirstIdeal.main_arg2)) (m ((c.tc : Thread Cert.InBwdFirstIdeal.nD Cert.InBwdFirstIdeal.τ).loc Cert.InBwdFirstIdeal.main_arg3)) (m ((c.tc : Thread Cert.InBwdFirstIdeal.nD Cert.InBwdFirstIdeal.τ).loc Cert.InBwdFirstIdeal.main_arg4)) (m ((c.tc : Thread Cert.InBwdFirstIdeal.nD Cert.InBwdFirstIdeal.τ).loc Cert.InBwdFirstIdeal.main_arg5))).1 i = 1#1 → r.2.mem ((c.tc : Thread Cert.InBwdFirstIdeal.nD Cert.InBwdFirstIdeal.τ).loc Cert.InBwdFirstIdeal.main_v2_0) i = v0 c i)
          ∧ (∀ i : (⟨2, ![8, 1024]⟩ : Shape).Idx, (Cert.On_first_half.fn (F := Ideal) (m ((c.tc : Thread Cert.InBwdFirstIdeal.nD Cert.InBwdFirstIdeal.τ).loc Cert.InBwdFirstIdeal.main_arg0)) (m ((c.tc : Thread Cert.InBwdFirstIdeal.nD Cert.InBwdFirstIdeal.τ).loc Cert.InBwdFirstIdeal.main_arg1)) (m ((c.tc : Thread Cert.InBwdFirstIdeal.nD Cert.InBwdFirstIdeal.τ).loc Cert.InBwdFirstIdeal.main_arg2)) (m ((c.tc : Thread Cert.InBwdFirstIdeal.nD Cert.InBwdFirstIdeal.τ).loc Cert.InBwdFirstIdeal.main_arg3)) (m ((c.tc : Thread Cert.InBwdFirstIdeal.nD Cert.InBwdFirstIdeal.τ).loc Cert.InBwdFirstIdeal.main_arg4)) (m ((c.tc : Thread Cert.InBwdFirstIdeal.nD Cert.InBwdFirstIdeal.τ).loc Cert.InBwdFirstIdeal.main_arg5))).2 i = 1#1 → r.2.mem ((c.tc : Thread Cert.InBwdFirstIdeal.nD Cert.InBwdFirstIdeal.τ).loc Cert.InBwdFirstIdeal.main_v2_1) i = v1 c i)
          ∧ r.2.mem ((c.tc : Thread Cert.InBwdFirstIdeal.nD Cert.InBwdFirstIdeal.τ).loc Cert.InBwdFirstIdeal.main_arg0) = m ((c.tc : Thread Cert.InBwdFirstIdeal.nD Cert.InBwdFirstIdeal.τ).loc Cert.InBwdFirstIdeal.main_arg0)
          ∧ r.2.mem ((c.tc : Thread Cert.InBwdFirstIdeal.nD Cert.InBwdFirstIdeal.τ).loc Cert.InBwdFirstIdeal.main_arg1) = m ((c.tc : Thread Cert.InBwdFirstIdeal.nD Cert.InBwdFirstIdeal.τ).loc Cert.InBwdFirstIdeal.main_arg1)
          ∧ r.2.mem ((c.tc : Thread Cert.InBwdFirstIdeal.nD Cert.InBwdFirstIdeal.τ).loc Cert.InBwdFirstIdeal.main_arg2) = m ((c.tc : Thread Cert.InBwdFirstIdeal.nD Cert.InBwdFirstIdeal.τ).loc Cert.InBwdFirstIdeal.main_arg2)
          ∧ r.2.mem ((c.tc : Thread Cert.InBwdFirstIdeal.nD Cert.InBwdFirstIdeal.τ).loc Cert.InBwdFirstIdeal.main_arg3) = m ((c.tc : Thread Cert.InBwdFirstIdeal.nD Cert.InBwdFirstIdeal.τ).loc Cert.InBwdFirstIdeal.main_arg3)
          ∧ r.2.mem ((c.tc : Thread Cert.InBwdFirstIdeal.nD Cert.InBwdFirstIdeal.τ).loc Cert.InBwdFirstIdeal.main_arg4) = m ((c.tc : Thread Cert.InBwdFirstIdeal.nD Cert.InBwdFirstIdeal.τ).loc Cert.InBwdFirstIdeal.main_arg4)
          ∧ r.2.mem ((c.tc : Thread Cert.InBwdFirstIdeal.nD Cert.InBwdFirstIdeal.τ).loc Cert.InBwdFirstIdeal.main_arg5) = m ((c.tc : Thread Cert.InBwdFirstIdeal.nD Cert.InBwdFirstIdeal.τ).loc Cert.InBwdFirstIdeal.main_arg5))
      ∧ θ_run (Cert.InBwdFirstRefIdeal.defs (F := Ideal)) (onTc (τ := Cert.InBwdFirstRefIdeal.τ) (Cert.InBwdFirstRefIdeal.main (F := Ideal))) ⟨m', fun _ => 0, g'⟩ (fun r => ∀ c : Dev Cert.InBwdFirstRefIdeal.nD,
          (∀ i : (⟨2, ![8192, 1024]⟩ : Shape).Idx, (Cert.On_first_half.fn (F := Ideal) (m ((c.tc : Thread Cert.InBwdFirstIdeal.nD Cert.InBwdFirstIdeal.τ).loc Cert.InBwdFirstIdeal.main_arg0)) (m ((c.tc : Thread Cert.InBwdFirstIdeal.nD Cert.InBwdFirstIdeal.τ).loc Cert.InBwdFirstIdeal.main_arg1)) (m ((c.tc : Thread Cert.InBwdFirstIdeal.nD Cert.InBwdFirstIdeal.τ).loc Cert.InBwdFirstIdeal.main_arg2)) (m ((c.tc : Thread Cert.InBwdFirstIdeal.nD Cert.InBwdFirstIdeal.τ).loc Cert.InBwdFirstIdeal.main_arg3)) (m ((c.tc : Thread Cert.InBwdFirstIdeal.nD Cert.InBwdFirstIdeal.τ).loc Cert.InBwdFirstIdeal.main_arg4)) (m ((c.tc : Thread Cert.InBwdFirstIdeal.nD Cert.InBwdFirstIdeal.τ).loc Cert.InBwdFirstIdeal.main_arg5))).1 i = 1#1 → r.2.mem ((c.tc : Thread Cert.InBwdFirstRefIdeal.nD Cert.InBwdFirstRefIdeal.τ).loc Cert.InBwdFirstRefIdeal.main_v47) i = v0 c i)
          ∧ (∀ i : (⟨2, ![8, 1024]⟩ : Shape).Idx, (Cert.On_first_half.fn (F := Ideal) (m ((c.tc : Thread Cert.InBwdFirstIdeal.nD Cert.InBwdFirstIdeal.τ).loc Cert.InBwdFirstIdeal.main_arg0)) (m ((c.tc : Thread Cert.InBwdFirstIdeal.nD Cert.InBwdFirstIdeal.τ).loc Cert.InBwdFirstIdeal.main_arg1)) (m ((c.tc : Thread Cert.InBwdFirstIdeal.nD Cert.InBwdFirstIdeal.τ).loc Cert.InBwdFirstIdeal.main_arg2)) (m ((c.tc : Thread Cert.InBwdFirstIdeal.nD Cert.InBwdFirstIdeal.τ).loc Cert.InBwdFirstIdeal.main_arg3)) (m ((c.tc : Thread Cert.InBwdFirstIdeal.nD Cert.InBwdFirstIdeal.τ).loc Cert.InBwdFirstIdeal.main_arg4)) (m ((c.tc : Thread Cert.InBwdFirstIdeal.nD Cert.InBwdFirstIdeal.τ).loc Cert.InBwdFirstIdeal.main_arg5))).2 i = 1#1 → r.2.mem ((c.tc : Thread Cert.InBwdFirstRefIdeal.nD Cert.InBwdFirstRefIdeal.τ).loc Cert.InBwdFirstRefIdeal.main_v48) i = v1 c i)
          ∧ r.2.mem ((c.tc : Thread Cert.InBwdFirstRefIdeal.nD Cert.InBwdFirstRefIdeal.τ).loc Cert.InBwdFirstRefIdeal.main_arg0) = m' ((c.tc : Thread Cert.InBwdFirstRefIdeal.nD Cert.InBwdFirstRefIdeal.τ).loc Cert.InBwdFirstRefIdeal.main_arg0)
          ∧ r.2.mem ((c.tc : Thread Cert.InBwdFirstRefIdeal.nD Cert.InBwdFirstRefIdeal.τ).loc Cert.InBwdFirstRefIdeal.main_arg1) = m' ((c.tc : Thread Cert.InBwdFirstRefIdeal.nD Cert.InBwdFirstRefIdeal.τ).loc Cert.InBwdFirstRefIdeal.main_arg1)
          ∧ r.2.mem ((c.tc : Thread Cert.InBwdFirstRefIdeal.nD Cert.InBwdFirstRefIdeal.τ).loc Cert.InBwdFirstRefIdeal.main_arg2) = m' ((c.tc : Thread Cert.InBwdFirstRefIdeal.nD Cert.InBwdFirstRefIdeal.τ).loc Cert.InBwdFirstRefIdeal.main_arg2)
          ∧ r.2.mem ((c.tc : Thread Cert.InBwdFirstRefIdeal.nD Cert.InBwdFirstRefIdeal.τ).loc Cert.InBwdFirstRefIdeal.main_arg3) = m' ((c.tc : Thread Cert.InBwdFirstRefIdeal.nD Cert.InBwdFirstRefIdeal.τ).loc Cert.InBwdFirstRefIdeal.main_arg3)
          ∧ r.2.mem ((c.tc : Thread Cert.InBwdFirstRefIdeal.nD Cert.InBwdFirstRefIdeal.τ).loc Cert.InBwdFirstRefIdeal.main_arg4) = m' ((c.tc : Thread Cert.InBwdFirstRefIdeal.nD Cert.InBwdFirstRefIdeal.τ).loc Cert.InBwdFirstRefIdeal.main_arg4)
          ∧ r.2.mem ((c.tc : Thread Cert.InBwdFirstRefIdeal.nD Cert.InBwdFirstRefIdeal.τ).loc Cert.InBwdFirstRefIdeal.main_arg5) = m' ((c.tc : Thread Cert.InBwdFirstRefIdeal.nD Cert.InBwdFirstRefIdeal.τ).loc Cert.InBwdFirstRefIdeal.main_arg5))

def preserves_InBwdSecond_InBwdSecondIdeal : Prop :=
  True

def algebraic_InBwdSecondIdeal_InBwdSecondRefIdeal [hInBwdSecondIdeal : Cert.InBwdSecondIdeal.Facts] [hInBwdSecondRefIdeal : Cert.InBwdSecondRefIdeal.Facts] : Prop :=
  ∀ (m : (ℓ : Loc Cert.InBwdSecondIdeal.nD Cert.InBwdSecondIdeal.τ Cert.InBwdSecondIdeal.sig) → Buf (Elt Ideal) ℓ) (g : Dev Cert.InBwdSecondIdeal.nD → PrngReg)
    (m' : (ℓ : Loc Cert.InBwdSecondRefIdeal.nD Cert.InBwdSecondRefIdeal.τ Cert.InBwdSecondRefIdeal.sig) → Buf (Elt Ideal) ℓ) (g' : Dev Cert.InBwdSecondRefIdeal.nD → PrngReg), Pre_InBwdSecondIdeal m →
    (∀ c : Dev Cert.InBwdSecondIdeal.nD,
      m' ((c.tc : Thread Cert.InBwdSecondRefIdeal.nD Cert.InBwdSecondRefIdeal.τ).loc Cert.InBwdSecondRefIdeal.main_arg0) = m ((c.tc : Thread Cert.InBwdSecondIdeal.nD Cert.InBwdSecondIdeal.τ).loc Cert.InBwdSecondIdeal.main_arg0)
      ∧ m' ((c.tc : Thread Cert.InBwdSecondRefIdeal.nD Cert.InBwdSecondRefIdeal.τ).loc Cert.InBwdSecondRefIdeal.main_arg1) = m ((c.tc : Thread Cert.InBwdSecondIdeal.nD Cert.InBwdSecondIdeal.τ).loc Cert.InBwdSecondIdeal.main_arg1)
      ∧ m' ((c.tc : Thread Cert.InBwdSecondRefIdeal.nD Cert.InBwdSecondRefIdeal.τ).loc Cert.InBwdSecondRefIdeal.main_arg2) = m ((c.tc : Thread Cert.InBwdSecondIdeal.nD Cert.InBwdSecondIdeal.τ).loc Cert.InBwdSecondIdeal.main_arg2)
      ∧ m' ((c.tc : Thread Cert.InBwdSecondRefIdeal.nD Cert.InBwdSecondRefIdeal.τ).loc Cert.InBwdSecondRefIdeal.main_arg3) = m ((c.tc : Thread Cert.InBwdSecondIdeal.nD Cert.InBwdSecondIdeal.τ).loc Cert.InBwdSecondIdeal.main_arg3)
      ∧ m' ((c.tc : Thread Cert.InBwdSecondRefIdeal.nD Cert.InBwdSecondRefIdeal.τ).loc Cert.InBwdSecondRefIdeal.main_arg4) = m ((c.tc : Thread Cert.InBwdSecondIdeal.nD Cert.InBwdSecondIdeal.τ).loc Cert.InBwdSecondIdeal.main_arg4)
      ∧ m' ((c.tc : Thread Cert.InBwdSecondRefIdeal.nD Cert.InBwdSecondRefIdeal.τ).loc Cert.InBwdSecondRefIdeal.main_arg5) = m ((c.tc : Thread Cert.InBwdSecondIdeal.nD Cert.InBwdSecondIdeal.τ).loc Cert.InBwdSecondIdeal.main_arg5)
      ∧ m' ((c.tc : Thread Cert.InBwdSecondRefIdeal.nD Cert.InBwdSecondRefIdeal.τ).loc Cert.InBwdSecondRefIdeal.main_arg6) = m ((c.tc : Thread Cert.InBwdSecondIdeal.nD Cert.InBwdSecondIdeal.τ).loc Cert.InBwdSecondIdeal.main_arg6)
      ∧ m' ((c.tc : Thread Cert.InBwdSecondRefIdeal.nD Cert.InBwdSecondRefIdeal.τ).loc Cert.InBwdSecondRefIdeal.main_arg7) = m ((c.tc : Thread Cert.InBwdSecondIdeal.nD Cert.InBwdSecondIdeal.τ).loc Cert.InBwdSecondIdeal.main_arg7)) →
    ∃ (v0 : (c : Dev Cert.InBwdSecondIdeal.nD) → Buf (Elt Ideal) ((c.tc : Thread Cert.InBwdSecondIdeal.nD Cert.InBwdSecondIdeal.τ).loc Cert.InBwdSecondIdeal.main_v2_0)) (v1 : (c : Dev Cert.InBwdSecondIdeal.nD) → Buf (Elt Ideal) ((c.tc : Thread Cert.InBwdSecondIdeal.nD Cert.InBwdSecondIdeal.τ).loc Cert.InBwdSecondIdeal.main_v2_1)),
      θ_run (Cert.InBwdSecondIdeal.defs (F := Ideal)) (onTc (τ := Cert.InBwdSecondIdeal.τ) (Cert.InBwdSecondIdeal.main (F := Ideal))) ⟨m, fun _ => 0, g⟩ (fun r => ∀ c : Dev Cert.InBwdSecondIdeal.nD,
          r.2.mem ((c.tc : Thread Cert.InBwdSecondIdeal.nD Cert.InBwdSecondIdeal.τ).loc Cert.InBwdSecondIdeal.main_v2_0) = v0 c
          ∧ r.2.mem ((c.tc : Thread Cert.InBwdSecondIdeal.nD Cert.InBwdSecondIdeal.τ).loc Cert.InBwdSecondIdeal.main_v2_1) = v1 c
          ∧ r.2.mem ((c.tc : Thread Cert.InBwdSecondIdeal.nD Cert.InBwdSecondIdeal.τ).loc Cert.InBwdSecondIdeal.main_arg0) = m ((c.tc : Thread Cert.InBwdSecondIdeal.nD Cert.InBwdSecondIdeal.τ).loc Cert.InBwdSecondIdeal.main_arg0)
          ∧ r.2.mem ((c.tc : Thread Cert.InBwdSecondIdeal.nD Cert.InBwdSecondIdeal.τ).loc Cert.InBwdSecondIdeal.main_arg1) = m ((c.tc : Thread Cert.InBwdSecondIdeal.nD Cert.InBwdSecondIdeal.τ).loc Cert.InBwdSecondIdeal.main_arg1)
          ∧ r.2.mem ((c.tc : Thread Cert.InBwdSecondIdeal.nD Cert.InBwdSecondIdeal.τ).loc Cert.InBwdSecondIdeal.main_arg2) = m ((c.tc : Thread Cert.InBwdSecondIdeal.nD Cert.InBwdSecondIdeal.τ).loc Cert.InBwdSecondIdeal.main_arg2)
          ∧ r.2.mem ((c.tc : Thread Cert.InBwdSecondIdeal.nD Cert.InBwdSecondIdeal.τ).loc Cert.InBwdSecondIdeal.main_arg3) = m ((c.tc : Thread Cert.InBwdSecondIdeal.nD Cert.InBwdSecondIdeal.τ).loc Cert.InBwdSecondIdeal.main_arg3)
          ∧ r.2.mem ((c.tc : Thread Cert.InBwdSecondIdeal.nD Cert.InBwdSecondIdeal.τ).loc Cert.InBwdSecondIdeal.main_arg4) = m ((c.tc : Thread Cert.InBwdSecondIdeal.nD Cert.InBwdSecondIdeal.τ).loc Cert.InBwdSecondIdeal.main_arg4)
          ∧ r.2.mem ((c.tc : Thread Cert.InBwdSecondIdeal.nD Cert.InBwdSecondIdeal.τ).loc Cert.InBwdSecondIdeal.main_arg5) = m ((c.tc : Thread Cert.InBwdSecondIdeal.nD Cert.InBwdSecondIdeal.τ).loc Cert.InBwdSecondIdeal.main_arg5)
          ∧ r.2.mem ((c.tc : Thread Cert.InBwdSecondIdeal.nD Cert.InBwdSecondIdeal.τ).loc Cert.InBwdSecondIdeal.main_arg6) = m ((c.tc : Thread Cert.InBwdSecondIdeal.nD Cert.InBwdSecondIdeal.τ).loc Cert.InBwdSecondIdeal.main_arg6)
          ∧ r.2.mem ((c.tc : Thread Cert.InBwdSecondIdeal.nD Cert.InBwdSecondIdeal.τ).loc Cert.InBwdSecondIdeal.main_arg7) = m ((c.tc : Thread Cert.InBwdSecondIdeal.nD Cert.InBwdSecondIdeal.τ).loc Cert.InBwdSecondIdeal.main_arg7))
      ∧ θ_run (Cert.InBwdSecondRefIdeal.defs (F := Ideal)) (onTc (τ := Cert.InBwdSecondRefIdeal.τ) (Cert.InBwdSecondRefIdeal.main (F := Ideal))) ⟨m', fun _ => 0, g'⟩ (fun r => ∀ c : Dev Cert.InBwdSecondRefIdeal.nD,
          r.2.mem ((c.tc : Thread Cert.InBwdSecondRefIdeal.nD Cert.InBwdSecondRefIdeal.τ).loc Cert.InBwdSecondRefIdeal.main_v47) = v0 c
          ∧ r.2.mem ((c.tc : Thread Cert.InBwdSecondRefIdeal.nD Cert.InBwdSecondRefIdeal.τ).loc Cert.InBwdSecondRefIdeal.main_v49) = v1 c
          ∧ r.2.mem ((c.tc : Thread Cert.InBwdSecondRefIdeal.nD Cert.InBwdSecondRefIdeal.τ).loc Cert.InBwdSecondRefIdeal.main_arg0) = m' ((c.tc : Thread Cert.InBwdSecondRefIdeal.nD Cert.InBwdSecondRefIdeal.τ).loc Cert.InBwdSecondRefIdeal.main_arg0)
          ∧ r.2.mem ((c.tc : Thread Cert.InBwdSecondRefIdeal.nD Cert.InBwdSecondRefIdeal.τ).loc Cert.InBwdSecondRefIdeal.main_arg1) = m' ((c.tc : Thread Cert.InBwdSecondRefIdeal.nD Cert.InBwdSecondRefIdeal.τ).loc Cert.InBwdSecondRefIdeal.main_arg1)
          ∧ r.2.mem ((c.tc : Thread Cert.InBwdSecondRefIdeal.nD Cert.InBwdSecondRefIdeal.τ).loc Cert.InBwdSecondRefIdeal.main_arg2) = m' ((c.tc : Thread Cert.InBwdSecondRefIdeal.nD Cert.InBwdSecondRefIdeal.τ).loc Cert.InBwdSecondRefIdeal.main_arg2)
          ∧ r.2.mem ((c.tc : Thread Cert.InBwdSecondRefIdeal.nD Cert.InBwdSecondRefIdeal.τ).loc Cert.InBwdSecondRefIdeal.main_arg3) = m' ((c.tc : Thread Cert.InBwdSecondRefIdeal.nD Cert.InBwdSecondRefIdeal.τ).loc Cert.InBwdSecondRefIdeal.main_arg3)
          ∧ r.2.mem ((c.tc : Thread Cert.InBwdSecondRefIdeal.nD Cert.InBwdSecondRefIdeal.τ).loc Cert.InBwdSecondRefIdeal.main_arg4) = m' ((c.tc : Thread Cert.InBwdSecondRefIdeal.nD Cert.InBwdSecondRefIdeal.τ).loc Cert.InBwdSecondRefIdeal.main_arg4)
          ∧ r.2.mem ((c.tc : Thread Cert.InBwdSecondRefIdeal.nD Cert.InBwdSecondRefIdeal.τ).loc Cert.InBwdSecondRefIdeal.main_arg5) = m' ((c.tc : Thread Cert.InBwdSecondRefIdeal.nD Cert.InBwdSecondRefIdeal.τ).loc Cert.InBwdSecondRefIdeal.main_arg5)
          ∧ r.2.mem ((c.tc : Thread Cert.InBwdSecondRefIdeal.nD Cert.InBwdSecondRefIdeal.τ).loc Cert.InBwdSecondRefIdeal.main_arg6) = m' ((c.tc : Thread Cert.InBwdSecondRefIdeal.nD Cert.InBwdSecondRefIdeal.τ).loc Cert.InBwdSecondRefIdeal.main_arg6)
          ∧ r.2.mem ((c.tc : Thread Cert.InBwdSecondRefIdeal.nD Cert.InBwdSecondRefIdeal.τ).loc Cert.InBwdSecondRefIdeal.main_arg7) = m' ((c.tc : Thread Cert.InBwdSecondRefIdeal.nD Cert.InBwdSecondRefIdeal.τ).loc Cert.InBwdSecondRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)) (v3 : (c : Dev Cert.OutProjIdeal.nD) → Buf (Elt Ideal) ((c.tc : Thread Cert.OutProjIdeal.nD Cert.OutProjIdeal.τ).loc Cert.OutProjIdeal.main_v2_3)) (v4 : (c : Dev Cert.OutProjIdeal.nD) → Buf (Elt Ideal) ((c.tc : Thread Cert.OutProjIdeal.nD Cert.OutProjIdeal.τ).loc Cert.OutProjIdeal.main_v2_4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_v2_3) = v3 c
          ∧ r.2.mem ((c.tc : Thread Cert.OutProjIdeal.nD Cert.OutProjIdeal.τ).loc Cert.OutProjIdeal.main_v2_4) = v4 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v54) = v0 c
          ∧ r.2.mem ((c.tc : Thread Cert.OutProjRefIdeal.nD Cert.OutProjRefIdeal.τ).loc Cert.OutProjRefIdeal.main_v58) = v1 c
          ∧ r.2.mem ((c.tc : Thread Cert.OutProjRefIdeal.nD Cert.OutProjRefIdeal.τ).loc Cert.OutProjRefIdeal.main_v56) = v2 c
          ∧ r.2.mem ((c.tc : Thread Cert.OutProjRefIdeal.nD Cert.OutProjRefIdeal.τ).loc Cert.OutProjRefIdeal.main_v59) = v3 c
          ∧ r.2.mem ((c.tc : Thread Cert.OutProjRefIdeal.nD Cert.OutProjRefIdeal.τ).loc Cert.OutProjRefIdeal.main_v61) = v4 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_SguBwd_SguBwdIdeal : Prop :=
  True

def algebraic_SguBwdIdeal_SguBwdRefIdeal_on_sgu_rows [hSguBwdIdeal : Cert.SguBwdIdeal.Facts] [hSguBwdRefIdeal : Cert.SguBwdRefIdeal.Facts] [hOn_sgu_rows : Cert.On_sgu_rows.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)
      ∧ m' ((c.tc : Thread Cert.SguBwdRefIdeal.nD Cert.SguBwdRefIdeal.τ).loc Cert.SguBwdRefIdeal.main_arg6) = m ((c.tc : Thread Cert.SguBwdIdeal.nD Cert.SguBwdIdeal.τ).loc Cert.SguBwdIdeal.main_arg6)
      ∧ m' ((c.tc : Thread Cert.SguBwdRefIdeal.nD Cert.SguBwdRefIdeal.τ).loc Cert.SguBwdRefIdeal.main_arg7) = m ((c.tc : Thread Cert.SguBwdIdeal.nD Cert.SguBwdIdeal.τ).loc Cert.SguBwdIdeal.main_arg7)
      ∧ m' ((c.tc : Thread Cert.SguBwdRefIdeal.nD Cert.SguBwdRefIdeal.τ).loc Cert.SguBwdRefIdeal.main_arg8) = m ((c.tc : Thread Cert.SguBwdIdeal.nD Cert.SguBwdIdeal.τ).loc Cert.SguBwdIdeal.main_arg8)
      ∧ m' ((c.tc : Thread Cert.SguBwdRefIdeal.nD Cert.SguBwdRefIdeal.τ).loc Cert.SguBwdRefIdeal.main_arg9) = m ((c.tc : Thread Cert.SguBwdIdeal.nD Cert.SguBwdIdeal.τ).loc Cert.SguBwdIdeal.main_arg9)
      ∧ m' ((c.tc : Thread Cert.SguBwdRefIdeal.nD Cert.SguBwdRefIdeal.τ).loc Cert.SguBwdRefIdeal.main_arg10) = m ((c.tc : Thread Cert.SguBwdIdeal.nD Cert.SguBwdIdeal.τ).loc Cert.SguBwdIdeal.main_arg10)
      ∧ m' ((c.tc : Thread Cert.SguBwdRefIdeal.nD Cert.SguBwdRefIdeal.τ).loc Cert.SguBwdRefIdeal.main_arg11) = m ((c.tc : Thread Cert.SguBwdIdeal.nD Cert.SguBwdIdeal.τ).loc Cert.SguBwdIdeal.main_arg11)
      ∧ m' ((c.tc : Thread Cert.SguBwdRefIdeal.nD Cert.SguBwdRefIdeal.τ).loc Cert.SguBwdRefIdeal.main_arg12) = m ((c.tc : Thread Cert.SguBwdIdeal.nD Cert.SguBwdIdeal.τ).loc Cert.SguBwdIdeal.main_arg12)) →
    ∃ (v0 : (c : Dev Cert.SguBwdIdeal.nD) → Buf (Elt Ideal) ((c.tc : Thread Cert.SguBwdIdeal.nD Cert.SguBwdIdeal.τ).loc Cert.SguBwdIdeal.main_v4_1)) (v1 : (c : Dev Cert.SguBwdIdeal.nD) → Buf (Elt Ideal) ((c.tc : Thread Cert.SguBwdIdeal.nD Cert.SguBwdIdeal.τ).loc Cert.SguBwdIdeal.main_v4_2)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          (∀ i : (⟨2, ![40, 1024]⟩ : Shape).Idx, (Cert.On_sgu_rows.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8)) (m ((c.tc : Thread Cert.SguBwdIdeal.nD Cert.SguBwdIdeal.τ).loc Cert.SguBwdIdeal.main_arg9)) (m ((c.tc : Thread Cert.SguBwdIdeal.nD Cert.SguBwdIdeal.τ).loc Cert.SguBwdIdeal.main_arg10)) (m ((c.tc : Thread Cert.SguBwdIdeal.nD Cert.SguBwdIdeal.τ).loc Cert.SguBwdIdeal.main_arg11)) (m ((c.tc : Thread Cert.SguBwdIdeal.nD Cert.SguBwdIdeal.τ).loc Cert.SguBwdIdeal.main_arg12))).1 i = 1#1 → r.2.mem ((c.tc : Thread Cert.SguBwdIdeal.nD Cert.SguBwdIdeal.τ).loc Cert.SguBwdIdeal.main_v4_1) i = v0 c i)
          ∧ (∀ i : (⟨3, ![8, 128, 128]⟩ : Shape).Idx, (Cert.On_sgu_rows.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8)) (m ((c.tc : Thread Cert.SguBwdIdeal.nD Cert.SguBwdIdeal.τ).loc Cert.SguBwdIdeal.main_arg9)) (m ((c.tc : Thread Cert.SguBwdIdeal.nD Cert.SguBwdIdeal.τ).loc Cert.SguBwdIdeal.main_arg10)) (m ((c.tc : Thread Cert.SguBwdIdeal.nD Cert.SguBwdIdeal.τ).loc Cert.SguBwdIdeal.main_arg11)) (m ((c.tc : Thread Cert.SguBwdIdeal.nD Cert.SguBwdIdeal.τ).loc Cert.SguBwdIdeal.main_arg12))).2 i = 1#1 → r.2.mem ((c.tc : Thread Cert.SguBwdIdeal.nD Cert.SguBwdIdeal.τ).loc Cert.SguBwdIdeal.main_v4_2) i = v1 c i)
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
          ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6)
          ∧ r.2.mem ((c.tc : Thread Cert.SguBwdIdeal.nD Cert.SguBwdIdeal.τ).loc Cert.SguBwdIdeal.main_arg7) = m ((c.tc : Thread Cert.SguBwdIdeal.nD Cert.SguBwdIdeal.τ).loc Cert.SguBwdIdeal.main_arg7)
          ∧ r.2.mem ((c.tc : Thread Cert.SguBwdIdeal.nD Cert.SguBwdIdeal.τ).loc Cert.SguBwdIdeal.main_arg8) = m ((c.tc : Thread Cert.SguBwdIdeal.nD Cert.SguBwdIdeal.τ).loc Cert.SguBwdIdeal.main_arg8)
          ∧ r.2.mem ((c.tc : Thread Cert.SguBwdIdeal.nD Cert.SguBwdIdeal.τ).loc Cert.SguBwdIdeal.main_arg9) = m ((c.tc : Thread Cert.SguBwdIdeal.nD Cert.SguBwdIdeal.τ).loc Cert.SguBwdIdeal.main_arg9)
          ∧ r.2.mem ((c.tc : Thread Cert.SguBwdIdeal.nD Cert.SguBwdIdeal.τ).loc Cert.SguBwdIdeal.main_arg10) = m ((c.tc : Thread Cert.SguBwdIdeal.nD Cert.SguBwdIdeal.τ).loc Cert.SguBwdIdeal.main_arg10)
          ∧ r.2.mem ((c.tc : Thread Cert.SguBwdIdeal.nD Cert.SguBwdIdeal.τ).loc Cert.SguBwdIdeal.main_arg11) = m ((c.tc : Thread Cert.SguBwdIdeal.nD Cert.SguBwdIdeal.τ).loc Cert.SguBwdIdeal.main_arg11)
          ∧ r.2.mem ((c.tc : Thread Cert.SguBwdIdeal.nD Cert.SguBwdIdeal.τ).loc Cert.SguBwdIdeal.main_arg12) = m ((c.tc : Thread Cert.SguBwdIdeal.nD Cert.SguBwdIdeal.τ).loc Cert.SguBwdIdeal.main_arg12))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          (∀ i : (⟨2, ![40, 1024]⟩ : Shape).Idx, (Cert.On_sgu_rows.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8)) (m ((c.tc : Thread Cert.SguBwdIdeal.nD Cert.SguBwdIdeal.τ).loc Cert.SguBwdIdeal.main_arg9)) (m ((c.tc : Thread Cert.SguBwdIdeal.nD Cert.SguBwdIdeal.τ).loc Cert.SguBwdIdeal.main_arg10)) (m ((c.tc : Thread Cert.SguBwdIdeal.nD Cert.SguBwdIdeal.τ).loc Cert.SguBwdIdeal.main_arg11)) (m ((c.tc : Thread Cert.SguBwdIdeal.nD Cert.SguBwdIdeal.τ).loc Cert.SguBwdIdeal.main_arg12))).1 i = 1#1 → r.2.mem ((c.tc : Thread Cert.SguBwdRefIdeal.nD Cert.SguBwdRefIdeal.τ).loc Cert.SguBwdRefIdeal.main_v71) i = v0 c i)
          ∧ (∀ i : (⟨3, ![8, 128, 128]⟩ : Shape).Idx, (Cert.On_sgu_rows.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8)) (m ((c.tc : Thread Cert.SguBwdIdeal.nD Cert.SguBwdIdeal.τ).loc Cert.SguBwdIdeal.main_arg9)) (m ((c.tc : Thread Cert.SguBwdIdeal.nD Cert.SguBwdIdeal.τ).loc Cert.SguBwdIdeal.main_arg10)) (m ((c.tc : Thread Cert.SguBwdIdeal.nD Cert.SguBwdIdeal.τ).loc Cert.SguBwdIdeal.main_arg11)) (m ((c.tc : Thread Cert.SguBwdIdeal.nD Cert.SguBwdIdeal.τ).loc Cert.SguBwdIdeal.main_arg12))).2 i = 1#1 → r.2.mem ((c.tc : Thread Cert.SguBwdRefIdeal.nD Cert.SguBwdRefIdeal.τ).loc Cert.SguBwdRefIdeal.main_v52) i = v1 c i)
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5)
          ∧ r.2.mem ((c.tc : Thread Cert.SguBwdRefIdeal.nD Cert.SguBwdRefIdeal.τ).loc Cert.SguBwdRefIdeal.main_arg6) = m' ((c.tc : Thread Cert.SguBwdRefIdeal.nD Cert.SguBwdRefIdeal.τ).loc Cert.SguBwdRefIdeal.main_arg6)
          ∧ r.2.mem ((c.tc : Thread Cert.SguBwdRefIdeal.nD Cert.SguBwdRefIdeal.τ).loc Cert.SguBwdRefIdeal.main_arg7) = m' ((c.tc : Thread Cert.SguBwdRefIdeal.nD Cert.SguBwdRefIdeal.τ).loc Cert.SguBwdRefIdeal.main_arg7)
          ∧ r.2.mem ((c.tc : Thread Cert.SguBwdRefIdeal.nD Cert.SguBwdRefIdeal.τ).loc Cert.SguBwdRefIdeal.main_arg8) = m' ((c.tc : Thread Cert.SguBwdRefIdeal.nD Cert.SguBwdRefIdeal.τ).loc Cert.SguBwdRefIdeal.main_arg8)
          ∧ r.2.mem ((c.tc : Thread Cert.SguBwdRefIdeal.nD Cert.SguBwdRefIdeal.τ).loc Cert.SguBwdRefIdeal.main_arg9) = m' ((c.tc : Thread Cert.SguBwdRefIdeal.nD Cert.SguBwdRefIdeal.τ).loc Cert.SguBwdRefIdeal.main_arg9)
          ∧ r.2.mem ((c.tc : Thread Cert.SguBwdRefIdeal.nD Cert.SguBwdRefIdeal.τ).loc Cert.SguBwdRefIdeal.main_arg10) = m' ((c.tc : Thread Cert.SguBwdRefIdeal.nD Cert.SguBwdRefIdeal.τ).loc Cert.SguBwdRefIdeal.main_arg10)
          ∧ r.2.mem ((c.tc : Thread Cert.SguBwdRefIdeal.nD Cert.SguBwdRefIdeal.τ).loc Cert.SguBwdRefIdeal.main_arg11) = m' ((c.tc : Thread Cert.SguBwdRefIdeal.nD Cert.SguBwdRefIdeal.τ).loc Cert.SguBwdRefIdeal.main_arg11)
          ∧ r.2.mem ((c.tc : Thread Cert.SguBwdRefIdeal.nD Cert.SguBwdRefIdeal.τ).loc Cert.SguBwdRefIdeal.main_arg12) = m' ((c.tc : Thread Cert.SguBwdRefIdeal.nD Cert.SguBwdRefIdeal.τ).loc Cert.SguBwdRefIdeal.main_arg12))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_4)) (v2 : (c : Dev Cert.AdamSmallIdeal.nD) → Buf (Elt Ideal) ((c.tc : Thread Cert.AdamSmallIdeal.nD Cert.AdamSmallIdeal.τ).loc Cert.AdamSmallIdeal.main_v0_8)) (v3 : (c : Dev Cert.AdamSmallIdeal.nD) → Buf (Elt Ideal) ((c.tc : Thread Cert.AdamSmallIdeal.nD Cert.AdamSmallIdeal.τ).loc Cert.AdamSmallIdeal.main_v0_12)) (v4 : (c : Dev Cert.AdamSmallIdeal.nD) → Buf (Elt Ideal) ((c.tc : Thread Cert.AdamSmallIdeal.nD Cert.AdamSmallIdeal.τ).loc Cert.AdamSmallIdeal.main_v0_16)) (v5 : (c : Dev Cert.AdamSmallIdeal.nD) → Buf (Elt Ideal) ((c.tc : Thread Cert.AdamSmallIdeal.nD Cert.AdamSmallIdeal.τ).loc Cert.AdamSmallIdeal.main_v0_20)) (v6 : (c : Dev Cert.AdamSmallIdeal.nD) → Buf (Elt Ideal) ((c.tc : Thread Cert.AdamSmallIdeal.nD Cert.AdamSmallIdeal.τ).loc Cert.AdamSmallIdeal.main_v0_24)) (v7 : (c : Dev Cert.AdamSmallIdeal.nD) → Buf (Elt Ideal) ((c.tc : Thread Cert.AdamSmallIdeal.nD Cert.AdamSmallIdeal.τ).loc Cert.AdamSmallIdeal.main_v0_28)) (v8 : (c : Dev Cert.AdamSmallIdeal.nD) → Buf (Elt Ideal) ((c.tc : Thread Cert.AdamSmallIdeal.nD Cert.AdamSmallIdeal.τ).loc Cert.AdamSmallIdeal.main_v0_32)) (v9 : (c : Dev Cert.AdamSmallIdeal.nD) → Buf (Elt Ideal) ((c.tc : Thread Cert.AdamSmallIdeal.nD Cert.AdamSmallIdeal.τ).loc Cert.AdamSmallIdeal.main_v0_1)) (v10 : (c : Dev Cert.AdamSmallIdeal.nD) → Buf (Elt Ideal) ((c.tc : Thread Cert.AdamSmallIdeal.nD Cert.AdamSmallIdeal.τ).loc Cert.AdamSmallIdeal.main_v0_5)) (v11 : (c : Dev Cert.AdamSmallIdeal.nD) → Buf (Elt Ideal) ((c.tc : Thread Cert.AdamSmallIdeal.nD Cert.AdamSmallIdeal.τ).loc Cert.AdamSmallIdeal.main_v0_9)) (v12 : (c : Dev Cert.AdamSmallIdeal.nD) → Buf (Elt Ideal) ((c.tc : Thread Cert.AdamSmallIdeal.nD Cert.AdamSmallIdeal.τ).loc Cert.AdamSmallIdeal.main_v0_13)) (v13 : (c : Dev Cert.AdamSmallIdeal.nD) → Buf (Elt Ideal) ((c.tc : Thread Cert.AdamSmallIdeal.nD Cert.AdamSmallIdeal.τ).loc Cert.AdamSmallIdeal.main_v0_17)) (v14 : (c : Dev Cert.AdamSmallIdeal.nD) → Buf (Elt Ideal) ((c.tc : Thread Cert.AdamSmallIdeal.nD Cert.AdamSmallIdeal.τ).loc Cert.AdamSmallIdeal.main_v0_21)) (v15 : (c : Dev Cert.AdamSmallIdeal.nD) → Buf (Elt Ideal) ((c.tc : Thread Cert.AdamSmallIdeal.nD Cert.AdamSmallIdeal.τ).loc Cert.AdamSmallIdeal.main_v0_25)) (v16 : (c : Dev Cert.AdamSmallIdeal.nD) → Buf (Elt Ideal) ((c.tc : Thread Cert.AdamSmallIdeal.nD Cert.AdamSmallIdeal.τ).loc Cert.AdamSmallIdeal.main_v0_29)) (v17 : (c : Dev Cert.AdamSmallIdeal.nD) → Buf (Elt Ideal) ((c.tc : Thread Cert.AdamSmallIdeal.nD Cert.AdamSmallIdeal.τ).loc Cert.AdamSmallIdeal.main_v0_33)) (v18 : (c : Dev Cert.AdamSmallIdeal.nD) → Buf (Elt Ideal) ((c.tc : Thread Cert.AdamSmallIdeal.nD Cert.AdamSmallIdeal.τ).loc Cert.AdamSmallIdeal.main_v0_2)) (v19 : (c : Dev Cert.AdamSmallIdeal.nD) → Buf (Elt Ideal) ((c.tc : Thread Cert.AdamSmallIdeal.nD Cert.AdamSmallIdeal.τ).loc Cert.AdamSmallIdeal.main_v0_6)) (v20 : (c : Dev Cert.AdamSmallIdeal.nD) → Buf (Elt Ideal) ((c.tc : Thread Cert.AdamSmallIdeal.nD Cert.AdamSmallIdeal.τ).loc Cert.AdamSmallIdeal.main_v0_10)) (v21 : (c : Dev Cert.AdamSmallIdeal.nD) → Buf (Elt Ideal) ((c.tc : Thread Cert.AdamSmallIdeal.nD Cert.AdamSmallIdeal.τ).loc Cert.AdamSmallIdeal.main_v0_14)) (v22 : (c : Dev Cert.AdamSmallIdeal.nD) → Buf (Elt Ideal) ((c.tc : Thread Cert.AdamSmallIdeal.nD Cert.AdamSmallIdeal.τ).loc Cert.AdamSmallIdeal.main_v0_18)) (v23 : (c : Dev Cert.AdamSmallIdeal.nD) → Buf (Elt Ideal) ((c.tc : Thread Cert.AdamSmallIdeal.nD Cert.AdamSmallIdeal.τ).loc Cert.AdamSmallIdeal.main_v0_22)) (v24 : (c : Dev Cert.AdamSmallIdeal.nD) → Buf (Elt Ideal) ((c.tc : Thread Cert.AdamSmallIdeal.nD Cert.AdamSmallIdeal.τ).loc Cert.AdamSmallIdeal.main_v0_26)) (v25 : (c : Dev Cert.AdamSmallIdeal.nD) → Buf (Elt Ideal) ((c.tc : Thread Cert.AdamSmallIdeal.nD Cert.AdamSmallIdeal.τ).loc Cert.AdamSmallIdeal.main_v0_30)) (v26 : (c : Dev Cert.AdamSmallIdeal.nD) → Buf (Elt Ideal) ((c.tc : Thread Cert.AdamSmallIdeal.nD Cert.AdamSmallIdeal.τ).loc Cert.AdamSmallIdeal.main_v0_34)) (v27 : (c : Dev Cert.AdamSmallIdeal.nD) → Buf (Elt Ideal) ((c.tc : Thread Cert.AdamSmallIdeal.nD Cert.AdamSmallIdeal.τ).loc Cert.AdamSmallIdeal.main_v0_3)) (v28 : (c : Dev Cert.AdamSmallIdeal.nD) → Buf (Elt Ideal) ((c.tc : Thread Cert.AdamSmallIdeal.nD Cert.AdamSmallIdeal.τ).loc Cert.AdamSmallIdeal.main_v0_7)) (v29 : (c : Dev Cert.AdamSmallIdeal.nD) → Buf (Elt Ideal) ((c.tc : Thread Cert.AdamSmallIdeal.nD Cert.AdamSmallIdeal.τ).loc Cert.AdamSmallIdeal.main_v0_11)) (v30 : (c : Dev Cert.AdamSmallIdeal.nD) → Buf (Elt Ideal) ((c.tc : Thread Cert.AdamSmallIdeal.nD Cert.AdamSmallIdeal.τ).loc Cert.AdamSmallIdeal.main_v0_15)) (v31 : (c : Dev Cert.AdamSmallIdeal.nD) → Buf (Elt Ideal) ((c.tc : Thread Cert.AdamSmallIdeal.nD Cert.AdamSmallIdeal.τ).loc Cert.AdamSmallIdeal.main_v0_19)) (v32 : (c : Dev Cert.AdamSmallIdeal.nD) → Buf (Elt Ideal) ((c.tc : Thread Cert.AdamSmallIdeal.nD Cert.AdamSmallIdeal.τ).loc Cert.AdamSmallIdeal.main_v0_23)) (v33 : (c : Dev Cert.AdamSmallIdeal.nD) → Buf (Elt Ideal) ((c.tc : Thread Cert.AdamSmallIdeal.nD Cert.AdamSmallIdeal.τ).loc Cert.AdamSmallIdeal.main_v0_27)) (v34 : (c : Dev Cert.AdamSmallIdeal.nD) → Buf (Elt Ideal) ((c.tc : Thread Cert.AdamSmallIdeal.nD Cert.AdamSmallIdeal.τ).loc Cert.AdamSmallIdeal.main_v0_31)) (v35 : (c : Dev Cert.AdamSmallIdeal.nD) → Buf (Elt Ideal) ((c.tc : Thread Cert.AdamSmallIdeal.nD Cert.AdamSmallIdeal.τ).loc Cert.AdamSmallIdeal.main_v0_35)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_4) = v1 c
          ∧ r.2.mem ((c.tc : Thread Cert.AdamSmallIdeal.nD Cert.AdamSmallIdeal.τ).loc Cert.AdamSmallIdeal.main_v0_8) = v2 c
          ∧ r.2.mem ((c.tc : Thread Cert.AdamSmallIdeal.nD Cert.AdamSmallIdeal.τ).loc Cert.AdamSmallIdeal.main_v0_12) = v3 c
          ∧ r.2.mem ((c.tc : Thread Cert.AdamSmallIdeal.nD Cert.AdamSmallIdeal.τ).loc Cert.AdamSmallIdeal.main_v0_16) = v4 c
          ∧ r.2.mem ((c.tc : Thread Cert.AdamSmallIdeal.nD Cert.AdamSmallIdeal.τ).loc Cert.AdamSmallIdeal.main_v0_20) = v5 c
          ∧ r.2.mem ((c.tc : Thread Cert.AdamSmallIdeal.nD Cert.AdamSmallIdeal.τ).loc Cert.AdamSmallIdeal.main_v0_24) = v6 c
          ∧ r.2.mem ((c.tc : Thread Cert.AdamSmallIdeal.nD Cert.AdamSmallIdeal.τ).loc Cert.AdamSmallIdeal.main_v0_28) = v7 c
          ∧ r.2.mem ((c.tc : Thread Cert.AdamSmallIdeal.nD Cert.AdamSmallIdeal.τ).loc Cert.AdamSmallIdeal.main_v0_32) = v8 c
          ∧ r.2.mem ((c.tc : Thread Cert.AdamSmallIdeal.nD Cert.AdamSmallIdeal.τ).loc Cert.AdamSmallIdeal.main_v0_1) = v9 c
          ∧ r.2.mem ((c.tc : Thread Cert.AdamSmallIdeal.nD Cert.AdamSmallIdeal.τ).loc Cert.AdamSmallIdeal.main_v0_5) = v10 c
          ∧ r.2.mem ((c.tc : Thread Cert.AdamSmallIdeal.nD Cert.AdamSmallIdeal.τ).loc Cert.AdamSmallIdeal.main_v0_9) = v11 c
          ∧ r.2.mem ((c.tc : Thread Cert.AdamSmallIdeal.nD Cert.AdamSmallIdeal.τ).loc Cert.AdamSmallIdeal.main_v0_13) = v12 c
          ∧ r.2.mem ((c.tc : Thread Cert.AdamSmallIdeal.nD Cert.AdamSmallIdeal.τ).loc Cert.AdamSmallIdeal.main_v0_17) = v13 c
          ∧ r.2.mem ((c.tc : Thread Cert.AdamSmallIdeal.nD Cert.AdamSmallIdeal.τ).loc Cert.AdamSmallIdeal.main_v0_21) = v14 c
          ∧ r.2.mem ((c.tc : Thread Cert.AdamSmallIdeal.nD Cert.AdamSmallIdeal.τ).loc Cert.AdamSmallIdeal.main_v0_25) = v15 c
          ∧ r.2.mem ((c.tc : Thread Cert.AdamSmallIdeal.nD Cert.AdamSmallIdeal.τ).loc Cert.AdamSmallIdeal.main_v0_29) = v16 c
          ∧ r.2.mem ((c.tc : Thread Cert.AdamSmallIdeal.nD Cert.AdamSmallIdeal.τ).loc Cert.AdamSmallIdeal.main_v0_33) = v17 c
          ∧ r.2.mem ((c.tc : Thread Cert.AdamSmallIdeal.nD Cert.AdamSmallIdeal.τ).loc Cert.AdamSmallIdeal.main_v0_2) = v18 c
          ∧ r.2.mem ((c.tc : Thread Cert.AdamSmallIdeal.nD Cert.AdamSmallIdeal.τ).loc Cert.AdamSmallIdeal.main_v0_6) = v19 c
          ∧ r.2.mem ((c.tc : Thread Cert.AdamSmallIdeal.nD Cert.AdamSmallIdeal.τ).loc Cert.AdamSmallIdeal.main_v0_10) = v20 c
          ∧ r.2.mem ((c.tc : Thread Cert.AdamSmallIdeal.nD Cert.AdamSmallIdeal.τ).loc Cert.AdamSmallIdeal.main_v0_14) = v21 c
          ∧ r.2.mem ((c.tc : Thread Cert.AdamSmallIdeal.nD Cert.AdamSmallIdeal.τ).loc Cert.AdamSmallIdeal.main_v0_18) = v22 c
          ∧ r.2.mem ((c.tc : Thread Cert.AdamSmallIdeal.nD Cert.AdamSmallIdeal.τ).loc Cert.AdamSmallIdeal.main_v0_22) = v23 c
          ∧ r.2.mem ((c.tc : Thread Cert.AdamSmallIdeal.nD Cert.AdamSmallIdeal.τ).loc Cert.AdamSmallIdeal.main_v0_26) = v24 c
          ∧ r.2.mem ((c.tc : Thread Cert.AdamSmallIdeal.nD Cert.AdamSmallIdeal.τ).loc Cert.AdamSmallIdeal.main_v0_30) = v25 c
          ∧ r.2.mem ((c.tc : Thread Cert.AdamSmallIdeal.nD Cert.AdamSmallIdeal.τ).loc Cert.AdamSmallIdeal.main_v0_34) = v26 c
          ∧ r.2.mem ((c.tc : Thread Cert.AdamSmallIdeal.nD Cert.AdamSmallIdeal.τ).loc Cert.AdamSmallIdeal.main_v0_3) = v27 c
          ∧ r.2.mem ((c.tc : Thread Cert.AdamSmallIdeal.nD Cert.AdamSmallIdeal.τ).loc Cert.AdamSmallIdeal.main_v0_7) = v28 c
          ∧ r.2.mem ((c.tc : Thread Cert.AdamSmallIdeal.nD Cert.AdamSmallIdeal.τ).loc Cert.AdamSmallIdeal.main_v0_11) = v29 c
          ∧ r.2.mem ((c.tc : Thread Cert.AdamSmallIdeal.nD Cert.AdamSmallIdeal.τ).loc Cert.AdamSmallIdeal.main_v0_15) = v30 c
          ∧ r.2.mem ((c.tc : Thread Cert.AdamSmallIdeal.nD Cert.AdamSmallIdeal.τ).loc Cert.AdamSmallIdeal.main_v0_19) = v31 c
          ∧ r.2.mem ((c.tc : Thread Cert.AdamSmallIdeal.nD Cert.AdamSmallIdeal.τ).loc Cert.AdamSmallIdeal.main_v0_23) = v32 c
          ∧ r.2.mem ((c.tc : Thread Cert.AdamSmallIdeal.nD Cert.AdamSmallIdeal.τ).loc Cert.AdamSmallIdeal.main_v0_27) = v33 c
          ∧ r.2.mem ((c.tc : Thread Cert.AdamSmallIdeal.nD Cert.AdamSmallIdeal.τ).loc Cert.AdamSmallIdeal.main_v0_31) = v34 c
          ∧ r.2.mem ((c.tc : Thread Cert.AdamSmallIdeal.nD Cert.AdamSmallIdeal.τ).loc Cert.AdamSmallIdeal.main_v0_35) = v35 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v8) = v0 c
          ∧ r.2.mem ((c.tc : Thread Cert.AdamSmallRefIdeal.nD Cert.AdamSmallRefIdeal.τ).loc Cert.AdamSmallRefIdeal.main_v9) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_v12) = v4 c
          ∧ r.2.mem ((c.tc : Thread Cert.AdamSmallRefIdeal.nD Cert.AdamSmallRefIdeal.τ).loc Cert.AdamSmallRefIdeal.main_v13) = v5 c
          ∧ r.2.mem ((c.tc : Thread Cert.AdamSmallRefIdeal.nD Cert.AdamSmallRefIdeal.τ).loc Cert.AdamSmallRefIdeal.main_arg2) = v6 c
          ∧ r.2.mem ((c.tc : Thread Cert.AdamSmallRefIdeal.nD Cert.AdamSmallRefIdeal.τ).loc Cert.AdamSmallRefIdeal.main_v14) = v7 c
          ∧ r.2.mem ((c.tc : Thread Cert.AdamSmallRefIdeal.nD Cert.AdamSmallRefIdeal.τ).loc Cert.AdamSmallRefIdeal.main_v15) = v8 c
          ∧ r.2.mem ((c.tc : Thread Cert.AdamSmallRefIdeal.nD Cert.AdamSmallRefIdeal.τ).loc Cert.AdamSmallRefIdeal.main_v39) = v9 c
          ∧ r.2.mem ((c.tc : Thread Cert.AdamSmallRefIdeal.nD Cert.AdamSmallRefIdeal.τ).loc Cert.AdamSmallRefIdeal.main_v63) = v10 c
          ∧ r.2.mem ((c.tc : Thread Cert.AdamSmallRefIdeal.nD Cert.AdamSmallRefIdeal.τ).loc Cert.AdamSmallRefIdeal.main_v87) = v11 c
          ∧ r.2.mem ((c.tc : Thread Cert.AdamSmallRefIdeal.nD Cert.AdamSmallRefIdeal.τ).loc Cert.AdamSmallRefIdeal.main_v111) = v12 c
          ∧ r.2.mem ((c.tc : Thread Cert.AdamSmallRefIdeal.nD Cert.AdamSmallRefIdeal.τ).loc Cert.AdamSmallRefIdeal.main_v135) = v13 c
          ∧ r.2.mem ((c.tc : Thread Cert.AdamSmallRefIdeal.nD Cert.AdamSmallRefIdeal.τ).loc Cert.AdamSmallRefIdeal.main_v159) = v14 c
          ∧ r.2.mem ((c.tc : Thread Cert.AdamSmallRefIdeal.nD Cert.AdamSmallRefIdeal.τ).loc Cert.AdamSmallRefIdeal.main_v183) = v15 c
          ∧ r.2.mem ((c.tc : Thread Cert.AdamSmallRefIdeal.nD Cert.AdamSmallRefIdeal.τ).loc Cert.AdamSmallRefIdeal.main_v207) = v16 c
          ∧ r.2.mem ((c.tc : Thread Cert.AdamSmallRefIdeal.nD Cert.AdamSmallRefIdeal.τ).loc Cert.AdamSmallRefIdeal.main_v231) = v17 c
          ∧ r.2.mem ((c.tc : Thread Cert.AdamSmallRefIdeal.nD Cert.AdamSmallRefIdeal.τ).loc Cert.AdamSmallRefIdeal.main_v20) = v18 c
          ∧ r.2.mem ((c.tc : Thread Cert.AdamSmallRefIdeal.nD Cert.AdamSmallRefIdeal.τ).loc Cert.AdamSmallRefIdeal.main_v44) = v19 c
          ∧ r.2.mem ((c.tc : Thread Cert.AdamSmallRefIdeal.nD Cert.AdamSmallRefIdeal.τ).loc Cert.AdamSmallRefIdeal.main_v68) = v20 c
          ∧ r.2.mem ((c.tc : Thread Cert.AdamSmallRefIdeal.nD Cert.AdamSmallRefIdeal.τ).loc Cert.AdamSmallRefIdeal.main_v92) = v21 c
          ∧ r.2.mem ((c.tc : Thread Cert.AdamSmallRefIdeal.nD Cert.AdamSmallRefIdeal.τ).loc Cert.AdamSmallRefIdeal.main_v116) = v22 c
          ∧ r.2.mem ((c.tc : Thread Cert.AdamSmallRefIdeal.nD Cert.AdamSmallRefIdeal.τ).loc Cert.AdamSmallRefIdeal.main_v140) = v23 c
          ∧ r.2.mem ((c.tc : Thread Cert.AdamSmallRefIdeal.nD Cert.AdamSmallRefIdeal.τ).loc Cert.AdamSmallRefIdeal.main_v164) = v24 c
          ∧ r.2.mem ((c.tc : Thread Cert.AdamSmallRefIdeal.nD Cert.AdamSmallRefIdeal.τ).loc Cert.AdamSmallRefIdeal.main_v188) = v25 c
          ∧ r.2.mem ((c.tc : Thread Cert.AdamSmallRefIdeal.nD Cert.AdamSmallRefIdeal.τ).loc Cert.AdamSmallRefIdeal.main_v212) = v26 c
          ∧ r.2.mem ((c.tc : Thread Cert.AdamSmallRefIdeal.nD Cert.AdamSmallRefIdeal.τ).loc Cert.AdamSmallRefIdeal.main_v26) = v27 c
          ∧ r.2.mem ((c.tc : Thread Cert.AdamSmallRefIdeal.nD Cert.AdamSmallRefIdeal.τ).loc Cert.AdamSmallRefIdeal.main_v50) = v28 c
          ∧ r.2.mem ((c.tc : Thread Cert.AdamSmallRefIdeal.nD Cert.AdamSmallRefIdeal.τ).loc Cert.AdamSmallRefIdeal.main_v74) = v29 c
          ∧ r.2.mem ((c.tc : Thread Cert.AdamSmallRefIdeal.nD Cert.AdamSmallRefIdeal.τ).loc Cert.AdamSmallRefIdeal.main_v98) = v30 c
          ∧ r.2.mem ((c.tc : Thread Cert.AdamSmallRefIdeal.nD Cert.AdamSmallRefIdeal.τ).loc Cert.AdamSmallRefIdeal.main_v122) = v31 c
          ∧ r.2.mem ((c.tc : Thread Cert.AdamSmallRefIdeal.nD Cert.AdamSmallRefIdeal.τ).loc Cert.AdamSmallRefIdeal.main_v146) = v32 c
          ∧ r.2.mem ((c.tc : Thread Cert.AdamSmallRefIdeal.nD Cert.AdamSmallRefIdeal.τ).loc Cert.AdamSmallRefIdeal.main_v170) = v33 c
          ∧ r.2.mem ((c.tc : Thread Cert.AdamSmallRefIdeal.nD Cert.AdamSmallRefIdeal.τ).loc Cert.AdamSmallRefIdeal.main_v194) = v34 c
          ∧ r.2.mem ((c.tc : Thread Cert.AdamSmallRefIdeal.nD Cert.AdamSmallRefIdeal.τ).loc Cert.AdamSmallRefIdeal.main_v218) = v35 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)
      ∧ m' ((c.tc : Thread Cert.AdamNormRefIdeal.nD Cert.AdamNormRefIdeal.τ).loc Cert.AdamNormRefIdeal.main_arg4) = m ((c.tc : Thread Cert.AdamNormIdeal.nD Cert.AdamNormIdeal.τ).loc Cert.AdamNormIdeal.main_arg4)
      ∧ m' ((c.tc : Thread Cert.AdamNormRefIdeal.nD Cert.AdamNormRefIdeal.τ).loc Cert.AdamNormRefIdeal.main_arg5) = m ((c.tc : Thread Cert.AdamNormIdeal.nD Cert.AdamNormIdeal.τ).loc Cert.AdamNormIdeal.main_arg5)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3)
          ∧ r.2.mem ((c.tc : Thread Cert.AdamNormIdeal.nD Cert.AdamNormIdeal.τ).loc Cert.AdamNormIdeal.main_arg4) = m ((c.tc : Thread Cert.AdamNormIdeal.nD Cert.AdamNormIdeal.τ).loc Cert.AdamNormIdeal.main_arg4)
          ∧ r.2.mem ((c.tc : Thread Cert.AdamNormIdeal.nD Cert.AdamNormIdeal.τ).loc Cert.AdamNormIdeal.main_arg5) = m ((c.tc : Thread Cert.AdamNormIdeal.nD Cert.AdamNormIdeal.τ).loc Cert.AdamNormIdeal.main_arg5))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v8) = v0 c
          ∧ r.2.mem ((c.tc : Thread Cert.AdamNormRefIdeal.nD Cert.AdamNormRefIdeal.τ).loc Cert.AdamNormRefIdeal.main_v32) = v1 c
          ∧ r.2.mem ((c.tc : Thread Cert.AdamNormRefIdeal.nD Cert.AdamNormRefIdeal.τ).loc Cert.AdamNormRefIdeal.main_v13) = v2 c
          ∧ r.2.mem ((c.tc : Thread Cert.AdamNormRefIdeal.nD Cert.AdamNormRefIdeal.τ).loc Cert.AdamNormRefIdeal.main_v19) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3)
          ∧ r.2.mem ((c.tc : Thread Cert.AdamNormRefIdeal.nD Cert.AdamNormRefIdeal.τ).loc Cert.AdamNormRefIdeal.main_arg4) = m' ((c.tc : Thread Cert.AdamNormRefIdeal.nD Cert.AdamNormRefIdeal.τ).loc Cert.AdamNormRefIdeal.main_arg4)
          ∧ r.2.mem ((c.tc : Thread Cert.AdamNormRefIdeal.nD Cert.AdamNormRefIdeal.τ).loc Cert.AdamNormRefIdeal.main_arg5) = m' ((c.tc : Thread Cert.AdamNormRefIdeal.nD Cert.AdamNormRefIdeal.τ).loc Cert.AdamNormRefIdeal.main_arg5))

def Claim : Prop :=
  ∃ (hGradWIn : Cert.GradWIn.Facts) (hGradWInIdeal : Cert.GradWInIdeal.Facts) (hGradWInRefIdeal : Cert.GradWInRefIdeal.Facts) (hInBwdFirst : Cert.InBwdFirst.Facts) (hInBwdFirstIdeal : Cert.InBwdFirstIdeal.Facts) (hInBwdFirstRefIdeal : Cert.InBwdFirstRefIdeal.Facts) (hInBwdSecond : Cert.InBwdSecond.Facts) (hInBwdSecondIdeal : Cert.InBwdSecondIdeal.Facts) (hInBwdSecondRefIdeal : Cert.InBwdSecondRefIdeal.Facts) (hOutProj : Cert.OutProj.Facts) (hOutProjIdeal : Cert.OutProjIdeal.Facts) (hOutProjRefIdeal : Cert.OutProjRefIdeal.Facts) (hSguBwd : Cert.SguBwd.Facts) (hSguBwdIdeal : Cert.SguBwdIdeal.Facts) (hSguBwdRefIdeal : Cert.SguBwdRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hAdamNorm : Cert.AdamNorm.Facts) (hAdamNormIdeal : Cert.AdamNormIdeal.Facts) (hAdamNormRefIdeal : Cert.AdamNormRefIdeal.Facts) (hOn_first_half : Cert.On_first_half.Facts) (hOn_sgu_rows : Cert.On_sgu_rows.Facts),
    quiescent_GradWIn (hGradWIn := hGradWIn)
    ∧ quiescent_GradWInIdeal (hGradWInIdeal := hGradWInIdeal)
    ∧ quiescent_GradWInRefIdeal (hGradWInRefIdeal := hGradWInRefIdeal)
    ∧ quiescent_InBwdFirst (hInBwdFirst := hInBwdFirst)
    ∧ quiescent_InBwdFirstIdeal (hInBwdFirstIdeal := hInBwdFirstIdeal)
    ∧ quiescent_InBwdFirstRefIdeal (hInBwdFirstRefIdeal := hInBwdFirstRefIdeal)
    ∧ quiescent_InBwdSecond (hInBwdSecond := hInBwdSecond)
    ∧ quiescent_InBwdSecondIdeal (hInBwdSecondIdeal := hInBwdSecondIdeal)
    ∧ quiescent_InBwdSecondRefIdeal (hInBwdSecondRefIdeal := hInBwdSecondRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_SguBwd (hSguBwd := hSguBwd)
    ∧ quiescent_SguBwdIdeal (hSguBwdIdeal := hSguBwdIdeal)
    ∧ quiescent_SguBwdRefIdeal (hSguBwdRefIdeal := hSguBwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ preserves_GradWIn_GradWInIdeal
    ∧ algebraic_GradWInIdeal_GradWInRefIdeal (hGradWInIdeal := hGradWInIdeal) (hGradWInRefIdeal := hGradWInRefIdeal)
    ∧ preserves_InBwdFirst_InBwdFirstIdeal
    ∧ algebraic_InBwdFirstIdeal_InBwdFirstRefIdeal_on_first_half (hInBwdFirstIdeal := hInBwdFirstIdeal) (hInBwdFirstRefIdeal := hInBwdFirstRefIdeal) (hOn_first_half := hOn_first_half)
    ∧ preserves_InBwdSecond_InBwdSecondIdeal
    ∧ algebraic_InBwdSecondIdeal_InBwdSecondRefIdeal (hInBwdSecondIdeal := hInBwdSecondIdeal) (hInBwdSecondRefIdeal := hInBwdSecondRefIdeal)
    ∧ preserves_OutProj_OutProjIdeal
    ∧ algebraic_OutProjIdeal_OutProjRefIdeal (hOutProjIdeal := hOutProjIdeal) (hOutProjRefIdeal := hOutProjRefIdeal)
    ∧ preserves_SguBwd_SguBwdIdeal
    ∧ algebraic_SguBwdIdeal_SguBwdRefIdeal_on_sgu_rows (hSguBwdIdeal := hSguBwdIdeal) (hSguBwdRefIdeal := hSguBwdRefIdeal) (hOn_sgu_rows := hOn_sgu_rows)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamNorm_AdamNormIdeal
    ∧ algebraic_AdamNormIdeal_AdamNormRefIdeal (hAdamNormIdeal := hAdamNormIdeal) (hAdamNormRefIdeal := hAdamNormRefIdeal)
-- ==== On_first_half.lean ====
abbrev S8192x6144 : Shape := ⟨2, ![8192, 6144]⟩
abbrev S8192x1024 : Shape := ⟨2, ![8192, 1024]⟩
abbrev S1x1024 : Shape := ⟨2, ![1, 1024]⟩
abbrev S1024x6144 : Shape := ⟨2, ![1024, 6144]⟩
abbrev S8x128 : Shape := ⟨2, ![8, 128]⟩
abbrev S_ : Shape := ⟨0, ![]⟩
abbrev S8x1024 : Shape := ⟨2, ![8, 1024]⟩

class Facts : Prop where
  bcast_S_S8192x1024 : S_.BroadcastsInDim S8192x1024 (![] : Fin 0 → Fin S8192x1024.rank)
  bcast_S_S8x1024 : S_.BroadcastsInDim S8x1024 (![] : Fin 0 → Fin S8x1024.rank)

variable [Facts]

def fn {F : FTy → Type} [FloatOps F] (main_arg0 : FVec F S8192x6144 .bf16) (main_arg1 : FVec F S8192x1024 .f32) (main_arg2 : FVec F S8192x1024 .f32) (main_arg3 : FVec F S1x1024 .f32) (main_arg4 : FVec F S1024x6144 .bf16) (main_arg5 : FVec F S8x128 .f32) : IVec S8192x1024 1 × IVec S8x1024 1 :=
  let main_v0 : IVec S8192x1024 32 := iotaInDim S8192x1024 32 0
  let main_c : IVec S_ 32 := constantI S_ 32 4096#32
  let main_v1 : IVec S8192x1024 32 := broadcastInDim S8192x1024 ![] bcast_S_S8192x1024 main_c
  let main_v2 : IVec S8192x1024 1 := cmpi .slt main_v0 main_v1
  let main_v3 : IVec S8x1024 32 := iotaInDim S8x1024 32 0
  let main_c_0 : IVec S_ 32 := constantI S_ 32 0#32
  let main_v4 : IVec S8x1024 32 := broadcastInDim S8x1024 ![] bcast_S_S8x1024 main_c_0
  let main_v5 : IVec S8x1024 1 := cmpi .sge main_v3 main_v4
  (main_v2, main_v5)
-- ==== On_sgu_rows.lean ====
abbrev S8192x6144 : Shape := ⟨2, ![8192, 6144]⟩
abbrev S8192x2048 : Shape := ⟨2, ![8192, 2048]⟩
abbrev S8192x1024 : Shape := ⟨2, ![8192, 1024]⟩
abbrev S4x31x256 : Shape := ⟨3, ![4, 31, 256]⟩
abbrev S1x1024 : Shape := ⟨2, ![1, 1024]⟩
abbrev S1x8x128x128 : Shape := ⟨4, ![1, 8, 128, 128]⟩
abbrev S1x8x128 : Shape := ⟨3, ![1, 8, 128]⟩
abbrev S8x1024 : Shape := ⟨2, ![8, 1024]⟩
abbrev S8x128 : Shape := ⟨2, ![8, 128]⟩
abbrev S40x1024 : Shape := ⟨2, ![40, 1024]⟩
abbrev S_ : Shape := ⟨0, ![]⟩
abbrev S8x128x128 : Shape := ⟨3, ![8, 128, 128]⟩

class Facts : Prop where
  bcast_S_S40x1024 : S_.BroadcastsInDim S40x1024 (![] : Fin 0 → Fin S40x1024.rank)
  bcast_S_S8x128x128 : S_.BroadcastsInDim S8x128x128 (![] : Fin 0 → Fin S8x128x128.rank)

variable [Facts]

def fn {F : FTy → Type} [FloatOps F] (main_arg0 : FVec F S8192x6144 .bf16) (main_arg1 : FVec F S8192x2048 .bf16) (main_arg2 : FVec F S8192x1024 .f32) (main_arg3 : FVec F S4x31x256 .f32) (main_arg4 : FVec F S1x1024 .f32) (main_arg5 : FVec F S1x1024 .f32) (main_arg6 : FVec F S1x1024 .f32) (main_arg7 : FVec F S1x1024 .f32) (main_arg8 : FVec F S1x8x128x128 .f32) (main_arg9 : FVec F S1x8x128 .f32) (main_arg10 : FVec F S8x1024 .f32) (main_arg11 : FVec F S8x1024 .f32) (main_arg12 : FVec F S8x128 .f32) : IVec S40x1024 1 × IVec S8x128x128 1 :=
  let main_v0 : IVec S40x1024 32 := iotaInDim S40x1024 32 0
  let main_c : IVec S_ 32 := constantI S_ 32 0#32
  let main_v1 : IVec S40x1024 32 := broadcastInDim S40x1024 ![] bcast_S_S40x1024 main_c
  let main_v2 : IVec S40x1024 1 := cmpi .eq main_v0 main_v1
  let main_c_0 : IVec S_ 32 := constantI S_ 32 4#32
  let main_v3 : IVec S40x1024 32 := broadcastInDim S40x1024 ![] bcast_S_S40x1024 main_c_0
  let main_v4 : IVec S40x1024 1 := cmpi .sge main_v0 main_v3
  let main_c_1 : IVec S_ 32 := constantI S_ 32 7#32
  let main_v5 : IVec S40x1024 32 := broadcastInDim S40x1024 ![] bcast_S_S40x1024 main_c_1
  let main_v6 : IVec S40x1024 1 := cmpi .sle main_v0 main_v5
  let main_v7 : IVec S40x1024 1 := andi main_v4 main_v6
  let main_v8 : IVec S40x1024 1 := ori main_v2 main_v7
  let main_v9 : IVec S8x128x128 32 := iotaInDim S8x128x128 32 0
  let main_c_2 : IVec S_ 32 := constantI S_ 32 0#32
  let main_v10 : IVec S8x128x128 32 := broadcastInDim S8x128x128 ![] bcast_S_S8x128x128 main_c_2
  let main_v11 : IVec S8x128x128 1 := cmpi .sge main_v9 main_v10
  (main_v8, main_v11)
-- ==== GradWIn.lean ====
abbrev S8192x1024 : Shape := ⟨2, ![8192, 1024]⟩
abbrev S8192x6144 : Shape := ⟨2, ![8192, 6144]⟩
abbrev S8x128 : Shape := ⟨2, ![8, 128]⟩
abbrev S4x2x512x1536 : Shape := ⟨4, ![4, 2, 512, 1536]⟩
abbrev S2048x1024 : Shape := ⟨2, ![2048, 1024]⟩
abbrev S2048x1536 : Shape := ⟨2, ![2048, 1536]⟩
abbrev S1x2x512x1536 : Shape := ⟨4, ![1, 2, 512, 1536]⟩
abbrev S2x512x1536 : Shape := ⟨3, ![2, 512, 1536]⟩
abbrev S1024x1536 : Shape := ⟨2, ![1024, 1536]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8x128, .f32⟩
  | .hbm, ⟨3, _⟩ => ⟨S4x2x512x1536, .f32⟩
  | .hbm, ⟨4, _⟩ => ⟨S4x2x512x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S8x128, .f32⟩
  | .local _ .vmem, ⟨5, _⟩ => ⟨S1x2x512x1536, .f32⟩
  | .local _ .vmem, ⟨6, _⟩ => ⟨S1x2x512x1536, .f32⟩
  | .local _ .vmem, ⟨7, _⟩ => ⟨S1x2x512x1536, .bf16⟩
  | .local _ .vmem, ⟨8, _⟩ => ⟨S1x2x512x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_12 : BitVec 32 := 0#32
  let v15 : BitVec 1 := Scalar.cmpi .ne v14 c0_i32_12
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GradWInRefIdeal.lean ====
abbrev S8192x1024 : Shape := ⟨2, ![8192, 1024]⟩
abbrev S8192x6144 : Shape := ⟨2, ![8192, 6144]⟩
abbrev S8x128 : Shape := ⟨2, ![8, 128]⟩
abbrev S_ : Shape := ⟨0, ![]⟩
abbrev S1024x6144 : Shape := ⟨2, ![1024, 6144]⟩
abbrev S6144x1024 : Shape := ⟨2, ![6144, 1024]⟩
abbrev S2x512x4x1536 : Shape := ⟨4, ![2, 512, 4, 1536]⟩
abbrev S4x2x512x1536 : Shape := ⟨4, ![4, 2, 512, 1536]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8x128, .f32⟩
  | .hbm, ⟨3, _⟩ => ⟨S8192x1024, .f32⟩
  | .hbm, ⟨4, _⟩ => ⟨S8192x6144, .f32⟩
  | .hbm, ⟨5, _⟩ => ⟨S_, .f32⟩
  | .hbm, ⟨6, _⟩ => ⟨S1024x6144, .f32⟩
  | .hbm, ⟨7, _⟩ => ⟨S8192x6144, .f32⟩
  | .hbm, ⟨8, _⟩ => ⟨S6144x1024, .f32⟩
  | .hbm, ⟨9, _⟩ => ⟨S1024x6144, .f32⟩
  | .hbm, ⟨10, _⟩ => ⟨S2x512x4x1536, .f32⟩
  | .hbm, ⟨11, _⟩ => ⟨S4x2x512x1536, .f32⟩
  | .hbm, ⟨12, _⟩ => ⟨S4x2x512x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InBwdFirst.lean ====
abbrev S8192x6144 : Shape := ⟨2, ![8192, 6144]⟩
abbrev S8192x1024 : Shape := ⟨2, ![8192, 1024]⟩
abbrev S1x1024 : Shape := ⟨2, ![1, 1024]⟩
abbrev S1024x6144 : Shape := ⟨2, ![1024, 6144]⟩
abbrev S8x128 : Shape := ⟨2, ![8, 128]⟩
abbrev S1024x4x1536 : Shape := ⟨3, ![1024, 4, 1536]⟩
abbrev S4x1024x1536 : Shape := ⟨3, ![4, 1024, 1536]⟩
abbrev S8x1024 : Shape := ⟨2, ![8, 1024]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x6144, .bf16⟩
  | .hbm, ⟨5, _⟩ => ⟨S8x128, .f32⟩
  | .hbm, ⟨6, _⟩ => ⟨S1024x4x1536, .bf16⟩
  | .hbm, ⟨7, _⟩ => ⟨S4x1024x1536, .bf16⟩
  | .hbm, ⟨8, _⟩ => ⟨S8192x1024, .f32⟩
  | .hbm, ⟨9, _⟩ => ⟨S8x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_36 : BitVec 32 := 0#32
  let v61 : BitVec 1 := Scalar.cmpi .ne v60 c0_i32_36
  v61

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdFirstRefIdeal.lean ====
abbrev S8192x6144 : Shape := ⟨2, ![8192, 6144]⟩
abbrev S8192x1024 : Shape := ⟨2, ![8192, 1024]⟩
abbrev S1x1024 : Shape := ⟨2, ![1, 1024]⟩
abbrev S1024x6144 : Shape := ⟨2, ![1024, 6144]⟩
abbrev S8x128 : Shape := ⟨2, ![8, 128]⟩
abbrev S4096x6144 : Shape := ⟨2, ![4096, 6144]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x6144, .bf16⟩
  | .hbm, ⟨5, _⟩ => ⟨S8x128, .f32⟩
  | .hbm, ⟨6, _⟩ => ⟨S4096x6144, .bf16⟩
  | .hbm, ⟨7, _⟩ => ⟨S4096x1024, .f32⟩
  | .hbm, ⟨8, _⟩ => ⟨S4096x1024, .f32⟩
  | .hbm, ⟨9, _⟩ => ⟨S1024x6144, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x6144, .f32⟩
  | .hbm, ⟨32, _⟩ => ⟨S4096x6144, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S8192x1024, .f32⟩
  | .hbm, ⟨64, _⟩ => ⟨S8x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== InBwdSecond.lean ====
abbrev S8192x6144 : Shape := ⟨2, ![8192, 6144]⟩
abbrev S8192x1024 : Shape := ⟨2, ![8192, 1024]⟩
abbrev S1x1024 : Shape := ⟨2, ![1, 1024]⟩
abbrev S1024x6144 : Shape := ⟨2, ![1024, 6144]⟩
abbrev S8x128 : Shape := ⟨2, ![8, 128]⟩
abbrev S8x1024 : Shape := ⟨2, ![8, 1024]⟩
abbrev S1024x4x1536 : Shape := ⟨3, ![1024, 4, 1536]⟩
abbrev S4x1024x1536 : Shape := ⟨3, ![4, 1024, 1536]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x6144, .bf16⟩
  | .hbm, ⟨5, _⟩ => ⟨S8x128, .f32⟩
  | .hbm, ⟨6, _⟩ => ⟨S8192x1024, .f32⟩
  | .hbm, ⟨7, _⟩ => ⟨S8x1024, .f32⟩
  | .hbm, ⟨8, _⟩ => ⟨S1024x4x1536, .bf16⟩
  | .hbm, ⟨9, _⟩ => ⟨S4x1024x1536, .bf16⟩
  | .hbm, ⟨10, _⟩ => ⟨S8192x1024, .f32⟩
  | .hbm, ⟨11, _⟩ => ⟨S8x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_36 : BitVec 32 := 0#32
  let v61 : BitVec 1 := Scalar.cmpi .ne v60 c0_i32_36
  v61

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InBwdSecondRefIdeal.lean ====
abbrev S8192x6144 : Shape := ⟨2, ![8192, 6144]⟩
abbrev S8192x1024 : Shape := ⟨2, ![8192, 1024]⟩
abbrev S1x1024 : Shape := ⟨2, ![1, 1024]⟩
abbrev S1024x6144 : Shape := ⟨2, ![1024, 6144]⟩
abbrev S8x128 : Shape := ⟨2, ![8, 128]⟩
abbrev S8x1024 : Shape := ⟨2, ![8, 1024]⟩
abbrev S4096x6144 : Shape := ⟨2, ![4096, 6144]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 67
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x6144, .bf16⟩
  | .hbm, ⟨5, _⟩ => ⟨S8x128, .f32⟩
  | .hbm, ⟨6, _⟩ => ⟨S8192x1024, .f32⟩
  | .hbm, ⟨7, _⟩ => ⟨S8x1024, .f32⟩
  | .hbm, ⟨8, _⟩ => ⟨S4096x6144, .bf16⟩
  | .hbm, ⟨9, _⟩ => ⟨S4096x1024, .f32⟩
  | .hbm, ⟨10, _⟩ => ⟨S4096x1024, .f32⟩
  | .hbm, ⟨11, _⟩ => ⟨S1024x6144, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x6144, .f32⟩
  | .hbm, ⟨34, _⟩ => ⟨S4096x6144, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S8192x1024, .f32⟩
  | .hbm, ⟨65, _⟩ => ⟨S8x1024, .f32⟩
  | .hbm, ⟨66, _⟩ => ⟨S8x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== OutProj.lean ====
abbrev S8192x2048 : Shape := ⟨2, ![8192, 2048]⟩
abbrev S8192x1024 : Shape := ⟨2, ![8192, 1024]⟩
abbrev S2048x1024 : Shape := ⟨2, ![2048, 1024]⟩
abbrev S1024 : Shape := ⟨1, ![1024]⟩
abbrev S4x512x1024 : Shape := ⟨3, ![4, 512, 1024]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x1024, .f32⟩
  | .hbm, ⟨3, _⟩ => ⟨S2048x1024, .bf16⟩
  | .hbm, ⟨4, _⟩ => ⟨S1024, .f32⟩
  | .hbm, ⟨5, _⟩ => ⟨S4x512x1024, .bf16⟩
  | .hbm, ⟨6, _⟩ => ⟨S1x1024, .f32⟩
  | .hbm, ⟨7, _⟩ => ⟨S8192x1024, .f32⟩
  | .hbm, ⟨8, _⟩ => ⟨S8192x2048, .bf16⟩
  | .hbm, ⟨9, _⟩ => ⟨S2048x1024, .f32⟩
  | .hbm, ⟨10, _⟩ => ⟨S8x1024, .f32⟩
  | .hbm, ⟨11, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x512x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S2048x1024, .f32⟩
  | .local _ .vmem, ⟨13, _⟩ => ⟨S8x1024, .f32⟩
  | .local _ .vmem, ⟨14, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutProjRefIdeal.lean ====
abbrev S8192x2048 : Shape := ⟨2, ![8192, 2048]⟩
abbrev S8192x1024 : Shape := ⟨2, ![8192, 1024]⟩
abbrev S2048x1024 : Shape := ⟨2, ![2048, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2048 : Shape := ⟨2, ![1024, 2048]⟩
abbrev S8x1024 : Shape := ⟨2, ![8, 1024]⟩
abbrev S1024x8x1024 : Shape := ⟨3, ![1024, 8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x1024, .f32⟩
  | .hbm, ⟨3, _⟩ => ⟨S2048x1024, .bf16⟩
  | .hbm, ⟨4, _⟩ => ⟨S1024, .f32⟩
  | .hbm, ⟨5, _⟩ => ⟨S8192x2048, .f32⟩
  | .hbm, ⟨6, _⟩ => ⟨S2048x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1024x2048, .f32⟩
  | .hbm, ⟨78, _⟩ => ⟨S2048x1024, .f32⟩
  | .hbm, ⟨79, _⟩ => ⟨S8192x2048, .f32⟩
  | .hbm, ⟨80, _⟩ => ⟨S8192x2048, .bf16⟩
  | .hbm, ⟨81, _⟩ => ⟨S8x1024, .f32⟩
  | .hbm, ⟨82, _⟩ => ⟨S1024x8x1024, .f32⟩
  | .hbm, ⟨83, _⟩ => ⟨S_, .f32⟩
  | .hbm, ⟨84, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== SguBwd.lean ====
abbrev S8192x6144 : Shape := ⟨2, ![8192, 6144]⟩
abbrev S8192x2048 : Shape := ⟨2, ![8192, 2048]⟩
abbrev S8192x1024 : Shape := ⟨2, ![8192, 1024]⟩
abbrev S4x31x256 : Shape := ⟨3, ![4, 31, 256]⟩
abbrev S1x1024 : Shape := ⟨2, ![1, 1024]⟩
abbrev S1x8x128x128 : Shape := ⟨4, ![1, 8, 128, 128]⟩
abbrev S1x8x128 : Shape := ⟨3, ![1, 8, 128]⟩
abbrev S8x1024 : Shape := ⟨2, ![8, 1024]⟩
abbrev S8x128 : Shape := ⟨2, ![8, 128]⟩
abbrev S8x128x128 : Shape := ⟨3, ![8, 128, 128]⟩
abbrev S128x8 : Shape := ⟨2, ![128, 8]⟩
abbrev S40x1024 : Shape := ⟨2, ![40, 1024]⟩
abbrev S256x6144 : Shape := ⟨2, ![256, 6144]⟩
abbrev S256x2048 : Shape := ⟨2, ![256, 2048]⟩
abbrev S256x1024 : Shape := ⟨2, ![256, 1024]⟩
abbrev S16x1024 : Shape := ⟨2, ![16, 1024]⟩
abbrev S8x288x128 : Shape := ⟨3, ![8, 288, 128]⟩
abbrev S256x128 : Shape := ⟨2, ![256, 128]⟩
abbrev S288x1024 : Shape := ⟨2, ![288, 1024]⟩
abbrev S248x1024 : Shape := ⟨2, ![248, 1024]⟩
abbrev S128x1024 : Shape := ⟨2, ![128, 1024]⟩
abbrev S144x1024 : Shape := ⟨2, ![144, 1024]⟩
abbrev S144 : Shape := ⟨1, ![144]⟩
abbrev S144x1 : Shape := ⟨2, ![144, 1]⟩
abbrev S16x8x1024 : Shape := ⟨3, ![16, 8, 1024]⟩
abbrev S288x128 : Shape := ⟨2, ![288, 128]⟩
abbrev S1x288x128 : Shape := ⟨3, ![1, 288, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S64x128 : Shape := ⟨2, ![64, 128]⟩
abbrev S1x64x128 : Shape := ⟨3, ![1, 64, 128]⟩
abbrev S8x8x128 : Shape := ⟨3, ![8, 8, 128]⟩
abbrev S256 : Shape := ⟨1, ![256]⟩
abbrev S256x1 : Shape := ⟨2, ![256, 1]⟩
abbrev S128x1 : Shape := ⟨2, ![128, 1]⟩
abbrev S32x8x1024 : Shape := ⟨3, ![32, 8, 1024]⟩
abbrev S1024 : Shape := ⟨1, ![1024]⟩

abbrev nBuf : Space → Nat
  | .hbm => 20
  | .vmem => 40
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x1024, .f32⟩
  | .hbm, ⟨3, _⟩ => ⟨S4x31x256, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x8x128x128, .f32⟩
  | .hbm, ⟨9, _⟩ => ⟨S1x8x128, .f32⟩
  | .hbm, ⟨10, _⟩ => ⟨S8x1024, .f32⟩
  | .hbm, ⟨11, _⟩ => ⟨S8x1024, .f32⟩
  | .hbm, ⟨12, _⟩ => ⟨S8x128, .f32⟩
  | .hbm, ⟨13, _⟩ => ⟨S8x128x128, .f32⟩
  | .hbm, ⟨14, _⟩ => ⟨S8x128x128, .f32⟩
  | .hbm, ⟨15, _⟩ => ⟨S8x128, .f32⟩
  | .hbm, ⟨16, _⟩ => ⟨S128x8, .f32⟩
  | .hbm, ⟨17, _⟩ => ⟨S8192x6144, .bf16⟩
  | .hbm, ⟨18, _⟩ => ⟨S40x1024, .f32⟩
  | .hbm, ⟨19, _⟩ => ⟨S8x128x128, .f32⟩
  | .local _ .vmem, ⟨0, _⟩ => ⟨S256x6144, .bf16⟩
  | .local _ .vmem, ⟨1, _⟩ => ⟨S256x6144, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S4x31x256, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S8x128x128, .f32⟩
  | .local _ .vmem, ⟨24, _⟩ => ⟨S8x128x128, .f32⟩
  | .local _ .vmem, ⟨25, _⟩ => ⟨S128x8, .f32⟩
  | .local _ .vmem, ⟨26, _⟩ => ⟨S8x1024, .f32⟩
  | .local _ .vmem, ⟨27, _⟩ => ⟨S8x1024, .f32⟩
  | .local _ .vmem, ⟨28, _⟩ => ⟨S8x128, .f32⟩
  | .local _ .vmem, ⟨29, _⟩ => ⟨S256x6144, .bf16⟩
  | .local _ .vmem, ⟨30, _⟩ => ⟨S256x6144, .bf16⟩
  | .local _ .vmem, ⟨31, _⟩ => ⟨S40x1024, .f32⟩
  | .local _ .vmem, ⟨32, _⟩ => ⟨S8x128x128, .f32⟩
  | .local _ .vmem, ⟨33, _⟩ => ⟨S8x288x128, .f32⟩
  | .local _ .vmem, ⟨34, _⟩ => ⟨S256x128, .f32⟩
  | .local _ .vmem, ⟨35, _⟩ => ⟨S256x128, .f32⟩
  | .local _ .vmem, ⟨36, _⟩ => ⟨S288x1024, .f32⟩
  | .local _ .vmem, ⟨37, _⟩ => ⟨S40x1024, .f32⟩
  | .local _ .vmem, ⟨38, _⟩ => ⟨S248x1024, .f32⟩
  | .local _ .vmem, ⟨39, _⟩ => ⟨S128x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg22_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30
abbrev cc0_sem21_0 : DmaSem sig := 31
abbrev cc0_sem22_0 : DmaSem sig := 32

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_130 : BitVec 32 := 0#32
  let c2_i32 : BitVec 32 := 2#32
  let v311 : BitVec 32 := Scalar.addi c0_i32_130 c2_i32
  let c1_i32 : BitVec 32 := 1#32
  ⟨c0_i32_130, v311, c1_i32⟩
def k0_mult1 (k0_t1 : Fin k0_t1_loop.trips) : BitVec 32 :=
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  v3160
def k0_off1 (k0_t1 : Fin k0_t1_loop.trips) (c0_i32_2238 : BitVec 32) : Fin 3 → Nat :=
  let c1_2239 : Index := 1#32
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3163 : BitVec 32 := Scalar.addi v3161 c0_i32_2238
  let v3164 : Index := Scalar.indexCast v3163
  let c0_2240 : Index := 0#32
  ![1, v3164.toNat, 0]
def k0_off2 (k0_t1 : Fin k0_t1_loop.trips) (c0_i32_2243 : BitVec 32) : Fin 3 → Nat :=
  let c2_2244 : Index := 2#32
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3172 : BitVec 32 := Scalar.addi v3161 c0_i32_2243
  let v3173 : Index := Scalar.indexCast v3172
  let c0_2245 : Index := 0#32
  ![2, v3173.toNat, 0]
def k0_off3 (k0_t1 : Fin k0_t1_loop.trips) (c0_i32_2248 : BitVec 32) : Fin 3 → Nat :=
  let c3_2249 : Index := 3#32
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3181 : BitVec 32 := Scalar.addi v3161 c0_i32_2248
  let v3182 : Index := Scalar.indexCast v3181
  let c0_2250 : Index := 0#32
  ![3, v3182.toNat, 0]
def k0_off4 (k0_t1 : Fin k0_t1_loop.trips) (c0_i32_2253 : BitVec 32) : Fin 3 → Nat :=
  let c4_2254 : Index := 4#32
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3190 : BitVec 32 := Scalar.addi v3161 c0_i32_2253
  let v3191 : Index := Scalar.indexCast v3190
  let c0_2255 : Index := 0#32
  ![4, v3191.toNat, 0]
def k0_off5 (k0_t1 : Fin k0_t1_loop.trips) (c0_i32_2258 : BitVec 32) : Fin 3 → Nat :=
  let c5_2259 : Index := 5#32
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3199 : BitVec 32 := Scalar.addi v3161 c0_i32_2258
  let v3200 : Index := Scalar.indexCast v3199
  let c0_2260 : Index := 0#32
  ![5, v3200.toNat, 0]
def k0_off6 (k0_t1 : Fin k0_t1_loop.trips) (c0_i32_2263 : BitVec 32) : Fin 3 → Nat :=
  let c6_2264 : Index := 6#32
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3208 : BitVec 32 := Scalar.addi v3161 c0_i32_2263
  let v3209 : Index := Scalar.indexCast v3208
  let c0_2265 : Index := 0#32
  ![6, v3209.toNat, 0]
def k0_off7 (k0_t1 : Fin k0_t1_loop.trips) (c0_i32_2268 : BitVec 32) : Fin 3 → Nat :=
  let c7_2269 : Index := 7#32
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3217 : BitVec 32 := Scalar.addi v3161 c0_i32_2268
  let v3218 : Index := Scalar.indexCast v3217
  let c0_2270 : Index := 0#32
  ![7, v3218.toNat, 0]
def k0_off8 (k0_t1 : Fin k0_t1_loop.trips) (c8_i32 : BitVec 32) : Fin 3 → Nat :=
  let c0_2274 : Index := 0#32
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3226 : BitVec 32 := Scalar.addi v3161 c8_i32
  let v3227 : Index := Scalar.indexCast v3226
  let c0_2275 : Index := 0#32
  ![0, v3227.toNat, 0]
def k0_off9 (k0_t1 : Fin k0_t1_loop.trips) : Fin 2 → Nat :=
  let c0_i32_130 : BitVec 32 := 0#32
  let c1_i32 : BitVec 32 := 1#32
  let arg31 : BitVec 32 := Scf.iv c0_i32_130 c1_i32 k0_t1
  let c128_i32_2236 : BitVec 32 := 128#32
  let v3160 : BitVec 32 := Scalar.muli arg31 c128_i32_2236
  let v3161 : BitVec 32 := v3160
  let v3442 : Index := Scalar.indexCast v3161
  let c0_2402 : Index := 0#32
  ![v3442.toNat, 0]
@[reducible] def k0_t2_loop : Scf.Loop 32 :=
  let c0_i32_163 : BitVec 32 := 0#32
  let c4_i32 : BitVec 32 := 4#32
  let v343 : BitVec 32 := Scalar.addi c0_i32_163 c4_i32
  let c1_i32_164 : BitVec 32 := 1#32
  ⟨c0_i32_163, v343, c1_i32_164⟩
def k0_mult2 (k0_t2 : Fin k0_t2_loop.trips) : BitVec 32 :=
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  v3160
def k0_off10 (k0_t2 : Fin k0_t2_loop.trips) : Fin 2 → Nat :=
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3162 : Index := Scalar.indexCast v3161
  let c0_2236 : Index := 0#32
  ![v3162.toNat, 0]
def k0_off11 (k0_t2 : Fin k0_t2_loop.trips) (c0_i32_2237 : BitVec 32) : Fin 3 → Nat :=
  let c1_2238 : Index := 1#32
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3164 : BitVec 32 := Scalar.addi v3161 c0_i32_2237
  let v3165 : Index := Scalar.indexCast v3164
  let c0_2239 : Index := 0#32
  ![1, v3165.toNat, 0]
def k0_off12 (k0_t2 : Fin k0_t2_loop.trips) (c0_i32_2241 : BitVec 32) : Fin 3 → Nat :=
  let c2_2242 : Index := 2#32
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3172 : BitVec 32 := Scalar.addi v3161 c0_i32_2241
  let v3173 : Index := Scalar.indexCast v3172
  let c0_2243 : Index := 0#32
  ![2, v3173.toNat, 0]
def k0_off13 (k0_t2 : Fin k0_t2_loop.trips) (c0_i32_2245 : BitVec 32) : Fin 3 → Nat :=
  let c3_2246 : Index := 3#32
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3180 : BitVec 32 := Scalar.addi v3161 c0_i32_2245
  let v3181 : Index := Scalar.indexCast v3180
  let c0_2247 : Index := 0#32
  ![3, v3181.toNat, 0]
def k0_off14 (k0_t2 : Fin k0_t2_loop.trips) (c0_i32_2249 : BitVec 32) : Fin 3 → Nat :=
  let c4_2250 : Index := 4#32
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3188 : BitVec 32 := Scalar.addi v3161 c0_i32_2249
  let v3189 : Index := Scalar.indexCast v3188
  let c0_2251 : Index := 0#32
  ![4, v3189.toNat, 0]
def k0_off15 (k0_t2 : Fin k0_t2_loop.trips) (c0_i32_2253 : BitVec 32) : Fin 3 → Nat :=
  let c5_2254 : Index := 5#32
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3196 : BitVec 32 := Scalar.addi v3161 c0_i32_2253
  let v3197 : Index := Scalar.indexCast v3196
  let c0_2255 : Index := 0#32
  ![5, v3197.toNat, 0]
def k0_off16 (k0_t2 : Fin k0_t2_loop.trips) (c0_i32_2257 : BitVec 32) : Fin 3 → Nat :=
  let c6_2258 : Index := 6#32
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3204 : BitVec 32 := Scalar.addi v3161 c0_i32_2257
  let v3205 : Index := Scalar.indexCast v3204
  let c0_2259 : Index := 0#32
  ![6, v3205.toNat, 0]
def k0_off17 (k0_t2 : Fin k0_t2_loop.trips) (c0_i32_2261 : BitVec 32) : Fin 3 → Nat :=
  let c7_2262 : Index := 7#32
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3212 : BitVec 32 := Scalar.addi v3161 c0_i32_2261
  let v3213 : Index := Scalar.indexCast v3212
  let c0_2263 : Index := 0#32
  ![7, v3213.toNat, 0]
def k0_off18 (k0_t2 : Fin k0_t2_loop.trips) (c8_i32 : BitVec 32) : Fin 3 → Nat :=
  let c0_2265 : Index := 0#32
  let c0_i32_163 : BitVec 32 := 0#32
  let c1_i32_164 : BitVec 32 := 1#32
  let arg31 : BitVec 32 := Scf.iv c0_i32_163 c1_i32_164 k0_t2
  let c64_i32 : BitVec 32 := 64#32
  let v3160 : BitVec 32 := Scalar.muli arg31 c64_i32
  let v3161 : BitVec 32 := v3160
  let v3220 : BitVec 32 := Scalar.addi v3161 c8_i32
  let v3221 : Index := Scalar.indexCast v3220
  let c0_2266 : Index := 0#32
  ![0, v3221.toNat, 0]
@[reducible] def k0_t3_loop : Scf.Loop 32 :=
  let c0_i32_312 : BitVec 32 := 0#32
  let c2_i32_313 : BitVec 32 := 2#32
  let v558 : BitVec 32 := Scalar.addi c0_i32_312 c2_i32_313
  let c1_i32_314 : BitVec 32 := 1#32
  ⟨c0_i32_312, v558, c1_i32_314⟩
def k0_mult3 (k0_t3 : Fin k0_t3_loop.trips) : BitVec 32 :=
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  v3160
def k0_off19 (k0_t3 : Fin k0_t3_loop.trips) (c0_i32_2238 : BitVec 32) : Fin 3 → Nat :=
  let c1_2239 : Index := 1#32
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3163 : BitVec 32 := Scalar.addi v3161 c0_i32_2238
  let v3164 : Index := Scalar.indexCast v3163
  let c0_2240 : Index := 0#32
  ![1, v3164.toNat, 0]
def k0_off20 (k0_t3 : Fin k0_t3_loop.trips) (c0_i32_2243 : BitVec 32) : Fin 3 → Nat :=
  let c2_2244 : Index := 2#32
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3172 : BitVec 32 := Scalar.addi v3161 c0_i32_2243
  let v3173 : Index := Scalar.indexCast v3172
  let c0_2245 : Index := 0#32
  ![2, v3173.toNat, 0]
def k0_off21 (k0_t3 : Fin k0_t3_loop.trips) (c0_i32_2248 : BitVec 32) : Fin 3 → Nat :=
  let c3_2249 : Index := 3#32
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3181 : BitVec 32 := Scalar.addi v3161 c0_i32_2248
  let v3182 : Index := Scalar.indexCast v3181
  let c0_2250 : Index := 0#32
  ![3, v3182.toNat, 0]
def k0_off22 (k0_t3 : Fin k0_t3_loop.trips) (c0_i32_2253 : BitVec 32) : Fin 3 → Nat :=
  let c4_2254 : Index := 4#32
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3190 : BitVec 32 := Scalar.addi v3161 c0_i32_2253
  let v3191 : Index := Scalar.indexCast v3190
  let c0_2255 : Index := 0#32
  ![4, v3191.toNat, 0]
def k0_off23 (k0_t3 : Fin k0_t3_loop.trips) (c0_i32_2258 : BitVec 32) : Fin 3 → Nat :=
  let c5_2259 : Index := 5#32
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3199 : BitVec 32 := Scalar.addi v3161 c0_i32_2258
  let v3200 : Index := Scalar.indexCast v3199
  let c0_2260 : Index := 0#32
  ![5, v3200.toNat, 0]
def k0_off24 (k0_t3 : Fin k0_t3_loop.trips) (c0_i32_2263 : BitVec 32) : Fin 3 → Nat :=
  let c6_2264 : Index := 6#32
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3208 : BitVec 32 := Scalar.addi v3161 c0_i32_2263
  let v3209 : Index := Scalar.indexCast v3208
  let c0_2265 : Index := 0#32
  ![6, v3209.toNat, 0]
def k0_off25 (k0_t3 : Fin k0_t3_loop.trips) (c0_i32_2268 : BitVec 32) : Fin 3 → Nat :=
  let c7_2269 : Index := 7#32
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3217 : BitVec 32 := Scalar.addi v3161 c0_i32_2268
  let v3218 : Index := Scalar.indexCast v3217
  let c0_2270 : Index := 0#32
  ![7, v3218.toNat, 0]
def k0_off26 (k0_t3 : Fin k0_t3_loop.trips) (c8_i32 : BitVec 32) : Fin 3 → Nat :=
  let c0_2274 : Index := 0#32
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3226 : BitVec 32 := Scalar.addi v3161 c8_i32
  let v3227 : Index := Scalar.indexCast v3226
  let c0_2275 : Index := 0#32
  ![0, v3227.toNat, 0]
def k0_off27 (k0_t3 : Fin k0_t3_loop.trips) : Fin 2 → Nat :=
  let c0_i32_312 : BitVec 32 := 0#32
  let c1_i32_314 : BitVec 32 := 1#32
  let arg31 : BitVec 32 := Scf.iv c0_i32_312 c1_i32_314 k0_t3
  let c128_i32_2236 : BitVec 32 := 128#32
  let v3160 : BitVec 32 := Scalar.muli arg31 c128_i32_2236
  let v3161 : BitVec 32 := v3160
  let v3442 : Index := Scalar.indexCast v3161
  let c0_2402 : Index := 0#32
  ![v3442.toNat, 0]
@[reducible] def k0_t4_loop : Scf.Loop 32 :=
  let c0_i32_347 : BitVec 32 := 0#32
  let c4_i32_348 : BitVec 32 := 4#32
  let v590 : BitVec 32 := Scalar.addi c0_i32_347 c4_i32_348
  let c1_i32_349 : BitVec 32 := 1#32
  ⟨c0_i32_347, v590, c1_i32_349⟩
def k0_mult4 (k0_t4 : Fin k0_t4_loop.trips) : BitVec 32 :=
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  v3160
def k0_off28 (k0_t4 : Fin k0_t4_loop.trips) : Fin 2 → Nat :=
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3162 : Index := Scalar.indexCast v3161
  let c0_2236 : Index := 0#32
  ![v3162.toNat, 0]
def k0_off29 (k0_t4 : Fin k0_t4_loop.trips) (c0_i32_2237 : BitVec 32) : Fin 3 → Nat :=
  let c1_2238 : Index := 1#32
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3164 : BitVec 32 := Scalar.addi v3161 c0_i32_2237
  let v3165 : Index := Scalar.indexCast v3164
  let c0_2239 : Index := 0#32
  ![1, v3165.toNat, 0]
def k0_off30 (k0_t4 : Fin k0_t4_loop.trips) (c0_i32_2241 : BitVec 32) : Fin 3 → Nat :=
  let c2_2242 : Index := 2#32
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3172 : BitVec 32 := Scalar.addi v3161 c0_i32_2241
  let v3173 : Index := Scalar.indexCast v3172
  let c0_2243 : Index := 0#32
  ![2, v3173.toNat, 0]
def k0_off31 (k0_t4 : Fin k0_t4_loop.trips) (c0_i32_2245 : BitVec 32) : Fin 3 → Nat :=
  let c3_2246 : Index := 3#32
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3180 : BitVec 32 := Scalar.addi v3161 c0_i32_2245
  let v3181 : Index := Scalar.indexCast v3180
  let c0_2247 : Index := 0#32
  ![3, v3181.toNat, 0]
def k0_off32 (k0_t4 : Fin k0_t4_loop.trips) (c0_i32_2249 : BitVec 32) : Fin 3 → Nat :=
  let c4_2250 : Index := 4#32
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3188 : BitVec 32 := Scalar.addi v3161 c0_i32_2249
  let v3189 : Index := Scalar.indexCast v3188
  let c0_2251 : Index := 0#32
  ![4, v3189.toNat, 0]
def k0_off33 (k0_t4 : Fin k0_t4_loop.trips) (c0_i32_2253 : BitVec 32) : Fin 3 → Nat :=
  let c5_2254 : Index := 5#32
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3196 : BitVec 32 := Scalar.addi v3161 c0_i32_2253
  let v3197 : Index := Scalar.indexCast v3196
  let c0_2255 : Index := 0#32
  ![5, v3197.toNat, 0]
def k0_off34 (k0_t4 : Fin k0_t4_loop.trips) (c0_i32_2257 : BitVec 32) : Fin 3 → Nat :=
  let c6_2258 : Index := 6#32
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3204 : BitVec 32 := Scalar.addi v3161 c0_i32_2257
  let v3205 : Index := Scalar.indexCast v3204
  let c0_2259 : Index := 0#32
  ![6, v3205.toNat, 0]
def k0_off35 (k0_t4 : Fin k0_t4_loop.trips) (c0_i32_2261 : BitVec 32) : Fin 3 → Nat :=
  let c7_2262 : Index := 7#32
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3212 : BitVec 32 := Scalar.addi v3161 c0_i32_2261
  let v3213 : Index := Scalar.indexCast v3212
  let c0_2263 : Index := 0#32
  ![7, v3213.toNat, 0]
def k0_off36 (k0_t4 : Fin k0_t4_loop.trips) (c8_i32 : BitVec 32) : Fin 3 → Nat :=
  let c0_2265 : Index := 0#32
  let c0_i32_347 : BitVec 32 := 0#32
  let c1_i32_349 : BitVec 32 := 1#32
  let arg31 : BitVec 32 := Scf.iv c0_i32_347 c1_i32_349 k0_t4
  let c64_i32 : BitVec 32 := 64#32
  let v3160 : BitVec 32 := Scalar.muli arg31 c64_i32
  let v3161 : BitVec 32 := v3160
  let v3220 : BitVec 32 := Scalar.addi v3161 c8_i32
  let v3221 : Index := Scalar.indexCast v3220
  let c0_2266 : Index := 0#32
  ![0, v3221.toNat, 0]
@[reducible] def k0_t5_loop : Scf.Loop 32 :=
  let c0_i32_522 : BitVec 32 := 0#32
  let c2_i32_523 : BitVec 32 := 2#32
  let v805 : BitVec 32 := Scalar.addi c0_i32_522 c2_i32_523
  let c1_i32_524 : BitVec 32 := 1#32
  ⟨c0_i32_522, v805, c1_i32_524⟩
def k0_mult5 (k0_t5 : Fin k0_t5_loop.trips) : BitVec 32 :=
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  v3160
def k0_off37 (k0_t5 : Fin k0_t5_loop.trips) (c0_i32_2238 : BitVec 32) : Fin 3 → Nat :=
  let c1_2239 : Index := 1#32
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3163 : BitVec 32 := Scalar.addi v3161 c0_i32_2238
  let v3164 : Index := Scalar.indexCast v3163
  let c0_2240 : Index := 0#32
  ![1, v3164.toNat, 0]
def k0_off38 (k0_t5 : Fin k0_t5_loop.trips) (c0_i32_2243 : BitVec 32) : Fin 3 → Nat :=
  let c2_2244 : Index := 2#32
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3172 : BitVec 32 := Scalar.addi v3161 c0_i32_2243
  let v3173 : Index := Scalar.indexCast v3172
  let c0_2245 : Index := 0#32
  ![2, v3173.toNat, 0]
def k0_off39 (k0_t5 : Fin k0_t5_loop.trips) (c0_i32_2248 : BitVec 32) : Fin 3 → Nat :=
  let c3_2249 : Index := 3#32
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3181 : BitVec 32 := Scalar.addi v3161 c0_i32_2248
  let v3182 : Index := Scalar.indexCast v3181
  let c0_2250 : Index := 0#32
  ![3, v3182.toNat, 0]
def k0_off40 (k0_t5 : Fin k0_t5_loop.trips) (c0_i32_2253 : BitVec 32) : Fin 3 → Nat :=
  let c4_2254 : Index := 4#32
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3190 : BitVec 32 := Scalar.addi v3161 c0_i32_2253
  let v3191 : Index := Scalar.indexCast v3190
  let c0_2255 : Index := 0#32
  ![4, v3191.toNat, 0]
def k0_off41 (k0_t5 : Fin k0_t5_loop.trips) (c0_i32_2258 : BitVec 32) : Fin 3 → Nat :=
  let c5_2259 : Index := 5#32
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3199 : BitVec 32 := Scalar.addi v3161 c0_i32_2258
  let v3200 : Index := Scalar.indexCast v3199
  let c0_2260 : Index := 0#32
  ![5, v3200.toNat, 0]
def k0_off42 (k0_t5 : Fin k0_t5_loop.trips) (c0_i32_2263 : BitVec 32) : Fin 3 → Nat :=
  let c6_2264 : Index := 6#32
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3208 : BitVec 32 := Scalar.addi v3161 c0_i32_2263
  let v3209 : Index := Scalar.indexCast v3208
  let c0_2265 : Index := 0#32
  ![6, v3209.toNat, 0]
def k0_off43 (k0_t5 : Fin k0_t5_loop.trips) (c0_i32_2268 : BitVec 32) : Fin 3 → Nat :=
  let c7_2269 : Index := 7#32
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3217 : BitVec 32 := Scalar.addi v3161 c0_i32_2268
  let v3218 : Index := Scalar.indexCast v3217
  let c0_2270 : Index := 0#32
  ![7, v3218.toNat, 0]
def k0_off44 (k0_t5 : Fin k0_t5_loop.trips) (c8_i32 : BitVec 32) : Fin 3 → Nat :=
  let c0_2274 : Index := 0#32
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3226 : BitVec 32 := Scalar.addi v3161 c8_i32
  let v3227 : Index := Scalar.indexCast v3226
  let c0_2275 : Index := 0#32
  ![0, v3227.toNat, 0]
def k0_off45 (k0_t5 : Fin k0_t5_loop.trips) : Fin 2 → Nat :=
  let c0_i32_522 : BitVec 32 := 0#32
  let c1_i32_524 : BitVec 32 := 1#32
  let arg31 : BitVec 32 := Scf.iv c0_i32_522 c1_i32_524 k0_t5
  let c128_i32_2236 : BitVec 32 := 128#32
  let v3160 : BitVec 32 := Scalar.muli arg31 c128_i32_2236
  let v3161 : BitVec 32 := v3160
  let v3442 : Index := Scalar.indexCast v3161
  let c0_2402 : Index := 0#32
  ![v3442.toNat, 0]
@[reducible] def k0_t6_loop : Scf.Loop 32 :=
  let c0_i32_557 : BitVec 32 := 0#32
  let c4_i32_558 : BitVec 32 := 4#32
  let v837 : BitVec 32 := Scalar.addi c0_i32_557 c4_i32_558
  let c1_i32_559 : BitVec 32 := 1#32
  ⟨c0_i32_557, v837, c1_i32_559⟩
def k0_mult6 (k0_t6 : Fin k0_t6_loop.trips) : BitVec 32 :=
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  v3160
def k0_off46 (k0_t6 : Fin k0_t6_loop.trips) : Fin 2 → Nat :=
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3162 : Index := Scalar.indexCast v3161
  let c0_2236 : Index := 0#32
  ![v3162.toNat, 0]
def k0_off47 (k0_t6 : Fin k0_t6_loop.trips) (c0_i32_2237 : BitVec 32) : Fin 3 → Nat :=
  let c1_2238 : Index := 1#32
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3164 : BitVec 32 := Scalar.addi v3161 c0_i32_2237
  let v3165 : Index := Scalar.indexCast v3164
  let c0_2239 : Index := 0#32
  ![1, v3165.toNat, 0]
def k0_off48 (k0_t6 : Fin k0_t6_loop.trips) (c0_i32_2241 : BitVec 32) : Fin 3 → Nat :=
  let c2_2242 : Index := 2#32
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3172 : BitVec 32 := Scalar.addi v3161 c0_i32_2241
  let v3173 : Index := Scalar.indexCast v3172
  let c0_2243 : Index := 0#32
  ![2, v3173.toNat, 0]
def k0_off49 (k0_t6 : Fin k0_t6_loop.trips) (c0_i32_2245 : BitVec 32) : Fin 3 → Nat :=
  let c3_2246 : Index := 3#32
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3180 : BitVec 32 := Scalar.addi v3161 c0_i32_2245
  let v3181 : Index := Scalar.indexCast v3180
  let c0_2247 : Index := 0#32
  ![3, v3181.toNat, 0]
def k0_off50 (k0_t6 : Fin k0_t6_loop.trips) (c0_i32_2249 : BitVec 32) : Fin 3 → Nat :=
  let c4_2250 : Index := 4#32
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3188 : BitVec 32 := Scalar.addi v3161 c0_i32_2249
  let v3189 : Index := Scalar.indexCast v3188
  let c0_2251 : Index := 0#32
  ![4, v3189.toNat, 0]
def k0_off51 (k0_t6 : Fin k0_t6_loop.trips) (c0_i32_2253 : BitVec 32) : Fin 3 → Nat :=
  let c5_2254 : Index := 5#32
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3196 : BitVec 32 := Scalar.addi v3161 c0_i32_2253
  let v3197 : Index := Scalar.indexCast v3196
  let c0_2255 : Index := 0#32
  ![5, v3197.toNat, 0]
def k0_off52 (k0_t6 : Fin k0_t6_loop.trips) (c0_i32_2257 : BitVec 32) : Fin 3 → Nat :=
  let c6_2258 : Index := 6#32
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3204 : BitVec 32 := Scalar.addi v3161 c0_i32_2257
  let v3205 : Index := Scalar.indexCast v3204
  let c0_2259 : Index := 0#32
  ![6, v3205.toNat, 0]
def k0_off53 (k0_t6 : Fin k0_t6_loop.trips) (c0_i32_2261 : BitVec 32) : Fin 3 → Nat :=
  let c7_2262 : Index := 7#32
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3212 : BitVec 32 := Scalar.addi v3161 c0_i32_2261
  let v3213 : Index := Scalar.indexCast v3212
  let c0_2263 : Index := 0#32
  ![7, v3213.toNat, 0]
def k0_off54 (k0_t6 : Fin k0_t6_loop.trips) (c8_i32 : BitVec 32) : Fin 3 → Nat :=
  let c0_2265 : Index := 0#32
  let c0_i32_557 : BitVec 32 := 0#32
  let c1_i32_559 : BitVec 32 := 1#32
  let arg31 : BitVec 32 := Scf.iv c0_i32_557 c1_i32_559 k0_t6
  let c64_i32 : BitVec 32 := 64#32
  let v3160 : BitVec 32 := Scalar.muli arg31 c64_i32
  let v3161 : BitVec 32 := v3160
  let v3220 : BitVec 32 := Scalar.addi v3161 c8_i32
  let v3221 : Index := Scalar.indexCast v3220
  let c0_2266 : Index := 0#32
  ![0, v3221.toNat, 0]
@[reducible] def k0_t7_loop : Scf.Loop 32 :=
  let c0_i32_732 : BitVec 32 := 0#32
  let c2_i32_733 : BitVec 32 := 2#32
  let v1052 : BitVec 32 := Scalar.addi c0_i32_732 c2_i32_733
  let c1_i32_734 : BitVec 32 := 1#32
  ⟨c0_i32_732, v1052, c1_i32_734⟩
def k0_mult7 (k0_t7 : Fin k0_t7_loop.trips) : BitVec 32 :=
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  v3160
def k0_off55 (k0_t7 : Fin k0_t7_loop.trips) (c0_i32_2238 : BitVec 32) : Fin 3 → Nat :=
  let c1_2239 : Index := 1#32
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3163 : BitVec 32 := Scalar.addi v3161 c0_i32_2238
  let v3164 : Index := Scalar.indexCast v3163
  let c0_2240 : Index := 0#32
  ![1, v3164.toNat, 0]
def k0_off56 (k0_t7 : Fin k0_t7_loop.trips) (c0_i32_2243 : BitVec 32) : Fin 3 → Nat :=
  let c2_2244 : Index := 2#32
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3172 : BitVec 32 := Scalar.addi v3161 c0_i32_2243
  let v3173 : Index := Scalar.indexCast v3172
  let c0_2245 : Index := 0#32
  ![2, v3173.toNat, 0]
def k0_off57 (k0_t7 : Fin k0_t7_loop.trips) (c0_i32_2248 : BitVec 32) : Fin 3 → Nat :=
  let c3_2249 : Index := 3#32
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3181 : BitVec 32 := Scalar.addi v3161 c0_i32_2248
  let v3182 : Index := Scalar.indexCast v3181
  let c0_2250 : Index := 0#32
  ![3, v3182.toNat, 0]
def k0_off58 (k0_t7 : Fin k0_t7_loop.trips) (c0_i32_2253 : BitVec 32) : Fin 3 → Nat :=
  let c4_2254 : Index := 4#32
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3190 : BitVec 32 := Scalar.addi v3161 c0_i32_2253
  let v3191 : Index := Scalar.indexCast v3190
  let c0_2255 : Index := 0#32
  ![4, v3191.toNat, 0]
def k0_off59 (k0_t7 : Fin k0_t7_loop.trips) (c0_i32_2258 : BitVec 32) : Fin 3 → Nat :=
  let c5_2259 : Index := 5#32
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3199 : BitVec 32 := Scalar.addi v3161 c0_i32_2258
  let v3200 : Index := Scalar.indexCast v3199
  let c0_2260 : Index := 0#32
  ![5, v3200.toNat, 0]
def k0_off60 (k0_t7 : Fin k0_t7_loop.trips) (c0_i32_2263 : BitVec 32) : Fin 3 → Nat :=
  let c6_2264 : Index := 6#32
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3208 : BitVec 32 := Scalar.addi v3161 c0_i32_2263
  let v3209 : Index := Scalar.indexCast v3208
  let c0_2265 : Index := 0#32
  ![6, v3209.toNat, 0]
def k0_off61 (k0_t7 : Fin k0_t7_loop.trips) (c0_i32_2268 : BitVec 32) : Fin 3 → Nat :=
  let c7_2269 : Index := 7#32
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3217 : BitVec 32 := Scalar.addi v3161 c0_i32_2268
  let v3218 : Index := Scalar.indexCast v3217
  let c0_2270 : Index := 0#32
  ![7, v3218.toNat, 0]
def k0_off62 (k0_t7 : Fin k0_t7_loop.trips) (c8_i32 : BitVec 32) : Fin 3 → Nat :=
  let c0_2274 : Index := 0#32
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3226 : BitVec 32 := Scalar.addi v3161 c8_i32
  let v3227 : Index := Scalar.indexCast v3226
  let c0_2275 : Index := 0#32
  ![0, v3227.toNat, 0]
def k0_off63 (k0_t7 : Fin k0_t7_loop.trips) : Fin 2 → Nat :=
  let c0_i32_732 : BitVec 32 := 0#32
  let c1_i32_734 : BitVec 32 := 1#32
  let arg31 : BitVec 32 := Scf.iv c0_i32_732 c1_i32_734 k0_t7
  let c128_i32_2236 : BitVec 32 := 128#32
  let v3160 : BitVec 32 := Scalar.muli arg31 c128_i32_2236
  let v3161 : BitVec 32 := v3160
  let v3442 : Index := Scalar.indexCast v3161
  let c0_2402 : Index := 0#32
  ![v3442.toNat, 0]
@[reducible] def k0_t8_loop : Scf.Loop 32 :=
  let c0_i32_767 : BitVec 32 := 0#32
  let c4_i32_768 : BitVec 32 := 4#32
  let v1084 : BitVec 32 := Scalar.addi c0_i32_767 c4_i32_768
  let c1_i32_769 : BitVec 32 := 1#32
  ⟨c0_i32_767, v1084, c1_i32_769⟩
def k0_mult8 (k0_t8 : Fin k0_t8_loop.trips) : BitVec 32 :=
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  v3160
def k0_off64 (k0_t8 : Fin k0_t8_loop.trips) : Fin 2 → Nat :=
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3162 : Index := Scalar.indexCast v3161
  let c0_2236 : Index := 0#32
  ![v3162.toNat, 0]
def k0_off65 (k0_t8 : Fin k0_t8_loop.trips) (c0_i32_2237 : BitVec 32) : Fin 3 → Nat :=
  let c1_2238 : Index := 1#32
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3164 : BitVec 32 := Scalar.addi v3161 c0_i32_2237
  let v3165 : Index := Scalar.indexCast v3164
  let c0_2239 : Index := 0#32
  ![1, v3165.toNat, 0]
def k0_off66 (k0_t8 : Fin k0_t8_loop.trips) (c0_i32_2241 : BitVec 32) : Fin 3 → Nat :=
  let c2_2242 : Index := 2#32
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3172 : BitVec 32 := Scalar.addi v3161 c0_i32_2241
  let v3173 : Index := Scalar.indexCast v3172
  let c0_2243 : Index := 0#32
  ![2, v3173.toNat, 0]
def k0_off67 (k0_t8 : Fin k0_t8_loop.trips) (c0_i32_2245 : BitVec 32) : Fin 3 → Nat :=
  let c3_2246 : Index := 3#32
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3180 : BitVec 32 := Scalar.addi v3161 c0_i32_2245
  let v3181 : Index := Scalar.indexCast v3180
  let c0_2247 : Index := 0#32
  ![3, v3181.toNat, 0]
def k0_off68 (k0_t8 : Fin k0_t8_loop.trips) (c0_i32_2249 : BitVec 32) : Fin 3 → Nat :=
  let c4_2250 : Index := 4#32
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3188 : BitVec 32 := Scalar.addi v3161 c0_i32_2249
  let v3189 : Index := Scalar.indexCast v3188
  let c0_2251 : Index := 0#32
  ![4, v3189.toNat, 0]
def k0_off69 (k0_t8 : Fin k0_t8_loop.trips) (c0_i32_2253 : BitVec 32) : Fin 3 → Nat :=
  let c5_2254 : Index := 5#32
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3196 : BitVec 32 := Scalar.addi v3161 c0_i32_2253
  let v3197 : Index := Scalar.indexCast v3196
  let c0_2255 : Index := 0#32
  ![5, v3197.toNat, 0]
def k0_off70 (k0_t8 : Fin k0_t8_loop.trips) (c0_i32_2257 : BitVec 32) : Fin 3 → Nat :=
  let c6_2258 : Index := 6#32
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3204 : BitVec 32 := Scalar.addi v3161 c0_i32_2257
  let v3205 : Index := Scalar.indexCast v3204
  let c0_2259 : Index := 0#32
  ![6, v3205.toNat, 0]
def k0_off71 (k0_t8 : Fin k0_t8_loop.trips) (c0_i32_2261 : BitVec 32) : Fin 3 → Nat :=
  let c7_2262 : Index := 7#32
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3212 : BitVec 32 := Scalar.addi v3161 c0_i32_2261
  let v3213 : Index := Scalar.indexCast v3212
  let c0_2263 : Index := 0#32
  ![7, v3213.toNat, 0]
def k0_off72 (k0_t8 : Fin k0_t8_loop.trips) (c8_i32 : BitVec 32) : Fin 3 → Nat :=
  let c0_2265 : Index := 0#32
  let c0_i32_767 : BitVec 32 := 0#32
  let c1_i32_769 : BitVec 32 := 1#32
  let arg31 : BitVec 32 := Scf.iv c0_i32_767 c1_i32_769 k0_t8
  let c64_i32 : BitVec 32 := 64#32
  let v3160 : BitVec 32 := Scalar.muli arg31 c64_i32
  let v3161 : BitVec 32 := v3160
  let v3220 : BitVec 32 := Scalar.addi v3161 c8_i32
  let v3221 : Index := Scalar.indexCast v3220
  let c0_2266 : Index := 0#32
  ![0, v3221.toNat, 0]
@[reducible] def k0_t9_loop : Scf.Loop 32 :=
  let c0_i32_942 : BitVec 32 := 0#32
  let c2_i32_943 : BitVec 32 := 2#32
  let v1299 : BitVec 32 := Scalar.addi c0_i32_942 c2_i32_943
  let c1_i32_944 : BitVec 32 := 1#32
  ⟨c0_i32_942, v1299, c1_i32_944⟩
def k0_mult9 (k0_t9 : Fin k0_t9_loop.trips) : BitVec 32 :=
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  v3160
def k0_off73 (k0_t9 : Fin k0_t9_loop.trips) (c0_i32_2238 : BitVec 32) : Fin 3 → Nat :=
  let c1_2239 : Index := 1#32
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3163 : BitVec 32 := Scalar.addi v3161 c0_i32_2238
  let v3164 : Index := Scalar.indexCast v3163
  let c0_2240 : Index := 0#32
  ![1, v3164.toNat, 0]
def k0_off74 (k0_t9 : Fin k0_t9_loop.trips) (c0_i32_2243 : BitVec 32) : Fin 3 → Nat :=
  let c2_2244 : Index := 2#32
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3172 : BitVec 32 := Scalar.addi v3161 c0_i32_2243
  let v3173 : Index := Scalar.indexCast v3172
  let c0_2245 : Index := 0#32
  ![2, v3173.toNat, 0]
def k0_off75 (k0_t9 : Fin k0_t9_loop.trips) (c0_i32_2248 : BitVec 32) : Fin 3 → Nat :=
  let c3_2249 : Index := 3#32
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3181 : BitVec 32 := Scalar.addi v3161 c0_i32_2248
  let v3182 : Index := Scalar.indexCast v3181
  let c0_2250 : Index := 0#32
  ![3, v3182.toNat, 0]
def k0_off76 (k0_t9 : Fin k0_t9_loop.trips) (c0_i32_2253 : BitVec 32) : Fin 3 → Nat :=
  let c4_2254 : Index := 4#32
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3190 : BitVec 32 := Scalar.addi v3161 c0_i32_2253
  let v3191 : Index := Scalar.indexCast v3190
  let c0_2255 : Index := 0#32
  ![4, v3191.toNat, 0]
def k0_off77 (k0_t9 : Fin k0_t9_loop.trips) (c0_i32_2258 : BitVec 32) : Fin 3 → Nat :=
  let c5_2259 : Index := 5#32
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3199 : BitVec 32 := Scalar.addi v3161 c0_i32_2258
  let v3200 : Index := Scalar.indexCast v3199
  let c0_2260 : Index := 0#32
  ![5, v3200.toNat, 0]
def k0_off78 (k0_t9 : Fin k0_t9_loop.trips) (c0_i32_2263 : BitVec 32) : Fin 3 → Nat :=
  let c6_2264 : Index := 6#32
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3208 : BitVec 32 := Scalar.addi v3161 c0_i32_2263
  let v3209 : Index := Scalar.indexCast v3208
  let c0_2265 : Index := 0#32
  ![6, v3209.toNat, 0]
def k0_off79 (k0_t9 : Fin k0_t9_loop.trips) (c0_i32_2268 : BitVec 32) : Fin 3 → Nat :=
  let c7_2269 : Index := 7#32
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3217 : BitVec 32 := Scalar.addi v3161 c0_i32_2268
  let v3218 : Index := Scalar.indexCast v3217
  let c0_2270 : Index := 0#32
  ![7, v3218.toNat, 0]
def k0_off80 (k0_t9 : Fin k0_t9_loop.trips) (c8_i32 : BitVec 32) : Fin 3 → Nat :=
  let c0_2274 : Index := 0#32
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3226 : BitVec 32 := Scalar.addi v3161 c8_i32
  let v3227 : Index := Scalar.indexCast v3226
  let c0_2275 : Index := 0#32
  ![0, v3227.toNat, 0]
def k0_off81 (k0_t9 : Fin k0_t9_loop.trips) : Fin 2 → Nat :=
  let c0_i32_942 : BitVec 32 := 0#32
  let c1_i32_944 : BitVec 32 := 1#32
  let arg31 : BitVec 32 := Scf.iv c0_i32_942 c1_i32_944 k0_t9
  let c128_i32_2236 : BitVec 32 := 128#32
  let v3160 : BitVec 32 := Scalar.muli arg31 c128_i32_2236
  let v3161 : BitVec 32 := v3160
  let v3442 : Index := Scalar.indexCast v3161
  let c0_2402 : Index := 0#32
  ![v3442.toNat, 0]
@[reducible] def k0_t10_loop : Scf.Loop 32 :=
  let c0_i32_977 : BitVec 32 := 0#32
  let c4_i32_978 : BitVec 32 := 4#32
  let v1331 : BitVec 32 := Scalar.addi c0_i32_977 c4_i32_978
  let c1_i32_979 : BitVec 32 := 1#32
  ⟨c0_i32_977, v1331, c1_i32_979⟩
def k0_mult10 (k0_t10 : Fin k0_t10_loop.trips) : BitVec 32 :=
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  v3160
def k0_off82 (k0_t10 : Fin k0_t10_loop.trips) : Fin 2 → Nat :=
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3162 : Index := Scalar.indexCast v3161
  let c0_2236 : Index := 0#32
  ![v3162.toNat, 0]
def k0_off83 (k0_t10 : Fin k0_t10_loop.trips) (c0_i32_2237 : BitVec 32) : Fin 3 → Nat :=
  let c1_2238 : Index := 1#32
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3164 : BitVec 32 := Scalar.addi v3161 c0_i32_2237
  let v3165 : Index := Scalar.indexCast v3164
  let c0_2239 : Index := 0#32
  ![1, v3165.toNat, 0]
def k0_off84 (k0_t10 : Fin k0_t10_loop.trips) (c0_i32_2241 : BitVec 32) : Fin 3 → Nat :=
  let c2_2242 : Index := 2#32
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3172 : BitVec 32 := Scalar.addi v3161 c0_i32_2241
  let v3173 : Index := Scalar.indexCast v3172
  let c0_2243 : Index := 0#32
  ![2, v3173.toNat, 0]
def k0_off85 (k0_t10 : Fin k0_t10_loop.trips) (c0_i32_2245 : BitVec 32) : Fin 3 → Nat :=
  let c3_2246 : Index := 3#32
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3180 : BitVec 32 := Scalar.addi v3161 c0_i32_2245
  let v3181 : Index := Scalar.indexCast v3180
  let c0_2247 : Index := 0#32
  ![3, v3181.toNat, 0]
def k0_off86 (k0_t10 : Fin k0_t10_loop.trips) (c0_i32_2249 : BitVec 32) : Fin 3 → Nat :=
  let c4_2250 : Index := 4#32
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3188 : BitVec 32 := Scalar.addi v3161 c0_i32_2249
  let v3189 : Index := Scalar.indexCast v3188
  let c0_2251 : Index := 0#32
  ![4, v3189.toNat, 0]
def k0_off87 (k0_t10 : Fin k0_t10_loop.trips) (c0_i32_2253 : BitVec 32) : Fin 3 → Nat :=
  let c5_2254 : Index := 5#32
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3196 : BitVec 32 := Scalar.addi v3161 c0_i32_2253
  let v3197 : Index := Scalar.indexCast v3196
  let c0_2255 : Index := 0#32
  ![5, v3197.toNat, 0]
def k0_off88 (k0_t10 : Fin k0_t10_loop.trips) (c0_i32_2257 : BitVec 32) : Fin 3 → Nat :=
  let c6_2258 : Index := 6#32
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3204 : BitVec 32 := Scalar.addi v3161 c0_i32_2257
  let v3205 : Index := Scalar.indexCast v3204
  let c0_2259 : Index := 0#32
  ![6, v3205.toNat, 0]
def k0_off89 (k0_t10 : Fin k0_t10_loop.trips) (c0_i32_2261 : BitVec 32) : Fin 3 → Nat :=
  let c7_2262 : Index := 7#32
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3212 : BitVec 32 := Scalar.addi v3161 c0_i32_2261
  let v3213 : Index := Scalar.indexCast v3212
  let c0_2263 : Index := 0#32
  ![7, v3213.toNat, 0]
def k0_off90 (k0_t10 : Fin k0_t10_loop.trips) (c8_i32 : BitVec 32) : Fin 3 → Nat :=
  let c0_2265 : Index := 0#32
  let c0_i32_977 : BitVec 32 := 0#32
  let c1_i32_979 : BitVec 32 := 1#32
  let arg31 : BitVec 32 := Scf.iv c0_i32_977 c1_i32_979 k0_t10
  let c64_i32 : BitVec 32 := 64#32
  let v3160 : BitVec 32 := Scalar.muli arg31 c64_i32
  let v3161 : BitVec 32 := v3160
  let v3220 : BitVec 32 := Scalar.addi v3161 c8_i32
  let v3221 : Index := Scalar.indexCast v3220
  let c0_2266 : Index := 0#32
  ![0, v3221.toNat, 0]
@[reducible] def k0_t11_loop : Scf.Loop 32 :=
  let c0_i32_1152 : BitVec 32 := 0#32
  let c2_i32_1153 : BitVec 32 := 2#32
  let v1546 : BitVec 32 := Scalar.addi c0_i32_1152 c2_i32_1153
  let c1_i32_1154 : BitVec 32 := 1#32
  ⟨c0_i32_1152, v1546, c1_i32_1154⟩
def k0_mult11 (k0_t11 : Fin k0_t11_loop.trips) : BitVec 32 :=
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  v3160
def k0_off91 (k0_t11 : Fin k0_t11_loop.trips) (c0_i32_2238 : BitVec 32) : Fin 3 → Nat :=
  let c1_2239 : Index := 1#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3163 : BitVec 32 := Scalar.addi v3161 c0_i32_2238
  let v3164 : Index := Scalar.indexCast v3163
  let c0_2240 : Index := 0#32
  ![1, v3164.toNat, 0]
def k0_off92 (k0_t11 : Fin k0_t11_loop.trips) (c0_i32_2243 : BitVec 32) : Fin 3 → Nat :=
  let c2_2244 : Index := 2#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3172 : BitVec 32 := Scalar.addi v3161 c0_i32_2243
  let v3173 : Index := Scalar.indexCast v3172
  let c0_2245 : Index := 0#32
  ![2, v3173.toNat, 0]
def k0_off93 (k0_t11 : Fin k0_t11_loop.trips) (c0_i32_2248 : BitVec 32) : Fin 3 → Nat :=
  let c3_2249 : Index := 3#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3181 : BitVec 32 := Scalar.addi v3161 c0_i32_2248
  let v3182 : Index := Scalar.indexCast v3181
  let c0_2250 : Index := 0#32
  ![3, v3182.toNat, 0]
def k0_off94 (k0_t11 : Fin k0_t11_loop.trips) (c0_i32_2253 : BitVec 32) : Fin 3 → Nat :=
  let c4_2254 : Index := 4#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3190 : BitVec 32 := Scalar.addi v3161 c0_i32_2253
  let v3191 : Index := Scalar.indexCast v3190
  let c0_2255 : Index := 0#32
  ![4, v3191.toNat, 0]
def k0_off95 (k0_t11 : Fin k0_t11_loop.trips) (c0_i32_2258 : BitVec 32) : Fin 3 → Nat :=
  let c5_2259 : Index := 5#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3199 : BitVec 32 := Scalar.addi v3161 c0_i32_2258
  let v3200 : Index := Scalar.indexCast v3199
  let c0_2260 : Index := 0#32
  ![5, v3200.toNat, 0]
def k0_off96 (k0_t11 : Fin k0_t11_loop.trips) (c0_i32_2263 : BitVec 32) : Fin 3 → Nat :=
  let c6_2264 : Index := 6#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3208 : BitVec 32 := Scalar.addi v3161 c0_i32_2263
  let v3209 : Index := Scalar.indexCast v3208
  let c0_2265 : Index := 0#32
  ![6, v3209.toNat, 0]
def k0_off97 (k0_t11 : Fin k0_t11_loop.trips) (c0_i32_2268 : BitVec 32) : Fin 3 → Nat :=
  let c7_2269 : Index := 7#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3217 : BitVec 32 := Scalar.addi v3161 c0_i32_2268
  let v3218 : Index := Scalar.indexCast v3217
  let c0_2270 : Index := 0#32
  ![7, v3218.toNat, 0]
def k0_off98 (k0_t11 : Fin k0_t11_loop.trips) (c8_i32 : BitVec 32) : Fin 3 → Nat :=
  let c0_2274 : Index := 0#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3226 : BitVec 32 := Scalar.addi v3161 c8_i32
  let v3227 : Index := Scalar.indexCast v3226
  let c0_2275 : Index := 0#32
  ![0, v3227.toNat, 0]
def k0_off99 (k0_t11 : Fin k0_t11_loop.trips) : Fin 2 → Nat :=
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3160 : BitVec 32 := Scalar.muli arg31 c128_i32_2236
  let v3161 : BitVec 32 := v3160
  let v3442 : Index := Scalar.indexCast v3161
  let c0_2402 : Index := 0#32
  ![v3442.toNat, 0]
@[reducible] def k0_t12_loop : Scf.Loop 32 :=
  let c0_i32_1187 : BitVec 32 := 0#32
  let c4_i32_1188 : BitVec 32 := 4#32
  let v1578 : BitVec 32 := Scalar.addi c0_i32_1187 c4_i32_1188
  let c1_i32_1189 : BitVec 32 := 1#32
  ⟨c0_i32_1187, v1578, c1_i32_1189⟩
def k0_mult12 (k0_t12 : Fin k0_t12_loop.trips) : BitVec 32 :=
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  v3160
def k0_off100 (k0_t12 : Fin k0_t12_loop.trips) : Fin 2 → Nat :=
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3162 : Index := Scalar.indexCast v3161
  let c0_2236 : Index := 0#32
  ![v3162.toNat, 0]
def k0_off101 (k0_t12 : Fin k0_t12_loop.trips) (c0_i32_2237 : BitVec 32) : Fin 3 → Nat :=
  let c1_2238 : Index := 1#32
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3164 : BitVec 32 := Scalar.addi v3161 c0_i32_2237
  let v3165 : Index := Scalar.indexCast v3164
  let c0_2239 : Index := 0#32
  ![1, v3165.toNat, 0]
def k0_off102 (k0_t12 : Fin k0_t12_loop.trips) (c0_i32_2241 : BitVec 32) : Fin 3 → Nat :=
  let c2_2242 : Index := 2#32
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3172 : BitVec 32 := Scalar.addi v3161 c0_i32_2241
  let v3173 : Index := Scalar.indexCast v3172
  let c0_2243 : Index := 0#32
  ![2, v3173.toNat, 0]
def k0_off103 (k0_t12 : Fin k0_t12_loop.trips) (c0_i32_2245 : BitVec 32) : Fin 3 → Nat :=
  let c3_2246 : Index := 3#32
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3180 : BitVec 32 := Scalar.addi v3161 c0_i32_2245
  let v3181 : Index := Scalar.indexCast v3180
  let c0_2247 : Index := 0#32
  ![3, v3181.toNat, 0]
def k0_off104 (k0_t12 : Fin k0_t12_loop.trips) (c0_i32_2249 : BitVec 32) : Fin 3 → Nat :=
  let c4_2250 : Index := 4#32
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3188 : BitVec 32 := Scalar.addi v3161 c0_i32_2249
  let v3189 : Index := Scalar.indexCast v3188
  let c0_2251 : Index := 0#32
  ![4, v3189.toNat, 0]
def k0_off105 (k0_t12 : Fin k0_t12_loop.trips) (c0_i32_2253 : BitVec 32) : Fin 3 → Nat :=
  let c5_2254 : Index := 5#32
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3196 : BitVec 32 := Scalar.addi v3161 c0_i32_2253
  let v3197 : Index := Scalar.indexCast v3196
  let c0_2255 : Index := 0#32
  ![5, v3197.toNat, 0]
def k0_off106 (k0_t12 : Fin k0_t12_loop.trips) (c0_i32_2257 : BitVec 32) : Fin 3 → Nat :=
  let c6_2258 : Index := 6#32
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3204 : BitVec 32 := Scalar.addi v3161 c0_i32_2257
  let v3205 : Index := Scalar.indexCast v3204
  let c0_2259 : Index := 0#32
  ![6, v3205.toNat, 0]
def k0_off107 (k0_t12 : Fin k0_t12_loop.trips) (c0_i32_2261 : BitVec 32) : Fin 3 → Nat :=
  let c7_2262 : Index := 7#32
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3212 : BitVec 32 := Scalar.addi v3161 c0_i32_2261
  let v3213 : Index := Scalar.indexCast v3212
  let c0_2263 : Index := 0#32
  ![7, v3213.toNat, 0]
def k0_off108 (k0_t12 : Fin k0_t12_loop.trips) (c8_i32 : BitVec 32) : Fin 3 → Nat :=
  let c0_2265 : Index := 0#32
  let c0_i32_1187 : BitVec 32 := 0#32
  let c1_i32_1189 : BitVec 32 := 1#32
  let arg31 : BitVec 32 := Scf.iv c0_i32_1187 c1_i32_1189 k0_t12
  let c64_i32 : BitVec 32 := 64#32
  let v3160 : BitVec 32 := Scalar.muli arg31 c64_i32
  let v3161 : BitVec 32 := v3160
  let v3220 : BitVec 32 := Scalar.addi v3161 c8_i32
  let v3221 : Index := Scalar.indexCast v3220
  let c0_2266 : Index := 0#32
  ![0, v3221.toNat, 0]
@[reducible] def k0_t13_loop : Scf.Loop 32 :=
  let c0_i32_1362 : BitVec 32 := 0#32
  let c2_i32_1363 : BitVec 32 := 2#32
  let v1793 : BitVec 32 := Scalar.addi c0_i32_1362 c2_i32_1363
  let c1_i32_1364 : BitVec 32 := 1#32
  ⟨c0_i32_1362, v1793, c1_i32_1364⟩
def k0_mult13 (k0_t13 : Fin k0_t13_loop.trips) : BitVec 32 :=
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  v3160
def k0_off109 (k0_t13 : Fin k0_t13_loop.trips) (c0_i32_2238 : BitVec 32) : Fin 3 → Nat :=
  let c1_2239 : Index := 1#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3163 : BitVec 32 := Scalar.addi v3161 c0_i32_2238
  let v3164 : Index := Scalar.indexCast v3163
  let c0_2240 : Index := 0#32
  ![1, v3164.toNat, 0]
def k0_off110 (k0_t13 : Fin k0_t13_loop.trips) (c0_i32_2243 : BitVec 32) : Fin 3 → Nat :=
  let c2_2244 : Index := 2#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3172 : BitVec 32 := Scalar.addi v3161 c0_i32_2243
  let v3173 : Index := Scalar.indexCast v3172
  let c0_2245 : Index := 0#32
  ![2, v3173.toNat, 0]
def k0_off111 (k0_t13 : Fin k0_t13_loop.trips) (c0_i32_2248 : BitVec 32) : Fin 3 → Nat :=
  let c3_2249 : Index := 3#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3181 : BitVec 32 := Scalar.addi v3161 c0_i32_2248
  let v3182 : Index := Scalar.indexCast v3181
  let c0_2250 : Index := 0#32
  ![3, v3182.toNat, 0]
def k0_off112 (k0_t13 : Fin k0_t13_loop.trips) (c0_i32_2253 : BitVec 32) : Fin 3 → Nat :=
  let c4_2254 : Index := 4#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3190 : BitVec 32 := Scalar.addi v3161 c0_i32_2253
  let v3191 : Index := Scalar.indexCast v3190
  let c0_2255 : Index := 0#32
  ![4, v3191.toNat, 0]
def k0_off113 (k0_t13 : Fin k0_t13_loop.trips) (c0_i32_2258 : BitVec 32) : Fin 3 → Nat :=
  let c5_2259 : Index := 5#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3199 : BitVec 32 := Scalar.addi v3161 c0_i32_2258
  let v3200 : Index := Scalar.indexCast v3199
  let c0_2260 : Index := 0#32
  ![5, v3200.toNat, 0]
def k0_off114 (k0_t13 : Fin k0_t13_loop.trips) (c0_i32_2263 : BitVec 32) : Fin 3 → Nat :=
  let c6_2264 : Index := 6#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3208 : BitVec 32 := Scalar.addi v3161 c0_i32_2263
  let v3209 : Index := Scalar.indexCast v3208
  let c0_2265 : Index := 0#32
  ![6, v3209.toNat, 0]
def k0_off115 (k0_t13 : Fin k0_t13_loop.trips) (c0_i32_2268 : BitVec 32) : Fin 3 → Nat :=
  let c7_2269 : Index := 7#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3217 : BitVec 32 := Scalar.addi v3161 c0_i32_2268
  let v3218 : Index := Scalar.indexCast v3217
  let c0_2270 : Index := 0#32
  ![7, v3218.toNat, 0]
def k0_off116 (k0_t13 : Fin k0_t13_loop.trips) (c8_i32 : BitVec 32) : Fin 3 → Nat :=
  let c0_2274 : Index := 0#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3226 : BitVec 32 := Scalar.addi v3161 c8_i32
  let v3227 : Index := Scalar.indexCast v3226
  let c0_2275 : Index := 0#32
  ![0, v3227.toNat, 0]
def k0_off117 (k0_t13 : Fin k0_t13_loop.trips) : Fin 2 → Nat :=
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3160 : BitVec 32 := Scalar.muli arg31 c128_i32_2236
  let v3161 : BitVec 32 := v3160
  let v3442 : Index := Scalar.indexCast v3161
  let c0_2402 : Index := 0#32
  ![v3442.toNat, 0]
@[reducible] def k0_t14_loop : Scf.Loop 32 :=
  let c0_i32_1397 : BitVec 32 := 0#32
  let c4_i32_1398 : BitVec 32 := 4#32
  let v1825 : BitVec 32 := Scalar.addi c0_i32_1397 c4_i32_1398
  let c1_i32_1399 : BitVec 32 := 1#32
  ⟨c0_i32_1397, v1825, c1_i32_1399⟩
def k0_mult14 (k0_t14 : Fin k0_t14_loop.trips) : BitVec 32 :=
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  v3160
def k0_off118 (k0_t14 : Fin k0_t14_loop.trips) : Fin 2 → Nat :=
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3162 : Index := Scalar.indexCast v3161
  let c0_2236 : Index := 0#32
  ![v3162.toNat, 0]
def k0_off119 (k0_t14 : Fin k0_t14_loop.trips) (c0_i32_2237 : BitVec 32) : Fin 3 → Nat :=
  let c1_2238 : Index := 1#32
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3164 : BitVec 32 := Scalar.addi v3161 c0_i32_2237
  let v3165 : Index := Scalar.indexCast v3164
  let c0_2239 : Index := 0#32
  ![1, v3165.toNat, 0]
def k0_off120 (k0_t14 : Fin k0_t14_loop.trips) (c0_i32_2241 : BitVec 32) : Fin 3 → Nat :=
  let c2_2242 : Index := 2#32
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3172 : BitVec 32 := Scalar.addi v3161 c0_i32_2241
  let v3173 : Index := Scalar.indexCast v3172
  let c0_2243 : Index := 0#32
  ![2, v3173.toNat, 0]
def k0_off121 (k0_t14 : Fin k0_t14_loop.trips) (c0_i32_2245 : BitVec 32) : Fin 3 → Nat :=
  let c3_2246 : Index := 3#32
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3180 : BitVec 32 := Scalar.addi v3161 c0_i32_2245
  let v3181 : Index := Scalar.indexCast v3180
  let c0_2247 : Index := 0#32
  ![3, v3181.toNat, 0]
def k0_off122 (k0_t14 : Fin k0_t14_loop.trips) (c0_i32_2249 : BitVec 32) : Fin 3 → Nat :=
  let c4_2250 : Index := 4#32
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3188 : BitVec 32 := Scalar.addi v3161 c0_i32_2249
  let v3189 : Index := Scalar.indexCast v3188
  let c0_2251 : Index := 0#32
  ![4, v3189.toNat, 0]
def k0_off123 (k0_t14 : Fin k0_t14_loop.trips) (c0_i32_2253 : BitVec 32) : Fin 3 → Nat :=
  let c5_2254 : Index := 5#32
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3196 : BitVec 32 := Scalar.addi v3161 c0_i32_2253
  let v3197 : Index := Scalar.indexCast v3196
  let c0_2255 : Index := 0#32
  ![5, v3197.toNat, 0]
def k0_off124 (k0_t14 : Fin k0_t14_loop.trips) (c0_i32_2257 : BitVec 32) : Fin 3 → Nat :=
  let c6_2258 : Index := 6#32
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3204 : BitVec 32 := Scalar.addi v3161 c0_i32_2257
  let v3205 : Index := Scalar.indexCast v3204
  let c0_2259 : Index := 0#32
  ![6, v3205.toNat, 0]
def k0_off125 (k0_t14 : Fin k0_t14_loop.trips) (c0_i32_2261 : BitVec 32) : Fin 3 → Nat :=
  let c7_2262 : Index := 7#32
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3212 : BitVec 32 := Scalar.addi v3161 c0_i32_2261
  let v3213 : Index := Scalar.indexCast v3212
  let c0_2263 : Index := 0#32
  ![7, v3213.toNat, 0]
def k0_off126 (k0_t14 : Fin k0_t14_loop.trips) (c8_i32 : BitVec 32) : Fin 3 → Nat :=
  let c0_2265 : Index := 0#32
  let c0_i32_1397 : BitVec 32 := 0#32
  let c1_i32_1399 : BitVec 32 := 1#32
  let arg31 : BitVec 32 := Scf.iv c0_i32_1397 c1_i32_1399 k0_t14
  let c64_i32 : BitVec 32 := 64#32
  let v3160 : BitVec 32 := Scalar.muli arg31 c64_i32
  let v3161 : BitVec 32 := v3160
  let v3220 : BitVec 32 := Scalar.addi v3161 c8_i32
  let v3221 : Index := Scalar.indexCast v3220
  let c0_2266 : Index := 0#32
  ![0, v3221.toNat, 0]
@[reducible] def k0_t15_loop : Scf.Loop 32 :=
  let c0_i32_1572 : BitVec 32 := 0#32
  let c2_i32_1573 : BitVec 32 := 2#32
  let v2040 : BitVec 32 := Scalar.addi c0_i32_1572 c2_i32_1573
  let c1_i32_1574 : BitVec 32 := 1#32
  ⟨c0_i32_1572, v2040, c1_i32_1574⟩
def k0_mult15 (k0_t15 : Fin k0_t15_loop.trips) : BitVec 32 :=
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  v3160
def k0_off127 (k0_t15 : Fin k0_t15_loop.trips) (c0_i32_2238 : BitVec 32) : Fin 3 → Nat :=
  let c1_2239 : Index := 1#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3163 : BitVec 32 := Scalar.addi v3161 c0_i32_2238
  let v3164 : Index := Scalar.indexCast v3163
  let c0_2240 : Index := 0#32
  ![1, v3164.toNat, 0]
def k0_off128 (k0_t15 : Fin k0_t15_loop.trips) (c0_i32_2243 : BitVec 32) : Fin 3 → Nat :=
  let c2_2244 : Index := 2#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3172 : BitVec 32 := Scalar.addi v3161 c0_i32_2243
  let v3173 : Index := Scalar.indexCast v3172
  let c0_2245 : Index := 0#32
  ![2, v3173.toNat, 0]
def k0_off129 (k0_t15 : Fin k0_t15_loop.trips) (c0_i32_2248 : BitVec 32) : Fin 3 → Nat :=
  let c3_2249 : Index := 3#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3181 : BitVec 32 := Scalar.addi v3161 c0_i32_2248
  let v3182 : Index := Scalar.indexCast v3181
  let c0_2250 : Index := 0#32
  ![3, v3182.toNat, 0]
def k0_off130 (k0_t15 : Fin k0_t15_loop.trips) (c0_i32_2253 : BitVec 32) : Fin 3 → Nat :=
  let c4_2254 : Index := 4#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3190 : BitVec 32 := Scalar.addi v3161 c0_i32_2253
  let v3191 : Index := Scalar.indexCast v3190
  let c0_2255 : Index := 0#32
  ![4, v3191.toNat, 0]
def k0_off131 (k0_t15 : Fin k0_t15_loop.trips) (c0_i32_2258 : BitVec 32) : Fin 3 → Nat :=
  let c5_2259 : Index := 5#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3199 : BitVec 32 := Scalar.addi v3161 c0_i32_2258
  let v3200 : Index := Scalar.indexCast v3199
  let c0_2260 : Index := 0#32
  ![5, v3200.toNat, 0]
def k0_off132 (k0_t15 : Fin k0_t15_loop.trips) (c0_i32_2263 : BitVec 32) : Fin 3 → Nat :=
  let c6_2264 : Index := 6#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3208 : BitVec 32 := Scalar.addi v3161 c0_i32_2263
  let v3209 : Index := Scalar.indexCast v3208
  let c0_2265 : Index := 0#32
  ![6, v3209.toNat, 0]
def k0_off133 (k0_t15 : Fin k0_t15_loop.trips) (c0_i32_2268 : BitVec 32) : Fin 3 → Nat :=
  let c7_2269 : Index := 7#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3217 : BitVec 32 := Scalar.addi v3161 c0_i32_2268
  let v3218 : Index := Scalar.indexCast v3217
  let c0_2270 : Index := 0#32
  ![7, v3218.toNat, 0]
def k0_off134 (k0_t15 : Fin k0_t15_loop.trips) (c8_i32 : BitVec 32) : Fin 3 → Nat :=
  let c0_2274 : Index := 0#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3226 : BitVec 32 := Scalar.addi v3161 c8_i32
  let v3227 : Index := Scalar.indexCast v3226
  let c0_2275 : Index := 0#32
  ![0, v3227.toNat, 0]
def k0_off135 (k0_t15 : Fin k0_t15_loop.trips) : Fin 2 → Nat :=
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3160 : BitVec 32 := Scalar.muli arg31 c128_i32_2236
  let v3161 : BitVec 32 := v3160
  let v3442 : Index := Scalar.indexCast v3161
  let c0_2402 : Index := 0#32
  ![v3442.toNat, 0]
@[reducible] def k0_t16_loop : Scf.Loop 32 :=
  let c0_i32_1607 : BitVec 32 := 0#32
  let c4_i32_1608 : BitVec 32 := 4#32
  let v2072 : BitVec 32 := Scalar.addi c0_i32_1607 c4_i32_1608
  let c1_i32_1609 : BitVec 32 := 1#32
  ⟨c0_i32_1607, v2072, c1_i32_1609⟩
def k0_mult16 (k0_t16 : Fin k0_t16_loop.trips) : BitVec 32 :=
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  v3160
def k0_off136 (k0_t16 : Fin k0_t16_loop.trips) : Fin 2 → Nat :=
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3162 : Index := Scalar.indexCast v3161
  let c0_2236 : Index := 0#32
  ![v3162.toNat, 0]
def k0_off137 (k0_t16 : Fin k0_t16_loop.trips) (c0_i32_2237 : BitVec 32) : Fin 3 → Nat :=
  let c1_2238 : Index := 1#32
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3164 : BitVec 32 := Scalar.addi v3161 c0_i32_2237
  let v3165 : Index := Scalar.indexCast v3164
  let c0_2239 : Index := 0#32
  ![1, v3165.toNat, 0]
def k0_off138 (k0_t16 : Fin k0_t16_loop.trips) (c0_i32_2241 : BitVec 32) : Fin 3 → Nat :=
  let c2_2242 : Index := 2#32
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3172 : BitVec 32 := Scalar.addi v3161 c0_i32_2241
  let v3173 : Index := Scalar.indexCast v3172
  let c0_2243 : Index := 0#32
  ![2, v3173.toNat, 0]
def k0_off139 (k0_t16 : Fin k0_t16_loop.trips) (c0_i32_2245 : BitVec 32) : Fin 3 → Nat :=
  let c3_2246 : Index := 3#32
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3180 : BitVec 32 := Scalar.addi v3161 c0_i32_2245
  let v3181 : Index := Scalar.indexCast v3180
  let c0_2247 : Index := 0#32
  ![3, v3181.toNat, 0]
def k0_off140 (k0_t16 : Fin k0_t16_loop.trips) (c0_i32_2249 : BitVec 32) : Fin 3 → Nat :=
  let c4_2250 : Index := 4#32
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3188 : BitVec 32 := Scalar.addi v3161 c0_i32_2249
  let v3189 : Index := Scalar.indexCast v3188
  let c0_2251 : Index := 0#32
  ![4, v3189.toNat, 0]
def k0_off141 (k0_t16 : Fin k0_t16_loop.trips) (c0_i32_2253 : BitVec 32) : Fin 3 → Nat :=
  let c5_2254 : Index := 5#32
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3196 : BitVec 32 := Scalar.addi v3161 c0_i32_2253
  let v3197 : Index := Scalar.indexCast v3196
  let c0_2255 : Index := 0#32
  ![5, v3197.toNat, 0]
def k0_off142 (k0_t16 : Fin k0_t16_loop.trips) (c0_i32_2257 : BitVec 32) : Fin 3 → Nat :=
  let c6_2258 : Index := 6#32
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3204 : BitVec 32 := Scalar.addi v3161 c0_i32_2257
  let v3205 : Index := Scalar.indexCast v3204
  let c0_2259 : Index := 0#32
  ![6, v3205.toNat, 0]
def k0_off143 (k0_t16 : Fin k0_t16_loop.trips) (c0_i32_2261 : BitVec 32) : Fin 3 → Nat :=
  let c7_2262 : Index := 7#32
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3212 : BitVec 32 := Scalar.addi v3161 c0_i32_2261
  let v3213 : Index := Scalar.indexCast v3212
  let c0_2263 : Index := 0#32
  ![7, v3213.toNat, 0]
def k0_off144 (k0_t16 : Fin k0_t16_loop.trips) (c8_i32 : BitVec 32) : Fin 3 → Nat :=
  let c0_2265 : Index := 0#32
  let c0_i32_1607 : BitVec 32 := 0#32
  let c1_i32_1609 : BitVec 32 := 1#32
  let arg31 : BitVec 32 := Scf.iv c0_i32_1607 c1_i32_1609 k0_t16
  let c64_i32 : BitVec 32 := 64#32
  let v3160 : BitVec 32 := Scalar.muli arg31 c64_i32
  let v3161 : BitVec 32 := v3160
  let v3220 : BitVec 32 := Scalar.addi v3161 c8_i32
  let v3221 : Index := Scalar.indexCast v3220
  let c0_2266 : Index := 0#32
  ![0, v3221.toNat, 0]
def k0_cond2 (i : grid0.Coords) : BitVec 1 :=
  let arg0 : BitVec 32 := BitVec.ofNat 32 (i 0).val
  let c31_i32_2234 : BitVec 32 := 31#32
  let v3157 : BitVec 1 := Scalar.cmpi .eq arg0 c31_i32_2234
  let v3158 : BitVec 32 := Scalar.extui v3157
  let c0_i32_2235 : BitVec 32 := 0#32
  let v3159 : BitVec 1 := Scalar.cmpi .ne v3158 c0_i32_2235
  v3159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x31x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x6144 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S40x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== SguBwdRefIdeal.lean ====
abbrev S8192x6144 : Shape := ⟨2, ![8192, 6144]⟩
abbrev S8192x2048 : Shape := ⟨2, ![8192, 2048]⟩
abbrev S8192x1024 : Shape := ⟨2, ![8192, 1024]⟩
abbrev S4x31x256 : Shape := ⟨3, ![4, 31, 256]⟩
abbrev S1x1024 : Shape := ⟨2, ![1, 1024]⟩
abbrev S1x8x128x128 : Shape := ⟨4, ![1, 8, 128, 128]⟩
abbrev S1x8x128 : Shape := ⟨3, ![1, 8, 128]⟩
abbrev S8x1024 : Shape := ⟨2, ![8, 1024]⟩
abbrev S8x128 : Shape := ⟨2, ![8, 128]⟩
abbrev S8192x3072 : Shape := ⟨2, ![8192, 3072]⟩
abbrev S1024 : Shape := ⟨1, ![1024]⟩
abbrev S8x128x128 : Shape := ⟨3, ![8, 128, 128]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S3x1024 : Shape := ⟨2, ![3, 1024]⟩
abbrev S32x1024 : Shape := ⟨2, ![32, 1024]⟩
abbrev S40x1024 : Shape := ⟨2, ![40, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x1024, .f32⟩
  | .hbm, ⟨3, _⟩ => ⟨S4x31x256, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x8x128x128, .f32⟩
  | .hbm, ⟨9, _⟩ => ⟨S1x8x128, .f32⟩
  | .hbm, ⟨10, _⟩ => ⟨S8x1024, .f32⟩
  | .hbm, ⟨11, _⟩ => ⟨S8x1024, .f32⟩
  | .hbm, ⟨12, _⟩ => ⟨S8x128, .f32⟩
  | .hbm, ⟨13, _⟩ => ⟨S8192x3072, .bf16⟩
  | .hbm, ⟨14, _⟩ => ⟨S8192x3072, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024, .f32⟩
  | .hbm, ⟨19, _⟩ => ⟨S1024, .f32⟩
  | .hbm, ⟨20, _⟩ => ⟨S8x128x128, .f32⟩
  | .hbm, ⟨21, _⟩ => ⟨S8x128, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S64x128x8x128, .f32⟩
  | .hbm, ⟨50, _⟩ => ⟨S8x64x128x128, .f32⟩
  | .hbm, ⟨51, _⟩ => ⟨S64x128x8x128, .f32⟩
  | .hbm, ⟨52, _⟩ => ⟨S128x8, .f32⟩
  | .hbm, ⟨53, _⟩ => ⟨S1x128x8x1, .f32⟩
  | .hbm, ⟨54, _⟩ => ⟨S64x128x8x128, .f32⟩
  | .hbm, ⟨55, _⟩ => ⟨S64x128x8x128, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S64x128x8x128, .f32⟩
  | .hbm, ⟨73, _⟩ => ⟨S_, .f32⟩
  | .hbm, ⟨74, _⟩ => ⟨S128x8, .f32⟩
  | .hbm, ⟨75, _⟩ => ⟨S1x128x8x1, .f32⟩
  | .hbm, ⟨76, _⟩ => ⟨S_, .f32⟩
  | .hbm, ⟨77, _⟩ => ⟨S128x8, .f32⟩
  | .hbm, ⟨78, _⟩ => ⟨S8x128, .f32⟩
  | .hbm, ⟨79, _⟩ => ⟨S8x64x128x128, .f32⟩
  | .hbm, ⟨80, _⟩ => ⟨S8x128x128, .f32⟩
  | .hbm, ⟨81, _⟩ => ⟨S8x64x128x128, .f32⟩
  | .hbm, ⟨82, _⟩ => ⟨S64x128x8x128, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S_, .f32⟩
  | .hbm, ⟨88, _⟩ => ⟨S1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S_, .f32⟩
  | .hbm, ⟨94, _⟩ => ⟨S1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S_, .f32⟩
  | .hbm, ⟨99, _⟩ => ⟨S3x1024, .f32⟩
  | .hbm, ⟨100, _⟩ => ⟨S1x1024, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S32x1024, .f32⟩
  | .hbm, ⟨106, _⟩ => ⟨S40x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_6 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== AdamIn.lean ====
abbrev S1024x1536 : Shape := ⟨2, ![1024, 1536]⟩
abbrev S8x128 : Shape := ⟨2, ![8, 128]⟩
abbrev S256x1536 : Shape := ⟨2, ![256, 1536]⟩

abbrev nBuf : Space → Nat
  | .hbm => 8
  | .vmem => 15
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S8x128, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S8x128, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x1536 : Shape := ⟨2, ![1024, 1536]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S8x128, .f32⟩
  | .hbm, ⟨5, _⟩ => ⟨S_, .f32⟩
  | .hbm, ⟨6, _⟩ => ⟨S1024x1536, .f32⟩
  | .hbm, ⟨7, _⟩ => ⟨S1024x1536, .f32⟩
  | .hbm, ⟨8, _⟩ => ⟨S_, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S_, .f32⟩
  | .hbm, ⟨13, _⟩ => ⟨S1024x1536, .f32⟩
  | .hbm, ⟨14, _⟩ => ⟨S1024x1536, .f32⟩
  | .hbm, ⟨15, _⟩ => ⟨S1024x1536, .f32⟩
  | .hbm, ⟨16, _⟩ => ⟨S_, .f32⟩
  | .hbm, ⟨17, _⟩ => ⟨S1024x1536, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S_, .f32⟩
  | .hbm, ⟨24, _⟩ => ⟨S1024x1536, .f32⟩
  | .hbm, ⟨25, _⟩ => ⟨S1024x1536, .f32⟩
  | .hbm, ⟨26, _⟩ => ⟨S1024x1536, .f32⟩
  | .hbm, ⟨27, _⟩ => ⟨S_, .f32⟩
  | .hbm, ⟨28, _⟩ => ⟨S1024x1536, .f32⟩
  | .hbm, ⟨29, _⟩ => ⟨S1024x1536, .f32⟩
  | .hbm, ⟨30, _⟩ => ⟨S1024x1536, .f32⟩
  | .hbm, ⟨31, _⟩ => ⟨S_, .f32⟩
  | .hbm, ⟨32, _⟩ => ⟨S1024x1536, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamOut.lean ====
abbrev S512x1024 : Shape := ⟨2, ![512, 1024]⟩
abbrev S8x128 : Shape := ⟨2, ![8, 128]⟩
abbrev S256x1024 : Shape := ⟨2, ![256, 1024]⟩

abbrev nBuf : Space → Nat
  | .hbm => 8
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x128, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x128, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x1024 : Shape := ⟨2, ![512, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x128, .f32⟩
  | .hbm, ⟨5, _⟩ => ⟨S_, .f32⟩
  | .hbm, ⟨6, _⟩ => ⟨S512x1024, .f32⟩
  | .hbm, ⟨7, _⟩ => ⟨S512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamSmall.lean ====
abbrev S3 : Shape := ⟨1, ![3]⟩
abbrev S40x1024 : Shape := ⟨2, ![40, 1024]⟩
abbrev S1024x128 : Shape := ⟨2, ![1024, 128]⟩
abbrev S31x256 : Shape := ⟨2, ![31, 256]⟩
abbrev S1x1024 : Shape := ⟨2, ![1, 1024]⟩
abbrev S1 : Shape := ⟨1, ![1]⟩

abbrev nBuf : Space → Nat
  | .hbm => 65
  | .vmem => 65
  | .smem => 1
  | _ => 0

abbrev bufTy : (tb : Table) → Fin (tcTables nBuf tb) → BufTy
  | .hbm, ⟨0, _⟩ => ⟨S40x1024, .f32⟩
  | .hbm, ⟨1, _⟩ => ⟨S1024x128, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S31x256, .f32⟩
  | .hbm, ⟨30, _⟩ => ⟨S31x256, .f32⟩
  | .hbm, ⟨31, _⟩ => ⟨S31x256, .f32⟩
  | .hbm, ⟨32, _⟩ => ⟨S31x256, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1024x128, .f32⟩
  | .hbm, ⟨54, _⟩ => ⟨S1024x128, .f32⟩
  | .hbm, ⟨55, _⟩ => ⟨S1024x128, .f32⟩
  | .hbm, ⟨56, _⟩ => ⟨S1024x128, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .local _ .vmem, ⟨0, _⟩ => ⟨S40x1024, .f32⟩
  | .local _ .vmem, ⟨1, _⟩ => ⟨S1024x128, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S31x256, .f32⟩
  | .local _ .vmem, ⟨30, _⟩ => ⟨S31x256, .f32⟩
  | .local _ .vmem, ⟨31, _⟩ => ⟨S31x256, .f32⟩
  | .local _ .vmem, ⟨32, _⟩ => ⟨S31x256, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1024x128, .f32⟩
  | .local _ .vmem, ⟨54, _⟩ => ⟨S1024x128, .f32⟩
  | .local _ .vmem, ⟨55, _⟩ => ⟨S1024x128, .f32⟩
  | .local _ .vmem, ⟨56, _⟩ => ⟨S1024x128, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S1x1024, .f32⟩
  | .local _ .smem, ⟨0, _⟩ => ⟨S3, .i32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_arg17 : Ref sig .tc := ⟨.hbm, 16, rfl⟩
abbrev main_arg18 : Ref sig .tc := ⟨.hbm, 17, rfl⟩
abbrev main_arg19 : Ref sig .tc := ⟨.hbm, 18, rfl⟩
abbrev main_arg20 : Ref sig .tc := ⟨.hbm, 19, rfl⟩
abbrev main_arg21 : Ref sig .tc := ⟨.hbm, 20, rfl⟩
abbrev main_arg22 : Ref sig .tc := ⟨.hbm, 21, rfl⟩
abbrev main_arg23 : Ref sig .tc := ⟨.hbm, 22, rfl⟩
abbrev main_arg24 : Ref sig .tc := ⟨.hbm, 23, rfl⟩
abbrev main_arg25 : Ref sig .tc := ⟨.hbm, 24, rfl⟩
abbrev main_arg26 : Ref sig .tc := ⟨.hbm, 25, rfl⟩
abbrev main_arg27 : Ref sig .tc := ⟨.hbm, 26, rfl⟩
abbrev main_arg28 : Ref sig .tc := ⟨.hbm, 27, rfl⟩
abbrev main_arg29 : Ref sig .tc := ⟨.hbm, 28, rfl⟩
abbrev main_v0_0 : Ref sig .tc := ⟨.hbm, 29, rfl⟩
abbrev main_v0_1 : Ref sig .tc := ⟨.hbm, 30, rfl⟩
abbrev main_v0_2 : Ref sig .tc := ⟨.hbm, 31, rfl⟩
abbrev main_v0_3 : Ref sig .tc := ⟨.hbm, 32, rfl⟩
abbrev main_v0_4 : Ref sig .tc := ⟨.hbm, 33, rfl⟩
abbrev main_v0_5 : Ref sig .tc := ⟨.hbm, 34, rfl⟩
abbrev main_v0_6 : Ref sig .tc := ⟨.hbm, 35, rfl⟩
abbrev main_v0_7 : Ref sig .tc := ⟨.hbm, 36, rfl⟩
abbrev main_v0_8 : Ref sig .tc := ⟨.hbm, 37, rfl⟩
abbrev main_v0_9 : Ref sig .tc := ⟨.hbm, 38, rfl⟩
abbrev main_v0_10 : Ref sig .tc := ⟨.hbm, 39, rfl⟩
abbrev main_v0_11 : Ref sig .tc := ⟨.hbm, 40, rfl⟩
abbrev main_v0_12 : Ref sig .tc := ⟨.hbm, 41, rfl⟩
abbrev main_v0_13 : Ref sig .tc := ⟨.hbm, 42, rfl⟩
abbrev main_v0_14 : Ref sig .tc := ⟨.hbm, 43, rfl⟩
abbrev main_v0_15 : Ref sig .tc := ⟨.hbm, 44, rfl⟩
abbrev main_v0_16 : Ref sig .tc := ⟨.hbm, 45, rfl⟩
abbrev main_v0_17 : Ref sig .tc := ⟨.hbm, 46, rfl⟩
abbrev main_v0_18 : Ref sig .tc := ⟨.hbm, 47, rfl⟩
abbrev main_v0_19 : Ref sig .tc := ⟨.hbm, 48, rfl⟩
abbrev main_v0_20 : Ref sig .tc := ⟨.hbm, 49, rfl⟩
abbrev main_v0_21 : Ref sig .tc := ⟨.hbm, 50, rfl⟩
abbrev main_v0_22 : Ref sig .tc := ⟨.hbm, 51, rfl⟩
abbrev main_v0_23 : Ref sig .tc := ⟨.hbm, 52, rfl⟩
abbrev main_v0_24 : Ref sig .tc := ⟨.hbm, 53, rfl⟩
abbrev main_v0_25 : Ref sig .tc := ⟨.hbm, 54, rfl⟩
abbrev main_v0_26 : Ref sig .tc := ⟨.hbm, 55, rfl⟩
abbrev main_v0_27 : Ref sig .tc := ⟨.hbm, 56, rfl⟩
abbrev main_v0_28 : Ref sig .tc := ⟨.hbm, 57, rfl⟩
abbrev main_v0_29 : Ref sig .tc := ⟨.hbm, 58, rfl⟩
abbrev main_v0_30 : Ref sig .tc := ⟨.hbm, 59, rfl⟩
abbrev main_v0_31 : Ref sig .tc := ⟨.hbm, 60, rfl⟩
abbrev main_v0_32 : Ref sig .tc := ⟨.hbm, 61, rfl⟩
abbrev main_v0_33 : Ref sig .tc := ⟨.hbm, 62, rfl⟩
abbrev main_v0_34 : Ref sig .tc := ⟨.hbm, 63, rfl⟩
abbrev main_v0_35 : Ref sig .tc := ⟨.hbm, 64, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_48 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_49 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_50 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_51 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_52 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_53 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_54 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_55 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_56 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_57 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_58 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_59 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_60 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_61 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_62 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_63 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_64 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S31x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S31x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S31x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S31x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false]

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
abbrev reads0_48 : Fin grid0.rank → Bool := ![false]

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))
abbrev reads0_49 : Fin grid0.rank → Bool := ![false]

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))
abbrev reads0_50 : Fin grid0.rank → Bool := ![false]

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))
abbrev reads0_51 : Fin grid0.rank → Bool := ![false]

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))
abbrev reads0_52 : Fin grid0.rank → Bool := ![false]

abbrev stage0_53 : Fin 1 → Memref sig .tc .vmem S1024x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))
abbrev reads0_53 : Fin grid0.rank → Bool := ![false]

abbrev stage0_54 : Fin 1 → Memref sig .tc .vmem S1024x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))
abbrev reads0_54 : Fin grid0.rank → Bool := ![false]

abbrev stage0_55 : Fin 1 → Memref sig .tc .vmem S1024x128 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))
abbrev reads0_55 : Fin grid0.rank → Bool := ![false]

abbrev stage0_56 : Fin 1 → Memref sig .tc .vmem S1024x128 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))
abbrev reads0_56 : Fin grid0.rank → Bool := ![false]

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
abbrev reads0_57 : Fin grid0.rank → Bool := ![false]

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))
abbrev reads0_58 : Fin grid0.rank → Bool := ![false]

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))
abbrev reads0_59 : Fin grid0.rank → Bool := ![false]

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))
abbrev reads0_60 : Fin grid0.rank → Bool := ![false]

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))
abbrev reads0_61 : Fin grid0.rank → Bool := ![false]

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
abbrev reads0_62 : Fin grid0.rank → Bool := ![false]

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))
abbrev reads0_63 : Fin grid0.rank → Bool := ![false]

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))
abbrev reads0_64 : Fin grid0.rank → Bool := ![false]
-- ==== AdamSmallRefIdeal.lean ====
abbrev S3 : Shape := ⟨1, ![3]⟩
abbrev S40x1024 : Shape := ⟨2, ![40, 1024]⟩
abbrev S1024x128 : Shape := ⟨2, ![1024, 128]⟩
abbrev S31x256 : Shape := ⟨2, ![31, 256]⟩
abbrev S1x1024 : Shape := ⟨2, ![1, 1024]⟩
abbrev S31x1024 : Shape := ⟨2, ![31, 1024]⟩
abbrev S31x4x256 : Shape := ⟨3, ![31, 4, 256]⟩
abbrev S1 : Shape := ⟨1, ![1]⟩
abbrev S_ : Shape := ⟨0, ![]⟩

abbrev nBuf : Space → Nat
  | .hbm => 347
  | .vmem => 0
  | .smem => 0
  | _ => 0

abbrev hbmTy0_0 (i : Nat) : BufTy := match i % 128 with
  | 0 => ⟨S3, .i32⟩
  | 1 => ⟨S40x1024, .f32⟩
  | 2 => ⟨S1024x128, .f32⟩
  | 3 => ⟨S31x256, .f32⟩
  | 4 => ⟨S31x256, .f32⟩
  | 5 => ⟨S31x256, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1024x128, .f32⟩
  | 22 => ⟨S1024x128, .f32⟩
  | 23 => ⟨S1024x128, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S31x1024, .f32⟩
  | 31 => ⟨S31x4x256, .f32⟩
  | 32 => ⟨S31x4x256, .i32⟩
  | 33 => ⟨S1, .i32⟩
  | 34 => ⟨S_, .i32⟩
  | 35 => ⟨S31x4x256, .i32⟩
  | 36 => ⟨S31x4x256, .i1⟩
  | 37 => ⟨S_, .f32⟩
  | 38 => ⟨S_, .f32⟩
  | 39 => ⟨S31x4x256, .f32⟩
  | 40 => ⟨S31x4x256, .f32⟩
  | 41 => ⟨S_, .f32⟩
  | 42 => ⟨S31x256, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S_, .f32⟩
  | 51 => ⟨S31x256, .f32⟩
  | 52 => ⟨S31x256, .f32⟩
  | 53 => ⟨S_, .f32⟩
  | 54 => ⟨S31x256, .f32⟩
  | 55 => ⟨S31x256, .f32⟩
  | 56 => ⟨S31x256, .f32⟩
  | 57 => ⟨S_, .f32⟩
  | 58 => ⟨S31x256, .f32⟩
  | 59 => ⟨S31x256, .f32⟩
  | 60 => ⟨S31x256, .f32⟩
  | 61 => ⟨S_, .f32⟩
  | 62 => ⟨S31x256, .f32⟩
  | 63 => ⟨S31x256, .f32⟩
  | 64 => ⟨S31x256, .f32⟩
  | 65 => ⟨S_, .f32⟩
  | 66 => ⟨S31x256, .f32⟩
  | 67 => ⟨S31x256, .f32⟩
  | 68 => ⟨S_, .f32⟩
  | 69 => ⟨S31x256, .f32⟩
  | 70 => ⟨S31x256, .f32⟩
  | 71 => ⟨S31x256, .f32⟩
  | 72 => ⟨S_, .f32⟩
  | 73 => ⟨S31x256, .f32⟩
  | 74 => ⟨S31x256, .f32⟩
  | 75 => ⟨S31x256, .f32⟩
  | 76 => ⟨S_, .f32⟩
  | 77 => ⟨S31x256, .f32⟩
  | 78 => ⟨S31x256, .f32⟩
  | 79 => ⟨S31x256, .f32⟩
  | 80 => ⟨S_, .f32⟩
  | 81 => ⟨S31x256, .f32⟩
  | 82 => ⟨S31x256, .f32⟩
  | 83 => ⟨S_, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S3, .i32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1024x128, .f32⟩
  | 122 => ⟨S1024x128, .f32⟩
  | 123 => ⟨S_, .f32⟩
  | 124 => ⟨S1024x128, .f32⟩
  | 125 => ⟨S1024x128, .f32⟩
  | 126 => ⟨S1024x128, .f32⟩
  | 127 => ⟨S_, .f32⟩
  | _ => ⟨S3, .i32⟩

abbrev hbmTy0_2 (i : Nat) : BufTy := match i % 128 with
  | 0 => ⟨S1024x128, .f32⟩
  | 1 => ⟨S1024x128, .f32⟩
  | 2 => ⟨S1024x128, .f32⟩
  | 3 => ⟨S_, .f32⟩
  | 4 => ⟨S1024x128, .f32⟩
  | 5 => ⟨S1024x128, .f32⟩
  | 6 => ⟨S1024x128, .f32⟩
  | 7 => ⟨S_, .f32⟩
  | 8 => ⟨S1024x128, .f32⟩
  | 9 => ⟨S1024x128, .f32⟩
  | 10 => ⟨S_, .f32⟩
  | 11 => ⟨S1024x128, .f32⟩
  | 12 => ⟨S1024x128, .f32⟩
  | 13 => ⟨S1024x128, .f32⟩
  | 14 => ⟨S_, .f32⟩
  | 15 => ⟨S1024x128, .f32⟩
  | 16 => ⟨S1024x128, .f32⟩
  | 17 => ⟨S1024x128, .f32⟩
  | 18 => ⟨S_, .f32⟩
  | 19 => ⟨S1024x128, .f32⟩
  | 20 => ⟨S1024x128, .f32⟩
  | 21 => ⟨S1024x128, .f32⟩
  | 22 => ⟨S_, .f32⟩
  | 23 => ⟨S1024x128, .f32⟩
  | 24 => ⟨S1024x128, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | _ => ⟨S3, .i32⟩

abbrev hbmTy (i : Nat) : BufTy := match i / 128 with
  | 0 => hbmTy0_0 i
  | 1 => hbmTy0_1 i
  | 2 => hbmTy0_2 i
  | _ => ⟨S3, .i32⟩

abbrev bufTy : (tb : Table) → Fin (tcTables nBuf tb) → BufTy
  | .hbm, ⟨i, _⟩ => hbmTy i
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_1 : Ref sig .tc := ⟨.hbm, 50, rfl⟩
abbrev main_v16 : Ref sig .tc := ⟨.hbm, 51, rfl⟩
abbrev main_v17 : Ref sig .tc := ⟨.hbm, 52, rfl⟩
abbrev main_cst_2 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_3 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_5 : Ref sig .tc := ⟨.hbm, 65, rfl⟩
abbrev main_v27 : Ref sig .tc := ⟨.hbm, 66, rfl⟩
abbrev main_v28 : Ref sig .tc := ⟨.hbm, 67, rfl⟩
abbrev main_cst_6 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_7 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_8 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_9 : Ref sig .tc := ⟨.hbm, 80, rfl⟩
abbrev main_v38 : Ref sig .tc := ⟨.hbm, 81, rfl⟩
abbrev main_v39 : Ref sig .tc := ⟨.hbm, 82, rfl⟩
abbrev main_cst_10 : Ref sig .tc := ⟨.hbm, 83, rfl⟩
abbrev main_v40 : Ref sig .tc := ⟨.hbm, 84, rfl⟩
abbrev main_v41 : Ref sig .tc := ⟨.hbm, 85, rfl⟩
abbrev main_cst_11 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_12 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_13 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_14 : Ref sig .tc := ⟨.hbm, 98, rfl⟩
abbrev main_v51 : Ref sig .tc := ⟨.hbm, 99, rfl⟩
abbrev main_v52 : Ref sig .tc := ⟨.hbm, 100, rfl⟩
abbrev main_cst_15 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_16 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_17 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_18 : Ref sig .tc := ⟨.hbm, 113, rfl⟩
abbrev main_v62 : Ref sig .tc := ⟨.hbm, 114, rfl⟩
abbrev main_v63 : Ref sig .tc := ⟨.hbm, 115, rfl⟩
abbrev main_cst_19 : Ref sig .tc := ⟨.hbm, 116, rfl⟩
abbrev main_v64 : Ref sig .tc := ⟨.hbm, 117, rfl⟩
abbrev main_v65 : Ref sig .tc := ⟨.hbm, 118, rfl⟩
abbrev main_cst_20 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_21 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_22 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_23 : Ref sig .tc := ⟨.hbm, 131, rfl⟩
abbrev main_v75 : Ref sig .tc := ⟨.hbm, 132, rfl⟩
abbrev main_v76 : Ref sig .tc := ⟨.hbm, 133, rfl⟩
abbrev main_cst_24 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_25 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_26 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_27 : Ref sig .tc := ⟨.hbm, 146, rfl⟩
abbrev main_v86 : Ref sig .tc := ⟨.hbm, 147, rfl⟩
abbrev main_v87 : Ref sig .tc := ⟨.hbm, 148, rfl⟩
abbrev main_cst_28 : Ref sig .tc := ⟨.hbm, 149, rfl⟩
abbrev main_v88 : Ref sig .tc := ⟨.hbm, 150, rfl⟩
abbrev main_v89 : Ref sig .tc := ⟨.hbm, 151, rfl⟩
abbrev main_cst_29 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_30 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_cst_31 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_32 : Ref sig .tc := ⟨.hbm, 164, rfl⟩
abbrev main_v99 : Ref sig .tc := ⟨.hbm, 165, rfl⟩
abbrev main_v100 : Ref sig .tc := ⟨.hbm, 166, rfl⟩
abbrev main_cst_33 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_34 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_35 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_36 : Ref sig .tc := ⟨.hbm, 179, rfl⟩
abbrev main_v110 : Ref sig .tc := ⟨.hbm, 180, rfl⟩
abbrev main_v111 : Ref sig .tc := ⟨.hbm, 181, rfl⟩
abbrev main_cst_37 : Ref sig .tc := ⟨.hbm, 182, rfl⟩
abbrev main_v112 : Ref sig .tc := ⟨.hbm, 183, rfl⟩
abbrev main_v113 : Ref sig .tc := ⟨.hbm, 184, rfl⟩
abbrev main_cst_38 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_cst_39 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_cst_40 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_cst_41 : Ref sig .tc := ⟨.hbm, 197, rfl⟩
abbrev main_v123 : Ref sig .tc := ⟨.hbm, 198, rfl⟩
abbrev main_v124 : Ref sig .tc := ⟨.hbm, 199, rfl⟩
abbrev main_cst_42 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_43 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_44 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_45 : Ref sig .tc := ⟨.hbm, 212, rfl⟩
abbrev main_v134 : Ref sig .tc := ⟨.hbm, 213, rfl⟩
abbrev main_v135 : Ref sig .tc := ⟨.hbm, 214, rfl⟩
abbrev main_cst_46 : Ref sig .tc := ⟨.hbm, 215, rfl⟩
abbrev main_v136 : Ref sig .tc := ⟨.hbm, 216, rfl⟩
abbrev main_v137 : Ref sig .tc := ⟨.hbm, 217, rfl⟩
abbrev main_cst_47 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_cst_48 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_49 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_cst_50 : Ref sig .tc := ⟨.hbm, 230, rfl⟩
abbrev main_v147 : Ref sig .tc := ⟨.hbm, 231, rfl⟩
abbrev main_v148 : Ref sig .tc := ⟨.hbm, 232, rfl⟩
abbrev main_cst_51 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_52 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_53 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_cst_54 : Ref sig .tc := ⟨.hbm, 245, rfl⟩
abbrev main_v158 : Ref sig .tc := ⟨.hbm, 246, rfl⟩
abbrev main_v159 : Ref sig .tc := ⟨.hbm, 247, rfl⟩
abbrev main_cst_55 : Ref sig .tc := ⟨.hbm, 248, rfl⟩
abbrev main_v160 : Ref sig .tc := ⟨.hbm, 249, rfl⟩
abbrev main_v161 : Ref sig .tc := ⟨.hbm, 250, rfl⟩
abbrev main_cst_56 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_cst_57 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_cst_58 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_cst_59 : Ref sig .tc := ⟨.hbm, 263, rfl⟩
abbrev main_v171 : Ref sig .tc := ⟨.hbm, 264, rfl⟩
abbrev main_v172 : Ref sig .tc := ⟨.hbm, 265, rfl⟩
abbrev main_cst_60 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_cst_61 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_cst_62 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_cst_63 : Ref sig .tc := ⟨.hbm, 278, rfl⟩
abbrev main_v182 : Ref sig .tc := ⟨.hbm, 279, rfl⟩
abbrev main_v183 : Ref sig .tc := ⟨.hbm, 280, rfl⟩
abbrev main_cst_64 : Ref sig .tc := ⟨.hbm, 281, rfl⟩
abbrev main_v184 : Ref sig .tc := ⟨.hbm, 282, rfl⟩
abbrev main_v185 : Ref sig .tc := ⟨.hbm, 283, rfl⟩
abbrev main_cst_65 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_cst_66 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_cst_67 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_cst_68 : Ref sig .tc := ⟨.hbm, 296, rfl⟩
abbrev main_v195 : Ref sig .tc := ⟨.hbm, 297, rfl⟩
abbrev main_v196 : Ref sig .tc := ⟨.hbm, 298, rfl⟩
abbrev main_cst_69 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_cst_70 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_cst_71 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_cst_72 : Ref sig .tc := ⟨.hbm, 311, rfl⟩
abbrev main_v206 : Ref sig .tc := ⟨.hbm, 312, rfl⟩
abbrev main_v207 : Ref sig .tc := ⟨.hbm, 313, rfl⟩
abbrev main_cst_73 : Ref sig .tc := ⟨.hbm, 314, rfl⟩
abbrev main_v208 : Ref sig .tc := ⟨.hbm, 315, rfl⟩
abbrev main_v209 : Ref sig .tc := ⟨.hbm, 316, rfl⟩
abbrev main_cst_74 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_cst_75 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_cst_76 : Ref sig .tc := ⟨.hbm, 325, rfl⟩
abbrev main_v216 : Ref sig .tc := ⟨.hbm, 326, rfl⟩
abbrev main_v217 : Ref sig .tc := ⟨.hbm, 327, rfl⟩
abbrev main_v218 : Ref sig .tc := ⟨.hbm, 328, rfl⟩
abbrev main_cst_77 : Ref sig .tc := ⟨.hbm, 329, rfl⟩
abbrev main_v219 : Ref sig .tc := ⟨.hbm, 330, rfl⟩
abbrev main_v220 : Ref sig .tc := ⟨.hbm, 331, rfl⟩
abbrev main_cst_78 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_cst_79 : Ref sig .tc := ⟨.hbm, 336, rfl⟩
abbrev main_v224 : Ref sig .tc := ⟨.hbm, 337, rfl⟩
abbrev main_v225 : Ref sig .tc := ⟨.hbm, 338, rfl⟩
abbrev main_v226 : Ref sig .tc := ⟨.hbm, 339, rfl⟩
abbrev main_cst_80 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_cst_81 : Ref sig .tc := ⟨.hbm, 344, rfl⟩
abbrev main_v230 : Ref sig .tc := ⟨.hbm, 345, rfl⟩
abbrev main_v231 : Ref sig .tc := ⟨.hbm, 346, rfl⟩

abbrev nD : Nat := 1
abbrev τ : Topo := Topo.v7x

variable {F : FTy → Type} [FloatOps F]
-- ==== AdamNorm.lean ====
abbrev S3 : Shape := ⟨1, ![3]⟩
abbrev S8x1024 : Shape := ⟨2, ![8, 1024]⟩
abbrev S8x8x1024 : Shape := ⟨3, ![8, 8, 1024]⟩
abbrev S1x1024 : Shape := ⟨2, ![1, 1024]⟩
abbrev S1 : Shape := ⟨1, ![1]⟩
abbrev S1x1x1024 : Shape := ⟨3, ![1, 1, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x1024, .f32⟩
  | .hbm, ⟨1, _⟩ => ⟨S8x8x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S8x1024, .f32⟩
  | .local _ .vmem, ⟨1, _⟩ => ⟨S8x8x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .smem, ⟨0, _⟩ => ⟨S3, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AdamNormRefIdeal.lean ====
abbrev S3 : Shape := ⟨1, ![3]⟩
abbrev S8x1024 : Shape := ⟨2, ![8, 1024]⟩
abbrev S8x8x1024 : Shape := ⟨3, ![8, 8, 1024]⟩
abbrev S1x1024 : Shape := ⟨2, ![1, 1024]⟩
abbrev S1 : Shape := ⟨1, ![1]⟩
abbrev S_ : Shape := ⟨0, ![]⟩
abbrev S1x8x1024 : Shape := ⟨3, ![1, 8, 1024]⟩

abbrev nBuf : Space → Nat
  | .hbm => 50
  | .vmem => 0
  | .smem => 0
  | _ => 0

abbrev bufTy : (tb : Table) → Fin (tcTables nBuf tb) → BufTy
  | .hbm, ⟨0, _⟩ => ⟨S3, .i32⟩
  | .hbm, ⟨1, _⟩ => ⟨S8x1024, .f32⟩
  | .hbm, ⟨2, _⟩ => ⟨S8x8x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8x8x1024, .i32⟩
  | .hbm, ⟨7, _⟩ => ⟨S1, .i32⟩
  | .hbm, ⟨8, _⟩ => ⟨S_, .i32⟩
  | .hbm, ⟨9, _⟩ => ⟨S8x8x1024, .i32⟩
  | .hbm, ⟨10, _⟩ => ⟨S8x8x1024, .i1⟩
  | .hbm, ⟨11, _⟩ => ⟨S1x8x1024, .f32⟩
  | .hbm, ⟨12, _⟩ => ⟨S8x8x1024, .f32⟩
  | .hbm, ⟨13, _⟩ => ⟨S8x8x1024, .f32⟩
  | .hbm, ⟨14, _⟩ => ⟨S_, .f32⟩
  | .hbm, ⟨15, _⟩ => ⟨S8x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.GradWInPoint.lean ====
/- What one grid point of the weight-gradient kernel leaves in its two outputs: the accumulator it found (or zero at the
   first point of a run) plus the product of the point's block of `h`, transposed, with its block of `dproj`; the last
   point of a run copies the accumulator into the second output. -/
module

public import proofs.«01_k».proof.Proof.Gen.GradWInIdeal.Value
public import Idealize.ShloMosaic.Lib.Pointwise

@[expose] public section

set_option maxRecDepth 16384

noncomputable section

namespace Cert.GradWInIdeal.Point

open Cert.GradWInIdeal Cert.GradWInIdeal.Gen Idealize.ShloMosaic Idealize.ShloMosaic.TcCoe Idealize.SL.Sem

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The first point of a run leaves zero plus the product. -/
theorem out_A (c : Dev nD) (i : grid0.Coords) (a2 : Memref sig .tc .vmem S2048x1024 .bf16) (h2 : a2.IsWhole)
    (a3 : Memref sig .tc .vmem S2048x1536 .bf16) (h3 : a3.IsWhole) (a4 : Memref sig .tc .vmem S8x128 .f32) (h4 : a4.IsWhole)
    (a5 : Memref sig .tc .vmem S1x2x512x1536 .f32) (h5 : a5.IsWhole) (a6 : Memref sig .tc .vmem S1x2x512x1536 .bf16)
    (h6 : a6.IsWhole) (hc0 : cond0_0 i) (hc1 : ¬cond0_1 i) (x0 : Vec F S2048x1024 .bf16) (x1 : Vec F S2048x1536 .bf16)
    (x2 : Vec F S8x128 .f32) :
    out0_A_3 c i a2 h2 a3 h3 a4 h4 a5 h5 a6 h6 hc0 hc1 x0 x1 x2 = k0_pay2 k0_pay1 x0 x1 := by
  unfold out0_A_3
  rw [View.read_writes_eq_canon _ _ _ (cover0_A_3 c i a2 h2 a3 h3 a4 h4 a5 h5 a6 h6 hc0 hc1 x0 x1 x2)]
  unfold kernelRun0_A
  dsimp only
  sl_unfold_words
  rw [View.canon_cons_unit_zero (S := S1x2x512x1536) hz4, View.readCov_unit_zero (S := S1x2x512x1536) _ hz4]
  simp only [View.readAt_eq_ld, h2.read_unread, h3.read_unread, View.ld_unit_zero (S := S2048x1024) hz2,
    View.ld_unit_zero (S := S2048x1536) hz2]

/-- A middle point leaves what it found plus the product. -/
theorem out_B (c : Dev nD) (i : grid0.Coords) (a2 : Memref sig .tc .vmem S2048x1024 .bf16) (h2 : a2.IsWhole)
    (a3 : Memref sig .tc .vmem S2048x1536 .bf16) (h3 : a3.IsWhole) (a4 : Memref sig .tc .vmem S8x128 .f32) (h4 : a4.IsWhole)
    (a5 : Memref sig .tc .vmem S1x2x512x1536 .f32) (h5 : a5.IsWhole) (a6 : Memref sig .tc .vmem S1x2x512x1536 .bf16)
    (h6 : a6.IsWhole) (hc0 : ¬cond0_0 i) (hc1 : ¬cond0_1 i) (x0 : Vec F S2048x1024 .bf16) (x1 : Vec F S2048x1536 .bf16)
    (x2 : Vec F S8x128 .f32) (xo : Vec F S1x2x512x1536 .f32) :
    out0_B_3 c i a2 h2 a3 h3 a4 h4 a5 h5 a6 h6 hc0 hc1 x0 x1 x2 xo = k0_pay2 xo x0 x1 := by
  unfold out0_B_3
  rw [View.read_writes_eq_canon _ _ _ (cover0_B_3 c i a2 h2 a3 h3 a4 h4 a5 h5 a6 h6 hc0 hc1 x0 x1 x2 xo)]
  unfold kernelRun0_B
  dsimp only
  rw [View.canon_unit_zero hz4]
  simp only [View.readAt_eq_ld, h2.read_unread, h3.read_unread, h5.read_unread, View.ld_unit_zero (S := S2048x1024) hz2,
    View.ld_unit_zero (S := S2048x1536) hz2, View.ld_unit_zero (S := S1x2x512x1536) hz4]

/-- The last point of a run leaves what it found plus the product … -/
theorem out_C (c : Dev nD) (i : grid0.Coords) (a2 : Memref sig .tc .vmem S2048x1024 .bf16) (h2 : a2.IsWhole)
    (a3 : Memref sig .tc .vmem S2048x1536 .bf16) (h3 : a3.IsWhole) (a4 : Memref sig .tc .vmem S8x128 .f32) (h4 : a4.IsWhole)
    (a5 : Memref sig .tc .vmem S1x2x512x1536 .f32) (h5 : a5.IsWhole) (a6 : Memref sig .tc .vmem S1x2x512x1536 .bf16)
    (h6 : a6.IsWhole) (hc0 : ¬cond0_0 i) (hc1 : cond0_1 i) (x0 : Vec F S2048x1024 .bf16) (x1 : Vec F S2048x1536 .bf16)
    (x2 : Vec F S8x128 .f32) (xo : Vec F S1x2x512x1536 .f32) :
    out0_C_3 c i a2 h2 a3 h3 a4 h4 a5 h5 a6 h6 hc0 hc1 x0 x1 x2 xo = k0_pay2 xo x0 x1 := by
  unfold out0_C_3
  rw [View.read_writes_eq_canon _ _ _ (cover0_C_3 c i a2 h2 a3 h3 a4 h4 a5 h5 a6 h6 hc0 hc1 x0 x1 x2 xo)]
  unfold kernelRun0_C
  dsimp only
  sl_unfold_words
  rw [View.canon_unit_zero hz4]
  simp only [View.readAt_eq_ld, h2.read_unread, h3.read_unread, h5.read_unread, View.ld_unit_zero (S := S2048x1024) hz2,
    View.ld_unit_zero (S := S2048x1536) hz2, View.ld_unit_zero (S := S1x2x512x1536) hz4]

/-- … and its narrowed copy in the second output. -/
theorem out_C4 (c : Dev nD) (i : grid0.Coords) (a2 : Memref sig .tc .vmem S2048x1024 .bf16) (h2 : a2.IsWhole)
    (a3 : Memref sig .tc .vmem S2048x1536 .bf16) (h3 : a3.IsWhole) (a4 : Memref sig .tc .vmem S8x128 .f32) (h4 : a4.IsWhole)
    (a5 : Memref sig .tc .vmem S1x2x512x1536 .f32) (h5 : a5.IsWhole) (a6 : Memref sig .tc .vmem S1x2x512x1536 .bf16)
    (h6 : a6.IsWhole) (hc0 : ¬cond0_0 i) (hc1 : cond0_1 i) (x0 : Vec F S2048x1024 .bf16) (x1 : Vec F S2048x1536 .bf16)
    (x2 : Vec F S8x128 .f32) (xo : Vec F S1x2x512x1536 .f32) :
    out0_C_4 c i a2 h2 a3 h3 a4 h4 a5 h5 a6 h6 hc0 hc1 x0 x1 x2 xo = k0_pay3 (k0_pay2 xo x0 x1) := by
  unfold out0_C_4
  rw [View.read_writes_eq_canon _ _ _ (cover0_C_4 c i a2 h2 a3 h3 a4 h4 a5 h5 a6 h6 hc0 hc1 x0 x1 x2 xo)]
  unfold kernelRun0_C
  dsimp only
  sl_unfold_words
  rw [View.canon_unit_zero hz4, View.readCov_unit_zero (S := S1x2x512x1536) _ hz4]
  simp only [View.readAt_eq_ld, h2.read_unread, h3.read_unread, h5.read_unread, View.ld_unit_zero (S := S2048x1024) hz2,
    View.ld_unit_zero (S := S2048x1536) hz2, View.ld_unit_zero (S := S1x2x512x1536) hz4]

/-- The product's payload at an index: what was found plus the sum over the block's 2048 rows. -/
theorem pay2_apply (v : Vec Ideal S1x2x512x1536 .f32) (x0 : Vec Ideal S2048x1024 .bf16) (x1 : Vec Ideal S2048x1536 .bf16)
    (b : Fin 2) (r : Fin 512) (e : Fin 1536) :
    k0_pay2 (F := Ideal) v x0 x1 (ix4 (0 : Fin 1) b r e)
      = v (ix4 (0 : Fin 1) b r e)
        + ∑ k : Fin 2048, x0 (ix2 k (⟨b.val * 512 + r.val, by omega⟩ : Fin 1024)) * x1 (ix2 k e) := by
  unfold k0_pay2
  pointwise

/-- The zero block. -/
theorem pay1_apply (j : S1x2x512x1536.Idx) : k0_pay1 (F := Ideal) j = 0 := by
  unfold k0_pay1
  pointwise

/-- The narrowed copy is the block itself. -/
theorem pay3_apply (v : Vec Ideal S1x2x512x1536 .f32) (j : S1x2x512x1536.Idx) : k0_pay3 (F := Ideal) v j = v j := by
  unfold k0_pay3
  rw [shapeCast_self]
  rfl

end Cert.GradWInIdeal.Point

end
-- ==== Proof.Sums.lean ====
/- Sums over tiles and running sums, used by every value proof of this directory. -/
module

public import Mathlib.Algebra.BigOperators.Fin
public import Mathlib.Algebra.BigOperators.Group.Finset.Sigma
public import Mathlib.Logic.Equiv.Fin.Basic

@[expose] public section

namespace Cert.Sums

variable {M : Type} [AddCommMonoid M]

/-- A sum over `T * B` indices is the sum over `T` tiles of the sums over the `B` indices of a tile. -/
theorem sum_tiles (n T B : ℕ) (hn : n = T * B) (f : Fin n → M) :
    ∑ i : Fin n, f i
      = ∑ t : Fin T, ∑ q : Fin B, f ⟨t.val * B + q.val, by
          subst hn
          exact lt_of_lt_of_le (Nat.add_lt_add_left q.isLt _)
            (by rw [← Nat.succ_mul]; exact Nat.mul_le_mul_right _ t.isLt)⟩ := by
  subst hn
  rw [← Fintype.sum_prod_type', ← finProdFinEquiv.sum_comp]
  refine Finset.sum_congr rfl fun p _ => congrArg f (Fin.ext ?_)
  show p.2.val + B * p.1.val = p.1.val * B + p.2.val
  rw [Nat.mul_comm, Nat.add_comm]

/-- A running sum that restarts at every `J`-th point with the point's term and otherwise adds the point's term to what
    the point before left: at the last point of a run of `J` points it is the sum of the run's terms. -/
theorem running_sum (J N : ℕ) (hJ : 0 < J) (a f : Fin N → M)
    (reset : ∀ t : Fin N, t.val % J = 0 → a t = f t)
    (step : ∀ t : Fin N, ¬t.val % J = 0 → a t = a ⟨t.val - 1, lt_of_le_of_lt (Nat.sub_le _ _) t.isLt⟩ + f t)
    (q : ℕ) (h : q * J + J ≤ N) :
    ∀ (j : ℕ) (hj : j < J), a ⟨q * J + j, lt_of_lt_of_le (Nat.add_lt_add_left hj _) h⟩
      = ∑ k : Fin (j + 1), f ⟨q * J + k.val, lt_of_lt_of_le (Nat.add_lt_add_left (lt_of_lt_of_le k.isLt hj) _) h⟩
  | 0, hj => by
    rw [Fin.sum_univ_one]
    exact reset _ (by simp)
  | j + 1, hj => by
    have ih := running_sum J N hJ a f reset step q h j (Nat.lt_of_succ_lt hj)
    rw [Fin.sum_univ_castSucc]
    have hne : ¬(q * J + (j + 1)) % J = 0 := by
      rw [Nat.mul_comm, Nat.mul_add_mod, Nat.mod_eq_of_lt hj]; exact Nat.succ_ne_zero j
    rw [step ⟨q * J + (j + 1), _⟩ hne]
    congr 1

/-- The same at the last point of the run, as a sum over the whole run. -/
theorem running_sum_last (J N : ℕ) (hJ : 0 < J) (a f : Fin N → M)
    (reset : ∀ t : Fin N, t.val % J = 0 → a t = f t)
    (step : ∀ t : Fin N, ¬t.val % J = 0 → a t = a ⟨t.val - 1, lt_of_le_of_lt (Nat.sub_le _ _) t.isLt⟩ + f t)
    (q : ℕ) (h : q * J + J ≤ N) (t : Fin N) (ht : t.val = q * J + (J - 1)) :
    a t = ∑ k : Fin J, f ⟨q * J + k.val, lt_of_lt_of_le (Nat.add_lt_add_left k.isLt _) h⟩ := by
  obtain ⟨j, rfl⟩ : ∃ j, J = j + 1 := ⟨J - 1, (Nat.sub_add_cancel hJ).symm⟩
  have := running_sum (j + 1) N hJ a f reset step q h j (Nat.lt_succ_self j)
  rw [show t = ⟨q * (j + 1) + j, lt_of_lt_of_le (Nat.add_lt_add_left (Nat.lt_succ_self j) _) h⟩ from Fin.ext ht]
  exact this

end Cert.Sums

end
-- ==== Proof.GradWInArray.lean ====
/- The weight-gradient kernel's result arrays: each entry is the sum, over all 8192 rows, of the products of `h`'s entry
   with `dproj`'s entry of that row. -/
module

public import proofs.«01_k».proof.Proof.GradWInPoint
public import proofs.«01_k».proof.Proof.Sums

@[expose] public section

set_option maxRecDepth 16384

noncomputable section

namespace Cert.GradWInIdeal.Array

open Cert.GradWInIdeal Cert.GradWInIdeal.Gen Idealize.ShloMosaic Idealize.ShloMosaic.TcCoe Idealize.SL.Sem
open Cert.GradWInIdeal.Point

variable (m : (ℓ : Loc nD τ sig) → Buf (Elt Ideal) ℓ)

/-- The first argument, `h`. -/
abbrev H (c : Dev nD) : S8192x1024.Idx → EReal := m ((c : Thread nD τ).loc main_arg0)
/-- The second argument, `dproj`. -/
abbrev D (c : Dev nD) : S8192x6144.Idx → EReal := m ((c : Thread nD τ).loc main_arg1)

theorem index0 : ∀ t : Fin cfg0.N, win0_0.index t (0 : Fin 2) = t.val % 4 ∧ win0_0.index t (1 : Fin 2) = 0 := by
  decide +kernel
theorem index1 : ∀ t : Fin cfg0.N, win0_1.index t (0 : Fin 2) = t.val % 4 ∧ win0_1.index t (1 : Fin 2) = t.val / 4 := by
  decide +kernel
theorem index3 : ∀ t : Fin cfg0.N, win0_3.index t (0 : Fin 4) = t.val / 4 ∧ win0_3.index t (1 : Fin 4) = 0
    ∧ win0_3.index t (2 : Fin 4) = 0 ∧ win0_3.index t (3 : Fin 4) = 0 := by
  decide +kernel
theorem index4 : ∀ t : Fin cfg0.N, win0_4.index t (0 : Fin 4) = t.val / 4 ∧ win0_4.index t (1 : Fin 4) = 0
    ∧ win0_4.index t (2 : Fin 4) = 0 ∧ win0_4.index t (3 : Fin 4) = 0 := by
  decide +kernel

theorem lt16 (t : Fin cfg0.N) : t.val < 16 := lt_of_lt_of_eq t.isLt N_0

/-- Point `t` reads rows `2048 (t mod 4) …` of `h`. -/
theorem iblk0_apply (c : Dev nD) (t : Fin cfg0.N) (k : Fin 2048) (q : Fin 1024) :
    iblk m c 0 t (ix2 k q) = H m c (ix2 ⟨t.val % 4 * 2048 + k.val, by omega⟩ q) := by
  unfold iblk
  rw [View.read_apply]
  show V m c main_arg0 _ = H m c _
  rw [V_main_arg0]
  congr 1
  funext a
  apply Fin.ext
  match a with
  | ⟨0, _⟩ => show win0_0.index t 0 * 2048 + 1 * k.val = t.val % 4 * 2048 + k.val; rw [(index0 t).1, Nat.one_mul]
  | ⟨1, _⟩ => show win0_0.index t 1 * 1024 + 1 * q.val = q.val; rw [(index0 t).2]; omega

/-- Point `t` reads rows `2048 (t mod 4) …` and columns `1536 (t div 4) …` of `dproj`. -/
theorem iblk1_apply (c : Dev nD) (t : Fin cfg0.N) (k : Fin 2048) (e : Fin 1536) :
    iblk m c 1 t (ix2 k e) = D m c (ix2 ⟨t.val % 4 * 2048 + k.val, by omega⟩ ⟨t.val / 4 * 1536 + e.val, by have := lt16 t; omega⟩) := by
  unfold iblk
  rw [View.read_apply]
  show V m c main_arg1 _ = D m c _
  rw [V_main_arg1]
  congr 1
  funext a
  apply Fin.ext
  match a with
  | ⟨0, _⟩ => show win0_1.index t 0 * 2048 + 1 * k.val = t.val % 4 * 2048 + k.val; rw [(index1 t).1, Nat.one_mul]
  | ⟨1, _⟩ => show win0_1.index t 1 * 1536 + 1 * e.val = t.val / 4 * 1536 + e.val; rw [(index1 t).2, Nat.one_mul]

/-- The product a point adds at an entry of its block. -/
def term (c : Dev nD) (b : Fin 2) (r : Fin 512) (e : Fin 1536) (t : Fin cfg0.N) : EReal :=
  ∑ k : Fin 2048, H m c (ix2 ⟨t.val % 4 * 2048 + k.val, by omega⟩ ⟨b.val * 512 + r.val, by omega⟩)
    * D m c (ix2 ⟨t.val % 4 * 2048 + k.val, by omega⟩ ⟨t.val / 4 * 1536 + e.val, by have := lt16 t; omega⟩)

theorem reset (c : Dev nD) (b : Fin 2) (r : Fin 512) (e : Fin 1536) (t : Fin cfg0.N) (h : t.val % 4 = 0) :
    (outsAt0 m c t.val t.isLt).1 (ix4 (0 : Fin 1) b r e) = term m c b r e t := by
  rw [outsAt0_A m c t h (by omega)]
  dsimp only
  rw [out_A, pay2_apply, pay1_apply, zero_add]
  exact Finset.sum_congr rfl fun k _ => by rw [iblk0_apply, iblk1_apply]

theorem step (c : Dev nD) (b : Fin 2) (r : Fin 512) (e : Fin 1536) (t : Fin cfg0.N) (h : ¬t.val % 4 = 0) :
    (outsAt0 m c t.val t.isLt).1 (ix4 (0 : Fin 1) b r e)
      = (outsAt0 m c (t.val - 1) (lt_of_le_of_lt (Nat.sub_le _ _) t.isLt)).1 (ix4 (0 : Fin 1) b r e) + term m c b r e t := by
  have key : ∀ x, k0_pay2 (F := Ideal) x (iblk m c 0 t) (iblk m c 1 t) (ix4 (0 : Fin 1) b r e)
      = x (ix4 (0 : Fin 1) b r e) + term m c b r e t := fun x => by
    rw [pay2_apply]
    exact congrArg _ (Finset.sum_congr rfl fun k _ => by rw [iblk0_apply, iblk1_apply])
  by_cases h1 : t.val % 4 = 3
  · rw [outsAt0_C m c t h h1]
    dsimp only
    rw [out_C, key]
  · rw [outsAt0_B m c t h h1]
    dsimp only
    rw [out_B, key]

/-- What both results hold: entry `(g, b, r, e)` is the product's entry at row `512 b + r` and column `1536 g + e`. -/
def G (c : Dev nD) (i : S4x2x512x1536.Idx) : EReal :=
  ∑ s : Fin 8192, H m c (ix2 s ⟨(i 1).val * 512 + (i 2).val, by
      have h1 : (i 1).val < 2 := (i 1).isLt; have h2 : (i 2).val < 512 := (i 2).isLt; omega⟩)
    * D m c (ix2 s ⟨(i 0).val * 1536 + (i 3).val, by
      have h1 : (i 0).val < 4 := (i 0).isLt; have h2 : (i 3).val < 1536 := (i 3).isLt; omega⟩)

/-- After the last point of a run the accumulator holds the sum over all rows. -/
theorem last (c : Dev nD) (t : Fin cfg0.N) (h : t.val % 4 = 3) (b : Fin 2) (r : Fin 512) (e : Fin 1536) :
    (outsAt0 m c t.val t.isLt).1 (ix4 (0 : Fin 1) b r e)
      = G m c (ix4 (⟨t.val / 4, by have := lt16 t; omega⟩ : Fin 4) b r e) := by
  have hN : cfg0.N = 16 := N_0
  have hq : t.val / 4 * 4 + 4 ≤ cfg0.N := by have := lt16 t; omega
  rw [Cert.Sums.running_sum_last 4 cfg0.N (by decide) (fun t => (outsAt0 m c t.val t.isLt).1 (ix4 (0 : Fin 1) b r e))
    (term m c b r e) (reset m c b r e) (step m c b r e) (t.val / 4) hq t (by omega)]
  unfold G
  rw [Cert.Sums.sum_tiles 8192 4 2048 (by decide)]
  refine Finset.sum_congr rfl fun k _ => Finset.sum_congr rfl fun q _ => ?_
  have hk := k.isLt
  congr 2
  · funext a
    apply Fin.ext
    match a with
    | ⟨0, _⟩ => show (t.val / 4 * 4 + k.val) % 4 * 2048 + q.val = k.val * 2048 + q.val; omega
    | ⟨1, _⟩ => rfl
  · funext a
    apply Fin.ext
    match a with
    | ⟨0, _⟩ => show (t.val / 4 * 4 + k.val) % 4 * 2048 + q.val = k.val * 2048 + q.val; omega
    | ⟨1, _⟩ => show (t.val / 4 * 4 + k.val) / 4 * 1536 + e.val = t.val / 4 * 1536 + e.val; omega

/-- The point's block of the result array, at an entry. -/
theorem read3 (c : Dev nD) (t : Fin cfg0.N) (X : S4x2x512x1536.Idx → EReal) (j : S1x2x512x1536.Idx) :
    ((cfg0.win 3).blk t).view.read (Elt Ideal) (X : Buf (Elt Ideal) ((c : Thread nD τ).loc main_v0_0)) j
      = X (ix4 (⟨t.val / 4, by have := lt16 t; omega⟩ : Fin 4) (j 1) (j 2) (j 3)) := by
  rw [View.read_apply]
  show X _ = X _
  congr 1
  funext a
  apply Fin.ext
  have h0 : (j 0).val < 1 := (j 0).isLt
  match a with
  | ⟨0, _⟩ => show win0_3.index t 0 * 1 + 1 * (j 0).val = t.val / 4; rw [(index3 t).1]; omega
  | ⟨1, _⟩ => show win0_3.index t 1 * 2 + 1 * (j 1).val = (j 1).val; rw [(index3 t).2.1]; omega
  | ⟨2, _⟩ => show win0_3.index t 2 * 512 + 1 * (j 2).val = (j 2).val; rw [(index3 t).2.2.1]; omega
  | ⟨3, _⟩ => show win0_3.index t 3 * 1536 + 1 * (j 3).val = (j 3).val; rw [(index3 t).2.2.2]; omega

/-- The same of the second result array. -/
theorem read4 (c : Dev nD) (t : Fin cfg0.N) (X : S4x2x512x1536.Idx → EReal) (j : S1x2x512x1536.Idx) :
    ((cfg0.win 4).blk t).view.read (Elt Ideal) (X : Buf (Elt Ideal) ((c : Thread nD τ).loc main_v0_1)) j
      = X (ix4 (⟨t.val / 4, by have := lt16 t; omega⟩ : Fin 4) (j 1) (j 2) (j 3)) := by
  rw [View.read_apply]
  show X _ = X _
  congr 1
  funext a
  apply Fin.ext
  have h0 : (j 0).val < 1 := (j 0).isLt
  match a with
  | ⟨0, _⟩ => show win0_4.index t 0 * 1 + 1 * (j 0).val = t.val / 4; rw [(index4 t).1]; omega
  | ⟨1, _⟩ => show win0_4.index t 1 * 2 + 1 * (j 1).val = (j 1).val; rw [(index4 t).2.1]; omega
  | ⟨2, _⟩ => show win0_4.index t 2 * 512 + 1 * (j 2).val = (j 2).val; rw [(index4 t).2.2.1]; omega
  | ⟨3, _⟩ => show win0_4.index t 3 * 1536 + 1 * (j 3).val = (j 3).val; rw [(index4 t).2.2.2]; omega

/-- What the last point of a run writes back to the first result is its block of `G`. -/
theorem flushed3_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  rw [Cert.GradWInIdeal.Value.flushed3]
  funext j
  refine Eq.trans ?_ (read3 c t (G m c) j).symm
  show (outsAt0 m c t.val t.isLt).1 j = _
  obtain ⟨b, r, e, rfl⟩ : ∃ b r e, j = (ix4 (0 : Fin 1) b r e : S1x2x512x1536.Idx) :=
    ⟨j 1, j 2, j 3, by rw [eq_ix4 j]; congr 1; exact Subsingleton.elim _ _⟩
  exact last m c t h3 b r e

/-- … and to the second result, too. -/
theorem flushed4_eq (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  rw [Cert.GradWInIdeal.Value.flushed4]
  funext j
  refine Eq.trans ?_ (read4 c t (G m c) j).symm
  show (outsAt0 m c t.val t.isLt).2 j = _
  obtain ⟨b, r, e, rfl⟩ : ∃ b r e, j = (ix4 (0 : Fin 1) b r e : S1x2x512x1536.Idx) :=
    ⟨j 1, j 2, j 3, by rw [eq_ix4 j]; congr 1; exact Subsingleton.elim _ _⟩
  refine Eq.trans ?_ (last m c t h3 b r e)
  rw [outsAt0_C m c t (by omega) h3]
  dsimp only
  rw [out_C4, out_C, pay3_apply]

theorem cover3 (i : S4x2x512x1536.Idx) : ∃ t : Fin cfg0.N, (cfg0.win 3).flush t = true ∧ i ∈ ((cfg0.win 3).blk t).view.set := by
  have hN : cfg0.N = 16 := N_0
  have h0 : (i 0).val < 4 := (i 0).isLt
  have h1 : (i 1).val < 2 := (i 1).isLt
  have h2 : (i 2).val < 512 := (i 2).isLt
  have h3 : (i 3).val < 1536 := (i 3).isLt
  obtain ⟨t, ht⟩ : ∃ t : Fin cfg0.N, t.val = (i 0).val * 4 + 3 := ⟨⟨(i 0).val * 4 + 3, by omega⟩, rfl⟩
  refine ⟨t, (flush0_3 t).mpr (by omega), ?_⟩
  show i ∈ ((View.whole main_v0_0).slice (win0_3.rect t)).set
  rw [View.set_slice_whole, Rect.mem_set_unit]
  intro a
  match a with
  | ⟨0, _⟩ => show win0_3.index t 0 * 1 ≤ (i 0).val ∧ (i 0).val < win0_3.index t 0 * 1 + 1; rw [(index3 t).1]; omega
  | ⟨1, _⟩ => show win0_3.index t 1 * 2 ≤ (i 1).val ∧ (i 1).val < win0_3.index t 1 * 2 + 2; rw [(index3 t).2.1]; omega
  | ⟨2, _⟩ => show win0_3.index t 2 * 512 ≤ (i 2).val ∧ (i 2).val < win0_3.index t 2 * 512 + 512; rw [(index3 t).2.2.1]; omega
  | ⟨3, _⟩ => show win0_3.index t 3 * 1536 ≤ (i 3).val ∧ (i 3).val < win0_3.index t 3 * 1536 + 1536; rw [(index3 t).2.2.2]; omega

theorem cover4 (i : S4x2x512x1536.Idx) : ∃ t : Fin cfg0.N, (cfg0.win 4).flush t = true ∧ i ∈ ((cfg0.win 4).blk t).view.set := by
  have hN : cfg0.N = 16 := N_0
  have h0 : (i 0).val < 4 := (i 0).isLt
  have h1 : (i 1).val < 2 := (i 1).isLt
  have h2 : (i 2).val < 512 := (i 2).isLt
  have h3 : (i 3).val < 1536 := (i 3).isLt
  obtain ⟨t, ht⟩ : ∃ t : Fin cfg0.N, t.val = (i 0).val * 4 + 3 := ⟨⟨(i 0).val * 4 + 3, by omega⟩, rfl⟩
  refine ⟨t, (flush0_4 t).mpr (by omega), ?_⟩
  show i ∈ ((View.whole main_v0_1).slice (win0_4.rect t)).set
  rw [View.set_slice_whole, Rect.mem_set_unit]
  intro a
  match a with
  | ⟨0, _⟩ => show win0_4.index t 0 * 1 ≤ (i 0).val ∧ (i 0).val < win0_4.index t 0 * 1 + 1; rw [(index4 t).1]; omega
  | ⟨1, _⟩ => show win0_4.index t 1 * 2 ≤ (i 1).val ∧ (i 1).val < win0_4.index t 1 * 2 + 2; rw [(index4 t).2.1]; omega
  | ⟨2, _⟩ => show win0_4.index t 2 * 512 ≤ (i 2).val ∧ (i 2).val < win0_4.index t 2 * 512 + 512; rw [(index4 t).2.2.1]; omega
  | ⟨3, _⟩ => show win0_4.index t 3 * 1536 ≤ (i 3).val ∧ (i 3).val < win0_4.index t 3 * 1536 + 1536; rw [(index4 t).2.2.2]; omega

/-- The first result array after the run. -/
theorem final3 (c : Dev nD) : (dats m 0 c).arrAt 3 cfg0.N = G m c :=
  (dats m 0 c).arrAt_eq_of_cover 3 (G m c) (flushed3_eq m c) cover3

/-- The second result array after the run. -/
theorem final4 (c : Dev nD) : (dats m 0 c).arrAt 4 cfg0.N = G m c :=
  (dats m 0 c).arrAt_eq_of_cover 4 (G m c) (flushed4_eq m c) cover4

end Cert.GradWInIdeal.Array

end
-- ==== Proof.GradWInEq.lean ====
/- The weight-gradient kernel computes its reference. -/
module

public import proofs.«01_k».proof.Defs
public import proofs.«01_k».proof.Proof.GradWInArray
public import proofs.«01_k».proof.Proof.Gen.GradWInRefIdeal.Run
public import proofs.«01_k».proof.Proof.Gen.GradWInRefIdeal.Read

@[expose] public section

set_option maxRecDepth 16384

noncomputable section

namespace Cert.GradWInEq

open Idealize.ShloMosaic Idealize.ShloMosaic.TcCoe Idealize.SL.Sem
open Cert.GradWInRefIdeal.Read

/-- The reference's array, entry by entry: the sum over all rows. -/
theorem ref_apply (x0 : Cert.GradWInRefIdeal.S8192x1024.Idx → EReal) (x1 : Cert.GradWInRefIdeal.S8192x6144.Idx → EReal)
    (i : Cert.GradWInRefIdeal.S4x2x512x1536.Idx) :
    val_main_v7 (F := Ideal) x0 x1 i
      = ∑ s : Fin 8192, x0 (ix2 s ⟨(i 1).val * 512 + (i 2).val, by
          have h1 : (i 1).val < 2 := (i 1).isLt; have h2 : (i 2).val < 512 := (i 2).isLt; omega⟩)
        * x1 (ix2 s ⟨(i 0).val * 1536 + (i 3).val, by
          have h1 : (i 0).val < 4 := (i 0).isLt; have h2 : (i 3).val < 1536 := (i 3).isLt; omega⟩) := by
  rw [val_main_v7_apply, val_main_v6_apply, val_main_v5_apply, val_main_v4_apply]
  refine Finset.sum_congr rfl fun s _ => ?_
  rw [val_main_v1_apply, val_main_v0_apply, mul_comm]
  have h0 : (i 0).val < 4 := (i 0).isLt
  have h1 : (i 1).val < 2 := (i 1).isLt
  have h2 : (i 2).val < 512 := (i 2).isLt
  have h3 : (i 3).val < 1536 := (i 3).isLt
  show x0 _ * x1 _ = x0 _ * x1 _
  congr 2
  · funext a
    apply Fin.ext
    match a with
    | ⟨0, _⟩ => rfl
    | ⟨1, _⟩ =>
      show ((((i 1).val * 512 + (i 2).val) * 4 + (i 0).val) * 1536 + (i 3).val) / 6144 = (i 1).val * 512 + (i 2).val
      omega
  · funext a
    apply Fin.ext
    match a with
    | ⟨0, _⟩ => rfl
    | ⟨1, _⟩ =>
      show ((((i 1).val * 512 + (i 2).val) * 4 + (i 0).val) * 1536 + (i 3).val) % 6144 = (i 0).val * 1536 + (i 3).val
      omega

/-- The value claim: at every input the kernel's two results are the reference's. -/
theorem claim : Cert.algebraic_GradWInIdeal_GradWInRefIdeal := by
  intro m g m' g' _ hargs
  refine ⟨fun c => Cert.GradWInIdeal.Array.G m c, fun c => Cert.GradWInIdeal.Array.G m c, ?_, ?_⟩
  · refine (θ_run Cert.GradWInIdeal.defs _ _).mono (fun r h c => ?_) (Cert.GradWInIdeal.Value.run_blocks m g)
    obtain ⟨h3, h4, h0, h1, h2⟩ := h c
    exact ⟨h3.trans (Cert.GradWInIdeal.Array.final3 m c), h4.trans (Cert.GradWInIdeal.Array.final4 m c), h0, h1, h2⟩
  · refine (θ_run Cert.GradWInRefIdeal.defs _ _).mono (fun r h c => ?_) (Cert.GradWInRefIdeal.Value.run m' g')
    obtain ⟨h7, h8, h0, h1, h2⟩ := h c
    obtain ⟨e0, e1, _⟩ := hargs c
    refine ⟨h7.trans ?_, h8.trans ?_, h0, h1, h2⟩
    · rw [val_main_v7_eq, e0, e1]
      funext i
      exact ref_apply _ _ i
    · rw [val_main_v8_eq, e0, e1]
      funext i
      rw [val_main_v8_apply]
      exact ref_apply _ _ i

end Cert.GradWInEq

end
-- ==== Proof.Rms.lean ====
/- The derivative of a row scaled by the reciprocal root of its mean square, over the extended reals: the form with the
   factor taken out, which a kernel computes, is the sum of the three terms of the product rule. -/
module

public import Idealize.ShloMosaic.Lib.Pointwise
public import Mathlib.Data.EReal.Inv

@[expose] public section

set_option maxRecDepth 16384

noncomputable section

namespace Cert.Rms

open Idealize.ShloMosaic

/-- A square is not negative. -/
theorem sq_nonneg (x : EReal) : 0 ≤ x * x := by
  rcases le_total 0 x with h | h
  · exact mul_nonneg h h
  · have := EReal.neg_le_neg_iff.mpr h
    rw [neg_zero] at this
    have h2 := mul_nonneg this this
    rwa [neg_mul_neg] at h2

/-- Division by a nonzero real is multiplication by the inverse. -/
theorem div_coe (a : EReal) (N : ℝ) (hN : N ≠ 0) : Ideal.div a (N : EReal) = a * ((N⁻¹ : ℝ) : EReal) := by
  unfold Ideal.div
  rw [if_neg (by exact_mod_cast hN), EReal.coe_inv]

/-- A nonnegative real factor moves into a finite sum, whatever the terms. -/
theorem mul_sum {ι : Type} (s : Finset ι) (f : ι → EReal) (r : ℝ) (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- Twice a value is the value added to itself. -/
theorem add_self (y : EReal) : y + y = ((2 : ℝ) : EReal) * y := by
  have h : ((2 : ℝ) : EReal) = 1 + 1 := by rw [← EReal.coe_one, ← EReal.coe_add]; norm_num
  rw [h, EReal.right_distrib_of_nonneg (by norm_num) (by norm_num), one_mul]

/-- The scale: the reciprocal root of the mean square plus a positive real. Either it is zero, the mean square being
    infinite, or all of the row is real and so is the scale. -/
theorem scale_cases {n : ℕ} (x : Fin n → EReal) (N e : ℝ) (hN : 0 < N) (he : 0 < e) :
    (Ideal.div (∑ k, x k * x k) (N : EReal) + (e : EReal) = ⊤)
    ∨ ∃ (y : Fin n → ℝ) (v : ℝ), 0 < v ∧ (∀ k, x k = (y k : EReal))
      ∧ Ideal.div (∑ k, x k * x k) (N : EReal) + (e : EReal) = (v : EReal) := by
  rw [div_coe _ N hN.ne']
  have hs : 0 ≤ ∑ k, x k * x k := Finset.sum_nonneg fun k _ => sq_nonneg _
  by_cases ht : ∑ k, x k * x k = ⊤
  · left
    rw [ht, EReal.top_mul_coe_of_pos (inv_pos.mpr hN), EReal.top_add_coe]
  · right
    have hk : ∀ k, ∃ y : ℝ, x k = (y : EReal) := fun k => by
      have hle : x k * x k ≤ ∑ k, x k * x k :=
        Finset.single_le_sum (f := fun k => x k * x k) (fun i _ => sq_nonneg _) (Finset.mem_univ k)
      induction hx : x k with
      | bot => rw [hx, EReal.bot_mul_bot] at hle; exact absurd (top_le_iff.mp hle) ht
      | top => rw [hx, EReal.top_mul_top] at hle; exact absurd (top_le_iff.mp hle) ht
      | coe y => exact ⟨y, rfl⟩
    choose y hy using hk
    lift (∑ k, x k * x k) to ℝ using ⟨ht, fun h => by rw [h] at hs; exact absurd hs (by simp)⟩ with S hS
    refine ⟨y, S * N⁻¹ + e, ?_, hy, ?_⟩
    · have : 0 ≤ S := by exact_mod_cast hs
      have := mul_nonneg this (inv_pos.mpr hN).le
      linarith
    · rw [EReal.coe_add, EReal.coe_mul]

/-- The derivative of the scaled row, with the scale taken out, is the three terms of the product rule. -/
theorem bwd {n : ℕ} (x d : Fin n → EReal) (N e : ℝ) (hN : 0 < N) (he : 0 < e) (j : Fin n)
    (v r : EReal) (hv : v = Ideal.div (∑ k, x k * x k) (N : EReal) + (e : EReal)) (hr : r = Ideal.rsqrt v) :
    r * (d j - (x j * r) * Ideal.div (∑ k, d k * (x k * r)) (N : EReal))
      = (d j * r + x j * Ideal.div ((∑ k, x k * d k) * (((-(1/2) : ℝ) : EReal) * Ideal.div r v)) (N : EReal))
        + Ideal.div ((∑ k, x k * d k) * (((-(1/2) : ℝ) : EReal) * Ideal.div r v)) (N : EReal) * x j := by
  rcases scale_cases x N e hN he with h | ⟨y, w, hw, hy, h⟩
  · rw [← hv] at h
    rw [h, Ideal.rsqrt_top] at hr
    have h0 : Ideal.div 0 v = 0 := by unfold Ideal.div; rw [h, if_neg (by simp), zero_mul]
    have h1 : Ideal.div 0 (N : EReal) = 0 := by rw [div_coe _ N hN.ne', zero_mul]
    simp [hr, h0, h1]
  · rw [← hv] at h
    have hsq := Real.sqrt_pos.mpr hw
    rw [h, Ideal.rsqrt_coe, if_neg (not_lt.mpr hw.le), if_neg hw.ne'] at hr
    generalize hq : (Real.sqrt w)⁻¹ = q at hr
    have hqp : 0 < q := by rw [← hq]; exact inv_pos.mpr hsq
    have hqw : q * w⁻¹ = q * q * q := by
      have : q * q = w⁻¹ := by rw [← hq, ← mul_inv, Real.mul_self_sqrt hw.le]
      rw [mul_assoc, this]
    have hsum : ∑ k, d k * (x k * r) = (q : EReal) * ∑ k, x k * d k := by
      rw [mul_sum _ _ _ hqp.le]
      exact Finset.sum_congr rfl fun k _ => by rw [hr, mul_comm (d k), mul_comm (x k), mul_assoc]
    rw [hsum, h, div_coe _ N hN.ne', div_coe _ N hN.ne', div_coe _ w hw.ne', hr, ← EReal.coe_mul, hqw]
    generalize (∑ k, x k * d k) = S
    rw [sub_eq_add_neg, EReal.left_distrib_of_nonneg_of_ne_top (by exact_mod_cast hqp.le) (EReal.coe_ne_top q),
      mul_comm (q : EReal) (d j), add_assoc]
    congr 1
    rw [mul_comm _ (x j), add_self, hy j]
    have e1 : ∀ a b : ℝ, (a : EReal) * ((b : EReal) * S) = ((a * b : ℝ) : EReal) * S := fun a b => by
      rw [EReal.coe_mul, mul_assoc]
    have l : (q : EReal) * -((y j : EReal) * (q : EReal) * ((q : EReal) * S * ((N⁻¹ : ℝ) : EReal)))
        = ((-(q * (y j) * q * q * N⁻¹) : ℝ) : EReal) * S := by
      rw [← EReal.neg_mul, ← EReal.coe_mul, ← EReal.coe_neg, mul_comm ((q : EReal) * S), e1, e1, e1]
      congr 2
      ring
    rw [l, ← EReal.coe_mul, mul_comm (S * _), mul_comm S, e1, e1, e1]
    congr 2
    ring

/-! The two at rows of 1024 numbers and at the literals the programs carry. -/

theorem lit_1024 : Ideal.ofBits .f32 0x44800000#32 = ((1024 : ℝ) : EReal) := by
  simp [Ideal.ofBits, Ideal.ieee, -EReal.coe_mul]; norm_num

theorem lit_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem lit_neg_half : Ideal.ofBits .f32 0xBF000000#32 = ((-(1/2) : ℝ) : EReal) := by
  simp [Ideal.ofBits, Ideal.ieee, -EReal.coe_mul]; norm_num

/-- The mean square of a row, plus the small literal. -/
def meanSq (x : Fin 1024 → EReal) : EReal :=
  Ideal.div (∑ k, x k * x k) (Ideal.ofBits .f32 0x44800000#32) + Ideal.ofBits .f32 0x358637BD#32

/-- The row's scale: the reciprocal root of its mean square. -/
def scale (x : Fin 1024 → EReal) : EReal := Ideal.rsqrt (meanSq x)

/-- The derivative of the scaled row against `d`, as the kernels compute it. -/
def grad (x d : Fin 1024 → EReal) (j : Fin 1024) : EReal :=
  scale x * (d j - (x j * scale x) * Ideal.div (∑ k, d k * (x k * scale x)) (Ideal.ofBits .f32 0x44800000#32))

/-- The scalar of the product rule's term for the scale. -/
def cross (x d : Fin 1024 → EReal) : EReal :=
  Ideal.div ((∑ k, x k * d k) * (Ideal.ofBits .f32 0xBF000000#32 * Ideal.div (scale x) (meanSq x)))
    (Ideal.ofBits .f32 0x44800000#32)

/-- The derivative is the three terms of the product rule. -/
theorem grad_eq (x d : Fin 1024 → EReal) (j : Fin 1024) :
    grad x d j = (d j * scale x + x j * cross x d) + cross x d * x j := by
  obtain ⟨e, he, hE⟩ := lit_eps
  unfold grad cross
  rw [lit_1024, lit_neg_half]
  exact bwd x d 1024 e (by norm_num) he j (meanSq x) (scale x) (by unfold meanSq; rw [lit_1024, hE]) rfl

end Cert.Rms

end
-- ==== Proof.InBwdFirstPoint.lean ====
/- What one grid point of the input-projection backward kernel leaves: its block of the rows' gradient, and the eight
   partial sums of the gain's gradient that it adds to; the last point sums the eight. -/
module

public import proofs.«01_k».proof.Proof.Gen.InBwdFirstIdeal.Value
public import proofs.«01_k».proof.Proof.Rms

@[expose] public section

set_option maxRecDepth 16384

noncomputable section

namespace Cert.InBwdFirstIdeal.Point

open Cert.InBwdFirstIdeal Cert.InBwdFirstIdeal.Gen Idealize.ShloMosaic Idealize.ShloMosaic.TcCoe Idealize.SL.Sem
open Cert.Rms

variable {F : FTy → Type} [FloatOps F]

theorem hz2 : (![0, 0] : Fin 2 → Nat) = fun _ => 0 := funext fun a => by fin_cases a <;> rfl

/-- The gradient of the normed rows of the block: four products, one for each part of the columns. -/
def dhBlock (x0 : Vec F S512x6144 .bf16) (x4 : Vec F S4x1024x1536 .bf16) : FVec F S512x1024 .f32 :=
  k0_pay7 (View.ld x0 (Rect.unit ![0, 0] ![512, 1536] inb_S512x6144_S512x1536_0_0))
    (View.ld x4 (Rect.unit ![0, 0, 0] ![1, 1024, 1536] inb_S4x1024x1536_S1x1024x1536_0_0_0))
    (View.ld x0 (Rect.unit ![0, 1536] ![512, 1536] inb_S512x6144_S512x1536_0_1536))
    (View.ld x4 (Rect.unit ![1, 0, 0] ![1, 1024, 1536] inb_S4x1024x1536_S1x1024x1536_1_0_0))
    (View.ld x0 (Rect.unit ![0, 3072] ![512, 1536] inb_S512x6144_S512x1536_0_3072))
    (View.ld x4 (Rect.unit ![2, 0, 0] ![1, 1024, 1536] inb_S4x1024x1536_S1x1024x1536_2_0_0))
    (View.ld x0 (Rect.unit ![0, 4608] ![512, 1536] inb_S512x6144_S512x1536_0_4608))
    (View.ld x4 (Rect.unit ![3, 0, 0] ![1, 1024, 1536] inb_S4x1024x1536_S1x1024x1536_3_0_0))

/-- The rows' gradient of the block. -/
abbrev gxBlock (x0 : Vec F S512x6144 .bf16) (x1 x2 : Vec F S512x1024 .f32) (x3 : Vec F S1x1024 .f32)
    (x4 : Vec F S4x1024x1536 .bf16) : FVec F S512x1024 .f32 :=
  k0_pay4 (dhBlock x0 x4) x1 (k0_pay8 x1) x3 x2

/-- The eight partial sums after the block, from those before it. -/
abbrev accBlock (x0 : Vec F S512x6144 .bf16) (x1 : Vec F S512x1024 .f32) (x4 : Vec F S4x1024x1536 .bf16)
    (v : Vec F S8x1024 .f32) : FVec F S8x1024 .f32 :=
  k0_pay3 (dhBlock x0 x4) x1 (k0_pay8 x1) v

/-- The block of the gradient, at a point of this kind. -/
theorem out_A (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a7 : Memref sig .tc .vmem S512x1024 .f32) (h7 : a7.IsWhole)
    (a8 : Memref sig .tc .vmem S8x1024 .f32) (h8 : a8.IsWhole)
    (a9 : Memref sig .tc .vmem S8x1024 .f32) (h9 : a9.IsWhole)
    (hc0 : cond0_0 i) (hc1 : ¬cond0_1 i)
    (x0 : Vec F S512x6144 .bf16) (x1 x2 : Vec F S512x1024 .f32)
    (x3 : Vec F S1x1024 .f32) (x4 : Vec F S4x1024x1536 .bf16) :
    out0_A_5 c i a1 h1 a2 h2 a3 h3 a4 h4 a5 h5 a7 h7 a8 h8 a9 h9 hc0 hc1 x0 x1 x2 x3 x4
      = gxBlock x0 x1 x2 x3 x4 := by
  unfold out0_A_5
  rw [View.read_writes_eq_canon _ _ _ (cover0_A_5 c i a1 h1 a2 h2 a3 h3 a4 h4 a5 h5 a7 h7 a8 h8 a9 h9 hc0 hc1 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x1024) hz2]
  rfl

/-- The block of the gradient, at a point of this kind. -/
theorem out_B (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a7 : Memref sig .tc .vmem S512x1024 .f32) (h7 : a7.IsWhole)
    (a8 : Memref sig .tc .vmem S8x1024 .f32) (h8 : a8.IsWhole)
    (a9 : Memref sig .tc .vmem S8x1024 .f32) (h9 : a9.IsWhole)
    (hc0 : ¬cond0_0 i) (hc1 : ¬cond0_1 i)
    (x0 : Vec F S512x6144 .bf16) (x1 x2 : Vec F S512x1024 .f32)
    (x3 : Vec F S1x1024 .f32) (x4 : Vec F S4x1024x1536 .bf16) (xs : Vec F S8x1024 .f32) :
    out0_B_5 c i a1 h1 a2 h2 a3 h3 a4 h4 a5 h5 a7 h7 a8 h8 a9 h9 hc0 hc1 x0 x1 x2 x3 x4 xs
      = gxBlock x0 x1 x2 x3 x4 := by
  unfold out0_B_5
  rw [View.read_writes_eq_canon _ _ _ (cover0_B_5 c i a1 h1 a2 h2 a3 h3 a4 h4 a5 h5 a7 h7 a8 h8 a9 h9 hc0 hc1 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x1024) hz2]
  rfl

/-- The block of the gradient, at a point of this kind. -/
theorem out_C (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a7 : Memref sig .tc .vmem S512x1024 .f32) (h7 : a7.IsWhole)
    (a8 : Memref sig .tc .vmem S8x1024 .f32) (h8 : a8.IsWhole)
    (a9 : Memref sig .tc .vmem S8x1024 .f32) (h9 : a9.IsWhole)
    (hc0 : ¬cond0_0 i) (hc1 : cond0_1 i)
    (x0 : Vec F S512x6144 .bf16) (x1 x2 : Vec F S512x1024 .f32)
    (x3 : Vec F S1x1024 .f32) (x4 : Vec F S4x1024x1536 .bf16) (xs : Vec F S8x1024 .f32) :
    out0_C_5 c i a1 h1 a2 h2 a3 h3 a4 h4 a5 h5 a7 h7 a8 h8 a9 h9 hc0 hc1 x0 x1 x2 x3 x4 xs
      = gxBlock x0 x1 x2 x3 x4 := by
  unfold out0_C_5
  rw [View.read_writes_eq_canon _ _ _ (cover0_C_5 c i a1 h1 a2 h2 a3 h3 a4 h4 a5 h5 a7 h7 a8 h8 a9 h9 hc0 hc1 x0 x1 x2 x3 x4 xs)]
  unfold kernelRun0_C
  dsimp only
  sl_unfold_words
  rw [View.canon_unit_zero hz2]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x1024) hz2]
  rfl

/-- The first point starts the partial sums from zero. -/
theorem sout_A (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a7 : Memref sig .tc .vmem S512x1024 .f32) (h7 : a7.IsWhole)
    (a8 : Memref sig .tc .vmem S8x1024 .f32) (h8 : a8.IsWhole)
    (a9 : Memref sig .tc .vmem S8x1024 .f32) (h9 : a9.IsWhole)
    (hc0 : cond0_0 i) (hc1 : ¬cond0_1 i)
    (x0 : Vec F S512x6144 .bf16) (x1 x2 : Vec F S512x1024 .f32)
    (x3 : Vec F S1x1024 .f32) (x4 : Vec F S4x1024x1536 .bf16) :
    sout0_A_0 c i a1 h1 a2 h2 a3 h3 a4 h4 a5 h5 a7 h7 a8 h8 a9 h9 hc0 hc1 x0 x1 x2 x3 x4
      = accBlock x0 x1 x4 k0_pay6 := by
  unfold sout0_A_0
  rw [View.read_writes_eq_canon _ _ _ (scover0_A_0 c i a1 h1 a2 h2 a3 h3 a4 h4 a5 h5 a7 h7 a8 h8 a9 h9 hc0 hc1 x0 x1 x2 x3 x4)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x1024) hz2]
  rfl

/-- A later point adds to the partial sums. -/
theorem sout_B (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a7 : Memref sig .tc .vmem S512x1024 .f32) (h7 : a7.IsWhole)
    (a8 : Memref sig .tc .vmem S8x1024 .f32) (h8 : a8.IsWhole)
    (a9 : Memref sig .tc .vmem S8x1024 .f32) (h9 : a9.IsWhole)
    (hc0 : ¬cond0_0 i) (hc1 : ¬cond0_1 i)
    (x0 : Vec F S512x6144 .bf16) (x1 x2 : Vec F S512x1024 .f32)
    (x3 : Vec F S1x1024 .f32) (x4 : Vec F S4x1024x1536 .bf16) (xs : Vec F S8x1024 .f32) :
    sout0_B_0 c i a1 h1 a2 h2 a3 h3 a4 h4 a5 h5 a7 h7 a8 h8 a9 h9 hc0 hc1 x0 x1 x2 x3 x4 xs
      = accBlock x0 x1 x4 xs := by
  unfold sout0_B_0
  rw [View.read_writes_eq_canon _ _ _ (scover0_B_0 c i a1 h1 a2 h2 a3 h3 a4 h4 a5 h5 a7 h7 a8 h8 a9 h9 hc0 hc1 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x1024) hz2]
  rfl

/-- A later point adds to the partial sums. -/
theorem sout_C (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a7 : Memref sig .tc .vmem S512x1024 .f32) (h7 : a7.IsWhole)
    (a8 : Memref sig .tc .vmem S8x1024 .f32) (h8 : a8.IsWhole)
    (a9 : Memref sig .tc .vmem S8x1024 .f32) (h9 : a9.IsWhole)
    (hc0 : ¬cond0_0 i) (hc1 : cond0_1 i)
    (x0 : Vec F S512x6144 .bf16) (x1 x2 : Vec F S512x1024 .f32)
    (x3 : Vec F S1x1024 .f32) (x4 : Vec F S4x1024x1536 .bf16) (xs : Vec F S8x1024 .f32) :
    sout0_C_0 c i a1 h1 a2 h2 a3 h3 a4 h4 a5 h5 a7 h7 a8 h8 a9 h9 hc0 hc1 x0 x1 x2 x3 x4 xs
      = accBlock x0 x1 x4 xs := by
  unfold sout0_C_0
  rw [View.read_writes_eq_canon _ _ _ (scover0_C_0 c i a1 h1 a2 h2 a3 h3 a4 h4 a5 h5 a7 h7 a8 h8 a9 h9 hc0 hc1 x0 x1 x2 x3 x4 xs)]
  unfold kernelRun0_C
  dsimp only
  sl_unfold_words
  rw [View.canon_unit_zero hz2]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x1024) hz2]
  rfl

/-- The last point: the eight partial sums together. -/
theorem gout_C (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a7 : Memref sig .tc .vmem S512x1024 .f32) (h7 : a7.IsWhole)
    (a8 : Memref sig .tc .vmem S8x1024 .f32) (h8 : a8.IsWhole)
    (a9 : Memref sig .tc .vmem S8x1024 .f32) (h9 : a9.IsWhole)
    (hc0 : ¬cond0_0 i) (hc1 : cond0_1 i)
    (x0 : Vec F S512x6144 .bf16) (x1 x2 : Vec F S512x1024 .f32)
    (x3 : Vec F S1x1024 .f32) (x4 : Vec F S4x1024x1536 .bf16) (xs : Vec F S8x1024 .f32) :
    out0_C_6 c i a1 h1 a2 h2 a3 h3 a4 h4 a5 h5 a7 h7 a8 h8 a9 h9 hc0 hc1 x0 x1 x2 x3 x4 xs
      = k0_pay5 (accBlock x0 x1 x4 xs) := by
  unfold out0_C_6
  rw [View.read_writes_eq_canon _ _ _ (cover0_C_6 c i a1 h1 a2 h2 a3 h3 a4 h4 a5 h5 a7 h7 a8 h8 a9 h9 hc0 hc1 x0 x1 x2 x3 x4 xs)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h9.read_unread,
    View.ld_unit_zero (S := S512x1024) hz2, View.ld_unit_zero (S := S1x1024) hz2, View.ld_unit_zero (S := S8x1024) hz2]
  rfl

/-- A column block of a row block, entry by entry. -/
theorem ld_cols (x0 : Vec Ideal S512x6144 .bf16) (o : ℕ) (h) (ho : o + 1536 ≤ 6144) (b : Fin 512) (e : Fin 1536) :
    View.ld x0 (Rect.unit ![0, o] ![512, 1536] h) (ix2 b e) = x0 (ix2 b ⟨o + e.val, by omega⟩) := by
  show x0 _ = x0 _
  congr 1
  funext a
  apply Fin.ext
  match a with
  | ⟨0, _⟩ => show 0 + 1 * b.val = b.val; omega
  | ⟨1, _⟩ => show o + 1 * e.val = o + e.val; omega

/-- One of the four weight parts, entry by entry. -/
theorem ld_part (x4 : Vec Ideal S4x1024x1536 .bf16) (p : ℕ) (h) (hp : p < 4) (j : Fin 1024) (e : Fin 1536) :
    View.ld x4 (Rect.unit ![p, 0, 0] ![1, 1024, 1536] h) (ix3 (0 : Fin 1) j e) = x4 (ix3 (⟨p, hp⟩ : Fin 4) j e) := by
  show x4 _ = x4 _
  congr 1
  funext a
  apply Fin.ext
  match a with
  | ⟨0, _⟩ => show p + 1 * 0 = p; omega
  | ⟨1, _⟩ => show 0 + 1 * j.val = j.val; omega
  | ⟨2, _⟩ => show 0 + 1 * e.val = e.val; omega

/-- The gradient of the normed rows: a sum over the four parts and their columns. -/
theorem dhBlock_apply (x0 : Vec Ideal S512x6144 .bf16) (x4 : Vec Ideal S4x1024x1536 .bf16) (b : Fin 512) (j : Fin 1024) :
    dhBlock x0 x4 (ix2 b j)
      = ∑ p : Fin 4, ∑ e : Fin 1536, x0 (ix2 b ⟨p.val * 1536 + e.val, by omega⟩) * x4 (ix3 p j e) := by
  have h : ∀ (v1 v2 v3 v4 : FVec Ideal S512x1536 .bf16) (w1 w2 w3 w4 : Vec Ideal S1x1024x1536 .bf16),
      k0_pay7 (F := Ideal) v1 w1 v2 w2 v3 w3 v4 w4 (ix2 b j)
        = ∑ e : Fin 1536, v1 (ix2 b e) * w1 (ix3 (0 : Fin 1) j e) + ∑ e : Fin 1536, v2 (ix2 b e) * w2 (ix3 (0 : Fin 1) j e)
          + ∑ e : Fin 1536, v3 (ix2 b e) * w3 (ix3 (0 : Fin 1) j e) + ∑ e : Fin 1536, v4 (ix2 b e) * w4 (ix3 (0 : Fin 1) j e) := by
    intro v1 v2 v3 v4 w1 w2 w3 w4
    unfold k0_pay7
    pointwise
  unfold dhBlock
  rw [h, Fin.sum_univ_four]
  refine congrArg₂ (· + ·) (congrArg₂ (· + ·) (congrArg₂ (· + ·) ?_ ?_) ?_) ?_
  · exact Finset.sum_congr rfl fun e _ => congrArg₂ (· * ·) (ld_cols x0 0 _ (by omega) b e) (ld_part x4 0 _ (by omega) j e)
  · exact Finset.sum_congr rfl fun e _ => congrArg₂ (· * ·) (ld_cols x0 1536 _ (by omega) b e) (ld_part x4 1 _ (by omega) j e)
  · exact Finset.sum_congr rfl fun e _ => congrArg₂ (· * ·) (ld_cols x0 3072 _ (by omega) b e) (ld_part x4 2 _ (by omega) j e)
  · exact Finset.sum_congr rfl fun e _ => congrArg₂ (· * ·) (ld_cols x0 4608 _ (by omega) b e) (ld_part x4 3 _ (by omega) j e)

/-- The rows' gradient, entry by entry. -/
theorem gxBlock_apply (x0 : Vec Ideal S512x6144 .bf16) (x1 x2 : Vec Ideal S512x1024 .f32) (x3 : Vec Ideal S1x1024 .f32)
    (x4 : Vec Ideal S4x1024x1536 .bf16) (b : Fin 512) (j : Fin 1024) :
    gxBlock x0 x1 x2 x3 x4 (ix2 b j)
      = x2 (ix2 b j) + grad (fun k => x1 (ix2 b k)) (fun k => dhBlock x0 x4 (ix2 b k) * x3 (ix2 (0 : Fin 1) k)) j := by
  unfold gxBlock grad scale meanSq
  generalize dhBlock x0 x4 = v
  unfold k0_pay4 k0_pay2 k0_pay1 k0_pay8
  pointwise

/-- The partial sums, entry by entry: partial sum `b` takes the rows `b`, `b + 8`, … of the block. -/
theorem accBlock_apply (x0 : Vec Ideal S512x6144 .bf16) (x1 : Vec Ideal S512x1024 .f32) (x4 : Vec Ideal S4x1024x1536 .bf16)
    (v : Vec Ideal S8x1024 .f32) (b : Fin 8) (j : Fin 1024) :
    accBlock x0 x1 x4 v (ix2 b j)
      = v (ix2 b j) + ∑ q : Fin 64, dhBlock x0 x4 (ix2 (⟨q.val * 8 + b.val, by omega⟩ : Fin 512) j)
          * (x1 (ix2 (⟨q.val * 8 + b.val, by omega⟩ : Fin 512) j)
              * scale (fun k => x1 (ix2 (⟨q.val * 8 + b.val, by omega⟩ : Fin 512) k))) := by
  unfold accBlock scale meanSq
  generalize dhBlock x0 x4 = w
  unfold k0_pay3 k0_pay2 k0_pay1 k0_pay8
  pointwise

theorem pay6_apply (j : S8x1024.Idx) : k0_pay6 (F := Ideal) j = 0 := by
  unfold k0_pay6
  pointwise

/-- The eight partial sums together. -/
theorem pay5_apply (v : Vec Ideal S8x1024 .f32) (b : Fin 8) (j : Fin 1024) :
    k0_pay5 (F := Ideal) v (ix2 b j) = ∑ y : Fin 8, v (ix2 y j) := by
  unfold k0_pay5
  pointwise

end Cert.InBwdFirstIdeal.Point

end
-- ==== Proof.InBwdFirstArray.lean ====
/- The input-projection backward kernel's result arrays over the first half of the rows: each row's gradient, and the
   gain's gradient summed over the half. -/
module

public import proofs.«01_k».proof.Proof.InBwdFirstPoint
public import proofs.«01_k».proof.Proof.Sums
public import Idealize.ShloMosaic.Lib.StableHlo.ReadAt

@[expose] public section

set_option maxRecDepth 16384

noncomputable section

namespace Cert.InBwdFirstIdeal.Array

open Cert.InBwdFirstIdeal Cert.InBwdFirstIdeal.Gen Idealize.ShloMosaic Idealize.ShloMosaic.TcCoe Idealize.SL.Sem
open Cert.InBwdFirstIdeal.Point Cert.Rms

variable (m : (ℓ : Loc nD τ sig) → Buf (Elt Ideal) ℓ)

/-- The gradient of the projected columns. -/
abbrev Dp (c : Dev nD) : S8192x6144.Idx → EReal := m ((c : Thread nD τ).loc main_arg0)
/-- The rows. -/
abbrev Xs (c : Dev nD) : S8192x1024.Idx → EReal := m ((c : Thread nD τ).loc main_arg1)
/-- What already flows back into the rows. -/
abbrev D2 (c : Dev nD) : S8192x1024.Idx → EReal := m ((c : Thread nD τ).loc main_arg2)
/-- The gain. -/
abbrev Gn (c : Dev nD) : S1x1024.Idx → EReal := m ((c : Thread nD τ).loc main_arg3)
/-- The weights. -/
abbrev W (c : Dev nD) : S1024x6144.Idx → EReal := m ((c : Thread nD τ).loc main_arg4)

theorem index0 : ∀ t : Fin cfg0.N, win0_0.index t (0 : Fin 2) = t.val ∧ win0_0.index t (1 : Fin 2) = 0 := by decide +kernel
theorem index1 : ∀ t : Fin cfg0.N, win0_1.index t (0 : Fin 2) = t.val ∧ win0_1.index t (1 : Fin 2) = 0 := by decide +kernel
theorem index2 : ∀ t : Fin cfg0.N, win0_2.index t (0 : Fin 2) = t.val ∧ win0_2.index t (1 : Fin 2) = 0 := by decide +kernel
theorem index3 : ∀ t : Fin cfg0.N, win0_3.index t (0 : Fin 2) = 0 ∧ win0_3.index t (1 : Fin 2) = 0 := by decide +kernel
theorem indexX : ∀ t : Fin cfg0.N, win0_5.index t (0 : Fin 2) = t.val ∧ win0_5.index t (1 : Fin 2) = 0 := by decide +kernel
theorem indexG : ∀ t : Fin cfg0.N, win0_6.index t (0 : Fin 2) = 0 ∧ win0_6.index t (1 : Fin 2) = 0 := by decide +kernel

theorem lt8 (t : Fin cfg0.N) : t.val < 8 := lt_of_lt_of_eq t.isLt N_0

/-- Row `b` of point `t`'s block, in the whole array. -/
abbrev row (t : Fin cfg0.N) (b : Fin 512) : Fin 8192 := ⟨t.val * 512 + b.val, by have := lt8 t; omega⟩

theorem iblk0_apply (c : Dev nD) (t : Fin cfg0.N) (b : Fin 512) (e : Fin 6144) :
    iblk m c 0 t (ix2 b e) = Dp m c (ix2 (row t b) e) := by
  unfold iblk
  rw [View.read_apply]
  show V m c main_arg0 _ = _
  rw [V_main_arg0]
  congr 1
  funext a
  apply Fin.ext
  match a with
  | ⟨0, _⟩ => show win0_0.index t 0 * 512 + 1 * b.val = t.val * 512 + b.val; rw [(index0 t).1, Nat.one_mul]
  | ⟨1, _⟩ => show win0_0.index t 1 * 6144 + 1 * e.val = e.val; rw [(index0 t).2]; omega

theorem iblk1_apply (c : Dev nD) (t : Fin cfg0.N) (b : Fin 512) (e : Fin 1024) :
    iblk m c 1 t (ix2 b e) = Xs m c (ix2 (row t b) e) := by
  unfold iblk
  rw [View.read_apply]
  show V m c main_arg1 _ = _
  rw [V_main_arg1]
  congr 1
  funext a
  apply Fin.ext
  match a with
  | ⟨0, _⟩ => show win0_1.index t 0 * 512 + 1 * b.val = t.val * 512 + b.val; rw [(index1 t).1, Nat.one_mul]
  | ⟨1, _⟩ => show win0_1.index t 1 * 1024 + 1 * e.val = e.val; rw [(index1 t).2]; omega

theorem iblk2_apply (c : Dev nD) (t : Fin cfg0.N) (b : Fin 512) (e : Fin 1024) :
    iblk m c 2 t (ix2 b e) = D2 m c (ix2 (row t b) e) := by
  unfold iblk
  rw [View.read_apply]
  show V m c main_arg2 _ = _
  rw [V_main_arg2]
  congr 1
  funext a
  apply Fin.ext
  match a with
  | ⟨0, _⟩ => show win0_2.index t 0 * 512 + 1 * b.val = t.val * 512 + b.val; rw [(index2 t).1, Nat.one_mul]
  | ⟨1, _⟩ => show win0_2.index t 1 * 1024 + 1 * e.val = e.val; rw [(index2 t).2]; omega

theorem iblk3_apply (c : Dev nD) (t : Fin cfg0.N) (e : Fin 1024) :
    iblk m c 3 t (ix2 (0 : Fin 1) e) = Gn m c (ix2 (0 : Fin 1) e) := by
  unfold iblk
  rw [View.read_apply]
  show V m c main_arg3 _ = _
  rw [V_main_arg3]
  congr 1
  funext a
  apply Fin.ext
  match a with
  | ⟨0, _⟩ => show win0_3.index t 0 * 1 + 1 * 0 = 0; rw [(index3 t).1]
  | ⟨1, _⟩ => show win0_3.index t 1 * 1024 + 1 * e.val = e.val; rw [(index3 t).2]; omega

/-- The weights as the kernel takes them: four parts of the columns. -/
theorem V_w (c : Dev nD) (p : Fin 4) (j : Fin 1024) (e : Fin 1536) :
    V m c main_v1 (ix3 p j e) = W m c (ix2 j ⟨p.val * 1536 + e.val, by omega⟩) := by
  unfold V
  after_reads_at

theorem iblk4_apply (c : Dev nD) (t : Fin cfg0.N) (p : Fin 4) (j : Fin 1024) (e : Fin 1536) :
    iblk m c 4 t (ix3 p j e) = W m c (ix2 j ⟨p.val * 1536 + e.val, by omega⟩) := by
  unfold iblk
  rw [View.read_apply, ← V_w]
  show V m c main_v1 _ = V m c main_v1 _
  congr 1
  funext a
  apply Fin.ext
  match a with
  | ⟨0, _⟩ => show 0 * 4 + 1 * p.val = p.val; omega
  | ⟨1, _⟩ => show 0 * 1024 + 1 * j.val = j.val; omega
  | ⟨2, _⟩ => show 0 * 1536 + 1 * e.val = e.val; omega

/-- The gradient of the normed rows. -/
def dh (c : Dev nD) (s : Fin 8192) (j : Fin 1024) : EReal := ∑ e : Fin 6144, Dp m c (ix2 s e) * W m c (ix2 j e)

theorem dhBlock_eq (c : Dev nD) (t : Fin cfg0.N) (b : Fin 512) (j : Fin 1024) :
    dhBlock (F := Ideal) (iblk m c 0 t) (iblk m c 4 t) (ix2 b j) = dh m c (row t b) j := by
  rw [dhBlock_apply]
  unfold dh
  rw [Cert.Sums.sum_tiles 6144 4 1536 (by decide)]
  exact Finset.sum_congr rfl fun p _ => Finset.sum_congr rfl fun e _ => by rw [iblk0_apply, iblk4_apply]

/-- A row's gradient. -/
def gX (c : Dev nD) (s : Fin 8192) (j : Fin 1024) : EReal :=
  D2 m c (ix2 s j) + grad (fun k => Xs m c (ix2 s k)) (fun k => dh m c s k * Gn m c (ix2 (0 : Fin 1) k)) j

/-- What a row adds to the gain's gradient. -/
def gG (c : Dev nD) (j : Fin 1024) (s : Fin 8192) : EReal :=
  dh m c s j * (Xs m c (ix2 s j) * scale (fun k => Xs m c (ix2 s k)))

theorem gx_block (c : Dev nD) (t : Fin cfg0.N) (b : Fin 512) (j : Fin 1024) :
    gxBlock (F := Ideal) (iblk m c 0 t) (iblk m c 1 t) (iblk m c 2 t) (iblk m c 3 t) (iblk m c 4 t) (ix2 b j)
      = gX m c (row t b) j := by
  rw [gxBlock_apply]
  unfold gX
  simp only [dhBlock_eq]
  refine congrArg₂ (· + ·) (iblk2_apply m c t b j) ?_
  refine congrArg₂ (fun x d => grad x d j) (funext fun k => iblk1_apply m c t b k) (funext fun k => ?_)
  exact congrArg _ (iblk3_apply m c t k)

/-- What point `t` adds to partial sum `b`. -/
def term (c : Dev nD) (b : Fin 8) (j : Fin 1024) (t : Fin cfg0.N) : EReal :=
  ∑ q : Fin 64, gG m c j (row t (⟨q.val * 8 + b.val, by omega⟩ : Fin 512))

theorem acc_block (c : Dev nD) (t : Fin cfg0.N) (v : Vec Ideal S8x1024 .f32) (b : Fin 8) (j : Fin 1024) :
    accBlock (F := Ideal) (iblk m c 0 t) (iblk m c 1 t) (iblk m c 4 t) v (ix2 b j) = v (ix2 b j) + term m c b j t := by
  rw [accBlock_apply]
  unfold term gG
  simp only [dhBlock_eq]
  refine congrArg _ (Finset.sum_congr rfl fun q _ => congrArg _ (congrArg₂ (· * ·) (iblk1_apply m c t _ j) ?_))
  exact congrArg _ (funext fun k => iblk1_apply m c t _ k)

theorem reset (c : Dev nD) (b : Fin 8) (j : Fin 1024) (t : Fin cfg0.N) (h : t.val % 8 = 0) :
    (outsAt0 m c t.val t.isLt).2.2 (ix2 b j) = term m c b j t := by
  rw [outsAt0_A m c t h (by omega)]
  dsimp only
  rw [sout_A, acc_block, pay6_apply, zero_add]

theorem step (c : Dev nD) (b : Fin 8) (j : Fin 1024) (t : Fin cfg0.N) (h : ¬t.val % 8 = 0) :
    (outsAt0 m c t.val t.isLt).2.2 (ix2 b j)
      = (outsAt0 m c (t.val - 1) (lt_of_le_of_lt (Nat.sub_le _ _) t.isLt)).2.2 (ix2 b j) + term m c b j t := by
  by_cases h1 : t.val % 8 = 7
  · rw [outsAt0_C m c t h h1]
    dsimp only
    rw [sout_C, acc_block]
  · rw [outsAt0_B m c t h h1]
    dsimp only
    rw [sout_B, acc_block]

/-- Row `s` of this half, in the whole array. -/
abbrev half (s : Fin 4096) : Fin 8192 := ⟨s.val, by omega⟩

/-- After the last point partial sum `b` holds its rows of all the blocks. -/
theorem acc_last (c : Dev nD) (t : Fin cfg0.N) (h : t.val % 8 = 7) (b : Fin 8) (j : Fin 1024) :
    (outsAt0 m c t.val t.isLt).2.2 (ix2 b j)
      = ∑ k : Fin 8, ∑ q : Fin 64, gG m c j (half ⟨k.val * 512 + (q.val * 8 + b.val), by omega⟩) := by
  have hN : cfg0.N = 8 := N_0
  have ht := lt8 t
  rw [Cert.Sums.running_sum_last 8 cfg0.N (by decide) (fun t => (outsAt0 m c t.val t.isLt).2.2 (ix2 b j))
    (term m c b j) (reset m c b j) (step m c b j) 0 (by omega) t (by omega)]
  refine Finset.sum_congr rfl fun k _ => Finset.sum_congr rfl fun q _ => ?_
  refine congrArg _ (Fin.ext ?_)
  show (0 * 8 + k.val) * 512 + (q.val * 8 + b.val) = k.val * 512 + (q.val * 8 + b.val)
  omega

/-- The eight together: the sum over the rows of the half. -/
theorem acc_total (c : Dev nD) (t : Fin cfg0.N) (h : t.val % 8 = 7) (j : Fin 1024) :
    ∑ b : Fin 8, (outsAt0 m c t.val t.isLt).2.2 (ix2 b j) = ∑ s : Fin 4096, gG m c j (half s) := by
  simp only [acc_last m c t h]
  rw [Finset.sum_comm, Cert.Sums.sum_tiles 4096 8 512 (by decide) (fun s => gG m c j (half s))]
  refine Finset.sum_congr rfl fun k _ => ?_
  rw [Finset.sum_comm, Cert.Sums.sum_tiles 512 64 8 (by decide)
    (fun q : Fin 512 => gG m c j (half ⟨k.val * 512 + q.val, by omega⟩))]

theorem readX (c : Dev nD) (t : Fin cfg0.N) (X : S8192x1024.Idx → EReal) (b : Fin 512) (j : Fin 1024) :
    ((cfg0.win 5).blk t).view.read (Elt Ideal) (X : Buf (Elt Ideal) ((c : Thread nD τ).loc main_v2_0)) (ix2 b j)
      = X (ix2 (row t b) j) := by
  rw [View.read_apply]
  show X _ = X _
  congr 1
  funext a
  apply Fin.ext
  match a with
  | ⟨0, _⟩ => show win0_5.index t 0 * 512 + 1 * b.val = t.val * 512 + b.val; rw [(indexX t).1, Nat.one_mul]
  | ⟨1, _⟩ => show win0_5.index t 1 * 1024 + 1 * j.val = j.val; rw [(indexX t).2]; omega

/-- The first result array after the run, at a row of this half. -/
theorem finalX (c : Dev nD) (s : Fin 4096) (j : Fin 1024) :
    (dats m 0 c).arrAt 5 cfg0.N (ix2 (half s) j) = gX m c (half s) j := by
  have hN : cfg0.N = 8 := N_0
  obtain ⟨t, ht⟩ : ∃ t : Fin cfg0.N, t.val = s.val / 512 := ⟨⟨s.val / 512, by omega⟩, rfl⟩
  have hs : half s = row t ⟨s.val % 512, by omega⟩ := Fin.ext (by
    show s.val = t.val * 512 + s.val % 512; omega)
  have h := congrFun (Cert.InBwdFirstIdeal.Value.blocks5 m c t (flush0_5 t)) (ix2 (⟨s.val % 512, by omega⟩ : Fin 512) j)
  rw [hs]
  refine (readX c t ((dats m 0 c).arrAt 5 cfg0.N) ⟨s.val % 512, by omega⟩ j).symm.trans (h.trans ?_)
  rw [Cert.InBwdFirstIdeal.Value.flushed5]
  show (outsAt0 m c t.val t.isLt).1 (ix2 (⟨s.val % 512, by omega⟩ : Fin 512) j) = _
  refine Eq.trans ?_ (gx_block m c t _ j)
  by_cases h0 : t.val % 8 = 0
  · rw [outsAt0_A m c t h0 (by omega)]
    dsimp only
    rw [out_A]
  · by_cases h1 : t.val % 8 = 7
    · rw [outsAt0_C m c t h0 h1]
      dsimp only
      rw [out_C]
    · rw [outsAt0_B m c t h0 h1]
      dsimp only
      rw [out_B]

theorem readG (c : Dev nD) (t : Fin cfg0.N) (X : S8x1024.Idx → EReal) (b : Fin 8) (j : Fin 1024) :
    ((cfg0.win 6).blk t).view.read (Elt Ideal) (X : Buf (Elt Ideal) ((c : Thread nD τ).loc main_v2_1)) (ix2 b j)
      = X (ix2 b j) := by
  rw [View.read_apply]
  show X _ = X _
  congr 1
  funext a
  apply Fin.ext
  match a with
  | ⟨0, _⟩ => show win0_6.index t 0 * 8 + 1 * b.val = b.val; rw [(indexG t).1]; omega
  | ⟨1, _⟩ => show win0_6.index t 1 * 1024 + 1 * j.val = j.val; rw [(indexG t).2]; omega

/-- The second result array's entries: the sum over the half's rows, eight times. -/
def gTot (c : Dev nD) (i : S8x1024.Idx) : EReal := ∑ s : Fin 4096, gG m c (i 1) (half s)

/-- The second result array after the run. -/
theorem finalG (c : Dev nD) : (dats m 0 c).arrAt 6 cfg0.N = gTot m c := by
  have hN : cfg0.N = 8 := N_0
  refine (dats m 0 c).arrAt_eq_of_cover 6 (gTot m c) (fun t hf => ?_) (fun i => ?_)
  · have h7 : t.val % 8 = 7 := (flush0_6 t).mp hf
    rw [Cert.InBwdFirstIdeal.Value.flushed6]
    funext y
    obtain ⟨b, j, rfl⟩ : ∃ b j, y = (ix2 b j : S8x1024.Idx) := ⟨y 0, y 1, eq_ix2 y⟩
    refine Eq.trans ?_ (readG c t (gTot m c) b j).symm
    show (outsAt0 m c t.val t.isLt).2.1 (ix2 b j) = ∑ s : Fin 4096, gG m c j (half s)
    rw [← acc_total m c t h7]
    rw [outsAt0_C m c t (by omega) h7]
    dsimp only
    rw [gout_C, pay5_apply]

    exact Finset.sum_congr rfl fun y _ => by rw [sout_C]
  · obtain ⟨t, ht⟩ : ∃ t : Fin cfg0.N, t.val = 7 := ⟨⟨7, by omega⟩, rfl⟩
    refine ⟨t, (flush0_6 t).mpr (by omega), ?_⟩
    show i ∈ ((View.whole main_v2_1).slice (win0_6.rect t)).set
    rw [View.set_slice_whole, Rect.mem_set_unit]
    intro a
    have h0 : (i 0).val < 8 := (i 0).isLt
    have h1 : (i 1).val < 1024 := (i 1).isLt
    match a with
    | ⟨0, _⟩ => show win0_6.index _ 0 * 8 ≤ (i 0).val ∧ (i 0).val < win0_6.index _ 0 * 8 + 8; rw [(indexG _).1]; omega
    | ⟨1, _⟩ => show win0_6.index _ 1 * 1024 ≤ (i 1).val ∧ (i 1).val < win0_6.index _ 1 * 1024 + 1024; rw [(indexG _).2]; omega

end Cert.InBwdFirstIdeal.Array

end
-- ==== Proof.InBwdFirstRef.lean ====
/- The reference's two arrays for the first half of the rows, entry by entry. -/
module

public import proofs.«01_k».proof.Proof.Rms
public import proofs.«01_k».proof.Proof.Gen.InBwdFirstRefIdeal.Run
public import proofs.«01_k».proof.Proof.Gen.InBwdFirstRefIdeal.Read

@[expose] public section

set_option maxRecDepth 16384

noncomputable section

namespace Cert.InBwdFirstRef

open Cert.InBwdFirstRefIdeal Cert.InBwdFirstRefIdeal.Read Idealize.ShloMosaic Idealize.ShloMosaic.TcCoe Idealize.SL.Sem
open Cert.Rms

variable (x0 : S8192x6144.Idx → EReal) (x1 x2 : S8192x1024.Idx → EReal) (x3 : S1x1024.Idx → EReal) (x4 : S1024x6144.Idx → EReal)

/-- Row `s` of this half, in the whole array. -/
abbrev row (s : Fin 4096) : Fin 8192 := ⟨s.val, by omega⟩

/-- The row of `x`. -/
abbrev X (s : Fin 4096) (k : Fin 1024) : EReal := x1 (ix2 (row s) k)
/-- The gradient of the normed row: the product with the weights, transposed. -/
abbrev Dh (s : Fin 4096) (j : Fin 1024) : EReal := ∑ e : Fin 6144, x0 (ix2 (row s) e) * x4 (ix2 j e)
/-- … times the gain. -/
abbrev Dn (s : Fin 4096) (j : Fin 1024) : EReal := Dh x0 x4 s j * x3 (ix2 (0 : Fin 1) j)

theorem at1 (s : Fin 4096) (j : Fin 1024) : val_main_v1 (F := Ideal) x1 (ix2 s j) = X x1 s j := by
  unfold val_main_v1
  pointwise

theorem at2 (s : Fin 4096) (j : Fin 1024) : val_main_v2 (F := Ideal) x2 (ix2 s j) = x2 (ix2 (row s) j) := by
  unfold val_main_v2
  pointwise

theorem at11 (s : Fin 4096) : val_main_v11 (F := Ideal) x1 (ix2 s (0 : Fin 1)) = meanSq (X x1 s) := by
  unfold val_main_v11 val_main_v10 val_main_v9 val_main_v8 val_main_v7 val_main_v6 val_main_v5 val_main_v1 val_main_cst
    val_main_cst_0 val_main_cst_1 meanSq
  pointwise

theorem at12 (s : Fin 4096) : val_main_v12 (F := Ideal) x1 (ix2 s (0 : Fin 1)) = scale (X x1 s) := by
  show Ideal.rsqrt (val_main_v11 (F := Ideal) x1 (ix2 s (0 : Fin 1))) = _
  rw [at11]
  rfl

theorem at28 (s : Fin 4096) (j : Fin 1024) : val_main_v28 (F := Ideal) x0 x3 x4 (ix2 s j) = Dn x0 x3 x4 s j := by
  unfold val_main_v28 val_main_v27 val_main_v18 val_main_v4 val_main_v23 val_main_v22 val_main_v0 val_main_v3
  pointwise

theorem at39 (s : Fin 4096) (j : Fin 1024) :
    val_main_v39 (F := Ideal) x0 x1 x3 x4 (ix2 s j) = cross (X x1 s) (Dn x0 x3 x4 s) := by
  have h : val_main_v39 (F := Ideal) x0 x1 x3 x4 (ix2 s j)
      = ∑ y : Fin 1, Ideal.div ((∑ k : Fin 1024, val_main_v1 (F := Ideal) x1 (ix2 s k) * val_main_v28 (F := Ideal) x0 x3 x4 (ix2 s k))
          * (Ideal.ofBits .f32 0xBF000000#32 * Ideal.div (val_main_v12 (F := Ideal) x1 (ix2 s y)) (val_main_v11 (F := Ideal) x1 (ix2 s y))))
          (Ideal.ofBits .f32 0x44800000#32) := by
    unfold val_main_v39 val_main_v38 val_main_v37 val_main_v36 val_main_v35 val_main_v32 val_main_v31 val_main_v30
      val_main_v15 val_main_v14 val_main_v13 val_main_cst_7 val_main_cst_6 val_main_cst_5 val_main_cst_2
    pointwise
  rw [h, Fin.sum_univ_one, at11, at12]
  unfold cross
  simp only [at1, at28]

/-- The first result at a row of this half: what came in plus the derivative of the norm. -/
theorem at45 (s : Fin 4096) (j : Fin 1024) :
    val_main_v45 (F := Ideal) x0 x1 x2 x3 x4 (ix2 s j) = x2 (ix2 (row s) j) + grad (X x1 s) (Dn x0 x3 x4 s) j := by
  have h : val_main_v45 (F := Ideal) x0 x1 x2 x3 x4 (ix2 s j)
      = val_main_v2 (F := Ideal) x2 (ix2 s j)
        + (val_main_v28 (F := Ideal) x0 x3 x4 (ix2 s j) * val_main_v12 (F := Ideal) x1 (ix2 s (0 : Fin 1))
            + val_main_v1 (F := Ideal) x1 (ix2 s j) * val_main_v39 (F := Ideal) x0 x1 x3 x4 (ix2 s j)
            + val_main_v39 (F := Ideal) x0 x1 x3 x4 (ix2 s j) * val_main_v1 (F := Ideal) x1 (ix2 s j)) := by
    unfold val_main_v45 val_main_v43 val_main_v42 val_main_v41 val_main_v40 val_main_v34 val_main_v33
    pointwise
  rw [h, at2, at28, at12, at1, at39, grad_eq]

/-- The gain's gradient: the sum over the rows of this half. -/
abbrev Gg (j : Fin 1024) : EReal := ∑ s : Fin 4096, Dh x0 x4 s j * (X x1 s j * scale (X x1 s))

theorem at44 (j : Fin 1024) : val_main_v44 (F := Ideal) x0 x1 x4 (ix2 (0 : Fin 1) j) = Gg x0 x1 x4 j := by
  have h : val_main_v44 (F := Ideal) x0 x1 x4 (ix2 (0 : Fin 1) j)
      = ∑ y : Fin 1, ∑ s : Fin 4096, val_main_v1 (F := Ideal) x1 (ix2 s j) * val_main_v12 (F := Ideal) x1 (ix2 s (0 : Fin 1))
          * Dh x0 x4 s j := by
    unfold val_main_v44 val_main_v29 val_main_v26 val_main_v25 val_main_v24 val_main_v17 val_main_v16 val_main_v23
      val_main_v22 val_main_v0 val_main_v3 val_main_cst_3 val_main_cst_4
    pointwise
  rw [h, Fin.sum_univ_one]
  exact Finset.sum_congr rfl fun s _ => by rw [at1, at12, mul_comm]

/-- The first result array, at a row of the first half. -/
theorem at47 (s : Fin 4096) (j : Fin 1024) :
    val_main_v47 (F := Ideal) x0 x1 x2 x3 x4 (ix2 (row s) j)
      = x2 (ix2 (row s) j) + grad (X x1 s) (Dn x0 x3 x4 s) j := by
  rw [← at45]
  unfold val_main_v47
  pointwise

/-- The second result array: eight equal rows. -/
theorem at48 (b : Fin 8) (j : Fin 1024) : val_main_v48 (F := Ideal) x0 x1 x4 (ix2 b j) = Gg x0 x1 x4 j := by
  rw [← at44]
  unfold val_main_v48
  pointwise

end Cert.InBwdFirstRef

end
-- ==== Proof.InBwdFirstEq.lean ====
/- The input-projection backward kernel computes its reference on the first half of the rows. -/
module

public import proofs.«01_k».proof.Defs
public import proofs.«01_k».proof.Proof.InBwdFirstArray
public import proofs.«01_k».proof.Proof.InBwdFirstRef
public import proofs.«01_k».proof.Proof.Gen.On_first_half

@[expose] public section

set_option maxRecDepth 16384

noncomputable section

namespace Cert.InBwdFirstEq

open Idealize.ShloMosaic Idealize.ShloMosaic.TcCoe Idealize.SL.Sem
open Cert.InBwdFirstIdeal.Array Cert.InBwdFirstRefIdeal.Read

/-- The claim's mask names the rows below 4096 only. -/
theorem mask_lt (x0 x1 x2 x3 x4 x5) (i : (⟨2, ![8192, 1024]⟩ : Shape).Idx)
    (h : (Cert.On_first_half.fn (F := Ideal) x0 x1 x2 x3 x4 x5).1 i = 1#1) : (i 0).val < 4096 := by
  have h0 : (i 0).val < 8192 := (i 0).isLt
  change BitVec.ofBool ((BitVec.ofNat 32 (i 0).val).slt 4096#32) = 1#1 at h
  have hs : (BitVec.ofNat 32 (i 0).val).slt 4096#32 = true := by
    cases hb : (BitVec.ofNat 32 (i 0).val).slt 4096#32
    · rw [hb] at h; exact absurd h (by decide)
    · rfl
  have h4 : (4096#32 : BitVec 32).toInt = 4096 := by decide
  have h5 : (BitVec.ofNat 32 (i 0).val).toInt = (i 0).val := by
    rw [BitVec.toInt_eq_toNat_of_lt (by rw [BitVec.toNat_ofNat]; omega), BitVec.toNat_ofNat]; omega
  rw [BitVec.slt_iff_toInt_lt, h4, h5] at hs
  omega

/-- The value claim: at every input the kernel's two results are the reference's, on the first half of the rows. -/
theorem claim : Cert.algebraic_InBwdFirstIdeal_InBwdFirstRefIdeal_on_first_half := by
  intro m g m' g' _ hargs
  refine ⟨fun c i => gX m c (i 0) (i 1), fun c => gTot m c, ?_, ?_⟩
  · refine (θ_run Cert.InBwdFirstIdeal.defs _ _).mono (fun r h c => ?_) (Cert.InBwdFirstIdeal.Value.run_blocks m g)
    obtain ⟨h5, h6, hk⟩ := h c
    refine ⟨fun i hi => ?_, fun i _ => ?_, hk⟩
    · have hlt := mask_lt _ _ _ _ _ _ i hi
      rw [h5, show i = ix2 (half ⟨(i 0).val, hlt⟩) (i 1) from eq_ix2 i]
      exact finalX m c _ _
    · rw [h6, finalG]
  · refine (θ_run Cert.InBwdFirstRefIdeal.defs _ _).mono (fun r h c => ?_) (Cert.InBwdFirstRefIdeal.Value.run m' g')
    obtain ⟨h47, h48, hk⟩ := h c
    obtain ⟨e0, e1, e2, e3, e4, _⟩ := hargs c
    refine ⟨fun i hi => ?_, fun i _ => ?_, hk⟩
    · have hlt := mask_lt _ _ _ _ _ _ i hi
      rw [h47, val_main_v47_eq, e0, e1, e2, e3, e4, show i = ix2 (half ⟨(i 0).val, hlt⟩) (i 1) from eq_ix2 i]
      exact Cert.InBwdFirstRef.at47 _ _ _ _ _ ⟨(i 0).val, hlt⟩ (i 1)
    · rw [h48, val_main_v48_eq, e0, e1, e4, show i = ix2 (i 0) (i 1) from eq_ix2 i]
      exact Cert.InBwdFirstRef.at48 _ _ _ (i 0) (i 1)

end Cert.InBwdFirstEq

end
-- ==== Proof.InBwdSecondPoint.lean ====
/- What one grid point of the input-projection backward kernel leaves: its block of the rows' gradient, and the eight
   partial sums of the gain's gradient that it adds to; the last point sums the eight and adds what the first half left. -/
module

public import proofs.«01_k».proof.Proof.Gen.InBwdSecondIdeal.Value
public import proofs.«01_k».proof.Proof.Rms

@[expose] public section

set_option maxRecDepth 16384

noncomputable section

namespace Cert.InBwdSecondIdeal.Point

open Cert.InBwdSecondIdeal Cert.InBwdSecondIdeal.Gen Idealize.ShloMosaic Idealize.ShloMosaic.TcCoe Idealize.SL.Sem
open Cert.Rms

variable {F : FTy → Type} [FloatOps F]

theorem hz2 : (![0, 0] : Fin 2 → Nat) = fun _ => 0 := funext fun a => by fin_cases a <;> rfl

/-- The gradient of the normed rows of the block: four products, one for each part of the columns. -/
def dhBlock (x0 : Vec F S512x6144 .bf16) (x4 : Vec F S4x1024x1536 .bf16) : FVec F S512x1024 .f32 :=
  k0_pay7 (View.ld x0 (Rect.unit ![0, 0] ![512, 1536] inb_S512x6144_S512x1536_0_0))
    (View.ld x4 (Rect.unit ![0, 0, 0] ![1, 1024, 1536] inb_S4x1024x1536_S1x1024x1536_0_0_0))
    (View.ld x0 (Rect.unit ![0, 1536] ![512, 1536] inb_S512x6144_S512x1536_0_1536))
    (View.ld x4 (Rect.unit ![1, 0, 0] ![1, 1024, 1536] inb_S4x1024x1536_S1x1024x1536_1_0_0))
    (View.ld x0 (Rect.unit ![0, 3072] ![512, 1536] inb_S512x6144_S512x1536_0_3072))
    (View.ld x4 (Rect.unit ![2, 0, 0] ![1, 1024, 1536] inb_S4x1024x1536_S1x1024x1536_2_0_0))
    (View.ld x0 (Rect.unit ![0, 4608] ![512, 1536] inb_S512x6144_S512x1536_0_4608))
    (View.ld x4 (Rect.unit ![3, 0, 0] ![1, 1024, 1536] inb_S4x1024x1536_S1x1024x1536_3_0_0))

/-- The rows' gradient of the block. -/
abbrev gxBlock (x0 : Vec F S512x6144 .bf16) (x1 x2 : Vec F S512x1024 .f32) (x3 : Vec F S1x1024 .f32)
    (x4 : Vec F S4x1024x1536 .bf16) : FVec F S512x1024 .f32 :=
  k0_pay4 (dhBlock x0 x4) x1 (k0_pay8 x1) x3 x2

/-- The eight partial sums after the block, from those before it. -/
abbrev accBlock (x0 : Vec F S512x6144 .bf16) (x1 : Vec F S512x1024 .f32) (x4 : Vec F S4x1024x1536 .bf16)
    (v : Vec F S8x1024 .f32) : FVec F S8x1024 .f32 :=
  k0_pay3 (dhBlock x0 x4) x1 (k0_pay8 x1) v

/-- The block of the gradient, at a point of this kind. -/
theorem out_A (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a8 : Memref sig .tc .vmem S8x1024 .f32) (h8 : a8.IsWhole)
    (a9 : Memref sig .tc .vmem S512x1024 .f32) (h9 : a9.IsWhole)
    (a10 : Memref sig .tc .vmem S8x1024 .f32) (h10 : a10.IsWhole)
    (a11 : Memref sig .tc .vmem S8x1024 .f32) (h11 : a11.IsWhole)
    (hc0 : cond0_0 i) (hc1 : ¬cond0_1 i)
    (x0 : Vec F S512x6144 .bf16) (x1 x2 : Vec F S512x1024 .f32)
    (x3 : Vec F S1x1024 .f32) (x4 : Vec F S4x1024x1536 .bf16) (x5 : Vec F S8x1024 .f32) :
    out0_A_6 c i a1 h1 a2 h2 a3 h3 a4 h4 a5 h5 a8 h8 a9 h9 a10 h10 a11 h11 hc0 hc1 x0 x1 x2 x3 x4 x5
      = gxBlock x0 x1 x2 x3 x4 := by
  unfold out0_A_6
  rw [View.read_writes_eq_canon _ _ _ (cover0_A_6 c i a1 h1 a2 h2 a3 h3 a4 h4 a5 h5 a8 h8 a9 h9 a10 h10 a11 h11 hc0 hc1 x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h8.read_unread, h11.read_unread,
    View.ld_unit_zero (S := S512x1024) hz2, View.ld_unit_zero (S := S1x1024) hz2, View.ld_unit_zero (S := S8x1024) hz2]
  rfl

/-- The block of the gradient, at a point of this kind. -/
theorem out_B (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a8 : Memref sig .tc .vmem S8x1024 .f32) (h8 : a8.IsWhole)
    (a9 : Memref sig .tc .vmem S512x1024 .f32) (h9 : a9.IsWhole)
    (a10 : Memref sig .tc .vmem S8x1024 .f32) (h10 : a10.IsWhole)
    (a11 : Memref sig .tc .vmem S8x1024 .f32) (h11 : a11.IsWhole)
    (hc0 : ¬cond0_0 i) (hc1 : ¬cond0_1 i)
    (x0 : Vec F S512x6144 .bf16) (x1 x2 : Vec F S512x1024 .f32)
    (x3 : Vec F S1x1024 .f32) (x4 : Vec F S4x1024x1536 .bf16) (x5 : Vec F S8x1024 .f32) (xs : Vec F S8x1024 .f32) :
    out0_B_6 c i a1 h1 a2 h2 a3 h3 a4 h4 a5 h5 a8 h8 a9 h9 a10 h10 a11 h11 hc0 hc1 x0 x1 x2 x3 x4 x5 xs
      = gxBlock x0 x1 x2 x3 x4 := by
  unfold out0_B_6
  rw [View.read_writes_eq_canon _ _ _ (cover0_B_6 c i a1 h1 a2 h2 a3 h3 a4 h4 a5 h5 a8 h8 a9 h9 a10 h10 a11 h11 hc0 hc1 x0 x1 x2 x3 x4 x5 xs)]
  unfold kernelRun0_B
  dsimp only
  sl_unfold_words
  rw [View.canon_unit_zero hz2]
  simp only [View.readAt_eq_ld, h1.read_unread, h2.read_unread, h3.read_unread, h4.read_unread, h5.read_unread, h8.read_unread, h11.read_unread,
    View.ld_unit_zero (S := S512x1024) hz2, View.ld_unit_zero (S := S1x1024) hz2, View.ld_unit_zero (S := S8x1024) hz2]
  rfl

/-- The block of the gradient, at a point of this kind. -/
theorem out_C (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a8 : Memref sig .tc .vmem S8x1024 .f32) (h8 : a8.IsWhole)
    (a9 : Memref sig .tc .vmem S512x1024 .f32) (h9 : a9.IsWhole)
    (a10 : Memref sig .tc .vmem S8x1024 .f32) (h10 : a10.IsWhole)
    (a11 : Memref sig .tc .vmem S8x1024 .f32) (h11 : a11.IsWhole)
    (hc0 : ¬cond0_0 i) (hc1 : cond0_1 i)
    (x0 : Vec F S512x6144 .bf16) (x1 x2 : Vec F S512x1024 .f32)
    (x3 : Vec F S1x1024 .f32) (x4 : Vec F S4x1024x1536 .bf16) (x5 : Vec F S8x1024 .f32) (xs : Vec F S8x1024 .f32) :
    out0_C_6 c i a1 h1 a2 h2 a3 h3 a4 h4 a5 h5 a8 h8 a9 h9 a10 h10 a11 h11 hc0 hc1 x0 x1 x2 x3 x4 x5 xs
      = gxBlock x0 x1 x2 x3 x4 := by
  unfold out0_C_6
  rw [View.read_writes_eq_canon _ _ _ (cover0_C_6 c i a1 h1 a2 h2 a3 h3 a4 h4 a5 h5 a8 h8 a9 h9 a10 h10 a11 h11 hc0 hc1 x0 x1 x2 x3 x4 x5 xs)]
  unfold kernelRun0_C
  dsimp only
  sl_unfold_words
  rw [View.canon_unit_zero hz2]
  simp only [View.readAt_eq_ld, h1.read_unread, h2.read_unread, h3.read_unread, h4.read_unread, h5.read_unread, h8.read_unread, h11.read_unread,
    View.ld_unit_zero (S := S512x1024) hz2, View.ld_unit_zero (S := S1x1024) hz2, View.ld_unit_zero (S := S8x1024) hz2]
  rfl

/-- The first point starts the partial sums from zero. -/
theorem sout_A (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a8 : Memref sig .tc .vmem S8x1024 .f32) (h8 : a8.IsWhole)
    (a9 : Memref sig .tc .vmem S512x1024 .f32) (h9 : a9.IsWhole)
    (a10 : Memref sig .tc .vmem S8x1024 .f32) (h10 : a10.IsWhole)
    (a11 : Memref sig .tc .vmem S8x1024 .f32) (h11 : a11.IsWhole)
    (hc0 : cond0_0 i) (hc1 : ¬cond0_1 i)
    (x0 : Vec F S512x6144 .bf16) (x1 x2 : Vec F S512x1024 .f32)
    (x3 : Vec F S1x1024 .f32) (x4 : Vec F S4x1024x1536 .bf16) (x5 : Vec F S8x1024 .f32) :
    sout0_A_0 c i a1 h1 a2 h2 a3 h3 a4 h4 a5 h5 a8 h8 a9 h9 a10 h10 a11 h11 hc0 hc1 x0 x1 x2 x3 x4 x5
      = accBlock x0 x1 x4 k0_pay6 := by
  unfold sout0_A_0
  rw [View.read_writes_eq_canon _ _ _ (scover0_A_0 c i a1 h1 a2 h2 a3 h3 a4 h4 a5 h5 a8 h8 a9 h9 a10 h10 a11 h11 hc0 hc1 x0 x1 x2 x3 x4 x5)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h8.read_unread, h11.read_unread,
    View.ld_unit_zero (S := S512x1024) hz2, View.ld_unit_zero (S := S1x1024) hz2, View.ld_unit_zero (S := S8x1024) hz2]
  rfl

/-- A later point adds to the partial sums. -/
theorem sout_B (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a8 : Memref sig .tc .vmem S8x1024 .f32) (h8 : a8.IsWhole)
    (a9 : Memref sig .tc .vmem S512x1024 .f32) (h9 : a9.IsWhole)
    (a10 : Memref sig .tc .vmem S8x1024 .f32) (h10 : a10.IsWhole)
    (a11 : Memref sig .tc .vmem S8x1024 .f32) (h11 : a11.IsWhole)
    (hc0 : ¬cond0_0 i) (hc1 : ¬cond0_1 i)
    (x0 : Vec F S512x6144 .bf16) (x1 x2 : Vec F S512x1024 .f32)
    (x3 : Vec F S1x1024 .f32) (x4 : Vec F S4x1024x1536 .bf16) (x5 : Vec F S8x1024 .f32) (xs : Vec F S8x1024 .f32) :
    sout0_B_0 c i a1 h1 a2 h2 a3 h3 a4 h4 a5 h5 a8 h8 a9 h9 a10 h10 a11 h11 hc0 hc1 x0 x1 x2 x3 x4 x5 xs
      = accBlock x0 x1 x4 xs := by
  unfold sout0_B_0
  rw [View.read_writes_eq_canon _ _ _ (scover0_B_0 c i a1 h1 a2 h2 a3 h3 a4 h4 a5 h5 a8 h8 a9 h9 a10 h10 a11 h11 hc0 hc1 x0 x1 x2 x3 x4 x5 xs)]
  unfold kernelRun0_B
  dsimp only
  sl_unfold_words
  rw [View.canon_unit_zero hz2]
  simp only [View.readAt_eq_ld, h1.read_unread, h2.read_unread, h3.read_unread, h4.read_unread, h5.read_unread, h8.read_unread, h11.read_unread,
    View.ld_unit_zero (S := S512x1024) hz2, View.ld_unit_zero (S := S1x1024) hz2, View.ld_unit_zero (S := S8x1024) hz2]
  rfl

/-- A later point adds to the partial sums. -/
theorem sout_C (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a8 : Memref sig .tc .vmem S8x1024 .f32) (h8 : a8.IsWhole)
    (a9 : Memref sig .tc .vmem S512x1024 .f32) (h9 : a9.IsWhole)
    (a10 : Memref sig .tc .vmem S8x1024 .f32) (h10 : a10.IsWhole)
    (a11 : Memref sig .tc .vmem S8x1024 .f32) (h11 : a11.IsWhole)
    (hc0 : ¬cond0_0 i) (hc1 : cond0_1 i)
    (x0 : Vec F S512x6144 .bf16) (x1 x2 : Vec F S512x1024 .f32)
    (x3 : Vec F S1x1024 .f32) (x4 : Vec F S4x1024x1536 .bf16) (x5 : Vec F S8x1024 .f32) (xs : Vec F S8x1024 .f32) :
    sout0_C_0 c i a1 h1 a2 h2 a3 h3 a4 h4 a5 h5 a8 h8 a9 h9 a10 h10 a11 h11 hc0 hc1 x0 x1 x2 x3 x4 x5 xs
      = accBlock x0 x1 x4 xs := by
  unfold sout0_C_0
  rw [View.read_writes_eq_canon _ _ _ (scover0_C_0 c i a1 h1 a2 h2 a3 h3 a4 h4 a5 h5 a8 h8 a9 h9 a10 h10 a11 h11 hc0 hc1 x0 x1 x2 x3 x4 x5 xs)]
  unfold kernelRun0_C
  dsimp only
  sl_unfold_words
  rw [View.canon_unit_zero hz2]
  simp only [View.readAt_eq_ld, h1.read_unread, h2.read_unread, h3.read_unread, h4.read_unread, h5.read_unread, h8.read_unread, h11.read_unread,
    View.ld_unit_zero (S := S512x1024) hz2, View.ld_unit_zero (S := S1x1024) hz2, View.ld_unit_zero (S := S8x1024) hz2]
  rfl

/-- The last point: the eight partial sums together. -/
theorem gout_C (c : Dev nD) (i : grid0.Coords)
    (a1 : Memref sig .tc .vmem S512x6144 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S1x1024 .f32) (h4 : a4.IsWhole)
    (a5 : Memref sig .tc .vmem S4x1024x1536 .bf16) (h5 : a5.IsWhole)
    (a8 : Memref sig .tc .vmem S8x1024 .f32) (h8 : a8.IsWhole)
    (a9 : Memref sig .tc .vmem S512x1024 .f32) (h9 : a9.IsWhole)
    (a10 : Memref sig .tc .vmem S8x1024 .f32) (h10 : a10.IsWhole)
    (a11 : Memref sig .tc .vmem S8x1024 .f32) (h11 : a11.IsWhole)
    (hc0 : ¬cond0_0 i) (hc1 : cond0_1 i)
    (x0 : Vec F S512x6144 .bf16) (x1 x2 : Vec F S512x1024 .f32)
    (x3 : Vec F S1x1024 .f32) (x4 : Vec F S4x1024x1536 .bf16) (x5 : Vec F S8x1024 .f32) (xs : Vec F S8x1024 .f32) :
    out0_C_7 c i a1 h1 a2 h2 a3 h3 a4 h4 a5 h5 a8 h8 a9 h9 a10 h10 a11 h11 hc0 hc1 x0 x1 x2 x3 x4 x5 xs
      = k0_pay5 (accBlock x0 x1 x4 xs) x5 := by
  unfold out0_C_7
  rw [View.read_writes_eq_canon _ _ _ (cover0_C_7 c i a1 h1 a2 h2 a3 h3 a4 h4 a5 h5 a8 h8 a9 h9 a10 h10 a11 h11 hc0 hc1 x0 x1 x2 x3 x4 x5 xs)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h8.read_unread, h11.read_unread,
    View.ld_unit_zero (S := S512x1024) hz2, View.ld_unit_zero (S := S1x1024) hz2, View.ld_unit_zero (S := S8x1024) hz2]
  rfl

/-- A column block of a row block, entry by entry. -/
theorem ld_cols (x0 : Vec Ideal S512x6144 .bf16) (o : ℕ) (h) (ho : o + 1536 ≤ 6144) (b : Fin 512) (e : Fin 1536) :
    View.ld x0 (Rect.unit ![0, o] ![512, 1536] h) (ix2 b e) = x0 (ix2 b ⟨o + e.val, by omega⟩) := by
  show x0 _ = x0 _
  congr 1
  funext a
  apply Fin.ext
  match a with
  | ⟨0, _⟩ => show 0 + 1 * b.val = b.val; omega
  | ⟨1, _⟩ => show o + 1 * e.val = o + e.val; omega

/-- One of the four weight parts, entry by entry. -/
theorem ld_part (x4 : Vec Ideal S4x1024x1536 .bf16) (p : ℕ) (h) (hp : p < 4) (j : Fin 1024) (e : Fin 1536) :
    View.ld x4 (Rect.unit ![p, 0, 0] ![1, 1024, 1536] h) (ix3 (0 : Fin 1) j e) = x4 (ix3 (⟨p, hp⟩ : Fin 4) j e) := by
  show x4 _ = x4 _
  congr 1
  funext a
  apply Fin.ext
  match a with
  | ⟨0, _⟩ => show p + 1 * 0 = p; omega
  | ⟨1, _⟩ => show 0 + 1 * j.val = j.val; omega
  | ⟨2, _⟩ => show 0 + 1 * e.val = e.val; omega

/-- The gradient of the normed rows: a sum over the four parts and their columns. -/
theorem dhBlock_apply (x0 : Vec Ideal S512x6144 .bf16) (x4 : Vec Ideal S4x1024x1536 .bf16) (b : Fin 512) (j : Fin 1024) :
    dhBlock x0 x4 (ix2 b j)
      = ∑ p : Fin 4, ∑ e : Fin 1536, x0 (ix2 b ⟨p.val * 1536 + e.val, by omega⟩) * x4 (ix3 p j e) := by
  have h : ∀ (v1 v2 v3 v4 : FVec Ideal S512x1536 .bf16) (w1 w2 w3 w4 : Vec Ideal S1x1024x1536 .bf16),
      k0_pay7 (F := Ideal) v1 w1 v2 w2 v3 w3 v4 w4 (ix2 b j)
        = ∑ e : Fin 1536, v1 (ix2 b e) * w1 (ix3 (0 : Fin 1) j e) + ∑ e : Fin 1536, v2 (ix2 b e) * w2 (ix3 (0 : Fin 1) j e)
          + ∑ e : Fin 1536, v3 (ix2 b e) * w3 (ix3 (0 : Fin 1) j e) + ∑ e : Fin 1536, v4 (ix2 b e) * w4 (ix3 (0 : Fin 1) j e) := by
    intro v1 v2 v3 v4 w1 w2 w3 w4
    unfold k0_pay7
    pointwise
  unfold dhBlock
  rw [h, Fin.sum_univ_four]
  refine congrArg₂ (· + ·) (congrArg₂ (· + ·) (congrArg₂ (· + ·) ?_ ?_) ?_) ?_
  · exact Finset.sum_congr rfl fun e _ => congrArg₂ (· * ·) (ld_cols x0 0 _ (by omega) b e) (ld_part x4 0 _ (by omega) j e)
  · exact Finset.sum_congr rfl fun e _ => congrArg₂ (· * ·) (ld_cols x0 1536 _ (by omega) b e) (ld_part x4 1 _ (by omega) j e)
  · exact Finset.sum_congr rfl fun e _ => congrArg₂ (· * ·) (ld_cols x0 3072 _ (by omega) b e) (ld_part x4 2 _ (by omega) j e)
  · exact Finset.sum_congr rfl fun e _ => congrArg₂ (· * ·) (ld_cols x0 4608 _ (by omega) b e) (ld_part x4 3 _ (by omega) j e)

/-- The rows' gradient, entry by entry. -/
theorem gxBlock_apply (x0 : Vec Ideal S512x6144 .bf16) (x1 x2 : Vec Ideal S512x1024 .f32) (x3 : Vec Ideal S1x1024 .f32)
    (x4 : Vec Ideal S4x1024x1536 .bf16) (b : Fin 512) (j : Fin 1024) :
    gxBlock x0 x1 x2 x3 x4 (ix2 b j)
      = x2 (ix2 b j) + grad (fun k => x1 (ix2 b k)) (fun k => dhBlock x0 x4 (ix2 b k) * x3 (ix2 (0 : Fin 1) k)) j := by
  unfold gxBlock grad scale meanSq
  generalize dhBlock x0 x4 = v
  unfold k0_pay4 k0_pay2 k0_pay1 k0_pay8
  pointwise

/-- The partial sums, entry by entry: partial sum `b` takes the rows `b`, `b + 8`, … of the block. -/
theorem accBlock_apply (x0 : Vec Ideal S512x6144 .bf16) (x1 : Vec Ideal S512x1024 .f32) (x4 : Vec Ideal S4x1024x1536 .bf16)
    (v : Vec Ideal S8x1024 .f32) (b : Fin 8) (j : Fin 1024) :
    accBlock x0 x1 x4 v (ix2 b j)
      = v (ix2 b j) + ∑ q : Fin 64, dhBlock x0 x4 (ix2 (⟨q.val * 8 + b.val, by omega⟩ : Fin 512) j)
          * (x1 (ix2 (⟨q.val * 8 + b.val, by omega⟩ : Fin 512) j)
              * scale (fun k => x1 (ix2 (⟨q.val * 8 + b.val, by omega⟩ : Fin 512) k))) := by
  unfold accBlock scale meanSq
  generalize dhBlock x0 x4 = w
  unfold k0_pay3 k0_pay2 k0_pay1 k0_pay8
  pointwise

theorem pay6_apply (j : S8x1024.Idx) : k0_pay6 (F := Ideal) j = 0 := by
  unfold k0_pay6
  pointwise

/-- The eight partial sums together. -/
theorem pay5_apply (v : Vec Ideal S8x1024 .f32) (x5 : Vec Ideal S8x1024 .f32) (b : Fin 8) (j : Fin 1024) :
    k0_pay5 (F := Ideal) v x5 (ix2 b j) = x5 (ix2 b j) + ∑ y : Fin 8, v (ix2 y j) := by
  unfold k0_pay5
  pointwise ; try rw [add_comm]

end Cert.InBwdSecondIdeal.Point

end
-- ==== Proof.InBwdSecondArray.lean ====
/- The input-projection backward kernel's result arrays over the second half of the rows: each row's gradient, and the
   gain's gradient summed over the half. -/
module

public import proofs.«01_k».proof.Proof.InBwdSecondPoint
public import proofs.«01_k».proof.Proof.Sums
public import Idealize.ShloMosaic.Lib.StableHlo.ReadAt

@[expose] public section

set_option maxRecDepth 16384

noncomputable section

namespace Cert.InBwdSecondIdeal.Array

open Cert.InBwdSecondIdeal Cert.InBwdSecondIdeal.Gen Idealize.ShloMosaic Idealize.ShloMosaic.TcCoe Idealize.SL.Sem
open Cert.InBwdSecondIdeal.Point Cert.Rms

variable (m : (ℓ : Loc nD τ sig) → Buf (Elt Ideal) ℓ)

/-- The gradient of the projected columns. -/
abbrev Dp (c : Dev nD) : S8192x6144.Idx → EReal := m ((c : Thread nD τ).loc main_arg0)
/-- The rows. -/
abbrev Xs (c : Dev nD) : S8192x1024.Idx → EReal := m ((c : Thread nD τ).loc main_arg1)
/-- What already flows back into the rows. -/
abbrev D2 (c : Dev nD) : S8192x1024.Idx → EReal := m ((c : Thread nD τ).loc main_arg2)
/-- The gain. -/
abbrev Gn (c : Dev nD) : S1x1024.Idx → EReal := m ((c : Thread nD τ).loc main_arg3)
/-- The weights. -/
abbrev W (c : Dev nD) : S1024x6144.Idx → EReal := m ((c : Thread nD τ).loc main_arg4)

theorem index0 : ∀ t : Fin cfg0.N, win0_0.index t (0 : Fin 2) = t.val + 8 ∧ win0_0.index t (1 : Fin 2) = 0 := by decide +kernel
theorem index1 : ∀ t : Fin cfg0.N, win0_1.index t (0 : Fin 2) = t.val + 8 ∧ win0_1.index t (1 : Fin 2) = 0 := by decide +kernel
theorem index2 : ∀ t : Fin cfg0.N, win0_2.index t (0 : Fin 2) = t.val + 8 ∧ win0_2.index t (1 : Fin 2) = 0 := by decide +kernel
theorem index3 : ∀ t : Fin cfg0.N, win0_3.index t (0 : Fin 2) = 0 ∧ win0_3.index t (1 : Fin 2) = 0 := by decide +kernel
theorem indexX : ∀ t : Fin cfg0.N, win0_6.index t (0 : Fin 2) = t.val + 8 ∧ win0_6.index t (1 : Fin 2) = 0 := by decide +kernel
theorem indexG : ∀ t : Fin cfg0.N, win0_7.index t (0 : Fin 2) = 0 ∧ win0_7.index t (1 : Fin 2) = 0 := by decide +kernel

theorem lt8 (t : Fin cfg0.N) : t.val < 8 := lt_of_lt_of_eq t.isLt N_0

/-- Row `b` of point `t`'s block, in the whole array. -/
abbrev row (t : Fin cfg0.N) (b : Fin 512) : Fin 8192 := ⟨(t.val + 8) * 512 + b.val, by have := lt8 t; omega⟩

theorem iblk0_apply (c : Dev nD) (t : Fin cfg0.N) (b : Fin 512) (e : Fin 6144) :
    iblk m c 0 t (ix2 b e) = Dp m c (ix2 (row t b) e) := by
  unfold iblk
  rw [View.read_apply]
  show V m c main_arg0 _ = _
  rw [V_main_arg0]
  congr 1
  funext a
  apply Fin.ext
  match a with
  | ⟨0, _⟩ => show win0_0.index t 0 * 512 + 1 * b.val = (t.val + 8) * 512 + b.val; rw [(index0 t).1, Nat.one_mul]
  | ⟨1, _⟩ => show win0_0.index t 1 * 6144 + 1 * e.val = e.val; rw [(index0 t).2]; omega

theorem iblk1_apply (c : Dev nD) (t : Fin cfg0.N) (b : Fin 512) (e : Fin 1024) :
    iblk m c 1 t (ix2 b e) = Xs m c (ix2 (row t b) e) := by
  unfold iblk
  rw [View.read_apply]
  show V m c main_arg1 _ = _
  rw [V_main_arg1]
  congr 1
  funext a
  apply Fin.ext
  match a with
  | ⟨0, _⟩ => show win0_1.index t 0 * 512 + 1 * b.val = (t.val + 8) * 512 + b.val; rw [(index1 t).1, Nat.one_mul]
  | ⟨1, _⟩ => show win0_1.index t 1 * 1024 + 1 * e.val = e.val; rw [(index1 t).2]; omega

theorem iblk2_apply (c : Dev nD) (t : Fin cfg0.N) (b : Fin 512) (e : Fin 1024) :
    iblk m c 2 t (ix2 b e) = D2 m c (ix2 (row t b) e) := by
  unfold iblk
  rw [View.read_apply]
  show V m c main_arg2 _ = _
  rw [V_main_arg2]
  congr 1
  funext a
  apply Fin.ext
  match a with
  | ⟨0, _⟩ => show win0_2.index t 0 * 512 + 1 * b.val = (t.val + 8) * 512 + b.val; rw [(index2 t).1, Nat.one_mul]
  | ⟨1, _⟩ => show win0_2.index t 1 * 1024 + 1 * e.val = e.val; rw [(index2 t).2]; omega

theorem iblk3_apply (c : Dev nD) (t : Fin cfg0.N) (e : Fin 1024) :
    iblk m c 3 t (ix2 (0 : Fin 1) e) = Gn m c (ix2 (0 : Fin 1) e) := by
  unfold iblk
  rw [View.read_apply]
  show V m c main_arg3 _ = _
  rw [V_main_arg3]
  congr 1
  funext a
  apply Fin.ext
  match a with
  | ⟨0, _⟩ => show win0_3.index t 0 * 1 + 1 * 0 = 0; rw [(index3 t).1]
  | ⟨1, _⟩ => show win0_3.index t 1 * 1024 + 1 * e.val = e.val; rw [(index3 t).2]; omega

/-- The weights as the kernel takes them: four parts of the columns. -/
theorem V_w (c : Dev nD) (p : Fin 4) (j : Fin 1024) (e : Fin 1536) :
    V m c main_v1 (ix3 p j e) = W m c (ix2 j ⟨p.val * 1536 + e.val, by omega⟩) := by
  unfold V
  after_reads_at

theorem iblk4_apply (c : Dev nD) (t : Fin cfg0.N) (p : Fin 4) (j : Fin 1024) (e : Fin 1536) :
    iblk m c 4 t (ix3 p j e) = W m c (ix2 j ⟨p.val * 1536 + e.val, by omega⟩) := by
  unfold iblk
  rw [View.read_apply, ← V_w]
  show V m c main_v1 _ = V m c main_v1 _
  congr 1
  funext a
  apply Fin.ext
  match a with
  | ⟨0, _⟩ => show 0 * 4 + 1 * p.val = p.val; omega
  | ⟨1, _⟩ => show 0 * 1024 + 1 * j.val = j.val; omega
  | ⟨2, _⟩ => show 0 * 1536 + 1 * e.val = e.val; omega

/-- The gradient of the normed rows. -/
def dh (c : Dev nD) (s : Fin 8192) (j : Fin 1024) : EReal := ∑ e : Fin 6144, Dp m c (ix2 s e) * W m c (ix2 j e)

theorem dhBlock_eq (c : Dev nD) (t : Fin cfg0.N) (b : Fin 512) (j : Fin 1024) :
    dhBlock (F := Ideal) (iblk m c 0 t) (iblk m c 4 t) (ix2 b j) = dh m c (row t b) j := by
  rw [dhBlock_apply]
  unfold dh
  rw [Cert.Sums.sum_tiles 6144 4 1536 (by decide)]
  exact Finset.sum_congr rfl fun p _ => Finset.sum_congr rfl fun e _ => by rw [iblk0_apply, iblk4_apply]

/-- A row's gradient. -/
def gX (c : Dev nD) (s : Fin 8192) (j : Fin 1024) : EReal :=
  D2 m c (ix2 s j) + grad (fun k => Xs m c (ix2 s k)) (fun k => dh m c s k * Gn m c (ix2 (0 : Fin 1) k)) j

/-- What a row adds to the gain's gradient. -/
def gG (c : Dev nD) (j : Fin 1024) (s : Fin 8192) : EReal :=
  dh m c s j * (Xs m c (ix2 s j) * scale (fun k => Xs m c (ix2 s k)))

theorem gx_block (c : Dev nD) (t : Fin cfg0.N) (b : Fin 512) (j : Fin 1024) :
    gxBlock (F := Ideal) (iblk m c 0 t) (iblk m c 1 t) (iblk m c 2 t) (iblk m c 3 t) (iblk m c 4 t) (ix2 b j)
      = gX m c (row t b) j := by
  rw [gxBlock_apply]
  unfold gX
  simp only [dhBlock_eq]
  refine congrArg₂ (· + ·) (iblk2_apply m c t b j) ?_
  refine congrArg₂ (fun x d => grad x d j) (funext fun k => iblk1_apply m c t b k) (funext fun k => ?_)
  exact congrArg _ (iblk3_apply m c t k)

/-- What point `t` adds to partial sum `b`. -/
def term (c : Dev nD) (b : Fin 8) (j : Fin 1024) (t : Fin cfg0.N) : EReal :=
  ∑ q : Fin 64, gG m c j (row t (⟨q.val * 8 + b.val, by omega⟩ : Fin 512))

theorem acc_block (c : Dev nD) (t : Fin cfg0.N) (v : Vec Ideal S8x1024 .f32) (b : Fin 8) (j : Fin 1024) :
    accBlock (F := Ideal) (iblk m c 0 t) (iblk m c 1 t) (iblk m c 4 t) v (ix2 b j) = v (ix2 b j) + term m c b j t := by
  rw [accBlock_apply]
  unfold term gG
  simp only [dhBlock_eq]
  refine congrArg _ (Finset.sum_congr rfl fun q _ => congrArg _ (congrArg₂ (· * ·) (iblk1_apply m c t _ j) ?_))
  exact congrArg _ (funext fun k => iblk1_apply m c t _ k)

theorem reset (c : Dev nD) (b : Fin 8) (j : Fin 1024) (t : Fin cfg0.N) (h : t.val % 8 = 0) :
    (outsAt0 m c t.val t.isLt).2.2 (ix2 b j) = term m c b j t := by
  rw [outsAt0_A m c t h (by omega)]
  dsimp only
  rw [sout_A, acc_block, pay6_apply, zero_add]

theorem step (c : Dev nD) (b : Fin 8) (j : Fin 1024) (t : Fin cfg0.N) (h : ¬t.val % 8 = 0) :
    (outsAt0 m c t.val t.isLt).2.2 (ix2 b j)
      = (outsAt0 m c (t.val - 1) (lt_of_le_of_lt (Nat.sub_le _ _) t.isLt)).2.2 (ix2 b j) + term m c b j t := by
  by_cases h1 : t.val % 8 = 7
  · rw [outsAt0_C m c t h h1]
    dsimp only
    rw [sout_C, acc_block]
  · rw [outsAt0_B m c t h h1]
    dsimp only
    rw [sout_B, acc_block]

/-- Row `s` of this half, in the whole array. -/
abbrev half (s : Fin 4096) : Fin 8192 := ⟨4096 + s.val, by omega⟩

/-- After the last point partial sum `b` holds its rows of all the blocks. -/
theorem acc_last (c : Dev nD) (t : Fin cfg0.N) (h : t.val % 8 = 7) (b : Fin 8) (j : Fin 1024) :
    (outsAt0 m c t.val t.isLt).2.2 (ix2 b j)
      = ∑ k : Fin 8, ∑ q : Fin 64, gG m c j (half ⟨k.val * 512 + (q.val * 8 + b.val), by omega⟩) := by
  have hN : cfg0.N = 8 := N_0
  have ht := lt8 t
  rw [Cert.Sums.running_sum_last 8 cfg0.N (by decide) (fun t => (outsAt0 m c t.val t.isLt).2.2 (ix2 b j))
    (term m c b j) (reset m c b j) (step m c b j) 0 (by omega) t (by omega)]
  refine Finset.sum_congr rfl fun k _ => Finset.sum_congr rfl fun q _ => ?_
  refine congrArg _ (Fin.ext ?_)
  show (0 * 8 + k.val + 8) * 512 + (q.val * 8 + b.val) = 4096 + (k.val * 512 + (q.val * 8 + b.val))
  omega

/-- The eight together: the sum over the rows of the half. -/
theorem acc_total (c : Dev nD) (t : Fin cfg0.N) (h : t.val % 8 = 7) (j : Fin 1024) :
    ∑ b : Fin 8, (outsAt0 m c t.val t.isLt).2.2 (ix2 b j) = ∑ s : Fin 4096, gG m c j (half s) := by
  simp only [acc_last m c t h]
  rw [Finset.sum_comm, Cert.Sums.sum_tiles 4096 8 512 (by decide) (fun s => gG m c j (half s))]
  refine Finset.sum_congr rfl fun k _ => ?_
  rw [Finset.sum_comm, Cert.Sums.sum_tiles 512 64 8 (by decide)
    (fun q : Fin 512 => gG m c j (half ⟨k.val * 512 + q.val, by omega⟩))]

theorem readX (c : Dev nD) (t : Fin cfg0.N) (X : S8192x1024.Idx → EReal) (b : Fin 512) (j : Fin 1024) :
    ((cfg0.win 6).blk t).view.read (Elt Ideal) (X : Buf (Elt Ideal) ((c : Thread nD τ).loc main_v2_0)) (ix2 b j)
      = X (ix2 (row t b) j) := by
  rw [View.read_apply]
  show X _ = X _
  congr 1
  funext a
  apply Fin.ext
  match a with
  | ⟨0, _⟩ => show win0_6.index t 0 * 512 + 1 * b.val = (t.val + 8) * 512 + b.val; rw [(indexX t).1, Nat.one_mul]
  | ⟨1, _⟩ => show win0_6.index t 1 * 1024 + 1 * j.val = j.val; rw [(indexX t).2]; omega

/-- The first result array after the run, at a row of this half. -/
theorem finalX (c : Dev nD) (s : Fin 4096) (j : Fin 1024) :
    (dats m 0 c).arrAt 6 cfg0.N (ix2 (half s) j) = gX m c (half s) j := by
  have hN : cfg0.N = 8 := N_0
  obtain ⟨t, ht⟩ : ∃ t : Fin cfg0.N, t.val = s.val / 512 := ⟨⟨s.val / 512, by omega⟩, rfl⟩
  have hs : half s = row t ⟨s.val % 512, by omega⟩ := Fin.ext (by
    show 4096 + s.val = (t.val + 8) * 512 + s.val % 512; omega)
  have h := congrFun (Cert.InBwdSecondIdeal.Value.blocks6 m c t (flush0_6 t)) (ix2 (⟨s.val % 512, by omega⟩ : Fin 512) j)
  rw [hs]
  refine (readX c t ((dats m 0 c).arrAt 6 cfg0.N) ⟨s.val % 512, by omega⟩ j).symm.trans (h.trans ?_)
  rw [Cert.InBwdSecondIdeal.Value.flushed6]
  show (outsAt0 m c t.val t.isLt).1 (ix2 (⟨s.val % 512, by omega⟩ : Fin 512) j) = _
  refine Eq.trans ?_ (gx_block m c t _ j)
  by_cases h0 : t.val % 8 = 0
  · rw [outsAt0_A m c t h0 (by omega)]
    dsimp only
    rw [out_A]
  · by_cases h1 : t.val % 8 = 7
    · rw [outsAt0_C m c t h0 h1]
      dsimp only
      rw [out_C]
    · rw [outsAt0_B m c t h0 h1]
      dsimp only
      rw [out_B]

theorem readG (c : Dev nD) (t : Fin cfg0.N) (X : S8x1024.Idx → EReal) (b : Fin 8) (j : Fin 1024) :
    ((cfg0.win 7).blk t).view.read (Elt Ideal) (X : Buf (Elt Ideal) ((c : Thread nD τ).loc main_v2_1)) (ix2 b j)
      = X (ix2 b j) := by
  rw [View.read_apply]
  show X _ = X _
  congr 1
  funext a
  apply Fin.ext
  match a with
  | ⟨0, _⟩ => show win0_7.index t 0 * 8 + 1 * b.val = b.val; rw [(indexG t).1]; omega
  | ⟨1, _⟩ => show win0_7.index t 1 * 1024 + 1 * j.val = j.val; rw [(indexG t).2]; omega

theorem index5 : ∀ t : Fin cfg0.N, win0_5.index t (0 : Fin 2) = 0 ∧ win0_5.index t (1 : Fin 2) = 0 := by decide +kernel

/-- What the first half left of the gain's gradient. -/
abbrev Gp (c : Dev nD) : S8x1024.Idx → EReal := m ((c : Thread nD τ).loc main_arg7)

theorem iblk5_apply (c : Dev nD) (t : Fin cfg0.N) (b : Fin 8) (e : Fin 1024) :
    iblk m c 5 t (ix2 b e) = Gp m c (ix2 b e) := by
  unfold iblk
  rw [View.read_apply]
  show V m c main_arg7 _ = _
  rw [V_main_arg7]
  congr 1
  funext a
  apply Fin.ext
  match a with
  | ⟨0, _⟩ => show win0_5.index t 0 * 8 + 1 * b.val = b.val; rw [(index5 t).1]; omega
  | ⟨1, _⟩ => show win0_5.index t 1 * 1024 + 1 * e.val = e.val; rw [(index5 t).2]; omega

/-- The first result array at a row of the first half: as the kernel took it. -/
theorem finalX_first (c : Dev nD) (s : Fin 4096) (j : Fin 1024) :
    (dats m 0 c).arrAt 6 cfg0.N (ix2 (⟨s.val, by omega⟩ : Fin 8192) j)
      = m ((c : Thread nD τ).loc main_arg6) (ix2 (⟨s.val, by omega⟩ : Fin 8192) j) := by
  rw [Cert.InBwdSecondIdeal.Value.entry6 m c _ (fun t _ => ?_)]
  · show V m c main_v2_0 _ = _
    unfold V
    after_reads_at
    rfl
  · intro hmem
    change _ ∈ ((View.whole main_v2_0).slice (win0_6.rect t)).set at hmem
    rw [View.set_slice_whole, Rect.mem_set_unit] at hmem
    have h0 := (hmem (0 : Fin 2)).1
    change win0_6.index t 0 * 512 ≤ s.val at h0
    rw [(indexX t).1] at h0
    omega

/-- The second result array's entries: what the first half left plus the sum over this half's rows. -/
def gTot (c : Dev nD) (i : S8x1024.Idx) : EReal := Gp m c (ix2 (i 0) (i 1)) + ∑ s : Fin 4096, gG m c (i 1) (half s)

/-- The second result array after the run. -/
theorem finalG (c : Dev nD) : (dats m 0 c).arrAt 7 cfg0.N = gTot m c := by
  have hN : cfg0.N = 8 := N_0
  refine (dats m 0 c).arrAt_eq_of_cover 7 (gTot m c) (fun t hf => ?_) (fun i => ?_)
  · have h7 : t.val % 8 = 7 := (flush0_7 t).mp hf
    rw [Cert.InBwdSecondIdeal.Value.flushed7]
    funext y
    obtain ⟨b, j, rfl⟩ : ∃ b j, y = (ix2 b j : S8x1024.Idx) := ⟨y 0, y 1, eq_ix2 y⟩
    refine Eq.trans ?_ (readG c t (gTot m c) b j).symm
    show (outsAt0 m c t.val t.isLt).2.1 (ix2 b j) = Gp m c (ix2 b j) + ∑ s : Fin 4096, gG m c j (half s)
    rw [← acc_total m c t h7]
    rw [outsAt0_C m c t (by omega) h7]
    dsimp only
    rw [gout_C, pay5_apply, iblk5_apply]
    refine congrArg _ ?_
    exact Finset.sum_congr rfl fun y _ => by rw [sout_C]
  · obtain ⟨t, ht⟩ : ∃ t : Fin cfg0.N, t.val = 7 := ⟨⟨7, by omega⟩, rfl⟩
    refine ⟨t, (flush0_7 t).mpr (by omega), ?_⟩
    show i ∈ ((View.whole main_v2_1).slice (win0_7.rect t)).set
    rw [View.set_slice_whole, Rect.mem_set_unit]
    intro a
    have h0 : (i 0).val < 8 := (i 0).isLt
    have h1 : (i 1).val < 1024 := (i 1).isLt
    match a with
    | ⟨0, _⟩ => show win0_7.index _ 0 * 8 ≤ (i 0).val ∧ (i 0).val < win0_7.index _ 0 * 8 + 8; rw [(indexG _).1]; omega
    | ⟨1, _⟩ => show win0_7.index _ 1 * 1024 ≤ (i 1).val ∧ (i 1).val < win0_7.index _ 1 * 1024 + 1024; rw [(indexG _).2]; omega

end Cert.InBwdSecondIdeal.Array

end
-- ==== Proof.InBwdSecondRef.lean ====
/- The reference's two arrays for the second half of the rows, entry by entry. -/
module

public import proofs.«01_k».proof.Proof.Rms
public import proofs.«01_k».proof.Proof.Gen.InBwdSecondRefIdeal.Run
public import proofs.«01_k».proof.Proof.Gen.InBwdSecondRefIdeal.Read

@[expose] public section

set_option maxRecDepth 16384

noncomputable section

namespace Cert.InBwdSecondRef

open Cert.InBwdSecondRefIdeal Cert.InBwdSecondRefIdeal.Read Idealize.ShloMosaic Idealize.ShloMosaic.TcCoe Idealize.SL.Sem
open Cert.Rms

variable (x0 : S8192x6144.Idx → EReal) (x1 x2 : S8192x1024.Idx → EReal) (x3 : S1x1024.Idx → EReal) (x4 : S1024x6144.Idx → EReal)
  (x6 : S8192x1024.Idx → EReal) (x7 : S8x1024.Idx → EReal)

/-- Row `s` of this half, in the whole array. -/
abbrev row (s : Fin 4096) : Fin 8192 := ⟨4096 + s.val, by omega⟩

/-- The row of `x`. -/
abbrev X (s : Fin 4096) (k : Fin 1024) : EReal := x1 (ix2 (row s) k)
/-- The gradient of the normed row: the product with the weights, transposed. -/
abbrev Dh (s : Fin 4096) (j : Fin 1024) : EReal := ∑ e : Fin 6144, x0 (ix2 (row s) e) * x4 (ix2 j e)
/-- … times the gain. -/
abbrev Dn (s : Fin 4096) (j : Fin 1024) : EReal := Dh x0 x4 s j * x3 (ix2 (0 : Fin 1) j)

theorem at1 (s : Fin 4096) (j : Fin 1024) : val_main_v1 (F := Ideal) x1 (ix2 s j) = X x1 s j := by
  unfold val_main_v1
  pointwise

theorem at2 (s : Fin 4096) (j : Fin 1024) : val_main_v2 (F := Ideal) x2 (ix2 s j) = x2 (ix2 (row s) j) := by
  unfold val_main_v2
  pointwise

theorem at11 (s : Fin 4096) : val_main_v11 (F := Ideal) x1 (ix2 s (0 : Fin 1)) = meanSq (X x1 s) := by
  unfold val_main_v11 val_main_v10 val_main_v9 val_main_v8 val_main_v7 val_main_v6 val_main_v5 val_main_v1 val_main_cst
    val_main_cst_0 val_main_cst_1 meanSq
  pointwise

theorem at12 (s : Fin 4096) : val_main_v12 (F := Ideal) x1 (ix2 s (0 : Fin 1)) = scale (X x1 s) := by
  show Ideal.rsqrt (val_main_v11 (F := Ideal) x1 (ix2 s (0 : Fin 1))) = _
  rw [at11]
  rfl

theorem at28 (s : Fin 4096) (j : Fin 1024) : val_main_v28 (F := Ideal) x0 x3 x4 (ix2 s j) = Dn x0 x3 x4 s j := by
  unfold val_main_v28 val_main_v27 val_main_v18 val_main_v4 val_main_v23 val_main_v22 val_main_v0 val_main_v3
  pointwise

theorem at39 (s : Fin 4096) (j : Fin 1024) :
    val_main_v39 (F := Ideal) x0 x1 x3 x4 (ix2 s j) = cross (X x1 s) (Dn x0 x3 x4 s) := by
  have h : val_main_v39 (F := Ideal) x0 x1 x3 x4 (ix2 s j)
      = ∑ y : Fin 1, Ideal.div ((∑ k : Fin 1024, val_main_v1 (F := Ideal) x1 (ix2 s k) * val_main_v28 (F := Ideal) x0 x3 x4 (ix2 s k))
          * (Ideal.ofBits .f32 0xBF000000#32 * Ideal.div (val_main_v12 (F := Ideal) x1 (ix2 s y)) (val_main_v11 (F := Ideal) x1 (ix2 s y))))
          (Ideal.ofBits .f32 0x44800000#32) := by
    unfold val_main_v39 val_main_v38 val_main_v37 val_main_v36 val_main_v35 val_main_v32 val_main_v31 val_main_v30
      val_main_v15 val_main_v14 val_main_v13 val_main_cst_7 val_main_cst_6 val_main_cst_5 val_main_cst_2
    pointwise
  rw [h, Fin.sum_univ_one, at11, at12]
  unfold cross
  simp only [at1, at28]

/-- The first result at a row of this half: what came in plus the derivative of the norm. -/
theorem at45 (s : Fin 4096) (j : Fin 1024) :
    val_main_v45 (F := Ideal) x0 x1 x2 x3 x4 (ix2 s j) = x2 (ix2 (row s) j) + grad (X x1 s) (Dn x0 x3 x4 s) j := by
  have h : val_main_v45 (F := Ideal) x0 x1 x2 x3 x4 (ix2 s j)
      = val_main_v2 (F := Ideal) x2 (ix2 s j)
        + (val_main_v28 (F := Ideal) x0 x3 x4 (ix2 s j) * val_main_v12 (F := Ideal) x1 (ix2 s (0 : Fin 1))
            + val_main_v1 (F := Ideal) x1 (ix2 s j) * val_main_v39 (F := Ideal) x0 x1 x3 x4 (ix2 s j)
            + val_main_v39 (F := Ideal) x0 x1 x3 x4 (ix2 s j) * val_main_v1 (F := Ideal) x1 (ix2 s j)) := by
    unfold val_main_v45 val_main_v43 val_main_v42 val_main_v41 val_main_v40 val_main_v34 val_main_v33
    pointwise
  rw [h, at2, at28, at12, at1, at39, grad_eq]

/-- The gain's gradient: the sum over the rows of this half. -/
abbrev Gg (j : Fin 1024) : EReal := ∑ s : Fin 4096, Dh x0 x4 s j * (X x1 s j * scale (X x1 s))

theorem at44 (j : Fin 1024) : val_main_v44 (F := Ideal) x0 x1 x4 (ix2 (0 : Fin 1) j) = Gg x0 x1 x4 j := by
  have h : val_main_v44 (F := Ideal) x0 x1 x4 (ix2 (0 : Fin 1) j)
      = ∑ y : Fin 1, ∑ s : Fin 4096, val_main_v1 (F := Ideal) x1 (ix2 s j) * val_main_v12 (F := Ideal) x1 (ix2 s (0 : Fin 1))
          * Dh x0 x4 s j := by
    unfold val_main_v44 val_main_v29 val_main_v26 val_main_v25 val_main_v24 val_main_v17 val_main_v16 val_main_v23
      val_main_v22 val_main_v0 val_main_v3 val_main_cst_3 val_main_cst_4
    pointwise
  rw [h, Fin.sum_univ_one]
  exact Finset.sum_congr rfl fun s _ => by rw [at1, at12, mul_comm]

/-- The first result array, at a row of the second half. -/
theorem at47 (s : Fin 4096) (j : Fin 1024) :
    val_main_v47 (F := Ideal) x0 x1 x2 x3 x4 x6 (ix2 (row s) j)
      = x2 (ix2 (row s) j) + grad (X x1 s) (Dn x0 x3 x4 s) j := by
  rw [← at45]
  unfold val_main_v47
  pointwise

/-- The first result array, at a row of the first half: as it was taken. -/
theorem at47_first (s : Fin 4096) (j : Fin 1024) :
    val_main_v47 (F := Ideal) x0 x1 x2 x3 x4 x6 (ix2 (⟨s.val, by omega⟩ : Fin 8192) j) = x6 (ix2 (⟨s.val, by omega⟩ : Fin 8192) j) := by
  unfold val_main_v47 val_main_v46
  pointwise

/-- The second result array: what was taken plus the same sum in every row. -/
theorem at49 (b : Fin 8) (j : Fin 1024) :
    val_main_v49 (F := Ideal) x0 x1 x4 x7 (ix2 b j) = x7 (ix2 b j) + Gg x0 x1 x4 j := by
  rw [← at44]
  unfold val_main_v49 val_main_v48
  pointwise

end Cert.InBwdSecondRef

end
-- ==== Proof.InBwdSecondEq.lean ====
/- The input-projection backward kernel computes its reference on the second half of the rows. -/
module

public import proofs.«01_k».proof.Defs
public import proofs.«01_k».proof.Proof.InBwdSecondArray
public import proofs.«01_k».proof.Proof.InBwdSecondRef

@[expose] public section

set_option maxRecDepth 16384

noncomputable section

namespace Cert.InBwdSecondEq

open Idealize.ShloMosaic Idealize.ShloMosaic.TcCoe Idealize.SL.Sem
open Cert.InBwdSecondIdeal.Array Cert.InBwdSecondRefIdeal.Read

/-- The value claim: at every input the kernel's two results are the reference's. -/
theorem claim : Cert.algebraic_InBwdSecondIdeal_InBwdSecondRefIdeal := by
  intro m g m' g' _ hargs
  refine ⟨fun c => (Cert.InBwdSecondIdeal.Gen.dats m 0 c).arrAt 6 Cert.InBwdSecondIdeal.cfg0.N, fun c => gTot m c, ?_, ?_⟩
  · refine (θ_run Cert.InBwdSecondIdeal.defs _ _).mono (fun r h c => ?_) (Cert.InBwdSecondIdeal.Value.run_blocks m g)
    obtain ⟨h6, h7, hk⟩ := h c
    exact ⟨h6, h7.trans (finalG m c), hk⟩
  · refine (θ_run Cert.InBwdSecondRefIdeal.defs _ _).mono (fun r h c => ?_) (Cert.InBwdSecondRefIdeal.Value.run m' g')
    obtain ⟨h47, h49, hk⟩ := h c
    obtain ⟨e0, e1, e2, e3, e4, _, e6, e7⟩ := hargs c
    refine ⟨h47.trans ?_, h49.trans ?_, hk⟩
    · rw [val_main_v47_eq, e0, e1, e2, e3, e4, e6]
      funext i
      have hi : (i 0).val < 8192 := (i 0).isLt
      by_cases hlt : (i 0).val < 4096
      · rw [show i = ix2 (⟨(⟨(i 0).val, hlt⟩ : Fin 4096).val, hi⟩ : Fin 8192) (i 1) from eq_ix2 i]
        refine Eq.trans ?_ (finalX_first m c ⟨(i 0).val, hlt⟩ (i 1)).symm
        exact Cert.InBwdSecondRef.at47_first _ _ _ _ _ _ ⟨(i 0).val, hlt⟩ (i 1)
      · obtain ⟨s, hs⟩ : ∃ s : Fin 4096, i 0 = half s :=
          ⟨⟨(i 0).val - 4096, by omega⟩, Fin.ext (by show (i 0).val = 4096 + ((i 0).val - 4096); omega)⟩
        rw [show i = ix2 (half s) (i 1) from by rw [← hs]; exact eq_ix2 i]
        refine Eq.trans ?_ (finalX m c s (i 1)).symm
        exact Cert.InBwdSecondRef.at47 _ _ _ _ _ _ s (i 1)
    · rw [val_main_v49_eq, e0, e1, e4, e7]
      funext i
      rw [show i = ix2 (i 0) (i 1) from eq_ix2 i]
      exact Cert.InBwdSecondRef.at49 _ _ _ _ (i 0) (i 1)

end Cert.InBwdSecondEq

end
-- ==== Proof.OutProjPoint.lean ====
/- What one grid point of the output-projection kernel leaves in its five outputs: the block's residual gradient, the block's
   gradient of the branch outputs, and the running sums of the weights' gradient, the gain's gradient and the squared
   errors. -/
module

public import proofs.«01_k».proof.Proof.Gen.OutProjIdeal.Value
public import Idealize.ShloMosaic.Lib.Pointwise
public import Idealize.ShloMosaic.Lib.Pipeline.ReadBack
public import Idealize.ShloMosaic.Lib.Pipeline.ValueKit
public import proofs.«01_k».proof.Proof.Rms

@[expose] public section

set_option maxRecDepth 16384

noncomputable section

namespace Cert.OutProjIdeal.Point

open Cert.OutProjIdeal Cert.OutProjIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

/-- The residual stream of the block after the projection. -/
def x2Block (x0 : Vec F S512x2048 .bf16) (x1 : Vec F S512x1024 .f32) (x3 : Vec F S4x512x1024 .bf16) : FVec F S512x1024 .f32 :=
  k0_pay8 x0 x1
    (View.ld x3 (Rect.unit ![0, 0, 0] ![1, 512, 1024] inb_S4x512x1024_S1x512x1024_0_0_0))
    (View.ld x3 (Rect.unit ![1, 0, 0] ![1, 512, 1024] inb_S4x512x1024_S1x512x1024_1_0_0))
    (View.ld x3 (Rect.unit ![2, 0, 0] ![1, 512, 1024] inb_S4x512x1024_S1x512x1024_2_0_0))
    (View.ld x3 (Rect.unit ![3, 0, 0] ![1, 512, 1024] inb_S4x512x1024_S1x512x1024_3_0_0))

/-- The block's reciprocal root mean squares. -/
def r2Block (x0 : Vec F S512x2048 .bf16) (x1 : Vec F S512x1024 .f32) (x3 : Vec F S4x512x1024 .bf16) : FVec F S512x1 .f32 :=
  k0_pay9 x0 x1
    (View.ld x3 (Rect.unit ![0, 0, 0] ![1, 512, 1024] inb_S4x512x1024_S1x512x1024_0_0_0))
    (View.ld x3 (Rect.unit ![1, 0, 0] ![1, 512, 1024] inb_S4x512x1024_S1x512x1024_1_0_0))
    (View.ld x3 (Rect.unit ![2, 0, 0] ![1, 512, 1024] inb_S4x512x1024_S1x512x1024_2_0_0))
    (View.ld x3 (Rect.unit ![3, 0, 0] ![1, 512, 1024] inb_S4x512x1024_S1x512x1024_3_0_0))

/-- The residual gradient of the block. -/
def dxBlock (x0 : Vec F S512x2048 .bf16) (x1 x2 : Vec F S512x1024 .f32) (x3 : Vec F S4x512x1024 .bf16) (x4 : Vec F S1x1024 .f32) :
    FVec F S512x1024 .f32 :=
  k0_pay16 (x2Block x0 x1 x3) (r2Block x0 x1 x3) x4 x2

/-- The gain's eight partial sums after the block, from those before it. -/
def gfBlock (x0 : Vec F S512x2048 .bf16) (x1 x2 : Vec F S512x1024 .f32) (x3 : Vec F S4x512x1024 .bf16) (x4 : Vec F S1x1024 .f32)
    (v : Vec F S8x1024 .f32) : FVec F S8x1024 .f32 :=
  k0_pay15 (x2Block x0 x1 x3) (r2Block x0 x1 x3) x4 x2 v

/-- The squared errors' eight partial sums after the block, from those before it. -/
def seBlock (x0 : Vec F S512x2048 .bf16) (x1 x2 : Vec F S512x1024 .f32) (x3 : Vec F S4x512x1024 .bf16) (x4 : Vec F S1x1024 .f32)
    (v : Vec F S8x1024 .f32) : FVec F S8x1024 .f32 :=
  k0_pay13 (x2Block x0 x1 x3) (r2Block x0 x1 x3) x4 x2 v

/-- The residual gradient, at a point of this kind. -/
theorem out_A_5 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : cond0_0 i) (hc1 : ¬cond0_1 i)
    (x0 : Vec F S512x2048 .bf16) (x1 x2 : Vec F S512x1024 .f32) (x3 : Vec F S4x512x1024 .bf16) (x4 : Vec F S1x1024 .f32) :
    out0_A_5 c i a1 h1 a2 h2 a3 h3 a4 h4 a5 h5 a6 h6 a7 h7 a8 h8 a9 h9 a10 h10 hc0 hc1 x0 x1 x2 x3 x4 = dxBlock x0 x1 x2 x3 x4 := by
  unfold out0_A_5
  frame_out
  rfl

/-- The residual gradient, at a point of this kind. -/
theorem out_B_5 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : ¬cond0_1 i)
    (x0 : Vec F S512x2048 .bf16) (x1 x2 : Vec F S512x1024 .f32) (x3 : Vec F S4x512x1024 .bf16) (x4 : Vec F S1x1024 .f32)
    (xo7 : Vec F S2048x1024 .f32) (xo8 xo9 : Vec F S8x1024 .f32) :
    out0_B_5 c i a1 h1 a2 h2 a3 h3 a4 h4 a5 h5 a6 h6 a7 h7 a8 h8 a9 h9 a10 h10 hc0 hc1 x0 x1 x2 x3 x4 xo7 xo8 xo9 = dxBlock x0 x1 x2 x3 x4 := by
  unfold out0_B_5
  frame_out
  rfl

/-- The residual gradient, at a point of this kind. -/
theorem out_C_5 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : cond0_1 i)
    (x0 : Vec F S512x2048 .bf16) (x1 x2 : Vec F S512x1024 .f32) (x3 : Vec F S4x512x1024 .bf16) (x4 : Vec F S1x1024 .f32)
    (xo7 : Vec F S2048x1024 .f32) (xo8 xo9 : Vec F S8x1024 .f32) :
    out0_C_5 c i a1 h1 a2 h2 a3 h3 a4 h4 a5 h5 a6 h6 a7 h7 a8 h8 a9 h9 a10 h10 hc0 hc1 x0 x1 x2 x3 x4 xo7 xo8 xo9 = dxBlock x0 x1 x2 x3 x4 := by
  unfold out0_C_5
  frame_out
  rfl

/-- The gain's partial sums, at a point of this kind. -/
theorem out_A_8 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : cond0_0 i) (hc1 : ¬cond0_1 i)
    (x0 : Vec F S512x2048 .bf16) (x1 x2 : Vec F S512x1024 .f32) (x3 : Vec F S4x512x1024 .bf16) (x4 : Vec F S1x1024 .f32) :
    out0_A_8 c i a1 h1 a2 h2 a3 h3 a4 h4 a5 h5 a6 h6 a7 h7 a8 h8 a9 h9 a10 h10 hc0 hc1 x0 x1 x2 x3 x4 = gfBlock x0 x1 x2 x3 x4 k0_pay6 := by
  unfold out0_A_8
  frame_out
  rfl

/-- The gain's partial sums, at a point of this kind. -/
theorem out_B_8 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : ¬cond0_1 i)
    (x0 : Vec F S512x2048 .bf16) (x1 x2 : Vec F S512x1024 .f32) (x3 : Vec F S4x512x1024 .bf16) (x4 : Vec F S1x1024 .f32)
    (xo7 : Vec F S2048x1024 .f32) (xo8 xo9 : Vec F S8x1024 .f32) :
    out0_B_8 c i a1 h1 a2 h2 a3 h3 a4 h4 a5 h5 a6 h6 a7 h7 a8 h8 a9 h9 a10 h10 hc0 hc1 x0 x1 x2 x3 x4 xo7 xo8 xo9 = gfBlock x0 x1 x2 x3 x4 xo8 := by
  unfold out0_B_8
  frame_out
  rfl

/-- The gain's partial sums, at a point of this kind. -/
theorem out_C_8 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : cond0_1 i)
    (x0 : Vec F S512x2048 .bf16) (x1 x2 : Vec F S512x1024 .f32) (x3 : Vec F S4x512x1024 .bf16) (x4 : Vec F S1x1024 .f32)
    (xo7 : Vec F S2048x1024 .f32) (xo8 xo9 : Vec F S8x1024 .f32) :
    out0_C_8 c i a1 h1 a2 h2 a3 h3 a4 h4 a5 h5 a6 h6 a7 h7 a8 h8 a9 h9 a10 h10 hc0 hc1 x0 x1 x2 x3 x4 xo7 xo8 xo9 = k0_pay4 (gfBlock x0 x1 x2 x3 x4 xo8) := by
  unfold out0_C_8
  frame_out
  rfl

/-- The squared errors' partial sums, at a point of this kind. -/
theorem out_A_9 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : cond0_0 i) (hc1 : ¬cond0_1 i)
    (x0 : Vec F S512x2048 .bf16) (x1 x2 : Vec F S512x1024 .f32) (x3 : Vec F S4x512x1024 .bf16) (x4 : Vec F S1x1024 .f32) :
    out0_A_9 c i a1 h1 a2 h2 a3 h3 a4 h4 a5 h5 a6 h6 a7 h7 a8 h8 a9 h9 a10 h10 hc0 hc1 x0 x1 x2 x3 x4 = seBlock x0 x1 x2 x3 x4 k0_pay7 := by
  unfold out0_A_9
  frame_out
  rfl

/-- The squared errors' partial sums, at a point of this kind. -/
theorem out_B_9 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : ¬cond0_1 i)
    (x0 : Vec F S512x2048 .bf16) (x1 x2 : Vec F S512x1024 .f32) (x3 : Vec F S4x512x1024 .bf16) (x4 : Vec F S1x1024 .f32)
    (xo7 : Vec F S2048x1024 .f32) (xo8 xo9 : Vec F S8x1024 .f32) :
    out0_B_9 c i a1 h1 a2 h2 a3 h3 a4 h4 a5 h5 a6 h6 a7 h7 a8 h8 a9 h9 a10 h10 hc0 hc1 x0 x1 x2 x3 x4 xo7 xo8 xo9 = seBlock x0 x1 x2 x3 x4 xo9 := by
  unfold out0_B_9
  frame_out
  rfl

/-- The squared errors' partial sums, at a point of this kind. -/
theorem out_C_9 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : cond0_1 i)
    (x0 : Vec F S512x2048 .bf16) (x1 x2 : Vec F S512x1024 .f32) (x3 : Vec F S4x512x1024 .bf16) (x4 : Vec F S1x1024 .f32)
    (xo7 : Vec F S2048x1024 .f32) (xo8 xo9 : Vec F S8x1024 .f32) :
    out0_C_9 c i a1 h1 a2 h2 a3 h3 a4 h4 a5 h5 a6 h6 a7 h7 a8 h8 a9 h9 a10 h10 hc0 hc1 x0 x1 x2 x3 x4 xo7 xo8 xo9 = seBlock x0 x1 x2 x3 x4 xo9 := by
  unfold out0_C_9
  frame_out
  rfl

end Cert.OutProjIdeal.Point

end
-- ==== Proof.OutProjPieces.lean ====
/- What one grid point of the output-projection kernel leaves in the two outputs that it stores in four pieces: the block's
   gradient of the branch outputs and the weights' running gradient. -/
module

public import proofs.«01_k».proof.Proof.Gen.OutProjIdeal.Value
public import Idealize.ShloMosaic.Lib.Pointwise
public import Idealize.ShloMosaic.Lib.Pipeline.ReadBack
public import Idealize.ShloMosaic.Lib.Pipeline.ValueKit
public import proofs.«01_k».proof.Proof.OutProjPoint

@[expose] public section

set_option maxRecDepth 16384

noncomputable section

namespace Cert.OutProjIdeal.Point

open Cert.OutProjIdeal Cert.OutProjIdeal.Gen Idealize.ShloMosaic Idealize.ShloMosaic.TcCoe Idealize.SL.Sem

variable {F : FTy → Type} [FloatOps F]

/-- The gradient of the branch outputs of the block. -/
def dyBlock (dx : FVec Ideal S512x1024 .f32) (x3 : Vec Ideal S4x512x1024 .bf16) : FVec Ideal S512x2048 .bf16 := fun i =>
  ∑ j : Fin 1024, dx (ix2 (i 0) j) * x3 (ix3 (⟨(i 1).val / 512, by have h : (i 1).val < 2048 := (i 1).isLt; omega⟩ : Fin 4)
    (⟨(i 1).val % 512, by omega⟩ : Fin 512) j)

/-- The weights' running gradient after the block, from that before it. -/
def gwBlock (x0 : Vec Ideal S512x2048 .bf16) (dx : FVec Ideal S512x1024 .f32) (v : Vec Ideal S2048x1024 .f32) : FVec Ideal S2048x1024 .f32 :=
  fun i => v i + ∑ b : Fin 512, x0 (ix2 b (i 0)) * dx (ix2 b (i 1))

theorem gw_part0 (x0 : Vec Ideal S512x2048 .bf16) (d : FVec Ideal S512x1024 .bf16) (v : Vec Ideal S512x1024 .f32) (q : Fin 512) (j : Fin 1024) :
    k0_pay19 (F := Ideal) x0 d v (ix2 q j) = v (ix2 q j) + ∑ b : Fin 512, x0 (ix2 b (⟨0 + q.val, by omega⟩ : Fin 2048)) * d (ix2 b j) := by
  unfold k0_pay19
  pointwise

theorem gw_part1 (x0 : Vec Ideal S512x2048 .bf16) (d : FVec Ideal S512x1024 .bf16) (v : Vec Ideal S512x1024 .f32) (q : Fin 512) (j : Fin 1024) :
    k0_pay21 (F := Ideal) x0 d v (ix2 q j) = v (ix2 q j) + ∑ b : Fin 512, x0 (ix2 b (⟨512 + q.val, by omega⟩ : Fin 2048)) * d (ix2 b j) := by
  unfold k0_pay21
  pointwise

theorem gw_part2 (x0 : Vec Ideal S512x2048 .bf16) (d : FVec Ideal S512x1024 .bf16) (v : Vec Ideal S512x1024 .f32) (q : Fin 512) (j : Fin 1024) :
    k0_pay1 (F := Ideal) x0 d v (ix2 q j) = v (ix2 q j) + ∑ b : Fin 512, x0 (ix2 b (⟨1024 + q.val, by omega⟩ : Fin 2048)) * d (ix2 b j) := by
  unfold k0_pay1
  pointwise

theorem gw_part3 (x0 : Vec Ideal S512x2048 .bf16) (d : FVec Ideal S512x1024 .bf16) (v : Vec Ideal S512x1024 .f32) (q : Fin 512) (j : Fin 1024) :
    k0_pay3 (F := Ideal) x0 d v (ix2 q j) = v (ix2 q j) + ∑ b : Fin 512, x0 (ix2 b (⟨1536 + q.val, by omega⟩ : Fin 2048)) * d (ix2 b j) := by
  unfold k0_pay3
  pointwise

theorem dy_part0 (d : FVec Ideal S512x1024 .bf16) (w : Vec Ideal S1x512x1024 .bf16) (b e : Fin 512) :
    k0_pay18 (F := Ideal) d w (ix2 b e) = ∑ j : Fin 1024, d (ix2 b j) * w (ix3 (0 : Fin 1) e j) := by
  unfold k0_pay18
  pointwise

theorem dy_part1 (d : FVec Ideal S512x1024 .bf16) (w : Vec Ideal S1x512x1024 .bf16) (b e : Fin 512) :
    k0_pay20 (F := Ideal) d w (ix2 b e) = ∑ j : Fin 1024, d (ix2 b j) * w (ix3 (0 : Fin 1) e j) := by
  unfold k0_pay20
  pointwise

theorem dy_part2 (d : FVec Ideal S512x1024 .bf16) (w : Vec Ideal S1x512x1024 .bf16) (b e : Fin 512) :
    k0_pay22 (F := Ideal) d w (ix2 b e) = ∑ j : Fin 1024, d (ix2 b j) * w (ix3 (0 : Fin 1) e j) := by
  unfold k0_pay22
  pointwise

theorem dy_part3 (d : FVec Ideal S512x1024 .bf16) (w : Vec Ideal S1x512x1024 .bf16) (b e : Fin 512) :
    k0_pay2 (F := Ideal) d w (ix2 b e) = ∑ j : Fin 1024, d (ix2 b j) * w (ix3 (0 : Fin 1) e j) := by
  unfold k0_pay2
  pointwise

/-- One of the weights' four parts, entry by entry. -/
theorem ld_part (x3 : Vec Ideal S4x512x1024 .bf16) (p : ℕ) (h) (hp : p < 4) (e : Fin 512) (j : Fin 1024) :
    View.ld x3 (Rect.unit ![p, 0, 0] ![1, 512, 1024] h) (ix3 (0 : Fin 1) e j) = x3 (ix3 (⟨p, hp⟩ : Fin 4) e j) := by
  show x3 _ = x3 _
  congr 1
  funext a
  apply Fin.ext
  match a with
  | ⟨0, _⟩ => show p + 1 * 0 = p; omega
  | ⟨1, _⟩ => show 0 + 1 * e.val = e.val; omega
  | ⟨2, _⟩ => show 0 + 1 * j.val = j.val; omega

/-- A piece of 512 rows of the running gradient, stored back, is a block of the running gradient after the point. -/
theorem gw_piece (x0 : Vec Ideal S512x2048 .bf16) (d : FVec Ideal S512x1024 .bf16) (v : Vec Ideal S2048x1024 .f32) (o : ℕ) (h)
    (ho : o + 512 ≤ 2048) (w : FVec Ideal S512x1024 .f32)
    (hw : ∀ (q : Fin 512) (j : Fin 1024), w (ix2 q j) = View.ld v (Rect.unit ![o, 0] ![512, 1024] h) (ix2 q j)
      + ∑ b : Fin 512, x0 (ix2 b (⟨o + q.val, by omega⟩ : Fin 2048)) * d (ix2 b j))
    (x : S512x1024.Idx) : w x = gwBlock x0 d v ((Rect.unit (s := S2048x1024) ![o, 0] ![512, 1024] h).emb x) := by
  obtain ⟨q, j, rfl⟩ : ∃ q j, x = (ix2 q j : S512x1024.Idx) := ⟨x 0, x 1, eq_ix2 x⟩
  have e0 : ((Rect.unit (s := S2048x1024) ![o, 0] ![512, 1024] h).emb (ix2 q j)) 0 = (⟨o + q.val, by omega⟩ : Fin 2048) :=
    Fin.ext (by show o + 1 * q.val = o + q.val; omega)
  have e1 : ((Rect.unit (s := S2048x1024) ![o, 0] ![512, 1024] h).emb (ix2 q j)) 1 = j :=
    Fin.ext (by show 0 + 1 * j.val = j.val; omega)
  rw [hw]
  unfold gwBlock
  rw [e0, e1]
  rfl

/-- A piece of 512 columns of the branch outputs' gradient is a block of it. -/
theorem dy_piece (d : FVec Ideal S512x1024 .bf16) (x3 : Vec Ideal S4x512x1024 .bf16) (p : ℕ) (hp : p < 4) (h3)
    (w : FVec Ideal S512x512 .bf16)
    (hw : ∀ (b e : Fin 512), w (ix2 b e) = ∑ j : Fin 1024, d (ix2 b j)
      * View.ld x3 (Rect.unit ![p, 0, 0] ![1, 512, 1024] h3) (ix3 (0 : Fin 1) e j)) (o : ℕ) (ho : o = p * 512)
    (h : ∀ a : Fin 2, (![0, o] : Fin 2 → ℕ) a + (![512, 512] : Fin 2 → ℕ) a ≤ S512x2048.size a) (x : S512x512.Idx) : w x = dyBlock d x3 ((Rect.unit (s := S512x2048) ![0, o] ![512, 512] h).emb x) := by
  subst ho
  obtain ⟨b, e, rfl⟩ : ∃ b e, x = (ix2 b e : S512x512.Idx) := ⟨x 0, x 1, eq_ix2 x⟩
  have e0 : ((Rect.unit (s := S512x2048) ![0, p * 512] ![512, 512] h).emb (ix2 b e)) 0 = b :=
    Fin.ext (by show 0 + 1 * b.val = b.val; omega)
  have e1 : ((Rect.unit (s := S512x2048) ![0, p * 512] ![512, 512] h).emb (ix2 b e)) 1 = (⟨p * 512 + e.val, by omega⟩ : Fin 2048) :=
    Fin.ext (by show p * 512 + 1 * e.val = p * 512 + e.val; omega)
  rw [hw]
  unfold dyBlock
  simp only [e0, e1]
  refine Finset.sum_congr rfl fun j _ => congrArg _ ?_
  rw [ld_part x3 p h3 hp e j]
  congr 2
  · exact Fin.ext (by show p = (p * 512 + e.val) / 512; omega)
  · exact Fin.ext (by show e.val = (p * 512 + e.val) % 512; omega)

theorem gw_canon (x0 : Vec Ideal S512x2048 .bf16) (d : FVec Ideal S512x1024 .bf16) (v : Vec Ideal S2048x1024 .f32)
    (L : List (View.Piece (Elt Ideal) S2048x1024 .f32)) (y : S2048x1024.Idx) :
    View.canon (Val := Elt Ideal) ([⟨Rect.unit ![1536, 0] ![512, 1024] inb_S2048x1024_S512x1024_1536_0,
            k0_pay3 x0 d (View.ld v (Rect.unit ![1536, 0] ![512, 1024] inb_S2048x1024_S512x1024_1536_0))⟩,
          ⟨Rect.unit ![1024, 0] ![512, 1024] inb_S2048x1024_S512x1024_1024_0,
            k0_pay1 x0 d (View.ld v (Rect.unit ![1024, 0] ![512, 1024] inb_S2048x1024_S512x1024_1024_0))⟩,
          ⟨Rect.unit ![512, 0] ![512, 1024] inb_S2048x1024_S512x1024_512_0,
            k0_pay21 x0 d (View.ld v (Rect.unit ![512, 0] ![512, 1024] inb_S2048x1024_S512x1024_512_0))⟩,
          ⟨Rect.unit ![0, 0] ![512, 1024] inb_S2048x1024_S512x1024_0_0,
            k0_pay19 x0 d (View.ld v (Rect.unit ![0, 0] ![512, 1024] inb_S2048x1024_S512x1024_0_0))⟩] ++ L) y = gwBlock x0 d v y := by
  refine View.canon_append_of_piecesOf (Val := Elt Ideal) (e := .f32) (gwBlock x0 d v) L [_, _, _, _] ⟨?_, ?_, ?_, ?_, trivial⟩ y ?_
  · exact gw_piece x0 d v 1536 _ (by omega) _ fun q j => gw_part3 x0 d _ q j
  · exact gw_piece x0 d v 1024 _ (by omega) _ fun q j => gw_part2 x0 d _ q j
  · exact gw_piece x0 d v 512 _ (by omega) _ fun q j => gw_part1 x0 d _ q j
  · exact gw_piece x0 d v 0 _ (by omega) _ fun q j => gw_part0 x0 d _ q j
  · have h0 : (y 0).val < 2048 := (y 0).isLt
    have h1 : (y 1).val < 1024 := (y 1).isLt
    have key : ∀ (o : ℕ) (h), o ≤ (y 0).val → (y 0).val < o + 512 → y ∈ (Rect.unit (s := S2048x1024) ![o, 0] ![512, 1024] h).set := by
      intro o h ha hb
      rw [Rect.mem_set_unit]
      intro a
      match a with
      | ⟨0, _⟩ => exact ⟨ha, hb⟩
      | ⟨1, _⟩ => exact ⟨Nat.zero_le _, by show (y 1).val < 0 + 1024; omega⟩
    by_cases c3 : 1536 ≤ (y 0).val
    · exact ⟨_, .head _, key 1536 (by decide) c3 (by omega)⟩
    by_cases c2 : 1024 ≤ (y 0).val
    · exact ⟨_, .tail _ (.head _), key 1024 (by decide) c2 (by omega)⟩
    by_cases c1 : 512 ≤ (y 0).val
    · exact ⟨_, .tail _ (.tail _ (.head _)), key 512 (by decide) c1 (by omega)⟩
    · exact ⟨_, .tail _ (.tail _ (.tail _ (.head _))), key 0 (by decide) (by omega) (by omega)⟩

theorem dy_canon (d : FVec Ideal S512x1024 .bf16) (x3 : Vec Ideal S4x512x1024 .bf16) (y : S512x2048.Idx) :
    View.canon (Val := Elt Ideal) (e := .bf16) [⟨Rect.unit ![0, 1536] ![512, 512] inb_S512x2048_S512x512_0_1536,
            k0_pay2 d (View.ld x3 (Rect.unit ![3, 0, 0] ![1, 512, 1024] inb_S4x512x1024_S1x512x1024_3_0_0))⟩,
          ⟨Rect.unit ![0, 1024] ![512, 512] inb_S512x2048_S512x512_0_1024,
            k0_pay22 d (View.ld x3 (Rect.unit ![2, 0, 0] ![1, 512, 1024] inb_S4x512x1024_S1x512x1024_2_0_0))⟩,
          ⟨Rect.unit ![0, 512] ![512, 512] inb_S512x2048_S512x512_0_512,
            k0_pay20 d (View.ld x3 (Rect.unit ![1, 0, 0] ![1, 512, 1024] inb_S4x512x1024_S1x512x1024_1_0_0))⟩,
          ⟨Rect.unit ![0, 0] ![512, 512] inb_S512x2048_S512x512_0_0,
            k0_pay18 d (View.ld x3 (Rect.unit ![0, 0, 0] ![1, 512, 1024] inb_S4x512x1024_S1x512x1024_0_0_0))⟩] y = dyBlock d x3 y := by
  refine View.canon_append_of_piecesOf (Val := Elt Ideal) (e := .bf16) (dyBlock d x3) [] [_, _, _, _] ⟨?_, ?_, ?_, ?_, trivial⟩ y ?_
  · exact dy_piece d x3 3 (by omega) _ _ (fun b e => dy_part3 d _ b e) 1536 rfl inb_S512x2048_S512x512_0_1536
  · exact dy_piece d x3 2 (by omega) _ _ (fun b e => dy_part2 d _ b e) 1024 rfl inb_S512x2048_S512x512_0_1024
  · exact dy_piece d x3 1 (by omega) _ _ (fun b e => dy_part1 d _ b e) 512 rfl inb_S512x2048_S512x512_0_512
  · exact dy_piece d x3 0 (by omega) _ _ (fun b e => dy_part0 d _ b e) 0 rfl inb_S512x2048_S512x512_0_0
  · have h0 : (y 0).val < 512 := (y 0).isLt
    have h1 : (y 1).val < 2048 := (y 1).isLt
    have key : ∀ (o : ℕ) (h), o ≤ (y 1).val → (y 1).val < o + 512 → y ∈ (Rect.unit (s := S512x2048) ![0, o] ![512, 512] h).set := by
      intro o h ha hb
      rw [Rect.mem_set_unit]
      intro a
      match a with
      | ⟨0, _⟩ => exact ⟨Nat.zero_le _, by show (y 0).val < 0 + 512; omega⟩
      | ⟨1, _⟩ => exact ⟨ha, hb⟩
    by_cases c3 : 1536 ≤ (y 1).val
    · exact ⟨_, .head _, key 1536 (by decide) c3 (by omega)⟩
    by_cases c2 : 1024 ≤ (y 1).val
    · exact ⟨_, .tail _ (.head _), key 1024 (by decide) c2 (by omega)⟩
    by_cases c1 : 512 ≤ (y 1).val
    · exact ⟨_, .tail _ (.tail _ (.head _)), key 512 (by decide) c1 (by omega)⟩
    · exact ⟨_, .tail _ (.tail _ (.tail _ (.head _))), key 0 (by decide) (by omega) (by omega)⟩

/-- The residual gradient, narrowed: the same values. -/
theorem narrowed (x0 : Vec Ideal S512x2048 .bf16) (x1 x2 : Vec Ideal S512x1024 .f32) (x3 : Vec Ideal S4x512x1024 .bf16)
    (x4 : Vec Ideal S1x1024 .f32) :
    (k0_pay17 (x2Block x0 x1 x3) (r2Block x0 x1 x3) x4 x2 : FVec Ideal S512x1024 .bf16) = dxBlock x0 x1 x2 x3 x4 := rfl

/-- The gradient of the branch outputs, at a point of this kind. -/
theorem out_A_6 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : cond0_0 i) (hc1 : ¬cond0_1 i)
    (x0 : Vec Ideal S512x2048 .bf16) (x1 x2 : Vec Ideal S512x1024 .f32) (x3 : Vec Ideal S4x512x1024 .bf16) (x4 : Vec Ideal S1x1024 .f32) :
    out0_A_6 c i a1 h1 a2 h2 a3 h3 a4 h4 a5 h5 a6 h6 a7 h7 a8 h8 a9 h9 a10 h10 hc0 hc1 x0 x1 x2 x3 x4 = dyBlock (dxBlock x0 x1 x2 x3 x4) x3 := by
  unfold out0_A_6
  frame_out
  funext y
  rw [← narrowed]
  exact dy_canon _ x3 y

/-- The weights' running gradient, at a point of this kind. -/
theorem out_A_7 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : cond0_0 i) (hc1 : ¬cond0_1 i)
    (x0 : Vec Ideal S512x2048 .bf16) (x1 x2 : Vec Ideal S512x1024 .f32) (x3 : Vec Ideal S4x512x1024 .bf16) (x4 : Vec Ideal S1x1024 .f32) :
    out0_A_7 c i a1 h1 a2 h2 a3 h3 a4 h4 a5 h5 a6 h6 a7 h7 a8 h8 a9 h9 a10 h10 hc0 hc1 x0 x1 x2 x3 x4 = gwBlock x0 (dxBlock x0 x1 x2 x3 x4) (k0_pay5 (F := Ideal)) := by
  unfold out0_A_7
  frame_open
  simp (disch := decide) only [↓ View.readCov_skip, ↓ View.readCov_cons_toLoadRect, ↓ View.readCov_fill]
  frame_out
  funext y
  rw [← narrowed]
  exact gw_canon x0 _ (k0_pay5 (F := Ideal)) [_] y

/-- The gradient of the branch outputs, at a point of this kind. -/
theorem out_B_6 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : ¬cond0_1 i)
    (x0 : Vec Ideal S512x2048 .bf16) (x1 x2 : Vec Ideal S512x1024 .f32) (x3 : Vec Ideal S4x512x1024 .bf16) (x4 : Vec Ideal S1x1024 .f32)
    (xo7 : Vec Ideal S2048x1024 .f32) (xo8 xo9 : Vec Ideal S8x1024 .f32) :
    out0_B_6 c i a1 h1 a2 h2 a3 h3 a4 h4 a5 h5 a6 h6 a7 h7 a8 h8 a9 h9 a10 h10 hc0 hc1 x0 x1 x2 x3 x4 xo7 xo8 xo9 = dyBlock (dxBlock x0 x1 x2 x3 x4) x3 := by
  unfold out0_B_6
  frame_out
  funext y
  rw [← narrowed]
  exact dy_canon _ x3 y

/-- The weights' running gradient, at a point of this kind. -/
theorem out_B_7 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : ¬cond0_1 i)
    (x0 : Vec Ideal S512x2048 .bf16) (x1 x2 : Vec Ideal S512x1024 .f32) (x3 : Vec Ideal S4x512x1024 .bf16) (x4 : Vec Ideal S1x1024 .f32)
    (xo7 : Vec Ideal S2048x1024 .f32) (xo8 xo9 : Vec Ideal S8x1024 .f32) :
    out0_B_7 c i a1 h1 a2 h2 a3 h3 a4 h4 a5 h5 a6 h6 a7 h7 a8 h8 a9 h9 a10 h10 hc0 hc1 x0 x1 x2 x3 x4 xo7 xo8 xo9 = gwBlock x0 (dxBlock x0 x1 x2 x3 x4) xo7 := by
  unfold out0_B_7
  frame_out
  funext y
  rw [← narrowed]
  exact gw_canon x0 _ xo7 [] y

/-- The gradient of the branch outputs, at a point of this kind. -/
theorem out_C_6 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : cond0_1 i)
    (x0 : Vec Ideal S512x2048 .bf16) (x1 x2 : Vec Ideal S512x1024 .f32) (x3 : Vec Ideal S4x512x1024 .bf16) (x4 : Vec Ideal S1x1024 .f32)
    (xo7 : Vec Ideal S2048x1024 .f32) (xo8 xo9 : Vec Ideal S8x1024 .f32) :
    out0_C_6 c i a1 h1 a2 h2 a3 h3 a4 h4 a5 h5 a6 h6 a7 h7 a8 h8 a9 h9 a10 h10 hc0 hc1 x0 x1 x2 x3 x4 xo7 xo8 xo9 = dyBlock (dxBlock x0 x1 x2 x3 x4) x3 := by
  unfold out0_C_6
  frame_out
  funext y
  rw [← narrowed]
  exact dy_canon _ x3 y

/-- The weights' running gradient, at a point of this kind. -/
theorem out_C_7 (c : Dev nD) (i : grid0.Coords)
    (a1 : Memref sig .tc .vmem S512x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S4x512x1024 .bf16) (h4 : a4.IsWhole)
    (a5 : Memref sig .tc .vmem S1x1024 .f32) (h5 : a5.IsWhole)
    (a6 : Memref sig .tc .vmem S512x1024 .f32) (h6 : a6.IsWhole)
    (a7 : Memref sig .tc .vmem S512x2048 .bf16) (h7 : a7.IsWhole)
    (a8 : Memref sig .tc .vmem S2048x1024 .f32) (h8 : a8.IsWhole)
    (a9 : Memref sig .tc .vmem S8x1024 .f32) (h9 : a9.IsWhole)
    (a10 : Memref sig .tc .vmem S8x1024 .f32) (h10 : a10.IsWhole)
    (hc0 : ¬cond0_0 i) (hc1 : cond0_1 i)
    (x0 : Vec Ideal S512x2048 .bf16) (x1 x2 : Vec Ideal S512x1024 .f32) (x3 : Vec Ideal S4x512x1024 .bf16) (x4 : Vec Ideal S1x1024 .f32)
    (xo7 : Vec Ideal S2048x1024 .f32) (xo8 xo9 : Vec Ideal S8x1024 .f32) :
    out0_C_7 c i a1 h1 a2 h2 a3 h3 a4 h4 a5 h5 a6 h6 a7 h7 a8 h8 a9 h9 a10 h10 hc0 hc1 x0 x1 x2 x3 x4 xo7 xo8 xo9 = gwBlock x0 (dxBlock x0 x1 x2 x3 x4) xo7 := by
  unfold out0_C_7
  frame_out
  funext y
  rw [← narrowed]
  exact gw_canon x0 _ xo7 [] y

end Cert.OutProjIdeal.Point

end
-- ==== Proof.OutProjApply.lean ====
/- The output-projection kernel's blocks, entry by entry, over the extended reals. -/
module

public import proofs.«01_k».proof.Proof.OutProjPieces

@[expose] public section

set_option maxRecDepth 16384

noncomputable section

namespace Cert.OutProjIdeal.Point

open Cert.OutProjIdeal Cert.OutProjIdeal.Gen Idealize.ShloMosaic Idealize.ShloMosaic.TcCoe Idealize.SL.Sem
open Cert.Rms

/-- The residual stream after the projection: a sum over the four parts and their rows. -/
theorem x2Block_apply (x0 : Vec Ideal S512x2048 .bf16) (x1 : Vec Ideal S512x1024 .f32) (x3 : Vec Ideal S4x512x1024 .bf16)
    (b : Fin 512) (j : Fin 1024) :
    x2Block x0 x1 x3 (ix2 b j)
      = x1 (ix2 b j) + ∑ p : Fin 4, ∑ e : Fin 512, x0 (ix2 b (⟨p.val * 512 + e.val, by omega⟩ : Fin 2048)) * x3 (ix3 p e j) := by
  have h : ∀ w0 w1 w2 w3 : Vec Ideal S1x512x1024 .bf16, k0_pay8 (F := Ideal) x0 x1 w0 w1 w2 w3 (ix2 b j)
      = x1 (ix2 b j) + ∑ e : Fin 512, x0 (ix2 b (⟨0 + e.val, by omega⟩ : Fin 2048)) * w0 (ix3 (0 : Fin 1) e j)
        + ∑ e : Fin 512, x0 (ix2 b (⟨512 + e.val, by omega⟩ : Fin 2048)) * w1 (ix3 (0 : Fin 1) e j)
        + ∑ e : Fin 512, x0 (ix2 b (⟨1024 + e.val, by omega⟩ : Fin 2048)) * w2 (ix3 (0 : Fin 1) e j)
        + ∑ e : Fin 512, x0 (ix2 b (⟨1536 + e.val, by omega⟩ : Fin 2048)) * w3 (ix3 (0 : Fin 1) e j) := by
    intro w0 w1 w2 w3
    unfold k0_pay8
    pointwise
  unfold x2Block
  have assoc : ∀ a b c d e : EReal, a + b + c + d + e = a + (b + c + d + e) := fun a b c d e => by simp only [add_assoc]
  rw [h, Fin.sum_univ_four, assoc]
  refine congrArg₂ (· + ·) rfl (congrArg₂ (· + ·) (congrArg₂ (· + ·) (congrArg₂ (· + ·) ?_ ?_) ?_) ?_)
  · exact Finset.sum_congr rfl fun e _ => congrArg₂ (· * ·) rfl (ld_part x3 0 _ (by omega) e j)
  · exact Finset.sum_congr rfl fun e _ => congrArg₂ (· * ·) rfl (ld_part x3 1 _ (by omega) e j)
  · exact Finset.sum_congr rfl fun e _ => congrArg₂ (· * ·) rfl (ld_part x3 2 _ (by omega) e j)
  · exact Finset.sum_congr rfl fun e _ => congrArg₂ (· * ·) rfl (ld_part x3 3 _ (by omega) e j)

/-- The reciprocal root mean squares are of the rows. -/
theorem r2Block_apply (x0 : Vec Ideal S512x2048 .bf16) (x1 : Vec Ideal S512x1024 .f32) (x3 : Vec Ideal S4x512x1024 .bf16)
    (b : Fin 512) : r2Block x0 x1 x3 (ix2 b (0 : Fin 1)) = scale (fun k => x2Block x0 x1 x3 (ix2 b k)) := by
  have h : ∀ w0 w1 w2 w3 : Vec Ideal S1x512x1024 .bf16, k0_pay9 (F := Ideal) x0 x1 w0 w1 w2 w3 (ix2 b (0 : Fin 1))
      = scale (fun k => k0_pay8 (F := Ideal) x0 x1 w0 w1 w2 w3 (ix2 b k)) := by
    intro w0 w1 w2 w3
    unfold k0_pay9 scale meanSq
    generalize k0_pay8 (F := Ideal) x0 x1 w0 w1 w2 w3 = v
    pointwise
  exact h _ _ _ _

/-- The error of one entry of a row `x` with gain `g` and target `t`. -/
def err (x g t : Fin 1024 → EReal) (j : Fin 1024) : EReal := x j * scale x * g j - t j

/-- The gradient of the output's entry. -/
def dout (x g t : Fin 1024 → EReal) (j : Fin 1024) : EReal := err x g t j * Ideal.ofBits .f32 0x3A800000#32

variable (x0 : Vec Ideal S512x2048 .bf16) (x1 x2 : Vec Ideal S512x1024 .f32) (x3 : Vec Ideal S4x512x1024 .bf16) (x4 : Vec Ideal S1x1024 .f32)

/-- A row of the residual stream after the projection. -/
abbrev xrow (b : Fin 512) (k : Fin 1024) : EReal := x2Block x0 x1 x3 (ix2 b k)

theorem dxBlock_apply (b : Fin 512) (j : Fin 1024) :
    dxBlock x0 x1 x2 x3 x4 (ix2 b j)
      = grad (xrow x0 x1 x3 b) (fun k => dout (xrow x0 x1 x3 b) (fun k => x4 (ix2 (0 : Fin 1) k)) (fun k => x2 (ix2 b k)) k
          * x4 (ix2 (0 : Fin 1) k)) j := by
  unfold dxBlock grad dout err xrow
  rw [← r2Block_apply]
  generalize x2Block x0 x1 x3 = v
  generalize r2Block x0 x1 x3 = r
  unfold k0_pay16 k0_pay14 k0_pay12 k0_pay11 k0_pay10
  pointwise

theorem gfBlock_apply (v : Vec Ideal S8x1024 .f32) (b : Fin 8) (j : Fin 1024) :
    gfBlock x0 x1 x2 x3 x4 v (ix2 b j)
      = v (ix2 b j) + ∑ q : Fin 64, dout (xrow x0 x1 x3 (⟨q.val * 8 + b.val, by omega⟩ : Fin 512)) (fun k => x4 (ix2 (0 : Fin 1) k))
            (fun k => x2 (ix2 (⟨q.val * 8 + b.val, by omega⟩ : Fin 512) k)) j
          * (xrow x0 x1 x3 (⟨q.val * 8 + b.val, by omega⟩ : Fin 512) j * scale (xrow x0 x1 x3 (⟨q.val * 8 + b.val, by omega⟩ : Fin 512))) := by
  unfold gfBlock dout err xrow
  simp only [← r2Block_apply]
  generalize x2Block x0 x1 x3 = v
  generalize r2Block x0 x1 x3 = r
  unfold k0_pay15 k0_pay14 k0_pay12 k0_pay11 k0_pay10
  pointwise

theorem seBlock_apply (v : Vec Ideal S8x1024 .f32) (b : Fin 8) (j : Fin 1024) :
    seBlock x0 x1 x2 x3 x4 v (ix2 b j)
      = v (ix2 b j) + ∑ q : Fin 64, err (xrow x0 x1 x3 (⟨q.val * 8 + b.val, by omega⟩ : Fin 512)) (fun k => x4 (ix2 (0 : Fin 1) k))
            (fun k => x2 (ix2 (⟨q.val * 8 + b.val, by omega⟩ : Fin 512) k)) j
          * err (xrow x0 x1 x3 (⟨q.val * 8 + b.val, by omega⟩ : Fin 512)) (fun k => x4 (ix2 (0 : Fin 1) k))
            (fun k => x2 (ix2 (⟨q.val * 8 + b.val, by omega⟩ : Fin 512) k)) j := by
  unfold seBlock err xrow
  simp only [← r2Block_apply]
  generalize x2Block x0 x1 x3 = v
  generalize r2Block x0 x1 x3 = r
  unfold k0_pay13 k0_pay12 k0_pay11 k0_pay10
  pointwise

theorem pay5_apply (j : S2048x1024.Idx) : k0_pay5 (F := Ideal) j = 0 := by
  unfold k0_pay5
  pointwise

theorem pay6_apply (j : S8x1024.Idx) : k0_pay6 (F := Ideal) j = 0 := by
  unfold k0_pay6
  pointwise

theorem pay7_apply (j : S8x1024.Idx) : k0_pay7 (F := Ideal) j = 0 := by
  unfold k0_pay7
  pointwise

/-- The eight partial sums together. -/
theorem pay4_apply (v : Vec Ideal S8x1024 .f32) (b : Fin 8) (j : Fin 1024) :
    k0_pay4 (F := Ideal) v (ix2 b j) = ∑ y : Fin 8, v (ix2 y j) := by
  unfold k0_pay4
  pointwise

end Cert.OutProjIdeal.Point

end
-- ==== Proof.OutProjBlocks.lean ====
/- The output-projection kernel's result arrays: each row's residual gradient and branch-output gradient, and the weights'
   gradient, the gain's gradient and the squared errors summed over the rows. -/
module

public import proofs.«01_k».proof.Proof.OutProjApply
public import proofs.«01_k».proof.Proof.Sums
public import Idealize.ShloMosaic.Lib.StableHlo.ReadAt

@[expose] public section

set_option maxRecDepth 16384

noncomputable section

namespace Cert.OutProjIdeal.Array

open Cert.OutProjIdeal Cert.OutProjIdeal.Gen Idealize.ShloMosaic Idealize.ShloMosaic.TcCoe Idealize.SL.Sem
open Cert.OutProjIdeal.Point Cert.Rms

variable (m : (ℓ : Loc nD τ sig) → Buf (Elt Ideal) ℓ)

/-- The branch outputs. -/
abbrev Yb (c : Dev nD) : S8192x2048.Idx → EReal := m ((c : Thread nD τ).loc main_arg0)
/-- The rows. -/
abbrev Xs (c : Dev nD) : S8192x1024.Idx → EReal := m ((c : Thread nD τ).loc main_arg1)
/-- The targets. -/
abbrev Tg (c : Dev nD) : S8192x1024.Idx → EReal := m ((c : Thread nD τ).loc main_arg2)
/-- The weights. -/
abbrev W (c : Dev nD) : S2048x1024.Idx → EReal := m ((c : Thread nD τ).loc main_arg3)
/-- The gain. -/
abbrev Gn (c : Dev nD) : S1024.Idx → EReal := m ((c : Thread nD τ).loc main_arg4)

theorem index0 : ∀ t : Fin cfg0.N, win0_0.index t (0 : Fin 2) = t.val ∧ win0_0.index t (1 : Fin 2) = 0 := by decide +kernel
theorem index1 : ∀ t : Fin cfg0.N, win0_1.index t (0 : Fin 2) = t.val ∧ win0_1.index t (1 : Fin 2) = 0 := by decide +kernel
theorem index2 : ∀ t : Fin cfg0.N, win0_2.index t (0 : Fin 2) = t.val ∧ win0_2.index t (1 : Fin 2) = 0 := by decide +kernel
theorem index5 : ∀ t : Fin cfg0.N, win0_5.index t (0 : Fin 2) = t.val ∧ win0_5.index t (1 : Fin 2) = 0 := by decide +kernel
theorem index6 : ∀ t : Fin cfg0.N, win0_6.index t (0 : Fin 2) = t.val ∧ win0_6.index t (1 : Fin 2) = 0 := by decide +kernel
theorem index7 : ∀ t : Fin cfg0.N, win0_7.index t (0 : Fin 2) = 0 ∧ win0_7.index t (1 : Fin 2) = 0 := by decide +kernel
theorem index8 : ∀ t : Fin cfg0.N, win0_8.index t (0 : Fin 2) = 0 ∧ win0_8.index t (1 : Fin 2) = 0 := by decide +kernel
theorem index9 : ∀ t : Fin cfg0.N, win0_9.index t (0 : Fin 2) = 0 ∧ win0_9.index t (1 : Fin 2) = 0 := by decide +kernel

theorem lt16 (t : Fin cfg0.N) : t.val < 16 := lt_of_lt_of_eq t.isLt N_0

/-- Row `b` of point `t`'s block, in the whole array. -/
abbrev row (t : Fin cfg0.N) (b : Fin 512) : Fin 8192 := ⟨t.val * 512 + b.val, by have := lt16 t; omega⟩

theorem iblk0_apply (c : Dev nD) (t : Fin cfg0.N) (b : Fin 512) (e : Fin 2048) :
    iblk m c 0 t (ix2 b e) = Yb m c (ix2 (row t b) e) := by
  unfold iblk
  rw [View.read_apply]
  show V m c main_arg0 _ = _
  rw [V_main_arg0]
  congr 1
  funext a
  apply Fin.ext
  match a with
  | ⟨0, _⟩ => show win0_0.index t 0 * 512 + 1 * b.val = t.val * 512 + b.val; rw [(index0 t).1, Nat.one_mul]
  | ⟨1, _⟩ => show win0_0.index t 1 * 2048 + 1 * e.val = e.val; rw [(index0 t).2]; omega

theorem iblk1_apply (c : Dev nD) (t : Fin cfg0.N) (b : Fin 512) (e : Fin 1024) :
    iblk m c 1 t (ix2 b e) = Xs m c (ix2 (row t b) e) := by
  unfold iblk
  rw [View.read_apply]
  show V m c main_arg1 _ = _
  rw [V_main_arg1]
  congr 1
  funext a
  apply Fin.ext
  match a with
  | ⟨0, _⟩ => show win0_1.index t 0 * 512 + 1 * b.val = t.val * 512 + b.val; rw [(index1 t).1, Nat.one_mul]
  | ⟨1, _⟩ => show win0_1.index t 1 * 1024 + 1 * e.val = e.val; rw [(index1 t).2]; omega

theorem iblk2_apply (c : Dev nD) (t : Fin cfg0.N) (b : Fin 512) (e : Fin 1024) :
    iblk m c 2 t (ix2 b e) = Tg m c (ix2 (row t b) e) := by
  unfold iblk
  rw [View.read_apply]
  show V m c main_arg2 _ = _
  rw [V_main_arg2]
  congr 1
  funext a
  apply Fin.ext
  match a with
  | ⟨0, _⟩ => show win0_2.index t 0 * 512 + 1 * b.val = t.val * 512 + b.val; rw [(index2 t).1, Nat.one_mul]
  | ⟨1, _⟩ => show win0_2.index t 1 * 1024 + 1 * e.val = e.val; rw [(index2 t).2]; omega

/-- The weights as the kernel takes them: four parts of the rows. -/
theorem V_w (c : Dev nD) (p : Fin 4) (e : Fin 512) (j : Fin 1024) :
    V m c main_v0 (ix3 p e j) = W m c (ix2 (⟨p.val * 512 + e.val, by omega⟩ : Fin 2048) j) := by
  unfold V
  after_reads_at

theorem V_g (c : Dev nD) (j : Fin 1024) : V m c main_v1 (ix2 (0 : Fin 1) j) = Gn m c (ix1 j) := by
  unfold V
  after_reads_at

theorem iblk3_apply (c : Dev nD) (t : Fin cfg0.N) (p : Fin 4) (e : Fin 512) (j : Fin 1024) :
    iblk m c 3 t (ix3 p e j) = W m c (ix2 (⟨p.val * 512 + e.val, by omega⟩ : Fin 2048) j) := by
  unfold iblk
  rw [View.read_apply, ← V_w]
  show V m c main_v0 _ = V m c main_v0 _
  congr 1
  funext a
  apply Fin.ext
  match a with
  | ⟨0, _⟩ => show 0 * 4 + 1 * p.val = p.val; omega
  | ⟨1, _⟩ => show 0 * 512 + 1 * e.val = e.val; omega
  | ⟨2, _⟩ => show 0 * 1024 + 1 * j.val = j.val; omega

theorem iblk4_apply (c : Dev nD) (t : Fin cfg0.N) (j : Fin 1024) :
    iblk m c 4 t (ix2 (0 : Fin 1) j) = Gn m c (ix1 j) := by
  unfold iblk
  rw [View.read_apply, ← V_g]
  show V m c main_v1 _ = V m c main_v1 _
  congr 1
  funext a
  apply Fin.ext
  match a with
  | ⟨0, _⟩ => show 0 * 1 + 1 * 0 = 0; omega
  | ⟨1, _⟩ => show 0 * 1024 + 1 * j.val = j.val; omega

/-- The residual stream after the projection. -/
def x2 (c : Dev nD) (s : Fin 8192) (j : Fin 1024) : EReal := Xs m c (ix2 s j) + ∑ e : Fin 2048, Yb m c (ix2 s e) * W m c (ix2 e j)

/-- The gain as a row. -/
abbrev gain (c : Dev nD) (k : Fin 1024) : EReal := Gn m c (ix1 k)

/-- A row's targets. -/
abbrev tgt (c : Dev nD) (s : Fin 8192) (k : Fin 1024) : EReal := Tg m c (ix2 s k)

/-- A row's residual gradient. -/
def dx (c : Dev nD) (s : Fin 8192) (j : Fin 1024) : EReal :=
  grad (x2 m c s) (fun k => dout (x2 m c s) (gain m c) (tgt m c s) k * gain m c k) j

/-- What a row adds to the gain's gradient. -/
def gG (c : Dev nD) (j : Fin 1024) (s : Fin 8192) : EReal :=
  dout (x2 m c s) (gain m c) (tgt m c s) j * (x2 m c s j * scale (x2 m c s))

/-- A row's squared error. -/
def sE (c : Dev nD) (j : Fin 1024) (s : Fin 8192) : EReal :=
  err (x2 m c s) (gain m c) (tgt m c s) j * err (x2 m c s) (gain m c) (tgt m c s) j

theorem x2_eq (c : Dev nD) (t : Fin cfg0.N) (b : Fin 512) :
    xrow (iblk m c 0 t) (iblk m c 1 t) (iblk m c 3 t) b = x2 m c (row t b) := by
  funext j
  show x2Block (F := Ideal) (iblk m c 0 t) (iblk m c 1 t) (iblk m c 3 t) (ix2 b j) = _
  rw [x2Block_apply]
  unfold x2
  rw [Cert.Sums.sum_tiles 2048 4 512 (by decide)]
  exact congrArg₂ (· + ·) (iblk1_apply m c t b j) (Finset.sum_congr rfl fun p _ => Finset.sum_congr rfl fun e _ =>
    congrArg₂ (· * ·) (iblk0_apply m c t b _) (iblk3_apply m c t p e j))

theorem gain_eq (c : Dev nD) (t : Fin cfg0.N) :
    (fun k : Fin 1024 => iblk m c 4 t (ix2 (0 : Fin 1) k)) = gain m c := funext fun k => iblk4_apply m c t k

theorem tgt_eq (c : Dev nD) (t : Fin cfg0.N) (b : Fin 512) :
    (fun k : Fin 1024 => iblk m c 2 t (ix2 b k)) = tgt m c (row t b) := funext fun k => iblk2_apply m c t b k

/-- The residual gradient's block at point `t`. -/
abbrev dxAt (c : Dev nD) (t : Fin cfg0.N) : FVec Ideal S512x1024 .f32 :=
  dxBlock (F := Ideal) (iblk m c 0 t) (iblk m c 1 t) (iblk m c 2 t) (iblk m c 3 t) (iblk m c 4 t)

theorem dx_block (c : Dev nD) (t : Fin cfg0.N) (b : Fin 512) (j : Fin 1024) : dxAt m c t (ix2 b j) = dx m c (row t b) j := by
  refine (dxBlock_apply _ _ _ _ _ b j).trans ?_
  unfold dx
  refine congrArg₂ (fun x d => grad x d j) (x2_eq m c t b) (funext fun k => congrArg₂ (· * ·) ?_ (iblk4_apply m c t k))
  refine Eq.trans (congrArg (fun z => dout z _ _ k) (x2_eq m c t b)) ?_
  exact congrArg₂ (fun g h => dout (x2 m c (row t b)) g h k) (gain_eq m c t) (tgt_eq m c t b)

/-- The branch outputs' gradient. -/
def dyAt (c : Dev nD) (s : Fin 8192) (e : Fin 2048) : EReal := ∑ j : Fin 1024, dx m c s j * W m c (ix2 e j)

theorem dy_block (c : Dev nD) (t : Fin cfg0.N) (b : Fin 512) (e : Fin 2048) :
    dyBlock (dxAt m c t) (iblk m c 3 t) (ix2 b e) = dyAt m c (row t b) e := by
  unfold dyBlock dyAt
  refine Finset.sum_congr rfl fun j _ => congrArg₂ (· * ·) (dx_block m c t b j) ?_
  refine (iblk3_apply m c t _ _ j).trans (congrArg (fun r => W m c (ix2 r j)) (Fin.ext ?_))
  show e.val / 512 * 512 + e.val % 512 = e.val
  omega

/-- What point `t` adds to the weights' gradient. -/
def termW (c : Dev nD) (e : Fin 2048) (j : Fin 1024) (t : Fin cfg0.N) : EReal :=
  ∑ b : Fin 512, Yb m c (ix2 (row t b) e) * dx m c (row t b) j

theorem gw_block (c : Dev nD) (t : Fin cfg0.N) (v : Vec Ideal S2048x1024 .f32) (e : Fin 2048) (j : Fin 1024) :
    gwBlock (iblk m c 0 t) (dxAt m c t) v (ix2 e j) = v (ix2 e j) + termW m c e j t := by
  unfold gwBlock termW
  exact congrArg _ (Finset.sum_congr rfl fun b _ => congrArg₂ (· * ·) (iblk0_apply m c t b e) (dx_block m c t b j))

/-- What point `t` adds to the gain's partial sum `b`. -/
def termG (c : Dev nD) (b : Fin 8) (j : Fin 1024) (t : Fin cfg0.N) : EReal :=
  ∑ q : Fin 64, gG m c j (row t (⟨q.val * 8 + b.val, by omega⟩ : Fin 512))

/-- What point `t` adds to the squared errors' partial sum `b`. -/
def termE (c : Dev nD) (b : Fin 8) (j : Fin 1024) (t : Fin cfg0.N) : EReal :=
  ∑ q : Fin 64, sE m c j (row t (⟨q.val * 8 + b.val, by omega⟩ : Fin 512))

theorem gf_block (c : Dev nD) (t : Fin cfg0.N) (v : Vec Ideal S8x1024 .f32) (b : Fin 8) (j : Fin 1024) :
    gfBlock (F := Ideal) (iblk m c 0 t) (iblk m c 1 t) (iblk m c 2 t) (iblk m c 3 t) (iblk m c 4 t) v (ix2 b j)
      = v (ix2 b j) + termG m c b j t := by
  refine (gfBlock_apply _ _ _ _ _ v b j).trans (congrArg _ (Finset.sum_congr rfl fun q _ => ?_))
  unfold gG
  rw [x2_eq]
  refine congrArg₂ (· * ·) ?_ rfl
  exact congrArg₂ (fun g h => dout (x2 m c (row t _)) g h j) (gain_eq m c t) (tgt_eq m c t _)

theorem se_block (c : Dev nD) (t : Fin cfg0.N) (v : Vec Ideal S8x1024 .f32) (b : Fin 8) (j : Fin 1024) :
    seBlock (F := Ideal) (iblk m c 0 t) (iblk m c 1 t) (iblk m c 2 t) (iblk m c 3 t) (iblk m c 4 t) v (ix2 b j)
      = v (ix2 b j) + termE m c b j t := by
  refine (seBlock_apply _ _ _ _ _ v b j).trans (congrArg _ (Finset.sum_congr rfl fun q _ => ?_))
  unfold sE
  rw [x2_eq]
  refine congrArg (fun z => z * z) ?_
  exact congrArg₂ (fun g h => err (x2 m c (row t _)) g h j) (gain_eq m c t) (tgt_eq m c t _)

end Cert.OutProjIdeal.Array

end
-- ==== Proof.OutProjArray.lean ====
/- The output-projection kernel's result arrays: each row's residual gradient and branch-output gradient, and the weights'
   gradient, the gain's gradient and the squared errors summed over the rows. -/
module

public import proofs.«01_k».proof.Proof.OutProjBlocks

@[expose] public section

set_option maxRecDepth 16384

noncomputable section

namespace Cert.OutProjIdeal.Array

open Cert.OutProjIdeal Cert.OutProjIdeal.Gen Idealize.ShloMosaic Idealize.ShloMosaic.TcCoe Idealize.SL.Sem
open Cert.OutProjIdeal.Point Cert.Rms

variable (m : (ℓ : Loc nD τ sig) → Buf (Elt Ideal) ℓ)

theorem read5 (c : Dev nD) (t : Fin cfg0.N) (X : S8192x1024.Idx → EReal) (b : Fin 512) (j : Fin 1024) :
    ((cfg0.win 5).blk t).view.read (Elt Ideal) (X : Buf (Elt Ideal) ((c : Thread nD τ).loc main_v2_0)) (ix2 b j)
      = X (ix2 (row t b) j) := by
  rw [View.read_apply]
  show X _ = X _
  congr 1
  funext a
  apply Fin.ext
  match a with
  | ⟨0, _⟩ => show win0_5.index t 0 * 512 + 1 * b.val = t.val * 512 + b.val; rw [(index5 t).1]; omega
  | ⟨1, _⟩ => show win0_5.index t 1 * 1024 + 1 * j.val = j.val; rw [(index5 t).2]; omega

/-- Each row's residual gradient. -/
def G5 (c : Dev nD) (i : S8192x1024.Idx) : EReal := dx m c (i 0) (i 1)

/-- Result array 0 after the run. -/
theorem final5 (c : Dev nD) : (dats m 0 c).arrAt 5 cfg0.N = G5 m c := by
  refine (dats m 0 c).arrAt_eq_of_cover 5 (G5 m c) (fun t hf => ?_) (fun i => ?_)
  · rw [Cert.OutProjIdeal.Value.flushed5]
    funext y
    obtain ⟨b, j, rfl⟩ : ∃ b j, y = (ix2 b j : S512x1024.Idx) := ⟨y 0, y 1, eq_ix2 y⟩
    refine Eq.trans ?_ (read5 c t (G5 m c) b j).symm
    show (outsAt0 m c t.val t.isLt).1 (ix2 b j) = _
    refine Eq.trans ?_ (dx_block m c t b j)
    by_cases h0 : t.val % 16 = 0
    · rw [outsAt0_A m c t h0 (by omega)]
      dsimp only
      rw [out_A_5]
    · by_cases h1 : t.val % 16 = 15
      · rw [outsAt0_C m c t h0 h1]
        dsimp only
        rw [out_C_5]
      · rw [outsAt0_B m c t h0 h1]
        dsimp only
        rw [out_B_5]
  · have hN : cfg0.N = 16 := N_0
    have h0 : (i 0).val < 8192 := (i 0).isLt
    have h1 : (i 1).val < 1024 := (i 1).isLt
    obtain ⟨t, ht⟩ : ∃ t : Fin cfg0.N, t.val = (i 0).val / 512 := ⟨⟨(i 0).val / 512, by omega⟩, rfl⟩
    refine ⟨t, flush0_5 t, ?_⟩
    show i ∈ ((View.whole main_v2_0).slice (win0_5.rect t)).set
    rw [View.set_slice_whole, Rect.mem_set_unit]
    intro a
    match a with
    | ⟨0, _⟩ => show win0_5.index t 0 * 512 ≤ (i 0).val ∧ (i 0).val < win0_5.index t 0 * 512 + 512; rw [(index5 t).1]; omega
    | ⟨1, _⟩ => show win0_5.index t 1 * 1024 ≤ (i 1).val ∧ (i 1).val < win0_5.index t 1 * 1024 + 1024; rw [(index5 t).2]; omega

theorem read6 (c : Dev nD) (t : Fin cfg0.N) (X : S8192x2048.Idx → EReal) (b : Fin 512) (j : Fin 2048) :
    ((cfg0.win 6).blk t).view.read (Elt Ideal) (X : Buf (Elt Ideal) ((c : Thread nD τ).loc main_v2_1)) (ix2 b j)
      = X (ix2 (row t b) j) := by
  rw [View.read_apply]
  show X _ = X _
  congr 1
  funext a
  apply Fin.ext
  match a with
  | ⟨0, _⟩ => show win0_6.index t 0 * 512 + 1 * b.val = t.val * 512 + b.val; rw [(index6 t).1]; omega
  | ⟨1, _⟩ => show win0_6.index t 1 * 2048 + 1 * j.val = j.val; rw [(index6 t).2]; omega

/-- Each row's branch-output gradient. -/
def G6 (c : Dev nD) (i : S8192x2048.Idx) : EReal := dyAt m c (i 0) (i 1)

/-- Result array 1 after the run. -/
theorem final6 (c : Dev nD) : (dats m 0 c).arrAt 6 cfg0.N = G6 m c := by
  refine (dats m 0 c).arrAt_eq_of_cover 6 (G6 m c) (fun t hf => ?_) (fun i => ?_)
  · rw [Cert.OutProjIdeal.Value.flushed6]
    funext y
    obtain ⟨b, j, rfl⟩ : ∃ b j, y = (ix2 b j : S512x2048.Idx) := ⟨y 0, y 1, eq_ix2 y⟩
    refine Eq.trans ?_ (read6 c t (G6 m c) b j).symm
    show (outsAt0 m c t.val t.isLt).2.1 (ix2 b j) = _
    refine Eq.trans ?_ (dy_block m c t b j)
    by_cases h0 : t.val % 16 = 0
    · rw [outsAt0_A m c t h0 (by omega)]
      dsimp only
      rw [out_A_6]
    · by_cases h1 : t.val % 16 = 15
      · rw [outsAt0_C m c t h0 h1]
        dsimp only
        rw [out_C_6]
      · rw [outsAt0_B m c t h0 h1]
        dsimp only
        rw [out_B_6]
  · have hN : cfg0.N = 16 := N_0
    have h0 : (i 0).val < 8192 := (i 0).isLt
    have h1 : (i 1).val < 2048 := (i 1).isLt
    obtain ⟨t, ht⟩ : ∃ t : Fin cfg0.N, t.val = (i 0).val / 512 := ⟨⟨(i 0).val / 512, by omega⟩, rfl⟩
    refine ⟨t, flush0_6 t, ?_⟩
    show i ∈ ((View.whole main_v2_1).slice (win0_6.rect t)).set
    rw [View.set_slice_whole, Rect.mem_set_unit]
    intro a
    match a with
    | ⟨0, _⟩ => show win0_6.index t 0 * 512 ≤ (i 0).val ∧ (i 0).val < win0_6.index t 0 * 512 + 512; rw [(index6 t).1]; omega
    | ⟨1, _⟩ => show win0_6.index t 1 * 2048 ≤ (i 1).val ∧ (i 1).val < win0_6.index t 1 * 2048 + 2048; rw [(index6 t).2]; omega

/-- The sixteen points' blocks together: all rows. -/
theorem rows_total (f : Fin 8192 → EReal) :
    ∑ k : Fin 16, ∑ b : Fin 512, f ⟨k.val * 512 + b.val, by omega⟩ = ∑ s : Fin 8192, f s :=
  (Cert.Sums.sum_tiles 8192 16 512 (by decide) f).symm

theorem resetW (c : Dev nD) (e : Fin 2048) (j : Fin 1024) (t : Fin cfg0.N) (h : t.val % 16 = 0) :
    (outsAt0 m c t.val t.isLt).2.2.1 (ix2 e j) = termW m c e j t := by
  rw [outsAt0_A m c t h (by omega)]
  dsimp only
  rw [out_A_7, gw_block, pay5_apply, zero_add]

theorem stepW (c : Dev nD) (e : Fin 2048) (j : Fin 1024) (t : Fin cfg0.N) (h : ¬t.val % 16 = 0) :
    (outsAt0 m c t.val t.isLt).2.2.1 (ix2 e j)
      = (outsAt0 m c (t.val - 1) (lt_of_le_of_lt (Nat.sub_le _ _) t.isLt)).2.2.1 (ix2 e j) + termW m c e j t := by
  by_cases h1 : t.val % 16 = 15
  · rw [outsAt0_C m c t h h1]
    dsimp only
    rw [out_C_7, gw_block]
  · rw [outsAt0_B m c t h h1]
    dsimp only
    rw [out_B_7, gw_block]

theorem resetE (c : Dev nD) (b : Fin 8) (j : Fin 1024) (t : Fin cfg0.N) (h : t.val % 16 = 0) :
    (outsAt0 m c t.val t.isLt).2.2.2.2 (ix2 b j) = termE m c b j t := by
  rw [outsAt0_A m c t h (by omega)]
  dsimp only
  rw [out_A_9, se_block, pay7_apply, zero_add]

theorem stepE (c : Dev nD) (b : Fin 8) (j : Fin 1024) (t : Fin cfg0.N) (h : ¬t.val % 16 = 0) :
    (outsAt0 m c t.val t.isLt).2.2.2.2 (ix2 b j)
      = (outsAt0 m c (t.val - 1) (lt_of_le_of_lt (Nat.sub_le _ _) t.isLt)).2.2.2.2 (ix2 b j) + termE m c b j t := by
  by_cases h1 : t.val % 16 = 15
  · rw [outsAt0_C m c t h h1]
    dsimp only
    rw [out_C_9, se_block]
  · rw [outsAt0_B m c t h h1]
    dsimp only
    rw [out_B_9, se_block]

/-- The gain's partial sum `b` after point `t`, before the last point's rows are put together. -/
def accG (c : Dev nD) (b : Fin 8) (j : Fin 1024) (t : Fin cfg0.N) : EReal :=
  if t.val % 16 = 0 then termG m c b j t
  else (outsAt0 m c (t.val - 1) (lt_of_le_of_lt (Nat.sub_le _ _) t.isLt)).2.2.2.1 (ix2 b j) + termG m c b j t

/-- Before the last point that is what the output holds. -/
theorem accG_eq (c : Dev nD) (b : Fin 8) (j : Fin 1024) (t : Fin cfg0.N) (h1 : ¬t.val % 16 = 15) :
    (outsAt0 m c t.val t.isLt).2.2.2.1 (ix2 b j) = accG m c b j t := by
  unfold accG
  by_cases h : t.val % 16 = 0
  · rw [if_pos h, outsAt0_A m c t h h1]
    dsimp only
    rw [out_A_8, gf_block, pay6_apply, zero_add]
  · rw [if_neg h, outsAt0_B m c t h h1]
    dsimp only
    rw [out_B_8, gf_block]

theorem stepG (c : Dev nD) (b : Fin 8) (j : Fin 1024) (t : Fin cfg0.N) (h : ¬t.val % 16 = 0) :
    accG m c b j t = accG m c b j ⟨t.val - 1, lt_of_le_of_lt (Nat.sub_le _ _) t.isLt⟩ + termG m c b j t := by
  have ht := lt16 t
  rw [← accG_eq m c b j ⟨t.val - 1, lt_of_le_of_lt (Nat.sub_le _ _) t.isLt⟩ (by show ¬(t.val - 1) % 16 = 15; omega)]
  unfold accG
  rw [if_neg h]

/-- At the last point the output holds the eight partial sums together, in every row. -/
theorem lastG (c : Dev nD) (b : Fin 8) (j : Fin 1024) (t : Fin cfg0.N) (h : t.val % 16 = 15) :
    (outsAt0 m c t.val t.isLt).2.2.2.1 (ix2 b j) = ∑ y : Fin 8, accG m c y j t := by
  rw [outsAt0_C m c t (by omega) h]
  dsimp only
  rw [out_C_8, pay4_apply]
  refine Finset.sum_congr rfl fun y _ => ?_
  rw [gf_block]
  unfold accG
  rw [if_neg (by omega)]

theorem sumW (c : Dev nD) (t : Fin cfg0.N) (h : t.val % 16 = 15) (e : Fin 2048) (j : Fin 1024) :
    (outsAt0 m c t.val t.isLt).2.2.1 (ix2 e j) = ∑ s : Fin 8192, Yb m c (ix2 s e) * dx m c s j := by
  have hN : cfg0.N = 16 := N_0
  have ht := lt16 t
  rw [← rows_total (fun s => Yb m c (ix2 s e) * dx m c s j),
    Cert.Sums.running_sum_last 16 cfg0.N (by decide) (fun t => (outsAt0 m c t.val t.isLt).2.2.1 (ix2 e j))
    (termW m c e j) (resetW m c e j) (stepW m c e j) 0 (by omega) t (by omega)]
  refine Finset.sum_congr rfl fun k _ => Finset.sum_congr rfl fun b _ => ?_
  have hr : row ⟨0 * 16 + k.val, by omega⟩ b = ⟨k.val * 512 + b.val, by omega⟩ :=
    Fin.ext (by show (0 * 16 + k.val) * 512 + b.val = k.val * 512 + b.val; omega)
  exact congrArg (fun s => Yb m c (ix2 s e) * dx m c s j) hr

theorem sumE (c : Dev nD) (t : Fin cfg0.N) (h : t.val % 16 = 15) (b : Fin 8) (j : Fin 1024) :
    (outsAt0 m c t.val t.isLt).2.2.2.2 (ix2 b j) = ∑ u : Fin 1024, sE m c j ⟨u.val * 8 + b.val, by omega⟩ := by
  have hN : cfg0.N = 16 := N_0
  have ht := lt16 t
  rw [Cert.Sums.sum_tiles 1024 16 64 (by decide) (fun u : Fin 1024 => sE m c j ⟨u.val * 8 + b.val, by omega⟩),
    Cert.Sums.running_sum_last 16 cfg0.N (by decide) (fun t => (outsAt0 m c t.val t.isLt).2.2.2.2 (ix2 b j))
    (termE m c b j) (resetE m c b j) (stepE m c b j) 0 (by omega) t (by omega)]
  refine Finset.sum_congr rfl fun k _ => Finset.sum_congr rfl fun q _ => congrArg _ (Fin.ext ?_)
  show (0 * 16 + k.val) * 512 + (q.val * 8 + b.val) = (k.val * 64 + q.val) * 8 + b.val
  omega

theorem sumG (c : Dev nD) (t : Fin cfg0.N) (h : t.val % 16 = 15) (j : Fin 1024) :
    ∑ y : Fin 8, accG m c y j t = ∑ s : Fin 8192, gG m c j s := by
  have hN : cfg0.N = 16 := N_0
  have ht := lt16 t
  have h1 : ∀ y : Fin 8, accG m c y j t
      = ∑ k : Fin 16, ∑ q : Fin 64, gG m c j ⟨k.val * 512 + (q.val * 8 + y.val), by omega⟩ := by
    intro y
    rw [Cert.Sums.running_sum_last 16 cfg0.N (by decide) (accG m c y j) (termG m c y j)
      (fun t h => by unfold accG; rw [if_pos h]) (stepG m c y j) 0 (by omega) t (by omega)]
    refine Finset.sum_congr rfl fun k _ => Finset.sum_congr rfl fun q _ => congrArg _ (Fin.ext ?_)
    show (0 * 16 + k.val) * 512 + (q.val * 8 + y.val) = k.val * 512 + (q.val * 8 + y.val)
    omega
  simp only [h1]
  rw [Finset.sum_comm, Cert.Sums.sum_tiles 8192 16 512 (by decide) (gG m c j)]
  refine Finset.sum_congr rfl fun k _ => ?_
  rw [Finset.sum_comm, Cert.Sums.sum_tiles 512 64 8 (by decide)
    (fun q : Fin 512 => gG m c j ⟨k.val * 512 + q.val, by omega⟩)]

theorem read7 (c : Dev nD) (t : Fin cfg0.N) (X : S2048x1024.Idx → EReal) (b : Fin 2048) (j : Fin 1024) :
    ((cfg0.win 7).blk t).view.read (Elt Ideal) (X : Buf (Elt Ideal) ((c : Thread nD τ).loc main_v2_2)) (ix2 b j)
      = X (ix2 (b) j) := by
  rw [View.read_apply]
  show X _ = X _
  congr 1
  funext a
  apply Fin.ext
  match a with
  | ⟨0, _⟩ => show win0_7.index t 0 * 2048 + 1 * b.val = b.val; rw [(index7 t).1]; omega
  | ⟨1, _⟩ => show win0_7.index t 1 * 1024 + 1 * j.val = j.val; rw [(index7 t).2]; omega

/-- The weights' gradient. -/
def G7 (c : Dev nD) (i : S2048x1024.Idx) : EReal := ∑ s : Fin 8192, Yb m c (ix2 s (i 0)) * dx m c s (i 1)

/-- Result array 2 after the run. -/
theorem final7 (c : Dev nD) : (dats m 0 c).arrAt 7 cfg0.N = G7 m c := by
  refine (dats m 0 c).arrAt_eq_of_cover 7 (G7 m c) (fun t hf => ?_) (fun i => ?_)
  · rw [Cert.OutProjIdeal.Value.flushed7]
    funext y
    obtain ⟨b, j, rfl⟩ : ∃ b j, y = (ix2 b j : S2048x1024.Idx) := ⟨y 0, y 1, eq_ix2 y⟩
    refine Eq.trans ?_ (read7 c t (G7 m c) b j).symm
    show (outsAt0 m c t.val t.isLt).2.2.1 (ix2 b j) = _
    exact sumW m c t ((flush0_7 t).mp hf) b j
  · have hN : cfg0.N = 16 := N_0
    have h0 : (i 0).val < 2048 := (i 0).isLt
    have h1 : (i 1).val < 1024 := (i 1).isLt
    obtain ⟨t, ht⟩ : ∃ t : Fin cfg0.N, t.val = 15 := ⟨⟨15, by omega⟩, rfl⟩
    refine ⟨t, (flush0_7 t).mpr (by omega), ?_⟩
    show i ∈ ((View.whole main_v2_2).slice (win0_7.rect t)).set
    rw [View.set_slice_whole, Rect.mem_set_unit]
    intro a
    match a with
    | ⟨0, _⟩ => show win0_7.index t 0 * 2048 ≤ (i 0).val ∧ (i 0).val < win0_7.index t 0 * 2048 + 2048; rw [(index7 t).1]; omega
    | ⟨1, _⟩ => show win0_7.index t 1 * 1024 ≤ (i 1).val ∧ (i 1).val < win0_7.index t 1 * 1024 + 1024; rw [(index7 t).2]; omega

theorem read8 (c : Dev nD) (t : Fin cfg0.N) (X : S8x1024.Idx → EReal) (b : Fin 8) (j : Fin 1024) :
    ((cfg0.win 8).blk t).view.read (Elt Ideal) (X : Buf (Elt Ideal) ((c : Thread nD τ).loc main_v2_3)) (ix2 b j)
      = X (ix2 (b) j) := by
  rw [View.read_apply]
  show X _ = X _
  congr 1
  funext a
  apply Fin.ext
  match a with
  | ⟨0, _⟩ => show win0_8.index t 0 * 8 + 1 * b.val = b.val; rw [(index8 t).1]; omega
  | ⟨1, _⟩ => show win0_8.index t 1 * 1024 + 1 * j.val = j.val; rw [(index8 t).2]; omega

/-- The gain's gradient, in every row. -/
def G8 (c : Dev nD) (i : S8x1024.Idx) : EReal := ∑ s : Fin 8192, gG m c (i 1) s

/-- Result array 3 after the run. -/
theorem final8 (c : Dev nD) : (dats m 0 c).arrAt 8 cfg0.N = G8 m c := by
  refine (dats m 0 c).arrAt_eq_of_cover 8 (G8 m c) (fun t hf => ?_) (fun i => ?_)
  · rw [Cert.OutProjIdeal.Value.flushed8]
    funext y
    obtain ⟨b, j, rfl⟩ : ∃ b j, y = (ix2 b j : S8x1024.Idx) := ⟨y 0, y 1, eq_ix2 y⟩
    refine Eq.trans ?_ (read8 c t (G8 m c) b j).symm
    show (outsAt0 m c t.val t.isLt).2.2.2.1 (ix2 b j) = _
    exact (lastG m c b j t ((flush0_8 t).mp hf)).trans (sumG m c t ((flush0_8 t).mp hf) j)
  · have hN : cfg0.N = 16 := N_0
    have h0 : (i 0).val < 8 := (i 0).isLt
    have h1 : (i 1).val < 1024 := (i 1).isLt
    obtain ⟨t, ht⟩ : ∃ t : Fin cfg0.N, t.val = 15 := ⟨⟨15, by omega⟩, rfl⟩
    refine ⟨t, (flush0_8 t).mpr (by omega), ?_⟩
    show i ∈ ((View.whole main_v2_3).slice (win0_8.rect t)).set
    rw [View.set_slice_whole, Rect.mem_set_unit]
    intro a
    match a with
    | ⟨0, _⟩ => show win0_8.index t 0 * 8 ≤ (i 0).val ∧ (i 0).val < win0_8.index t 0 * 8 + 8; rw [(index8 t).1]; omega
    | ⟨1, _⟩ => show win0_8.index t 1 * 1024 ≤ (i 1).val ∧ (i 1).val < win0_8.index t 1 * 1024 + 1024; rw [(index8 t).2]; omega

theorem read9 (c : Dev nD) (t : Fin cfg0.N) (X : S8x1024.Idx → EReal) (b : Fin 8) (j : Fin 1024) :
    ((cfg0.win 9).blk t).view.read (Elt Ideal) (X : Buf (Elt Ideal) ((c : Thread nD τ).loc main_v2_4)) (ix2 b j)
      = X (ix2 (b) j) := by
  rw [View.read_apply]
  show X _ = X _
  congr 1
  funext a
  apply Fin.ext
  match a with
  | ⟨0, _⟩ => show win0_9.index t 0 * 8 + 1 * b.val = b.val; rw [(index9 t).1]; omega
  | ⟨1, _⟩ => show win0_9.index t 1 * 1024 + 1 * j.val = j.val; rw [(index9 t).2]; omega

/-- The squared errors of every eighth row. -/
def G9 (c : Dev nD) (i : S8x1024.Idx) : EReal := ∑ u : Fin 1024, sE m c (i 1) ⟨u.val * 8 + (i 0).val, by have h : (i 0).val < 8 := (i 0).isLt; omega⟩

/-- Result array 4 after the run. -/
theorem final9 (c : Dev nD) : (dats m 0 c).arrAt 9 cfg0.N = G9 m c := by
  refine (dats m 0 c).arrAt_eq_of_cover 9 (G9 m c) (fun t hf => ?_) (fun i => ?_)
  · rw [Cert.OutProjIdeal.Value.flushed9]
    funext y
    obtain ⟨b, j, rfl⟩ : ∃ b j, y = (ix2 b j : S8x1024.Idx) := ⟨y 0, y 1, eq_ix2 y⟩
    refine Eq.trans ?_ (read9 c t (G9 m c) b j).symm
    show (outsAt0 m c t.val t.isLt).2.2.2.2 (ix2 b j) = _
    exact sumE m c t ((flush0_9 t).mp hf) b j
  · have hN : cfg0.N = 16 := N_0
    have h0 : (i 0).val < 8 := (i 0).isLt
    have h1 : (i 1).val < 1024 := (i 1).isLt
    obtain ⟨t, ht⟩ : ∃ t : Fin cfg0.N, t.val = 15 := ⟨⟨15, by omega⟩, rfl⟩
    refine ⟨t, (flush0_9 t).mpr (by omega), ?_⟩
    show i ∈ ((View.whole main_v2_4).slice (win0_9.rect t)).set
    rw [View.set_slice_whole, Rect.mem_set_unit]
    intro a
    match a with
    | ⟨0, _⟩ => show win0_9.index t 0 * 8 ≤ (i 0).val ∧ (i 0).val < win0_9.index t 0 * 8 + 8; rw [(index9 t).1]; omega
    | ⟨1, _⟩ => show win0_9.index t 1 * 1024 ≤ (i 1).val ∧ (i 1).val < win0_9.index t 1 * 1024 + 1024; rw [(index9 t).2]; omega

end Cert.OutProjIdeal.Array

end
-- ==== Proof.OutProjRef.lean ====
/- The output projection's reference arrays, entry by entry. -/
module

public import proofs.«01_k».proof.Proof.Rms
public import proofs.«01_k».proof.Proof.Gen.OutProjRefIdeal.Run
public import proofs.«01_k».proof.Proof.Gen.OutProjRefIdeal.Read
public import Idealize.ShloMosaic.Lib.Pointwise

@[expose] public section

set_option maxRecDepth 16384

noncomputable section

namespace Cert.OutProjRef

open Cert.OutProjRefIdeal Cert.OutProjRefIdeal.Read Idealize.ShloMosaic Idealize.ShloMosaic.TcCoe Idealize.SL.Sem
open Cert.Rms

variable (x0 : S8192x2048.Idx → EReal) (x1 x2 : S8192x1024.Idx → EReal) (x3 : S2048x1024.Idx → EReal) (x4 : S1024.Idx → EReal)

/-- The residual stream after the projection. -/
def X2 (s : Fin 8192) (j : Fin 1024) : EReal := x1 (ix2 s j) + ∑ e : Fin 2048, x0 (ix2 s e) * x3 (ix2 e j)

/-- The error of an entry of the output. -/
def Err (s : Fin 8192) (j : Fin 1024) : EReal := X2 x0 x1 x3 s j * scale (X2 x0 x1 x3 s) * x4 (ix1 j) - x2 (ix2 s j)

/-- The gradient of the output's entry. -/
def Do (s : Fin 8192) (j : Fin 1024) : EReal := Err x0 x1 x2 x3 x4 s j * Ideal.ofBits .f32 0x3A800000#32

/-- The gradient of the normed row's entry. -/
def Dn (s : Fin 8192) (j : Fin 1024) : EReal := Do x0 x1 x2 x3 x4 s j * x4 (ix1 j)

/-- Twice half the mean's weight: the same constant the kernel multiplies with. -/
theorem half_mean (d : EReal) :
    Ideal.div (Ideal.ofBits .f32 0x3F000000#32 * Ideal.ofBits .f32 0x3F800000#32) (Ideal.ofBits .f32 0x44800000#32)
        * (Ideal.ofBits .f32 0x40000000#32 * d)
      = d * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, lit_1024, div_coe _ _ (by norm_num), ← mul_assoc, ← EReal.coe_mul, ← EReal.coe_mul, ← EReal.coe_mul, mul_comm]
  norm_num

theorem at3 (s : Fin 8192) (j : Fin 1024) : val_main_v3 (F := Ideal) x0 x1 x3 (ix2 s j) = X2 x0 x1 x3 s j := by
  unfold val_main_v3 val_main_v2 val_main_v1 val_main_v0 X2
  pointwise

theorem at10 (s : Fin 8192) : val_main_v10 (F := Ideal) x0 x1 x3 (ix2 s (0 : Fin 1)) = meanSq (X2 x0 x1 x3 s) := by
  have h : val_main_v10 (F := Ideal) x0 x1 x3 (ix2 s (0 : Fin 1)) = meanSq (fun k => val_main_v3 (F := Ideal) x0 x1 x3 (ix2 s k)) := by
    unfold val_main_v10 val_main_v9 val_main_v8 val_main_v7 val_main_v6 val_main_v5 val_main_v4 val_main_cst val_main_cst_0 val_main_cst_1 meanSq
    generalize val_main_v3 (F := Ideal) x0 x1 x3 = v
    pointwise
  rw [h]
  exact congrArg _ (funext fun k => at3 x0 x1 x3 s k)

theorem at11 (s : Fin 8192) : val_main_v11 (F := Ideal) x0 x1 x3 (ix2 s (0 : Fin 1)) = scale (X2 x0 x1 x3 s) := by
  show Ideal.rsqrt (val_main_v10 (F := Ideal) x0 x1 x3 (ix2 s (0 : Fin 1))) = _
  rw [at10]
  rfl

theorem at16 (s : Fin 8192) (j : Fin 1024) :
    val_main_v16 (F := Ideal) x0 x1 x3 (ix2 s j) = X2 x0 x1 x3 s j * scale (X2 x0 x1 x3 s) := by
  rw [← at3, ← at11]
  unfold val_main_v16 val_main_v15
  generalize val_main_v3 (F := Ideal) x0 x1 x3 = v
  generalize val_main_v11 (F := Ideal) x0 x1 x3 = r
  pointwise

theorem at20 (s : Fin 8192) (j : Fin 1024) : val_main_v20 (F := Ideal) x0 x1 x2 x3 x4 (ix2 s j) = Err x0 x1 x2 x3 x4 s j := by
  unfold Err
  rw [← at16]
  unfold val_main_v20 val_main_v19 val_main_v18 val_main_v17
  generalize val_main_v16 (F := Ideal) x0 x1 x3 = v
  pointwise

theorem at34 (s : Fin 8192) (j : Fin 1024) : val_main_v34 (F := Ideal) x0 x1 x2 x3 x4 (ix2 s j) = Do x0 x1 x2 x3 x4 s j := by
  unfold Do
  rw [← at20, ← half_mean]
  unfold val_main_v34 val_main_v33 val_main_v32 val_main_v31 val_main_v30 val_main_v29 val_main_v23 val_main_v22
    val_main_cst_10 val_main_cst_9 val_main_cst_8 val_main_cst_3
  generalize val_main_v20 (F := Ideal) x0 x1 x2 x3 x4 = v
  pointwise

theorem at39 (s : Fin 8192) (j : Fin 1024) : val_main_v39 (F := Ideal) x0 x1 x2 x3 x4 (ix2 s j) = Dn x0 x1 x2 x3 x4 s j := by
  unfold Dn
  rw [← at34]
  unfold val_main_v39 val_main_v38 val_main_v17
  generalize val_main_v34 (F := Ideal) x0 x1 x2 x3 x4 = v
  pointwise

theorem at50 (s : Fin 8192) (j : Fin 1024) :
    val_main_v50 (F := Ideal) x0 x1 x2 x3 x4 (ix2 s j) = cross (X2 x0 x1 x3 s) (Dn x0 x1 x2 x3 x4 s) := by
  have h : val_main_v50 (F := Ideal) x0 x1 x2 x3 x4 (ix2 s j)
      = ∑ y : Fin 1, Ideal.div ((∑ k : Fin 1024, val_main_v3 (F := Ideal) x0 x1 x3 (ix2 s k) * val_main_v39 (F := Ideal) x0 x1 x2 x3 x4 (ix2 s k))
          * (Ideal.ofBits .f32 0xBF000000#32 * Ideal.div (val_main_v11 (F := Ideal) x0 x1 x3 (ix2 s y)) (val_main_v10 (F := Ideal) x0 x1 x3 (ix2 s y))))
          (Ideal.ofBits .f32 0x44800000#32) := by
    unfold val_main_v50 val_main_v49 val_main_v48 val_main_v47 val_main_v46 val_main_v43 val_main_v42 val_main_v41
      val_main_v14 val_main_v13 val_main_v12 val_main_cst_15 val_main_cst_14 val_main_cst_13 val_main_cst_2
    generalize val_main_v3 (F := Ideal) x0 x1 x3 = v
    generalize val_main_v39 (F := Ideal) x0 x1 x2 x3 x4 = d
    generalize val_main_v11 (F := Ideal) x0 x1 x3 = r
    generalize val_main_v10 (F := Ideal) x0 x1 x3 = q
    pointwise
  rw [h, Fin.sum_univ_one, at10, at11]
  simp only [at3, at39]
  rfl

theorem at54 (s : Fin 8192) (j : Fin 1024) :
    val_main_v54 (F := Ideal) x0 x1 x2 x3 x4 (ix2 s j) = grad (X2 x0 x1 x3 s) (Dn x0 x1 x2 x3 x4 s) j := by
  rw [grad_eq, ← at50 x0 x1 x2 x3 x4 s j, ← at39, ← at3, ← at11]
  unfold val_main_v54 val_main_v53 val_main_v52 val_main_v51 val_main_v45 val_main_v44
  generalize val_main_v3 (F := Ideal) x0 x1 x3 = v
  generalize val_main_v39 (F := Ideal) x0 x1 x2 x3 x4 = d
  generalize val_main_v11 (F := Ideal) x0 x1 x3 = r
  generalize val_main_v50 (F := Ideal) x0 x1 x2 x3 x4 = q
  pointwise

/-- The weights' gradient. -/
theorem at56 (e : Fin 2048) (j : Fin 1024) :
    val_main_v56 (F := Ideal) x0 x1 x2 x3 x4 (ix2 e j)
      = ∑ s : Fin 8192, x0 (ix2 s e) * grad (X2 x0 x1 x3 s) (Dn x0 x1 x2 x3 x4 s) j := by
  have h : val_main_v56 (F := Ideal) x0 x1 x2 x3 x4 (ix2 e j)
      = ∑ s : Fin 8192, val_main_v54 (F := Ideal) x0 x1 x2 x3 x4 (ix2 s j) * x0 (ix2 s e) := by
    unfold val_main_v56 val_main_v55 val_main_v0
    generalize val_main_v54 (F := Ideal) x0 x1 x2 x3 x4 = v
    pointwise
  rw [h]
  exact Finset.sum_congr rfl fun s _ => by rw [at54, mul_comm]

/-- The branch outputs' gradient. -/
theorem at58 (s : Fin 8192) (e : Fin 2048) :
    val_main_v58 (F := Ideal) x0 x1 x2 x3 x4 (ix2 s e)
      = ∑ j : Fin 1024, grad (X2 x0 x1 x3 s) (Dn x0 x1 x2 x3 x4 s) j * x3 (ix2 e j) := by
  simp only [← at54]
  unfold val_main_v58 val_main_v57 val_main_v1
  generalize val_main_v54 (F := Ideal) x0 x1 x2 x3 x4 = v
  pointwise

/-- The gain's gradient, in every row. -/
theorem at59 (b : Fin 8) (j : Fin 1024) :
    val_main_v59 (F := Ideal) x0 x1 x2 x3 x4 (ix2 b j)
      = ∑ s : Fin 8192, Do x0 x1 x2 x3 x4 s j * (X2 x0 x1 x3 s j * scale (X2 x0 x1 x3 s)) := by
  have h : val_main_v59 (F := Ideal) x0 x1 x2 x3 x4 (ix2 b j)
      = ∑ y : Fin 1, ∑ s : Fin 8192, val_main_v16 (F := Ideal) x0 x1 x3 (ix2 s j) * val_main_v34 (F := Ideal) x0 x1 x2 x3 x4 (ix2 s j) := by
    unfold val_main_v59 val_main_v40 val_main_v37 val_main_v36 val_main_v35 val_main_cst_12 val_main_cst_11
    generalize val_main_v16 (F := Ideal) x0 x1 x3 = v
    generalize val_main_v34 (F := Ideal) x0 x1 x2 x3 x4 = d
    pointwise
  rw [h, Fin.sum_univ_one]
  exact Finset.sum_congr rfl fun s _ => by rw [at16, at34, mul_comm]

/-- The squared errors of every eighth row. -/
theorem at61 (b : Fin 8) (j : Fin 1024) :
    val_main_v61 (F := Ideal) x0 x1 x2 x3 x4 (ix2 b j)
      = ∑ u : Fin 1024, Err x0 x1 x2 x3 x4 (⟨u.val * 8 + b.val, by omega⟩ : Fin 8192) j
          * Err x0 x1 x2 x3 x4 (⟨u.val * 8 + b.val, by omega⟩ : Fin 8192) j := by
  simp only [← at20]
  unfold val_main_v61 val_main_v60 val_main_v21 val_main_cst_16
  generalize val_main_v20 (F := Ideal) x0 x1 x2 x3 x4 = v
  pointwise

end Cert.OutProjRef

end
-- ==== Proof.OutProjEq.lean ====
/- The output-projection kernel computes its reference: the head's loss terms, its gradients and the projection's gradients. -/
module

public import proofs.«01_k».proof.Defs
public import proofs.«01_k».proof.Proof.OutProjArray
public import proofs.«01_k».proof.Proof.OutProjRef

@[expose] public section

set_option maxRecDepth 16384

noncomputable section

namespace Cert.OutProjEq

open Idealize.ShloMosaic Idealize.ShloMosaic.TcCoe Idealize.SL.Sem
open Cert.OutProjIdeal.Array Cert.OutProjRefIdeal.Read

/-- The value claim: at every input the kernel's five results are the reference's. -/
theorem claim : Cert.algebraic_OutProjIdeal_OutProjRefIdeal := by
  intro m g m' g' _ hargs
  refine ⟨fun c => G5 m c, fun c => G6 m c, fun c => G7 m c, fun c => G8 m c, fun c => G9 m c, ?_, ?_⟩
  · refine (θ_run Cert.OutProjIdeal.defs _ _).mono (fun r h c => ?_) (Cert.OutProjIdeal.Value.run_blocks m g)
    obtain ⟨h5, h6, h7, h8, h9, hk⟩ := h c
    exact ⟨h5.trans (final5 m c), h6.trans (final6 m c), h7.trans (final7 m c), h8.trans (final8 m c), h9.trans (final9 m c), hk⟩
  · refine (θ_run Cert.OutProjRefIdeal.defs _ _).mono (fun r h c => ?_) (Cert.OutProjRefIdeal.Value.run m' g')
    obtain ⟨h5, h6, h7, h8, h9, hk⟩ := h c
    obtain ⟨e0, e1, e2, e3, e4⟩ := hargs c
    refine ⟨h5.trans ?_, h6.trans ?_, h7.trans ?_, h8.trans ?_, h9.trans ?_, hk⟩
    · rw [val_main_v54_eq, e0, e1, e2, e3, e4]
      funext i
      rw [show i = ix2 (i 0) (i 1) from eq_ix2 i]
      exact Cert.OutProjRef.at54 _ _ _ _ _ (i 0) (i 1)
    · rw [val_main_v58_eq, e0, e1, e2, e3, e4]
      funext i
      rw [show i = ix2 (i 0) (i 1) from eq_ix2 i]
      exact Cert.OutProjRef.at58 _ _ _ _ _ (i 0) (i 1)
    · rw [val_main_v56_eq, e0, e1, e2, e3, e4]
      funext i
      rw [show i = ix2 (i 0) (i 1) from eq_ix2 i]
      exact Cert.OutProjRef.at56 _ _ _ _ _ (i 0) (i 1)
    · rw [val_main_v59_eq, e0, e1, e2, e3, e4]
      funext i
      rw [show i = ix2 (i 0) (i 1) from eq_ix2 i]
      exact Cert.OutProjRef.at59 _ _ _ _ _ (i 0) (i 1)
    · rw [val_main_v61_eq, e0, e1, e2, e3, e4]
      funext i
      rw [show i = ix2 (i 0) (i 1) from eq_ix2 i]
      exact Cert.OutProjRef.at61 _ _ _ _ _ (i 0) (i 1)

end Cert.OutProjEq

end
-- ==== Proof.SguRuns.lean ====
/- What the runs of the branch's backward kernel are stated over: the conditions of its two branches over the
   points, the windows that stay idle, and the staging and scratch memrefs. -/
module

public import proofs.«01_k».proof.Proof.Gen.SguBwdIdeal.Frame
public import proofs.«01_k».proof.Proof.Gen.SguBwdIdeal.Skeleton
public import proofs.«01_k».proof.Proof.Gen.SguBwdIdeal.Loops
public import proofs.«01_k».proof.Proof.Gen.SguBwdIdeal.Points
public import proofs.«01_k».proof.Proof.Gen.SguBwdIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SguBwdIdeal.Named

open Cert.SguBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_SguBwdIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 4 rfl).trans ((hA c 4).trans (V_main_arg0 m c)),
      (Pipeline.RDat.FramePost.arr_in h c 6 rfl).trans ((hA c 6).trans (V_main_arg1 m c)),
      (Pipeline.RDat.FramePost.arr_in h c 8 rfl).trans ((hA c 8).trans (V_main_arg2 m c)),
      (Pipeline.RDat.FramePost.arr_in h c 9 rfl).trans ((hA c 9).trans (V_main_arg3 m c)),
      (Pipeline.RDat.FramePost.arr_in h c 10 rfl).trans ((hA c 10).trans (V_main_arg4 m c)),
      (Pipeline.RDat.FramePost.arr_in h c 11 rfl).trans ((hA c 11).trans (V_main_arg5 m c)),
      (Pipeline.RDat.FramePost.arr_in h c 12 rfl).trans ((hA c 12).trans (V_main_arg6 m c)),
      (Pipeline.RDat.FramePost.arr_in h c 13 rfl).trans ((hA c 13).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 17 rfl).trans ((hA c 17).trans (V_main_arg10 m c)),
      (Pipeline.RDat.FramePost.arr_in h c 18 rfl).trans ((hA c 18).trans (V_main_arg11 m c)),
      (Pipeline.RDat.FramePost.arr_in h c 19 rfl).trans ((hA c 19).trans (V_main_arg12 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl
/-- Window 22 is never idle (an output stored at every point, under no condition). -/
theorem liveAt0_22 : ∀ t : Fin cfg0.N, cfg0.idle 22 (grid0.coords t) = false := fun _ => rfl
/-- At the points of case A the printed configuration (`Cfg.idle`) calls output 21 idle: the case stores nothing into it. -/
theorem idleAt0_21_A : ∀ t : Fin cfg0.N, cond0_0 (grid0.coords t) → ¬cond0_1 (grid0.coords t) → cfg0.idle 21 (grid0.coords t) = true := by decide +kernel
/-- At the points of case A the pipeline does not write output 21's block back. -/
theorem noFlush0_21_A : ∀ t : Fin cfg0.N, cond0_0 (grid0.coords t) → ¬cond0_1 (grid0.coords t) → (cfg0.win 21).flush t = false := by decide +kernel
/-- At the points of case B the printed configuration (`Cfg.idle`) calls output 21 idle: the case stores nothing into it. -/
theorem idleAt0_21_B : ∀ t : Fin cfg0.N, ¬cond0_0 (grid0.coords t) → ¬cond0_1 (grid0.coords t) → cfg0.idle 21 (grid0.coords t) = true := by decide +kernel
/-- At the points of case B the pipeline does not write output 21's block back. -/
theorem noFlush0_21_B : ∀ t : Fin cfg0.N, ¬cond0_0 (grid0.coords t) → ¬cond0_1 (grid0.coords t) → (cfg0.win 21).flush t = false := by decide +kernel
/-- At the points of case C the printed configuration (`Cfg.idle`) calls output 21 live: the case stores into it. -/
theorem liveAt0_21_C : ∀ t : Fin cfg0.N, ¬cond0_0 (grid0.coords t) → cond0_1 (grid0.coords t) → cfg0.idle 21 (grid0.coords t) = false := by decide +kernel

/-! ## The kernel body on any staging memrefs: a subtype the run finds -/

/-- One staging buffer of output window 21, through which its contents are stated (`View.read_writes_of_cover`: the
    choice does not matter). -/
abbrev VO0_21 : View sig .tc .vmem S40x1024 .f32 := (Memref.whole cc0_stg21_0 : Memref sig .tc .vmem S40x1024 .f32).view
/-- One staging buffer of output window 22, through which its contents are stated (`View.read_writes_of_cover`: the
    choice does not matter). -/
abbrev VO0_22 : View sig .tc .vmem S8x128x128 .f32 := (Memref.whole cc0_stg22_0 : Memref sig .tc .vmem S8x128x128 .f32).view
/-- Each window's current staging memref at point `t`, spelled as the pipeline passes it (`bodyAt0`), and its wholeness. -/
abbrev ms0_0 (t : Fin cfg0.N) : Memref sig .tc .vmem S256x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x31x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x128x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x8 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x6144 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S40x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S8x128x128 .f32 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S8x288x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S288x1024 .f32 := Memref.whole cc0_scratch3
abbrev scM0_4 : Memref sig .tc .vmem S40x1024 .f32 := Memref.whole cc0_scratch4
abbrev scM0_5 : Memref sig .tc .vmem S248x1024 .f32 := Memref.whole cc0_scratch5
abbrev scM0_6 : Memref sig .tc .vmem S128x1024 .f32 := Memref.whole cc0_scratch6
/-- The scratch `arg28` the kernel carries between points, as a view: what it holds is stated through it. -/
abbrev VS0_4 : View sig .tc .vmem S40x1024 .f32 := scM0_4.view
/-- The scratch `arg29` the kernel carries between points, as a view: what it holds is stated through it. -/
abbrev VS0_5 : View sig .tc .vmem S248x1024 .f32 := scM0_5.view
/-- The scratch `arg30` the kernel carries between points, as a view: what it holds is stated through it. -/
abbrev VS0_6 : View sig .tc .vmem S128x1024 .f32 := scM0_6.view

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.SguBwdIdeal.Named

end
-- ==== Proof.SguRunA.lean ====
/- The run of the branch's backward kernel at the first point: what its stores leave in the windows and scratch
   buffers that are named. -/
module

public import proofs.«01_k».proof.Proof.SguRuns

@[expose] public section

set_option maxRecDepth 16384

noncomputable section

namespace Cert.SguBwdIdeal.Named

open Cert.SguBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8340000 in
/-- What the body's stores leave in each output's staging memref, as pieces (last first) IN CASE A (`scf.if` 0 taken, `scf.if` 1 not taken: points 0), WITH the
    proof that on whole staging memrefs — the inputs' at their contents, the outputs it leaves idle (21: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (20) at anything, handed back at some contents nothing names. -/
noncomputable def kernelRun0_A (c : Dev nD) (i : grid0.Coords) (arg1 : Memref sig .tc .vmem S256x6144 .bf16) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S4x31x256 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S128x8 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S8x128 .f32) (harg20 : arg20.IsWhole) (arg21 : Memref sig .tc .vmem S256x6144 .bf16) (harg21 : arg21.IsWhole) (arg22 : Memref sig .tc .vmem S40x1024 .f32) (harg22 : arg22.IsWhole) (arg23 : Memref sig .tc .vmem S8x128x128 .f32) (harg23 : arg23.IsWhole) (arg24 : Memref sig .tc .vmem S8x288x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S288x1024 .f32) (harg27 : arg27.IsWhole) (arg28 : Memref sig .tc .vmem S40x1024 .f32) (harg28 : arg28.IsWhole) (arg29 : Memref sig .tc .vmem S248x1024 .f32) (harg29 : arg29.IsWhole) (arg30 : Memref sig .tc .vmem S128x1024 .f32) (harg30 : arg30.IsWhole) (hc0 : cond0_0 i) (hc1 : ¬cond0_1 i)
    (x0 : Vec F S256x6144 .bf16) (x1 : Vec F S256x2048 .bf16) (x2 : Vec F S256x1024 .f32) (x3 : Vec F S16x1024 .bf16) (x4 : Vec F S16x1024 .bf16) (x5 : Vec F S16x1024 .bf16) (x6 : Vec F S16x1024 .bf16) (x7 : Vec F S16x1024 .f32) (x8 : Vec F S16x1024 .f32) (x9 : Vec F S4x31x256 .f32) (x10 : Vec F S1x1024 .f32) (x11 : Vec F S1x1024 .f32) (x12 : Vec F S1x1024 .f32) (x13 : Vec F S1x1024 .f32) (x14 : Vec F S8x128x128 .f32) (x15 : Vec F S8x128x128 .f32) (x16 : Vec F S128x8 .f32) (x17 : Vec F S8x1024 .f32) (x18 : Vec F S8x1024 .f32) (x19 : Vec F S8x128 .f32) :
    Σ' (L21 : List (View.Piece (Elt F) S40x1024 .f32)), Σ' (L22 : List (View.Piece (Elt F) S8x128x128 .f32)), Σ' (LS4 : List (View.Piece (Elt F) S40x1024 .f32)), Σ' (LS5 : List (View.Piece (Elt F) S248x1024 .f32)), Σ' (LS6 : List (View.Piece (Elt F) S128x1024 .f32)), { LT3 : List (View.Piece (Elt F) S288x1024 .f32) //
      ∀ (xi21 : Vec F S40x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ owns (c : Thread nD τ) arg22 fullShare xi21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ owns (c : Thread nD τ) arg22 fullShare xi21 ∗ (∃ f, arg23.view.loc (c : Thread nD τ) ↦[arg23.view.set]{fullShare} arg23.view.writes (Elt F) f L22) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LT3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5) ∗ (∃ f, arg30.view.loc (c : Thread nD τ) ↦[arg30.view.set]{fullShare} arg30.view.writes (Elt F) f LS6)) -∗ K ⟨⟩))
          ⊢ wp frame (wpE (defs₀ (F := F)) Variants.none c none) E (cc0_branch_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨[], ?_, ?_, ?_, ?_, ?_, fun xi21 E K => ?run⟩
  case run =>
    simp only [cc0_branch_bwd_eq_skeleton]; unfold cc0_branch_bwd_skel
    simp only [k0_part218_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part219_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg22.eq_unread hf21
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _; isplitr; · ipureintro; exact harg22.read_unread _
      iexact H21
    isplitl [H22]; · iexists _; iexact H22
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    isplitl [HS4]; · iexists _; iexact HS4
    isplitl [HS5]; · iexists _; iexact HS5
    iexists _; iexact HS6

end Cert.SguBwdIdeal.Named

end
-- ==== Proof.SguRunB.lean ====
/- The run of the branch's backward kernel at the points between the first and the last: what its stores leave in the windows and scratch
   buffers that are named. -/
module

public import proofs.«01_k».proof.Proof.SguRunA

@[expose] public section

set_option maxRecDepth 16384

noncomputable section

namespace Cert.SguBwdIdeal.Named

open Cert.SguBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8296000 in
/-- What the body's stores leave in each output's staging memref, as pieces (last first) IN CASE B (`scf.if` 0 not taken, `scf.if` 1 not taken: points 1, 2, … 30: 30 of 32), WITH the
    proof that on whole staging memrefs — the inputs' at their contents, the outputs it reads before covering (22) at their running contents `xo·`, the outputs it leaves idle (21: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (20) at anything, handed back at some contents nothing names. -/
noncomputable def kernelRun0_B (c : Dev nD) (i : grid0.Coords) (arg1 : Memref sig .tc .vmem S256x6144 .bf16) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S4x31x256 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S128x8 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S8x128 .f32) (harg20 : arg20.IsWhole) (arg21 : Memref sig .tc .vmem S256x6144 .bf16) (harg21 : arg21.IsWhole) (arg22 : Memref sig .tc .vmem S40x1024 .f32) (harg22 : arg22.IsWhole) (arg23 : Memref sig .tc .vmem S8x128x128 .f32) (harg23 : arg23.IsWhole) (arg24 : Memref sig .tc .vmem S8x288x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S288x1024 .f32) (harg27 : arg27.IsWhole) (arg28 : Memref sig .tc .vmem S40x1024 .f32) (harg28 : arg28.IsWhole) (arg29 : Memref sig .tc .vmem S248x1024 .f32) (harg29 : arg29.IsWhole) (arg30 : Memref sig .tc .vmem S128x1024 .f32) (harg30 : arg30.IsWhole) (hc0 : ¬cond0_0 i) (hc1 : ¬cond0_1 i)
    (x0 : Vec F S256x6144 .bf16) (x1 : Vec F S256x2048 .bf16) (x2 : Vec F S256x1024 .f32) (x3 : Vec F S16x1024 .bf16) (x4 : Vec F S16x1024 .bf16) (x5 : Vec F S16x1024 .bf16) (x6 : Vec F S16x1024 .bf16) (x7 : Vec F S16x1024 .f32) (x8 : Vec F S16x1024 .f32) (x9 : Vec F S4x31x256 .f32) (x10 : Vec F S1x1024 .f32) (x11 : Vec F S1x1024 .f32) (x12 : Vec F S1x1024 .f32) (x13 : Vec F S1x1024 .f32) (x14 : Vec F S8x128x128 .f32) (x15 : Vec F S8x128x128 .f32) (x16 : Vec F S128x8 .f32) (x17 : Vec F S8x1024 .f32) (x18 : Vec F S8x1024 .f32) (x19 : Vec F S8x128 .f32) (xo22 : Vec F S8x128x128 .f32) (xs4 : Vec F S40x1024 .f32) (xs5 : Vec F S248x1024 .f32) (xs6 : Vec F S128x1024 .f32) :
    Σ' (L21 : List (View.Piece (Elt F) S40x1024 .f32)), Σ' (L22 : List (View.Piece (Elt F) S8x128x128 .f32)), Σ' (LS4 : List (View.Piece (Elt F) S40x1024 .f32)), Σ' (LS5 : List (View.Piece (Elt F) S248x1024 .f32)), Σ' (LS6 : List (View.Piece (Elt F) S128x1024 .f32)), { LT3 : List (View.Piece (Elt F) S288x1024 .f32) //
      ∀ (xi21 : Vec F S40x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ owns (c : Thread nD τ) arg22 fullShare xi21 ∗ owns (c : Thread nD τ) arg23 fullShare xo22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs4 ∗ owns (c : Thread nD τ) arg29 fullShare xs5 ∗ owns (c : Thread nD τ) arg30 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ owns (c : Thread nD τ) arg22 fullShare xi21 ∗ (∃ f, arg23.view.loc (c : Thread nD τ) ↦[arg23.view.set]{fullShare} arg23.view.writes (Elt F) f L22) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LT3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5) ∗ (∃ f, arg30.view.loc (c : Thread nD τ) ↦[arg30.view.set]{fullShare} arg30.view.writes (Elt F) f LS6)) -∗ K ⟨⟩))
          ⊢ wp frame (wpE (defs₀ (F := F)) Variants.none c none) E (cc0_branch_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨[], ?_, ?_, ?_, ?_, ?_, fun xi21 E K => ?run⟩
  case run =>
    simp only [cc0_branch_bwd_eq_skeleton]; unfold cc0_branch_bwd_skel
    simp only [k0_part218_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part219_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%f22, %hf22, H22⟩, ⟨%ds0, %fs0, -, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg22.eq_unread hf21; obtain rfl := harg23.eq_unread hf22; obtain rfl := harg28.eq_unread hfs4; obtain rfl := harg29.eq_unread hfs5; obtain rfl := harg30.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _; isplitr; · ipureintro; exact harg22.read_unread _
      iexact H21
    isplitl [H22]; · iexists _; iexact H22
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    isplitl [HS4]; · iexists _; iexact HS4
    isplitl [HS5]; · iexists _; iexact HS5
    iexists _; iexact HS6

end Cert.SguBwdIdeal.Named

end
-- ==== Proof.SguRunC.lean ====
/- The run of the branch's backward kernel at the last point: what its stores leave in the windows and scratch
   buffers that are named. -/
module

public import proofs.«01_k».proof.Proof.SguRunB

@[expose] public section

set_option maxRecDepth 16384

noncomputable section

namespace Cert.SguBwdIdeal.Named

open Cert.SguBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9060000 in
/-- What the body's stores leave in each output's staging memref, as pieces (last first) IN CASE C (`scf.if` 0 not taken, `scf.if` 1 taken: points 31), WITH the
    proof that on whole staging memrefs — the inputs' at their contents, the outputs it reads before covering (22) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (20) at anything, handed back at some contents nothing names. -/
noncomputable def kernelRun0_C (c : Dev nD) (i : grid0.Coords) (arg1 : Memref sig .tc .vmem S256x6144 .bf16) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S4x31x256 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S128x8 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S8x128 .f32) (harg20 : arg20.IsWhole) (arg21 : Memref sig .tc .vmem S256x6144 .bf16) (harg21 : arg21.IsWhole) (arg22 : Memref sig .tc .vmem S40x1024 .f32) (harg22 : arg22.IsWhole) (arg23 : Memref sig .tc .vmem S8x128x128 .f32) (harg23 : arg23.IsWhole) (arg24 : Memref sig .tc .vmem S8x288x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S288x1024 .f32) (harg27 : arg27.IsWhole) (arg28 : Memref sig .tc .vmem S40x1024 .f32) (harg28 : arg28.IsWhole) (arg29 : Memref sig .tc .vmem S248x1024 .f32) (harg29 : arg29.IsWhole) (arg30 : Memref sig .tc .vmem S128x1024 .f32) (harg30 : arg30.IsWhole) (hc0 : ¬cond0_0 i) (hc1 : cond0_1 i)
    (x0 : Vec F S256x6144 .bf16) (x1 : Vec F S256x2048 .bf16) (x2 : Vec F S256x1024 .f32) (x3 : Vec F S16x1024 .bf16) (x4 : Vec F S16x1024 .bf16) (x5 : Vec F S16x1024 .bf16) (x6 : Vec F S16x1024 .bf16) (x7 : Vec F S16x1024 .f32) (x8 : Vec F S16x1024 .f32) (x9 : Vec F S4x31x256 .f32) (x10 : Vec F S1x1024 .f32) (x11 : Vec F S1x1024 .f32) (x12 : Vec F S1x1024 .f32) (x13 : Vec F S1x1024 .f32) (x14 : Vec F S8x128x128 .f32) (x15 : Vec F S8x128x128 .f32) (x16 : Vec F S128x8 .f32) (x17 : Vec F S8x1024 .f32) (x18 : Vec F S8x1024 .f32) (x19 : Vec F S8x128 .f32) (xo22 : Vec F S8x128x128 .f32) (xs4 : Vec F S40x1024 .f32) (xs5 : Vec F S248x1024 .f32) (xs6 : Vec F S128x1024 .f32) :
    Σ' (L21 : List (View.Piece (Elt F) S40x1024 .f32)), Σ' (L22 : List (View.Piece (Elt F) S8x128x128 .f32)), Σ' (LS4 : List (View.Piece (Elt F) S40x1024 .f32)), Σ' (LS5 : List (View.Piece (Elt F) S248x1024 .f32)), Σ' (LS6 : List (View.Piece (Elt F) S128x1024 .f32)), { LT3 : List (View.Piece (Elt F) S288x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ owns (c : Thread nD τ) arg23 fullShare xo22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs4 ∗ owns (c : Thread nD τ) arg29 fullShare xs5 ∗ owns (c : Thread nD τ) arg30 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LT3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5) ∗ (∃ f, arg30.view.loc (c : Thread nD τ) ↦[arg30.view.set]{fullShare} arg30.view.writes (Elt F) f LS6)) -∗ K ⟨⟩))
          ⊢ wp frame (wpE (defs₀ (F := F)) Variants.none c none) E (cc0_branch_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, fun E K => ?run⟩
  case run =>
    simp only [cc0_branch_bwd_eq_skeleton]; unfold cc0_branch_bwd_skel
    simp only [k0_part218_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part219_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part113_eq_skeleton, k0_part114_eq_skeleton, k0_part115_eq_skeleton, k0_part116_eq_skeleton, k0_part117_eq_skeleton, k0_part118_eq_skeleton, k0_part119_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%f22, %hf22, H22⟩, ⟨%ds0, %fs0, -, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg23.eq_unread hf22; obtain rfl := harg28.eq_unread hfs4; obtain rfl := harg29.eq_unread hfs5; obtain rfl := harg30.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]; · iexists _; iexact H21
    isplitl [H22]; · iexists _; iexact H22
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    isplitl [HS4]; · iexists _; iexact HS4
    isplitl [HS5]; · iexists _; iexact HS5
    iexists _; iexact HS6

end Cert.SguBwdIdeal.Named

end
-- ==== Proof.SguOuts.lean ====
/- What the body of the branch's backward kernel is run on at a point, and what it leaves in the outputs and
   carried scratch that are named. -/
module

public import proofs.«01_k».proof.Proof.SguRunC

@[expose] public section

set_option maxRecDepth 16384

noncomputable section

namespace Cert.SguBwdIdeal.Named

open Cert.SguBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point's body is run on: the point, the staging and scratch memrefs, and the input blocks. -/
structure Pt (F : FTy → Type) where
  i : grid0.Coords
  arg1 : Memref sig .tc .vmem S256x6144 .bf16
  harg1 : arg1.IsWhole
  arg2 : Memref sig .tc .vmem S256x2048 .bf16
  harg2 : arg2.IsWhole
  arg3 : Memref sig .tc .vmem S256x1024 .f32
  harg3 : arg3.IsWhole
  arg4 : Memref sig .tc .vmem S16x1024 .bf16
  harg4 : arg4.IsWhole
  arg5 : Memref sig .tc .vmem S16x1024 .bf16
  harg5 : arg5.IsWhole
  arg6 : Memref sig .tc .vmem S16x1024 .bf16
  harg6 : arg6.IsWhole
  arg7 : Memref sig .tc .vmem S16x1024 .bf16
  harg7 : arg7.IsWhole
  arg8 : Memref sig .tc .vmem S16x1024 .f32
  harg8 : arg8.IsWhole
  arg9 : Memref sig .tc .vmem S16x1024 .f32
  harg9 : arg9.IsWhole
  arg10 : Memref sig .tc .vmem S4x31x256 .f32
  harg10 : arg10.IsWhole
  arg11 : Memref sig .tc .vmem S1x1024 .f32
  harg11 : arg11.IsWhole
  arg12 : Memref sig .tc .vmem S1x1024 .f32
  harg12 : arg12.IsWhole
  arg13 : Memref sig .tc .vmem S1x1024 .f32
  harg13 : arg13.IsWhole
  arg14 : Memref sig .tc .vmem S1x1024 .f32
  harg14 : arg14.IsWhole
  arg15 : Memref sig .tc .vmem S8x128x128 .f32
  harg15 : arg15.IsWhole
  arg16 : Memref sig .tc .vmem S8x128x128 .f32
  harg16 : arg16.IsWhole
  arg17 : Memref sig .tc .vmem S128x8 .f32
  harg17 : arg17.IsWhole
  arg18 : Memref sig .tc .vmem S8x1024 .f32
  harg18 : arg18.IsWhole
  arg19 : Memref sig .tc .vmem S8x1024 .f32
  harg19 : arg19.IsWhole
  arg20 : Memref sig .tc .vmem S8x128 .f32
  harg20 : arg20.IsWhole
  arg21 : Memref sig .tc .vmem S256x6144 .bf16
  harg21 : arg21.IsWhole
  arg22 : Memref sig .tc .vmem S40x1024 .f32
  harg22 : arg22.IsWhole
  arg23 : Memref sig .tc .vmem S8x128x128 .f32
  harg23 : arg23.IsWhole
  arg24 : Memref sig .tc .vmem S8x288x128 .f32
  harg24 : arg24.IsWhole
  arg25 : Memref sig .tc .vmem S256x128 .f32
  harg25 : arg25.IsWhole
  arg26 : Memref sig .tc .vmem S256x128 .f32
  harg26 : arg26.IsWhole
  arg27 : Memref sig .tc .vmem S288x1024 .f32
  harg27 : arg27.IsWhole
  arg28 : Memref sig .tc .vmem S40x1024 .f32
  harg28 : arg28.IsWhole
  arg29 : Memref sig .tc .vmem S248x1024 .f32
  harg29 : arg29.IsWhole
  arg30 : Memref sig .tc .vmem S128x1024 .f32
  harg30 : arg30.IsWhole
  x0 : Vec F S256x6144 .bf16
  x1 : Vec F S256x2048 .bf16
  x2 : Vec F S256x1024 .f32
  x3 : Vec F S16x1024 .bf16
  x4 : Vec F S16x1024 .bf16
  x5 : Vec F S16x1024 .bf16
  x6 : Vec F S16x1024 .bf16
  x7 : Vec F S16x1024 .f32
  x8 : Vec F S16x1024 .f32
  x9 : Vec F S4x31x256 .f32
  x10 : Vec F S1x1024 .f32
  x11 : Vec F S1x1024 .f32
  x12 : Vec F S1x1024 .f32
  x13 : Vec F S1x1024 .f32
  x14 : Vec F S8x128x128 .f32
  x15 : Vec F S8x128x128 .f32
  x16 : Vec F S128x8 .f32
  x17 : Vec F S8x1024 .f32
  x18 : Vec F S8x1024 .f32
  x19 : Vec F S8x128 .f32

/-- What the body is run on at point `t`. -/
abbrev pt (c : Dev nD) (t : Fin cfg0.N) : Pt F :=
  ⟨grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _,
    iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-- The run at the first point, over the bundled arguments. -/
abbrev runA (c : Dev nD) (p : Pt F) (hc0 : cond0_0 p.i) (hc1 : ¬cond0_1 p.i) :=
  kernelRun0_A c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.arg19 p.harg19 p.arg20 p.harg20 p.arg21 p.harg21 p.arg22 p.harg22 p.arg23 p.harg23 p.arg24 p.harg24 p.arg25 p.harg25 p.arg26 p.harg26 p.arg27 p.harg27 p.arg28 p.harg28 p.arg29 p.harg29 p.arg30 p.harg30 hc0 hc1 p.x0 p.x1 p.x2 p.x3 p.x4 p.x5 p.x6 p.x7 p.x8 p.x9 p.x10 p.x11 p.x12 p.x13 p.x14 p.x15 p.x16 p.x17 p.x18 p.x19

/-- The run at the points between, over the bundled arguments. -/
abbrev runB (c : Dev nD) (p : Pt F) (hc0 : ¬cond0_0 p.i) (hc1 : ¬cond0_1 p.i) (xo22 : Vec F S8x128x128 .f32) (xs4 : Vec F S40x1024 .f32) (xs5 : Vec F S248x1024 .f32) (xs6 : Vec F S128x1024 .f32) :=
  kernelRun0_B c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.arg19 p.harg19 p.arg20 p.harg20 p.arg21 p.harg21 p.arg22 p.harg22 p.arg23 p.harg23 p.arg24 p.harg24 p.arg25 p.harg25 p.arg26 p.harg26 p.arg27 p.harg27 p.arg28 p.harg28 p.arg29 p.harg29 p.arg30 p.harg30 hc0 hc1 p.x0 p.x1 p.x2 p.x3 p.x4 p.x5 p.x6 p.x7 p.x8 p.x9 p.x10 p.x11 p.x12 p.x13 p.x14 p.x15 p.x16 p.x17 p.x18 p.x19 xo22 xs4 xs5 xs6

/-- The run at the last point, over the bundled arguments. -/
abbrev runC (c : Dev nD) (p : Pt F) (hc0 : ¬cond0_0 p.i) (hc1 : cond0_1 p.i) (xo22 : Vec F S8x128x128 .f32) (xs4 : Vec F S40x1024 .f32) (xs5 : Vec F S248x1024 .f32) (xs6 : Vec F S128x1024 .f32) :=
  kernelRun0_C c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.arg19 p.harg19 p.arg20 p.harg20 p.arg21 p.harg21 p.arg22 p.harg22 p.arg23 p.harg23 p.arg24 p.harg24 p.arg25 p.harg25 p.arg26 p.harg26 p.arg27 p.harg27 p.arg28 p.harg28 p.arg29 p.harg29 p.arg30 p.harg30 hc0 hc1 p.x0 p.x1 p.x2 p.x3 p.x4 p.x5 p.x6 p.x7 p.x8 p.x9 p.x10 p.x11 p.x12 p.x13 p.x14 p.x15 p.x16 p.x17 p.x18 p.x19 xo22 xs4 xs5 xs6
/-- Case A stores nothing into output 21 (the window is idle at its points and not written back there):
    no pieces — a placeholder (junk read back) that nothing consults, since at these points the window is neither
    written back nor read at the next point. -/
def out0_A_21 (c : Dev nD) (p : Pt F) (hc0 : cond0_0 p.i) (hc1 : ¬cond0_1 p.i)
    : Vec F S40x1024 .f32 :=
  VO0_21.read (Elt F) (VO0_21.writes (Elt F) VO0_21.junk (runA c p hc0 hc1).1)

/-- Case A's pieces for output 22 are of SEVERAL sizes (9 stores of `S1x128x128`, `S8x128x128`): cut into blocks of `![1, 128, 128]` they tile its block, so they cover it. -/
theorem cover0_A_22 (c : Dev nD) (p : Pt F) (hc0 : cond0_0 p.i) (hc1 : ¬cond0_1 p.i)
    (y : S8x128x128.Idx) :
    ∃ pc ∈ (runA c p hc0 hc1).2.1, y ∈ pc.1.set :=
  View.cover_of_tiledBy (runA c p hc0 hc1).2.1 ![1, 128, 128] (by sl_kernel_rfl) y

/-- What case A leaves in output 22's staging buffer: its pieces read back over junk. -/
def out0_A_22 (c : Dev nD) (p : Pt F) (hc0 : cond0_0 p.i) (hc1 : ¬cond0_1 p.i)
    : Vec F S8x128x128 .f32 :=
  VO0_22.read (Elt F) (VO0_22.writes (Elt F) VO0_22.junk (runA c p hc0 hc1).2.1)

/-- Case A's pieces for scratch `arg28`, which the kernel carries between points, cover it: one of them a store of the WHOLE buffer. -/
theorem scover0_A_4 (c : Dev nD) (p : Pt F) (hc0 : cond0_0 p.i) (hc1 : ¬cond0_1 p.i)
    (y : S40x1024.Idx) :
    ∃ pc ∈ (runA c p hc0 hc1).2.2.1, y ∈ pc.1.set :=
  View.cover_of_wholeMem (runA c p hc0 hc1).2.2.1 (by sl_whole_mem) y

/-- What case A leaves in scratch `arg28`: its pieces read back over junk. -/
def sout0_A_4 (c : Dev nD) (p : Pt F) (hc0 : cond0_0 p.i) (hc1 : ¬cond0_1 p.i)
    : Vec F S40x1024 .f32 :=
  VS0_4.read (Elt F) (VS0_4.writes (Elt F) VS0_4.junk (runA c p hc0 hc1).2.2.1)

/-- Case A's pieces for scratch `arg29`, which the kernel carries between points, cover it: one of them a store of the WHOLE buffer. -/
theorem scover0_A_5 (c : Dev nD) (p : Pt F) (hc0 : cond0_0 p.i) (hc1 : ¬cond0_1 p.i)
    (y : S248x1024.Idx) :
    ∃ pc ∈ (runA c p hc0 hc1).2.2.2.1, y ∈ pc.1.set :=
  View.cover_of_wholeMem (runA c p hc0 hc1).2.2.2.1 (by sl_whole_mem) y

/-- What case A leaves in scratch `arg29`: its pieces read back over junk. -/
def sout0_A_5 (c : Dev nD) (p : Pt F) (hc0 : cond0_0 p.i) (hc1 : ¬cond0_1 p.i)
    : Vec F S248x1024 .f32 :=
  VS0_5.read (Elt F) (VS0_5.writes (Elt F) VS0_5.junk (runA c p hc0 hc1).2.2.2.1)

/-- Case A's pieces for scratch `arg30`, which the kernel carries between points, cover it: one of them a store of the WHOLE buffer. -/
theorem scover0_A_6 (c : Dev nD) (p : Pt F) (hc0 : cond0_0 p.i) (hc1 : ¬cond0_1 p.i)
    (y : S128x1024.Idx) :
    ∃ pc ∈ (runA c p hc0 hc1).2.2.2.2.1, y ∈ pc.1.set :=
  View.cover_of_wholeMem (runA c p hc0 hc1).2.2.2.2.1 (by sl_whole_mem) y

/-- What case A leaves in scratch `arg30`: its pieces read back over junk. -/
def sout0_A_6 (c : Dev nD) (p : Pt F) (hc0 : cond0_0 p.i) (hc1 : ¬cond0_1 p.i)
    : Vec F S128x1024 .f32 :=
  VS0_6.read (Elt F) (VS0_6.writes (Elt F) VS0_6.junk (runA c p hc0 hc1).2.2.2.2.1)

/-- Case B stores nothing into output 21 (the window is idle at its points and not written back there):
    no pieces — a placeholder (junk read back) that nothing consults, since at these points the window is neither
    written back nor read at the next point. -/
def out0_B_21 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) : Vec F S40x1024 .f32 :=
  VO0_21.read (Elt F) (VO0_21.writes (Elt F) VO0_21.junk (runB c p hc0 hc1 xo22 xs4 xs5 xs6).1)

/-- Case B's pieces for output 22 tile its block (8 stores of `S1x128x128`, checked by the kernel's evaluation: `Piece.tiledL`, linear in the pieces, through a loop's `@[irreducible]` trip theorem too), so they cover it. -/
theorem cover0_B_22 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) (y : S8x128x128.Idx) :
    ∃ pc ∈ (runB c p hc0 hc1 xo22 xs4 xs5 xs6).2.1, y ∈ pc.1.set :=
  View.cover_of_tiledL (runB c p hc0 hc1 xo22 xs4 xs5 xs6).2.1 S1x128x128.size (by sl_kernel_rfl) y

/-- What case B leaves in output 22's staging buffer: its pieces read back over junk. -/
def out0_B_22 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) : Vec F S8x128x128 .f32 :=
  VO0_22.read (Elt F) (VO0_22.writes (Elt F) VO0_22.junk (runB c p hc0 hc1 xo22 xs4 xs5 xs6).2.1)

/-- Case B's pieces for scratch `arg28`, which the kernel carries between points, cover it: 8 pieces of `S8x1024` tiling it. -/
theorem scover0_B_4 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) (y : S40x1024.Idx) :
    ∃ pc ∈ (runB c p hc0 hc1 xo22 xs4 xs5 xs6).2.2.1, y ∈ pc.1.set :=
  View.cover_of_tiledL (runB c p hc0 hc1 xo22 xs4 xs5 xs6).2.2.1 S8x1024.size (by sl_kernel_rfl) y

/-- What case B leaves in scratch `arg28`: its pieces read back over junk. -/
def sout0_B_4 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) : Vec F S40x1024 .f32 :=
  VS0_4.read (Elt F) (VS0_4.writes (Elt F) VS0_4.junk (runB c p hc0 hc1 xo22 xs4 xs5 xs6).2.2.1)

/-- Case B's pieces for scratch `arg29`, which the kernel carries between points, cover it: 248 pieces of `S8x128` tiling it. -/
theorem scover0_B_5 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) (y : S248x1024.Idx) :
    ∃ pc ∈ (runB c p hc0 hc1 xo22 xs4 xs5 xs6).2.2.2.1, y ∈ pc.1.set :=
  View.cover_of_tiledL (runB c p hc0 hc1 xo22 xs4 xs5 xs6).2.2.2.1 S8x128.size (by sl_kernel_rfl) y

/-- What case B leaves in scratch `arg29`: its pieces read back over junk. -/
def sout0_B_5 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) : Vec F S248x1024 .f32 :=
  VS0_5.read (Elt F) (VS0_5.writes (Elt F) VS0_5.junk (runB c p hc0 hc1 xo22 xs4 xs5 xs6).2.2.2.1)

/-- Case B's pieces for scratch `arg30`, which the kernel carries between points, cover it: 8 pieces of `S128x128` tiling it. -/
theorem scover0_B_6 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) (y : S128x1024.Idx) :
    ∃ pc ∈ (runB c p hc0 hc1 xo22 xs4 xs5 xs6).2.2.2.2.1, y ∈ pc.1.set :=
  View.cover_of_tiledL (runB c p hc0 hc1 xo22 xs4 xs5 xs6).2.2.2.2.1 S128x128.size (by sl_kernel_rfl) y

/-- What case B leaves in scratch `arg30`: its pieces read back over junk. -/
def sout0_B_6 (c : Dev nD) (p : Pt F) (hc0 : ¬cond0_0 p.i) (hc1 : ¬cond0_1 p.i)
    (xo22 : Vec F S8x128x128 .f32) (xs4 : Vec F S40x1024 .f32) (xs5 : Vec F S248x1024 .f32) (xs6 : Vec F S128x1024 .f32) : Vec F S128x1024 .f32 :=
  VS0_6.read (Elt F) (VS0_6.writes (Elt F) VS0_6.junk (runB c p hc0 hc1 xo22 xs4 xs5 xs6).2.2.2.2.1)

/-- Case C's pieces for output 21 are of SEVERAL sizes (47 stores of `S1x1024`, `S1x128`, `S40x1024`): cut into blocks of `![1, 128]` they tile its block, so they cover it. -/
theorem cover0_C_21 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) (y : S40x1024.Idx) :
    ∃ pc ∈ (runC c p hc0 hc1 xo22 xs4 xs5 xs6).1, y ∈ pc.1.set :=
  View.cover_of_tiledBy (runC c p hc0 hc1 xo22 xs4 xs5 xs6).1 ![1, 128] (by sl_kernel_rfl) y

/-- What case C leaves in output 21's staging buffer: its pieces read back over junk. -/
def out0_C_21 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) : Vec F S40x1024 .f32 :=
  VO0_21.read (Elt F) (VO0_21.writes (Elt F) VO0_21.junk (runC c p hc0 hc1 xo22 xs4 xs5 xs6).1)

/-- Case C's pieces for output 22 tile its block (8 stores of `S1x128x128`, checked by the kernel's evaluation: `Piece.tiledL`, linear in the pieces, through a loop's `@[irreducible]` trip theorem too), so they cover it. -/
theorem cover0_C_22 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) (y : S8x128x128.Idx) :
    ∃ pc ∈ (runC c p hc0 hc1 xo22 xs4 xs5 xs6).2.1, y ∈ pc.1.set :=
  View.cover_of_tiledL (runC c p hc0 hc1 xo22 xs4 xs5 xs6).2.1 S1x128x128.size (by sl_kernel_rfl) y

/-- What case C leaves in output 22's staging buffer: its pieces read back over junk. -/
def out0_C_22 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) : Vec F S8x128x128 .f32 :=
  VO0_22.read (Elt F) (VO0_22.writes (Elt F) VO0_22.junk (runC c p hc0 hc1 xo22 xs4 xs5 xs6).2.1)

/-- Case C's pieces for scratch `arg28`, which the kernel carries between points, cover it: 8 pieces of `S8x1024` tiling it. -/
theorem scover0_C_4 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) (y : S40x1024.Idx) :
    ∃ pc ∈ (runC c p hc0 hc1 xo22 xs4 xs5 xs6).2.2.1, y ∈ pc.1.set :=
  View.cover_of_tiledL (runC c p hc0 hc1 xo22 xs4 xs5 xs6).2.2.1 S8x1024.size (by sl_kernel_rfl) y

/-- What case C leaves in scratch `arg28`: its pieces read back over junk. -/
def sout0_C_4 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) : Vec F S40x1024 .f32 :=
  VS0_4.read (Elt F) (VS0_4.writes (Elt F) VS0_4.junk (runC c p hc0 hc1 xo22 xs4 xs5 xs6).2.2.1)

/-- Case C's pieces for scratch `arg29`, which the kernel carries between points, cover it: 248 pieces of `S8x128` tiling it. -/
theorem scover0_C_5 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) (y : S248x1024.Idx) :
    ∃ pc ∈ (runC c p hc0 hc1 xo22 xs4 xs5 xs6).2.2.2.1, y ∈ pc.1.set :=
  View.cover_of_tiledL (runC c p hc0 hc1 xo22 xs4 xs5 xs6).2.2.2.1 S8x128.size (by sl_kernel_rfl) y

/-- What case C leaves in scratch `arg29`: its pieces read back over junk. -/
def sout0_C_5 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) : Vec F S248x1024 .f32 :=
  VS0_5.read (Elt F) (VS0_5.writes (Elt F) VS0_5.junk (runC c p hc0 hc1 xo22 xs4 xs5 xs6).2.2.2.1)

/-- Case C's pieces for scratch `arg30`, which the kernel carries between points, cover it: 8 pieces of `S128x128` tiling it. -/
theorem scover0_C_6 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) (y : S128x1024.Idx) :
    ∃ pc ∈ (runC c p hc0 hc1 xo22 xs4 xs5 xs6).2.2.2.2.1, y ∈ pc.1.set :=
  View.cover_of_tiledL (runC c p hc0 hc1 xo22 xs4 xs5 xs6).2.2.2.2.1 S128x128.size (by sl_kernel_rfl) y

/-- What case C leaves in scratch `arg30`: its pieces read back over junk. -/
def sout0_C_6 (c : Dev nD) (p : Pt F) (hc0 : ¬cond0_0 p.i) (hc1 : cond0_1 p.i)
    (xo22 : Vec F S8x128x128 .f32) (xs4 : Vec F S40x1024 .f32) (xs5 : Vec F S248x1024 .f32) (xs6 : Vec F S128x1024 .f32) : Vec F S128x1024 .f32 :=
  VS0_6.read (Elt F) (VS0_6.writes (Elt F) VS0_6.junk (runC c p hc0 hc1 xo22 xs4 xs5 xs6).2.2.2.2.1)

end Cert.SguBwdIdeal.Named
-- ==== Proof.SguFrame.lean ====
/- The frame of the branch's backward kernel with its last two outputs named: what the body leaves at each
   point, the accumulation over the points, and the run of the whole program. -/
module

public import proofs.«01_k».proof.Proof.SguOuts
public import Idealize.ShloMosaic.Lib.Claim

@[expose] public section

set_option maxRecDepth 16384

noncomputable section

namespace Cert.SguBwdIdeal.Named

open Cert.SguBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S40x1024 .f32 × Vec F S8x128x128 .f32 × Vec F S40x1024 .f32 × Vec F S248x1024 .f32 × Vec F S128x1024 .f32
  | 0, hn => (out0_A_21 c (pt m c ⟨0, hn⟩) ((hcond0_0 ⟨0, hn⟩).mpr (Nat.zero_mod _)) (fun h => (fun h => by (try dsimp only at h); omega) ((hcond0_1 ⟨0, hn⟩).mp h)), out0_A_22 c (pt m c ⟨0, hn⟩) ((hcond0_0 ⟨0, hn⟩).mpr (Nat.zero_mod _)) (fun h => (fun h => by (try dsimp only at h); omega) ((hcond0_1 ⟨0, hn⟩).mp h)), sout0_A_4 c (pt m c ⟨0, hn⟩) ((hcond0_0 ⟨0, hn⟩).mpr (Nat.zero_mod _)) (fun h => (fun h => by (try dsimp only at h); omega) ((hcond0_1 ⟨0, hn⟩).mp h)), sout0_A_5 c (pt m c ⟨0, hn⟩) ((hcond0_0 ⟨0, hn⟩).mpr (Nat.zero_mod _)) (fun h => (fun h => by (try dsimp only at h); omega) ((hcond0_1 ⟨0, hn⟩).mp h)), sout0_A_6 c (pt m c ⟨0, hn⟩) ((hcond0_0 ⟨0, hn⟩).mpr (Nat.zero_mod _)) (fun h => (fun h => by (try dsimp only at h); omega) ((hcond0_1 ⟨0, hn⟩).mp h)))
  | n + 1, hn =>
    if h0 : (n + 1) % 32 = 0 then
      if h1 : (n + 1) % 32 = 31 then
        False.elim (by have hN : n + 1 < 32 := lt_of_lt_of_eq hn (show cfg0.N = 32 from N_0); omega)
      else
        (out0_A_21 c (pt m c ⟨n + 1, hn⟩) ((hcond0_0 ⟨n + 1, hn⟩).mpr h0) (fun h => h1 ((hcond0_1 ⟨n + 1, hn⟩).mp h)), out0_A_22 c (pt m c ⟨n + 1, hn⟩) ((hcond0_0 ⟨n + 1, hn⟩).mpr h0) (fun h => h1 ((hcond0_1 ⟨n + 1, hn⟩).mp h)), sout0_A_4 c (pt m c ⟨n + 1, hn⟩) ((hcond0_0 ⟨n + 1, hn⟩).mpr h0) (fun h => h1 ((hcond0_1 ⟨n + 1, hn⟩).mp h)), sout0_A_5 c (pt m c ⟨n + 1, hn⟩) ((hcond0_0 ⟨n + 1, hn⟩).mpr h0) (fun h => h1 ((hcond0_1 ⟨n + 1, hn⟩).mp h)), sout0_A_6 c (pt m c ⟨n + 1, hn⟩) ((hcond0_0 ⟨n + 1, hn⟩).mpr h0) (fun h => h1 ((hcond0_1 ⟨n + 1, hn⟩).mp h)))
    else
      if h1 : (n + 1) % 32 = 31 then
        (out0_C_21 c (pt m c ⟨n + 1, hn⟩) (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_C_22 c (pt m c ⟨n + 1, hn⟩) (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_4 c (pt m c ⟨n + 1, hn⟩) (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_5 c (pt m c ⟨n + 1, hn⟩) (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_6 c (pt m c ⟨n + 1, hn⟩) (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_21 c (pt m c ⟨n + 1, hn⟩) (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_22 c (pt m c ⟨n + 1, hn⟩) (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_4 c (pt m c ⟨n + 1, hn⟩) (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_5 c (pt m c ⟨n + 1, hn⟩) (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_6 c (pt m c ⟨n + 1, hn⟩) (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 32 = 0) (h1 : ¬t.val % 32 = 31) :
    outsAt0 m c t.val t.isLt = (out0_A_21 c (pt m c t) ((hcond0_0 t).mpr h0) (fun h => h1 ((hcond0_1 t).mp h)), out0_A_22 c (pt m c t) ((hcond0_0 t).mpr h0) (fun h => h1 ((hcond0_1 t).mp h)), sout0_A_4 c (pt m c t) ((hcond0_0 t).mpr h0) (fun h => h1 ((hcond0_1 t).mp h)), sout0_A_5 c (pt m c t) ((hcond0_0 t).mpr h0) (fun h => h1 ((hcond0_1 t).mp h)), sout0_A_6 c (pt m c t) ((hcond0_0 t).mpr h0) (fun h => h1 ((hcond0_1 t).mp h))) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_21 c (pt m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_22 c (pt m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_4 c (pt m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_5 c (pt m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_6 c (pt m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_21 c (pt m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_22 c (pt m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_4 c (pt m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_5 c (pt m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_6 c (pt m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.1) ∗ owns (c : Thread nD τ) scM0_5 fullShare ((outsAt0 m c n hn).2.2.2.1) ∗ owns (c : Thread nD τ) scM0_6 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.1) ∗ owns (c : Thread nD τ) scM0_5 fullShare ((outsAt0 m c n hn).2.2.2.1) ∗ owns (c : Thread nD τ) scM0_6 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).2.2.1) ∗ owns (c : Thread nD τ) scM0_5 fullShare ((outsAt0 m c (n - 1) (by omega)).2.2.2.1) ∗ owns (c : Thread nD τ) scM0_6 fullShare ((outsAt0 m c (n - 1) (by omega)).2.2.2.2)) ∗ (∃ r, prngReg c r)) := by
  cases n with
  | zero => exact absurd rfl hz
  | succ n => rfl

/-! ## The pipeline's proof data -/

/-- The output windows this certificate FORGETS (20): nothing reads what the kernel leaves in them, so nothing
    of it is named. -/
def forgets0 : Fin 23 → Bool := fun w => w.val == 20
theorem forgets0_21 : forgets0 (21 : Fin 23) = false := by decide
theorem forgets0_22 : forgets0 (22 : Fin 23) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨21, _⟩ => (outsAt0 m c t.val t.isLt).1
    | ⟨22, _⟩ => (outsAt0 m c t.val t.isLt).2.1
    | ⟨_ + 23, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_21 (c : Dev nD) (t : Fin cfg0.N) : (dats m 0 c).after 21 t = (outsAt0 m c t.val t.isLt).1 := by dsimp only [dats]
theorem after0_22 (c : Dev nD) (t : Fin cfg0.N) : (dats m 0 c).after 22 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
/-- At a point of case B output 22's current staging buffer holds what the body left at the point before: the point is
    not the first, the buffer was not written back between (`flush0_22`), the window is live and uncut. -/
theorem before0_22_B (c : Dev nD) (t : Fin cfg0.N) (h0 : ¬t.val % 32 = 0) (h1 : ¬t.val % 32 = 31) (d) :
    (dats m 0 c).before 22 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]
/-- At a point of case C output 22's current staging buffer holds what the body left at the point before: the point is
    not the first, the buffer was not written back between (`flush0_22`), the window is live and uncut. -/
theorem before0_22_C (c : Dev nD) (t : Fin cfg0.N) (h0 : ¬t.val % 32 = 0) (h1 : t.val % 32 = 31) (d) :
    (dats m 0 c).before 22 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (dats m 0 c).leavesExact 21 t
    ∗ (dats m 0 c).leavesExact 22 t)

set_option maxHeartbeats 33600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [show (dats m 0 c).leavesExact 22 t = owns (c : Thread nD τ) (ms0_22 t) fullShare ((dats m 0 c).after 22 t) from by
    unfold Dat.leavesExact; rw [liveAt0_22 t], after0_22]
  by_cases h0 : t.val % 32 = 0
  · by_cases h1 : t.val % 32 = 31
    · exfalso; omega
    · rw [Dat.leavesExact_idle (dats m 0 c) 21 t (idleAt0_21_A t ((hcond0_0 t).mpr h0) (fun h => h1 ((hcond0_1 t).mp h))) (noFlush0_21_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_22 sout0_A_4 sout0_A_5 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((runA c (pt m c t) ((hcond0_0 t).mpr h0) (fun h => h1 ((hcond0_1 t).mp h))).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [H21]; · iexact H21
        isplitl [H22]; · iexists _; iexact H22
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, H14, H15, H16, H17, H18, H19, H20, H21, ⟨%e22, H22⟩, HS0, HS1, HS2, ⟨%fT3, HS3⟩, ⟨%es4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_A_4 c _ _ _)
            isplitl [HS5]
            · unfold owns; iexists _; isplitr
              swap; · iexact HS5
              ipureintro; exact View.read_writes_of_cover _ _ _ _ _ (scover0_A_5 c _ _ _)
            unfold owns; iexists _; isplitr
            swap; · iexact HS6
            ipureintro; exact View.read_writes_of_cover _ _ _ _ _ (scover0_A_6 c _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        unfold owns; iexists _; isplitr
        swap; · iexact H22
        ipureintro; exact View.read_writes_of_cover _ _ _ _ _ (cover0_A_22 c _ _ _)
      · exfalso; have hN : t.val < 32 := lt_of_lt_of_eq t.isLt (show cfg0.N = 32 from N_0); omega
  · by_cases h1 : t.val % 32 = 31
    · rw [show (dats m 0 c).leavesExact 21 t = owns (c : Thread nD τ) (ms0_21 t) fullShare ((dats m 0 c).after 21 t) from by
      unfold Dat.leavesExact; rw [liveAt0_21_C t (fun h => h0 ((hcond0_0 t).mp h)) ((hcond0_1 t).mpr h1)], after0_21]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_22_C m c t h0 h1]
        unfold out0_C_21 out0_C_22 sout0_C_4 sout0_C_5 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((runC c (pt m c t) (fun h => h0 ((hcond0_0 t).mp h)) ((hcond0_1 t).mpr h1) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [H21]; · iexists _; iexact H21
        isplitl [H22]; · iexact H22
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, H14, H15, H16, H17, H18, H19, H20, ⟨%e21, H21⟩, ⟨%e22, H22⟩, HS0, HS1, HS2, ⟨%fT3, HS3⟩, ⟨%es4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_C_4 c _ _ _ _ _ _ _)
            isplitl [HS5]
            · unfold owns; iexists _; isplitr
              swap; · iexact HS5
              ipureintro; exact View.read_writes_of_cover _ _ _ _ _ (scover0_C_5 c _ _ _ _ _ _ _)
            unfold owns; iexists _; isplitr
            swap; · iexact HS6
            ipureintro; exact View.read_writes_of_cover _ _ _ _ _ (scover0_C_6 c _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]
        · unfold owns; iexists _; isplitr
          swap; · iexact H21
          ipureintro; exact View.read_writes_of_cover _ _ _ _ _ (cover0_C_21 c _ _ _ _ _ _ _)
        unfold owns; iexists _; isplitr
        swap; · iexact H22
        ipureintro; exact View.read_writes_of_cover _ _ _ _ _ (cover0_C_22 c _ _ _ _ _ _ _)
    · rw [Dat.leavesExact_idle (dats m 0 c) 21 t (idleAt0_21_B t (fun h => h0 ((hcond0_0 t).mp h)) (fun h => h1 ((hcond0_1 t).mp h))) (noFlush0_21_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_22_B m c t h0 h1]
        unfold out0_B_22 sout0_B_4 sout0_B_5 sout0_B_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((runB c (pt m c t) (fun h => h0 ((hcond0_0 t).mp h)) (fun h => h1 ((hcond0_1 t).mp h)) _ _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [H21]; · iexact H21
        isplitl [H22]; · iexact H22
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, H14, H15, H16, H17, H18, H19, H20, H21, ⟨%e22, H22⟩, HS0, HS1, HS2, ⟨%fT3, HS3⟩, ⟨%es4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_B_4 c _ _ _ _ _ _ _)
            isplitl [HS5]
            · unfold owns; iexists _; isplitr
              swap; · iexact HS5
              ipureintro; exact View.read_writes_of_cover _ _ _ _ _ (scover0_B_5 c _ _ _ _ _ _ _)
            unfold owns; iexists _; isplitr
            swap; · iexact HS6
            ipureintro; exact View.read_writes_of_cover _ _ _ _ _ (scover0_B_6 c _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        unfold owns; iexists _; isplitr
        swap; · iexact H22
        ipureintro; exact View.read_writes_of_cover _ _ _ _ _ (cover0_B_22 c _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexact HS1
    isplitl [HS2]
    · iexact HS2
    isplitl [HS3]
    · iexact HS3
    isplitl [HS4]
    · iexists _; iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 20), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

/-- The frame: the program ends from any memory with zero counters, its argument arrays unchanged and the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.SguBwdIdeal.Named

end
-- ==== Proof.SguBits.lean ====
/- The frame of the call at the bit-exact values. Its program and the ideal one are the same text, so the frame proved
   over any values is its frame too. -/
module

public import proofs.«01_k».proof.Defs
public import proofs.«01_k».proof.Proof.SguFrame
public import proofs.«01_k».proof.Proof.Gen.SguBwd

@[expose] public section

noncomputable section

namespace Cert.SguBwdIdeal.Named

open Cert.SguBwdIdeal.Gen
open Idealize.ShloMosaic Idealize.ShloMosaic.TcCoe Idealize.SL.Sem

/-- The frame at the bit-exact values, spelled with the ideal program's names. -/
def FrameBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

theorem frameBits : FrameBits := fun m ρ _ => frame m ρ

/-- The bit-exact program's frame claim is that statement: the two programs unfold to the same text. -/
theorem quiescent_eq : Cert.quiescent_SguBwd = FrameBits := by sl_kernel_rfl

theorem quiescent : Cert.quiescent_SguBwd := quiescent_eq.mpr frameBits

end Cert.SguBwdIdeal.Named

end
-- ==== Proof.SguMath.lean ====
/- The gating unit of the second branch, row by row, over the extended reals: the layer norm of a row, its affine image,
   and the gradient that reaches the mixed rows. -/
module

public import Idealize.ShloMosaic.Lib.Pointwise

@[expose] public section

set_option maxRecDepth 16384

noncomputable section

namespace Cert.Sgu

open Idealize.ShloMosaic

/-- The mean of a row of 1024 values. -/
def mean (v : Fin 1024 → EReal) : EReal := Ideal.div (∑ k, v k) (Ideal.ofBits .f32 0x44800000#32)

/-- The row less its mean. -/
def cent (v : Fin 1024 → EReal) (k : Fin 1024) : EReal := v k - mean v

/-- The row less its mean, divided by the root of its variance plus a small constant. -/
def unit (v : Fin 1024 → EReal) (k : Fin 1024) : EReal :=
  cent v k * Ideal.rsqrt (mean (fun j => cent v j * cent v j) + Ideal.ofBits .f32 0x358637BD#32)

/-- What reaches a mixed value: the gradient of the gated product times the other factor and the gate. -/
def gated (u g d : EReal) : EReal := d * u * (g * Ideal.logistic g)

/-- A sum that starts from the zero constant. -/
theorem zero_add' (x : EReal) : Ideal.ofBits .f32 0x00000000#32 + x = x := by
  rw [show Ideal.ofBits .f32 0x00000000#32 = 0 by pointwise, zero_add]

end Cert.Sgu

end
-- ==== Proof.SguSigmoid.lean ====
module

public import Idealize.ShloMosaic.PureOps.Ideal
public import Idealize.ShloMosaic.Lib.Pointwise

@[expose] public section

namespace Cert.SguBwdIdeal.Named

open Idealize.ShloMosaic

/-- Half of a hyperbolic tangent of half the argument plus a half is the logistic function, on all extended reals. -/
theorem half_tanh (x : EReal) :
    ((0.5 : ℝ) : EReal) * Ideal.tanh (((0.5 : ℝ) : EReal) * x) + ((0.5 : ℝ) : EReal) = Ideal.logistic x := by
  induction x with
  | bot =>
    rw [EReal.coe_mul_bot_of_pos (by norm_num), Ideal.tanh_bot, Ideal.logistic_bot, show (-1 : EReal) = ((-1 : ℝ) : EReal) by simp,
      ← EReal.coe_mul, ← EReal.coe_add, ← EReal.coe_zero]
    norm_num
  | top =>
    rw [EReal.coe_mul_top_of_pos (by norm_num), Ideal.tanh_top, Ideal.logistic_top, mul_one, ← EReal.coe_add, ← EReal.coe_one]
    norm_num
  | coe r =>
    rw [← EReal.coe_mul, Ideal.tanh_coe, Ideal.logistic_coe, ← EReal.coe_mul, ← EReal.coe_add, EReal.coe_eq_coe_iff,
      Real.tanh_eq_sinh_div_cosh, Real.sinh_eq, Real.cosh_eq]
    have h : Real.exp (-r) = Real.exp (-(0.5 * r)) * Real.exp (-(0.5 * r)) := by rw [← Real.exp_add]; congr 1; ring
    have h1 : Real.exp (0.5 * r) * Real.exp (-(0.5 * r)) = 1 := by rw [← Real.exp_add]; simp
    have p := Real.exp_pos (0.5 * r)
    have q := Real.exp_pos (-(0.5 * r))
    rw [h]
    field_simp
    nlinarith

end Cert.SguBwdIdeal.Named
-- ==== Proof.SguHead.lean ====
/- One head of the branch's backward kernel at one grid point: the entries of the three pieces it stores. -/
module

public import proofs.«01_k».proof.Proof.Gen.SguBwdIdeal.Skeleton
public import Idealize.ShloMosaic.Lib.Pointwise
public import Idealize.ShloMosaic.Lib.Pipeline.Value
public import proofs.«01_k».proof.Proof.SguMath
public import proofs.«01_k».proof.Proof.SguSigmoid

@[expose] public section

set_option maxRecDepth 16384

noncomputable section

namespace Cert.SguBwdIdeal.Named

open Cert.SguBwdIdeal.Gen
open Idealize.ShloMosaic Idealize.ShloMosaic.TcCoe Idealize.ShloMosaic.Tactic

/-- A square block of narrow values. -/
abbrev Blk := Vec Ideal S128x128 .bf16

/-- The weights' piece of one head: what was there, plus the products of the two blocks of rows. -/
def headW (n0 n1 u0 g0 d0 u1 g1 d1 : Blk) (prev : Vec Ideal S1x128x128 .f32) : FVec Ideal S1x128x128 .f32 :=
  k0_pay1145 (k0_pay1130 (k0_pay1116 (F := Ideal)) n0 (k0_pay1120 u0) (k0_pay1122 d0) (k0_pay1124 g0)) n1 (k0_pay1135 u1) (k0_pay1137 d1) (k0_pay1139 g1) prev

/-- The biases' piece of one head: what was there, plus the two blocks of rows. -/
def headB (u0 g0 d0 u1 g1 d1 : Blk) (prev : Vec Ideal S128x128 .f32) : FVec Ideal S128x128 .f32 :=
  k0_pay1146 (k0_pay1131 (k0_pay1117 (F := Ideal)) (k0_pay1120 u0) (k0_pay1122 d0) (k0_pay1124 g0)) (k0_pay1135 u1) (k0_pay1137 d1) (k0_pay1139 g1) prev

/-- The gradient of the mixed rows of one head: the weights times the gated gradient. -/
def headV (w : Vec Ideal S1x128x128 .bf16) (u g d : Blk) : FVec Ideal S128x128 .f32 :=
  k0_pay1132 (k0_pay1114 w) (k0_pay1120 u) (k0_pay1122 d) (k0_pay1124 g)

/-- The gated gradient of a block, at an index. -/
def dmAt (u g d : Blk) (p k : Fin 128) : EReal := Cert.Sgu.gated (u (ix2 p k)) (g (ix2 p k)) (d (ix2 p k))

/-- A half. -/
theorem half_lit : Ideal.ofBits .f32 0x3F000000#32 = ((0.5 : ℝ) : EReal) := by
  simp [Ideal.ofBits, Ideal.ieee, -EReal.coe_mul]; norm_num

theorem silu0 (g : Blk) (p k : Fin 128) : k0_pay1124 g (ix2 p k) = g (ix2 p k) * Ideal.logistic (g (ix2 p k)) := by
  rw [← half_tanh, ← half_lit]
  pointwise [k0_pay1124, k0_pay1121, k0_pay1123]
  done

theorem silu1 (g : Blk) (p k : Fin 128) : k0_pay1139 g (ix2 p k) = g (ix2 p k) * Ideal.logistic (g (ix2 p k)) := by
  rw [← half_tanh, ← half_lit]
  pointwise [k0_pay1139, k0_pay1136, k0_pay1138]
  done

theorem dm0 (u g d : Blk) (p k : Fin 128) : k0_pay1128 (k0_pay1120 u) (k0_pay1122 d) (k0_pay1124 g) (ix2 p k) = dmAt u g d p k := by
  have h := silu0 g p k
  generalize k0_pay1124 g = s at h
  unfold dmAt Cert.Sgu.gated
  rw [← h]
  pointwise [k0_pay1128, k0_pay1120, k0_pay1122]
  done

theorem dm0n (u g d : Blk) (p k : Fin 128) : k0_pay1129 (k0_pay1120 u) (k0_pay1122 d) (k0_pay1124 g) (ix2 p k) = dmAt u g d p k := dm0 u g d p k

theorem dm1 (u g d : Blk) (p k : Fin 128) : k0_pay1142 (k0_pay1135 u) (k0_pay1137 d) (k0_pay1139 g) (ix2 p k) = dmAt u g d p k := by
  have h := silu1 g p k
  generalize k0_pay1139 g = s at h
  unfold dmAt Cert.Sgu.gated
  rw [← h]
  pointwise [k0_pay1142, k0_pay1135, k0_pay1137]
  done

theorem dm1n (u g d : Blk) (p k : Fin 128) : k0_pay1143 (k0_pay1135 u) (k0_pay1137 d) (k0_pay1139 g) (ix2 p k) = dmAt u g d p k := dm1 u g d p k

/-- The biases' piece of one head at an entry. -/
theorem headB_at (u0 g0 d0 u1 g1 d1 : Blk) (prev : Vec Ideal S128x128 .f32) (p k : Fin 128) :
    headB u0 g0 d0 u1 g1 d1 prev (ix2 p k) = prev (ix2 p k) + (dmAt u0 g0 d0 p k + dmAt u1 g1 d1 p k) := by
  rw [← dm0, ← dm1]
  unfold headB k0_pay1146 k0_pay1131
  generalize k0_pay1128 (k0_pay1120 u0) (k0_pay1122 d0) (k0_pay1124 g0) = a
  generalize k0_pay1142 (k0_pay1135 u1) (k0_pay1137 d1) (k0_pay1139 g1) = b
  pointwise [k0_pay1117]
  done

/-- The mixed rows' gradient of one head at an entry. -/
theorem headV_at (w : Vec Ideal S1x128x128 .bf16) (u g d : Blk) (q k : Fin 128) :
    headV w u g d (ix2 q k) = ∑ p : Fin 128, w (ix3 0 q p) * dmAt u g d p k := by
  simp only [← dm0n]
  unfold headV k0_pay1132
  generalize k0_pay1129 (k0_pay1120 u) (k0_pay1122 d) (k0_pay1124 g) = a
  pointwise [k0_pay1114]
  done

/-- The weights' piece of one head at an entry. -/
theorem headW_at (n0 n1 u0 g0 d0 u1 g1 d1 : Blk) (prev : Vec Ideal S1x128x128 .f32) (p q : Fin 128) :
    headW n0 n1 u0 g0 d0 u1 g1 d1 prev (ix3 0 p q) = prev (ix3 0 p q)
      + ((∑ k : Fin 128, dmAt u0 g0 d0 p k * n0 (ix2 q k)) + ∑ k : Fin 128, dmAt u1 g1 d1 p k * n1 (ix2 q k)) := by
  rw [Finset.sum_congr rfl fun k _ => congrArg (· * n0 (ix2 q k)) (dm0n u0 g0 d0 p k).symm,
    Finset.sum_congr rfl fun k _ => congrArg (· * n1 (ix2 q k)) (dm1n u1 g1 d1 p k).symm]
  unfold headW k0_pay1145 k0_pay1130
  generalize k0_pay1129 (k0_pay1120 u0) (k0_pay1122 d0) (k0_pay1124 g0) = a
  generalize k0_pay1143 (k0_pay1135 u1) (k0_pay1137 d1) (k0_pay1139 g1) = b
  pointwise [k0_pay1116]
  done

end Cert.SguBwdIdeal.Named

end
-- ==== Proof.SguPieces.lean ====
/- The pieces that a grid point of the branch's backward kernel stores into the mixing weights' gradient, into the running
   bias gradient and into the scratch that holds the gradient of the normalised rows, and what they are at an entry. -/
module

public import proofs.«01_k».proof.Proof.SguOuts
public import proofs.«01_k».proof.Proof.SguHead
public import Idealize.ShloMosaic.Lib.Pipeline.ReadBack
public import Idealize.ShloMosaic.Lib.Pipeline.ValueKit

@[expose] public section

set_option maxRecDepth 16384

noncomputable section

namespace Cert.SguBwdIdeal.Named

open Cert.SguBwdIdeal.Gen
open Idealize.ShloMosaic Idealize.ShloMosaic.TcCoe Idealize.ShloMosaic.Tactic

/-- The column of head `h` at position `d`. -/
abbrev colOf (h : Fin 8) (d : Fin 128) : Fin 1024 := ⟨128 * h.val + d.val, by omega⟩

/-- The row of the first (`b = 0`) or second (`b = 1`) half of a block of 256 rows. -/
abbrev halfOf (b : Fin 2) (q : Fin 128) : Fin 256 := ⟨128 * b.val + q.val, by omega⟩

/-- The normalised row of a block. -/
def vhP (p : Pt Ideal) (r : Fin 256) (k : Fin 1024) : EReal := Cert.Sgu.unit (fun j => p.x0 (ix2 r (⟨4096 + j.val, by omega⟩ : Fin 6144))) k

/-- The normalised row times its gain, plus its bias. -/
def vnP (p : Pt Ideal) (r : Fin 256) (k : Fin 1024) : EReal := vhP p r k * p.x12 (ix2 (0 : Fin 1) k) + p.x13 (ix2 (0 : Fin 1) k)

/-- The gradient that reaches the mixed rows of a block. -/
def dmP (p : Pt Ideal) (r : Fin 256) (k : Fin 1024) : EReal :=
  Cert.Sgu.gated (p.x0 (ix2 r (⟨3072 + k.val, by omega⟩ : Fin 6144))) (p.x0 (ix2 r (⟨5120 + k.val, by omega⟩ : Fin 6144)))
    (p.x1 (ix2 r (⟨1024 + k.val, by omega⟩ : Fin 2048)))

/-- The gradient of the normalised rows of a block: the head's weights times the gradient of the mixed rows of its half. -/
def dvP (p : Pt Ideal) (r : Fin 256) (k : Fin 1024) : EReal :=
  ∑ s : Fin 128, p.x15 (ix3 (⟨k.val / 128, by omega⟩ : Fin 8) (⟨r.val % 128, by omega⟩ : Fin 128) s)
    * dmP p (⟨128 * (r.val / 128) + s.val, by omega⟩ : Fin 256) k

/-- A block of 128 by 128 entries of the projected rows, -/
abbrev Pt.t0 (p : Pt Ideal) {r o : ℕ} (h : ∀ a, (![r, o] : Fin 2 → Nat) a + S128x128.size a ≤ S256x6144.size a) :=
  View.ld p.x0 (Rect.unit (s := S256x6144) ![r, o] ![128, 128] h)

/-- of the branches' gradient, -/
abbrev Pt.t1 (p : Pt Ideal) {r o : ℕ} (h : ∀ a, (![r, o] : Fin 2 → Nat) a + S128x128.size a ≤ S256x2048.size a) :=
  View.ld p.x1 (Rect.unit (s := S256x2048) ![r, o] ![128, 128] h)

/-- and one head of the mixing weights. -/
abbrev Pt.t15 (p : Pt Ideal) {r a b : ℕ} (h : ∀ i, (![r, a, b] : Fin 3 → Nat) i + S1x128x128.size i ≤ S8x128x128.size i) :=
  View.ld p.x15 (Rect.unit (s := S8x128x128) ![r, a, b] ![1, 128, 128] h)

/-- The block of head `h` and half `b` lies in the array: in the third and in the fifth 1024 columns of the projected rows, -/
theorem inZ (b : Fin 2) (h : Fin 8) : ∀ a, (![128 * b.val, 3072 + 128 * h.val] : Fin 2 → Nat) a + S128x128.size a ≤ S256x6144.size a := by
  revert b h; decide

theorem inG (b : Fin 2) (h : Fin 8) : ∀ a, (![128 * b.val, 5120 + 128 * h.val] : Fin 2 → Nat) a + S128x128.size a ≤ S256x6144.size a := by
  revert b h; decide

/-- and in the second 1024 columns of the branches' gradient. -/
theorem inY (b : Fin 2) (h : Fin 8) : ∀ a, (![128 * b.val, 1024 + 128 * h.val] : Fin 2 → Nat) a + S128x128.size a ≤ S256x2048.size a := by
  revert b h; decide

/-- The kernel's normalised rows of a block, with gain and bias. -/
def vnOf (p : Pt Ideal) : FVec Ideal S256x1024 .bf16 :=
  k0_pay1112 (k0_pay1110 (View.ld p.x0 (Rect.unit ![0, 4096] ![256, 1024] inb_S256x6144_S256x1024_0_4096)) p.x12) (k0_pay1111 p.x13)

/-- The pieces stored into the weights' gradient. -/
def piecesW (p : Pt Ideal) (prev : Vec Ideal S8x128x128 .f32) : List (View.Piece (Elt Ideal) S8x128x128 .f32) :=
  [⟨Rect.unit ![7, 0, 0] ![1, 128, 128] inb_S8x128x128_S1x128x128_7_0_0,
      k0_pay1390 (k0_pay1387 (k0_pay1373 k0_pay1360 (k0_pay1362 (vnOf p)) (k0_pay1364 (p.t0 inb_S256x6144_S128x128_0_3968)) (k0_pay1365 (p.t0 inb_S256x6144_S128x128_0_6016)) (p.t1 inb_S256x2048_S128x128_0_1920)) (k0_pay1376 (vnOf p)) (p.t0 inb_S256x6144_S128x128_128_3968) (p.t0 inb_S256x6144_S128x128_128_6016) (p.t1 inb_S256x2048_S128x128_128_1920)) (View.ld prev (Rect.unit ![7, 0, 0] ![1, 128, 128] inb_S8x128x128_S1x128x128_7_0_0))⟩,
    ⟨Rect.unit ![6, 0, 0] ![1, 128, 128] inb_S8x128x128_S1x128x128_6_0_0,
      k0_pay1355 (k0_pay1351 (k0_pay1337 k0_pay1324 (k0_pay1326 (vnOf p)) (p.t0 inb_S256x6144_S128x128_0_3840) (p.t0 inb_S256x6144_S128x128_0_5888) (p.t1 inb_S256x2048_S128x128_0_1792)) (k0_pay1340 (vnOf p)) (p.t0 inb_S256x6144_S128x128_128_3840) (p.t0 inb_S256x6144_S128x128_128_5888) (p.t1 inb_S256x2048_S128x128_128_1792)) (View.ld prev (Rect.unit ![6, 0, 0] ![1, 128, 128] inb_S8x128x128_S1x128x128_6_0_0))⟩,
    ⟨Rect.unit ![5, 0, 0] ![1, 128, 128] inb_S8x128x128_S1x128x128_5_0_0,
      k0_pay1319 (k0_pay1317 (vnOf p) (k0_pay1302 k0_pay1288 (k0_pay1290 (vnOf p)) (p.t0 inb_S256x6144_S128x128_0_3712) (p.t0 inb_S256x6144_S128x128_0_5760) (p.t1 inb_S256x2048_S128x128_0_1664)) (p.t0 inb_S256x6144_S128x128_128_3712) (p.t0 inb_S256x6144_S128x128_128_5760) (p.t1 inb_S256x2048_S128x128_128_1664)) (View.ld prev (Rect.unit ![5, 0, 0] ![1, 128, 128] inb_S8x128x128_S1x128x128_5_0_0))⟩,
    ⟨Rect.unit ![4, 0, 0] ![1, 128, 128] inb_S8x128x128_S1x128x128_4_0_0,
      k0_pay1283 (k0_pay1267 (vnOf p) k0_pay1255 (p.t0 inb_S256x6144_S128x128_0_3584) (p.t0 inb_S256x6144_S128x128_0_5632) (p.t1 inb_S256x2048_S128x128_0_1536)) (k0_pay1270 (vnOf p)) (k0_pay1276 (p.t0 inb_S256x6144_S128x128_128_5632)) (k0_pay1279 (p.t0 inb_S256x6144_S128x128_128_3584) (p.t1 inb_S256x2048_S128x128_128_1536)) (View.ld prev (Rect.unit ![4, 0, 0] ![1, 128, 128] inb_S8x128x128_S1x128x128_4_0_0))⟩,
    ⟨Rect.unit ![3, 0, 0] ![1, 128, 128] inb_S8x128x128_S1x128x128_3_0_0,
      k0_pay1250 (k0_pay1235 k0_pay1222 (k0_pay1224 (vnOf p)) (k0_pay1233 (p.t0 inb_S256x6144_S128x128_0_3456) (p.t0 inb_S256x6144_S128x128_0_5504) (p.t1 inb_S256x2048_S128x128_0_1408))) (k0_pay1238 (vnOf p)) (k0_pay1240 (p.t0 inb_S256x6144_S128x128_128_3456)) (k0_pay1242 (p.t1 inb_S256x2048_S128x128_128_1408)) (k0_pay1244 (p.t0 inb_S256x6144_S128x128_128_5504)) (View.ld prev (Rect.unit ![3, 0, 0] ![1, 128, 128] inb_S8x128x128_S1x128x128_3_0_0))⟩,
    ⟨Rect.unit ![2, 0, 0] ![1, 128, 128] inb_S8x128x128_S1x128x128_2_0_0,
      k0_pay1217 (k0_pay1200 k0_pay1187 (k0_pay1189 (vnOf p)) (k0_pay1191 (p.t0 inb_S256x6144_S128x128_0_3328)) (k0_pay1193 (p.t1 inb_S256x2048_S128x128_0_1280)) (k0_pay1195 (p.t0 inb_S256x6144_S128x128_0_5376))) (k0_pay1203 (vnOf p)) (k0_pay1205 (p.t0 inb_S256x6144_S128x128_128_3328)) (k0_pay1207 (p.t1 inb_S256x2048_S128x128_128_1280)) (k0_pay1209 (p.t0 inb_S256x6144_S128x128_128_5376)) (View.ld prev (Rect.unit ![2, 0, 0] ![1, 128, 128] inb_S8x128x128_S1x128x128_2_0_0))⟩,
    ⟨Rect.unit ![1, 0, 0] ![1, 128, 128] inb_S8x128x128_S1x128x128_1_0_0,
      k0_pay1182 (k0_pay1166 k0_pay1150 (k0_pay1152 (vnOf p)) (k0_pay1154 (p.t0 inb_S256x6144_S128x128_0_3200)) (k0_pay1156 (p.t1 inb_S256x2048_S128x128_0_1152)) (k0_pay1158 (p.t0 inb_S256x6144_S128x128_0_5248))) (k0_pay1169 (vnOf p)) (k0_pay1171 (p.t0 inb_S256x6144_S128x128_128_3200)) (k0_pay1173 (p.t1 inb_S256x2048_S128x128_128_1152)) (k0_pay1175 (p.t0 inb_S256x6144_S128x128_128_5248)) (View.ld prev (Rect.unit ![1, 0, 0] ![1, 128, 128] inb_S8x128x128_S1x128x128_1_0_0))⟩,
    ⟨Rect.unit ![0, 0, 0] ![1, 128, 128] inb_S8x128x128_S1x128x128_0_0_0,
      k0_pay1145 (k0_pay1130 k0_pay1116 (k0_pay1118 (k0_pay1110 (View.ld p.x0 (Rect.unit ![0, 4096] ![256, 1024] inb_S256x6144_S256x1024_0_4096)) p.x12) (k0_pay1111 p.x13)) (k0_pay1120 (p.t0 inb_S256x6144_S128x128_0_3072)) (k0_pay1122 (p.t1 inb_S256x2048_S128x128_0_1024)) (k0_pay1124 (p.t0 inb_S256x6144_S128x128_0_5120))) (k0_pay1133 (vnOf p)) (k0_pay1135 (p.t0 inb_S256x6144_S128x128_128_3072)) (k0_pay1137 (p.t1 inb_S256x2048_S128x128_128_1024)) (k0_pay1139 (p.t0 inb_S256x6144_S128x128_128_5120)) (View.ld prev (Rect.unit ![0, 0, 0] ![1, 128, 128] inb_S8x128x128_S1x128x128_0_0_0))⟩]

/-- The pieces stored into the biases' running gradient. -/
def piecesB (p : Pt Ideal) (prev : Vec Ideal S128x1024 .f32) : List (View.Piece (Elt Ideal) S128x1024 .f32) :=
  [⟨Rect.unit ![0, 896] ![128, 128] inb_S128x1024_S128x128_0_896,
      k0_pay1391 (k0_pay1388 (k0_pay1374 k0_pay1361 (k0_pay1364 (p.t0 inb_S256x6144_S128x128_0_3968)) (k0_pay1365 (p.t0 inb_S256x6144_S128x128_0_6016)) (p.t1 inb_S256x2048_S128x128_0_1920)) (p.t0 inb_S256x6144_S128x128_128_3968) (p.t0 inb_S256x6144_S128x128_128_6016) (p.t1 inb_S256x2048_S128x128_128_1920)) (View.ld prev (Rect.unit ![0, 896] ![128, 128] inb_S128x1024_S128x128_0_896))⟩,
    ⟨Rect.unit ![0, 768] ![128, 128] inb_S128x1024_S128x128_0_768,
      k0_pay1356 (k0_pay1352 (k0_pay1338 k0_pay1325 (p.t0 inb_S256x6144_S128x128_0_3840) (p.t0 inb_S256x6144_S128x128_0_5888) (p.t1 inb_S256x2048_S128x128_0_1792)) (p.t0 inb_S256x6144_S128x128_128_3840) (p.t0 inb_S256x6144_S128x128_128_5888) (p.t1 inb_S256x2048_S128x128_128_1792)) (View.ld prev (Rect.unit ![0, 768] ![128, 128] inb_S128x1024_S128x128_0_768))⟩,
    ⟨Rect.unit ![0, 640] ![128, 128] inb_S128x1024_S128x128_0_640,
      k0_pay1320 (k0_pay1303 k0_pay1289 (p.t0 inb_S256x6144_S128x128_0_3712) (p.t0 inb_S256x6144_S128x128_0_5760) (p.t1 inb_S256x2048_S128x128_0_1664)) (k0_pay1315 (p.t0 inb_S256x6144_S128x128_128_3712) (p.t0 inb_S256x6144_S128x128_128_5760) (p.t1 inb_S256x2048_S128x128_128_1664)) (View.ld prev (Rect.unit ![0, 640] ![128, 128] inb_S128x1024_S128x128_0_640))⟩,
    ⟨Rect.unit ![0, 512] ![128, 128] inb_S128x1024_S128x128_0_512,
      k0_pay1284 (k0_pay1268 (p.t0 inb_S256x6144_S128x128_0_3584) (p.t0 inb_S256x6144_S128x128_0_5632) (p.t1 inb_S256x2048_S128x128_0_1536)) (k0_pay1276 (p.t0 inb_S256x6144_S128x128_128_5632)) (k0_pay1279 (p.t0 inb_S256x6144_S128x128_128_3584) (p.t1 inb_S256x2048_S128x128_128_1536)) (View.ld prev (Rect.unit ![0, 512] ![128, 128] inb_S128x1024_S128x128_0_512))⟩,
    ⟨Rect.unit ![0, 384] ![128, 128] inb_S128x1024_S128x128_0_384,
      k0_pay1251 (k0_pay1236 k0_pay1223 (k0_pay1233 (p.t0 inb_S256x6144_S128x128_0_3456) (p.t0 inb_S256x6144_S128x128_0_5504) (p.t1 inb_S256x2048_S128x128_0_1408))) (k0_pay1240 (p.t0 inb_S256x6144_S128x128_128_3456)) (k0_pay1242 (p.t1 inb_S256x2048_S128x128_128_1408)) (k0_pay1244 (p.t0 inb_S256x6144_S128x128_128_5504)) (View.ld prev (Rect.unit ![0, 384] ![128, 128] inb_S128x1024_S128x128_0_384))⟩,
    ⟨Rect.unit ![0, 256] ![128, 128] inb_S128x1024_S128x128_0_256,
      k0_pay1218 (k0_pay1201 k0_pay1188 (k0_pay1191 (p.t0 inb_S256x6144_S128x128_0_3328)) (k0_pay1193 (p.t1 inb_S256x2048_S128x128_0_1280)) (k0_pay1195 (p.t0 inb_S256x6144_S128x128_0_5376))) (k0_pay1205 (p.t0 inb_S256x6144_S128x128_128_3328)) (k0_pay1207 (p.t1 inb_S256x2048_S128x128_128_1280)) (k0_pay1209 (p.t0 inb_S256x6144_S128x128_128_5376)) (View.ld prev (Rect.unit ![0, 256] ![128, 128] inb_S128x1024_S128x128_0_256))⟩,
    ⟨Rect.unit ![0, 128] ![128, 128] inb_S128x1024_S128x128_0_128,
      k0_pay1183 (k0_pay1167 k0_pay1151 (k0_pay1154 (p.t0 inb_S256x6144_S128x128_0_3200)) (k0_pay1156 (p.t1 inb_S256x2048_S128x128_0_1152)) (k0_pay1158 (p.t0 inb_S256x6144_S128x128_0_5248))) (k0_pay1171 (p.t0 inb_S256x6144_S128x128_128_3200)) (k0_pay1173 (p.t1 inb_S256x2048_S128x128_128_1152)) (k0_pay1175 (p.t0 inb_S256x6144_S128x128_128_5248)) (View.ld prev (Rect.unit ![0, 128] ![128, 128] inb_S128x1024_S128x128_0_128))⟩,
    ⟨Rect.unit ![0, 0] ![128, 128] inb_S128x1024_S128x128_0_0,
      k0_pay1146 (k0_pay1131 k0_pay1117 (k0_pay1120 (p.t0 inb_S256x6144_S128x128_0_3072)) (k0_pay1122 (p.t1 inb_S256x2048_S128x128_0_1024)) (k0_pay1124 (p.t0 inb_S256x6144_S128x128_0_5120))) (k0_pay1135 (p.t0 inb_S256x6144_S128x128_128_3072)) (k0_pay1137 (p.t1 inb_S256x2048_S128x128_128_1024)) (k0_pay1139 (p.t0 inb_S256x6144_S128x128_128_5120)) (View.ld prev (Rect.unit ![0, 0] ![128, 128] inb_S128x1024_S128x128_0_0))⟩]

/-- The pieces of the gradient of the normalised rows. -/
def piecesV (p : Pt Ideal) : List (View.Piece (Elt Ideal) S288x1024 .f32) :=
  [⟨Rect.unit ![144, 896] ![128, 128] inb_S288x1024_S128x128_144_896,
      k0_pay1389 (k0_pay1358 (p.t15 inb_S8x128x128_S1x128x128_7_0_0)) (p.t0 inb_S256x6144_S128x128_128_3968) (p.t0 inb_S256x6144_S128x128_128_6016) (p.t1 inb_S256x2048_S128x128_128_1920)⟩,
    ⟨Rect.unit ![16, 896] ![128, 128] inb_S288x1024_S128x128_16_896,
      k0_pay1375 (k0_pay1358 (p.t15 inb_S8x128x128_S1x128x128_7_0_0)) (k0_pay1364 (p.t0 inb_S256x6144_S128x128_0_3968)) (k0_pay1365 (p.t0 inb_S256x6144_S128x128_0_6016)) (p.t1 inb_S256x2048_S128x128_0_1920)⟩,
    ⟨Rect.unit ![144, 768] ![128, 128] inb_S288x1024_S128x128_144_768,
      k0_pay1354 (k0_pay1353 (k0_pay1322 (p.t15 inb_S8x128x128_S1x128x128_6_0_0)) (p.t0 inb_S256x6144_S128x128_128_3840) (p.t0 inb_S256x6144_S128x128_128_5888) (p.t1 inb_S256x2048_S128x128_128_1792))⟩,
    ⟨Rect.unit ![16, 768] ![128, 128] inb_S288x1024_S128x128_16_768,
      k0_pay1339 (k0_pay1322 (p.t15 inb_S8x128x128_S1x128x128_6_0_0)) (p.t0 inb_S256x6144_S128x128_0_3840) (p.t0 inb_S256x6144_S128x128_0_5888) (p.t1 inb_S256x2048_S128x128_0_1792)⟩,
    ⟨Rect.unit ![144, 640] ![128, 128] inb_S288x1024_S128x128_144_640,
      k0_pay1318 (k0_pay1286 (p.t15 inb_S8x128x128_S1x128x128_5_0_0)) (k0_pay1316 (p.t0 inb_S256x6144_S128x128_128_3712) (p.t0 inb_S256x6144_S128x128_128_5760) (p.t1 inb_S256x2048_S128x128_128_1664))⟩,
    ⟨Rect.unit ![16, 640] ![128, 128] inb_S288x1024_S128x128_16_640,
      k0_pay1305 (k0_pay1304 (k0_pay1286 (p.t15 inb_S8x128x128_S1x128x128_5_0_0)) (p.t0 inb_S256x6144_S128x128_0_3712) (p.t0 inb_S256x6144_S128x128_0_5760) (p.t1 inb_S256x2048_S128x128_0_1664))⟩,
    ⟨Rect.unit ![144, 512] ![128, 128] inb_S288x1024_S128x128_144_512,
      k0_pay1282 (k0_pay1253 (p.t15 inb_S8x128x128_S1x128x128_4_0_0)) (k0_pay1276 (p.t0 inb_S256x6144_S128x128_128_5632)) (k0_pay1279 (p.t0 inb_S256x6144_S128x128_128_3584) (p.t1 inb_S256x2048_S128x128_128_1536))⟩,
    ⟨Rect.unit ![16, 512] ![128, 128] inb_S288x1024_S128x128_16_512,
      k0_pay1269 (k0_pay1253 (p.t15 inb_S8x128x128_S1x128x128_4_0_0)) (k0_pay1266 (p.t0 inb_S256x6144_S128x128_0_3584) (p.t0 inb_S256x6144_S128x128_0_5632) (p.t1 inb_S256x2048_S128x128_0_1536))⟩,
    ⟨Rect.unit ![144, 384] ![128, 128] inb_S288x1024_S128x128_144_384,
      k0_pay1249 (k0_pay1220 (p.t15 inb_S8x128x128_S1x128x128_3_0_0)) (k0_pay1240 (p.t0 inb_S256x6144_S128x128_128_3456)) (k0_pay1242 (p.t1 inb_S256x2048_S128x128_128_1408)) (k0_pay1244 (p.t0 inb_S256x6144_S128x128_128_5504))⟩,
    ⟨Rect.unit ![16, 384] ![128, 128] inb_S288x1024_S128x128_16_384,
      k0_pay1237 (k0_pay1220 (p.t15 inb_S8x128x128_S1x128x128_3_0_0)) (k0_pay1233 (p.t0 inb_S256x6144_S128x128_0_3456) (p.t0 inb_S256x6144_S128x128_0_5504) (p.t1 inb_S256x2048_S128x128_0_1408))⟩,
    ⟨Rect.unit ![144, 256] ![128, 128] inb_S288x1024_S128x128_144_256,
      k0_pay1216 (k0_pay1185 (p.t15 inb_S8x128x128_S1x128x128_2_0_0)) (k0_pay1205 (p.t0 inb_S256x6144_S128x128_128_3328)) (k0_pay1207 (p.t1 inb_S256x2048_S128x128_128_1280)) (k0_pay1209 (p.t0 inb_S256x6144_S128x128_128_5376))⟩,
    ⟨Rect.unit ![16, 256] ![128, 128] inb_S288x1024_S128x128_16_256,
      k0_pay1202 (k0_pay1185 (p.t15 inb_S8x128x128_S1x128x128_2_0_0)) (k0_pay1191 (p.t0 inb_S256x6144_S128x128_0_3328)) (k0_pay1193 (p.t1 inb_S256x2048_S128x128_0_1280)) (k0_pay1195 (p.t0 inb_S256x6144_S128x128_0_5376))⟩,
    ⟨Rect.unit ![144, 128] ![128, 128] inb_S288x1024_S128x128_144_128,
      k0_pay1181 (k0_pay1148 (p.t15 inb_S8x128x128_S1x128x128_1_0_0)) (k0_pay1171 (p.t0 inb_S256x6144_S128x128_128_3200)) (k0_pay1173 (p.t1 inb_S256x2048_S128x128_128_1152)) (k0_pay1175 (p.t0 inb_S256x6144_S128x128_128_5248))⟩,
    ⟨Rect.unit ![16, 128] ![128, 128] inb_S288x1024_S128x128_16_128,
      k0_pay1168 (k0_pay1148 (p.t15 inb_S8x128x128_S1x128x128_1_0_0)) (k0_pay1154 (p.t0 inb_S256x6144_S128x128_0_3200)) (k0_pay1156 (p.t1 inb_S256x2048_S128x128_0_1152)) (k0_pay1158 (p.t0 inb_S256x6144_S128x128_0_5248))⟩,
    ⟨Rect.unit ![144, 0] ![128, 128] inb_S288x1024_S128x128_144_0,
      k0_pay1144 (k0_pay1114 (p.t15 inb_S8x128x128_S1x128x128_0_0_0)) (k0_pay1135 (p.t0 inb_S256x6144_S128x128_128_3072)) (k0_pay1137 (p.t1 inb_S256x2048_S128x128_128_1024)) (k0_pay1139 (p.t0 inb_S256x6144_S128x128_128_5120))⟩,
    ⟨Rect.unit ![16, 0] ![128, 128] inb_S288x1024_S128x128_16_0,
      k0_pay1132 (k0_pay1114 (p.t15 inb_S8x128x128_S1x128x128_0_0_0)) (k0_pay1120 (p.t0 inb_S256x6144_S128x128_0_3072)) (k0_pay1122 (p.t1 inb_S256x2048_S128x128_0_1024)) (k0_pay1124 (p.t0 inb_S256x6144_S128x128_0_5120))⟩]

/-! ## The normalised rows at an entry -/

theorem vhat_at (p : Pt Ideal) (r : Fin 256) (k : Fin 1024) :
    k0_pay1109 (View.ld p.x0 (Rect.unit ![0, 4096] ![256, 1024] inb_S256x6144_S256x1024_0_4096)) (ix2 r k) = vhP p r k := by
  have hx : ∀ j : Fin 1024, View.ld p.x0 (Rect.unit ![0, 4096] ![256, 1024] inb_S256x6144_S256x1024_0_4096) (ix2 r j)
      = p.x0 (ix2 r (⟨4096 + j.val, by omega⟩ : Fin 6144)) := fun j =>
    congrArg p.x0 (funext fun a => match a with
      | ⟨0, _⟩ => Fin.ext (by show 0 + 1 * r.val = r.val; omega)
      | ⟨1, _⟩ => Fin.ext (by show 4096 + 1 * j.val = 4096 + j.val; omega))
  unfold vhP
  rw [show (fun j : Fin 1024 => p.x0 (ix2 r (⟨4096 + j.val, by omega⟩ : Fin 6144)))
    = fun j => View.ld p.x0 (Rect.unit ![0, 4096] ![256, 1024] inb_S256x6144_S256x1024_0_4096) (ix2 r j) from funext fun j => (hx j).symm]
  generalize View.ld p.x0 (Rect.unit ![0, 4096] ![256, 1024] inb_S256x6144_S256x1024_0_4096) = v
  unfold Cert.Sgu.unit Cert.Sgu.mean Cert.Sgu.cent Cert.Sgu.mean
  pointwise [k0_pay1109, k0_pay1108, k0_pay1107]
  done

theorem vn_at (p : Pt Ideal) (r : Fin 256) (k : Fin 1024) : vnOf p (ix2 r k) = vnP p r k := by
  unfold vnP
  rw [← vhat_at]
  unfold vnOf k0_pay1110
  generalize k0_pay1109 (View.ld p.x0 (Rect.unit ![0, 4096] ![256, 1024] inb_S256x6144_S256x1024_0_4096)) = v
  pointwise [k0_pay1112, k0_pay1111]
  done

/-! ## The gated gradient of a block of one head -/

theorem dm_ld (p : Pt Ideal) (b : Fin 2) (h : Fin 8) (q k : Fin 128) :
    dmAt (p.t0 (inZ b h))
      (p.t0 (inG b h))
      (p.t1 (inY b h)) q k
      = dmP p (halfOf b q) (colOf h k) := by
  have e0 : p.t0 (inZ b h) (ix2 q k)
      = p.x0 (ix2 (halfOf b q) (⟨3072 + (colOf h k).val, by omega⟩ : Fin 6144)) :=
    congrArg p.x0 (funext fun a => match a with
      | ⟨0, _⟩ => Fin.ext (by show 128 * b.val + 1 * q.val = 128 * b.val + q.val; omega)
      | ⟨1, _⟩ => Fin.ext (by show 3072 + 128 * h.val + 1 * k.val = 3072 + (128 * h.val + k.val); omega))
  have e1 : p.t0 (inG b h) (ix2 q k)
      = p.x0 (ix2 (halfOf b q) (⟨5120 + (colOf h k).val, by omega⟩ : Fin 6144)) :=
    congrArg p.x0 (funext fun a => match a with
      | ⟨0, _⟩ => Fin.ext (by show 128 * b.val + 1 * q.val = 128 * b.val + q.val; omega)
      | ⟨1, _⟩ => Fin.ext (by show 5120 + 128 * h.val + 1 * k.val = 5120 + (128 * h.val + k.val); omega))
  have e2 : p.t1 (inY b h) (ix2 q k)
      = p.x1 (ix2 (halfOf b q) (⟨1024 + (colOf h k).val, by omega⟩ : Fin 2048)) :=
    congrArg p.x1 (funext fun a => match a with
      | ⟨0, _⟩ => Fin.ext (by show 128 * b.val + 1 * q.val = 128 * b.val + q.val; omega)
      | ⟨1, _⟩ => Fin.ext (by show 1024 + 128 * h.val + 1 * k.val = 1024 + (128 * h.val + k.val); omega))
  unfold dmAt dmP
  rw [e0, e1, e2]

/-! ## The weights' gradient -/

/-- The weights' gradient after a point, at an entry: what was there plus the sums over the head's columns of the two halves. -/
def gwAt (p : Pt Ideal) (prev : Vec Ideal S8x128x128 .f32) (h : Fin 8) (s q : Fin 128) : EReal :=
  prev (ix3 h s q) + ((∑ k : Fin 128, dmP p (halfOf 0 s) (colOf h k) * vnP p (halfOf 0 q) (colOf h k))
    + ∑ k : Fin 128, dmP p (halfOf 1 s) (colOf h k) * vnP p (halfOf 1 q) (colOf h k))

/-- The same as a function of the array's index. -/
def gwFn (p : Pt Ideal) (prev : Vec Ideal S8x128x128 .f32) (y : S8x128x128.Idx) : EReal := gwAt p prev (y 0) (y 1) (y 2)

theorem slice_at (p : Pt Ideal) (b : Fin 2) (h : Fin 8) (hs) (q k : Fin 128) :
    extractStridedSlice S128x128 ![128 * b.val, 128 * h.val] (vnOf p) hs (ix2 q k) = vnP p (halfOf b q) (colOf h k) := by
  rw [← vn_at]
  exact congrArg (vnOf p) (funext fun a => match a with
      | ⟨0, _⟩ => Fin.ext (by show 128 * b.val + q.val = 128 * b.val + q.val; omega)
      | ⟨1, _⟩ => Fin.ext (by show 128 * h.val + k.val = 128 * h.val + k.val; omega))

theorem pieceW (p : Pt Ideal) (prev : Vec Ideal S8x128x128 .f32) (h : Fin 8) (s0 s1 io) (x : S1x128x128.Idx) :
    headW (extractStridedSlice S128x128 ![128 * (0 : Fin 2).val, 128 * h.val] (vnOf p) s0) (extractStridedSlice S128x128 ![128 * (1 : Fin 2).val, 128 * h.val] (vnOf p) s1)
      (p.t0 (inZ 0 h))
      (p.t0 (inG 0 h))
      (p.t1 (inY 0 h))
      (p.t0 (inZ 1 h))
      (p.t0 (inG 1 h))
      (p.t1 (inY 1 h))
      (View.ld prev (Rect.unit (s := S8x128x128) ![h.val, 0, 0] ![1, 128, 128] io)) x
    = gwFn p prev ((Rect.unit (s := S8x128x128) ![h.val, 0, 0] ![1, 128, 128] io).emb x) := by
  obtain ⟨z, s, q, rfl⟩ : ∃ z s q, x = (ix3 z s q : S1x128x128.Idx) := ⟨x 0, x 1, x 2, eq_ix3 x⟩
  obtain rfl : z = 0 := Subsingleton.elim _ _
  have e : (Rect.unit (s := S8x128x128) ![h.val, 0, 0] ![1, 128, 128] io).emb (ix3 0 s q) = ix3 h s q := funext fun a => match a with
      | ⟨0, _⟩ => Fin.ext (by show h.val + 1 * 0 = h.val; omega)
      | ⟨1, _⟩ => Fin.ext (by show 0 + 1 * s.val = s.val; omega)
      | ⟨2, _⟩ => Fin.ext (by show 0 + 1 * q.val = q.val; omega)
  rw [headW_at, e]
  show prev ((Rect.unit (s := S8x128x128) ![h.val, 0, 0] ![1, 128, 128] io).emb (ix3 0 s q)) + _ = gwAt p prev h s q
  rw [e]
  unfold gwAt
  congr 2
  · exact Finset.sum_congr rfl fun k _ => congrArg₂ (· * ·) (dm_ld p 0 h s k) (slice_at p 0 h s0 q k)
  · exact Finset.sum_congr rfl fun k _ => congrArg₂ (· * ·) (dm_ld p 1 h s k) (slice_at p 1 h s1 q k)

set_option maxHeartbeats 4000000 in
theorem canonW (p : Pt Ideal) (prev : Vec Ideal S8x128x128 .f32) (L : List (View.Piece (Elt Ideal) S8x128x128 .f32)) (y : S8x128x128.Idx) :
    View.canon (Val := Elt Ideal) (piecesW p prev ++ L) y = gwFn p prev y := by
  refine View.canon_append_of_piecesOf (Val := Elt Ideal) (e := .f32) (gwFn p prev) L (piecesW p prev) ⟨?_, ?_, ?_, ?_, ?_, ?_, ?_, ?_, trivial⟩ y ?_
  · exact pieceW p prev 7 slices_S256x1024_o0_896_S128x128 slices_S256x1024_o128_896_S128x128 inb_S8x128x128_S1x128x128_7_0_0
  · exact pieceW p prev 6 slices_S256x1024_o0_768_S128x128 slices_S256x1024_o128_768_S128x128 inb_S8x128x128_S1x128x128_6_0_0
  · exact pieceW p prev 5 slices_S256x1024_o0_640_S128x128 slices_S256x1024_o128_640_S128x128 inb_S8x128x128_S1x128x128_5_0_0
  · exact pieceW p prev 4 slices_S256x1024_o0_512_S128x128 slices_S256x1024_o128_512_S128x128 inb_S8x128x128_S1x128x128_4_0_0
  · exact pieceW p prev 3 slices_S256x1024_o0_384_S128x128 slices_S256x1024_o128_384_S128x128 inb_S8x128x128_S1x128x128_3_0_0
  · exact pieceW p prev 2 slices_S256x1024_o0_256_S128x128 slices_S256x1024_o128_256_S128x128 inb_S8x128x128_S1x128x128_2_0_0
  · exact pieceW p prev 1 slices_S256x1024_o0_128_S128x128 slices_S256x1024_o128_128_S128x128 inb_S8x128x128_S1x128x128_1_0_0
  · exact pieceW p prev 0 slices_S256x1024_o0_0_S128x128 slices_S256x1024_o128_0_S128x128 inb_S8x128x128_S1x128x128_0_0_0
  · have h0 : (y 0).val < 8 := (y 0).isLt
    have key : ∀ (h : ℕ) (i), (y 0).val = h → y ∈ (Rect.unit (s := S8x128x128) ![h, 0, 0] ![1, 128, 128] i).set := by
      intro h i e
      rw [Rect.mem_set_unit]
      intro a
      match a with
      | ⟨0, _⟩ => exact ⟨by show h ≤ (y 0).val; omega, by show (y 0).val < h + 1; omega⟩
      | ⟨1, _⟩ => exact ⟨Nat.zero_le _, by show (y 1).val < 0 + 128; have := (y 1).isLt; exact (Nat.zero_add 128).symm ▸ this⟩
      | ⟨2, _⟩ => exact ⟨Nat.zero_le _, by show (y 2).val < 0 + 128; have := (y 2).isLt; exact (Nat.zero_add 128).symm ▸ this⟩
    rcases (by omega : (y 0).val = 7 ∨ (y 0).val = 6 ∨ (y 0).val = 5 ∨ (y 0).val = 4 ∨ (y 0).val = 3 ∨ (y 0).val = 2 ∨ (y 0).val = 1 ∨ (y 0).val = 0)
      with e | e | e | e | e | e | e | e
    · exact ⟨_, .head _, key 7 inb_S8x128x128_S1x128x128_7_0_0 e⟩
    · exact ⟨_, .tail _ (.head _), key 6 inb_S8x128x128_S1x128x128_6_0_0 e⟩
    · exact ⟨_, .tail _ (.tail _ (.head _)), key 5 inb_S8x128x128_S1x128x128_5_0_0 e⟩
    · exact ⟨_, .tail _ (.tail _ (.tail _ (.head _))), key 4 inb_S8x128x128_S1x128x128_4_0_0 e⟩
    · exact ⟨_, .tail _ (.tail _ (.tail _ (.tail _ (.head _)))), key 3 inb_S8x128x128_S1x128x128_3_0_0 e⟩
    · exact ⟨_, .tail _ (.tail _ (.tail _ (.tail _ (.tail _ (.head _))))), key 2 inb_S8x128x128_S1x128x128_2_0_0 e⟩
    · exact ⟨_, .tail _ (.tail _ (.tail _ (.tail _ (.tail _ (.tail _ (.head _)))))), key 1 inb_S8x128x128_S1x128x128_1_0_0 e⟩
    · exact ⟨_, .tail _ (.tail _ (.tail _ (.tail _ (.tail _ (.tail _ (.tail _ (.head _))))))), key 0 inb_S8x128x128_S1x128x128_0_0_0 e⟩

/-! ## The biases' running gradient -/

/-- The running gradient of the biases after a point: what was there plus the two halves' rows. -/
def gbFn (p : Pt Ideal) (prev : Vec Ideal S128x1024 .f32) (y : S128x1024.Idx) : EReal :=
  prev y + (dmP p (halfOf 0 (y 0)) (y 1) + dmP p (halfOf 1 (y 0)) (y 1))

theorem pieceB (p : Pt Ideal) (prev : Vec Ideal S128x1024 .f32) (h : Fin 8) (io) (x : S128x128.Idx) :
    headB (p.t0 (inZ 0 h)) (p.t0 (inG 0 h)) (p.t1 (inY 0 h)) (p.t0 (inZ 1 h)) (p.t0 (inG 1 h)) (p.t1 (inY 1 h))
      (View.ld prev (Rect.unit (s := S128x1024) ![0, 128 * h.val] ![128, 128] io)) x
    = gbFn p prev ((Rect.unit (s := S128x1024) ![0, 128 * h.val] ![128, 128] io).emb x) := by
  obtain ⟨s, k, rfl⟩ : ∃ s k, x = (ix2 s k : S128x128.Idx) := ⟨x 0, x 1, eq_ix2 x⟩
  have e : (Rect.unit (s := S128x1024) ![0, 128 * h.val] ![128, 128] io).emb (ix2 s k) = ix2 s (colOf h k) := funext fun a => match a with
      | ⟨0, _⟩ => Fin.ext (by show 0 + 1 * s.val = s.val; omega)
      | ⟨1, _⟩ => Fin.ext (by show 128 * h.val + 1 * k.val = 128 * h.val + k.val; omega)
  rw [headB_at, e]
  show prev ((Rect.unit (s := S128x1024) ![0, 128 * h.val] ![128, 128] io).emb (ix2 s k)) + _ = prev (ix2 s (colOf h k)) + (dmP p (halfOf 0 s) (colOf h k) + dmP p (halfOf 1 s) (colOf h k))
  rw [e, dm_ld p 0 h s k, dm_ld p 1 h s k]

theorem mem_cols (o : ℕ) (y : S128x1024.Idx) (i) (h0 : o ≤ (y 1).val) (h1 : (y 1).val < o + 128) :
    y ∈ (Rect.unit (s := S128x1024) ![0, o] ![128, 128] i).set := by
  rw [Rect.mem_set_unit]
  intro a
  match a with
  | ⟨0, _⟩ => exact ⟨Nat.zero_le _, by show (y 0).val < 0 + 128; have := (y 0).isLt; exact (Nat.zero_add 128).symm ▸ this⟩
  | ⟨1, _⟩ => exact ⟨h0, h1⟩

set_option maxHeartbeats 4000000 in
theorem canonB (p : Pt Ideal) (prev : Vec Ideal S128x1024 .f32) (L : List (View.Piece (Elt Ideal) S128x1024 .f32)) (y : S128x1024.Idx) :
    View.canon (Val := Elt Ideal) (piecesB p prev ++ L) y = gbFn p prev y := by
  refine View.canon_append_of_piecesOf (Val := Elt Ideal) (e := .f32) (gbFn p prev) L (piecesB p prev) ⟨?_, ?_, ?_, ?_, ?_, ?_, ?_, ?_, trivial⟩ y ?_
  · exact pieceB p prev 7 inb_S128x1024_S128x128_0_896
  · exact pieceB p prev 6 inb_S128x1024_S128x128_0_768
  · exact pieceB p prev 5 inb_S128x1024_S128x128_0_640
  · exact pieceB p prev 4 inb_S128x1024_S128x128_0_512
  · exact pieceB p prev 3 inb_S128x1024_S128x128_0_384
  · exact pieceB p prev 2 inb_S128x1024_S128x128_0_256
  · exact pieceB p prev 1 inb_S128x1024_S128x128_0_128
  · exact pieceB p prev 0 inb_S128x1024_S128x128_0_0
  · have h1 : (y 1).val < 1024 := (y 1).isLt
    rcases (by omega : (y 1).val / 128 = 7 ∨ (y 1).val / 128 = 6 ∨ (y 1).val / 128 = 5 ∨ (y 1).val / 128 = 4 ∨ (y 1).val / 128 = 3 ∨ (y 1).val / 128 = 2
      ∨ (y 1).val / 128 = 1 ∨ (y 1).val / 128 = 0) with e | e | e | e | e | e | e | e
    · exact ⟨_, .head _, mem_cols 896 y inb_S128x1024_S128x128_0_896 (by omega) (by omega)⟩
    · exact ⟨_, .tail _ (.head _), mem_cols 768 y inb_S128x1024_S128x128_0_768 (by omega) (by omega)⟩
    · exact ⟨_, .tail _ (.tail _ (.head _)), mem_cols 640 y inb_S128x1024_S128x128_0_640 (by omega) (by omega)⟩
    · exact ⟨_, .tail _ (.tail _ (.tail _ (.head _))), mem_cols 512 y inb_S128x1024_S128x128_0_512 (by omega) (by omega)⟩
    · exact ⟨_, .tail _ (.tail _ (.tail _ (.tail _ (.head _)))), mem_cols 384 y inb_S128x1024_S128x128_0_384 (by omega) (by omega)⟩
    · exact ⟨_, .tail _ (.tail _ (.tail _ (.tail _ (.tail _ (.head _))))), mem_cols 256 y inb_S128x1024_S128x128_0_256 (by omega) (by omega)⟩
    · exact ⟨_, .tail _ (.tail _ (.tail _ (.tail _ (.tail _ (.tail _ (.head _)))))), mem_cols 128 y inb_S128x1024_S128x128_0_128 (by omega) (by omega)⟩
    · exact ⟨_, .tail _ (.tail _ (.tail _ (.tail _ (.tail _ (.tail _ (.tail _ (.head _))))))), mem_cols 0 y inb_S128x1024_S128x128_0_0 (by omega) (by omega)⟩

/-! ## The gradient of the normalised rows -/

/-- The gradient of the normalised rows as a function of the scratch's index: the block's row `r` is the scratch's row `16 + r`. -/
def dvFn (p : Pt Ideal) (y : S288x1024.Idx) : EReal := dvP p (⟨((y 0).val - 16) % 256, by omega⟩ : Fin 256) (y 1)

theorem pieceV (p : Pt Ideal) (b : Fin 2) (h : Fin 8) (iw io) (x : S128x128.Idx) :
    headV (View.ld p.x15 (Rect.unit (s := S8x128x128) ![h.val, 0, 0] ![1, 128, 128] iw))
      (p.t0 (inZ b h))
      (p.t0 (inG b h))
      (p.t1 (inY b h)) x
    = dvFn p ((Rect.unit (s := S288x1024) ![16 + 128 * b.val, 128 * h.val] ![128, 128] io).emb x) := by
  obtain ⟨q, k, rfl⟩ : ∃ q k, x = (ix2 q k : S128x128.Idx) := ⟨x 0, x 1, eq_ix2 x⟩
  have e : (Rect.unit (s := S288x1024) ![16 + 128 * b.val, 128 * h.val] ![128, 128] io).emb (ix2 q k)
      = ix2 (⟨16 + 128 * b.val + q.val, by omega⟩ : Fin 288) (colOf h k) := funext fun a => match a with
      | ⟨0, _⟩ => Fin.ext (by show 16 + 128 * b.val + 1 * q.val = 16 + 128 * b.val + q.val; omega)
      | ⟨1, _⟩ => Fin.ext (by show 128 * h.val + 1 * k.val = 128 * h.val + k.val; omega)
  rw [headV_at, e]
  have hb := b.isLt
  have hq := q.isLt
  have hk := k.isLt
  show _ = dvP p (⟨(16 + 128 * b.val + q.val - 16) % 256, by omega⟩ : Fin 256) (colOf h k)
  unfold dvP
  refine Finset.sum_congr rfl fun s _ => congrArg₂ (· * ·) ?_ ?_
  · exact congrArg p.x15 (funext fun a => match a with
      | ⟨0, _⟩ => Fin.ext (by show h.val + 1 * 0 = (128 * h.val + k.val) / 128; omega)
      | ⟨1, _⟩ => Fin.ext (by show 0 + 1 * q.val = (16 + 128 * b.val + q.val - 16) % 256 % 128; omega)
      | ⟨2, _⟩ => Fin.ext (by show 0 + 1 * s.val = s.val; omega))
  · exact (dm_ld p b h s k).trans (congrArg (dmP p · (colOf h k))
      (Fin.ext (by show 128 * b.val + s.val = 128 * ((16 + 128 * b.val + q.val - 16) % 256 / 128) + s.val; omega)))

theorem mem_box (r o : ℕ) (y : S288x1024.Idx) (i) (g0 : r ≤ (y 0).val) (g1 : (y 0).val < r + 128) (h0 : o ≤ (y 1).val) (h1 : (y 1).val < o + 128) :
    y ∈ (Rect.unit (s := S288x1024) ![r, o] ![128, 128] i).set := by
  rw [Rect.mem_set_unit]
  intro a
  match a with
  | ⟨0, _⟩ => exact ⟨g0, g1⟩
  | ⟨1, _⟩ => exact ⟨h0, h1⟩

set_option maxHeartbeats 4000000 in
theorem canonV (p : Pt Ideal) (L : List (View.Piece (Elt Ideal) S288x1024 .f32)) (y : S288x1024.Idx)
    (g0 : 16 ≤ (y 0).val) (g1 : (y 0).val < 272) : View.canon (Val := Elt Ideal) (piecesV p ++ L) y = dvFn p y := by
  refine View.canon_append_of_piecesOf (Val := Elt Ideal) (e := .f32) (dvFn p) L (piecesV p)
    ⟨?_, ?_, ?_, ?_, ?_, ?_, ?_, ?_, ?_, ?_, ?_, ?_, ?_, ?_, ?_, ?_, trivial⟩ y ?_
  · exact pieceV p 1 7 inb_S8x128x128_S1x128x128_7_0_0 inb_S288x1024_S128x128_144_896
  · exact pieceV p 0 7 inb_S8x128x128_S1x128x128_7_0_0 inb_S288x1024_S128x128_16_896
  · exact pieceV p 1 6 inb_S8x128x128_S1x128x128_6_0_0 inb_S288x1024_S128x128_144_768
  · exact pieceV p 0 6 inb_S8x128x128_S1x128x128_6_0_0 inb_S288x1024_S128x128_16_768
  · exact pieceV p 1 5 inb_S8x128x128_S1x128x128_5_0_0 inb_S288x1024_S128x128_144_640
  · exact pieceV p 0 5 inb_S8x128x128_S1x128x128_5_0_0 inb_S288x1024_S128x128_16_640
  · exact pieceV p 1 4 inb_S8x128x128_S1x128x128_4_0_0 inb_S288x1024_S128x128_144_512
  · exact pieceV p 0 4 inb_S8x128x128_S1x128x128_4_0_0 inb_S288x1024_S128x128_16_512
  · exact pieceV p 1 3 inb_S8x128x128_S1x128x128_3_0_0 inb_S288x1024_S128x128_144_384
  · exact pieceV p 0 3 inb_S8x128x128_S1x128x128_3_0_0 inb_S288x1024_S128x128_16_384
  · exact pieceV p 1 2 inb_S8x128x128_S1x128x128_2_0_0 inb_S288x1024_S128x128_144_256
  · exact pieceV p 0 2 inb_S8x128x128_S1x128x128_2_0_0 inb_S288x1024_S128x128_16_256
  · exact pieceV p 1 1 inb_S8x128x128_S1x128x128_1_0_0 inb_S288x1024_S128x128_144_128
  · exact pieceV p 0 1 inb_S8x128x128_S1x128x128_1_0_0 inb_S288x1024_S128x128_16_128
  · exact pieceV p 1 0 inb_S8x128x128_S1x128x128_0_0_0 inb_S288x1024_S128x128_144_0
  · exact pieceV p 0 0 inb_S8x128x128_S1x128x128_0_0_0 inb_S288x1024_S128x128_16_0
  · have h1 : (y 1).val < 1024 := (y 1).isLt
    rcases (by omega : (y 0).val < 144 ∨ 144 ≤ (y 0).val) with f | f <;>
    rcases (by omega : (y 1).val / 128 = 7 ∨ (y 1).val / 128 = 6 ∨ (y 1).val / 128 = 5 ∨ (y 1).val / 128 = 4 ∨ (y 1).val / 128 = 3 ∨ (y 1).val / 128 = 2
      ∨ (y 1).val / 128 = 1 ∨ (y 1).val / 128 = 0) with e | e | e | e | e | e | e | e
    · exact ⟨_, .tail _ (.head _), mem_box 16 896 y inb_S288x1024_S128x128_16_896 (by omega) (by omega) (by omega) (by omega)⟩
    · exact ⟨_, .tail _ (.tail _ (.tail _ (.head _))), mem_box 16 768 y inb_S288x1024_S128x128_16_768 (by omega) (by omega) (by omega) (by omega)⟩
    · exact ⟨_, .tail _ (.tail _ (.tail _ (.tail _ (.tail _ (.head _))))), mem_box 16 640 y inb_S288x1024_S128x128_16_640 (by omega) (by omega) (by omega) (by omega)⟩
    · exact ⟨_, .tail _ (.tail _ (.tail _ (.tail _ (.tail _ (.tail _ (.tail _ (.head _))))))), mem_box 16 512 y inb_S288x1024_S128x128_16_512 (by omega) (by omega) (by omega) (by omega)⟩
    · exact ⟨_, .tail _ (.tail _ (.tail _ (.tail _ (.tail _ (.tail _ (.tail _ (.tail _ (.tail _ (.head _))))))))), mem_box 16 384 y inb_S288x1024_S128x128_16_384 (by omega) (by omega) (by omega) (by omega)⟩
    · exact ⟨_, .tail _ (.tail _ (.tail _ (.tail _ (.tail _ (.tail _ (.tail _ (.tail _ (.tail _ (.tail _ (.tail _ (.head _))))))))))), mem_box 16 256 y inb_S288x1024_S128x128_16_256 (by omega) (by omega) (by omega) (by omega)⟩
    · exact ⟨_, .tail _ (.tail _ (.tail _ (.tail _ (.tail _ (.tail _ (.tail _ (.tail _ (.tail _ (.tail _ (.tail _ (.tail _ (.tail _ (.head _))))))))))))), mem_box 16 128 y inb_S288x1024_S128x128_16_128 (by omega) (by omega) (by omega) (by omega)⟩
    · exact ⟨_, .tail _ (.tail _ (.tail _ (.tail _ (.tail _ (.tail _ (.tail _ (.tail _ (.tail _ (.tail _ (.tail _ (.tail _ (.tail _ (.tail _ (.tail _ (.head _))))))))))))))), mem_box 16 0 y inb_S288x1024_S128x128_16_0 (by omega) (by omega) (by omega) (by omega)⟩
    · exact ⟨_, .head _, mem_box 144 896 y inb_S288x1024_S128x128_144_896 (by omega) (by omega) (by omega) (by omega)⟩
    · exact ⟨_, .tail _ (.tail _ (.head _)), mem_box 144 768 y inb_S288x1024_S128x128_144_768 (by omega) (by omega) (by omega) (by omega)⟩
    · exact ⟨_, .tail _ (.tail _ (.tail _ (.tail _ (.head _)))), mem_box 144 640 y inb_S288x1024_S128x128_144_640 (by omega) (by omega) (by omega) (by omega)⟩
    · exact ⟨_, .tail _ (.tail _ (.tail _ (.tail _ (.tail _ (.tail _ (.head _)))))), mem_box 144 512 y inb_S288x1024_S128x128_144_512 (by omega) (by omega) (by omega) (by omega)⟩
    · exact ⟨_, .tail _ (.tail _ (.tail _ (.tail _ (.tail _ (.tail _ (.tail _ (.tail _ (.head _)))))))), mem_box 144 384 y inb_S288x1024_S128x128_144_384 (by omega) (by omega) (by omega) (by omega)⟩
    · exact ⟨_, .tail _ (.tail _ (.tail _ (.tail _ (.tail _ (.tail _ (.tail _ (.tail _ (.tail _ (.tail _ (.head _)))))))))), mem_box 144 256 y inb_S288x1024_S128x128_144_256 (by omega) (by omega) (by omega) (by omega)⟩
    · exact ⟨_, .tail _ (.tail _ (.tail _ (.tail _ (.tail _ (.tail _ (.tail _ (.tail _ (.tail _ (.tail _ (.tail _ (.tail _ (.head _)))))))))))), mem_box 144 128 y inb_S288x1024_S128x128_144_128 (by omega) (by omega) (by omega) (by omega)⟩
    · exact ⟨_, .tail _ (.tail _ (.tail _ (.tail _ (.tail _ (.tail _ (.tail _ (.tail _ (.tail _ (.tail _ (.tail _ (.tail _ (.tail _ (.tail _ (.head _)))))))))))))), mem_box 144 0 y inb_S288x1024_S128x128_144_0 (by omega) (by omega) (by omega) (by omega)⟩

/-- Reading the block's rows back from the scratch. -/
theorem read_dv (p : Pt Ideal) (L : List (View.Piece (Elt Ideal) S288x1024 .f32)) (i) (r : Fin 256) (k : Fin 1024) :
    p.arg27.view.readCov (piecesV p ++ L) (Rect.unit (s := S288x1024) ![16, 0] ![256, 1024] i).toLoadRect (ix2 r k) = dvP p r k := by
  rw [View.readCov_eq_canon']
  have e : (Rect.unit (s := S288x1024) ![16, 0] ![256, 1024] i).emb (ix2 r k) = ix2 (⟨16 + r.val, by omega⟩ : Fin 288) k := funext fun a => match a with
      | ⟨0, _⟩ => Fin.ext (by show 16 + 1 * r.val = 16 + r.val; omega)
      | ⟨1, _⟩ => Fin.ext (by show 0 + 1 * k.val = k.val; omega)
  show View.canon (Val := Elt Ideal) (piecesV p ++ L) ((Rect.unit (s := S288x1024) ![16, 0] ![256, 1024] i).emb (ix2 r k)) = _
  rw [e, canonV p L _ (by show 16 ≤ 16 + r.val; omega) (by show 16 + r.val < 272; omega)]
  exact congrArg (dvP p · k) (Fin.ext (by show (16 + r.val - 16) % 256 = r.val; omega))

end Cert.SguBwdIdeal.Named

end
-- ==== Proof.SguFold.lean ====
/- What one grid point of the branch's backward kernel leaves in the weights' gradient, in the biases' running gradient and in
   the running sums of the normalisation's gain and bias. -/
module

public import proofs.«01_k».proof.Proof.SguPieces

@[expose] public section

set_option maxRecDepth 16384

noncomputable section

namespace Cert.SguBwdIdeal.Named

open Cert.SguBwdIdeal.Gen
open Idealize.ShloMosaic Idealize.ShloMosaic.TcCoe Idealize.ShloMosaic.Tactic

/-- The row of group `i` at position `j` of eight. -/
abbrev foldOf (i : Fin 32) (j : Fin 8) : Fin 256 := ⟨8 * i.val + j.val, by omega⟩

theorem gain_at (v d : FVec Ideal S256x1024 .f32) (a : Vec Ideal S8x1024 .f32) (j : Fin 8) (k : Fin 1024) :
    k0_pay1392 v d a (ix2 j k) = a (ix2 j k) + ∑ i : Fin 32, d (ix2 (foldOf i j) k) * v (ix2 (foldOf i j) k) := by
  have e : ∀ i : Fin 32, foldOf i j = (⟨i.val * 8 + j.val, by omega⟩ : Fin 256) := fun i => Fin.ext (by show 8 * i.val + j.val = i.val * 8 + j.val; omega)
  simp only [e]
  pointwise [k0_pay1392]

theorem bias_at (d : FVec Ideal S256x1024 .f32) (a : Vec Ideal S8x1024 .f32) (j : Fin 8) (k : Fin 1024) :
    k0_pay1393 d a (ix2 j k) = a (ix2 j k) + ∑ i : Fin 32, d (ix2 (foldOf i j) k) := by
  have e : ∀ i : Fin 32, foldOf i j = (⟨i.val * 8 + j.val, by omega⟩ : Fin 256) := fun i => Fin.ext (by show 8 * i.val + j.val = i.val * 8 + j.val; omega)
  simp only [e]
  pointwise [k0_pay1393]

theorem zero_gb (y : S128x1024.Idx) : k0_pay407 (F := Ideal) y = 0 := by pointwise [k0_pay407]
theorem zero_gw (y : S8x128x128.Idx) : k0_pay408 (F := Ideal) y = 0 := by pointwise [k0_pay408]
theorem zero_acc (y : S40x1024.Idx) : k0_pay405 (F := Ideal) y = 0 := by pointwise [k0_pay405]

variable (c : Dev nD) (p : Pt Ideal)
  (xo22 : Vec Ideal S8x128x128 .f32) (xs4 : Vec Ideal S40x1024 .f32) (xs5 : Vec Ideal S248x1024 .f32) (xs6 : Vec Ideal S128x1024 .f32)

set_option maxHeartbeats 4000000 in
theorem gw_A (hc0 : cond0_0 p.i) (hc1 : ¬cond0_1 p.i) : out0_A_22 c p hc0 hc1 = gwFn p (k0_pay408 (F := Ideal)) := by
  unfold out0_A_22 runA
  frame_open
  simp (disch := decide) only [↓ View.readCov_skip, ↓ View.readCov_cons_toLoadRect, ↓ View.readCov_fill]
  frame_out
  funext y
  exact canonW p (k0_pay408 (F := Ideal)) [_] y

set_option maxHeartbeats 4000000 in
theorem gw_B (hc0 : ¬cond0_0 p.i) (hc1 : ¬cond0_1 p.i) : out0_B_22 c p hc0 hc1 xo22 xs4 xs5 xs6 = gwFn p xo22 := by
  unfold out0_B_22 runB
  frame_out
  funext y
  exact canonW p xo22 [] y

set_option maxHeartbeats 4000000 in
theorem gw_C (hc0 : ¬cond0_0 p.i) (hc1 : cond0_1 p.i) : out0_C_22 c p hc0 hc1 xo22 xs4 xs5 xs6 = gwFn p xo22 := by
  unfold out0_C_22 runC
  frame_out
  funext y
  exact canonW p xo22 [] y

set_option maxHeartbeats 4000000 in
theorem gb_A (hc0 : cond0_0 p.i) (hc1 : ¬cond0_1 p.i) : sout0_A_6 c p hc0 hc1 = gbFn p (k0_pay407 (F := Ideal)) := by
  unfold sout0_A_6 runA
  frame_open
  simp (disch := decide) only [↓ View.readCov_skip, ↓ View.readCov_cons_toLoadRect, ↓ View.readCov_fill]
  frame_out
  funext y
  exact canonB p (k0_pay407 (F := Ideal)) [_] y

set_option maxHeartbeats 4000000 in
theorem gb_B (hc0 : ¬cond0_0 p.i) (hc1 : ¬cond0_1 p.i) : sout0_B_6 c p hc0 hc1 xo22 xs4 xs5 xs6 = gbFn p xs6 := by
  unfold sout0_B_6 runB
  frame_out
  funext y
  exact canonB p xs6 [] y

/-- The rows 24 to 31 of the running sums: the gain's. -/
theorem row24 (Q R : Vec Ideal S8x1024 .f32) (L) (i32 i24) (j : Fin 8) (k : Fin 1024) :
    View.canon (Val := Elt Ideal) (e := .f32) (⟨Rect.unit (s := S40x1024) ![32, 0] ![8, 1024] i32, R⟩ :: ⟨Rect.unit (s := S40x1024) ![24, 0] ![8, 1024] i24, Q⟩ :: L)
      (ix2 (⟨24 + j.val, by omega⟩ : Fin 40) k) = Q (ix2 j k) := by
  have hm : (ix2 (⟨24 + j.val, by omega⟩ : Fin 40) k : S40x1024.Idx) ∉ (Rect.unit (s := S40x1024) ![32, 0] ![8, 1024] i32).set := by
    rw [Rect.mem_set_unit]
    intro h
    have h0 : 32 ≤ 24 + j.val := (h 0).1
    omega
  have e : (ix2 (⟨24 + j.val, by omega⟩ : Fin 40) k : S40x1024.Idx) = (Rect.unit (s := S40x1024) ![24, 0] ![8, 1024] i24).emb (ix2 j k) := funext fun a => match a with
      | ⟨0, _⟩ => Fin.ext (by show 24 + j.val = 24 + 1 * j.val; omega)
      | ⟨1, _⟩ => Fin.ext (by show k.val = 0 + 1 * k.val; omega)
  refine (View.canon_cons_of_not_mem (⟨Rect.unit (s := S40x1024) ![32, 0] ![8, 1024] i32, R⟩ : View.Piece (Elt Ideal) S40x1024 .f32) _ hm).trans ?_
  rw [e]
  exact View.canon_cons_emb (Val := Elt Ideal) (e := .f32) (Rect.unit (s := S40x1024) ![24, 0] ![8, 1024] i24) Q L (ix2 j k)

/-- The rows 32 to 39 of the running sums: the bias's. -/
theorem row32 (R : Vec Ideal S8x1024 .f32) (L) (i32) (j : Fin 8) (k : Fin 1024) :
    View.canon (Val := Elt Ideal) (e := .f32) (⟨Rect.unit (s := S40x1024) ![32, 0] ![8, 1024] i32, R⟩ :: L)
      (ix2 (⟨32 + j.val, by omega⟩ : Fin 40) k) = R (ix2 j k) := by
  have e : (ix2 (⟨32 + j.val, by omega⟩ : Fin 40) k : S40x1024.Idx) = (Rect.unit (s := S40x1024) ![32, 0] ![8, 1024] i32).emb (ix2 j k) := funext fun a => match a with
      | ⟨0, _⟩ => Fin.ext (by show 32 + j.val = 32 + 1 * j.val; omega)
      | ⟨1, _⟩ => Fin.ext (by show k.val = 0 + 1 * k.val; omega)
  rw [e]
  exact View.canon_cons_emb (Val := Elt Ideal) (e := .f32) (Rect.unit (s := S40x1024) ![32, 0] ![8, 1024] i32) R L (ix2 j k)

/-- What a point adds to the gain's running sums. -/
def gainAdd (p : Pt Ideal) (j : Fin 8) (k : Fin 1024) : EReal := ∑ i : Fin 32, dvP p (foldOf i j) k * vhP p (foldOf i j) k

/-- What a point adds to the bias's running sums. -/
def biasAdd (p : Pt Ideal) (j : Fin 8) (k : Fin 1024) : EReal := ∑ i : Fin 32, dvP p (foldOf i j) k

theorem gain_piece (prev : Vec Ideal S40x1024 .f32) (L) (i i24) (j : Fin 8) (k : Fin 1024) :
    k0_pay1392 (k0_pay1109 (View.ld p.x0 (Rect.unit ![0, 4096] ![256, 1024] inb_S256x6144_S256x1024_0_4096)))
      (p.arg27.view.readCov (piecesV p ++ L) (Rect.unit (s := S288x1024) ![16, 0] ![256, 1024] i).toLoadRect)
      (View.ld prev (Rect.unit (s := S40x1024) ![24, 0] ![8, 1024] i24)) (ix2 j k)
      = prev (ix2 (⟨24 + j.val, by omega⟩ : Fin 40) k) + gainAdd p j k := by
  rw [gain_at]
  refine congrArg₂ (· + ·) (congrArg prev (funext fun a => match a with
      | ⟨0, _⟩ => Fin.ext (by show 24 + 1 * j.val = 24 + j.val; omega)
      | ⟨1, _⟩ => Fin.ext (by show 0 + 1 * k.val = k.val; omega))) ?_
  exact Finset.sum_congr rfl fun x _ => congrArg₂ (· * ·) (read_dv p L i _ k) (vhat_at p _ k)

theorem bias_piece (prev : Vec Ideal S40x1024 .f32) (L) (i i32) (j : Fin 8) (k : Fin 1024) :
    k0_pay1393 (p.arg27.view.readCov (piecesV p ++ L) (Rect.unit (s := S288x1024) ![16, 0] ![256, 1024] i).toLoadRect)
      (View.ld prev (Rect.unit (s := S40x1024) ![32, 0] ![8, 1024] i32)) (ix2 j k)
      = prev (ix2 (⟨32 + j.val, by omega⟩ : Fin 40) k) + biasAdd p j k := by
  rw [bias_at]
  refine congrArg₂ (· + ·) (congrArg prev (funext fun a => match a with
      | ⟨0, _⟩ => Fin.ext (by show 32 + 1 * j.val = 32 + j.val; omega)
      | ⟨1, _⟩ => Fin.ext (by show 0 + 1 * k.val = k.val; omega))) ?_
  exact Finset.sum_congr rfl fun x _ => read_dv p L i _ k

set_option maxHeartbeats 4000000 in
theorem gain_B (hc0 : ¬cond0_0 p.i) (hc1 : ¬cond0_1 p.i) (j : Fin 8) (k : Fin 1024) :
    sout0_B_4 c p hc0 hc1 xo22 xs4 xs5 xs6 (ix2 (⟨24 + j.val, by omega⟩ : Fin 40) k) = xs4 (ix2 (⟨24 + j.val, by omega⟩ : Fin 40) k) + gainAdd p j k := by
  unfold sout0_B_4 runB
  frame_out
  refine (row24 _ _ _ _ _ j k).trans ?_
  exact gain_piece p xs4 [_, _] _ _ j k

set_option maxHeartbeats 4000000 in
theorem bias_B (hc0 : ¬cond0_0 p.i) (hc1 : ¬cond0_1 p.i) (j : Fin 8) (k : Fin 1024) :
    sout0_B_4 c p hc0 hc1 xo22 xs4 xs5 xs6 (ix2 (⟨32 + j.val, by omega⟩ : Fin 40) k) = xs4 (ix2 (⟨32 + j.val, by omega⟩ : Fin 40) k) + biasAdd p j k := by
  unfold sout0_B_4 runB
  frame_out
  refine (row32 _ _ _ j k).trans ?_
  exact bias_piece p xs4 [_, _] _ _ j k

set_option maxHeartbeats 4000000 in
theorem gain_A (hc0 : cond0_0 p.i) (hc1 : ¬cond0_1 p.i) (j : Fin 8) (k : Fin 1024) :
    sout0_A_4 c p hc0 hc1 (ix2 (⟨24 + j.val, by omega⟩ : Fin 40) k) = gainAdd p j k := by
  unfold sout0_A_4 runA
  frame_open
  simp (disch := decide) only [↓ View.readCov_skip, ↓ View.readCov_cons_toLoadRect, ↓ View.readCov_fill]
  frame_out
  refine (row24 _ _ _ _ _ j k).trans ?_
  refine (gain_piece p (k0_pay405 (F := Ideal)) [_, _] _ _ j k).trans ?_
  rw [zero_acc, zero_add]

set_option maxHeartbeats 4000000 in
theorem bias_A (hc0 : cond0_0 p.i) (hc1 : ¬cond0_1 p.i) (j : Fin 8) (k : Fin 1024) :
    sout0_A_4 c p hc0 hc1 (ix2 (⟨32 + j.val, by omega⟩ : Fin 40) k) = biasAdd p j k := by
  unfold sout0_A_4 runA
  frame_open
  simp (disch := decide) only [↓ View.readCov_skip, ↓ View.readCov_cons_toLoadRect, ↓ View.readCov_fill]
  frame_out
  refine (row32 _ _ _ j k).trans ?_
  refine (bias_piece p (k0_pay405 (F := Ideal)) [_, _] _ _ j k).trans ?_
  rw [zero_acc, zero_add]

end Cert.SguBwdIdeal.Named

end
-- ==== Proof.SguLast.lean ====
/- What the last grid point of the branch's backward kernel leaves in the array of small gradients: the rows of the
   normalisation's gain and bias, of the mixing biases, and the two sums handed through. -/
module

public import proofs.«01_k».proof.Proof.SguFold

@[expose] public section

set_option maxRecDepth 16384

noncomputable section

namespace Cert.SguBwdIdeal.Named

open Cert.SguBwdIdeal.Gen
open Idealize.ShloMosaic Idealize.ShloMosaic.TcCoe Idealize.ShloMosaic.Tactic

/-- A stored row other than the one read. -/
theorem skipRow (w : Vec Ideal S1x1024 .f32) (L) (r : ℕ) (i) (q : Fin 40) (k : Fin 1024) (h : q.val ≠ r) :
    View.canon (Val := Elt Ideal) (e := .f32) (⟨Rect.unit (s := S40x1024) ![r, 0] ![1, 1024] i, w⟩ :: L) (ix2 q k) = View.canon L (ix2 q k) := by
  refine View.canon_cons_of_not_mem (⟨Rect.unit (s := S40x1024) ![r, 0] ![1, 1024] i, w⟩ : View.Piece (Elt Ideal) S40x1024 .f32) _ ?_
  rw [Rect.mem_set_unit]
  intro hm
  have h0 : r ≤ q.val := (hm 0).1
  have h1 : q.val < r + 1 := (hm 0).2
  omega

/-- A stored part of a row other than the one read. -/
theorem skipPart (w : Vec Ideal S1x128 .f32) (L) (r o : ℕ) (i) (q : Fin 40) (k : Fin 1024) (h : q.val ≠ r) :
    View.canon (Val := Elt Ideal) (e := .f32) (⟨Rect.unit (s := S40x1024) ![r, o] ![1, 128] i, w⟩ :: L) (ix2 q k) = View.canon L (ix2 q k) := by
  refine View.canon_cons_of_not_mem (⟨Rect.unit (s := S40x1024) ![r, o] ![1, 128] i, w⟩ : View.Piece (Elt Ideal) S40x1024 .f32) _ ?_
  rw [Rect.mem_set_unit]
  intro hm
  have h0 : r ≤ q.val := (hm 0).1
  have h1 : q.val < r + 1 := (hm 0).2
  omega

/-- The stored row itself. -/
theorem takeRow (w : Vec Ideal S1x1024 .f32) (L) (r : ℕ) (i) (q : Fin 40) (k : Fin 1024) (h : q.val = r) :
    View.canon (Val := Elt Ideal) (e := .f32) (⟨Rect.unit (s := S40x1024) ![r, 0] ![1, 1024] i, w⟩ :: L) (ix2 q k) = w (ix2 0 k) := by
  have e : (ix2 q k : S40x1024.Idx) = (Rect.unit (s := S40x1024) ![r, 0] ![1, 1024] i).emb (ix2 0 k) := funext fun a => match a with
      | ⟨0, _⟩ => Fin.ext (by show q.val = r + 1 * 0; omega)
      | ⟨1, _⟩ => Fin.ext (by show k.val = 0 + 1 * k.val; omega)
  rw [e]
  exact View.canon_cons_emb (Val := Elt Ideal) (e := .f32) (Rect.unit (s := S40x1024) ![r, 0] ![1, 1024] i) w L (ix2 0 k)

/-- A stored part of the row read, at other columns. -/
theorem skipCols (w : Vec Ideal S1x128 .f32) (L) (r o : ℕ) (i) (q : Fin 40) (k : Fin 1024) (h : k.val < o) :
    View.canon (Val := Elt Ideal) (e := .f32) (⟨Rect.unit (s := S40x1024) ![r, o] ![1, 128] i, w⟩ :: L) (ix2 q k) = View.canon L (ix2 q k) := by
  refine View.canon_cons_of_not_mem (⟨Rect.unit (s := S40x1024) ![r, o] ![1, 128] i, w⟩ : View.Piece (Elt Ideal) S40x1024 .f32) _ ?_
  rw [Rect.mem_set_unit]
  intro hm
  have h0 : o ≤ k.val := (hm 1).1
  omega

/-- The stored part of the row itself. -/
theorem takePart (w : Vec Ideal S1x128 .f32) (L) (r o : ℕ) (i) (q : Fin 40) (k : Fin 1024) (s : Fin 128) (h : q.val = r) (hk : k.val = o + s.val) :
    View.canon (Val := Elt Ideal) (e := .f32) (⟨Rect.unit (s := S40x1024) ![r, o] ![1, 128] i, w⟩ :: L) (ix2 q k) = w (ix2 0 s) := by
  have e : (ix2 q k : S40x1024.Idx) = (Rect.unit (s := S40x1024) ![r, o] ![1, 128] i).emb (ix2 0 s) := funext fun a => match a with
      | ⟨0, _⟩ => Fin.ext (by show q.val = r + 1 * 0; omega)
      | ⟨1, _⟩ => Fin.ext (by show k.val = o + 1 * s.val; omega)
  rw [e]
  exact View.canon_cons_emb (Val := Elt Ideal) (e := .f32) (Rect.unit (s := S40x1024) ![r, o] ![1, 128] i) w L (ix2 0 s)

theorem sum8 (a : Vec Ideal S8x1024 .f32) (k : Fin 1024) : k0_pay373 a (ix2 0 k) = ∑ j : Fin 8, a (ix2 j k) := by
  pointwise [k0_pay373]

theorem sum8_bias (a : Vec Ideal S8x1024 .f32) (k : Fin 1024) : k0_pay363 a (ix2 0 k) = ∑ j : Fin 8, a (ix2 j k) := by
  pointwise [k0_pay363]

theorem sum8_gain (a : Vec Ideal S8x1024 .f32) (k : Fin 1024) : k0_pay362 a (ix2 0 k) = ∑ j : Fin 8, a (ix2 j k) := by
  pointwise [k0_pay362]

theorem ones_at (w : Vec Ideal S128x128 .f32) (s : Fin 128) : k0_pay365 k0_pay364 w (ix2 0 s) = ∑ d : Fin 128, w (ix2 s d) := by
  pointwise [k0_pay365, k0_pay364]

/-- Reading one head's columns of the biases' running gradient back from the scratch. -/
theorem read_gb (p : Pt Ideal) (prev : Vec Ideal S128x1024 .f32) (L : List (View.Piece (Elt Ideal) S128x1024 .f32)) (h : Fin 8) (o : ℕ) (ho : o = 128 * h.val) (i) (s d : Fin 128) :
    p.arg30.view.readCov (piecesB p prev ++ L) (Rect.unit (s := S128x1024) ![0, o] ![128, 128] i).toLoadRect (ix2 s d) = gbFn p prev (ix2 s (colOf h d)) := by
  rw [View.readCov_eq_canon']
  have e : (Rect.unit (s := S128x1024) ![0, o] ![128, 128] i).emb (ix2 s d) = ix2 s (colOf h d) := funext fun a => match a with
      | ⟨0, _⟩ => Fin.ext (by show 0 + 1 * s.val = s.val; omega)
      | ⟨1, _⟩ => Fin.ext (by show o + 1 * d.val = 128 * h.val + d.val; omega)
  show View.canon (Val := Elt Ideal) (piecesB p prev ++ L) ((Rect.unit (s := S128x1024) ![0, o] ![128, 128] i).emb (ix2 s d)) = _
  rw [e, canonB p prev L _]

variable (c : Dev nD) (p : Pt Ideal) (hc0 : ¬cond0_0 p.i) (hc1 : cond0_1 p.i)
  (xo22 : Vec Ideal S8x128x128 .f32) (xs4 : Vec Ideal S40x1024 .f32) (xs5 : Vec Ideal S248x1024 .f32) (xs6 : Vec Ideal S128x1024 .f32)

set_option maxHeartbeats 4000000 in
theorem small0 (k : Fin 1024) :
    out0_C_21 c p hc0 hc1 xo22 xs4 xs5 xs6 (ix2 (0 : Fin 40) k) = ∑ j : Fin 8, p.x18 (ix2 j k) := by
  unfold out0_C_21 runC
  frame_open
  rw [View.read_writes_junk_eq_canon]
  iterate 31 refine (skipRow _ _ _ _ _ _ (by decide)).trans ?_
  refine (takeRow _ _ 0 _ _ _ rfl).trans ?_
  frame_out
  exact sum8 p.x18 k

set_option maxHeartbeats 4000000 in
theorem small7 (k : Fin 1024) :
    out0_C_21 c p hc0 hc1 xo22 xs4 xs5 xs6 (ix2 (7 : Fin 40) k) = p.x17 (ix2 0 k) := by
  unfold out0_C_21 runC
  frame_open
  rw [View.read_writes_junk_eq_canon]
  iterate 31 refine (skipRow _ _ _ _ _ _ (by decide)).trans ?_
  refine (skipRow _ _ _ _ _ _ (by decide)).trans ?_
  refine (takeRow _ _ 7 _ _ _ rfl).trans ?_
  frame_out
  exact congrArg p.x17 (funext fun a => match a with
      | ⟨0, _⟩ => Fin.ext (by show 0 + 1 * 0 = 0; omega)
      | ⟨1, _⟩ => Fin.ext (by show 0 + 1 * k.val = k.val; omega))

set_option maxHeartbeats 4000000 in
theorem small5 (k : Fin 1024) :
    out0_C_21 c p hc0 hc1 xo22 xs4 xs5 xs6 (ix2 (5 : Fin 40) k) = ∑ j : Fin 8, (xs4 (ix2 (⟨32 + j.val, by omega⟩ : Fin 40) k) + biasAdd p j k) := by
  unfold out0_C_21 runC
  frame_open
  rw [View.read_writes_junk_eq_canon]
  iterate 33 refine (skipRow _ _ _ _ _ _ (by decide)).trans ?_
  iterate 8 refine (skipPart _ _ _ _ _ _ _ (by decide)).trans ?_
  refine (takeRow _ _ 5 _ _ _ rfl).trans ?_
  simp (disch := decide) only [↓ View.readCov_skip, ↓ View.readCov_cons_toLoadRect, ↓ View.readCov_fill]
  frame_out
  refine (sum8_bias _ k).trans ?_
  exact Finset.sum_congr rfl fun j _ => bias_piece p xs4 [_, _] _ _ j k

set_option maxHeartbeats 4000000 in
theorem small4 (k : Fin 1024) :
    out0_C_21 c p hc0 hc1 xo22 xs4 xs5 xs6 (ix2 (4 : Fin 40) k) = ∑ j : Fin 8, (xs4 (ix2 (⟨24 + j.val, by omega⟩ : Fin 40) k) + gainAdd p j k) := by
  unfold out0_C_21 runC
  frame_open
  rw [View.read_writes_junk_eq_canon]
  iterate 33 refine (skipRow _ _ _ _ _ _ (by decide)).trans ?_
  iterate 8 refine (skipPart _ _ _ _ _ _ _ (by decide)).trans ?_
  refine (skipRow _ _ _ _ _ _ (by decide)).trans ?_
  refine (takeRow _ _ 4 _ _ _ rfl).trans ?_
  simp (disch := decide) only [↓ View.readCov_skip, ↓ View.readCov_cons_toLoadRect, ↓ View.readCov_fill]
  frame_out
  refine (sum8_gain _ k).trans ?_
  exact Finset.sum_congr rfl fun j _ => gain_piece p xs4 [_, _] _ _ j k

set_option maxHeartbeats 8000000 in
theorem small6 (h : Fin 8) (s : Fin 128) :
    out0_C_21 c p hc0 hc1 xo22 xs4 xs5 xs6 (ix2 (6 : Fin 40) (colOf h s)) = ∑ d : Fin 128, gbFn p xs6 (ix2 s (colOf h d)) := by
  unfold out0_C_21 runC
  frame_open
  rw [View.read_writes_junk_eq_canon]
  iterate 33 refine (skipRow _ _ _ _ _ _ (by decide)).trans ?_
  obtain rfl | h0 := eq_or_ne h 7
  · refine (takePart _ _ 6 896 _ _ _ s rfl rfl).trans ?_
    frame_out
    refine (ones_at _ s).trans ?_
    exact Finset.sum_congr rfl fun d _ => read_gb p xs6 [] 7 896 rfl _ s d
  refine (skipCols _ _ _ _ _ _ _ (by show 128 * h.val + s.val < 896; omega)).trans ?_
  obtain rfl | h1 := eq_or_ne h 6
  · refine (takePart _ _ 6 768 _ _ _ s rfl rfl).trans ?_
    frame_out
    refine (ones_at _ s).trans ?_
    exact Finset.sum_congr rfl fun d _ => read_gb p xs6 [] 6 768 rfl _ s d
  refine (skipCols _ _ _ _ _ _ _ (by show 128 * h.val + s.val < 768; omega)).trans ?_
  obtain rfl | h2 := eq_or_ne h 5
  · refine (takePart _ _ 6 640 _ _ _ s rfl rfl).trans ?_
    frame_out
    refine (ones_at _ s).trans ?_
    exact Finset.sum_congr rfl fun d _ => read_gb p xs6 [] 5 640 rfl _ s d
  refine (skipCols _ _ _ _ _ _ _ (by show 128 * h.val + s.val < 640; omega)).trans ?_
  obtain rfl | h3 := eq_or_ne h 4
  · refine (takePart _ _ 6 512 _ _ _ s rfl rfl).trans ?_
    frame_out
    refine (ones_at _ s).trans ?_
    exact Finset.sum_congr rfl fun d _ => read_gb p xs6 [] 4 512 rfl _ s d
  refine (skipCols _ _ _ _ _ _ _ (by show 128 * h.val + s.val < 512; omega)).trans ?_
  obtain rfl | h4 := eq_or_ne h 3
  · refine (takePart _ _ 6 384 _ _ _ s rfl rfl).trans ?_
    frame_out
    refine (ones_at _ s).trans ?_
    exact Finset.sum_congr rfl fun d _ => read_gb p xs6 [] 3 384 rfl _ s d
  refine (skipCols _ _ _ _ _ _ _ (by show 128 * h.val + s.val < 384; omega)).trans ?_
  obtain rfl | h5 := eq_or_ne h 2
  · refine (takePart _ _ 6 256 _ _ _ s rfl rfl).trans ?_
    frame_out
    refine (ones_at _ s).trans ?_
    exact Finset.sum_congr rfl fun d _ => read_gb p xs6 [] 2 256 rfl _ s d
  refine (skipCols _ _ _ _ _ _ _ (by show 128 * h.val + s.val < 256; omega)).trans ?_
  obtain rfl | h6 := eq_or_ne h 1
  · refine (takePart _ _ 6 128 _ _ _ s rfl rfl).trans ?_
    frame_out
    refine (ones_at _ s).trans ?_
    exact Finset.sum_congr rfl fun d _ => read_gb p xs6 [] 1 128 rfl _ s d
  refine (skipCols _ _ _ _ _ _ _ (by show 128 * h.val + s.val < 128; omega)).trans ?_
  obtain rfl | h7 := eq_or_ne h 0
  · refine (takePart _ _ 6 0 _ _ _ s rfl rfl).trans ?_
    frame_out
    refine (ones_at _ s).trans ?_
    exact Finset.sum_congr rfl fun d _ => read_gb p xs6 [] 0 0 rfl _ s d
  omega

end Cert.SguBwdIdeal.Named

end
-- ==== Proof.SguRef.lean ====
/- The reference of the gating unit's backward pass, entry by entry. -/
module

public import proofs.«01_k».proof.Proof.SguMath
public import Idealize.ShloMosaic.Lib.TwoAxisContraction
public import proofs.«01_k».proof.Proof.Gen.SguBwdRefIdeal.Run
public import proofs.«01_k».proof.Proof.Gen.SguBwdRefIdeal.Read

@[expose] public section

set_option maxRecDepth 16384

noncomputable section

namespace Cert.SguRef

open Cert.SguBwdRefIdeal Cert.SguBwdRefIdeal.Gen Cert.SguBwdRefIdeal.Read Idealize.ShloMosaic Idealize.ShloMosaic.TcCoe Idealize.SL.Sem
open Cert.Sgu

variable (x0 : S8192x6144.Idx → EReal) (x1 : S8192x2048.Idx → EReal) (x6 x7 : S1x1024.Idx → EReal)
  (x8 : S1x8x128x128.Idx → EReal)

/-- The columns of the projection that the gating unit normalises, of one row. -/
abbrev V (s : Fin 8192) (k : Fin 1024) : EReal := x0 (ix2 s (⟨4096 + k.val, by omega⟩ : Fin 6144))
/-- The columns it multiplies by. -/
abbrev U (s : Fin 8192) (k : Fin 1024) : EReal := x0 (ix2 s (⟨3072 + k.val, by omega⟩ : Fin 6144))
/-- The columns that gate the product. -/
abbrev G (s : Fin 8192) (k : Fin 1024) : EReal := x0 (ix2 s (⟨5120 + k.val, by omega⟩ : Fin 6144))
/-- The gradient of the branch's output. -/
abbrev D (s : Fin 8192) (k : Fin 1024) : EReal := x1 (ix2 s (⟨1024 + k.val, by omega⟩ : Fin 2048))
/-- The normalised row. -/
abbrev Vh (s : Fin 8192) (k : Fin 1024) : EReal := unit (V x0 s) k
/-- … after the gain and the shift. -/
abbrev Vn (s : Fin 8192) (k : Fin 1024) : EReal := Vh x0 s k * x6 (ix2 (0 : Fin 1) k) + x7 (ix2 (0 : Fin 1) k)
/-- What reaches the mixed rows. -/
abbrev Dm (s : Fin 8192) (k : Fin 1024) : EReal := gated (U x0 s k) (G x0 s k) (D x1 s k)

theorem at2 (s : Fin 8192) (k : Fin 1024) : val_main_v2 (F := Ideal) x0 (ix2 s k) = U x0 s k := by
  unfold val_main_v2 val_main_v1 val_main_v0
  pointwise

theorem at3 (s : Fin 8192) (k : Fin 1024) : val_main_v3 (F := Ideal) x0 (ix2 s k) = V x0 s k := by
  unfold val_main_v3 val_main_v1 val_main_v0
  pointwise
  exact congrArg x0 (congrArg (ix2 s) (Fin.ext (by show 3072 + (1024 + k.val) = 4096 + k.val; omega)))

theorem at4 (s : Fin 8192) (k : Fin 1024) : val_main_v4 (F := Ideal) x0 (ix2 s k) = G x0 s k := by
  unfold val_main_v4 val_main_v1 val_main_v0
  pointwise
  exact congrArg x0 (congrArg (ix2 s) (Fin.ext (by show 3072 + (2048 + k.val) = 5120 + k.val; omega)))

theorem at14 (s : Fin 8192) (k : Fin 1024) : val_main_v14 (F := Ideal) x0 (ix2 s k) = cent (V x0 s) k := by
  have h : val_main_v14 (F := Ideal) x0 (ix2 s k) = val_main_v3 (F := Ideal) x0 (ix2 s k) -
      Ideal.div (∑ j : Fin 1024, val_main_v3 (F := Ideal) x0 (ix2 s j)) (Ideal.ofBits .f32 0x44800000#32) := by
    unfold val_main_v14 val_main_v13 val_main_v12 val_main_v11 val_main_v10 val_main_v9 val_main_cst val_main_cst_0
    generalize val_main_v3 (F := Ideal) x0 = y
    pointwise
  rw [h]
  simp only [at3]
  rfl

theorem at24 (s : Fin 8192) (k : Fin 1024) : val_main_v24 (F := Ideal) x0 (ix2 s k) = Vh x0 s k := by
  have h : val_main_v24 (F := Ideal) x0 (ix2 s k) = val_main_v14 (F := Ideal) x0 (ix2 s k) *
      Ideal.rsqrt (Ideal.div (∑ j : Fin 1024, val_main_v14 (F := Ideal) x0 (ix2 s j) * val_main_v14 (F := Ideal) x0 (ix2 s j))
        (Ideal.ofBits .f32 0x44800000#32) + Ideal.ofBits .f32 0x358637BD#32) := by
    unfold val_main_v24 val_main_v23 val_main_v22 val_main_v21 val_main_v20 val_main_v19 val_main_v18 val_main_v17 val_main_v16
      val_main_v15 val_main_cst_1 val_main_cst_2 val_main_cst_3
    generalize val_main_v14 (F := Ideal) x0 = y
    pointwise
  rw [h]
  simp only [at14]
  rfl

theorem at30 (s : Fin 8192) (k : Fin 1024) : val_main_v30 (F := Ideal) x0 x6 x7 (ix2 s k) = Vn x0 x6 x7 s k := by
  have h : val_main_v30 (F := Ideal) x0 x6 x7 (ix2 s k) =
      val_main_v24 (F := Ideal) x0 (ix2 s k) * x6 (ix2 (0 : Fin 1) k) + x7 (ix2 (0 : Fin 1) k) := by
    unfold val_main_v30 val_main_v29 val_main_v28 val_main_v27 val_main_v26 val_main_v25 val_main_v5 val_main_v6
    generalize val_main_v24 (F := Ideal) x0 = y
    pointwise
  rw [h, at24]

theorem at45 (s : Fin 8192) (k : Fin 1024) : val_main_v45 (F := Ideal) x0 x1 (ix2 s k) = Dm x0 x1 s k := by
  have h : val_main_v45 (F := Ideal) x0 x1 (ix2 s k) = val_main_v2 (F := Ideal) x0 (ix2 s k) * (D x1 s k *
      (val_main_v4 (F := Ideal) x0 (ix2 s k) * Ideal.div 1 (1 + Ideal.exp (-(val_main_v4 (F := Ideal) x0 (ix2 s k)))))) := by
    unfold val_main_v45 val_main_v44 val_main_v43 val_main_v42 val_main_v40 val_main_call0_v5 val_main_call0_v4 val_main_call0_v3
      val_main_call0_v2 val_main_call0_v1 val_main_call0_v0 val_main_call0_cst val_main_call0_cst_0
    generalize val_main_v2 (F := Ideal) x0 = y
    generalize val_main_v4 (F := Ideal) x0 = z
    pointwise
  rw [h, at2, at4, ← mul_assoc, mul_comm (U x0 s k)]
  rfl

/-- Row `p` of chunk `c`. -/
abbrev rowOf (c : Fin 64) (p : Fin 128) : Fin 8192 := ⟨128 * c.val + p.val, by omega⟩
/-- Column `d` of head `h`. -/
abbrev colOf (h : Fin 8) (d : Fin 128) : Fin 1024 := ⟨128 * h.val + d.val, by omega⟩

theorem split4 (y : S8192x1024.Idx → EReal) (hc : S8192x1024.ShapeCasts S64x128x8x128) (c : Fin 64) (p : Fin 128) (h : Fin 8) (d : Fin 128) :
    shapeCast S64x128x8x128 y hc (ix4 c p h d) = y (ix2 (rowOf c p) (colOf h d)) := by
  refine shapeCast_apply y hc _ _ ?_
  rewrite [Shape.rowMajor_val_two, Shape.rowMajor_val_four]
  show (128 * c.val + p.val) * 1024 + (128 * h.val + d.val) = ((c.val * 128 + p.val) * 8 + h.val) * 128 + d.val
  omega

theorem at31 (c : Fin 64) (p : Fin 128) (h : Fin 8) (d : Fin 128) :
    val_main_v31 (F := Ideal) x0 x6 x7 (ix4 c p h d) = Vn x0 x6 x7 (rowOf c p) (colOf h d) :=
  (split4 _ _ c p h d).trans (at30 x0 x6 x7 _ _)

theorem at46 (c : Fin 64) (p : Fin 128) (h : Fin 8) (d : Fin 128) :
    val_main_v46 (F := Ideal) x0 x1 (ix4 c p h d) = Dm x0 x1 (rowOf c p) (colOf h d) :=
  (split4 _ _ c p h d).trans (at45 x0 x1 _ _)

theorem at51 (h : Fin 8) (c : Fin 64) (d p : Fin 128) :
    val_main_v51 (F := Ideal) x0 x1 (ix4 h c d p) = Dm x0 x1 (rowOf c p) (colOf h d) := by
  rw [← at46]
  unfold val_main_v51
  pointwise

/-- The gradient of the mixing matrices: at head `h`, over the chunks and the head's columns. -/
theorem at52 (h : Fin 8) (p q : Fin 128) :
    val_main_v52 (F := Ideal) x0 x1 x6 x7 (ix3 h p q)
      = ∑ c : Fin 64, ∑ d : Fin 128, Dm x0 x1 (rowOf c p) (colOf h d) * Vn x0 x6 x7 (rowOf c q) (colOf h d) := by
  have e1 := at51 x0 x1
  have e2 := at31 x0 x6 x7
  unfold val_main_v52
  generalize val_main_v51 (F := Ideal) x0 x1 = y0 at e1 ⊢
  generalize val_main_v31 (F := Ideal) x0 x6 x7 = y1 at e2 ⊢
  simp only [Host.dotGeneral]
  rw [Ideal.dotGeneral_apply, ← Equiv.sum_comp (ValueIdx.contrEquiv2 dot_S8x64x128x128_S64x128x8x128_S8x128x128_12_03_3_1_0_2 64 128 rfl rfl rfl).symm,
    Fintype.sum_prod_type]
  refine Finset.sum_congr rfl fun c _ => Finset.sum_congr rfl fun d _ => ?_
  rw [← e1, ← e2]
  have k0 := ValueIdx.contrEquiv2_symm_val0 dot_S8x64x128x128_S64x128x8x128_S8x128x128_12_03_3_1_0_2 64 128 rfl rfl rfl (c, d)
  have k1 := ValueIdx.contrEquiv2_symm_val1 dot_S8x64x128x128_S64x128x8x128_S8x128x128_12_03_3_1_0_2 64 128 rfl rfl rfl (c, d)
  refine congrArg₂ (· * ·) (congrArg y0 (funext fun a => Fin.ext ?_)) (congrArg y1 (funext fun a => Fin.ext ?_))
  · match a with
    | ⟨0, _⟩ => rfl
    | ⟨1, _⟩ => exact k0
    | ⟨2, _⟩ => exact k1
    | ⟨3, _⟩ => rfl
  · match a with
    | ⟨0, _⟩ => exact k0
    | ⟨1, _⟩ => rfl
    | ⟨2, _⟩ => rfl
    | ⟨3, _⟩ => exact k1

/-- The gradient of the normalised rows: each column of a chunk is mixed by the transposed matrix of its head. -/
abbrev Dv (c : Fin 64) (q : Fin 128) (h : Fin 8) (d : Fin 128) : EReal :=
  ∑ p : Fin 128, Dm x0 x1 (rowOf c p) (colOf h d) * x8 (ix4 (0 : Fin 1) h p q)

theorem at55 (c : Fin 64) (q : Fin 128) (h : Fin 8) (d : Fin 128) :
    val_main_v55 (F := Ideal) x0 x1 x8 (ix2 (rowOf c q) (colOf h d)) = Dv x0 x1 x8 c q h d := by
  have e0 : val_main_v55 (F := Ideal) x0 x1 x8 (ix2 (rowOf c q) (colOf h d)) = val_main_v54 (F := Ideal) x0 x1 x8 (ix4 c q h d) := by
    unfold val_main_v55
    refine shapeCast_apply _ _ _ _ ?_
    rewrite [Shape.rowMajor_val_two, Shape.rowMajor_val_four]
    show ((c.val * 128 + q.val) * 8 + h.val) * 128 + d.val = (128 * c.val + q.val) * 1024 + (128 * h.val + d.val)
    omega
  have e1 : val_main_v54 (F := Ideal) x0 x1 x8 (ix4 c q h d) = val_main_v53 (F := Ideal) x0 x1 x8 (ix4 h c d q) := by
    unfold val_main_v54
    pointwise
  rw [e0, e1, val_main_v53_apply]
  refine Finset.sum_congr rfl fun p _ => congrArg₂ (· * ·) ?_ ?_
  · exact (congrArg (val_main_v51 (F := Ideal) x0 x1) (by funext a; match a with | ⟨0, _⟩ => rfl | ⟨1, _⟩ => rfl | ⟨2, _⟩ => rfl | ⟨3, _⟩ => rfl)).trans (at51 x0 x1 h c d p)
  · unfold val_main_v7
    refine shapeCast_apply _ _ _ _ ?_
    rewrite [Shape.rowMajor_val_four, Shape.rowMajor_val_three]
    show ((0 * 8 + h.val) * 128 + p.val) * 128 + q.val = (h.val * 128 + p.val) * 128 + q.val
    omega

/-- A sum over all rows is a sum over the chunks and the rows of each. -/
theorem sum_rows (f : Fin 8192 → EReal) : ∑ s, f s = ∑ c : Fin 64, ∑ p : Fin 128, f (rowOf c p) := by
  rw [← Equiv.sum_comp (finProdFinEquiv (m := 64) (n := 128)) f, Fintype.sum_prod_type]
  refine Finset.sum_congr rfl fun c _ => Finset.sum_congr rfl fun p _ => congrArg f (Fin.ext ?_)
  show p.val + 128 * c.val = 128 * c.val + p.val
  omega

/-- The gradient of the mixing's shift: at row `p` of head `h`, over the chunks and the head's columns. -/
theorem at50 (h : Fin 8) (p : Fin 128) :
    val_main_v50 (F := Ideal) x0 x1 (ix2 h p) = ∑ c : Fin 64, ∑ d : Fin 128, Dm x0 x1 (rowOf c p) (colOf h d) := by
  have e0 : val_main_v50 (F := Ideal) x0 x1 (ix2 h p) = val_main_v49 (F := Ideal) x0 x1 (ix2 p h) := by
    unfold val_main_v50
    pointwise
  have e1 : val_main_v49 (F := Ideal) x0 x1 (ix2 p h) = val_main_v48 (F := Ideal) x0 x1 (ix4 (0 : Fin 1) p h (0 : Fin 1)) := by
    unfold val_main_v49 val_main_cst_5
    generalize val_main_v48 (F := Ideal) x0 x1 = y
    simp only [Host.reduceAdd, Ideal.hostReduceAdd_def]
    unfold Ideal.hostReduceAdd
    refine (zero_add' _).trans ((Finset.sum_filter_eq_sum_of_fiber _ (fun _ : Fin 1 => ix4 (0 : Fin 1) p h (0 : Fin 1)) (fun _ _ _ => Subsingleton.elim _ _) (fun i => ?_) y).trans ?_)
    · constructor
      · intro e
        refine ⟨0, ?_⟩
        funext a; apply Fin.ext
        match a with
        | ⟨0, _⟩ => have h0 : (i 0).val < 1 := (i 0).isLt; show 0 = (i 0).val; omega
        | ⟨1, _⟩ => exact (congrArg Fin.val (congrFun e ⟨0, by decide⟩)).symm
        | ⟨2, _⟩ => exact (congrArg Fin.val (congrFun e ⟨1, by decide⟩)).symm
        | ⟨3, _⟩ => have h0 : (i 3).val < 1 := (i 3).isLt; show 0 = (i 3).val; omega
      · rintro ⟨k, rfl⟩
        funext b
        match b with
        | ⟨0, _⟩ => rfl
        | ⟨1, _⟩ => rfl
    · simp only [Finset.univ_unique, Finset.sum_singleton]
  have e2 : val_main_v48 (F := Ideal) x0 x1 (ix4 (0 : Fin 1) p h (0 : Fin 1)) = val_main_v47 (F := Ideal) x0 x1 (ix2 p h) := by
    unfold val_main_v48
    refine shapeCast_apply _ _ _ _ ?_
    rewrite [Shape.rowMajor_val_two, Shape.rowMajor_val_four]
    show p.val * 8 + h.val = ((0 * 128 + p.val) * 8 + h.val) * 1 + 0
    omega
  rw [e0, e1, e2]
  have e := at46 x0 x1
  unfold val_main_v47 val_main_cst_4
  generalize val_main_v46 (F := Ideal) x0 x1 = y at e ⊢
  simp only [Host.reduceAdd, Ideal.hostReduceAdd_def]
  unfold Ideal.hostReduceAdd
  refine (zero_add' _).trans ((Finset.sum_filter_eq_sum_of_fiber _ (fun k : Fin 64 × Fin 128 => ix4 k.1 p h k.2) (fun _ _ e => Prod.ext (congrFun e 0) (congrFun e 3)) (fun i => ?_) y).trans ?_)
  · constructor
    · intro e
      refine ⟨(i 0, i 3), ?_⟩
      funext a; apply Fin.ext
      match a with
      | ⟨0, _⟩ => rfl
      | ⟨1, _⟩ => exact (congrArg Fin.val (congrFun e ⟨0, by decide⟩)).symm
      | ⟨2, _⟩ => exact (congrArg Fin.val (congrFun e ⟨1, by decide⟩)).symm
      | ⟨3, _⟩ => rfl
    · rintro ⟨k, rfl⟩
      funext b
      match b with
      | ⟨0, _⟩ => rfl
      | ⟨1, _⟩ => rfl
  · rw [Fintype.sum_prod_type]
    exact Finset.sum_congr rfl fun c _ => Finset.sum_congr rfl fun d _ => e c p h d

/-- The gradient of the layer norm's shift, at column `d` of head `h`. -/
theorem at58 (h : Fin 8) (d : Fin 128) :
    val_main_v58 (F := Ideal) x0 x1 x8 (ix1 (colOf h d)) = ∑ c : Fin 64, ∑ q : Fin 128, Dv x0 x1 x8 c q h d := by
  have e : val_main_v58 (F := Ideal) x0 x1 x8 (ix1 (colOf h d))
      = ∑ s : Fin 8192, val_main_v55 (F := Ideal) x0 x1 x8 (ix2 s (colOf h d)) := by
    unfold val_main_v58 val_main_v57 val_main_v56 val_main_cst_6 val_main_cst_7
    generalize val_main_v55 (F := Ideal) x0 x1 x8 = y
    pointwise
    simp only [Finset.univ_unique, Finset.sum_singleton]
  rw [e, sum_rows]
  simp only [at55]

/-- The gradient of the layer norm's gain, at column `d` of head `h`. -/
theorem at62 (h : Fin 8) (d : Fin 128) :
    val_main_v62 (F := Ideal) x0 x1 x8 (ix1 (colOf h d))
      = ∑ c : Fin 64, ∑ q : Fin 128, Vh x0 (rowOf c q) (colOf h d) * Dv x0 x1 x8 c q h d := by
  have e : val_main_v62 (F := Ideal) x0 x1 x8 (ix1 (colOf h d))
      = ∑ s : Fin 8192, val_main_v24 (F := Ideal) x0 (ix2 s (colOf h d)) * val_main_v55 (F := Ideal) x0 x1 x8 (ix2 s (colOf h d)) := by
    unfold val_main_v62 val_main_v61 val_main_v60 val_main_v59 val_main_cst_8 val_main_cst_9
    generalize val_main_v55 (F := Ideal) x0 x1 x8 = y
    generalize val_main_v24 (F := Ideal) x0 = z
    pointwise
    simp only [Finset.univ_unique, Finset.sum_singleton]
  rw [e, sum_rows]
  simp only [at55, at24]

variable (x10 x11 : S8x1024.Idx → EReal)

theorem row0 (k : Fin 1024) : val_main_v71 (F := Ideal) x0 x1 x8 x10 x11 (ix2 (0 : Fin 40) k) = ∑ r : Fin 8, x11 (ix2 r k) := by
  unfold val_main_v71 val_main_v64 val_main_v63 val_main_cst_10
  generalize val_main_v65 (F := Ideal) = y1
  generalize val_main_v66 (F := Ideal) x0 x1 x8 = y2
  pointwise

theorem row4 (k : Fin 1024) :
    val_main_v71 (F := Ideal) x0 x1 x8 x10 x11 (ix2 (4 : Fin 40) k) = val_main_v62 (F := Ideal) x0 x1 x8 (ix1 k) := by
  unfold val_main_v71 val_main_v66
  generalize val_main_v62 (F := Ideal) x0 x1 x8 = y
  pointwise

theorem row5 (k : Fin 1024) :
    val_main_v71 (F := Ideal) x0 x1 x8 x10 x11 (ix2 (5 : Fin 40) k) = val_main_v58 (F := Ideal) x0 x1 x8 (ix1 k) := by
  unfold val_main_v71 val_main_v67
  generalize val_main_v58 (F := Ideal) x0 x1 x8 = y
  pointwise

theorem row6 (h : Fin 8) (p : Fin 128) :
    val_main_v71 (F := Ideal) x0 x1 x8 x10 x11 (ix2 (6 : Fin 40) (colOf h p)) = val_main_v50 (F := Ideal) x0 x1 (ix2 h p) := by
  unfold val_main_v71 val_main_v68
  generalize val_main_v50 (F := Ideal) x0 x1 = y
  pointwise

theorem row7 (k : Fin 1024) : val_main_v71 (F := Ideal) x0 x1 x8 x10 x11 (ix2 (7 : Fin 40) k) = x10 (ix2 (0 : Fin 8) k) := by
  unfold val_main_v71 val_main_v69
  pointwise

end Cert.SguRef

end
-- ==== Proof.SguBlocks.lean ====
/- The blocks the branch's backward kernel reads at each grid point, entry by entry, in terms of the arguments: what a point
   computes of its 256 rows is what the whole arrays give at rows `256 t …`. -/
module

public import proofs.«01_k».proof.Proof.SguLast
public import proofs.«01_k».proof.Proof.SguFrame
public import proofs.«01_k».proof.Proof.SguRef
public import proofs.«01_k».proof.Proof.Sums
public import Idealize.ShloMosaic.Lib.StableHlo.ReadAt

@[expose] public section

set_option maxRecDepth 16384

noncomputable section

namespace Cert.SguBwdIdeal.Named

open Cert.SguBwdIdeal Cert.SguBwdIdeal.Gen
open Idealize.ShloMosaic Idealize.ShloMosaic.TcCoe Idealize.ShloMosaic.Tactic Idealize.SL.Sem

variable (m : (ℓ : Loc nD τ sig) → Buf (Elt Ideal) ℓ)

/-- The projection. -/
abbrev X0 (c : Dev nD) : S8192x6144.Idx → EReal := m ((c : Thread nD τ).loc main_arg0)
/-- The gradient of the two branches. -/
abbrev X1 (c : Dev nD) : S8192x2048.Idx → EReal := m ((c : Thread nD τ).loc main_arg1)
/-- The gain of the normalisation. -/
abbrev X6 (c : Dev nD) : S1x1024.Idx → EReal := m ((c : Thread nD τ).loc main_arg6)
/-- Its shift. -/
abbrev X7 (c : Dev nD) : S1x1024.Idx → EReal := m ((c : Thread nD τ).loc main_arg7)
/-- The mixing weights. -/
abbrev X8 (c : Dev nD) : S1x8x128x128.Idx → EReal := m ((c : Thread nD τ).loc main_arg8)
/-- The final gain's gradient, in its first row. -/
abbrev X10 (c : Dev nD) : S8x1024.Idx → EReal := m ((c : Thread nD τ).loc main_arg10)
/-- Eight rows of partial sums of the squared error. -/
abbrev X11 (c : Dev nD) : S8x1024.Idx → EReal := m ((c : Thread nD τ).loc main_arg11)

theorem lt32 (t : Fin cfg0.N) : t.val < 32 := lt_of_lt_of_eq t.isLt N_0

/-- Row `r` of point `t`'s block. -/
abbrev rowAt (t : Fin cfg0.N) (r : Fin 256) : Fin 8192 := ⟨256 * t.val + r.val, by have := lt32 t; omega⟩

theorem index0 : ∀ t : Fin cfg0.N, win0_0.index t (0 : Fin 2) = t.val ∧ win0_0.index t (1 : Fin 2) = 0 := by decide +kernel
theorem index1 : ∀ t : Fin cfg0.N, win0_1.index t (0 : Fin 2) = t.val ∧ win0_1.index t (1 : Fin 2) = 0 := by decide +kernel

theorem iblk0_apply (c : Dev nD) (t : Fin cfg0.N) (r : Fin 256) (e : Fin 6144) : iblk m c 0 t (ix2 r e) = X0 m c (ix2 (rowAt t r) e) := by
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [(index0 t).1]; omega
  | ⟨1, _⟩ => show win0_0.index t 1 * 6144 + 1 * e.val = e.val; rw [(index0 t).2]; omega

theorem iblk1_apply (c : Dev nD) (t : Fin cfg0.N) (r : Fin 256) (e : Fin 2048) : iblk m c 1 t (ix2 r e) = X1 m c (ix2 (rowAt t r) e) := by
  unfold iblk
  rw [View.read_apply]
  show V m c main_arg1 _ = _
  rw [V_main_arg1]
  congr 1
  funext a
  apply Fin.ext
  match a with
  | ⟨0, _⟩ => show win0_1.index t 0 * 256 + 1 * r.val = 256 * t.val + r.val; rw [(index1 t).1]; omega
  | ⟨1, _⟩ => show win0_1.index t 1 * 2048 + 1 * e.val = e.val; rw [(index1 t).2]; omega

theorem iblk12_apply (c : Dev nD) (t : Fin cfg0.N) (e : Fin 1024) : iblk m c 12 t (ix2 (0 : Fin 1) e) = X6 m c (ix2 (0 : Fin 1) e) := by
  unfold iblk
  rw [View.read_apply]
  show V m c main_arg6 _ = _
  rw [V_main_arg6]
  congr 1
  funext a
  apply Fin.ext
  match a with
  | ⟨0, _⟩ => show 0 * 1 + 1 * 0 = 0; omega
  | ⟨1, _⟩ => show 0 * 1024 + 1 * e.val = e.val; omega

theorem iblk13_apply (c : Dev nD) (t : Fin cfg0.N) (e : Fin 1024) : iblk m c 13 t (ix2 (0 : Fin 1) e) = X7 m c (ix2 (0 : Fin 1) e) := by
  unfold iblk
  rw [View.read_apply]
  show V m c main_arg7 _ = _
  rw [V_main_arg7]
  congr 1
  funext a
  apply Fin.ext
  match a with
  | ⟨0, _⟩ => show 0 * 1 + 1 * 0 = 0; omega
  | ⟨1, _⟩ => show 0 * 1024 + 1 * e.val = e.val; omega

theorem iblk17_apply (c : Dev nD) (t : Fin cfg0.N) (r : Fin 8) (e : Fin 1024) : iblk m c 17 t (ix2 r e) = X10 m c (ix2 r e) := by
  unfold iblk
  rw [View.read_apply]
  show V m c main_arg10 _ = _
  rw [V_main_arg10]
  congr 1
  funext a
  apply Fin.ext
  match a with
  | ⟨0, _⟩ => show 0 * 8 + 1 * r.val = r.val; omega
  | ⟨1, _⟩ => show 0 * 1024 + 1 * e.val = e.val; omega

theorem iblk18_apply (c : Dev nD) (t : Fin cfg0.N) (r : Fin 8) (e : Fin 1024) : iblk m c 18 t (ix2 r e) = X11 m c (ix2 r e) := by
  unfold iblk
  rw [View.read_apply]
  show V m c main_arg11 _ = _
  rw [V_main_arg11]
  congr 1
  funext a
  apply Fin.ext
  match a with
  | ⟨0, _⟩ => show 0 * 8 + 1 * r.val = r.val; omega
  | ⟨1, _⟩ => show 0 * 1024 + 1 * e.val = e.val; omega

/-- The transposed weights as the kernel takes them. -/
theorem V_ws (c : Dev nD) (h : Fin 8) (q p : Fin 128) : V m c main_v1 (ix3 h q p) = X8 m c (ix4 (0 : Fin 1) h p q) := by
  unfold V
  after_reads_at

theorem iblk15_apply (c : Dev nD) (t : Fin cfg0.N) (h : Fin 8) (q p : Fin 128) : iblk m c 15 t (ix3 h q p) = X8 m c (ix4 (0 : Fin 1) h p q) := by
  unfold iblk
  rw [View.read_apply, ← V_ws]
  show V m c main_v1 _ = V m c main_v1 _
  congr 1
  funext a
  apply Fin.ext
  match a with
  | ⟨0, _⟩ => show 0 * 8 + 1 * h.val = h.val; omega
  | ⟨1, _⟩ => show 0 * 128 + 1 * q.val = q.val; omega
  | ⟨2, _⟩ => show 0 * 128 + 1 * p.val = p.val; omega

/-- A point's normalised rows. -/
theorem vh_pt (c : Dev nD) (t : Fin cfg0.N) (r : Fin 256) (k : Fin 1024) :
    vhP (pt m c t) r k = Cert.SguRef.Vh (X0 m c) (rowAt t r) k :=
  congrArg (fun v => Cert.Sgu.unit v k) (funext fun j => iblk0_apply m c t r _)

/-- … with gain and shift. -/
theorem vn_pt (c : Dev nD) (t : Fin cfg0.N) (r : Fin 256) (k : Fin 1024) :
    vnP (pt m c t) r k = Cert.SguRef.Vn (X0 m c) (X6 m c) (X7 m c) (rowAt t r) k :=
  congrArg₂ (· + ·) (congrArg₂ (· * ·) (vh_pt m c t r k) (iblk12_apply m c t k)) (iblk13_apply m c t k)

/-- What reaches a point's mixed rows. -/
theorem dm_pt (c : Dev nD) (t : Fin cfg0.N) (r : Fin 256) (k : Fin 1024) :
    dmP (pt m c t) r k = Cert.SguRef.Dm (X0 m c) (X1 m c) (rowAt t r) k :=
  (congr (congrArg₂ Cert.Sgu.gated (iblk0_apply m c t r (⟨3072 + k.val, by omega⟩ : Fin 6144)) (iblk0_apply m c t r (⟨5120 + k.val, by omega⟩ : Fin 6144)))
    (iblk1_apply m c t r (⟨1024 + k.val, by omega⟩ : Fin 2048)) :
    Cert.Sgu.gated (iblk m c 0 t (ix2 r (⟨3072 + k.val, by omega⟩ : Fin 6144))) (iblk m c 0 t (ix2 r (⟨5120 + k.val, by omega⟩ : Fin 6144)))
      (iblk m c 1 t (ix2 r (⟨1024 + k.val, by omega⟩ : Fin 2048))) = _)

/-- The gradient of a normalised row, of any of the 8192 rows. -/
def Dvs (c : Dev nD) (s : Fin 8192) (k : Fin 1024) : EReal :=
  ∑ p : Fin 128, Cert.SguRef.Dm (X0 m c) (X1 m c) (⟨128 * (s.val / 128) + p.val, by omega⟩ : Fin 8192) k
    * X8 m c (ix4 (0 : Fin 1) (⟨k.val / 128, by omega⟩ : Fin 8) p (⟨s.val % 128, by omega⟩ : Fin 128))

theorem dv_pt (c : Dev nD) (t : Fin cfg0.N) (r : Fin 256) (k : Fin 1024) : dvP (pt m c t) r k = Dvs m c (rowAt t r) k := by
  unfold dvP Dvs
  refine Finset.sum_congr rfl fun p _ => ?_
  rw [mul_comm, dm_pt]
  refine congrArg₂ (· * ·) (congrArg (fun s => Cert.SguRef.Dm (X0 m c) (X1 m c) s k) (Fin.ext ?_)) ((iblk15_apply m c t _ _ p).trans ?_)
  · show 256 * t.val + (128 * (r.val / 128) + p.val) = 128 * ((256 * t.val + r.val) / 128) + p.val
    omega
  · refine congrArg (fun q => X8 m c (ix4 (0 : Fin 1) _ p q)) (Fin.ext ?_)
    show r.val % 128 = (256 * t.val + r.val) % 128
    omega

theorem Dvs_eq (c : Dev nD) (g : Fin 64) (q : Fin 128) (h : Fin 8) (d : Fin 128) :
    Dvs m c (Cert.SguRef.rowOf g q) (Cert.SguRef.colOf h d) = Cert.SguRef.Dv (X0 m c) (X1 m c) (X8 m c) g q h d := by
  unfold Dvs
  refine Finset.sum_congr rfl fun p _ => ?_
  refine congrArg₂ (· * ·) (congrArg (fun s => Cert.SguRef.Dm (X0 m c) (X1 m c) s _) (Fin.ext ?_))
    (congrArg₂ (fun h q => X8 m c (ix4 (0 : Fin 1) h p q)) (Fin.ext ?_) (Fin.ext ?_))
  · show 128 * ((128 * g.val + q.val) / 128) + p.val = 128 * g.val + p.val
    omega
  · show (128 * h.val + d.val) / 128 = h.val
    omega
  · show (128 * g.val + q.val) % 128 = q.val
    omega

end Cert.SguBwdIdeal.Named

end
-- ==== Proof.SguTotals.lean ====
/- The running totals of the branch's backward kernel over its 32 grid points, as sums over all 64 chunks or all 8192 rows. -/
module

public import proofs.«01_k».proof.Proof.SguBlocks

@[expose] public section

set_option maxRecDepth 16384

noncomputable section

namespace Cert.SguBwdIdeal.Named

open Cert.SguBwdIdeal Cert.SguBwdIdeal.Gen
open Idealize.ShloMosaic Idealize.ShloMosaic.TcCoe Idealize.ShloMosaic.Tactic Idealize.SL.Sem

variable (m : (ℓ : Loc nD τ sig) → Buf (Elt Ideal) ℓ)

/-- The contents the point before `t` left. -/
abbrev left (c : Dev nD) (t : Fin cfg0.N) := outsAt0 m c (t.val - 1) (Nat.lt_of_le_of_lt (Nat.sub_le _ _) t.isLt)

/-- A sum over 64 chunks, two at a time. -/
theorem sum_chunks (f : Fin 64 → EReal) : ∑ g, f g = ∑ t : Fin 32, (f ⟨2 * t.val, by omega⟩ + f ⟨2 * t.val + 1, by omega⟩) := by
  rw [Cert.Sums.sum_tiles 64 32 2 (by decide) f]
  refine Finset.sum_congr rfl fun t _ => ?_
  rw [Fin.sum_univ_two]
  refine congrArg₂ (· + ·) (congrArg f (Fin.ext ?_)) (congrArg f (Fin.ext ?_))
  · show t.val * 2 + 0 = 2 * t.val
    omega
  · show t.val * 2 + 1 = 2 * t.val + 1
    omega

/-- A sum over 8192 rows, as the eight running sums over the points take it. -/
theorem sum_eight (f : Fin 8192 → EReal) :
    ∑ s, f s = ∑ j : Fin 8, ∑ t : Fin 32, ∑ i : Fin 32, f ⟨256 * t.val + (8 * i.val + j.val), by omega⟩ := by
  rw [Cert.Sums.sum_tiles 8192 32 256 (by decide) f, Finset.sum_comm (s := (Finset.univ : Finset (Fin 8)))]
  refine Finset.sum_congr rfl fun t _ => ?_
  rw [Cert.Sums.sum_tiles 256 32 8 (by decide), Finset.sum_comm]
  refine Finset.sum_congr rfl fun j _ => Finset.sum_congr rfl fun i _ => congrArg f (Fin.ext ?_)
  show t.val * 256 + (i.val * 8 + j.val) = 256 * t.val + (8 * i.val + j.val)
  omega

/-- What a point adds to the weights' gradient. -/
def termW (c : Dev nD) (h : Fin 8) (s q : Fin 128) (t : Fin cfg0.N) : EReal :=
  (∑ k : Fin 128, dmP (pt m c t) (halfOf 0 s) (colOf h k) * vnP (pt m c t) (halfOf 0 q) (colOf h k))
    + ∑ k : Fin 128, dmP (pt m c t) (halfOf 1 s) (colOf h k) * vnP (pt m c t) (halfOf 1 q) (colOf h k)

theorem reset_w (c : Dev nD) (h : Fin 8) (s q : Fin 128) (t : Fin cfg0.N) (h0 : t.val % 32 = 0) :
    (outsAt0 m c t.val t.isLt).2.1 (ix3 h s q) = termW m c h s q t := by
  rw [outsAt0_A m c t h0 (by omega)]
  dsimp only
  rw [gw_A]
  show k0_pay408 (F := Ideal) (ix3 h s q) + termW m c h s q t = _
  rw [zero_gw, zero_add]

theorem step_w (c : Dev nD) (h : Fin 8) (s q : Fin 128) (t : Fin cfg0.N) (h0 : ¬t.val % 32 = 0) :
    (outsAt0 m c t.val t.isLt).2.1 (ix3 h s q) = (left m c t).2.1 (ix3 h s q) + termW m c h s q t := by
  by_cases h1 : t.val % 32 = 31
  · rw [outsAt0_C m c t h0 h1]
    dsimp only
    rw [gw_C]
    rfl
  · rw [outsAt0_B m c t h0 h1]
    dsimp only
    rw [gw_B]
    rfl

/-- The weights' gradient after the last point. -/
theorem total_w (c : Dev nD) (t : Fin cfg0.N) (h1 : t.val % 32 = 31) (h : Fin 8) (s q : Fin 128) :
    (outsAt0 m c t.val t.isLt).2.1 (ix3 h s q)
      = ∑ g : Fin 64, ∑ d : Fin 128, Cert.SguRef.Dm (X0 m c) (X1 m c) (Cert.SguRef.rowOf g s) (Cert.SguRef.colOf h d)
          * Cert.SguRef.Vn (X0 m c) (X6 m c) (X7 m c) (Cert.SguRef.rowOf g q) (Cert.SguRef.colOf h d) := by
  have hN : cfg0.N = 32 := N_0
  have ht := lt32 t
  rw [Cert.Sums.running_sum_last 32 cfg0.N (by decide) (fun t => (outsAt0 m c t.val t.isLt).2.1 (ix3 h s q)) (termW m c h s q)
    (reset_w m c h s q) (step_w m c h s q) 0 (by omega) t (by omega), sum_chunks]
  refine Finset.sum_congr rfl fun k _ => ?_
  unfold termW
  simp only [dm_pt, vn_pt]
  refine congrArg₂ (· + ·) (Finset.sum_congr rfl fun d _ => ?_) (Finset.sum_congr rfl fun d _ => ?_)
  · refine congrArg₂ (· * ·) (congrArg (fun s => Cert.SguRef.Dm (X0 m c) (X1 m c) s _) (Fin.ext ?_))
      (congrArg (fun s => Cert.SguRef.Vn (X0 m c) (X6 m c) (X7 m c) s _) (Fin.ext ?_))
    · show 256 * (0 * 32 + k.val) + (128 * 0 + s.val) = 128 * (2 * k.val) + s.val
      omega
    · show 256 * (0 * 32 + k.val) + (128 * 0 + q.val) = 128 * (2 * k.val) + q.val
      omega
  · refine congrArg₂ (· * ·) (congrArg (fun s => Cert.SguRef.Dm (X0 m c) (X1 m c) s _) (Fin.ext ?_))
      (congrArg (fun s => Cert.SguRef.Vn (X0 m c) (X6 m c) (X7 m c) s _) (Fin.ext ?_))
    · show 256 * (0 * 32 + k.val) + (128 * 1 + s.val) = 128 * (2 * k.val + 1) + s.val
      omega
    · show 256 * (0 * 32 + k.val) + (128 * 1 + q.val) = 128 * (2 * k.val + 1) + q.val
      omega

/-- A running sum that the last point finishes: before it what the point left, at it the last term added. -/
def runAt (c : Dev nD) (a : (t : Fin cfg0.N) → EReal) (f : Fin cfg0.N → EReal) (t : Fin cfg0.N) : EReal :=
  if t.val % 32 = 31 then a ⟨t.val - 1, Nat.lt_of_le_of_lt (Nat.sub_le _ _) t.isLt⟩ + f t else a t

theorem runAt_total (c : Dev nD) (a f : Fin cfg0.N → EReal) (reset : ∀ t, t.val % 32 = 0 → a t = f t)
    (step : ∀ t : Fin cfg0.N, ¬t.val % 32 = 0 → ¬t.val % 32 = 31 → a t = a ⟨t.val - 1, Nat.lt_of_le_of_lt (Nat.sub_le _ _) t.isLt⟩ + f t)
    (t : Fin cfg0.N) (h1 : t.val % 32 = 31) :
    a ⟨t.val - 1, Nat.lt_of_le_of_lt (Nat.sub_le _ _) t.isLt⟩ + f t
      = ∑ k : Fin 32, f ⟨k.val, lt_of_lt_of_eq k.isLt N_0.symm⟩ := by
  have hN : cfg0.N = 32 := N_0
  have ht := lt32 t
  have e : runAt c a f t = a ⟨t.val - 1, Nat.lt_of_le_of_lt (Nat.sub_le _ _) t.isLt⟩ + f t := if_pos h1
  rw [← e, Cert.Sums.running_sum_last 32 cfg0.N (by decide) (runAt c a f) f ?_ ?_ 0 (by omega) t (by omega)]
  · exact Finset.sum_congr rfl fun k _ => congrArg f (Fin.ext (by show 0 * 32 + k.val = k.val; omega))
  · intro u hu
    exact (if_neg (by omega)).trans (reset u hu)
  · intro u hu
    have hu' := lt32 u
    have e' : runAt c a f ⟨u.val - 1, lt_of_le_of_lt (Nat.sub_le _ _) u.isLt⟩ = a ⟨u.val - 1, lt_of_le_of_lt (Nat.sub_le _ _) u.isLt⟩ :=
      if_neg (by show ¬(u.val - 1) % 32 = 31; omega)
    rw [e']
    by_cases h31 : u.val % 32 = 31
    · exact if_pos h31
    · exact (if_neg h31).trans (step u hu h31)

/-- The biases' gradient, one entry of the scratch, once the last point has added its part. -/
theorem total_b (c : Dev nD) (t : Fin cfg0.N) (h1 : t.val % 32 = 31) (h : Fin 8) (s d : Fin 128) :
    gbFn (pt m c t) (left m c t).2.2.2.2 (ix2 s (colOf h d))
      = ∑ g : Fin 64, Cert.SguRef.Dm (X0 m c) (X1 m c) (Cert.SguRef.rowOf g s) (Cert.SguRef.colOf h d) := by
  refine (runAt_total c (fun t => (outsAt0 m c t.val t.isLt).2.2.2.2 (ix2 s (colOf h d)))
    (fun t => dmP (pt m c t) (halfOf 0 s) (colOf h d) + dmP (pt m c t) (halfOf 1 s) (colOf h d)) ?_ ?_ t h1).trans ?_
  · intro t h0
    rw [outsAt0_A m c t h0 (by omega)]
    dsimp only
    rw [gb_A]
    show k0_pay407 (F := Ideal) (ix2 s (colOf h d)) + (dmP (pt m c t) (halfOf 0 s) (colOf h d) + dmP (pt m c t) (halfOf 1 s) (colOf h d)) = _
    rw [zero_gb, zero_add]
  · intro t h0 h1
    dsimp only
    rw [outsAt0_B m c t h0 h1]
    dsimp only
    rw [gb_B]
    rfl
  · rw [sum_chunks]
    refine Finset.sum_congr rfl fun k _ => ?_
    rw [dm_pt, dm_pt]
    refine congrArg₂ (· + ·) (congrArg (fun s => Cert.SguRef.Dm (X0 m c) (X1 m c) s _) (Fin.ext ?_)) (congrArg (fun s => Cert.SguRef.Dm (X0 m c) (X1 m c) s _) (Fin.ext ?_))
    · show 256 * k.val + (128 * 0 + s.val) = 128 * (2 * k.val) + s.val
      omega
    · show 256 * k.val + (128 * 1 + s.val) = 128 * (2 * k.val + 1) + s.val
      omega

/-- The bias of the normalisation, once the last point has added its part. -/
theorem total_bias (c : Dev nD) (t : Fin cfg0.N) (h1 : t.val % 32 = 31) (k : Fin 1024) :
    ∑ j : Fin 8, ((left m c t).2.2.1 (ix2 (⟨32 + j.val, by omega⟩ : Fin 40) k) + biasAdd (pt m c t) j k) = ∑ s : Fin 8192, Dvs m c s k := by
  rw [sum_eight]
  refine Finset.sum_congr rfl fun j _ => ?_
  refine (runAt_total c (fun t => (outsAt0 m c t.val t.isLt).2.2.1 (ix2 (⟨32 + j.val, by omega⟩ : Fin 40) k))
    (fun t => biasAdd (pt m c t) j k) ?_ ?_ t h1).trans ?_
  · intro t h0
    rw [outsAt0_A m c t h0 (by omega)]
    dsimp only
    rw [bias_A]
  · intro t h0 h1
    dsimp only
    rw [outsAt0_B m c t h0 h1]
    dsimp only
    rw [bias_B]
  · exact Finset.sum_congr rfl fun u _ => Finset.sum_congr rfl fun i _ => dv_pt m c _ _ k

/-- The gain of the normalisation, once the last point has added its part. -/
theorem total_gain (c : Dev nD) (t : Fin cfg0.N) (h1 : t.val % 32 = 31) (k : Fin 1024) :
    ∑ j : Fin 8, ((left m c t).2.2.1 (ix2 (⟨24 + j.val, by omega⟩ : Fin 40) k) + gainAdd (pt m c t) j k)
      = ∑ s : Fin 8192, Dvs m c s k * Cert.SguRef.Vh (X0 m c) s k := by
  rw [sum_eight]
  refine Finset.sum_congr rfl fun j _ => ?_
  refine (runAt_total c (fun t => (outsAt0 m c t.val t.isLt).2.2.1 (ix2 (⟨24 + j.val, by omega⟩ : Fin 40) k))
    (fun t => gainAdd (pt m c t) j k) ?_ ?_ t h1).trans ?_
  · intro t h0
    rw [outsAt0_A m c t h0 (by omega)]
    dsimp only
    rw [gain_A]
  · intro t h0 h1
    dsimp only
    rw [outsAt0_B m c t h0 h1]
    dsimp only
    rw [gain_B]
  · exact Finset.sum_congr rfl fun u _ => Finset.sum_congr rfl fun i _ => congrArg₂ (· * ·) (dv_pt m c _ _ k) (vh_pt m c _ _ k)

end Cert.SguBwdIdeal.Named

end
-- ==== Proof.SguArray.lean ====
/- The two result arrays of the branch's backward kernel that the claim is about, after the last grid point, against the
   reference's. -/
module

public import proofs.«01_k».proof.Proof.SguTotals
public import Idealize.ShloMosaic.Lib.Pipeline.Cells

@[expose] public section

set_option maxRecDepth 16384

noncomputable section

namespace Cert.SguBwdIdeal.Named

open Cert.SguBwdIdeal Cert.SguBwdIdeal.Gen
open Idealize.ShloMosaic Idealize.ShloMosaic.TcCoe Idealize.ShloMosaic.Tactic Idealize.SL.Sem

variable (m : (ℓ : Loc nD τ sig) → Buf (Elt Ideal) ℓ)

/-- The last grid point. -/
@[irreducible] def lastPt : Fin cfg0.N := ⟨31, lt_of_lt_of_eq (by decide) N_0.symm⟩

theorem lastPt_val : lastPt.val = 31 := by unfold lastPt; rfl
theorem lastPt_mod : lastPt.val % 32 = 31 := by rw [lastPt_val]
theorem lastPt_ne : ¬lastPt.val % 32 = 0 := by rw [lastPt_val]; decide

/-- The small gradients the last point leaves. -/
abbrev small (c : Dev nD) : S40x1024.Idx → EReal := (outsAt0 m c lastPt.val lastPt.isLt).1
/-- The weights' gradient the last point leaves. -/
abbrev gws (c : Dev nD) : S8x128x128.Idx → EReal := (outsAt0 m c lastPt.val lastPt.isLt).2.1

theorem last_of (t : Fin cfg0.N) (h : t.val % 32 = 31) : t = lastPt :=
  Fin.ext (by have := lt32 t; rw [lastPt_val]; omega)

theorem read21 (c : Dev nD) (t : Fin cfg0.N) (X : S40x1024.Idx → EReal) (j : S40x1024.Idx) :
    ((cfg0.win 21).blk t).view.read (Elt Ideal) (X : Buf (Elt Ideal) ((c : Thread nD τ).loc main_v4_1)) j = X j := by
  rw [View.read_apply]
  show X _ = X _
  congr 1
  funext a
  apply Fin.ext
  match a with
  | ⟨0, _⟩ => show 0 * 40 + 1 * (j 0).val = (j 0).val; omega
  | ⟨1, _⟩ => show 0 * 1024 + 1 * (j 1).val = (j 1).val; omega

theorem read22 (c : Dev nD) (t : Fin cfg0.N) (X : S8x128x128.Idx → EReal) (j : S8x128x128.Idx) :
    ((cfg0.win 22).blk t).view.read (Elt Ideal) (X : Buf (Elt Ideal) ((c : Thread nD τ).loc main_v4_2)) j = X j := by
  rw [View.read_apply]
  show X _ = X _
  congr 1
  funext a
  apply Fin.ext
  match a with
  | ⟨0, _⟩ => show 0 * 8 + 1 * (j 0).val = (j 0).val; omega
  | ⟨1, _⟩ => show 0 * 128 + 1 * (j 1).val = (j 1).val; omega
  | ⟨2, _⟩ => show 0 * 128 + 1 * (j 2).val = (j 2).val; omega

theorem flushed21_eq (c : Dev nD) (t : Fin cfg0.N) (hf : (cfg0.win 21).flush t = true) :
    (dats m 0 c).flushed 21 t = ((cfg0.win 21).blk t).view.read (Elt Ideal) (small m c) := by
  obtain rfl := last_of t ((flush0_21 t).mp hf)
  show (cfg0.win 21).cut (grid0.coords lastPt) ((dats m 0 c).after 21 lastPt) = _
  rw [after0_21]
  refine funext fun (j : S40x1024.Idx) => ?_
  exact Eq.trans rfl (read21 c lastPt (small m c) j).symm

theorem flushed22_eq (c : Dev nD) (t : Fin cfg0.N) (hf : (cfg0.win 22).flush t = true) :
    (dats m 0 c).flushed 22 t = ((cfg0.win 22).blk t).view.read (Elt Ideal) (gws m c) := by
  obtain rfl := last_of t ((flush0_22 t).mp hf)
  show (cfg0.win 22).cut (grid0.coords lastPt) ((dats m 0 c).after 22 lastPt) = _
  rw [after0_22]
  refine funext fun (j : S8x128x128.Idx) => ?_
  exact Eq.trans rfl (read22 c lastPt (gws m c) j).symm

theorem cover21 (i : S40x1024.Idx) : ∃ t : Fin cfg0.N, (cfg0.win 21).flush t = true ∧ i ∈ ((cfg0.win 21).blk t).view.set := by
  refine ⟨lastPt, (flush0_21 lastPt).mpr lastPt_mod, Finset.mem_map.2 ⟨i, Finset.mem_univ _, ?_⟩⟩
  funext a
  apply Fin.ext
  match a with
  | ⟨0, _⟩ => show 0 * 40 + 1 * (i 0).val = (i 0).val; omega
  | ⟨1, _⟩ => show 0 * 1024 + 1 * (i 1).val = (i 1).val; omega

theorem cover22 (i : S8x128x128.Idx) : ∃ t : Fin cfg0.N, (cfg0.win 22).flush t = true ∧ i ∈ ((cfg0.win 22).blk t).view.set := by
  refine ⟨lastPt, (flush0_22 lastPt).mpr lastPt_mod, Finset.mem_map.2 ⟨i, Finset.mem_univ _, ?_⟩⟩
  funext a
  apply Fin.ext
  match a with
  | ⟨0, _⟩ => show 0 * 8 + 1 * (i 0).val = (i 0).val; omega
  | ⟨1, _⟩ => show 0 * 128 + 1 * (i 1).val = (i 1).val; omega
  | ⟨2, _⟩ => show 0 * 128 + 1 * (i 2).val = (i 2).val; omega

/-- The array of small gradients after the run. -/
theorem final21 (c : Dev nD) : (dats m 0 c).arrAt 21 cfg0.N = small m c :=
  (dats m 0 c).arrAt_eq_of_cover 21 (small m c) (flushed21_eq m c) cover21

/-- The weights' gradient after the run. -/
theorem final22 (c : Dev nD) : (dats m 0 c).arrAt 22 cfg0.N = gws m c :=
  (dats m 0 c).arrAt_eq_of_cover 22 (gws m c) (flushed22_eq m c) cover22

/-- The reference's array of small gradients, of the kernel's arguments. -/
abbrev refSmall (c : Dev nD) : S40x1024.Idx → EReal := Cert.SguBwdRefIdeal.Read.val_main_v71 (F := Ideal) (X0 m c) (X1 m c) (X8 m c) (X10 m c) (X11 m c)
/-- The reference's gradient of the mixing weights. -/
abbrev refGws (c : Dev nD) : S8x128x128.Idx → EReal := Cert.SguBwdRefIdeal.Read.val_main_v52 (F := Ideal) (X0 m c) (X1 m c) (X6 m c) (X7 m c)

/-- The weights' gradient is the reference's. -/
theorem gws_eq (c : Dev nD) : gws m c = refGws m c := by
  refine funext fun i => ?_
  rw [show i = ix3 (i 0) (i 1) (i 2) from eq_ix3 i]
  exact (total_w m c lastPt lastPt_mod (i 0) (i 1) (i 2)).trans (Cert.SguRef.at52 (X0 m c) (X1 m c) (X6 m c) (X7 m c) (i 0) (i 1) (i 2)).symm

/-- The case the last point is in. -/
theorem small_last (c : Dev nD) : small m c = out0_C_21 c (pt m c lastPt) (fun h => lastPt_ne ((hcond0_0 lastPt).mp h)) ((hcond0_1 lastPt).mpr lastPt_mod)
    (left m c lastPt).2.1 (left m c lastPt).2.2.1 (left m c lastPt).2.2.2.1 (left m c lastPt).2.2.2.2 := by
  unfold small
  rw [outsAt0_C m c lastPt lastPt_ne lastPt_mod]

/-- A column is a position of a head. -/
theorem col_split (k : Fin 1024) : k = Cert.SguRef.colOf (⟨k.val / 128, by omega⟩ : Fin 8) (⟨k.val % 128, by omega⟩ : Fin 128) :=
  Fin.ext (by show k.val = 128 * (k.val / 128) + k.val % 128; omega)

/-- Row 0: the sum of the eight rows handed through. -/
theorem eq0 (c : Dev nD) (k : Fin 1024) : small m c (ix2 (0 : Fin 40) k) = refSmall m c (ix2 (0 : Fin 40) k) := by
  rw [small_last, small0]
  refine Eq.trans ?_ (Cert.SguRef.row0 (X0 m c) (X1 m c) (X8 m c) (X10 m c) (X11 m c) k).symm
  exact Finset.sum_congr rfl fun j _ => iblk18_apply m c lastPt j k

/-- Row 7: the first row handed through. -/
theorem eq7 (c : Dev nD) (k : Fin 1024) : small m c (ix2 (7 : Fin 40) k) = refSmall m c (ix2 (7 : Fin 40) k) := by
  rw [small_last, small7]
  exact (iblk17_apply m c lastPt 0 k).trans (Cert.SguRef.row7 (X0 m c) (X1 m c) (X8 m c) (X10 m c) (X11 m c) k).symm

/-- Row 5: the gradient of the normalisation's shift. -/
theorem eq5 (c : Dev nD) (k : Fin 1024) : small m c (ix2 (5 : Fin 40) k) = refSmall m c (ix2 (5 : Fin 40) k) := by
  rw [small_last, small5]
  refine (total_bias m c lastPt lastPt_mod k).trans (Eq.trans ?_ (Cert.SguRef.row5 (X0 m c) (X1 m c) (X8 m c) (X10 m c) (X11 m c) k).symm)
  rw [col_split k, Cert.SguRef.at58, Cert.SguRef.sum_rows]
  exact Finset.sum_congr rfl fun g _ => Finset.sum_congr rfl fun q _ => Dvs_eq m c g q _ _

/-- Row 4: the gradient of the normalisation's gain. -/
theorem eq4 (c : Dev nD) (k : Fin 1024) : small m c (ix2 (4 : Fin 40) k) = refSmall m c (ix2 (4 : Fin 40) k) := by
  rw [small_last, small4]
  refine (total_gain m c lastPt lastPt_mod k).trans (Eq.trans ?_ (Cert.SguRef.row4 (X0 m c) (X1 m c) (X8 m c) (X10 m c) (X11 m c) k).symm)
  rw [col_split k, Cert.SguRef.at62, Cert.SguRef.sum_rows]
  exact Finset.sum_congr rfl fun g _ => Finset.sum_congr rfl fun q _ => (congrArg (· * _) (Dvs_eq m c g q _ _)).trans (mul_comm _ _)

/-- Row 6: the gradient of the mixing biases, a head's 128 positions after another's. -/
theorem eq6 (c : Dev nD) (k : Fin 1024) : small m c (ix2 (6 : Fin 40) k) = refSmall m c (ix2 (6 : Fin 40) k) := by
  rw [col_split k]
  generalize (⟨k.val / 128, by omega⟩ : Fin 8) = h
  generalize (⟨k.val % 128, by omega⟩ : Fin 128) = s
  refine Eq.trans ?_ (Cert.SguRef.row6 (X0 m c) (X1 m c) (X8 m c) (X10 m c) (X11 m c) h s).symm
  rw [Cert.SguRef.at50, small_last]
  refine (small6 c (pt m c lastPt) _ _ _ _ _ _ h s).trans ?_
  rw [Finset.sum_comm]
  exact Finset.sum_congr rfl fun d _ => total_b m c lastPt lastPt_mod h s d

end Cert.SguBwdIdeal.Named

end
-- ==== Proof.SguEq.lean ====
/- The gating unit's part of the branch's backward kernel computes its reference: the gradient of the mixing weights, and of
   the array of small gradients the rows of the gating unit and the two rows handed through. -/
module

public import proofs.«01_k».proof.Defs
public import proofs.«01_k».proof.Proof.SguArray
public import proofs.«01_k».proof.Proof.Gen.On_sgu_rows

@[expose] public section

set_option maxRecDepth 16384

noncomputable section

namespace Cert.SguEq

open Idealize.ShloMosaic Idealize.ShloMosaic.TcCoe Idealize.SL.Sem
open Cert.SguBwdIdeal.Named Cert.SguBwdRefIdeal.Read

/-- The claim's mask names the rows 0 and 4 to 7 only. -/
theorem mask_rows (x0 x1 x2 x3 x4 x5 x6 x7 x8 x9 x10 x11 x12) (i : (⟨2, ![40, 1024]⟩ : Shape).Idx)
    (h : (Cert.On_sgu_rows.fn (F := Ideal) x0 x1 x2 x3 x4 x5 x6 x7 x8 x9 x10 x11 x12).1 i = 1#1) :
    i 0 = (0 : Fin 40) ∨ i 0 = (4 : Fin 40) ∨ i 0 = (5 : Fin 40) ∨ i 0 = (6 : Fin 40) ∨ i 0 = (7 : Fin 40) := by
  change BitVec.ofBool (BitVec.ofNat 32 (i 0).val == 0#32)
    ||| (BitVec.ofBool ((4#32).sle (BitVec.ofNat 32 (i 0).val)) &&& BitVec.ofBool ((BitVec.ofNat 32 (i 0).val).sle 7#32)) = 1#1 at h
  have key : ∀ a : Fin 40, BitVec.ofBool (BitVec.ofNat 32 a.val == 0#32)
      ||| (BitVec.ofBool ((4#32).sle (BitVec.ofNat 32 a.val)) &&& BitVec.ofBool ((BitVec.ofNat 32 a.val).sle 7#32)) = 1#1 →
      a = 0 ∨ a = 4 ∨ a = 5 ∨ a = 6 ∨ a = 7 := by decide
  exact key (i 0) h

/-- On the rows the mask names the two arrays agree. -/
theorem small_eq (m : (ℓ : Loc Cert.SguBwdIdeal.nD Cert.SguBwdIdeal.τ Cert.SguBwdIdeal.sig) → Buf (Elt Ideal) ℓ) (c : Dev Cert.SguBwdIdeal.nD)
    (i : (⟨2, ![40, 1024]⟩ : Shape).Idx)
    (h : i 0 = (0 : Fin 40) ∨ i 0 = (4 : Fin 40) ∨ i 0 = (5 : Fin 40) ∨ i 0 = (6 : Fin 40) ∨ i 0 = (7 : Fin 40)) :
    small m c i = refSmall m c i := by
  rw [show i = ix2 (i 0) (i 1) from eq_ix2 i]
  rcases h with h | h | h | h | h <;> rw [h]
  · exact eq0 m c (i 1)
  · exact eq4 m c (i 1)
  · exact eq5 m c (i 1)
  · exact eq6 m c (i 1)
  · exact eq7 m c (i 1)

/-- The value claim. -/
theorem claim : Cert.algebraic_SguBwdIdeal_SguBwdRefIdeal_on_sgu_rows := by
  intro m g m' g' _ hargs
  refine ⟨fun c => refSmall m c, fun c => refGws m c, ?_, ?_⟩
  · refine (θ_run Cert.SguBwdIdeal.defs _ _).mono (fun r h c => ?_) (θ_run_and (run_main m g) (unchanged m g))
    obtain ⟨hr, hk⟩ := h
    have h21 := ((dats m 0 c).toRForget_arrAt_iff forgets0_21 _ _).mp ((hr c).1 21)
    have h22 := ((dats m 0 c).toRForget_arrAt_iff forgets0_22 _ _).mp ((hr c).1 22)
    refine ⟨fun i hi => ?_, fun i _ => ?_, hk c⟩
    · exact (congrFun (h21.trans (final21 m c)) i).trans (small_eq m c i (mask_rows _ _ _ _ _ _ _ _ _ _ _ _ _ i hi))
    · exact congrFun ((h22.trans (final22 m c)).trans (gws_eq m c)) i
  · refine (θ_run Cert.SguBwdRefIdeal.defs _ _).mono (fun r h c => ?_) (Cert.SguBwdRefIdeal.Value.run m' g')
    obtain ⟨h71, h52, hk⟩ := h c
    obtain ⟨e0, e1, _, _, _, _, e6, e7, e8, _, e10, e11, _⟩ := hargs c
    refine ⟨fun i _ => ?_, fun i _ => ?_, hk⟩
    · rw [h71, val_main_v71_eq, e0, e1, e8, e10, e11]
    · rw [h52, val_main_v52_eq, e0, e1, e6, e7]

end Cert.SguEq

end
-- ==== Proof.AdamInEq.lean ====
/- The optimiser's step for the input projection's weights computes its reference. -/
module

public import proofs.«01_k».proof.Defs
public import proofs.«01_k».proof.Proof.Gen.AdamInIdeal.Value
public import proofs.«01_k».proof.Proof.Gen.AdamInRefIdeal.Run

@[expose] public section

set_option maxRecDepth 16384

noncomputable section

namespace Cert.AdamInEq

open Idealize.ShloMosaic Idealize.ShloMosaic.TcCoe Idealize.SL.Sem
open Cert.AdamInIdeal.Value

/-- The weights. -/
abbrev A0 (m : (ℓ : Loc Cert.AdamInIdeal.nD Cert.AdamInIdeal.τ Cert.AdamInIdeal.sig) → Buf (Elt Ideal) ℓ) (c : Dev Cert.AdamInIdeal.nD) :
    Cert.AdamInIdeal.S1024x1536.Idx → Elt Ideal .f32 := m ((c.tc : Thread Cert.AdamInIdeal.nD Cert.AdamInIdeal.τ).loc Cert.AdamInIdeal.main_arg0)
/-- The gradient. -/
abbrev A1 (m : (ℓ : Loc Cert.AdamInIdeal.nD Cert.AdamInIdeal.τ Cert.AdamInIdeal.sig) → Buf (Elt Ideal) ℓ) (c : Dev Cert.AdamInIdeal.nD) :
    Cert.AdamInIdeal.S1024x1536.Idx → Elt Ideal .f32 := m ((c.tc : Thread Cert.AdamInIdeal.nD Cert.AdamInIdeal.τ).loc Cert.AdamInIdeal.main_arg1)
/-- The first moment. -/
abbrev A2 (m : (ℓ : Loc Cert.AdamInIdeal.nD Cert.AdamInIdeal.τ Cert.AdamInIdeal.sig) → Buf (Elt Ideal) ℓ) (c : Dev Cert.AdamInIdeal.nD) :
    Cert.AdamInIdeal.S1024x1536.Idx → Elt Ideal .f32 := m ((c.tc : Thread Cert.AdamInIdeal.nD Cert.AdamInIdeal.τ).loc Cert.AdamInIdeal.main_arg2)
/-- The second moment. -/
abbrev A3 (m : (ℓ : Loc Cert.AdamInIdeal.nD Cert.AdamInIdeal.τ Cert.AdamInIdeal.sig) → Buf (Elt Ideal) ℓ) (c : Dev Cert.AdamInIdeal.nD) :
    Cert.AdamInIdeal.S1024x1536.Idx → Elt Ideal .f32 := m ((c.tc : Thread Cert.AdamInIdeal.nD Cert.AdamInIdeal.τ).loc Cert.AdamInIdeal.main_arg3)

/-- The value claim: at every input the step, the first moment and the second moment are the reference's. -/
theorem claim : Cert.algebraic_AdamInIdeal_AdamInRefIdeal := by
  intro m g m' g' _ hargs
  refine ⟨fun c => G5 (A0 m c) (A1 m c) (A2 m c) (A3 m c), fun c => G6 (A1 m c) (A2 m c), fun c => G7 (A1 m c) (A3 m c),
    Cert.AdamInIdeal.Value.run m g, ?_⟩
  refine (θ_run Cert.AdamInRefIdeal.defs _ _).mono (fun r h c => ?_) (Cert.AdamInRefIdeal.Value.run m' g')
  obtain ⟨h5, h6, h7, hk⟩ := h c
  obtain ⟨e0, e1, e2, e3, _⟩ := hargs c
  refine ⟨h5.trans ?_, h6.trans ?_, h7.trans ?_, hk⟩
  · rw [e0, e1, e2, e3]
    rfl
  · rw [e1, e2]
    rfl
  · rw [e1, e3]
    rfl

end Cert.AdamInEq

end
-- ==== Proof.AdamOutEq.lean ====
/- The optimiser's step for the output projection's weights computes its reference. -/
module

public import proofs.«01_k».proof.Defs
public import proofs.«01_k».proof.Proof.Gen.AdamOutIdeal.Value
public import proofs.«01_k».proof.Proof.Gen.AdamOutRefIdeal.Run

@[expose] public section

set_option maxRecDepth 16384

noncomputable section

namespace Cert.AdamOutEq

open Idealize.ShloMosaic Idealize.ShloMosaic.TcCoe Idealize.SL.Sem
open Cert.AdamOutIdeal.Value

/-- The weights. -/
abbrev A0 (m : (ℓ : Loc Cert.AdamOutIdeal.nD Cert.AdamOutIdeal.τ Cert.AdamOutIdeal.sig) → Buf (Elt Ideal) ℓ) (c : Dev Cert.AdamOutIdeal.nD) :
    Cert.AdamOutIdeal.S512x1024.Idx → Elt Ideal .f32 := m ((c.tc : Thread Cert.AdamOutIdeal.nD Cert.AdamOutIdeal.τ).loc Cert.AdamOutIdeal.main_arg0)
/-- The gradient. -/
abbrev A1 (m : (ℓ : Loc Cert.AdamOutIdeal.nD Cert.AdamOutIdeal.τ Cert.AdamOutIdeal.sig) → Buf (Elt Ideal) ℓ) (c : Dev Cert.AdamOutIdeal.nD) :
    Cert.AdamOutIdeal.S512x1024.Idx → Elt Ideal .f32 := m ((c.tc : Thread Cert.AdamOutIdeal.nD Cert.AdamOutIdeal.τ).loc Cert.AdamOutIdeal.main_arg1)
/-- The first moment. -/
abbrev A2 (m : (ℓ : Loc Cert.AdamOutIdeal.nD Cert.AdamOutIdeal.τ Cert.AdamOutIdeal.sig) → Buf (Elt Ideal) ℓ) (c : Dev Cert.AdamOutIdeal.nD) :
    Cert.AdamOutIdeal.S512x1024.Idx → Elt Ideal .f32 := m ((c.tc : Thread Cert.AdamOutIdeal.nD Cert.AdamOutIdeal.τ).loc Cert.AdamOutIdeal.main_arg2)
/-- The second moment. -/
abbrev A3 (m : (ℓ : Loc Cert.AdamOutIdeal.nD Cert.AdamOutIdeal.τ Cert.AdamOutIdeal.sig) → Buf (Elt Ideal) ℓ) (c : Dev Cert.AdamOutIdeal.nD) :
    Cert.AdamOutIdeal.S512x1024.Idx → Elt Ideal .f32 := m ((c.tc : Thread Cert.AdamOutIdeal.nD Cert.AdamOutIdeal.τ).loc Cert.AdamOutIdeal.main_arg3)

/-- The value claim: at every input the step, the first moment and the second moment are the reference's. -/
theorem claim : Cert.algebraic_AdamOutIdeal_AdamOutRefIdeal := by
  intro m g m' g' _ hargs
  refine ⟨fun c => G5 (A0 m c) (A1 m c) (A2 m c) (A3 m c), fun c => G6 (A1 m c) (A2 m c), fun c => G7 (A1 m c) (A3 m c),
    Cert.AdamOutIdeal.Value.run m g, ?_⟩
  refine (θ_run Cert.AdamOutRefIdeal.defs _ _).mono (fun r h c => ?_) (Cert.AdamOutRefIdeal.Value.run m' g')
  obtain ⟨h5, h6, h7, hk⟩ := h c
  obtain ⟨e0, e1, e2, e3, _⟩ := hargs c
  refine ⟨h5.trans ?_, h6.trans ?_, h7.trans ?_, hk⟩
  · rw [e0, e1, e2, e3]
    rfl
  · rw [e1, e2]
    rfl
  · rw [e1, e3]
    rfl

end Cert.AdamOutEq

end
-- ==== Proof.AdamSmallRun.lean ====
/- The run of the optimiser's call for the small parameters: what its stores leave in each output. -/
module

public import proofs.«01_k».proof.Proof.Gen.AdamSmallIdeal.Frame.Runs

@[expose] public section

set_option maxRecDepth 16384

noncomputable section

namespace Cert.AdamSmallIdeal.Named

open Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun0_A (c : Dev nD) (i : grid0.Coords) (arg2 : Memref sig .tc .vmem S40x1024 .f32) (harg2 : arg2.IsWhole) (arg3 : Memref sig .tc .vmem S1024x128 .f32) (harg3 : arg3.IsWhole) (arg4 : Memref sig .tc .vmem S31x256 .f32) (harg4 : arg4.IsWhole) (arg5 : Memref sig .tc .vmem S31x256 .f32) (harg5 : arg5.IsWhole) (arg6 : Memref sig .tc .vmem S31x256 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S31x256 .f32) (harg31 : arg31.IsWhole) (arg32 : Memref sig .tc .vmem S31x256 .f32) (harg32 : arg32.IsWhole) (arg33 : Memref sig .tc .vmem S31x256 .f32) (harg33 : arg33.IsWhole) (arg34 : Memref sig .tc .vmem S31x256 .f32) (harg34 : arg34.IsWhole) (arg35 : Memref sig .tc .vmem S1x1024 .f32) (harg35 : arg35.IsWhole) (arg36 : Memref sig .tc .vmem S1x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S1x1024 .f32) (harg39 : arg39.IsWhole) (arg40 : Memref sig .tc .vmem S1x1024 .f32) (harg40 : arg40.IsWhole) (arg41 : Memref sig .tc .vmem S1x1024 .f32) (harg41 : arg41.IsWhole) (arg42 : Memref sig .tc .vmem S1x1024 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x1024 .f32) (harg45 : arg45.IsWhole) (arg46 : Memref sig .tc .vmem S1x1024 .f32) (harg46 : arg46.IsWhole) (arg47 : Memref sig .tc .vmem S1x1024 .f32) (harg47 : arg47.IsWhole) (arg48 : Memref sig .tc .vmem S1x1024 .f32) (harg48 : arg48.IsWhole) (arg49 : Memref sig .tc .vmem S1x1024 .f32) (harg49 : arg49.IsWhole) (arg50 : Memref sig .tc .vmem S1x1024 .f32) (harg50 : arg50.IsWhole) (arg51 : Memref sig .tc .vmem S1x1024 .f32) (harg51 : arg51.IsWhole) (arg52 : Memref sig .tc .vmem S1x1024 .f32) (harg52 : arg52.IsWhole) (arg53 : Memref sig .tc .vmem S1x1024 .f32) (harg53 : arg53.IsWhole) (arg54 : Memref sig .tc .vmem S1x1024 .f32) (harg54 : arg54.IsWhole) (arg55 : Memref sig .tc .vmem S1024x128 .f32) (harg55 : arg55.IsWhole) (arg56 : Memref sig .tc .vmem S1024x128 .f32) (harg56 : arg56.IsWhole) (arg57 : Memref sig .tc .vmem S1024x128 .f32) (harg57 : arg57.IsWhole) (arg58 : Memref sig .tc .vmem S1024x128 .f32) (harg58 : arg58.IsWhole) (arg59 : Memref sig .tc .vmem S1x1024 .f32) (harg59 : arg59.IsWhole) (arg60 : Memref sig .tc .vmem S1x1024 .f32) (harg60 : arg60.IsWhole) (arg61 : Memref sig .tc .vmem S1x1024 .f32) (harg61 : arg61.IsWhole) (arg62 : Memref sig .tc .vmem S1x1024 .f32) (harg62 : arg62.IsWhole) (arg63 : Memref sig .tc .vmem S1x1024 .f32) (harg63 : arg63.IsWhole) (arg64 : Memref sig .tc .vmem S1x1024 .f32) (harg64 : arg64.IsWhole) (arg65 : Memref sig .tc .vmem S1x1024 .f32) (harg65 : arg65.IsWhole) (arg66 : Memref sig .tc .vmem S1x1024 .f32) (harg66 : arg66.IsWhole)
    (x0 : Vec F S40x1024 .f32) (x1 : Vec F S1024x128 .f32) (x2 : Vec F S31x256 .f32) (x3 : Vec F S31x256 .f32) (x4 : Vec F S31x256 .f32) (x5 : Vec F S1x1024 .f32) (x6 : Vec F S1x1024 .f32) (x7 : Vec F S1x1024 .f32) (x8 : Vec F S1x1024 .f32) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S1x1024 .f32) (x17 : Vec F S1x1024 .f32) (x18 : Vec F S1x1024 .f32) (x19 : Vec F S1x1024 .f32) (x20 : Vec F S1024x128 .f32) (x21 : Vec F S1024x128 .f32) (x22 : Vec F S1024x128 .f32) (x23 : Vec F S1x1024 .f32) (x24 : Vec F S1x1024 .f32) (x25 : Vec F S1x1024 .f32) (x26 : Vec F S1x1024 .f32) (x27 : Vec F S1x1024 .f32) (x28 : Vec F S1x1024 .f32) (xt0 : TbBuf0 (F := F) c tbM0_0) :
    { L : List (View.Piece (Elt F) S31x256 .f32) × List (View.Piece (Elt F) S31x256 .f32) × List (View.Piece (Elt F) S31x256 .f32) × List (View.Piece (Elt F) S31x256 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1024x128 .f32) × List (View.Piece (Elt F) S1024x128 .f32) × List (View.Piece (Elt F) S1024x128 .f32) × List (View.Piece (Elt F) S1024x128 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) × List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ f, arg31.view.loc (c : Thread nD τ) ↦[arg31.view.set]{fullShare} arg31.view.writes (Elt F) f L.1) ∗ (∃ f, arg32.view.loc (c : Thread nD τ) ↦[arg32.view.set]{fullShare} arg32.view.writes (Elt F) f L.2.1) ∗ (∃ f, arg33.view.loc (c : Thread nD τ) ↦[arg33.view.set]{fullShare} arg33.view.writes (Elt F) f L.2.2.1) ∗ (∃ f, arg34.view.loc (c : Thread nD τ) ↦[arg34.view.set]{fullShare} arg34.view.writes (Elt F) f L.2.2.2.1) ∗ (∃ f, arg35.view.loc (c : Thread nD τ) ↦[arg35.view.set]{fullShare} arg35.view.writes (Elt F) f L.2.2.2.2.1) ∗ (∃ f, arg36.view.loc (c : Thread nD τ) ↦[arg36.view.set]{fullShare} arg36.view.writes (Elt F) f L.2.2.2.2.2.1) ∗ (∃ f, arg37.view.loc (c : Thread nD τ) ↦[arg37.view.set]{fullShare} arg37.view.writes (Elt F) f L.2.2.2.2.2.2.1) ∗ (∃ f, arg38.view.loc (c : Thread nD τ) ↦[arg38.view.set]{fullShare} arg38.view.writes (Elt F) f L.2.2.2.2.2.2.2.1) ∗ (∃ f, arg39.view.loc (c : Thread nD τ) ↦[arg39.view.set]{fullShare} arg39.view.writes (Elt F) f L.2.2.2.2.2.2.2.2.1) ∗ (∃ f, arg40.view.loc (c : Thread nD τ) ↦[arg40.view.set]{fullShare} arg40.view.writes (Elt F) f L.2.2.2.2.2.2.2.2.2.1) ∗ (∃ f, arg41.view.loc (c : Thread nD τ) ↦[arg41.view.set]{fullShare} arg41.view.writes (Elt F) f L.2.2.2.2.2.2.2.2.2.2.1) ∗ (∃ f, arg42.view.loc (c : Thread nD τ) ↦[arg42.view.set]{fullShare} arg42.view.writes (Elt F) f L.2.2.2.2.2.2.2.2.2.2.2.1) ∗ (∃ f, arg43.view.loc (c : Thread nD τ) ↦[arg43.view.set]{fullShare} arg43.view.writes (Elt F) f L.2.2.2.2.2.2.2.2.2.2.2.2.1) ∗ (∃ f, arg44.view.loc (c : Thread nD τ) ↦[arg44.view.set]{fullShare} arg44.view.writes (Elt F) f L.2.2.2.2.2.2.2.2.2.2.2.2.2.1) ∗ (∃ f, arg45.view.loc (c : Thread nD τ) ↦[arg45.view.set]{fullShare} arg45.view.writes (Elt F) f L.2.2.2.2.2.2.2.2.2.2.2.2.2.2.1) ∗ (∃ f, arg46.view.loc (c : Thread nD τ) ↦[arg46.view.set]{fullShare} arg46.view.writes (Elt F) f L.2.2.2.2.2.2.2.2.2.2.2.2.2.2.2.1) ∗ (∃ f, arg47.view.loc (c : Thread nD τ) ↦[arg47.view.set]{fullShare} arg47.view.writes (Elt F) f L.2.2.2.2.2.2.2.2.2.2.2.2.2.2.2.2.1) ∗ (∃ f, arg48.view.loc (c : Thread nD τ) ↦[arg48.view.set]{fullShare} arg48.view.writes (Elt F) f L.2.2.2.2.2.2.2.2.2.2.2.2.2.2.2.2.2.1) ∗ (∃ f, arg49.view.loc (c : Thread nD τ) ↦[arg49.view.set]{fullShare} arg49.view.writes (Elt F) f L.2.2.2.2.2.2.2.2.2.2.2.2.2.2.2.2.2.2.1) ∗ (∃ f, arg50.view.loc (c : Thread nD τ) ↦[arg50.view.set]{fullShare} arg50.view.writes (Elt F) f L.2.2.2.2.2.2.2.2.2.2.2.2.2.2.2.2.2.2.2.1) ∗ (∃ f, arg51.view.loc (c : Thread nD τ) ↦[arg51.view.set]{fullShare} arg51.view.writes (Elt F) f L.2.2.2.2.2.2.2.2.2.2.2.2.2.2.2.2.2.2.2.2.1) ∗ (∃ f, arg52.view.loc (c : Thread nD τ) ↦[arg52.view.set]{fullShare} arg52.view.writes (Elt F) f L.2.2.2.2.2.2.2.2.2.2.2.2.2.2.2.2.2.2.2.2.2.1) ∗ (∃ f, arg53.view.loc (c : Thread nD τ) ↦[arg53.view.set]{fullShare} arg53.view.writes (Elt F) f L.2.2.2.2.2.2.2.2.2.2.2.2.2.2.2.2.2.2.2.2.2.2.1) ∗ (∃ f, arg54.view.loc (c : Thread nD τ) ↦[arg54.view.set]{fullShare} arg54.view.writes (Elt F) f L.2.2.2.2.2.2.2.2.2.2.2.2.2.2.2.2.2.2.2.2.2.2.2.1) ∗ (∃ f, arg55.view.loc (c : Thread nD τ) ↦[arg55.view.set]{fullShare} arg55.view.writes (Elt F) f L.2.2.2.2.2.2.2.2.2.2.2.2.2.2.2.2.2.2.2.2.2.2.2.2.1) ∗ (∃ f, arg56.view.loc (c : Thread nD τ) ↦[arg56.view.set]{fullShare} arg56.view.writes (Elt F) f L.2.2.2.2.2.2.2.2.2.2.2.2.2.2.2.2.2.2.2.2.2.2.2.2.2.1) ∗ (∃ f, arg57.view.loc (c : Thread nD τ) ↦[arg57.view.set]{fullShare} arg57.view.writes (Elt F) f L.2.2.2.2.2.2.2.2.2.2.2.2.2.2.2.2.2.2.2.2.2.2.2.2.2.2.1) ∗ (∃ f, arg58.view.loc (c : Thread nD τ) ↦[arg58.view.set]{fullShare} arg58.view.writes (Elt F) f L.2.2.2.2.2.2.2.2.2.2.2.2.2.2.2.2.2.2.2.2.2.2.2.2.2.2.2.1) ∗ (∃ f, arg59.view.loc (c : Thread nD τ) ↦[arg59.view.set]{fullShare} arg59.view.writes (Elt F) f L.2.2.2.2.2.2.2.2.2.2.2.2.2.2.2.2.2.2.2.2.2.2.2.2.2.2.2.2.1) ∗ (∃ f, arg60.view.loc (c : Thread nD τ) ↦[arg60.view.set]{fullShare} arg60.view.writes (Elt F) f L.2.2.2.2.2.2.2.2.2.2.2.2.2.2.2.2.2.2.2.2.2.2.2.2.2.2.2.2.2.1) ∗ (∃ f, arg61.view.loc (c : Thread nD τ) ↦[arg61.view.set]{fullShare} arg61.view.writes (Elt F) f L.2.2.2.2.2.2.2.2.2.2.2.2.2.2.2.2.2.2.2.2.2.2.2.2.2.2.2.2.2.2.1) ∗ (∃ f, arg62.view.loc (c : Thread nD τ) ↦[arg62.view.set]{fullShare} arg62.view.writes (Elt F) f L.2.2.2.2.2.2.2.2.2.2.2.2.2.2.2.2.2.2.2.2.2.2.2.2.2.2.2.2.2.2.2.1) ∗ (∃ f, arg63.view.loc (c : Thread nD τ) ↦[arg63.view.set]{fullShare} arg63.view.writes (Elt F) f L.2.2.2.2.2.2.2.2.2.2.2.2.2.2.2.2.2.2.2.2.2.2.2.2.2.2.2.2.2.2.2.2.1) ∗ (∃ f, arg64.view.loc (c : Thread nD τ) ↦[arg64.view.set]{fullShare} arg64.view.writes (Elt F) f L.2.2.2.2.2.2.2.2.2.2.2.2.2.2.2.2.2.2.2.2.2.2.2.2.2.2.2.2.2.2.2.2.2.1) ∗ (∃ f, arg65.view.loc (c : Thread nD τ) ↦[arg65.view.set]{fullShare} arg65.view.writes (Elt F) f L.2.2.2.2.2.2.2.2.2.2.2.2.2.2.2.2.2.2.2.2.2.2.2.2.2.2.2.2.2.2.2.2.2.2.1) ∗ (∃ f, arg66.view.loc (c : Thread nD τ) ↦[arg66.view.set]{fullShare} arg66.view.writes (Elt F) f L.2.2.2.2.2.2.2.2.2.2.2.2.2.2.2.2.2.2.2.2.2.2.2.2.2.2.2.2.2.2.2.2.2.2.2) ∗ tbPt0 c tbM0_0 xt0) -∗ K ⟨⟩))
          ⊢ wp frame (wpE (defs₀ (F := F)) Variants.none c none) E (cc0_adamw_small i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66) K } := by
  refine ⟨(?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_), fun E K => ?run⟩
  case run =>
    dsimp only
    simp only [cc0_adamw_small_eq_skeleton]; unfold cc0_adamw_small_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [H53]; · iexists _; iexact H53
    isplitl [H54]; · iexists _; iexact H54
    isplitl [H55]; · iexists _; iexact H55
    isplitl [H56]; · iexists _; iexact H56
    isplitl [H57]; · iexists _; iexact H57
    isplitl [H58]; · iexists _; iexact H58
    isplitl [H59]; · iexists _; iexact H59
    isplitl [H60]; · iexists _; iexact H60
    isplitl [H61]; · iexists _; iexact H61
    isplitl [H62]; · iexists _; iexact H62
    isplitl [H63]; · iexists _; iexact H63
    isplitl [H64]; · iexists _; iexact H64
    iexact HT0

end Cert.AdamSmallIdeal.Named

end
-- ==== Proof.AdamSmallOuts.lean ====
/- What the body of the optimiser's call for the small parameters leaves in its outputs. -/
module

public import proofs.«01_k».proof.Proof.AdamSmallRun
public import Idealize.ShloMosaic.Lib.Claim

@[expose] public section

set_option maxRecDepth 16384

noncomputable section

namespace Cert.AdamSmallIdeal.Named

open Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hO : Ok m) (c : Dev nD) (t : Fin (cfgM m hO).N)

/-- The body's run at point `t`, on its staging memrefs and the inputs' blocks. -/
abbrev run :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (ms0_39 m hO t) (hs0_39 m hO t) (ms0_40 m hO t) (hs0_40 m hO t) (ms0_41 m hO t) (hs0_41 m hO t) (ms0_42 m hO t) (hs0_42 m hO t) (ms0_43 m hO t) (hs0_43 m hO t) (ms0_44 m hO t) (hs0_44 m hO t) (ms0_45 m hO t) (hs0_45 m hO t) (ms0_46 m hO t) (hs0_46 m hO t) (ms0_47 m hO t) (hs0_47 m hO t) (ms0_48 m hO t) (hs0_48 m hO t) (ms0_49 m hO t) (hs0_49 m hO t) (ms0_50 m hO t) (hs0_50 m hO t) (ms0_51 m hO t) (hs0_51 m hO t) (ms0_52 m hO t) (hs0_52 m hO t) (ms0_53 m hO t) (hs0_53 m hO t) (ms0_54 m hO t) (hs0_54 m hO t) (ms0_55 m hO t) (hs0_55 m hO t) (ms0_56 m hO t) (hs0_56 m hO t) (ms0_57 m hO t) (hs0_57 m hO t) (ms0_58 m hO t) (hs0_58 m hO t) (ms0_59 m hO t) (hs0_59 m hO t) (ms0_60 m hO t) (hs0_60 m hO t) (ms0_61 m hO t) (hs0_61 m hO t) (ms0_62 m hO t) (hs0_62 m hO t) (ms0_63 m hO t) (hs0_63 m hO t) (ms0_64 m hO t) (hs0_64 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (tbl m 0)

/-! What each output's staging buffer holds after the body (`o_W`): its one store. -/

def o_29 : Vec F S31x256 .f32 :=
  VO0_29.read (Elt F) (VO0_29.writes (Elt F) VO0_29.junk (run m hO c t).1.1)

def o_30 : Vec F S31x256 .f32 :=
  VO0_30.read (Elt F) (VO0_30.writes (Elt F) VO0_30.junk (run m hO c t).1.2.1)

def o_31 : Vec F S31x256 .f32 :=
  VO0_31.read (Elt F) (VO0_31.writes (Elt F) VO0_31.junk (run m hO c t).1.2.2.1)

def o_32 : Vec F S31x256 .f32 :=
  VO0_32.read (Elt F) (VO0_32.writes (Elt F) VO0_32.junk (run m hO c t).1.2.2.2.1)

def o_33 : Vec F S1x1024 .f32 :=
  VO0_33.read (Elt F) (VO0_33.writes (Elt F) VO0_33.junk (run m hO c t).1.2.2.2.2.1)

def o_34 : Vec F S1x1024 .f32 :=
  VO0_34.read (Elt F) (VO0_34.writes (Elt F) VO0_34.junk (run m hO c t).1.2.2.2.2.2.1)

def o_35 : Vec F S1x1024 .f32 :=
  VO0_35.read (Elt F) (VO0_35.writes (Elt F) VO0_35.junk (run m hO c t).1.2.2.2.2.2.2.1)

def o_36 : Vec F S1x1024 .f32 :=
  VO0_36.read (Elt F) (VO0_36.writes (Elt F) VO0_36.junk (run m hO c t).1.2.2.2.2.2.2.2.1)

def o_37 : Vec F S1x1024 .f32 :=
  VO0_37.read (Elt F) (VO0_37.writes (Elt F) VO0_37.junk (run m hO c t).1.2.2.2.2.2.2.2.2.1)

def o_38 : Vec F S1x1024 .f32 :=
  VO0_38.read (Elt F) (VO0_38.writes (Elt F) VO0_38.junk (run m hO c t).1.2.2.2.2.2.2.2.2.2.1)

def o_39 : Vec F S1x1024 .f32 :=
  VO0_39.read (Elt F) (VO0_39.writes (Elt F) VO0_39.junk (run m hO c t).1.2.2.2.2.2.2.2.2.2.2.1)

def o_40 : Vec F S1x1024 .f32 :=
  VO0_40.read (Elt F) (VO0_40.writes (Elt F) VO0_40.junk (run m hO c t).1.2.2.2.2.2.2.2.2.2.2.2.1)

def o_41 : Vec F S1x1024 .f32 :=
  VO0_41.read (Elt F) (VO0_41.writes (Elt F) VO0_41.junk (run m hO c t).1.2.2.2.2.2.2.2.2.2.2.2.2.1)

def o_42 : Vec F S1x1024 .f32 :=
  VO0_42.read (Elt F) (VO0_42.writes (Elt F) VO0_42.junk (run m hO c t).1.2.2.2.2.2.2.2.2.2.2.2.2.2.1)

def o_43 : Vec F S1x1024 .f32 :=
  VO0_43.read (Elt F) (VO0_43.writes (Elt F) VO0_43.junk (run m hO c t).1.2.2.2.2.2.2.2.2.2.2.2.2.2.2.1)

def o_44 : Vec F S1x1024 .f32 :=
  VO0_44.read (Elt F) (VO0_44.writes (Elt F) VO0_44.junk (run m hO c t).1.2.2.2.2.2.2.2.2.2.2.2.2.2.2.2.1)

def o_45 : Vec F S1x1024 .f32 :=
  VO0_45.read (Elt F) (VO0_45.writes (Elt F) VO0_45.junk (run m hO c t).1.2.2.2.2.2.2.2.2.2.2.2.2.2.2.2.2.1)

def o_46 : Vec F S1x1024 .f32 :=
  VO0_46.read (Elt F) (VO0_46.writes (Elt F) VO0_46.junk (run m hO c t).1.2.2.2.2.2.2.2.2.2.2.2.2.2.2.2.2.2.1)

def o_47 : Vec F S1x1024 .f32 :=
  VO0_47.read (Elt F) (VO0_47.writes (Elt F) VO0_47.junk (run m hO c t).1.2.2.2.2.2.2.2.2.2.2.2.2.2.2.2.2.2.2.1)

def o_48 : Vec F S1x1024 .f32 :=
  VO0_48.read (Elt F) (VO0_48.writes (Elt F) VO0_48.junk (run m hO c t).1.2.2.2.2.2.2.2.2.2.2.2.2.2.2.2.2.2.2.2.1)

def o_49 : Vec F S1x1024 .f32 :=
  VO0_49.read (Elt F) (VO0_49.writes (Elt F) VO0_49.junk (run m hO c t).1.2.2.2.2.2.2.2.2.2.2.2.2.2.2.2.2.2.2.2.2.1)

def o_50 : Vec F S1x1024 .f32 :=
  VO0_50.read (Elt F) (VO0_50.writes (Elt F) VO0_50.junk (run m hO c t).1.2.2.2.2.2.2.2.2.2.2.2.2.2.2.2.2.2.2.2.2.2.1)

def o_51 : Vec F S1x1024 .f32 :=
  VO0_51.read (Elt F) (VO0_51.writes (Elt F) VO0_51.junk (run m hO c t).1.2.2.2.2.2.2.2.2.2.2.2.2.2.2.2.2.2.2.2.2.2.2.1)

def o_52 : Vec F S1x1024 .f32 :=
  VO0_52.read (Elt F) (VO0_52.writes (Elt F) VO0_52.junk (run m hO c t).1.2.2.2.2.2.2.2.2.2.2.2.2.2.2.2.2.2.2.2.2.2.2.2.1)

def o_53 : Vec F S1024x128 .f32 :=
  VO0_53.read (Elt F) (VO0_53.writes (Elt F) VO0_53.junk (run m hO c t).1.2.2.2.2.2.2.2.2.2.2.2.2.2.2.2.2.2.2.2.2.2.2.2.2.1)

def o_54 : Vec F S1024x128 .f32 :=
  VO0_54.read (Elt F) (VO0_54.writes (Elt F) VO0_54.junk (run m hO c t).1.2.2.2.2.2.2.2.2.2.2.2.2.2.2.2.2.2.2.2.2.2.2.2.2.2.1)

def o_55 : Vec F S1024x128 .f32 :=
  VO0_55.read (Elt F) (VO0_55.writes (Elt F) VO0_55.junk (run m hO c t).1.2.2.2.2.2.2.2.2.2.2.2.2.2.2.2.2.2.2.2.2.2.2.2.2.2.2.1)

def o_56 : Vec F S1024x128 .f32 :=
  VO0_56.read (Elt F) (VO0_56.writes (Elt F) VO0_56.junk (run m hO c t).1.2.2.2.2.2.2.2.2.2.2.2.2.2.2.2.2.2.2.2.2.2.2.2.2.2.2.2.1)

def o_57 : Vec F S1x1024 .f32 :=
  VO0_57.read (Elt F) (VO0_57.writes (Elt F) VO0_57.junk (run m hO c t).1.2.2.2.2.2.2.2.2.2.2.2.2.2.2.2.2.2.2.2.2.2.2.2.2.2.2.2.2.1)

def o_58 : Vec F S1x1024 .f32 :=
  VO0_58.read (Elt F) (VO0_58.writes (Elt F) VO0_58.junk (run m hO c t).1.2.2.2.2.2.2.2.2.2.2.2.2.2.2.2.2.2.2.2.2.2.2.2.2.2.2.2.2.2.1)

def o_59 : Vec F S1x1024 .f32 :=
  VO0_59.read (Elt F) (VO0_59.writes (Elt F) VO0_59.junk (run m hO c t).1.2.2.2.2.2.2.2.2.2.2.2.2.2.2.2.2.2.2.2.2.2.2.2.2.2.2.2.2.2.2.1)

def o_60 : Vec F S1x1024 .f32 :=
  VO0_60.read (Elt F) (VO0_60.writes (Elt F) VO0_60.junk (run m hO c t).1.2.2.2.2.2.2.2.2.2.2.2.2.2.2.2.2.2.2.2.2.2.2.2.2.2.2.2.2.2.2.2.1)

def o_61 : Vec F S1x1024 .f32 :=
  VO0_61.read (Elt F) (VO0_61.writes (Elt F) VO0_61.junk (run m hO c t).1.2.2.2.2.2.2.2.2.2.2.2.2.2.2.2.2.2.2.2.2.2.2.2.2.2.2.2.2.2.2.2.2.1)

def o_62 : Vec F S1x1024 .f32 :=
  VO0_62.read (Elt F) (VO0_62.writes (Elt F) VO0_62.junk (run m hO c t).1.2.2.2.2.2.2.2.2.2.2.2.2.2.2.2.2.2.2.2.2.2.2.2.2.2.2.2.2.2.2.2.2.2.1)

def o_63 : Vec F S1x1024 .f32 :=
  VO0_63.read (Elt F) (VO0_63.writes (Elt F) VO0_63.junk (run m hO c t).1.2.2.2.2.2.2.2.2.2.2.2.2.2.2.2.2.2.2.2.2.2.2.2.2.2.2.2.2.2.2.2.2.2.2.1)

def o_64 : Vec F S1x1024 .f32 :=
  VO0_64.read (Elt F) (VO0_64.writes (Elt F) VO0_64.junk (run m hO c t).1.2.2.2.2.2.2.2.2.2.2.2.2.2.2.2.2.2.2.2.2.2.2.2.2.2.2.2.2.2.2.2.2.2.2.2)

end Cert.AdamSmallIdeal.Named

end
-- ==== Proof.AdamSmallDats.lean ====
/- The proof data of the pipeline of the optimiser's call for the small parameters. -/
module

public import proofs.«01_k».proof.Proof.AdamSmallOuts
public import Idealize.ShloMosaic.Lib.Claim

@[expose] public section

set_option maxRecDepth 16384

noncomputable section

namespace Cert.AdamSmallIdeal.Named

open Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the outputs' at what the run leaves; the invariant the class's and the
    tables' halves; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => o_29 m hO c t
    | ⟨30, _⟩ => o_30 m hO c t
    | ⟨31, _⟩ => o_31 m hO c t
    | ⟨32, _⟩ => o_32 m hO c t
    | ⟨33, _⟩ => o_33 m hO c t
    | ⟨34, _⟩ => o_34 m hO c t
    | ⟨35, _⟩ => o_35 m hO c t
    | ⟨36, _⟩ => o_36 m hO c t
    | ⟨37, _⟩ => o_37 m hO c t
    | ⟨38, _⟩ => o_38 m hO c t
    | ⟨39, _⟩ => o_39 m hO c t
    | ⟨40, _⟩ => o_40 m hO c t
    | ⟨41, _⟩ => o_41 m hO c t
    | ⟨42, _⟩ => o_42 m hO c t
    | ⟨43, _⟩ => o_43 m hO c t
    | ⟨44, _⟩ => o_44 m hO c t
    | ⟨45, _⟩ => o_45 m hO c t
    | ⟨46, _⟩ => o_46 m hO c t
    | ⟨47, _⟩ => o_47 m hO c t
    | ⟨48, _⟩ => o_48 m hO c t
    | ⟨49, _⟩ => o_49 m hO c t
    | ⟨50, _⟩ => o_50 m hO c t
    | ⟨51, _⟩ => o_51 m hO c t
    | ⟨52, _⟩ => o_52 m hO c t
    | ⟨53, _⟩ => o_53 m hO c t
    | ⟨54, _⟩ => o_54 m hO c t
    | ⟨55, _⟩ => o_55 m hO c t
    | ⟨56, _⟩ => o_56 m hO c t
    | ⟨57, _⟩ => o_57 m hO c t
    | ⟨58, _⟩ => o_58 m hO c t
    | ⟨59, _⟩ => o_59 m hO c t
    | ⟨60, _⟩ => o_60 m hO c t
    | ⟨61, _⟩ => o_61 m hO c t
    | ⟨62, _⟩ => o_62 m hO c t
    | ⟨63, _⟩ => o_63 m hO c t
    | ⟨64, _⟩ => o_64 m hO c t
    | ⟨_ + 65, h⟩ => absurd h (Nat.not_lt.2 (Nat.le_add_left _ _))
  Φ _ := iprop(Pipeline.ΦA spec0 c ∗ Pipeline.ΦT pre0 (tbl m) c)
  q _ := fullShare
  owed _ := 0

/-- The proof data's arrays are the contents the region finds. -/
theorem A_eq (hO : Ok m) (c : Dev nD) (w : Fin (cfgM m hO).W) : (dats m hO 0 c).A w = V m c (Pipeline.arrRef spec0 w) := by
  dsimp only [dats]

variable (hO : Ok m) (c : Dev nD) (t : Fin (cfgM m hO).N)

/-- A window's staging buffer held whole at a value. -/
def held (c : Dev nD) (k : Pipeline.WinSpec sig grid0.rank) (s : Fin k.nbuf) (x : k.block.Idx → Elt F k.elt) : sProp 𝕄 :=
  owns (c : Thread nD τ) (k.stage s) fullShare x

/-- What the body is called with at point `t`, -/
def bodyPre : sProp 𝕄 :=
  let D := dats m hO 0 c
  let S := (cfgM m hO).slots t
  iprop(D.Φ t.castSucc ∗ D.owesAt () t.castSucc
    ∗ (∃ d, held c spec0_0 (S 0) (D.before 0 t d))
    ∗ (∃ d, held c spec0_1 (S 1) (D.before 1 t d))
    ∗ (∃ d, held c spec0_2 (S 2) (D.before 2 t d))
    ∗ (∃ d, held c spec0_3 (S 3) (D.before 3 t d))
    ∗ (∃ d, held c spec0_4 (S 4) (D.before 4 t d))
    ∗ (∃ d, held c spec0_5 (S 5) (D.before 5 t d))
    ∗ (∃ d, held c spec0_6 (S 6) (D.before 6 t d))
    ∗ (∃ d, held c spec0_7 (S 7) (D.before 7 t d))
    ∗ (∃ d, held c spec0_8 (S 8) (D.before 8 t d))
    ∗ (∃ d, held c spec0_9 (S 9) (D.before 9 t d))
    ∗ (∃ d, held c spec0_10 (S 10) (D.before 10 t d))
    ∗ (∃ d, held c spec0_11 (S 11) (D.before 11 t d))
    ∗ (∃ d, held c spec0_12 (S 12) (D.before 12 t d))
    ∗ (∃ d, held c spec0_13 (S 13) (D.before 13 t d))
    ∗ (∃ d, held c spec0_14 (S 14) (D.before 14 t d))
    ∗ (∃ d, held c spec0_15 (S 15) (D.before 15 t d))
    ∗ (∃ d, held c spec0_16 (S 16) (D.before 16 t d))
    ∗ (∃ d, held c spec0_17 (S 17) (D.before 17 t d))
    ∗ (∃ d, held c spec0_18 (S 18) (D.before 18 t d))
    ∗ (∃ d, held c spec0_19 (S 19) (D.before 19 t d))
    ∗ (∃ d, held c spec0_20 (S 20) (D.before 20 t d))
    ∗ (∃ d, held c spec0_21 (S 21) (D.before 21 t d))
    ∗ (∃ d, held c spec0_22 (S 22) (D.before 22 t d))
    ∗ (∃ d, held c spec0_23 (S 23) (D.before 23 t d))
    ∗ (∃ d, held c spec0_24 (S 24) (D.before 24 t d))
    ∗ (∃ d, held c spec0_25 (S 25) (D.before 25 t d))
    ∗ (∃ d, held c spec0_26 (S 26) (D.before 26 t d))
    ∗ (∃ d, held c spec0_27 (S 27) (D.before 27 t d))
    ∗ (∃ d, held c spec0_28 (S 28) (D.before 28 t d))
    ∗ (∃ d, held c spec0_29 (S 29) (D.before 29 t d))
    ∗ (∃ d, held c spec0_30 (S 30) (D.before 30 t d))
    ∗ (∃ d, held c spec0_31 (S 31) (D.before 31 t d))
    ∗ (∃ d, held c spec0_32 (S 32) (D.before 32 t d))
    ∗ (∃ d, held c spec0_33 (S 33) (D.before 33 t d))
    ∗ (∃ d, held c spec0_34 (S 34) (D.before 34 t d))
    ∗ (∃ d, held c spec0_35 (S 35) (D.before 35 t d))
    ∗ (∃ d, held c spec0_36 (S 36) (D.before 36 t d))
    ∗ (∃ d, held c spec0_37 (S 37) (D.before 37 t d))
    ∗ (∃ d, held c spec0_38 (S 38) (D.before 38 t d))
    ∗ (∃ d, held c spec0_39 (S 39) (D.before 39 t d))
    ∗ (∃ d, held c spec0_40 (S 40) (D.before 40 t d))
    ∗ (∃ d, held c spec0_41 (S 41) (D.before 41 t d))
    ∗ (∃ d, held c spec0_42 (S 42) (D.before 42 t d))
    ∗ (∃ d, held c spec0_43 (S 43) (D.before 43 t d))
    ∗ (∃ d, held c spec0_44 (S 44) (D.before 44 t d))
    ∗ (∃ d, held c spec0_45 (S 45) (D.before 45 t d))
    ∗ (∃ d, held c spec0_46 (S 46) (D.before 46 t d))
    ∗ (∃ d, held c spec0_47 (S 47) (D.before 47 t d))
    ∗ (∃ d, held c spec0_48 (S 48) (D.before 48 t d))
    ∗ (∃ d, held c spec0_49 (S 49) (D.before 49 t d))
    ∗ (∃ d, held c spec0_50 (S 50) (D.before 50 t d))
    ∗ (∃ d, held c spec0_51 (S 51) (D.before 51 t d))
    ∗ (∃ d, held c spec0_52 (S 52) (D.before 52 t d))
    ∗ (∃ d, held c spec0_53 (S 53) (D.before 53 t d))
    ∗ (∃ d, held c spec0_54 (S 54) (D.before 54 t d))
    ∗ (∃ d, held c spec0_55 (S 55) (D.before 55 t d))
    ∗ (∃ d, held c spec0_56 (S 56) (D.before 56 t d))
    ∗ (∃ d, held c spec0_57 (S 57) (D.before 57 t d))
    ∗ (∃ d, held c spec0_58 (S 58) (D.before 58 t d))
    ∗ (∃ d, held c spec0_59 (S 59) (D.before 59 t d))
    ∗ (∃ d, held c spec0_60 (S 60) (D.before 60 t d))
    ∗ (∃ d, held c spec0_61 (S 61) (D.before 61 t d))
    ∗ (∃ d, held c spec0_62 (S 62) (D.before 62 t d))
    ∗ (∃ d, held c spec0_63 (S 63) (D.before 63 t d))
    ∗ (∃ d, held c spec0_64 (S 64) (D.before 64 t d)))

/-- and what it returns. -/
def bodyPost : sProp 𝕄 :=
  let D := dats m hO 0 c
  let S := (cfgM m hO).slots t
  iprop(D.Φ t.castSucc ∗ D.owesAt () t.castSucc
    ∗ held c spec0_0 (S 0) (iblk m hO c 0 t)
    ∗ held c spec0_1 (S 1) (iblk m hO c 1 t)
    ∗ held c spec0_2 (S 2) (iblk m hO c 2 t)
    ∗ held c spec0_3 (S 3) (iblk m hO c 3 t)
    ∗ held c spec0_4 (S 4) (iblk m hO c 4 t)
    ∗ held c spec0_5 (S 5) (iblk m hO c 5 t)
    ∗ held c spec0_6 (S 6) (iblk m hO c 6 t)
    ∗ held c spec0_7 (S 7) (iblk m hO c 7 t)
    ∗ held c spec0_8 (S 8) (iblk m hO c 8 t)
    ∗ held c spec0_9 (S 9) (iblk m hO c 9 t)
    ∗ held c spec0_10 (S 10) (iblk m hO c 10 t)
    ∗ held c spec0_11 (S 11) (iblk m hO c 11 t)
    ∗ held c spec0_12 (S 12) (iblk m hO c 12 t)
    ∗ held c spec0_13 (S 13) (iblk m hO c 13 t)
    ∗ held c spec0_14 (S 14) (iblk m hO c 14 t)
    ∗ held c spec0_15 (S 15) (iblk m hO c 15 t)
    ∗ held c spec0_16 (S 16) (iblk m hO c 16 t)
    ∗ held c spec0_17 (S 17) (iblk m hO c 17 t)
    ∗ held c spec0_18 (S 18) (iblk m hO c 18 t)
    ∗ held c spec0_19 (S 19) (iblk m hO c 19 t)
    ∗ held c spec0_20 (S 20) (iblk m hO c 20 t)
    ∗ held c spec0_21 (S 21) (iblk m hO c 21 t)
    ∗ held c spec0_22 (S 22) (iblk m hO c 22 t)
    ∗ held c spec0_23 (S 23) (iblk m hO c 23 t)
    ∗ held c spec0_24 (S 24) (iblk m hO c 24 t)
    ∗ held c spec0_25 (S 25) (iblk m hO c 25 t)
    ∗ held c spec0_26 (S 26) (iblk m hO c 26 t)
    ∗ held c spec0_27 (S 27) (iblk m hO c 27 t)
    ∗ held c spec0_28 (S 28) (iblk m hO c 28 t)
    ∗ held c spec0_29 (S 29) (o_29 m hO c t)
    ∗ held c spec0_30 (S 30) (o_30 m hO c t)
    ∗ held c spec0_31 (S 31) (o_31 m hO c t)
    ∗ held c spec0_32 (S 32) (o_32 m hO c t)
    ∗ held c spec0_33 (S 33) (o_33 m hO c t)
    ∗ held c spec0_34 (S 34) (o_34 m hO c t)
    ∗ held c spec0_35 (S 35) (o_35 m hO c t)
    ∗ held c spec0_36 (S 36) (o_36 m hO c t)
    ∗ held c spec0_37 (S 37) (o_37 m hO c t)
    ∗ held c spec0_38 (S 38) (o_38 m hO c t)
    ∗ held c spec0_39 (S 39) (o_39 m hO c t)
    ∗ held c spec0_40 (S 40) (o_40 m hO c t)
    ∗ held c spec0_41 (S 41) (o_41 m hO c t)
    ∗ held c spec0_42 (S 42) (o_42 m hO c t)
    ∗ held c spec0_43 (S 43) (o_43 m hO c t)
    ∗ held c spec0_44 (S 44) (o_44 m hO c t)
    ∗ held c spec0_45 (S 45) (o_45 m hO c t)
    ∗ held c spec0_46 (S 46) (o_46 m hO c t)
    ∗ held c spec0_47 (S 47) (o_47 m hO c t)
    ∗ held c spec0_48 (S 48) (o_48 m hO c t)
    ∗ held c spec0_49 (S 49) (o_49 m hO c t)
    ∗ held c spec0_50 (S 50) (o_50 m hO c t)
    ∗ held c spec0_51 (S 51) (o_51 m hO c t)
    ∗ held c spec0_52 (S 52) (o_52 m hO c t)
    ∗ held c spec0_53 (S 53) (o_53 m hO c t)
    ∗ held c spec0_54 (S 54) (o_54 m hO c t)
    ∗ held c spec0_55 (S 55) (o_55 m hO c t)
    ∗ held c spec0_56 (S 56) (o_56 m hO c t)
    ∗ held c spec0_57 (S 57) (o_57 m hO c t)
    ∗ held c spec0_58 (S 58) (o_58 m hO c t)
    ∗ held c spec0_59 (S 59) (o_59 m hO c t)
    ∗ held c spec0_60 (S 60) (o_60 m hO c t)
    ∗ held c spec0_61 (S 61) (o_61 m hO c t)
    ∗ held c spec0_62 (S 62) (o_62 m hO c t)
    ∗ held c spec0_63 (S 63) (o_63 m hO c t)
    ∗ held c spec0_64 (S 64) (o_64 m hO c t))

end Cert.AdamSmallIdeal.Named

end
-- ==== Proof.AdamSmallBody.lean ====
/- The body of the optimiser's call for the small parameters takes its buffers where the proof data says. -/
module

public import proofs.«01_k».proof.Proof.AdamSmallDats
public import Idealize.ShloMosaic.Lib.Claim

@[expose] public section

set_option maxRecDepth 16384

noncomputable section

namespace Cert.AdamSmallIdeal.Named

open Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hO : Ok m) (c : Dev nD) (t : Fin (cfgM m hO).N)

set_option maxHeartbeats 6400000 in
/-- The body at any point: the inputs' buffers hold their blocks, fetched there or not, so the run applies; the
    invariant passes through unread; the core owes nothing throughout. -/
theorem sound_body :
    bodyPre m hO c t ⊢ wp frame (wpE (defs₀ (F := F)) Variants.none c none) Set.univ (bodyAt0 (adm m hO) t) (fun _ => bodyPost m hO c t) := by
  unfold bodyPre  bodyPost bodyAt0
  have A := A_eq m hO c
  simp only [before0_0_of m hO _ (A 0) (fun _ => rfl),
    before0_1_of m hO _ (A 1) (fun _ => rfl),
    before0_2_of m hO _ (A 2) (fun _ => rfl),
    before0_3_of m hO _ (A 3) (fun _ => rfl),
    before0_4_of m hO _ (A 4) (fun _ => rfl),
    before0_5_of m hO _ (A 5) (fun _ => rfl),
    before0_6_of m hO _ (A 6) (fun _ => rfl),
    before0_7_of m hO _ (A 7) (fun _ => rfl),
    before0_8_of m hO _ (A 8) (fun _ => rfl),
    before0_9_of m hO _ (A 9) (fun _ => rfl),
    before0_10_of m hO _ (A 10) (fun _ => rfl),
    before0_11_of m hO _ (A 11) (fun _ => rfl),
    before0_12_of m hO _ (A 12) (fun _ => rfl),
    before0_13_of m hO _ (A 13) (fun _ => rfl),
    before0_14_of m hO _ (A 14) (fun _ => rfl),
    before0_15_of m hO _ (A 15) (fun _ => rfl),
    before0_16_of m hO _ (A 16) (fun _ => rfl),
    before0_17_of m hO _ (A 17) (fun _ => rfl),
    before0_18_of m hO _ (A 18) (fun _ => rfl),
    before0_19_of m hO _ (A 19) (fun _ => rfl),
    before0_20_of m hO _ (A 20) (fun _ => rfl),
    before0_21_of m hO _ (A 21) (fun _ => rfl),
    before0_22_of m hO _ (A 22) (fun _ => rfl),
    before0_23_of m hO _ (A 23) (fun _ => rfl),
    before0_24_of m hO _ (A 24) (fun _ => rfl),
    before0_25_of m hO _ (A 25) (fun _ => rfl),
    before0_26_of m hO _ (A 26) (fun _ => rfl),
    before0_27_of m hO _ (A 27) (fun _ => rfl),
    before0_28_of m hO _ (A 28) (fun _ => rfl)]
  rw [show (dats m hO 0 c).Φ t.castSucc = iprop(Pipeline.ΦA spec0 c ∗ Pipeline.ΦT pre0 (tbl m) c) from rfl, PhiT0_eq]
  unfold held
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩⟩
  iapply ((run m hO c t).2 Set.univ _)
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  isplitl [H17]; iexact H17
  isplitl [H18]; iexact H18
  isplitl [H19]; iexact H19
  isplitl [H20]; iexact H20
  isplitl [H21]; iexact H21
  isplitl [H22]; iexact H22
  isplitl [H23]; iexact H23
  isplitl [H24]; iexact H24
  isplitl [H25]; iexact H25
  isplitl [H26]; iexact H26
  isplitl [H27]; iexact H27
  isplitl [H28]; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [HT0]; · iexact HT0
  iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%e33, H33⟩, ⟨%e34, H34⟩, ⟨%e35, H35⟩, ⟨%e36, H36⟩, ⟨%e37, H37⟩, ⟨%e38, H38⟩, ⟨%e39, H39⟩, ⟨%e40, H40⟩, ⟨%e41, H41⟩, ⟨%e42, H42⟩, ⟨%e43, H43⟩, ⟨%e44, H44⟩, ⟨%e45, H45⟩, ⟨%e46, H46⟩, ⟨%e47, H47⟩, ⟨%e48, H48⟩, ⟨%e49, H49⟩, ⟨%e50, H50⟩, ⟨%e51, H51⟩, ⟨%e52, H52⟩, ⟨%e53, H53⟩, ⟨%e54, H54⟩, ⟨%e55, H55⟩, ⟨%e56, H56⟩, ⟨%e57, H57⟩, ⟨%e58, H58⟩, ⟨%e59, H59⟩, ⟨%e60, H60⟩, ⟨%e61, H61⟩, ⟨%e62, H62⟩, ⟨%e63, H63⟩, ⟨%e64, H64⟩, HT0⟩
  isplitl [HΦ HT0]
  · isplitl [HΦ]
    · iexact HΦ
    iexact HT0
  isplitl [Ho]; · iexact Ho
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  isplitl [H17]; iexact H17
  isplitl [H18]; iexact H18
  isplitl [H19]; iexact H19
  isplitl [H20]; iexact H20
  isplitl [H21]; iexact H21
  isplitl [H22]; iexact H22
  isplitl [H23]; iexact H23
  isplitl [H24]; iexact H24
  isplitl [H25]; iexact H25
  isplitl [H26]; iexact H26
  isplitl [H27]; iexact H27
  isplitl [H28]; iexact H28
  isplitl [H29]
  · unfold owns; iexists _; isplitr
    swap; iexact H29
    ipureintro; exact View.read_writes_of_cover _ _ _ _ _ (View.cover_of_tiledL _ S31x256.size (by sl_kernel_rfl))
  isplitl [H30]
  · unfold owns; iexists _; isplitr
    swap; iexact H30
    ipureintro; exact View.read_writes_of_cover _ _ _ _ _ (View.cover_of_tiledL _ S31x256.size (by sl_kernel_rfl))
  isplitl [H31]
  · unfold owns; iexists _; isplitr
    swap; iexact H31
    ipureintro; exact View.read_writes_of_cover _ _ _ _ _ (View.cover_of_tiledL _ S31x256.size (by sl_kernel_rfl))
  isplitl [H32]
  · unfold owns; iexists _; isplitr
    swap; iexact H32
    ipureintro; exact View.read_writes_of_cover _ _ _ _ _ (View.cover_of_tiledL _ S31x256.size (by sl_kernel_rfl))
  isplitl [H33]
  · unfold owns; iexists _; isplitr
    swap; iexact H33
    ipureintro; exact View.read_writes_of_cover _ _ _ _ _ (View.cover_of_tiledL _ S1x1024.size (by sl_kernel_rfl))
  isplitl [H34]
  · unfold owns; iexists _; isplitr
    swap; iexact H34
    ipureintro; exact View.read_writes_of_cover _ _ _ _ _ (View.cover_of_tiledL _ S1x1024.size (by sl_kernel_rfl))
  isplitl [H35]
  · unfold owns; iexists _; isplitr
    swap; iexact H35
    ipureintro; exact View.read_writes_of_cover _ _ _ _ _ (View.cover_of_tiledL _ S1x1024.size (by sl_kernel_rfl))
  isplitl [H36]
  · unfold owns; iexists _; isplitr
    swap; iexact H36
    ipureintro; exact View.read_writes_of_cover _ _ _ _ _ (View.cover_of_tiledL _ S1x1024.size (by sl_kernel_rfl))
  isplitl [H37]
  · unfold owns; iexists _; isplitr
    swap; iexact H37
    ipureintro; exact View.read_writes_of_cover _ _ _ _ _ (View.cover_of_tiledL _ S1x1024.size (by sl_kernel_rfl))
  isplitl [H38]
  · unfold owns; iexists _; isplitr
    swap; iexact H38
    ipureintro; exact View.read_writes_of_cover _ _ _ _ _ (View.cover_of_tiledL _ S1x1024.size (by sl_kernel_rfl))
  isplitl [H39]
  · unfold owns; iexists _; isplitr
    swap; iexact H39
    ipureintro; exact View.read_writes_of_cover _ _ _ _ _ (View.cover_of_tiledL _ S1x1024.size (by sl_kernel_rfl))
  isplitl [H40]
  · unfold owns; iexists _; isplitr
    swap; iexact H40
    ipureintro; exact View.read_writes_of_cover _ _ _ _ _ (View.cover_of_tiledL _ S1x1024.size (by sl_kernel_rfl))
  isplitl [H41]
  · unfold owns; iexists _; isplitr
    swap; iexact H41
    ipureintro; exact View.read_writes_of_cover _ _ _ _ _ (View.cover_of_tiledL _ S1x1024.size (by sl_kernel_rfl))
  isplitl [H42]
  · unfold owns; iexists _; isplitr
    swap; iexact H42
    ipureintro; exact View.read_writes_of_cover _ _ _ _ _ (View.cover_of_tiledL _ S1x1024.size (by sl_kernel_rfl))
  isplitl [H43]
  · unfold owns; iexists _; isplitr
    swap; iexact H43
    ipureintro; exact View.read_writes_of_cover _ _ _ _ _ (View.cover_of_tiledL _ S1x1024.size (by sl_kernel_rfl))
  isplitl [H44]
  · unfold owns; iexists _; isplitr
    swap; iexact H44
    ipureintro; exact View.read_writes_of_cover _ _ _ _ _ (View.cover_of_tiledL _ S1x1024.size (by sl_kernel_rfl))
  isplitl [H45]
  · unfold owns; iexists _; isplitr
    swap; iexact H45
    ipureintro; exact View.read_writes_of_cover _ _ _ _ _ (View.cover_of_tiledL _ S1x1024.size (by sl_kernel_rfl))
  isplitl [H46]
  · unfold owns; iexists _; isplitr
    swap; iexact H46
    ipureintro; exact View.read_writes_of_cover _ _ _ _ _ (View.cover_of_tiledL _ S1x1024.size (by sl_kernel_rfl))
  isplitl [H47]
  · unfold owns; iexists _; isplitr
    swap; iexact H47
    ipureintro; exact View.read_writes_of_cover _ _ _ _ _ (View.cover_of_tiledL _ S1x1024.size (by sl_kernel_rfl))
  isplitl [H48]
  · unfold owns; iexists _; isplitr
    swap; iexact H48
    ipureintro; exact View.read_writes_of_cover _ _ _ _ _ (View.cover_of_tiledL _ S1x1024.size (by sl_kernel_rfl))
  isplitl [H49]
  · unfold owns; iexists _; isplitr
    swap; iexact H49
    ipureintro; exact View.read_writes_of_cover _ _ _ _ _ (View.cover_of_tiledL _ S1x1024.size (by sl_kernel_rfl))
  isplitl [H50]
  · unfold owns; iexists _; isplitr
    swap; iexact H50
    ipureintro; exact View.read_writes_of_cover _ _ _ _ _ (View.cover_of_tiledL _ S1x1024.size (by sl_kernel_rfl))
  isplitl [H51]
  · unfold owns; iexists _; isplitr
    swap; iexact H51
    ipureintro; exact View.read_writes_of_cover _ _ _ _ _ (View.cover_of_tiledL _ S1x1024.size (by sl_kernel_rfl))
  isplitl [H52]
  · unfold owns; iexists _; isplitr
    swap; iexact H52
    ipureintro; exact View.read_writes_of_cover _ _ _ _ _ (View.cover_of_tiledL _ S1x1024.size (by sl_kernel_rfl))
  isplitl [H53]
  · unfold owns; iexists _; isplitr
    swap; iexact H53
    ipureintro; exact View.read_writes_of_cover _ _ _ _ _ (View.cover_of_tiledL _ S1024x128.size (by sl_kernel_rfl))
  isplitl [H54]
  · unfold owns; iexists _; isplitr
    swap; iexact H54
    ipureintro; exact View.read_writes_of_cover _ _ _ _ _ (View.cover_of_tiledL _ S1024x128.size (by sl_kernel_rfl))
  isplitl [H55]
  · unfold owns; iexists _; isplitr
    swap; iexact H55
    ipureintro; exact View.read_writes_of_cover _ _ _ _ _ (View.cover_of_tiledL _ S1024x128.size (by sl_kernel_rfl))
  isplitl [H56]
  · unfold owns; iexists _; isplitr
    swap; iexact H56
    ipureintro; exact View.read_writes_of_cover _ _ _ _ _ (View.cover_of_tiledL _ S1024x128.size (by sl_kernel_rfl))
  isplitl [H57]
  · unfold owns; iexists _; isplitr
    swap; iexact H57
    ipureintro; exact View.read_writes_of_cover _ _ _ _ _ (View.cover_of_tiledL _ S1x1024.size (by sl_kernel_rfl))
  isplitl [H58]
  · unfold owns; iexists _; isplitr
    swap; iexact H58
    ipureintro; exact View.read_writes_of_cover _ _ _ _ _ (View.cover_of_tiledL _ S1x1024.size (by sl_kernel_rfl))
  isplitl [H59]
  · unfold owns; iexists _; isplitr
    swap; iexact H59
    ipureintro; exact View.read_writes_of_cover _ _ _ _ _ (View.cover_of_tiledL _ S1x1024.size (by sl_kernel_rfl))
  isplitl [H60]
  · unfold owns; iexists _; isplitr
    swap; iexact H60
    ipureintro; exact View.read_writes_of_cover _ _ _ _ _ (View.cover_of_tiledL _ S1x1024.size (by sl_kernel_rfl))
  isplitl [H61]
  · unfold owns; iexists _; isplitr
    swap; iexact H61
    ipureintro; exact View.read_writes_of_cover _ _ _ _ _ (View.cover_of_tiledL _ S1x1024.size (by sl_kernel_rfl))
  isplitl [H62]
  · unfold owns; iexists _; isplitr
    swap; iexact H62
    ipureintro; exact View.read_writes_of_cover _ _ _ _ _ (View.cover_of_tiledL _ S1x1024.size (by sl_kernel_rfl))
  isplitl [H63]
  · unfold owns; iexists _; isplitr
    swap; iexact H63
    ipureintro; exact View.read_writes_of_cover _ _ _ _ _ (View.cover_of_tiledL _ S1x1024.size (by sl_kernel_rfl))
  unfold owns; iexists _; isplitr
  swap; iexact H64
  ipureintro; exact View.read_writes_of_cover _ _ _ _ _ (View.cover_of_tiledL _ S1x1024.size (by sl_kernel_rfl))

end Cert.AdamSmallIdeal.Named

end
-- ==== Proof.AdamSmallFrame.lean ====
/- The run of the whole program of the optimiser's call for the small parameters, and its frame. -/
module

public import proofs.«01_k».proof.Proof.AdamSmallBody
public import Idealize.ShloMosaic.Lib.Claim

@[expose] public section

set_option maxRecDepth 16384

noncomputable section

namespace Cert.AdamSmallIdeal.Named

open Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] o_29 o_30 o_31 o_32 o_33 o_34 o_35 o_36 o_37 o_38 o_39 o_40 o_41 o_42 o_43 o_44 o_45 o_46 o_47 o_48 o_49 o_50 o_51 o_52 o_53 o_54 o_55 o_56 o_57 o_58 o_59 o_60 o_61 o_62 o_63 o_64

variable (m : (ℓ : Loc nD τ sig) → Buf (Elt F) ℓ) (ρ : Dev nD → PrngReg)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 6400000 in
/-- The library's body obligation, at every point: the body's triple restated. -/
theorem body_obligation (hO : Ok m) (c : Dev nD) : BodyObligation (dats (F := F) m hO 0 c) (defs₀ (F := F)) Variants.none () Set.univ := fun t => by
  show iprop(_ ∗ _ ∗ bigSep Finset.univ fun w : Fin 65 => iprop(∃ d, held c (spec0 w) ((cfgM m hO).slots t w) ((dats m hO 0 c).before w t d)))
    ⊢ wp frame _ _ _ fun _ => iprop(_ ∗ _ ∗ bigSep Finset.univ fun w : Fin 65 => held c (spec0 w) ((cfgM m hO).slots t w) ((dats m hO 0 c).after w t))
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays at the end are as at the start. -/
abbrev Kept (r : (ℓ : Loc nD τ sig) → Buf (Elt F) ℓ) : Prop := ∀ c : Dev nD,
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6)
      ∧ r ((c.tc : Thread nD τ).loc main_arg7) = m ((c.tc : Thread nD τ).loc main_arg7)
      ∧ r ((c.tc : Thread nD τ).loc main_arg8) = m ((c.tc : Thread nD τ).loc main_arg8)
      ∧ r ((c.tc : Thread nD τ).loc main_arg9) = m ((c.tc : Thread nD τ).loc main_arg9)
      ∧ r ((c.tc : Thread nD τ).loc main_arg10) = m ((c.tc : Thread nD τ).loc main_arg10)
      ∧ r ((c.tc : Thread nD τ).loc main_arg11) = m ((c.tc : Thread nD τ).loc main_arg11)
      ∧ r ((c.tc : Thread nD τ).loc main_arg12) = m ((c.tc : Thread nD τ).loc main_arg12)
      ∧ r ((c.tc : Thread nD τ).loc main_arg13) = m ((c.tc : Thread nD τ).loc main_arg13)
      ∧ r ((c.tc : Thread nD τ).loc main_arg14) = m ((c.tc : Thread nD τ).loc main_arg14)
      ∧ r ((c.tc : Thread nD τ).loc main_arg15) = m ((c.tc : Thread nD τ).loc main_arg15)
      ∧ r ((c.tc : Thread nD τ).loc main_arg16) = m ((c.tc : Thread nD τ).loc main_arg16)
      ∧ r ((c.tc : Thread nD τ).loc main_arg17) = m ((c.tc : Thread nD τ).loc main_arg17)
      ∧ r ((c.tc : Thread nD τ).loc main_arg18) = m ((c.tc : Thread nD τ).loc main_arg18)
      ∧ r ((c.tc : Thread nD τ).loc main_arg19) = m ((c.tc : Thread nD τ).loc main_arg19)
      ∧ r ((c.tc : Thread nD τ).loc main_arg20) = m ((c.tc : Thread nD τ).loc main_arg20)
      ∧ r ((c.tc : Thread nD τ).loc main_arg21) = m ((c.tc : Thread nD τ).loc main_arg21)
      ∧ r ((c.tc : Thread nD τ).loc main_arg22) = m ((c.tc : Thread nD τ).loc main_arg22)
      ∧ r ((c.tc : Thread nD τ).loc main_arg23) = m ((c.tc : Thread nD τ).loc main_arg23)
      ∧ r ((c.tc : Thread nD τ).loc main_arg24) = m ((c.tc : Thread nD τ).loc main_arg24)
      ∧ r ((c.tc : Thread nD τ).loc main_arg25) = m ((c.tc : Thread nD τ).loc main_arg25)
      ∧ r ((c.tc : Thread nD τ).loc main_arg26) = m ((c.tc : Thread nD τ).loc main_arg26)
      ∧ r ((c.tc : Thread nD τ).loc main_arg27) = m ((c.tc : Thread nD τ).loc main_arg27)
      ∧ r ((c.tc : Thread nD τ).loc main_arg28) = m ((c.tc : Thread nD τ).loc main_arg28)
      ∧ r ((c.tc : Thread nD τ).loc main_arg29) = m ((c.tc : Thread nD τ).loc main_arg29)

/-- THE FRAME, at any floats: every run ends, with the argument arrays unchanged and every counter at zero. -/
theorem frame (hO : Ok m) : θ_run defs (onTc (τ := τ) (main (F := F))) ⟨m, fun _ => 0, ρ⟩ (fun r => Kept m r.2.mem ∧ r.2.sem = fun _ => 0) :=
  θ_run_and (frame_of m ρ hO (dats m hO) (A_eq m hO) (run_main m ρ hO)) ((θ_run defs _ _).mono (fun _ h => h.2) (run_main_quiescent m ρ hO))

end Cert.AdamSmallIdeal.Named

end
-- ==== Proof.AdamSmallBits.lean ====
/- The frame of the call at the bit-exact values. Its program and the ideal one are the same text, so the frame proved
   over any values is its frame too. -/
module

public import proofs.«01_k».proof.Defs
public import proofs.«01_k».proof.Proof.AdamSmallFrame
public import proofs.«01_k».proof.Proof.Gen.AdamSmall

@[expose] public section

noncomputable section

namespace Cert.AdamSmallIdeal.Named

open Cert.AdamSmallIdeal.Gen
open Idealize.ShloMosaic Idealize.ShloMosaic.TcCoe Idealize.SL.Sem

/-- The frame at the bit-exact values, spelled with the ideal program's names. -/
def FrameBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => Kept m r.2.mem ∧ r.2.sem = fun _ => 0)

theorem frameBits : FrameBits := fun m ρ _ => frame m ρ trivial

/-- The bit-exact program's frame claim is that statement: the two programs unfold to the same text. -/
theorem quiescent_eq : Cert.quiescent_AdamSmall = FrameBits := by sl_kernel_rfl

theorem quiescent : Cert.quiescent_AdamSmall := quiescent_eq.mpr frameBits

end Cert.AdamSmallIdeal.Named

end
-- ==== Proof.Adam.lean ====
/- The optimiser's formulas, as functions of arrays of any one shape, and two lemmas on choices and indices. -/
module

public import Idealize.ShloMosaic.Lib.Pipeline.ValueKit

@[expose] public section

noncomputable section

namespace Cert.Adam

open Idealize.ShloMosaic

variable {S : Shape}

/-- The new first moment: `0.9 m + 0.1 g`. -/
def newM (m g : FVec Ideal S .f32) : FVec Ideal S .f32 :=
  addf (mulf (broadcast S (Scalar.ofBits .f32 0x3F666666#32)) m) (mulf (broadcast S (Scalar.ofBits .f32 0x3DCCCCCD#32)) g)

/-- The new second moment: `0.999 v + 0.001 g²`. -/
def newV (v g : FVec Ideal S .f32) : FVec Ideal S .f32 :=
  addf (mulf (broadcast S (Scalar.ofBits .f32 0x3F7FBE77#32)) v)
    (mulf (broadcast S (Scalar.ofBits .f32 0x3A83126F#32)) (mulf g g))

/-- The step: the corrected moments' quotient with the decay, times the negated rate. -/
def delta (w g m v : FVec Ideal S .f32) : FVec Ideal S .f32 :=
  mulf (broadcast S (Scalar.ofBits .f32 0xBA83126F#32))
    (addf (divf (divf (newM m g) (broadcast S (Scalar.ofBits .f32 0x3F26BD02#32)))
        (addf (sqrt (divf (newV v g) (broadcast S (Scalar.ofBits .f32 0x3C231ACC#32)))) (broadcast S (Scalar.ofBits .f32 0x322BCC77#32))))
      (mulf (broadcast S (Scalar.ofBits .f32 0x3C23D70A#32)) w))

/-- A scalar choice on an equality. -/
theorem select_eq {α : Type} (p q : BitVec 32) (a b : α) : Scalar.select (Scalar.cmpi .eq p q) a b = if p = q then a else b := by
  unfold Scalar.select Scalar.cmpi
  by_cases h : p = q
  · simp [IntOp.cmpi, h]
  · have hb : (p == q) = false := beq_eq_false_iff_ne.mpr h
    simp [IntOp.cmpi, h, hb]

/-- Two indices with equal entries are equal, the first spelled as an entry of the one whole block. -/
theorem whole {r k : ℕ} (f y : Shape.Idx ⟨2, ![r, k]⟩) (h0 : (f 0).val = 0 * r + 1 * (y 0).val) (h1 : (f 1).val = 0 * k + 1 * (y 1).val) : f = y :=
  funext fun a => match a with
    | ⟨0, _⟩ => Fin.ext (h0.trans (by rw [Nat.zero_mul, Nat.zero_add, Nat.one_mul]; rfl))
    | ⟨1, _⟩ => Fin.ext (h1.trans (by rw [Nat.zero_mul, Nat.zero_add, Nat.one_mul]; rfl))

end Cert.Adam

end
-- ==== Proof.AdamSmallPoint.lean ====
/- What the body of the optimiser's call for the small parameters leaves in its outputs, as formulas of the arguments. -/
module

public import proofs.«01_k».proof.Proof.AdamSmallOuts
public import proofs.«01_k».proof.Proof.Adam
public import Idealize.ShloMosaic.Lib.Pipeline.ReadBack
public import Idealize.ShloMosaic.Lib.Pipeline.ValueKit
public import Idealize.ShloMosaic.Lib.Pipeline.Value
public import Idealize.ShloMosaic.Lib.Pointwise

@[expose] public section

set_option maxRecDepth 16384

noncomputable section

namespace Cert.AdamSmallIdeal.Point

open Cert.AdamSmallIdeal.Gen Cert.AdamSmallIdeal.Named
open Idealize.ShloMosaic Idealize.ShloMosaic.TcCoe Idealize.ShloMosaic.Tactic

variable (m : (ℓ : Loc nD τ sig) → Buf (Elt Ideal) ℓ)

/-! ## The arguments -/

/-- The position along the first axis of devices, the packed gradients, the mixing weights' gradient, -/
abbrev pos (c : Dev nD) : BitVec 32 := (m ((c : Thread nD τ).loc main_arg0) : S3.Idx → BitVec 32) (ix1 0)
abbrev a1 (c : Dev nD) : FVec Ideal S40x1024 .f32 := m ((c : Thread nD τ).loc main_arg1)
abbrev a2 (c : Dev nD) : FVec Ideal S1024x128 .f32 := m ((c : Thread nD τ).loc main_arg2)
/-- and each parameter with its two moments. -/
abbrev a3 (c : Dev nD) : FVec Ideal S31x256 .f32 := m ((c : Thread nD τ).loc main_arg3)
abbrev a4 (c : Dev nD) : FVec Ideal S31x256 .f32 := m ((c : Thread nD τ).loc main_arg4)
abbrev a5 (c : Dev nD) : FVec Ideal S31x256 .f32 := m ((c : Thread nD τ).loc main_arg5)
abbrev a6 (c : Dev nD) : FVec Ideal S1x1024 .f32 := m ((c : Thread nD τ).loc main_arg6)
abbrev a7 (c : Dev nD) : FVec Ideal S1x1024 .f32 := m ((c : Thread nD τ).loc main_arg7)
abbrev a8 (c : Dev nD) : FVec Ideal S1x1024 .f32 := m ((c : Thread nD τ).loc main_arg8)
abbrev a9 (c : Dev nD) : FVec Ideal S1x1024 .f32 := m ((c : Thread nD τ).loc main_arg9)
abbrev a10 (c : Dev nD) : FVec Ideal S1x1024 .f32 := m ((c : Thread nD τ).loc main_arg10)
abbrev a11 (c : Dev nD) : FVec Ideal S1x1024 .f32 := m ((c : Thread nD τ).loc main_arg11)
abbrev a12 (c : Dev nD) : FVec Ideal S1x1024 .f32 := m ((c : Thread nD τ).loc main_arg12)
abbrev a13 (c : Dev nD) : FVec Ideal S1x1024 .f32 := m ((c : Thread nD τ).loc main_arg13)
abbrev a14 (c : Dev nD) : FVec Ideal S1x1024 .f32 := m ((c : Thread nD τ).loc main_arg14)
abbrev a15 (c : Dev nD) : FVec Ideal S1x1024 .f32 := m ((c : Thread nD τ).loc main_arg15)
abbrev a16 (c : Dev nD) : FVec Ideal S1x1024 .f32 := m ((c : Thread nD τ).loc main_arg16)
abbrev a17 (c : Dev nD) : FVec Ideal S1x1024 .f32 := m ((c : Thread nD τ).loc main_arg17)
abbrev a18 (c : Dev nD) : FVec Ideal S1x1024 .f32 := m ((c : Thread nD τ).loc main_arg18)
abbrev a19 (c : Dev nD) : FVec Ideal S1x1024 .f32 := m ((c : Thread nD τ).loc main_arg19)
abbrev a20 (c : Dev nD) : FVec Ideal S1x1024 .f32 := m ((c : Thread nD τ).loc main_arg20)
abbrev a21 (c : Dev nD) : FVec Ideal S1024x128 .f32 := m ((c : Thread nD τ).loc main_arg21)
abbrev a22 (c : Dev nD) : FVec Ideal S1024x128 .f32 := m ((c : Thread nD τ).loc main_arg22)
abbrev a23 (c : Dev nD) : FVec Ideal S1024x128 .f32 := m ((c : Thread nD τ).loc main_arg23)
abbrev a24 (c : Dev nD) : FVec Ideal S1x1024 .f32 := m ((c : Thread nD τ).loc main_arg24)
abbrev a25 (c : Dev nD) : FVec Ideal S1x1024 .f32 := m ((c : Thread nD τ).loc main_arg25)
abbrev a26 (c : Dev nD) : FVec Ideal S1x1024 .f32 := m ((c : Thread nD τ).loc main_arg26)
abbrev a27 (c : Dev nD) : FVec Ideal S1x1024 .f32 := m ((c : Thread nD τ).loc main_arg27)
abbrev a28 (c : Dev nD) : FVec Ideal S1x1024 .f32 := m ((c : Thread nD τ).loc main_arg28)
abbrev a29 (c : Dev nD) : FVec Ideal S1x1024 .f32 := m ((c : Thread nD τ).loc main_arg29)

/-! ## The gradients -/

/-- Row `k` of the packed gradients. -/
abbrev row {k : ℕ} (h : ∀ a, (![k, 0] : Fin 2 → Nat) a + S1x1024.size a ≤ S40x1024.size a) (p : Vec Ideal S40x1024 .f32) : Vec Ideal S1x1024 .f32 :=
  View.ld p (Rect.unit (s := S40x1024) ![k, 0] ![1, 1024] h)

/-- The convolution's gradient: the columns of the device's own position, nought where it has none. -/
def shard (d : BitVec 32) (p : FVec Ideal S40x1024 .f32) : FVec Ideal S31x256 .f32 := fun y =>
  ∑ k : Fin 4, if d = BitVec.ofNat 32 k.val then p (ix2 (⟨8 + (y 0).val, by have := (y 0).isLt; change _ < 31 at this; omega⟩ : Fin 40) (⟨256 * k.val + (y 1).val, by have := (y 1).isLt; change _ < 256 at this; omega⟩ : Fin 1024)) else 0

/-- The gradient of conv_w. -/
abbrev g0 (c : Dev nD) : FVec Ideal S31x256 .f32 := shard (pos m c) (a1 m c)
/-- The gradient of conv_b. -/
abbrev g1 (c : Dev nD) : FVec Ideal S1x1024 .f32 := row inb_S40x1024_S1x1024_1_0 (a1 m c)
/-- The gradient of conv_ln_g. -/
abbrev g2 (c : Dev nD) : FVec Ideal S1x1024 .f32 := row inb_S40x1024_S1x1024_2_0 (a1 m c)
/-- The gradient of conv_ln_b. -/
abbrev g3 (c : Dev nD) : FVec Ideal S1x1024 .f32 := row inb_S40x1024_S1x1024_3_0 (a1 m c)
/-- The gradient of sgu_ln_g. -/
abbrev g4 (c : Dev nD) : FVec Ideal S1x1024 .f32 := row inb_S40x1024_S1x1024_4_0 (a1 m c)
/-- The gradient of sgu_ln_b. -/
abbrev g5 (c : Dev nD) : FVec Ideal S1x1024 .f32 := row inb_S40x1024_S1x1024_5_0 (a1 m c)
/-- The gradient of w_s. -/
abbrev g6 (c : Dev nD) : FVec Ideal S1024x128 .f32 := a2 m c
/-- The gradient of b_s. -/
abbrev g7 (c : Dev nD) : FVec Ideal S1x1024 .f32 := row inb_S40x1024_S1x1024_6_0 (a1 m c)
/-- The gradient of final_g. -/
abbrev g8 (c : Dev nD) : FVec Ideal S1x1024 .f32 := row inb_S40x1024_S1x1024_7_0 (a1 m c)

/-- The body's chain of four choices takes the columns of the device's own position. -/
theorem shard_pay (d : BitVec 32) (p : Vec Ideal S40x1024 .f32) :
    k0_pay3 d (View.ld p (Rect.unit ![8, 0] ![31, 256] inb_S40x1024_S31x256_8_0)) (View.ld p (Rect.unit ![8, 256] ![31, 256] inb_S40x1024_S31x256_8_256))
      (View.ld p (Rect.unit ![8, 512] ![31, 256] inb_S40x1024_S31x256_8_512)) (View.ld p (Rect.unit ![8, 768] ![31, 256] inb_S40x1024_S31x256_8_768)) = shard d p := by
  funext y
  obtain ⟨i, j, rfl⟩ : ∃ i j, y = (ix2 i j : S31x256.Idx) := ⟨y 0, y 1, eq_ix2 y⟩
  unfold shard k0_pay3
  rw [Fin.sum_univ_four]
  pointwise
  simp only [Adam.select_eq]
  by_cases h0 : d = 0#32
  · subst h0; simp
  by_cases h1 : d = 1#32
  · subst h1; simp
  by_cases h2 : d = 2#32
  · subst h2; simp
  by_cases h3 : d = 3#32
  · subst h3; simp
  simp [h0, h1, h2, h3]

/-! ## The blocks: every window is a whole array -/

variable (hO : Ok m) (c : Dev nD) (t : Fin (cfgM m hO).N)

theorem iblk0 : (iblk m hO c 0 t : FVec Ideal S40x1024 .f32) = a1 m c :=
  funext fun (y : S40x1024.Idx) => (View.read_apply ..).trans (congrArg (a1 m c) (Adam.whole _ y rfl rfl))
theorem iblk1 : (iblk m hO c 1 t : FVec Ideal S1024x128 .f32) = a2 m c :=
  funext fun (y : S1024x128.Idx) => (View.read_apply ..).trans (congrArg (a2 m c) (Adam.whole _ y rfl rfl))
theorem iblk2 : (iblk m hO c 2 t : FVec Ideal S31x256 .f32) = a3 m c :=
  funext fun (y : S31x256.Idx) => (View.read_apply ..).trans (congrArg (a3 m c) (Adam.whole _ y rfl rfl))
theorem iblk3 : (iblk m hO c 3 t : FVec Ideal S31x256 .f32) = a4 m c :=
  funext fun (y : S31x256.Idx) => (View.read_apply ..).trans (congrArg (a4 m c) (Adam.whole _ y rfl rfl))
theorem iblk4 : (iblk m hO c 4 t : FVec Ideal S31x256 .f32) = a5 m c :=
  funext fun (y : S31x256.Idx) => (View.read_apply ..).trans (congrArg (a5 m c) (Adam.whole _ y rfl rfl))
theorem iblk5 : (iblk m hO c 5 t : FVec Ideal S1x1024 .f32) = a6 m c :=
  funext fun (y : S1x1024.Idx) => (View.read_apply ..).trans (congrArg (a6 m c) (Adam.whole _ y rfl rfl))
theorem iblk6 : (iblk m hO c 6 t : FVec Ideal S1x1024 .f32) = a7 m c :=
  funext fun (y : S1x1024.Idx) => (View.read_apply ..).trans (congrArg (a7 m c) (Adam.whole _ y rfl rfl))
theorem iblk7 : (iblk m hO c 7 t : FVec Ideal S1x1024 .f32) = a8 m c :=
  funext fun (y : S1x1024.Idx) => (View.read_apply ..).trans (congrArg (a8 m c) (Adam.whole _ y rfl rfl))
theorem iblk8 : (iblk m hO c 8 t : FVec Ideal S1x1024 .f32) = a9 m c :=
  funext fun (y : S1x1024.Idx) => (View.read_apply ..).trans (congrArg (a9 m c) (Adam.whole _ y rfl rfl))
theorem iblk9 : (iblk m hO c 9 t : FVec Ideal S1x1024 .f32) = a10 m c :=
  funext fun (y : S1x1024.Idx) => (View.read_apply ..).trans (congrArg (a10 m c) (Adam.whole _ y rfl rfl))
theorem iblk10 : (iblk m hO c 10 t : FVec Ideal S1x1024 .f32) = a11 m c :=
  funext fun (y : S1x1024.Idx) => (View.read_apply ..).trans (congrArg (a11 m c) (Adam.whole _ y rfl rfl))
theorem iblk11 : (iblk m hO c 11 t : FVec Ideal S1x1024 .f32) = a12 m c :=
  funext fun (y : S1x1024.Idx) => (View.read_apply ..).trans (congrArg (a12 m c) (Adam.whole _ y rfl rfl))
theorem iblk12 : (iblk m hO c 12 t : FVec Ideal S1x1024 .f32) = a13 m c :=
  funext fun (y : S1x1024.Idx) => (View.read_apply ..).trans (congrArg (a13 m c) (Adam.whole _ y rfl rfl))
theorem iblk13 : (iblk m hO c 13 t : FVec Ideal S1x1024 .f32) = a14 m c :=
  funext fun (y : S1x1024.Idx) => (View.read_apply ..).trans (congrArg (a14 m c) (Adam.whole _ y rfl rfl))
theorem iblk14 : (iblk m hO c 14 t : FVec Ideal S1x1024 .f32) = a15 m c :=
  funext fun (y : S1x1024.Idx) => (View.read_apply ..).trans (congrArg (a15 m c) (Adam.whole _ y rfl rfl))
theorem iblk15 : (iblk m hO c 15 t : FVec Ideal S1x1024 .f32) = a16 m c :=
  funext fun (y : S1x1024.Idx) => (View.read_apply ..).trans (congrArg (a16 m c) (Adam.whole _ y rfl rfl))
theorem iblk16 : (iblk m hO c 16 t : FVec Ideal S1x1024 .f32) = a17 m c :=
  funext fun (y : S1x1024.Idx) => (View.read_apply ..).trans (congrArg (a17 m c) (Adam.whole _ y rfl rfl))
theorem iblk17 : (iblk m hO c 17 t : FVec Ideal S1x1024 .f32) = a18 m c :=
  funext fun (y : S1x1024.Idx) => (View.read_apply ..).trans (congrArg (a18 m c) (Adam.whole _ y rfl rfl))
theorem iblk18 : (iblk m hO c 18 t : FVec Ideal S1x1024 .f32) = a19 m c :=
  funext fun (y : S1x1024.Idx) => (View.read_apply ..).trans (congrArg (a19 m c) (Adam.whole _ y rfl rfl))
theorem iblk19 : (iblk m hO c 19 t : FVec Ideal S1x1024 .f32) = a20 m c :=
  funext fun (y : S1x1024.Idx) => (View.read_apply ..).trans (congrArg (a20 m c) (Adam.whole _ y rfl rfl))
theorem iblk20 : (iblk m hO c 20 t : FVec Ideal S1024x128 .f32) = a21 m c :=
  funext fun (y : S1024x128.Idx) => (View.read_apply ..).trans (congrArg (a21 m c) (Adam.whole _ y rfl rfl))
theorem iblk21 : (iblk m hO c 21 t : FVec Ideal S1024x128 .f32) = a22 m c :=
  funext fun (y : S1024x128.Idx) => (View.read_apply ..).trans (congrArg (a22 m c) (Adam.whole _ y rfl rfl))
theorem iblk22 : (iblk m hO c 22 t : FVec Ideal S1024x128 .f32) = a23 m c :=
  funext fun (y : S1024x128.Idx) => (View.read_apply ..).trans (congrArg (a23 m c) (Adam.whole _ y rfl rfl))
theorem iblk23 : (iblk m hO c 23 t : FVec Ideal S1x1024 .f32) = a24 m c :=
  funext fun (y : S1x1024.Idx) => (View.read_apply ..).trans (congrArg (a24 m c) (Adam.whole _ y rfl rfl))
theorem iblk24 : (iblk m hO c 24 t : FVec Ideal S1x1024 .f32) = a25 m c :=
  funext fun (y : S1x1024.Idx) => (View.read_apply ..).trans (congrArg (a25 m c) (Adam.whole _ y rfl rfl))
theorem iblk25 : (iblk m hO c 25 t : FVec Ideal S1x1024 .f32) = a26 m c :=
  funext fun (y : S1x1024.Idx) => (View.read_apply ..).trans (congrArg (a26 m c) (Adam.whole _ y rfl rfl))
theorem iblk26 : (iblk m hO c 26 t : FVec Ideal S1x1024 .f32) = a27 m c :=
  funext fun (y : S1x1024.Idx) => (View.read_apply ..).trans (congrArg (a27 m c) (Adam.whole _ y rfl rfl))
theorem iblk27 : (iblk m hO c 27 t : FVec Ideal S1x1024 .f32) = a28 m c :=
  funext fun (y : S1x1024.Idx) => (View.read_apply ..).trans (congrArg (a28 m c) (Adam.whole _ y rfl rfl))
theorem iblk28 : (iblk m hO c 28 t : FVec Ideal S1x1024 .f32) = a29 m c :=
  funext fun (y : S1x1024.Idx) => (View.read_apply ..).trans (congrArg (a29 m c) (Adam.whole _ y rfl rfl))

/-- The word the body reads from the table of positions. -/
theorem word_eq : View.readAt (Elt Ideal) (View.whole main_arg0) (Rect.unit ![0] ![1] inb_S3_S1_0).toLoadRect (tbl m 0) (Shape.Idx.first (by decide)) = pos m c := by
  obtain rfl : c = 0 := Subsingleton.elim _ _
  show (m (((0 : Dev nD) : Thread nD τ).loc main_arg0) : S3.Idx → BitVec 32) _ = _
  congr 1
  funext a
  match a with
  | ⟨0, _⟩ => rfl

/-! ## The outputs -/

theorem out29 : o_29 m hO c t = g0 m c := by
  unfold o_29
  rw [show (run m hO c t).1.1 = [⟨_, _⟩] from rfl]
  frame_out
  simp only [Memref.IsWhole.read_unread, iblk0, word_eq m c]
  unfold g0
  rw [← shard_pay]

theorem out30 : o_30 m hO c t = Adam.delta (a3 m c) (g0 m c) (a4 m c) (a5 m c) := by
  unfold o_30
  rw [show (run m hO c t).1.2.1 = [⟨_, _⟩] from rfl]
  frame_out
  simp only [Memref.IsWhole.read_unread, iblk0, iblk2, iblk3, iblk4, word_eq m c]
  unfold g0
  rw [← shard_pay]
  rfl

theorem out31 : o_31 m hO c t = Adam.newM (a4 m c) (g0 m c) := by
  unfold o_31
  rw [show (run m hO c t).1.2.2.1 = [⟨_, _⟩] from rfl]
  frame_out
  simp only [Memref.IsWhole.read_unread, iblk0, iblk3, word_eq m c]
  unfold g0
  rw [← shard_pay]
  rfl

theorem out32 : o_32 m hO c t = Adam.newV (a5 m c) (g0 m c) := by
  unfold o_32
  rw [show (run m hO c t).1.2.2.2.1 = [⟨_, _⟩] from rfl]
  frame_out
  simp only [Memref.IsWhole.read_unread, iblk0, iblk4, word_eq m c]
  unfold g0
  rw [← shard_pay]
  rfl

theorem out33 : o_33 m hO c t = g1 m c := by
  unfold o_33
  rw [show (run m hO c t).1.2.2.2.2.1 = [⟨_, _⟩] from rfl]
  frame_out
  simp only [Memref.IsWhole.read_unread, iblk0]
  rfl

theorem out34 : o_34 m hO c t = Adam.delta (a6 m c) (g1 m c) (a7 m c) (a8 m c) := by
  unfold o_34
  rw [show (run m hO c t).1.2.2.2.2.2.1 = [⟨_, _⟩] from rfl]
  frame_out
  simp only [Memref.IsWhole.read_unread, iblk0, iblk5, iblk6, iblk7]
  rfl

theorem out35 : o_35 m hO c t = Adam.newM (a7 m c) (g1 m c) := by
  unfold o_35
  rw [show (run m hO c t).1.2.2.2.2.2.2.1 = [⟨_, _⟩] from rfl]
  frame_out
  simp only [Memref.IsWhole.read_unread, iblk0, iblk6]
  rfl

theorem out36 : o_36 m hO c t = Adam.newV (a8 m c) (g1 m c) := by
  unfold o_36
  rw [show (run m hO c t).1.2.2.2.2.2.2.2.1 = [⟨_, _⟩] from rfl]
  frame_out
  simp only [Memref.IsWhole.read_unread, iblk0, iblk7]
  rfl

theorem out37 : o_37 m hO c t = g2 m c := by
  unfold o_37
  rw [show (run m hO c t).1.2.2.2.2.2.2.2.2.1 = [⟨_, _⟩] from rfl]
  frame_out
  simp only [Memref.IsWhole.read_unread, iblk0]
  rfl

theorem out38 : o_38 m hO c t = Adam.delta (a9 m c) (g2 m c) (a10 m c) (a11 m c) := by
  unfold o_38
  rw [show (run m hO c t).1.2.2.2.2.2.2.2.2.2.1 = [⟨_, _⟩] from rfl]
  frame_out
  simp only [Memref.IsWhole.read_unread, iblk0, iblk8, iblk9, iblk10]
  rfl

theorem out39 : o_39 m hO c t = Adam.newM (a10 m c) (g2 m c) := by
  unfold o_39
  rw [show (run m hO c t).1.2.2.2.2.2.2.2.2.2.2.1 = [⟨_, _⟩] from rfl]
  frame_out
  simp only [Memref.IsWhole.read_unread, iblk0, iblk9]
  rfl

theorem out40 : o_40 m hO c t = Adam.newV (a11 m c) (g2 m c) := by
  unfold o_40
  rw [show (run m hO c t).1.2.2.2.2.2.2.2.2.2.2.2.1 = [⟨_, _⟩] from rfl]
  frame_out
  simp only [Memref.IsWhole.read_unread, iblk0, iblk10]
  rfl

theorem out41 : o_41 m hO c t = g3 m c := by
  unfold o_41
  rw [show (run m hO c t).1.2.2.2.2.2.2.2.2.2.2.2.2.1 = [⟨_, _⟩] from rfl]
  frame_out
  simp only [Memref.IsWhole.read_unread, iblk0]
  rfl

theorem out42 : o_42 m hO c t = Adam.delta (a12 m c) (g3 m c) (a13 m c) (a14 m c) := by
  unfold o_42
  rw [show (run m hO c t).1.2.2.2.2.2.2.2.2.2.2.2.2.2.1 = [⟨_, _⟩] from rfl]
  frame_out
  simp only [Memref.IsWhole.read_unread, iblk0, iblk11, iblk12, iblk13]
  rfl

theorem out43 : o_43 m hO c t = Adam.newM (a13 m c) (g3 m c) := by
  unfold o_43
  rw [show (run m hO c t).1.2.2.2.2.2.2.2.2.2.2.2.2.2.2.1 = [⟨_, _⟩] from rfl]
  frame_out
  simp only [Memref.IsWhole.read_unread, iblk0, iblk12]
  rfl

theorem out44 : o_44 m hO c t = Adam.newV (a14 m c) (g3 m c) := by
  unfold o_44
  rw [show (run m hO c t).1.2.2.2.2.2.2.2.2.2.2.2.2.2.2.2.1 = [⟨_, _⟩] from rfl]
  frame_out
  simp only [Memref.IsWhole.read_unread, iblk0, iblk13]
  rfl

theorem out45 : o_45 m hO c t = g4 m c := by
  unfold o_45
  rw [show (run m hO c t).1.2.2.2.2.2.2.2.2.2.2.2.2.2.2.2.2.1 = [⟨_, _⟩] from rfl]
  frame_out
  simp only [Memref.IsWhole.read_unread, iblk0]
  rfl

theorem out46 : o_46 m hO c t = Adam.delta (a15 m c) (g4 m c) (a16 m c) (a17 m c) := by
  unfold o_46
  rw [show (run m hO c t).1.2.2.2.2.2.2.2.2.2.2.2.2.2.2.2.2.2.1 = [⟨_, _⟩] from rfl]
  frame_out
  simp only [Memref.IsWhole.read_unread, iblk0, iblk14, iblk15, iblk16]
  rfl

theorem out47 : o_47 m hO c t = Adam.newM (a16 m c) (g4 m c) := by
  unfold o_47
  rw [show (run m hO c t).1.2.2.2.2.2.2.2.2.2.2.2.2.2.2.2.2.2.2.1 = [⟨_, _⟩] from rfl]
  frame_out
  simp only [Memref.IsWhole.read_unread, iblk0, iblk15]
  rfl

theorem out48 : o_48 m hO c t = Adam.newV (a17 m c) (g4 m c) := by
  unfold o_48
  rw [show (run m hO c t).1.2.2.2.2.2.2.2.2.2.2.2.2.2.2.2.2.2.2.2.1 = [⟨_, _⟩] from rfl]
  frame_out
  simp only [Memref.IsWhole.read_unread, iblk0, iblk16]
  rfl

theorem out49 : o_49 m hO c t = g5 m c := by
  unfold o_49
  rw [show (run m hO c t).1.2.2.2.2.2.2.2.2.2.2.2.2.2.2.2.2.2.2.2.2.1 = [⟨_, _⟩] from rfl]
  frame_out
  simp only [Memref.IsWhole.read_unread, iblk0]
  rfl

theorem out50 : o_50 m hO c t = Adam.delta (a18 m c) (g5 m c) (a19 m c) (a20 m c) := by
  unfold o_50
  rw [show (run m hO c t).1.2.2.2.2.2.2.2.2.2.2.2.2.2.2.2.2.2.2.2.2.2.1 = [⟨_, _⟩] from rfl]
  frame_out
  simp only [Memref.IsWhole.read_unread, iblk0, iblk17, iblk18, iblk19]
  rfl

theorem out51 : o_51 m hO c t = Adam.newM (a19 m c) (g5 m c) := by
  unfold o_51
  rw [show (run m hO c t).1.2.2.2.2.2.2.2.2.2.2.2.2.2.2.2.2.2.2.2.2.2.2.1 = [⟨_, _⟩] from rfl]
  frame_out
  simp only [Memref.IsWhole.read_unread, iblk0, iblk18]
  rfl

theorem out52 : o_52 m hO c t = Adam.newV (a20 m c) (g5 m c) := by
  unfold o_52
  rw [show (run m hO c t).1.2.2.2.2.2.2.2.2.2.2.2.2.2.2.2.2.2.2.2.2.2.2.2.1 = [⟨_, _⟩] from rfl]
  frame_out
  simp only [Memref.IsWhole.read_unread, iblk0, iblk19]
  rfl

theorem out53 : o_53 m hO c t = g6 m c := by
  unfold o_53
  rw [show (run m hO c t).1.2.2.2.2.2.2.2.2.2.2.2.2.2.2.2.2.2.2.2.2.2.2.2.2.1 = [⟨_, _⟩] from rfl]
  frame_out
  simp only [Memref.IsWhole.read_unread, iblk1]

theorem out54 : o_54 m hO c t = Adam.delta (a21 m c) (g6 m c) (a22 m c) (a23 m c) := by
  unfold o_54
  rw [show (run m hO c t).1.2.2.2.2.2.2.2.2.2.2.2.2.2.2.2.2.2.2.2.2.2.2.2.2.2.1 = [⟨_, _⟩] from rfl]
  frame_out
  simp only [Memref.IsWhole.read_unread, iblk1, iblk20, iblk21, iblk22]
  rfl

theorem out55 : o_55 m hO c t = Adam.newM (a22 m c) (g6 m c) := by
  unfold o_55
  rw [show (run m hO c t).1.2.2.2.2.2.2.2.2.2.2.2.2.2.2.2.2.2.2.2.2.2.2.2.2.2.2.1 = [⟨_, _⟩] from rfl]
  frame_out
  simp only [Memref.IsWhole.read_unread, iblk1, iblk21]
  rfl

theorem out56 : o_56 m hO c t = Adam.newV (a23 m c) (g6 m c) := by
  unfold o_56
  rw [show (run m hO c t).1.2.2.2.2.2.2.2.2.2.2.2.2.2.2.2.2.2.2.2.2.2.2.2.2.2.2.2.1 = [⟨_, _⟩] from rfl]
  frame_out
  simp only [Memref.IsWhole.read_unread, iblk1, iblk22]
  rfl

theorem out57 : o_57 m hO c t = g7 m c := by
  unfold o_57
  rw [show (run m hO c t).1.2.2.2.2.2.2.2.2.2.2.2.2.2.2.2.2.2.2.2.2.2.2.2.2.2.2.2.2.1 = [⟨_, _⟩] from rfl]
  frame_out
  simp only [Memref.IsWhole.read_unread, iblk0]
  rfl

theorem out58 : o_58 m hO c t = Adam.delta (a24 m c) (g7 m c) (a25 m c) (a26 m c) := by
  unfold o_58
  rw [show (run m hO c t).1.2.2.2.2.2.2.2.2.2.2.2.2.2.2.2.2.2.2.2.2.2.2.2.2.2.2.2.2.2.1 = [⟨_, _⟩] from rfl]
  frame_out
  simp only [Memref.IsWhole.read_unread, iblk0, iblk23, iblk24, iblk25]
  rfl

theorem out59 : o_59 m hO c t = Adam.newM (a25 m c) (g7 m c) := by
  unfold o_59
  rw [show (run m hO c t).1.2.2.2.2.2.2.2.2.2.2.2.2.2.2.2.2.2.2.2.2.2.2.2.2.2.2.2.2.2.2.1 = [⟨_, _⟩] from rfl]
  frame_out
  simp only [Memref.IsWhole.read_unread, iblk0, iblk24]
  rfl

theorem out60 : o_60 m hO c t = Adam.newV (a26 m c) (g7 m c) := by
  unfold o_60
  rw [show (run m hO c t).1.2.2.2.2.2.2.2.2.2.2.2.2.2.2.2.2.2.2.2.2.2.2.2.2.2.2.2.2.2.2.2.1 = [⟨_, _⟩] from rfl]
  frame_out
  simp only [Memref.IsWhole.read_unread, iblk0, iblk25]
  rfl

theorem out61 : o_61 m hO c t = g8 m c := by
  unfold o_61
  rw [show (run m hO c t).1.2.2.2.2.2.2.2.2.2.2.2.2.2.2.2.2.2.2.2.2.2.2.2.2.2.2.2.2.2.2.2.2.1 = [⟨_, _⟩] from rfl]
  frame_out
  simp only [Memref.IsWhole.read_unread, iblk0]
  rfl

theorem out62 : o_62 m hO c t = Adam.delta (a27 m c) (g8 m c) (a28 m c) (a29 m c) := by
  unfold o_62
  rw [show (run m hO c t).1.2.2.2.2.2.2.2.2.2.2.2.2.2.2.2.2.2.2.2.2.2.2.2.2.2.2.2.2.2.2.2.2.2.1 = [⟨_, _⟩] from rfl]
  frame_out
  simp only [Memref.IsWhole.read_unread, iblk0, iblk26, iblk27, iblk28]
  rfl

theorem out63 : o_63 m hO c t = Adam.newM (a28 m c) (g8 m c) := by
  unfold o_63
  rw [show (run m hO c t).1.2.2.2.2.2.2.2.2.2.2.2.2.2.2.2.2.2.2.2.2.2.2.2.2.2.2.2.2.2.2.2.2.2.2.1 = [⟨_, _⟩] from rfl]
  frame_out
  simp only [Memref.IsWhole.read_unread, iblk0, iblk27]
  rfl

theorem out64 : o_64 m hO c t = Adam.newV (a29 m c) (g8 m c) := by
  unfold o_64
  rw [show (run m hO c t).1.2.2.2.2.2.2.2.2.2.2.2.2.2.2.2.2.2.2.2.2.2.2.2.2.2.2.2.2.2.2.2.2.2.2.2 = [⟨_, _⟩] from rfl]
  frame_out
  simp only [Memref.IsWhole.read_unread, iblk0, iblk28]
  rfl

end Cert.AdamSmallIdeal.Point

end
-- ==== Proof.AdamSmallArray.lean ====
/- The arrays the optimiser's call for the small parameters ends with. -/
module

public import proofs.«01_k».proof.Proof.AdamSmallPoint
public import proofs.«01_k».proof.Proof.AdamSmallDats

@[expose] public section

set_option maxRecDepth 16384

noncomputable section

namespace Cert.AdamSmallIdeal.Array

open Cert.AdamSmallIdeal.Gen Cert.AdamSmallIdeal.Named Cert.AdamSmallIdeal.Point
open Idealize.ShloMosaic Idealize.ShloMosaic.TcCoe Idealize.ShloMosaic.Tactic

attribute [local irreducible] o_29 o_30 o_31 o_32 o_33 o_34 o_35 o_36 o_37 o_38 o_39 o_40 o_41 o_42 o_43 o_44 o_45 o_46 o_47 o_48 o_49 o_50 o_51 o_52 o_53 o_54 o_55 o_56 o_57 o_58 o_59 o_60 o_61 o_62 o_63 o_64

variable (m : (ℓ : Loc nD τ sig) → Buf (Elt Ideal) ℓ) (hO : Ok m) (c : Dev nD)

/-- No block is cut short. -/
theorem cut_eq (t : Fin (cfgM m hO).N) (w : Fin 65) (X : ((cfgM m hO).win w).block.Idx → Elt Ideal ((cfgM m hO).win w).elt) :
    ((cfgM m hO).win w).cut (grid0.coords t) X = X := rfl

/-- The grid's one point. -/
def p0 : Fin (cfgM m hO).N := ⟨0, Nat.zero_lt_one⟩

/-- What an embedding takes some index to lies in its image. -/
theorem hit {I J : Type} [Fintype I] {e : I ↪ J} {i : I} {j : J} (h : e i = j) : j ∈ Finset.univ.map e :=
  Finset.mem_map.2 ⟨i, Finset.mem_univ _, h⟩

theorem final29 : (dats m hO 0 c).arrAt 29 (cfgM m hO).N = g0 m c :=
  (dats m hO 0 c).arrAt_eq_of_cover 29 _ (fun t _ => (cut_eq m hO t 29 _).trans (Eq.trans (out29 m hO c t) (Eq.symm (funext fun (j : S31x256.Idx) => by
      exact (View.read_apply ..).trans (congrArg (g0 m c) (Adam.whole _ j rfl rfl))))))
    (fun (i : S31x256.Idx) => ⟨p0 m hO, rfl, hit (Adam.whole _ i rfl rfl)⟩)

theorem final30 : (dats m hO 0 c).arrAt 30 (cfgM m hO).N = Adam.delta (a3 m c) (g0 m c) (a4 m c) (a5 m c) :=
  (dats m hO 0 c).arrAt_eq_of_cover 30 _ (fun t _ => (cut_eq m hO t 30 _).trans (Eq.trans (out30 m hO c t) (Eq.symm (funext fun (j : S31x256.Idx) => by
      exact (View.read_apply ..).trans (congrArg (Adam.delta (a3 m c) (g0 m c) (a4 m c) (a5 m c)) (Adam.whole _ j rfl rfl))))))
    (fun (i : S31x256.Idx) => ⟨p0 m hO, rfl, hit (Adam.whole _ i rfl rfl)⟩)

theorem final31 : (dats m hO 0 c).arrAt 31 (cfgM m hO).N = Adam.newM (a4 m c) (g0 m c) :=
  (dats m hO 0 c).arrAt_eq_of_cover 31 _ (fun t _ => (cut_eq m hO t 31 _).trans (Eq.trans (out31 m hO c t) (Eq.symm (funext fun (j : S31x256.Idx) => by
      exact (View.read_apply ..).trans (congrArg (Adam.newM (a4 m c) (g0 m c)) (Adam.whole _ j rfl rfl))))))
    (fun (i : S31x256.Idx) => ⟨p0 m hO, rfl, hit (Adam.whole _ i rfl rfl)⟩)

theorem final32 : (dats m hO 0 c).arrAt 32 (cfgM m hO).N = Adam.newV (a5 m c) (g0 m c) :=
  (dats m hO 0 c).arrAt_eq_of_cover 32 _ (fun t _ => (cut_eq m hO t 32 _).trans (Eq.trans (out32 m hO c t) (Eq.symm (funext fun (j : S31x256.Idx) => by
      exact (View.read_apply ..).trans (congrArg (Adam.newV (a5 m c) (g0 m c)) (Adam.whole _ j rfl rfl))))))
    (fun (i : S31x256.Idx) => ⟨p0 m hO, rfl, hit (Adam.whole _ i rfl rfl)⟩)

theorem final33 : (dats m hO 0 c).arrAt 33 (cfgM m hO).N = g1 m c :=
  (dats m hO 0 c).arrAt_eq_of_cover 33 _ (fun t _ => (cut_eq m hO t 33 _).trans (Eq.trans (out33 m hO c t) (Eq.symm (funext fun (j : S1x1024.Idx) => by
      exact (View.read_apply ..).trans (congrArg (g1 m c) (Adam.whole _ j rfl rfl))))))
    (fun (i : S1x1024.Idx) => ⟨p0 m hO, rfl, hit (Adam.whole _ i rfl rfl)⟩)

theorem final34 : (dats m hO 0 c).arrAt 34 (cfgM m hO).N = Adam.delta (a6 m c) (g1 m c) (a7 m c) (a8 m c) :=
  (dats m hO 0 c).arrAt_eq_of_cover 34 _ (fun t _ => (cut_eq m hO t 34 _).trans (Eq.trans (out34 m hO c t) (Eq.symm (funext fun (j : S1x1024.Idx) => by
      exact (View.read_apply ..).trans (congrArg (Adam.delta (a6 m c) (g1 m c) (a7 m c) (a8 m c)) (Adam.whole _ j rfl rfl))))))
    (fun (i : S1x1024.Idx) => ⟨p0 m hO, rfl, hit (Adam.whole _ i rfl rfl)⟩)

theorem final35 : (dats m hO 0 c).arrAt 35 (cfgM m hO).N = Adam.newM (a7 m c) (g1 m c) :=
  (dats m hO 0 c).arrAt_eq_of_cover 35 _ (fun t _ => (cut_eq m hO t 35 _).trans (Eq.trans (out35 m hO c t) (Eq.symm (funext fun (j : S1x1024.Idx) => by
      exact (View.read_apply ..).trans (congrArg (Adam.newM (a7 m c) (g1 m c)) (Adam.whole _ j rfl rfl))))))
    (fun (i : S1x1024.Idx) => ⟨p0 m hO, rfl, hit (Adam.whole _ i rfl rfl)⟩)

theorem final36 : (dats m hO 0 c).arrAt 36 (cfgM m hO).N = Adam.newV (a8 m c) (g1 m c) :=
  (dats m hO 0 c).arrAt_eq_of_cover 36 _ (fun t _ => (cut_eq m hO t 36 _).trans (Eq.trans (out36 m hO c t) (Eq.symm (funext fun (j : S1x1024.Idx) => by
      exact (View.read_apply ..).trans (congrArg (Adam.newV (a8 m c) (g1 m c)) (Adam.whole _ j rfl rfl))))))
    (fun (i : S1x1024.Idx) => ⟨p0 m hO, rfl, hit (Adam.whole _ i rfl rfl)⟩)

theorem final37 : (dats m hO 0 c).arrAt 37 (cfgM m hO).N = g2 m c :=
  (dats m hO 0 c).arrAt_eq_of_cover 37 _ (fun t _ => (cut_eq m hO t 37 _).trans (Eq.trans (out37 m hO c t) (Eq.symm (funext fun (j : S1x1024.Idx) => by
      exact (View.read_apply ..).trans (congrArg (g2 m c) (Adam.whole _ j rfl rfl))))))
    (fun (i : S1x1024.Idx) => ⟨p0 m hO, rfl, hit (Adam.whole _ i rfl rfl)⟩)

theorem final38 : (dats m hO 0 c).arrAt 38 (cfgM m hO).N = Adam.delta (a9 m c) (g2 m c) (a10 m c) (a11 m c) :=
  (dats m hO 0 c).arrAt_eq_of_cover 38 _ (fun t _ => (cut_eq m hO t 38 _).trans (Eq.trans (out38 m hO c t) (Eq.symm (funext fun (j : S1x1024.Idx) => by
      exact (View.read_apply ..).trans (congrArg (Adam.delta (a9 m c) (g2 m c) (a10 m c) (a11 m c)) (Adam.whole _ j rfl rfl))))))
    (fun (i : S1x1024.Idx) => ⟨p0 m hO, rfl, hit (Adam.whole _ i rfl rfl)⟩)

theorem final39 : (dats m hO 0 c).arrAt 39 (cfgM m hO).N = Adam.newM (a10 m c) (g2 m c) :=
  (dats m hO 0 c).arrAt_eq_of_cover 39 _ (fun t _ => (cut_eq m hO t 39 _).trans (Eq.trans (out39 m hO c t) (Eq.symm (funext fun (j : S1x1024.Idx) => by
      exact (View.read_apply ..).trans (congrArg (Adam.newM (a10 m c) (g2 m c)) (Adam.whole _ j rfl rfl))))))
    (fun (i : S1x1024.Idx) => ⟨p0 m hO, rfl, hit (Adam.whole _ i rfl rfl)⟩)

theorem final40 : (dats m hO 0 c).arrAt 40 (cfgM m hO).N = Adam.newV (a11 m c) (g2 m c) :=
  (dats m hO 0 c).arrAt_eq_of_cover 40 _ (fun t _ => (cut_eq m hO t 40 _).trans (Eq.trans (out40 m hO c t) (Eq.symm (funext fun (j : S1x1024.Idx) => by
      exact (View.read_apply ..).trans (congrArg (Adam.newV (a11 m c) (g2 m c)) (Adam.whole _ j rfl rfl))))))
    (fun (i : S1x1024.Idx) => ⟨p0 m hO, rfl, hit (Adam.whole _ i rfl rfl)⟩)

theorem final41 : (dats m hO 0 c).arrAt 41 (cfgM m hO).N = g3 m c :=
  (dats m hO 0 c).arrAt_eq_of_cover 41 _ (fun t _ => (cut_eq m hO t 41 _).trans (Eq.trans (out41 m hO c t) (Eq.symm (funext fun (j : S1x1024.Idx) => by
      exact (View.read_apply ..).trans (congrArg (g3 m c) (Adam.whole _ j rfl rfl))))))
    (fun (i : S1x1024.Idx) => ⟨p0 m hO, rfl, hit (Adam.whole _ i rfl rfl)⟩)

theorem final42 : (dats m hO 0 c).arrAt 42 (cfgM m hO).N = Adam.delta (a12 m c) (g3 m c) (a13 m c) (a14 m c) :=
  (dats m hO 0 c).arrAt_eq_of_cover 42 _ (fun t _ => (cut_eq m hO t 42 _).trans (Eq.trans (out42 m hO c t) (Eq.symm (funext fun (j : S1x1024.Idx) => by
      exact (View.read_apply ..).trans (congrArg (Adam.delta (a12 m c) (g3 m c) (a13 m c) (a14 m c)) (Adam.whole _ j rfl rfl))))))
    (fun (i : S1x1024.Idx) => ⟨p0 m hO, rfl, hit (Adam.whole _ i rfl rfl)⟩)

theorem final43 : (dats m hO 0 c).arrAt 43 (cfgM m hO).N = Adam.newM (a13 m c) (g3 m c) :=
  (dats m hO 0 c).arrAt_eq_of_cover 43 _ (fun t _ => (cut_eq m hO t 43 _).trans (Eq.trans (out43 m hO c t) (Eq.symm (funext fun (j : S1x1024.Idx) => by
      exact (View.read_apply ..).trans (congrArg (Adam.newM (a13 m c) (g3 m c)) (Adam.whole _ j rfl rfl))))))
    (fun (i : S1x1024.Idx) => ⟨p0 m hO, rfl, hit (Adam.whole _ i rfl rfl)⟩)

theorem final44 : (dats m hO 0 c).arrAt 44 (cfgM m hO).N = Adam.newV (a14 m c) (g3 m c) :=
  (dats m hO 0 c).arrAt_eq_of_cover 44 _ (fun t _ => (cut_eq m hO t 44 _).trans (Eq.trans (out44 m hO c t) (Eq.symm (funext fun (j : S1x1024.Idx) => by
      exact (View.read_apply ..).trans (congrArg (Adam.newV (a14 m c) (g3 m c)) (Adam.whole _ j rfl rfl))))))
    (fun (i : S1x1024.Idx) => ⟨p0 m hO, rfl, hit (Adam.whole _ i rfl rfl)⟩)

theorem final45 : (dats m hO 0 c).arrAt 45 (cfgM m hO).N = g4 m c :=
  (dats m hO 0 c).arrAt_eq_of_cover 45 _ (fun t _ => (cut_eq m hO t 45 _).trans (Eq.trans (out45 m hO c t) (Eq.symm (funext fun (j : S1x1024.Idx) => by
      exact (View.read_apply ..).trans (congrArg (g4 m c) (Adam.whole _ j rfl rfl))))))
    (fun (i : S1x1024.Idx) => ⟨p0 m hO, rfl, hit (Adam.whole _ i rfl rfl)⟩)

theorem final46 : (dats m hO 0 c).arrAt 46 (cfgM m hO).N = Adam.delta (a15 m c) (g4 m c) (a16 m c) (a17 m c) :=
  (dats m hO 0 c).arrAt_eq_of_cover 46 _ (fun t _ => (cut_eq m hO t 46 _).trans (Eq.trans (out46 m hO c t) (Eq.symm (funext fun (j : S1x1024.Idx) => by
      exact (View.read_apply ..).trans (congrArg (Adam.delta (a15 m c) (g4 m c) (a16 m c) (a17 m c)) (Adam.whole _ j rfl rfl))))))
    (fun (i : S1x1024.Idx) => ⟨p0 m hO, rfl, hit (Adam.whole _ i rfl rfl)⟩)

theorem final47 : (dats m hO 0 c).arrAt 47 (cfgM m hO).N = Adam.newM (a16 m c) (g4 m c) :=
  (dats m hO 0 c).arrAt_eq_of_cover 47 _ (fun t _ => (cut_eq m hO t 47 _).trans (Eq.trans (out47 m hO c t) (Eq.symm (funext fun (j : S1x1024.Idx) => by
      exact (View.read_apply ..).trans (congrArg (Adam.newM (a16 m c) (g4 m c)) (Adam.whole _ j rfl rfl))))))
    (fun (i : S1x1024.Idx) => ⟨p0 m hO, rfl, hit (Adam.whole _ i rfl rfl)⟩)

theorem final48 : (dats m hO 0 c).arrAt 48 (cfgM m hO).N = Adam.newV (a17 m c) (g4 m c) :=
  (dats m hO 0 c).arrAt_eq_of_cover 48 _ (fun t _ => (cut_eq m hO t 48 _).trans (Eq.trans (out48 m hO c t) (Eq.symm (funext fun (j : S1x1024.Idx) => by
      exact (View.read_apply ..).trans (congrArg (Adam.newV (a17 m c) (g4 m c)) (Adam.whole _ j rfl rfl))))))
    (fun (i : S1x1024.Idx) => ⟨p0 m hO, rfl, hit (Adam.whole _ i rfl rfl)⟩)

theorem final49 : (dats m hO 0 c).arrAt 49 (cfgM m hO).N = g5 m c :=
  (dats m hO 0 c).arrAt_eq_of_cover 49 _ (fun t _ => (cut_eq m hO t 49 _).trans (Eq.trans (out49 m hO c t) (Eq.symm (funext fun (j : S1x1024.Idx) => by
      exact (View.read_apply ..).trans (congrArg (g5 m c) (Adam.whole _ j rfl rfl))))))
    (fun (i : S1x1024.Idx) => ⟨p0 m hO, rfl, hit (Adam.whole _ i rfl rfl)⟩)

theorem final50 : (dats m hO 0 c).arrAt 50 (cfgM m hO).N = Adam.delta (a18 m c) (g5 m c) (a19 m c) (a20 m c) :=
  (dats m hO 0 c).arrAt_eq_of_cover 50 _ (fun t _ => (cut_eq m hO t 50 _).trans (Eq.trans (out50 m hO c t) (Eq.symm (funext fun (j : S1x1024.Idx) => by
      exact (View.read_apply ..).trans (congrArg (Adam.delta (a18 m c) (g5 m c) (a19 m c) (a20 m c)) (Adam.whole _ j rfl rfl))))))
    (fun (i : S1x1024.Idx) => ⟨p0 m hO, rfl, hit (Adam.whole _ i rfl rfl)⟩)

theorem final51 : (dats m hO 0 c).arrAt 51 (cfgM m hO).N = Adam.newM (a19 m c) (g5 m c) :=
  (dats m hO 0 c).arrAt_eq_of_cover 51 _ (fun t _ => (cut_eq m hO t 51 _).trans (Eq.trans (out51 m hO c t) (Eq.symm (funext fun (j : S1x1024.Idx) => by
      exact (View.read_apply ..).trans (congrArg (Adam.newM (a19 m c) (g5 m c)) (Adam.whole _ j rfl rfl))))))
    (fun (i : S1x1024.Idx) => ⟨p0 m hO, rfl, hit (Adam.whole _ i rfl rfl)⟩)

theorem final52 : (dats m hO 0 c).arrAt 52 (cfgM m hO).N = Adam.newV (a20 m c) (g5 m c) :=
  (dats m hO 0 c).arrAt_eq_of_cover 52 _ (fun t _ => (cut_eq m hO t 52 _).trans (Eq.trans (out52 m hO c t) (Eq.symm (funext fun (j : S1x1024.Idx) => by
      exact (View.read_apply ..).trans (congrArg (Adam.newV (a20 m c) (g5 m c)) (Adam.whole _ j rfl rfl))))))
    (fun (i : S1x1024.Idx) => ⟨p0 m hO, rfl, hit (Adam.whole _ i rfl rfl)⟩)

theorem final53 : (dats m hO 0 c).arrAt 53 (cfgM m hO).N = g6 m c :=
  (dats m hO 0 c).arrAt_eq_of_cover 53 _ (fun t _ => (cut_eq m hO t 53 _).trans (Eq.trans (out53 m hO c t) (Eq.symm (funext fun (j : S1024x128.Idx) => by
      exact (View.read_apply ..).trans (congrArg (g6 m c) (Adam.whole _ j rfl rfl))))))
    (fun (i : S1024x128.Idx) => ⟨p0 m hO, rfl, hit (Adam.whole _ i rfl rfl)⟩)

theorem final54 : (dats m hO 0 c).arrAt 54 (cfgM m hO).N = Adam.delta (a21 m c) (g6 m c) (a22 m c) (a23 m c) :=
  (dats m hO 0 c).arrAt_eq_of_cover 54 _ (fun t _ => (cut_eq m hO t 54 _).trans (Eq.trans (out54 m hO c t) (Eq.symm (funext fun (j : S1024x128.Idx) => by
      exact (View.read_apply ..).trans (congrArg (Adam.delta (a21 m c) (g6 m c) (a22 m c) (a23 m c)) (Adam.whole _ j rfl rfl))))))
    (fun (i : S1024x128.Idx) => ⟨p0 m hO, rfl, hit (Adam.whole _ i rfl rfl)⟩)

theorem final55 : (dats m hO 0 c).arrAt 55 (cfgM m hO).N = Adam.newM (a22 m c) (g6 m c) :=
  (dats m hO 0 c).arrAt_eq_of_cover 55 _ (fun t _ => (cut_eq m hO t 55 _).trans (Eq.trans (out55 m hO c t) (Eq.symm (funext fun (j : S1024x128.Idx) => by
      exact (View.read_apply ..).trans (congrArg (Adam.newM (a22 m c) (g6 m c)) (Adam.whole _ j rfl rfl))))))
    (fun (i : S1024x128.Idx) => ⟨p0 m hO, rfl, hit (Adam.whole _ i rfl rfl)⟩)

theorem final56 : (dats m hO 0 c).arrAt 56 (cfgM m hO).N = Adam.newV (a23 m c) (g6 m c) :=
  (dats m hO 0 c).arrAt_eq_of_cover 56 _ (fun t _ => (cut_eq m hO t 56 _).trans (Eq.trans (out56 m hO c t) (Eq.symm (funext fun (j : S1024x128.Idx) => by
      exact (View.read_apply ..).trans (congrArg (Adam.newV (a23 m c) (g6 m c)) (Adam.whole _ j rfl rfl))))))
    (fun (i : S1024x128.Idx) => ⟨p0 m hO, rfl, hit (Adam.whole _ i rfl rfl)⟩)

theorem final57 : (dats m hO 0 c).arrAt 57 (cfgM m hO).N = g7 m c :=
  (dats m hO 0 c).arrAt_eq_of_cover 57 _ (fun t _ => (cut_eq m hO t 57 _).trans (Eq.trans (out57 m hO c t) (Eq.symm (funext fun (j : S1x1024.Idx) => by
      exact (View.read_apply ..).trans (congrArg (g7 m c) (Adam.whole _ j rfl rfl))))))
    (fun (i : S1x1024.Idx) => ⟨p0 m hO, rfl, hit (Adam.whole _ i rfl rfl)⟩)

theorem final58 : (dats m hO 0 c).arrAt 58 (cfgM m hO).N = Adam.delta (a24 m c) (g7 m c) (a25 m c) (a26 m c) :=
  (dats m hO 0 c).arrAt_eq_of_cover 58 _ (fun t _ => (cut_eq m hO t 58 _).trans (Eq.trans (out58 m hO c t) (Eq.symm (funext fun (j : S1x1024.Idx) => by
      exact (View.read_apply ..).trans (congrArg (Adam.delta (a24 m c) (g7 m c) (a25 m c) (a26 m c)) (Adam.whole _ j rfl rfl))))))
    (fun (i : S1x1024.Idx) => ⟨p0 m hO, rfl, hit (Adam.whole _ i rfl rfl)⟩)

theorem final59 : (dats m hO 0 c).arrAt 59 (cfgM m hO).N = Adam.newM (a25 m c) (g7 m c) :=
  (dats m hO 0 c).arrAt_eq_of_cover 59 _ (fun t _ => (cut_eq m hO t 59 _).trans (Eq.trans (out59 m hO c t) (Eq.symm (funext fun (j : S1x1024.Idx) => by
      exact (View.read_apply ..).trans (congrArg (Adam.newM (a25 m c) (g7 m c)) (Adam.whole _ j rfl rfl))))))
    (fun (i : S1x1024.Idx) => ⟨p0 m hO, rfl, hit (Adam.whole _ i rfl rfl)⟩)

theorem final60 : (dats m hO 0 c).arrAt 60 (cfgM m hO).N = Adam.newV (a26 m c) (g7 m c) :=
  (dats m hO 0 c).arrAt_eq_of_cover 60 _ (fun t _ => (cut_eq m hO t 60 _).trans (Eq.trans (out60 m hO c t) (Eq.symm (funext fun (j : S1x1024.Idx) => by
      exact (View.read_apply ..).trans (congrArg (Adam.newV (a26 m c) (g7 m c)) (Adam.whole _ j rfl rfl))))))
    (fun (i : S1x1024.Idx) => ⟨p0 m hO, rfl, hit (Adam.whole _ i rfl rfl)⟩)

theorem final61 : (dats m hO 0 c).arrAt 61 (cfgM m hO).N = g8 m c :=
  (dats m hO 0 c).arrAt_eq_of_cover 61 _ (fun t _ => (cut_eq m hO t 61 _).trans (Eq.trans (out61 m hO c t) (Eq.symm (funext fun (j : S1x1024.Idx) => by
      exact (View.read_apply ..).trans (congrArg (g8 m c) (Adam.whole _ j rfl rfl))))))
    (fun (i : S1x1024.Idx) => ⟨p0 m hO, rfl, hit (Adam.whole _ i rfl rfl)⟩)

theorem final62 : (dats m hO 0 c).arrAt 62 (cfgM m hO).N = Adam.delta (a27 m c) (g8 m c) (a28 m c) (a29 m c) :=
  (dats m hO 0 c).arrAt_eq_of_cover 62 _ (fun t _ => (cut_eq m hO t 62 _).trans (Eq.trans (out62 m hO c t) (Eq.symm (funext fun (j : S1x1024.Idx) => by
      exact (View.read_apply ..).trans (congrArg (Adam.delta (a27 m c) (g8 m c) (a28 m c) (a29 m c)) (Adam.whole _ j rfl rfl))))))
    (fun (i : S1x1024.Idx) => ⟨p0 m hO, rfl, hit (Adam.whole _ i rfl rfl)⟩)

theorem final63 : (dats m hO 0 c).arrAt 63 (cfgM m hO).N = Adam.newM (a28 m c) (g8 m c) :=
  (dats m hO 0 c).arrAt_eq_of_cover 63 _ (fun t _ => (cut_eq m hO t 63 _).trans (Eq.trans (out63 m hO c t) (Eq.symm (funext fun (j : S1x1024.Idx) => by
      exact (View.read_apply ..).trans (congrArg (Adam.newM (a28 m c) (g8 m c)) (Adam.whole _ j rfl rfl))))))
    (fun (i : S1x1024.Idx) => ⟨p0 m hO, rfl, hit (Adam.whole _ i rfl rfl)⟩)

theorem final64 : (dats m hO 0 c).arrAt 64 (cfgM m hO).N = Adam.newV (a29 m c) (g8 m c) :=
  (dats m hO 0 c).arrAt_eq_of_cover 64 _ (fun t _ => (cut_eq m hO t 64 _).trans (Eq.trans (out64 m hO c t) (Eq.symm (funext fun (j : S1x1024.Idx) => by
      exact (View.read_apply ..).trans (congrArg (Adam.newV (a29 m c) (g8 m c)) (Adam.whole _ j rfl rfl))))))
    (fun (i : S1x1024.Idx) => ⟨p0 m hO, rfl, hit (Adam.whole _ i rfl rfl)⟩)

end Cert.AdamSmallIdeal.Array

end
-- ==== Proof.AdamSmallRef.lean ====
/- The gradients of the small parameters as the reference takes them out of the packed array. -/
module

public import proofs.«01_k».proof.Proof.AdamSmallPoint
public import proofs.«01_k».proof.Proof.Gen.AdamSmallRefIdeal.Run

@[expose] public section

set_option maxRecDepth 16384

noncomputable section

namespace Cert.AdamSmallRefIdeal.Grads

open Cert.AdamSmallRefIdeal Cert.AdamSmallRefIdeal.Gen
open Idealize.ShloMosaic Idealize.ShloMosaic.TcCoe Idealize.ShloMosaic.Tactic
open Cert.AdamSmallIdeal.Point (row shard)

/-- The reference's gradient of the convolution. -/
def val (d : S3.Idx → BitVec 32) (p : FVec Ideal S40x1024 .f32) : FVec Ideal S31x256 .f32 :=
  Host.reduceAdd (select (cmpi .eq (iotaInDim S31x4x256 32 1) (broadcastInDim S31x4x256 ![] bcast_S_S31x4x256 (shapeCast _ (extractStridedSlice S1 ![0] d slices_S3_S1_0) shapeCasts_S1_S_))) (shapeCast _ (extractStridedSlice S31x1024 ![8, 0] p slices_S40x1024_S31x1024_8_0) shapeCasts_S31x1024_S31x4x256) (broadcastInDim S31x4x256 ![] bcast_S_S31x4x256 (id (constant S_ .f32 0x00000000#32)))) (constant S_ .f32 0x00000000#32) reducesTo_S31x4x256_S31x256_d1 h_S_

theorem val_eq (d : S3.Idx → BitVec 32) (p : FVec Ideal S40x1024 .f32) : val d p = shard (d (ix1 0)) p := by
  funext y
  obtain ⟨i, j, rfl⟩ : ∃ i j, y = (ix2 i j : S31x256.Idx) := ⟨y 0, y 1, eq_ix2 y⟩
  unfold val shard
  pointwise
  refine Finset.sum_congr rfl fun k _ => ?_
  refine (Cert.Adam.select_eq _ _ _ _).trans (if_congr eq_comm ?_ Ideal.ofBits_zero_f32)
  refine congrArg p (congrArg (ix2 _) (Fin.ext ?_))
  show k.val * 256 + j.val = 256 * k.val + j.val
  omega

/-- A row the reference cuts out is the row the kernel reads. -/
theorem row_eq {k : ℕ} (h hs) (p : FVec Ideal S40x1024 .f32) : extractStridedSlice S1x1024 ![k, 0] p hs = row (k := k) h p :=
  funext fun y => congrArg p (funext fun a => match a with
    | ⟨0, _⟩ => Fin.ext (by show k + (y 0).val = k + 1 * (y 0).val; omega)
    | ⟨1, _⟩ => Fin.ext (by show 0 + (y 1).val = 0 + 1 * (y 1).val; omega))

end Cert.AdamSmallRefIdeal.Grads

end
-- ==== Proof.AdamSmallEq.lean ====
/- The optimiser's call for the small parameters computes its reference. -/
module

public import proofs.«01_k».proof.Proof.AdamSmallArray
public import proofs.«01_k».proof.Defs
public import proofs.«01_k».proof.Proof.AdamSmallFrame
public import proofs.«01_k».proof.Proof.AdamSmallRef

@[expose] public section

set_option maxRecDepth 16384

noncomputable section

namespace Cert.AdamSmallEq

open Cert.AdamSmallIdeal Cert.AdamSmallIdeal.Gen Cert.AdamSmallIdeal.Named Cert.AdamSmallIdeal.Point Cert.AdamSmallIdeal.Array
open Idealize.ShloMosaic Idealize.ShloMosaic.TcCoe Idealize.ShloMosaic.Tactic
open Cert.AdamSmallRefIdeal.Grads (val val_eq row_eq)

variable {S : Shape} {w w' g g' x x' v v' : FVec Ideal S .f32}

theorem delta_congr (hw : w = w') (hg : g = g') (hx : x = x') (hv : v = v') : Adam.delta w g x v = Adam.delta w' g' x' v' := by
  rw [hw, hg, hx, hv]
theorem newM_congr (hx : x = x') (hg : g = g') : Adam.newM x g = Adam.newM x' g' := by rw [hx, hg]
theorem newV_congr (hv : v = v') (hg : g = g') : Adam.newV v g = Adam.newV v' g' := by rw [hv, hg]

set_option maxHeartbeats 4000000 in
/-- The value claim: the nine gradients, steps, first and second moments are the reference's at every input. -/
theorem claim : Cert.algebraic_AdamSmallIdeal_AdamSmallRefIdeal := by
  intro m ρ m' ρ' _ hargs
  have hO : Ok m := trivial
  refine ⟨fun c => g0 m c,
    fun c => g1 m c,
    fun c => g2 m c,
    fun c => g3 m c,
    fun c => g4 m c,
    fun c => g5 m c,
    fun c => g6 m c,
    fun c => g7 m c,
    fun c => g8 m c,
    fun c => Adam.delta (a3 m c) (g0 m c) (a4 m c) (a5 m c),
    fun c => Adam.delta (a6 m c) (g1 m c) (a7 m c) (a8 m c),
    fun c => Adam.delta (a9 m c) (g2 m c) (a10 m c) (a11 m c),
    fun c => Adam.delta (a12 m c) (g3 m c) (a13 m c) (a14 m c),
    fun c => Adam.delta (a15 m c) (g4 m c) (a16 m c) (a17 m c),
    fun c => Adam.delta (a18 m c) (g5 m c) (a19 m c) (a20 m c),
    fun c => Adam.delta (a21 m c) (g6 m c) (a22 m c) (a23 m c),
    fun c => Adam.delta (a24 m c) (g7 m c) (a25 m c) (a26 m c),
    fun c => Adam.delta (a27 m c) (g8 m c) (a28 m c) (a29 m c),
    fun c => Adam.newM (a4 m c) (g0 m c),
    fun c => Adam.newM (a7 m c) (g1 m c),
    fun c => Adam.newM (a10 m c) (g2 m c),
    fun c => Adam.newM (a13 m c) (g3 m c),
    fun c => Adam.newM (a16 m c) (g4 m c),
    fun c => Adam.newM (a19 m c) (g5 m c),
    fun c => Adam.newM (a22 m c) (g6 m c),
    fun c => Adam.newM (a25 m c) (g7 m c),
    fun c => Adam.newM (a28 m c) (g8 m c),
    fun c => Adam.newV (a5 m c) (g0 m c),
    fun c => Adam.newV (a8 m c) (g1 m c),
    fun c => Adam.newV (a11 m c) (g2 m c),
    fun c => Adam.newV (a14 m c) (g3 m c),
    fun c => Adam.newV (a17 m c) (g4 m c),
    fun c => Adam.newV (a20 m c) (g5 m c),
    fun c => Adam.newV (a23 m c) (g6 m c),
    fun c => Adam.newV (a26 m c) (g7 m c),
    fun c => Adam.newV (a29 m c) (g8 m c),
    (θ_run defs _ _).mono (fun r h c => ⟨((h.2 c).1 29).trans (final29 m hO c),
      ((h.2 c).1 33).trans (final33 m hO c),
      ((h.2 c).1 37).trans (final37 m hO c),
      ((h.2 c).1 41).trans (final41 m hO c),
      ((h.2 c).1 45).trans (final45 m hO c),
      ((h.2 c).1 49).trans (final49 m hO c),
      ((h.2 c).1 53).trans (final53 m hO c),
      ((h.2 c).1 57).trans (final57 m hO c),
      ((h.2 c).1 61).trans (final61 m hO c),
      ((h.2 c).1 30).trans (final30 m hO c),
      ((h.2 c).1 34).trans (final34 m hO c),
      ((h.2 c).1 38).trans (final38 m hO c),
      ((h.2 c).1 42).trans (final42 m hO c),
      ((h.2 c).1 46).trans (final46 m hO c),
      ((h.2 c).1 50).trans (final50 m hO c),
      ((h.2 c).1 54).trans (final54 m hO c),
      ((h.2 c).1 58).trans (final58 m hO c),
      ((h.2 c).1 62).trans (final62 m hO c),
      ((h.2 c).1 31).trans (final31 m hO c),
      ((h.2 c).1 35).trans (final35 m hO c),
      ((h.2 c).1 39).trans (final39 m hO c),
      ((h.2 c).1 43).trans (final43 m hO c),
      ((h.2 c).1 47).trans (final47 m hO c),
      ((h.2 c).1 51).trans (final51 m hO c),
      ((h.2 c).1 55).trans (final55 m hO c),
      ((h.2 c).1 59).trans (final59 m hO c),
      ((h.2 c).1 63).trans (final63 m hO c),
      ((h.2 c).1 32).trans (final32 m hO c),
      ((h.2 c).1 36).trans (final36 m hO c),
      ((h.2 c).1 40).trans (final40 m hO c),
      ((h.2 c).1 44).trans (final44 m hO c),
      ((h.2 c).1 48).trans (final48 m hO c),
      ((h.2 c).1 52).trans (final52 m hO c),
      ((h.2 c).1 56).trans (final56 m hO c),
      ((h.2 c).1 60).trans (final60 m hO c),
      ((h.2 c).1 64).trans (final64 m hO c),
      h.1 c⟩) (θ_run_and (frame_of m ρ hO (dats m hO) (A_eq m hO) (run_main m ρ hO)) (run_main m ρ hO)), ?_⟩
  refine (θ_run Cert.AdamSmallRefIdeal.defs _ _).mono (fun r h c => ?_) (Cert.AdamSmallRefIdeal.Value.run m' ρ')
  obtain ⟨h0, h1, h2, h3, h4, h5, h6, h7, h8, h9, h10, h11, h12, h13, h14, h15, h16, h17, h18, h19, h20, h21, h22, h23, h24, h25, h26, h27, h28, h29, h30, h31, h32, h33, h34, h35, hk⟩ := h c
  obtain ⟨e0, e1, e2, e3, e4, e5, e6, e7, e8, e9, e10, e11, e12, e13, e14, e15, e16, e17, e18, e19, e20, e21, e22, e23, e24, e25, e26, e27, e28, e29⟩ := hargs c
  have k0 : val (m' ((c.tc : Thread Cert.AdamSmallRefIdeal.nD Cert.AdamSmallRefIdeal.τ).loc Cert.AdamSmallRefIdeal.main_arg0)) (m' ((c.tc : Thread Cert.AdamSmallRefIdeal.nD Cert.AdamSmallRefIdeal.τ).loc Cert.AdamSmallRefIdeal.main_arg1)) = g0 m c := by
    rw [e0, e1]
    exact val_eq _ _
  have k1 := (row_eq inb_S40x1024_S1x1024_1_0 Cert.AdamSmallRefIdeal.Gen.slices_S40x1024_S1x1024_1_0 _).trans (congrArg (row inb_S40x1024_S1x1024_1_0) e1)
  have k2 := (row_eq inb_S40x1024_S1x1024_2_0 Cert.AdamSmallRefIdeal.Gen.slices_S40x1024_S1x1024_2_0 _).trans (congrArg (row inb_S40x1024_S1x1024_2_0) e1)
  have k3 := (row_eq inb_S40x1024_S1x1024_3_0 Cert.AdamSmallRefIdeal.Gen.slices_S40x1024_S1x1024_3_0 _).trans (congrArg (row inb_S40x1024_S1x1024_3_0) e1)
  have k4 := (row_eq inb_S40x1024_S1x1024_4_0 Cert.AdamSmallRefIdeal.Gen.slices_S40x1024_S1x1024_4_0 _).trans (congrArg (row inb_S40x1024_S1x1024_4_0) e1)
  have k5 := (row_eq inb_S40x1024_S1x1024_5_0 Cert.AdamSmallRefIdeal.Gen.slices_S40x1024_S1x1024_5_0 _).trans (congrArg (row inb_S40x1024_S1x1024_5_0) e1)
  have k7 := (row_eq inb_S40x1024_S1x1024_6_0 Cert.AdamSmallRefIdeal.Gen.slices_S40x1024_S1x1024_6_0 _).trans (congrArg (row inb_S40x1024_S1x1024_6_0) e1)
  have k8 := (row_eq inb_S40x1024_S1x1024_7_0 Cert.AdamSmallRefIdeal.Gen.slices_S40x1024_S1x1024_7_0 _).trans (congrArg (row inb_S40x1024_S1x1024_7_0) e1)
  exact ⟨h0.trans k0,
    h1.trans k1,
    h2.trans k2,
    h3.trans k3,
    h4.trans k4,
    h5.trans k5,
    h6.trans e2,
    h7.trans k7,
    h8.trans k8,
    h9.trans (delta_congr e3 k0 e4 e5),
    h10.trans (delta_congr e6 k1 e7 e8),
    h11.trans (delta_congr e9 k2 e10 e11),
    h12.trans (delta_congr e12 k3 e13 e14),
    h13.trans (delta_congr e15 k4 e16 e17),
    h14.trans (delta_congr e18 k5 e19 e20),
    h15.trans (delta_congr e21 e2 e22 e23),
    h16.trans (delta_congr e24 k7 e25 e26),
    h17.trans (delta_congr e27 k8 e28 e29),
    h18.trans (newM_congr e4 k0),
    h19.trans (newM_congr e7 k1),
    h20.trans (newM_congr e10 k2),
    h21.trans (newM_congr e13 k3),
    h22.trans (newM_congr e16 k4),
    h23.trans (newM_congr e19 k5),
    h24.trans (newM_congr e22 e2),
    h25.trans (newM_congr e25 k7),
    h26.trans (newM_congr e28 k8),
    h27.trans (newV_congr e5 k0),
    h28.trans (newV_congr e8 k1),
    h29.trans (newV_congr e11 k2),
    h30.trans (newV_congr e14 k3),
    h31.trans (newV_congr e17 k4),
    h32.trans (newV_congr e20 k5),
    h33.trans (newV_congr e23 e2),
    h34.trans (newV_congr e26 k7),
    h35.trans (newV_congr e29 k8), hk⟩

end Cert.AdamSmallEq

end
-- ==== Proof.AdamNormPoint.lean ====
/- What the body of the optimiser's call for the first norm's gain leaves in its four outputs. -/
module

public import proofs.«01_k».proof.Proof.Adam
public import proofs.«01_k».proof.Proof.Gen.AdamNormIdeal.Frame
public import Idealize.ShloMosaic.Lib.Pipeline.ValueKit
public import Idealize.ShloMosaic.Lib.Pointwise

@[expose] public section

set_option maxRecDepth 16384

noncomputable section

namespace Cert.AdamNormIdeal.Point

open Cert.AdamNormIdeal Cert.AdamNormIdeal.Gen Idealize.ShloMosaic Idealize.ShloMosaic.TcCoe Idealize.SL.Sem

/-- A read of a whole row block is the block. -/
theorem ld_row (x : Vec Ideal S1x1024 .f32) : View.ld x (Rect.unit ![0, 0] ![1, 1024] inb_S1x1024_S1x1024_0_0) = x := by
  funext y
  show x _ = x y
  congr 1
  funext a
  apply Fin.ext
  match a with
  | ⟨0, _⟩ => show 0 + 1 * (y 0).val = (y 0).val; omega
  | ⟨1, _⟩ => show 0 + 1 * (y 1).val = (y 1).val; omega

/-- Slot `d`'s share of the gradient at column `j`: the device's own row where the slot is its own, else what landed. -/
def slot (p : BitVec 32) (own : S8x1024.Idx → EReal) (land : S8x8x1024.Idx → EReal) (d : Fin 8) (j : Fin 1024) : EReal :=
  if p = BitVec.ofNat 32 d.val then own (ix2 0 j) else land (ix3 d 0 j)

/-- The gradient: the eight slots' shares added up. -/
def grad (p : BitVec 32) (own : S8x1024.Idx → EReal) (land : S8x8x1024.Idx → EReal) : S1x1024.Idx → EReal :=
  fun y => ∑ d : Fin 8, slot p own land d (y 1)

/-- The body's chain of selections and sums is the sum over the slots. -/
theorem grad_pay (p : BitVec 32) (x0 : Vec Ideal S8x1024 .f32) (x1 : Vec Ideal S8x8x1024 .f32) :
    k0_pay2 (View.ld x0 (Rect.unit ![0, 0] ![1, 1024] inb_S8x1024_S1x1024_0_0)) p
      (k0_pay1 (View.ld x0 (Rect.unit ![0, 0] ![1, 1024] inb_S8x1024_S1x1024_0_0)) p
      (View.ld x1 (Rect.unit ![0, 0, 0] ![1, 1, 1024] inb_S8x8x1024_S1x1x1024_0_0_0))
      (View.ld x1 (Rect.unit ![1, 0, 0] ![1, 1, 1024] inb_S8x8x1024_S1x1x1024_1_0_0))
      (View.ld x1 (Rect.unit ![2, 0, 0] ![1, 1, 1024] inb_S8x8x1024_S1x1x1024_2_0_0))
      (View.ld x1 (Rect.unit ![3, 0, 0] ![1, 1, 1024] inb_S8x8x1024_S1x1x1024_3_0_0))
      (View.ld x1 (Rect.unit ![4, 0, 0] ![1, 1, 1024] inb_S8x8x1024_S1x1x1024_4_0_0))
      (View.ld x1 (Rect.unit ![5, 0, 0] ![1, 1, 1024] inb_S8x8x1024_S1x1x1024_5_0_0)))
      6#32 (View.ld x1 (Rect.unit ![6, 0, 0] ![1, 1, 1024] inb_S8x8x1024_S1x1x1024_6_0_0)) (View.ld x1 (Rect.unit ![7, 0, 0] ![1, 1, 1024] inb_S8x8x1024_S1x1x1024_7_0_0)) = grad p x0 x1 := by
  funext y
  unfold grad k0_pay2 k0_pay1
  rw [Fin.sum_univ_eight]
  pointwise
  simp only [Adam.select_eq, slot]
  rfl

variable (c : Dev nD) (i : grid0.Coords)
  (arg2 : Memref sig .tc .vmem S8x1024 .f32) (harg2 : arg2.IsWhole)
  (arg3 : Memref sig .tc .vmem S8x8x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (x0 : Vec Ideal S8x1024 .f32) (x1 : Vec Ideal S8x8x1024 .f32) (x2 x3 x4 : Vec Ideal S1x1024 .f32) (xt0 : TbBuf0 (F := Ideal) c tbM0_0)

/-- The position the body reads from the table. -/
abbrev word : BitVec 32 :=
  View.ld (View.read (Elt Ideal) (View.whole main_arg0) xt0) (Rect.unit ![2] ![1] inb_S3_S1_2) (Shape.Idx.first (by decide))

/-- Output 5 ends at the gradient. -/
theorem out5 : out0_A_5 c i arg2 harg2 arg3 harg3 arg4 harg4 arg5 harg5 arg6 harg6 arg7 harg7 arg8 harg8 arg9 harg9 arg10 harg10 x0 x1 x2 x3 x4 xt0 = grad (word c xt0) x0 x1 := by
  unfold out0_A_5
  frame_out
  rw [← grad_pay]

/-- Output 6 ends at the step. -/
theorem out6 : out0_A_6 c i arg2 harg2 arg3 harg3 arg4 harg4 arg5 harg5 arg6 harg6 arg7 harg7 arg8 harg8 arg9 harg9 arg10 harg10 x0 x1 x2 x3 x4 xt0 = Adam.delta x2 (grad (word c xt0) x0 x1) x3 x4 := by
  unfold out0_A_6
  frame_out
  rw [← grad_pay]
  rfl

/-- Output 7 ends at the first moment. -/
theorem out7 : out0_A_7 c i arg2 harg2 arg3 harg3 arg4 harg4 arg5 harg5 arg6 harg6 arg7 harg7 arg8 harg8 arg9 harg9 arg10 harg10 x0 x1 x2 x3 x4 xt0 = Adam.newM x3 (grad (word c xt0) x0 x1) := by
  unfold out0_A_7
  frame_out
  rw [← grad_pay]
  rfl

/-- Output 8 ends at the second moment. -/
theorem out8 : out0_A_8 c i arg2 harg2 arg3 harg3 arg4 harg4 arg5 harg5 arg6 harg6 arg7 harg7 arg8 harg8 arg9 harg9 arg10 harg10 x0 x1 x2 x3 x4 xt0 = Adam.newV x4 (grad (word c xt0) x0 x1) := by
  unfold out0_A_8
  frame_out
  rw [← grad_pay]
  rfl

end Cert.AdamNormIdeal.Point

end
-- ==== Proof.AdamNormArray.lean ====
/- The arrays the optimiser's call for the first norm's gain ends with, and its run. -/
module

public import proofs.«01_k».proof.Proof.AdamNormPoint

@[expose] public section

set_option maxRecDepth 16384

noncomputable section

namespace Cert.AdamNormIdeal.Array

open Cert.AdamNormIdeal Cert.AdamNormIdeal.Gen Idealize.ShloMosaic Idealize.ShloMosaic.TcCoe Idealize.SL.Sem
open Cert.AdamNormIdeal.Point

variable (m : (ℓ : Loc nD τ sig) → Buf (Elt Ideal) ℓ) (ρ : Dev nD → PrngReg)

/-- No index map reads the table of positions, so its contents are free. -/
theorem ok : Ok m := trivial

/-- The pipeline has one point. -/
theorem N_eq (hO : Ok m) : (cfgM m hO).N = 1 := rfl

/-- Window 0's only block is the whole argument 1. -/
theorem iblk0 (hO : Ok m) (c : Dev nD) (t : Fin (cfgM m hO).N) :
    (iblk m hO c 0 t : S8x1024.Idx → EReal) = m ((c : Thread nD τ).loc main_arg1) :=
  funext fun (y : S8x1024.Idx) => (View.read_apply ..).trans (congrArg (m ((c : Thread nD τ).loc main_arg1)) (Adam.whole _ y rfl rfl))

/-- Window 1's only block is the whole argument 2. -/
theorem iblk1 (hO : Ok m) (c : Dev nD) (t : Fin (cfgM m hO).N) :
    (iblk m hO c 1 t : S8x8x1024.Idx → EReal) = m ((c : Thread nD τ).loc main_arg2) := by
  refine funext fun (y : S8x8x1024.Idx) => ?_
  refine (View.read_apply ..).trans ?_
  show m ((c : Thread nD τ).loc main_arg2) _ = _
  congr 1
  funext a
  apply Fin.ext
  match a with
  | ⟨0, _⟩ => show 0 * 8 + 1 * (y 0).val = (y 0).val; omega
  | ⟨1, _⟩ => show 0 * 8 + 1 * (y 1).val = (y 1).val; omega
  | ⟨2, _⟩ => show 0 * 1024 + 1 * (y 2).val = (y 2).val; omega

/-- Window 2's only block is the whole argument 3. -/
theorem iblk2 (hO : Ok m) (c : Dev nD) (t : Fin (cfgM m hO).N) :
    (iblk m hO c 2 t : S1x1024.Idx → EReal) = m ((c : Thread nD τ).loc main_arg3) :=
  funext fun (y : S1x1024.Idx) => (View.read_apply ..).trans (congrArg (m ((c : Thread nD τ).loc main_arg3)) (Adam.whole _ y rfl rfl))

/-- Window 3's only block is the whole argument 4. -/
theorem iblk3 (hO : Ok m) (c : Dev nD) (t : Fin (cfgM m hO).N) :
    (iblk m hO c 3 t : S1x1024.Idx → EReal) = m ((c : Thread nD τ).loc main_arg4) :=
  funext fun (y : S1x1024.Idx) => (View.read_apply ..).trans (congrArg (m ((c : Thread nD τ).loc main_arg4)) (Adam.whole _ y rfl rfl))

/-- Window 4's only block is the whole argument 5. -/
theorem iblk4 (hO : Ok m) (c : Dev nD) (t : Fin (cfgM m hO).N) :
    (iblk m hO c 4 t : S1x1024.Idx → EReal) = m ((c : Thread nD τ).loc main_arg5) :=
  funext fun (y : S1x1024.Idx) => (View.read_apply ..).trans (congrArg (m ((c : Thread nD τ).loc main_arg5)) (Adam.whole _ y rfl rfl))

/-- The position among the eight slots: word 2 of the table. -/
abbrev posn (c : Dev nD) : BitVec 32 := (m ((c : Thread nD τ).loc main_arg0) : S3.Idx → BitVec 32) (ix1 2)

theorem word_eq (c : Dev nD) : word c (tbl m 0) = posn m c := by
  obtain rfl : c = 0 := Subsingleton.elim _ _
  show (m (((0 : Dev nD) : Thread nD τ).loc main_arg0) : S3.Idx → BitVec 32) _ = _
  congr 1
  funext a
  match a with
  | ⟨0, _⟩ => rfl

/-- The gradient array. -/
abbrev G (c : Dev nD) : S1x1024.Idx → EReal := grad (posn m c) (m ((c : Thread nD τ).loc main_arg1)) (m ((c : Thread nD τ).loc main_arg2))
theorem g_eq (hO : Ok m) (c : Dev nD) (t : Fin (cfgM m hO).N) :
    grad (word c (tbl m 0)) (iblk m hO c 0 t) (iblk m hO c 1 t) = G m c :=
  congr (congr (congrArg grad (word_eq m c)) (iblk0 m hO c t)) (iblk1 m hO c t)
/-- The weights, the first and the second moment. -/
abbrev W (c : Dev nD) : FVec Ideal S1x1024 .f32 := m ((c : Thread nD τ).loc main_arg3)
abbrev M (c : Dev nD) : FVec Ideal S1x1024 .f32 := m ((c : Thread nD τ).loc main_arg4)
abbrev V₂ (c : Dev nD) : FVec Ideal S1x1024 .f32 := m ((c : Thread nD τ).loc main_arg5)

theorem outs5 (hO : Ok m) (c : Dev nD) (t : Fin (cfgM m hO).N) : (outsAt0 m hO c t).1 = G m c := by
  unfold outsAt0
  dsimp only
  exact (out5 c (grid0.coords t) _ _ _ _ _ _ _ _ _ _ _ _ _ _ _ _ _ _ _ _ _ _ _ _).trans (g_eq m hO c t)

/-- Output 5's array after the run. -/
theorem final5 (hO : Ok m) (c : Dev nD) : (dats m hO 0 c).arrAt 5 (cfgM m hO).N = G m c :=
  (dats m hO 0 c).arrAt_eq_of_cover 5 (G m c) (fun t _ => funext fun (j : S1x1024.Idx) => by
      refine ((congrFun (after0_5 m hO c t) j).trans (congrFun (outs5 m hO c t) j)).trans (Eq.symm ?_)
      exact (View.read_apply ..).trans (congrArg (G m c) (Adam.whole _ j rfl rfl)))
    (fun (i : S1x1024.Idx) => ⟨⟨0, Nat.zero_lt_one⟩, rfl, Finset.mem_map.2 ⟨i, Finset.mem_univ _, Adam.whole _ i rfl rfl⟩⟩)

theorem outs6 (hO : Ok m) (c : Dev nD) (t : Fin (cfgM m hO).N) : (outsAt0 m hO c t).2.1 = Adam.delta (W m c) (G m c) (M m c) (V₂ m c) := by
  unfold outsAt0
  dsimp only
  exact (out6 c (grid0.coords t) _ _ _ _ _ _ _ _ _ _ _ _ _ _ _ _ _ _ _ _ _ _ _ _).trans (congr (congr (congr (congrArg Adam.delta (iblk2 m hO c t)) (g_eq m hO c t)) (iblk3 m hO c t)) (iblk4 m hO c t))

/-- Output 6's array after the run. -/
theorem final6 (hO : Ok m) (c : Dev nD) : (dats m hO 0 c).arrAt 6 (cfgM m hO).N = Adam.delta (W m c) (G m c) (M m c) (V₂ m c) :=
  (dats m hO 0 c).arrAt_eq_of_cover 6 (Adam.delta (W m c) (G m c) (M m c) (V₂ m c)) (fun t _ => funext fun (j : S1x1024.Idx) => by
      refine ((congrFun (after0_6 m hO c t) j).trans (congrFun (outs6 m hO c t) j)).trans (Eq.symm ?_)
      exact (View.read_apply ..).trans (congrArg (Adam.delta (W m c) (G m c) (M m c) (V₂ m c)) (Adam.whole _ j rfl rfl)))
    (fun (i : S1x1024.Idx) => ⟨⟨0, Nat.zero_lt_one⟩, rfl, Finset.mem_map.2 ⟨i, Finset.mem_univ _, Adam.whole _ i rfl rfl⟩⟩)

theorem outs7 (hO : Ok m) (c : Dev nD) (t : Fin (cfgM m hO).N) : (outsAt0 m hO c t).2.2.1 = Adam.newM (M m c) (G m c) := by
  unfold outsAt0
  dsimp only
  exact (out7 c (grid0.coords t) _ _ _ _ _ _ _ _ _ _ _ _ _ _ _ _ _ _ _ _ _ _ _ _).trans (congr (congrArg Adam.newM (iblk3 m hO c t)) (g_eq m hO c t))

/-- Output 7's array after the run. -/
theorem final7 (hO : Ok m) (c : Dev nD) : (dats m hO 0 c).arrAt 7 (cfgM m hO).N = Adam.newM (M m c) (G m c) :=
  (dats m hO 0 c).arrAt_eq_of_cover 7 (Adam.newM (M m c) (G m c)) (fun t _ => funext fun (j : S1x1024.Idx) => by
      refine ((congrFun (after0_7 m hO c t) j).trans (congrFun (outs7 m hO c t) j)).trans (Eq.symm ?_)
      exact (View.read_apply ..).trans (congrArg (Adam.newM (M m c) (G m c)) (Adam.whole _ j rfl rfl)))
    (fun (i : S1x1024.Idx) => ⟨⟨0, Nat.zero_lt_one⟩, rfl, Finset.mem_map.2 ⟨i, Finset.mem_univ _, Adam.whole _ i rfl rfl⟩⟩)

theorem outs8 (hO : Ok m) (c : Dev nD) (t : Fin (cfgM m hO).N) : (outsAt0 m hO c t).2.2.2 = Adam.newV (V₂ m c) (G m c) := by
  unfold outsAt0
  dsimp only
  exact (out8 c (grid0.coords t) _ _ _ _ _ _ _ _ _ _ _ _ _ _ _ _ _ _ _ _ _ _ _ _).trans (congr (congrArg Adam.newV (iblk4 m hO c t)) (g_eq m hO c t))

/-- Output 8's array after the run. -/
theorem final8 (hO : Ok m) (c : Dev nD) : (dats m hO 0 c).arrAt 8 (cfgM m hO).N = Adam.newV (V₂ m c) (G m c) :=
  (dats m hO 0 c).arrAt_eq_of_cover 8 (Adam.newV (V₂ m c) (G m c)) (fun t _ => funext fun (j : S1x1024.Idx) => by
      refine ((congrFun (after0_8 m hO c t) j).trans (congrFun (outs8 m hO c t) j)).trans (Eq.symm ?_)
      exact (View.read_apply ..).trans (congrArg (Adam.newV (V₂ m c) (G m c)) (Adam.whole _ j rfl rfl)))
    (fun (i : S1x1024.Idx) => ⟨⟨0, Nat.zero_lt_one⟩, rfl, Finset.mem_map.2 ⟨i, Finset.mem_univ _, Adam.whole _ i rfl rfl⟩⟩)

/-- The run: the four results are the formulas of the arguments, and the arguments are kept. -/
theorem run : θ_run defs (onTc (τ := τ) (main (F := Ideal))) ⟨m, fun _ => 0, ρ⟩ (fun r => ∀ c : Dev nD,
      r.2.mem ((c.tc : Thread nD τ).loc main_v0_0) = G m c
      ∧ r.2.mem ((c.tc : Thread nD τ).loc main_v0_1) = Adam.delta (W m c) (G m c) (M m c) (V₂ m c)
      ∧ r.2.mem ((c.tc : Thread nD τ).loc main_v0_2) = Adam.newM (M m c) (G m c)
      ∧ r.2.mem ((c.tc : Thread nD τ).loc main_v0_3) = Adam.newV (V₂ m c) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 5).trans (final5 m (ok m) c), ((h c).1 6).trans (final6 m (ok m) c),
      ((h c).1 7).trans (final7 m (ok m) c), ((h c).1 8).trans (final8 m (ok m) c),
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).1 1).trans (((dats m (ok m) 0 c).arrAt_in 1 rfl _).trans ((A_eq m (ok m) c 1).trans (V_main_arg2 m c))),
      ((h c).1 2).trans (((dats m (ok m) 0 c).arrAt_in 2 rfl _).trans ((A_eq m (ok m) c 2).trans (V_main_arg3 m c))),
      ((h c).1 3).trans (((dats m (ok m) 0 c).arrAt_in 3 rfl _).trans ((A_eq m (ok m) c 3).trans (V_main_arg4 m c))),
      ((h c).1 4).trans (((dats m (ok m) 0 c).arrAt_in 4 rfl _).trans ((A_eq m (ok m) c 4).trans (V_main_arg5 m c)))⟩)
    (run_main m ρ (ok m))

end Cert.AdamNormIdeal.Array

end
-- ==== Proof.AdamNormEq.lean ====
/- The optimiser's call for the first norm's gain computes its reference. -/
module

public import proofs.«01_k».proof.Defs
public import proofs.«01_k».proof.Proof.AdamNormArray
public import proofs.«01_k».proof.Proof.Gen.AdamNormRefIdeal.Run

@[expose] public section

set_option maxRecDepth 16384

noncomputable section

namespace Cert.AdamNormRefIdeal.Grad

open Cert.AdamNormRefIdeal Cert.AdamNormRefIdeal.Gen Idealize.ShloMosaic Idealize.ShloMosaic.TcCoe Idealize.SL.Sem

/-- The reference's gradient: row 0 of the sum over the slots. -/
def val (p : S3.Idx → BitVec 32) (own : FVec Ideal S8x1024 .f32) (land : FVec Ideal S8x8x1024 .f32) : FVec Ideal S1x1024 .f32 :=
  extractStridedSlice S1x1024 ![0, 0] (Host.reduceAdd (select (cmpi .eq (iotaInDim S8x8x1024 32 0) (broadcastInDim S8x8x1024 ![] bcast_S_S8x8x1024 (shapeCast _ (extractStridedSlice S1 ![2] p slices_S3_S1_2) shapeCasts_S1_S_))) (broadcastInDim S8x8x1024 ![0, 1, 2] bcast_S1x8x1024_S8x8x1024_0_1_2 (broadcastInDim S1x8x1024 ![1, 2] bcast_S8x1024_S1x8x1024_1_2 own)) land) (constant S_ .f32 0x00000000#32) reducesTo_S8x8x1024_S8x1024_d0 h_S_) slices_S8x1024_S1x1024_0_0

theorem val_eq (p : S3.Idx → BitVec 32) (own : FVec Ideal S8x1024 .f32) (land : FVec Ideal S8x8x1024 .f32) :
    val p own land = Cert.AdamNormIdeal.Point.grad (p (ix1 2)) own land := by
  funext y
  unfold val Cert.AdamNormIdeal.Point.grad Cert.AdamNormIdeal.Point.slot
  pointwise
  refine Finset.sum_congr rfl fun d _ => ?_
  refine (Cert.Adam.select_eq _ _ _ _).trans ?_
  exact if_congr eq_comm rfl rfl

end Cert.AdamNormRefIdeal.Grad

namespace Cert.AdamNormEq

open Idealize.ShloMosaic Idealize.ShloMosaic.TcCoe Idealize.SL.Sem
open Cert.AdamNormIdeal.Array

/-- The value claim: gradient, step, first and second moment are the reference's at every input. -/
theorem claim : Cert.algebraic_AdamNormIdeal_AdamNormRefIdeal := by
  intro m g m' g' _ hargs
  refine ⟨fun c => G m c, fun c => Cert.Adam.delta (W m c) (G m c) (M m c) (V₂ m c), fun c => Cert.Adam.newM (M m c) (G m c),
    fun c => Cert.Adam.newV (V₂ m c) (G m c), Cert.AdamNormIdeal.Array.run m g, ?_⟩
  refine (θ_run Cert.AdamNormRefIdeal.defs _ _).mono (fun r h c => ?_) (Cert.AdamNormRefIdeal.Value.run m' g')
  obtain ⟨h0, h1, h2, h3, hk⟩ := h c
  obtain ⟨e0, e1, e2, e3, e4, e5⟩ := hargs c
  have hG := Cert.AdamNormRefIdeal.Grad.val_eq (m ((c.tc : Thread Cert.AdamNormIdeal.nD Cert.AdamNormIdeal.τ).loc Cert.AdamNormIdeal.main_arg0))
    (m ((c.tc : Thread Cert.AdamNormIdeal.nD Cert.AdamNormIdeal.τ).loc Cert.AdamNormIdeal.main_arg1))
    (m ((c.tc : Thread Cert.AdamNormIdeal.nD Cert.AdamNormIdeal.τ).loc Cert.AdamNormIdeal.main_arg2))
  refine ⟨h0.trans ?_, h1.trans ?_, h2.trans ?_, h3.trans ?_, hk⟩
  · rw [e0, e1, e2]
    exact hG
  · rw [e0, e1, e2, e3, e4, e5]
    exact congrArg (fun q => Cert.Adam.delta (W m c) q (M m c) (V₂ m c)) hG
  · rw [e0, e1, e2, e4]
    exact congrArg (fun q => Cert.Adam.newM (M m c) q) hG
  · rw [e0, e1, e2, e5]
    exact congrArg (fun q => Cert.Adam.newV (V₂ m c) q) hG

end Cert.AdamNormEq

end
-- ==== Proof.lean ====
/- The claims of `Cert.Claim`, assembled: for each program its frames, and the value claim of its ideal form. -/
module

public import proofs.«01_k».proof.Defs
public import proofs.«01_k».proof.Proof.Gen.GradWIn
public import proofs.«01_k».proof.Proof.Gen.GradWIn.Skeleton
public import proofs.«01_k».proof.Proof.Gen.GradWIn.Launch
public import proofs.«01_k».proof.Proof.Gen.GradWIn.Points
public import proofs.«01_k».proof.Proof.Gen.GradWIn.Frame
public import proofs.«01_k».proof.Proof.Gen.GradWInIdeal
public import proofs.«01_k».proof.Proof.Gen.GradWInIdeal.Skeleton
public import proofs.«01_k».proof.Proof.Gen.GradWInIdeal.Launch
public import proofs.«01_k».proof.Proof.Gen.GradWInIdeal.Points
public import proofs.«01_k».proof.Proof.Gen.GradWInIdeal.Frame
public import proofs.«01_k».proof.Proof.Gen.GradWInIdeal.Value
public import proofs.«01_k».proof.Proof.Gen.GradWInRefIdeal
public import proofs.«01_k».proof.Proof.Gen.GradWInRefIdeal.Run
public import proofs.«01_k».proof.Proof.Gen.GradWInRefIdeal.Read
public import proofs.«01_k».proof.Proof.GradWInEq
public import proofs.«01_k».proof.Proof.Gen.InBwdFirst
public import proofs.«01_k».proof.Proof.Gen.InBwdFirst.Skeleton
public import proofs.«01_k».proof.Proof.Gen.InBwdFirst.Launch
public import proofs.«01_k».proof.Proof.Gen.InBwdFirst.Points
public import proofs.«01_k».proof.Proof.Gen.InBwdFirst.Frame
public import proofs.«01_k».proof.Proof.Gen.InBwdFirstIdeal
public import proofs.«01_k».proof.Proof.Gen.InBwdFirstIdeal.Skeleton
public import proofs.«01_k».proof.Proof.Gen.InBwdFirstIdeal.Launch
public import proofs.«01_k».proof.Proof.Gen.InBwdFirstIdeal.Points
public import proofs.«01_k».proof.Proof.Gen.InBwdFirstIdeal.Frame
public import proofs.«01_k».proof.Proof.Gen.InBwdFirstIdeal.Value
public import proofs.«01_k».proof.Proof.Gen.InBwdFirstRefIdeal
public import proofs.«01_k».proof.Proof.Gen.InBwdFirstRefIdeal.Run
public import proofs.«01_k».proof.Proof.Gen.InBwdFirstRefIdeal.Read
public import proofs.«01_k».proof.Proof.InBwdFirstEq
public import proofs.«01_k».proof.Proof.Gen.InBwdSecond
public import proofs.«01_k».proof.Proof.Gen.InBwdSecond.Skeleton
public import proofs.«01_k».proof.Proof.Gen.InBwdSecond.Launch
public import proofs.«01_k».proof.Proof.Gen.InBwdSecond.Points
public import proofs.«01_k».proof.Proof.Gen.InBwdSecond.Frame
public import proofs.«01_k».proof.Proof.Gen.InBwdSecondIdeal
public import proofs.«01_k».proof.Proof.Gen.InBwdSecondIdeal.Skeleton
public import proofs.«01_k».proof.Proof.Gen.InBwdSecondIdeal.Launch
public import proofs.«01_k».proof.Proof.Gen.InBwdSecondIdeal.Points
public import proofs.«01_k».proof.Proof.Gen.InBwdSecondIdeal.Frame
public import proofs.«01_k».proof.Proof.Gen.InBwdSecondIdeal.Value
public import proofs.«01_k».proof.Proof.Gen.InBwdSecondRefIdeal
public import proofs.«01_k».proof.Proof.Gen.InBwdSecondRefIdeal.Run
public import proofs.«01_k».proof.Proof.Gen.InBwdSecondRefIdeal.Read
public import proofs.«01_k».proof.Proof.InBwdSecondEq
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjEq
public import proofs.«01_k».proof.Proof.Gen.SguBwd
public import proofs.«01_k».proof.Proof.Gen.SguBwdIdeal
public import proofs.«01_k».proof.Proof.Gen.SguBwdIdeal.Skeleton
public import proofs.«01_k».proof.Proof.Gen.SguBwdIdeal.Launch
public import proofs.«01_k».proof.Proof.Gen.SguBwdIdeal.Points
public import proofs.«01_k».proof.Proof.Gen.SguBwdIdeal.Frame
public import proofs.«01_k».proof.Proof.Gen.SguBwdRefIdeal
public import proofs.«01_k».proof.Proof.Gen.SguBwdRefIdeal.Run
public import proofs.«01_k».proof.Proof.Gen.SguBwdRefIdeal.Read
public import proofs.«01_k».proof.Proof.SguFrame
public import proofs.«01_k».proof.Proof.SguBits
public import proofs.«01_k».proof.Proof.SguEq
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.AdamInEq
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.AdamOutEq
public import proofs.«01_k».proof.Proof.Gen.AdamSmall
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame.Runs
public import proofs.«01_k».proof.Proof.Gen.AdamSmallRefIdeal
public import proofs.«01_k».proof.Proof.Gen.AdamSmallRefIdeal.Run
public import proofs.«01_k».proof.Proof.AdamSmallFrame
public import proofs.«01_k».proof.Proof.AdamSmallBits
public import proofs.«01_k».proof.Proof.AdamSmallEq
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormRefIdeal
public import proofs.«01_k».proof.Proof.Gen.AdamNormRefIdeal.Run
public import proofs.«01_k».proof.Proof.AdamNormEq
public import proofs.«01_k».proof.Proof.Gen.On_first_half
public import proofs.«01_k».proof.Proof.Gen.On_sgu_rows
public import Idealize.ShloMosaic.Adequacy
public import Idealize.ShloMosaic.Init

@[expose] public section

noncomputable section

namespace Cert.Proof

open Idealize.ShloMosaic Idealize.SL.Sem

/-- Frame of the kernel's call, bit-exact: the gradient of the input projection's weights. -/
theorem frame_gwin : Cert.quiescent_GradWIn := fun m ρ _ => Cert.GradWIn.Gen.frame m ρ

/-- The same frame at the ideal values. -/
theorem frame_gwin_ideal : Cert.quiescent_GradWInIdeal := fun m ρ _ => Cert.GradWInIdeal.Gen.frame m ρ

/-- The reference's frame: its run read at its arguments; it declares no semaphore. -/
theorem frame_gwin_ref : Cert.quiescent_GradWInRefIdeal := fun m ρ _ =>
  (θ_run Cert.GradWInRefIdeal.defs _ _).mono
    (fun r h => ⟨fun c => (h c).2.2,
      Idealize.ShloMosaic.sem_eq_zero_of_no_sems (by decide) r.2⟩)
    (Cert.GradWInRefIdeal.Value.run (F := Ideal) m ρ)

/-- Frame of the kernel's call, bit-exact: the input projection's backward call on the first half of the rows. -/
theorem frame_in_bwd_first : Cert.quiescent_InBwdFirst := fun m ρ _ => Cert.InBwdFirst.Gen.frame m ρ

/-- The same frame at the ideal values. -/
theorem frame_in_bwd_first_ideal : Cert.quiescent_InBwdFirstIdeal := fun m ρ _ => Cert.InBwdFirstIdeal.Gen.frame m ρ

/-- The reference's frame: its run read at its arguments; it declares no semaphore. -/
theorem frame_in_bwd_first_ref : Cert.quiescent_InBwdFirstRefIdeal := fun m ρ _ =>
  (θ_run Cert.InBwdFirstRefIdeal.defs _ _).mono
    (fun r h => ⟨fun c => (h c).2.2,
      Idealize.ShloMosaic.sem_eq_zero_of_no_sems (by decide) r.2⟩)
    (Cert.InBwdFirstRefIdeal.Value.run (F := Ideal) m ρ)

/-- Frame of the kernel's call, bit-exact: the input projection's backward call on the second half of the rows. -/
theorem frame_in_bwd_second : Cert.quiescent_InBwdSecond := fun m ρ _ => Cert.InBwdSecond.Gen.frame m ρ

/-- The same frame at the ideal values. -/
theorem frame_in_bwd_second_ideal : Cert.quiescent_InBwdSecondIdeal := fun m ρ _ => Cert.InBwdSecondIdeal.Gen.frame m ρ

/-- The reference's frame: its run read at its arguments; it declares no semaphore. -/
theorem frame_in_bwd_second_ref : Cert.quiescent_InBwdSecondRefIdeal := fun m ρ _ =>
  (θ_run Cert.InBwdSecondRefIdeal.defs _ _).mono
    (fun r h => ⟨fun c => (h c).2.2,
      Idealize.ShloMosaic.sem_eq_zero_of_no_sems (by decide) r.2⟩)
    (Cert.InBwdSecondRefIdeal.Value.run (F := Ideal) m ρ)

/-- Frame of the kernel's call, bit-exact: the output projection, the loss head and their gradients. -/
theorem frame_out_proj : Cert.quiescent_OutProj := fun m ρ _ => Cert.OutProj.Gen.frame m ρ

/-- The same frame at the ideal values. -/
theorem frame_out_proj_ideal : Cert.quiescent_OutProjIdeal := fun m ρ _ => Cert.OutProjIdeal.Gen.frame m ρ

/-- The reference's frame: its run read at its arguments; it declares no semaphore. -/
theorem frame_out_proj_ref : Cert.quiescent_OutProjRefIdeal := fun m ρ _ =>
  (θ_run Cert.OutProjRefIdeal.defs _ _).mono
    (fun r h => ⟨fun c => (h c).2.2.2.2.2,
      Idealize.ShloMosaic.sem_eq_zero_of_no_sems (by decide) r.2⟩)
    (Cert.OutProjRefIdeal.Value.run (F := Ideal) m ρ)

/-- Frame of the kernel's call, bit-exact: the gated branches' backward call. -/
theorem frame_sgu_bwd : Cert.quiescent_SguBwd := Cert.SguBwdIdeal.Named.quiescent

/-- The same frame at the ideal values. -/
theorem frame_sgu_bwd_ideal : Cert.quiescent_SguBwdIdeal := fun m ρ _ => Cert.SguBwdIdeal.Named.frame m ρ

/-- The reference's frame: its run read at its arguments; it declares no semaphore. -/
theorem frame_sgu_bwd_ref : Cert.quiescent_SguBwdRefIdeal := fun m ρ _ =>
  (θ_run Cert.SguBwdRefIdeal.defs _ _).mono
    (fun r h => ⟨fun c => (h c).2.2,
      Idealize.ShloMosaic.sem_eq_zero_of_no_sems (by decide) r.2⟩)
    (Cert.SguBwdRefIdeal.Value.run (F := Ideal) m ρ)

/-- Frame of the kernel's call, bit-exact: the optimiser's step for the input projection's weights. -/
theorem frame_adam_in : Cert.quiescent_AdamIn := fun m ρ _ => Cert.AdamIn.Gen.frame m ρ

/-- The same frame at the ideal values. -/
theorem frame_adam_in_ideal : Cert.quiescent_AdamInIdeal := fun m ρ _ => Cert.AdamInIdeal.Gen.frame m ρ

/-- The reference's frame: its run read at its arguments; it declares no semaphore. -/
theorem frame_adam_in_ref : Cert.quiescent_AdamInRefIdeal := fun m ρ _ =>
  (θ_run Cert.AdamInRefIdeal.defs _ _).mono
    (fun r h => ⟨fun c => (h c).2.2.2,
      Idealize.ShloMosaic.sem_eq_zero_of_no_sems (by decide) r.2⟩)
    (Cert.AdamInRefIdeal.Value.run (F := Ideal) m ρ)

/-- Frame of the kernel's call, bit-exact: the optimiser's step for the output projection's weights. -/
theorem frame_adam_out : Cert.quiescent_AdamOut := fun m ρ _ => Cert.AdamOut.Gen.frame m ρ

/-- The same frame at the ideal values. -/
theorem frame_adam_out_ideal : Cert.quiescent_AdamOutIdeal := fun m ρ _ => Cert.AdamOutIdeal.Gen.frame m ρ

/-- The reference's frame: its run read at its arguments; it declares no semaphore. -/
theorem frame_adam_out_ref : Cert.quiescent_AdamOutRefIdeal := fun m ρ _ =>
  (θ_run Cert.AdamOutRefIdeal.defs _ _).mono
    (fun r h => ⟨fun c => (h c).2.2.2,
      Idealize.ShloMosaic.sem_eq_zero_of_no_sems (by decide) r.2⟩)
    (Cert.AdamOutRefIdeal.Value.run (F := Ideal) m ρ)

/-- Frame of the kernel's call, bit-exact: the optimiser's step for the nine small parameters, with their gradients taken out of the packed sums. -/
theorem frame_adam_small : Cert.quiescent_AdamSmall := Cert.AdamSmallIdeal.Named.quiescent

/-- The same frame at the ideal values. -/
theorem frame_adam_small_ideal : Cert.quiescent_AdamSmallIdeal := fun m ρ _ => Cert.AdamSmallIdeal.Named.frame m ρ trivial

/-- The reference's frame: its run read at its arguments; it declares no semaphore. -/
theorem frame_adam_small_ref : Cert.quiescent_AdamSmallRefIdeal := fun m ρ _ =>
  (θ_run Cert.AdamSmallRefIdeal.defs _ _).mono
    (fun r h => ⟨fun c => (h c).2.2.2.2.2.2.2.2.2.2.2.2.2.2.2.2.2.2.2.2.2.2.2.2.2.2.2.2.2.2.2.2.2.2.2.2,
      Idealize.ShloMosaic.sem_eq_zero_of_no_sems (by decide) r.2⟩)
    (Cert.AdamSmallRefIdeal.Value.run (F := Ideal) m ρ)

/-- Frame of the kernel's call, bit-exact: the optimiser's step for the first norm's gain, with the sum of the gradient's parts. -/
theorem frame_adam_norm : Cert.quiescent_AdamNorm := fun m ρ _ => Cert.AdamNorm.Gen.frame m ρ trivial

/-- The same frame at the ideal values. -/
theorem frame_adam_norm_ideal : Cert.quiescent_AdamNormIdeal := fun m ρ _ => Cert.AdamNormIdeal.Gen.frame m ρ trivial

/-- The reference's frame: its run read at its arguments; it declares no semaphore. -/
theorem frame_adam_norm_ref : Cert.quiescent_AdamNormRefIdeal := fun m ρ _ =>
  (θ_run Cert.AdamNormRefIdeal.defs _ _).mono
    (fun r h => ⟨fun c => (h c).2.2.2.2,
      Idealize.ShloMosaic.sem_eq_zero_of_no_sems (by decide) r.2⟩)
    (Cert.AdamNormRefIdeal.Value.run (F := Ideal) m ρ)

/-- The claims together. -/
theorem claim : Cert.Claim := ⟨Cert.GradWIn.Gen.facts, Cert.GradWInIdeal.Gen.facts, Cert.GradWInRefIdeal.Gen.facts, Cert.InBwdFirst.Gen.facts, Cert.InBwdFirstIdeal.Gen.facts, Cert.InBwdFirstRefIdeal.Gen.facts, Cert.InBwdSecond.Gen.facts, Cert.InBwdSecondIdeal.Gen.facts, Cert.InBwdSecondRefIdeal.Gen.facts, Cert.OutProj.Gen.facts, Cert.OutProjIdeal.Gen.facts, Cert.OutProjRefIdeal.Gen.facts, Cert.SguBwd.Gen.facts, Cert.SguBwdIdeal.Gen.facts, Cert.SguBwdRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamSmall.Gen.facts, Cert.AdamSmallIdeal.Gen.facts, Cert.AdamSmallRefIdeal.Gen.facts, Cert.AdamNorm.Gen.facts, Cert.AdamNormIdeal.Gen.facts, Cert.AdamNormRefIdeal.Gen.facts, Cert.On_first_half.Gen.facts, Cert.On_sgu_rows.Gen.facts,
  frame_gwin, frame_gwin_ideal, frame_gwin_ref, frame_in_bwd_first, frame_in_bwd_first_ideal, frame_in_bwd_first_ref, frame_in_bwd_second, frame_in_bwd_second_ideal, frame_in_bwd_second_ref, frame_out_proj, frame_out_proj_ideal, frame_out_proj_ref, frame_sgu_bwd, frame_sgu_bwd_ideal, frame_sgu_bwd_ref, frame_adam_in, frame_adam_in_ideal, frame_adam_in_ref, frame_adam_out, frame_adam_out_ideal, frame_adam_out_ref, frame_adam_small, frame_adam_small_ideal, frame_adam_small_ref, frame_adam_norm, frame_adam_norm_ideal, frame_adam_norm_ref,
  trivial, Cert.GradWInEq.claim, trivial, Cert.InBwdFirstEq.claim, trivial, Cert.InBwdSecondEq.claim, trivial, Cert.OutProjEq.claim, trivial, Cert.SguEq.claim, trivial, Cert.AdamInEq.claim, trivial, Cert.AdamOutEq.claim, trivial, Cert.AdamSmallEq.claim, trivial, Cert.AdamNormEq.claim⟩

end Cert.Proof

end
